-- ==== Defs.lean ====
def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))) = (fun _ => 1#1)

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_finite_pool [hPre_finite_pool : Cert.Pre_finite_pool.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_finite_pool.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))) = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_finite_pool [hPre_finite_pool : Cert.Pre_finite_pool.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_finite_pool.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))) = (fun _ => 1#1)

def Pre_KernelLat (m : (ℓ : Loc Cert.KernelLat.nD Cert.KernelLat.τ Cert.KernelLat.sig) → Buf (Elt Bits) ℓ) : Prop :=
  True

def Pre_KernelLatIdeal (m : (ℓ : Loc Cert.KernelLatIdeal.nD Cert.KernelLatIdeal.τ Cert.KernelLatIdeal.sig) → Buf (Elt Ideal) ℓ) : Prop :=
  True

def Pre_ReferenceLatIdeal (m : (ℓ : Loc Cert.ReferenceLatIdeal.nD Cert.ReferenceLatIdeal.τ Cert.ReferenceLatIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))) = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))) = (fun _ => 1#1)

def Pre_KernelUpNorm (m : (ℓ : Loc Cert.KernelUpNorm.nD Cert.KernelUpNorm.τ Cert.KernelUpNorm.sig) → Buf (Elt Bits) ℓ) : Prop :=
  True

def Pre_KernelUpNormIdeal (m : (ℓ : Loc Cert.KernelUpNormIdeal.nD Cert.KernelUpNormIdeal.τ Cert.KernelUpNormIdeal.sig) → Buf (Elt Ideal) ℓ) : Prop :=
  True

def Pre_ReferenceUpNormIdeal (m : (ℓ : Loc Cert.ReferenceUpNormIdeal.nD Cert.ReferenceUpNormIdeal.τ Cert.ReferenceUpNormIdeal.sig) → Buf (Elt Ideal) ℓ) : Prop :=
  True

def Pre_KernelInNorm (m : (ℓ : Loc Cert.KernelInNorm.nD Cert.KernelInNorm.τ Cert.KernelInNorm.sig) → Buf (Elt Bits) ℓ) : Prop :=
  True

def Pre_KernelInNormIdeal (m : (ℓ : Loc Cert.KernelInNormIdeal.nD Cert.KernelInNormIdeal.τ Cert.KernelInNormIdeal.sig) → Buf (Elt Ideal) ℓ) : Prop :=
  True

def Pre_ReferenceInNormIdeal (m : (ℓ : Loc Cert.ReferenceInNormIdeal.nD Cert.ReferenceInNormIdeal.τ Cert.ReferenceInNormIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def Pre_KernelUpAct (m : (ℓ : Loc Cert.KernelUpAct.nD Cert.KernelUpAct.τ Cert.KernelUpAct.sig) → Buf (Elt Bits) ℓ) : Prop :=
  True

def Pre_KernelUpActIdeal (m : (ℓ : Loc Cert.KernelUpActIdeal.nD Cert.KernelUpActIdeal.τ Cert.KernelUpActIdeal.sig) → Buf (Elt Ideal) ℓ) : Prop :=
  True

def Pre_ReferenceUpActIdeal (m : (ℓ : Loc Cert.ReferenceUpActIdeal.nD Cert.ReferenceUpActIdeal.τ Cert.ReferenceUpActIdeal.sig) → Buf (Elt Ideal) ℓ) : Prop :=
  True

def Pre_KernelProjGate (m : (ℓ : Loc Cert.KernelProjGate.nD Cert.KernelProjGate.τ Cert.KernelProjGate.sig) → Buf (Elt Bits) ℓ) : Prop :=
  True

def Pre_KernelProjGateIdeal (m : (ℓ : Loc Cert.KernelProjGateIdeal.nD Cert.KernelProjGateIdeal.τ Cert.KernelProjGateIdeal.sig) → Buf (Elt Ideal) ℓ) : Prop :=
  True

def Pre_ReferenceProjGateIdeal (m : (ℓ : Loc Cert.ReferenceProjGateIdeal.nD Cert.ReferenceProjGateIdeal.τ Cert.ReferenceProjGateIdeal.sig) → Buf (Elt Ideal) ℓ) : Prop :=
  True

def Pre_KernelLatFwd (m : (ℓ : Loc Cert.KernelLatFwd.nD Cert.KernelLatFwd.τ Cert.KernelLatFwd.sig) → Buf (Elt Bits) ℓ) : Prop :=
  True

def Pre_KernelLatFwdIdeal (m : (ℓ : Loc Cert.KernelLatFwdIdeal.nD Cert.KernelLatFwdIdeal.τ Cert.KernelLatFwdIdeal.sig) → Buf (Elt Ideal) ℓ) : Prop :=
  True

def Pre_ReferenceLatFwdIdeal (m : (ℓ : Loc Cert.ReferenceLatFwdIdeal.nD Cert.ReferenceLatFwdIdeal.τ Cert.ReferenceLatFwdIdeal.sig) → Buf (Elt Ideal) ℓ) : Prop :=
  True

def Pre_KernelPoolFwd (m : (ℓ : Loc Cert.KernelPoolFwd.nD Cert.KernelPoolFwd.τ Cert.KernelPoolFwd.sig) → Buf (Elt Bits) ℓ) : Prop :=
  True

def Pre_KernelPoolFwdIdeal (m : (ℓ : Loc Cert.KernelPoolFwdIdeal.nD Cert.KernelPoolFwdIdeal.τ Cert.KernelPoolFwdIdeal.sig) → Buf (Elt Ideal) ℓ) : Prop :=
  True

def Pre_KernelPoolFwdIdeal_finite_poolf [hPre_finite_poolf : Cert.Pre_finite_poolf.Facts] (m : (ℓ : Loc Cert.KernelPoolFwdIdeal.nD Cert.KernelPoolFwdIdeal.τ Cert.KernelPoolFwdIdeal.sig) → Buf (Elt Ideal) ℓ) : Prop :=
  ∀ c : Dev Cert.KernelPoolFwdIdeal.nD,
    (Cert.Pre_finite_poolf.fn (F := Ideal) (m ((c.tc : Thread Cert.KernelPoolFwdIdeal.nD Cert.KernelPoolFwdIdeal.τ).loc Cert.KernelPoolFwdIdeal.main_arg0)) (m ((c.tc : Thread Cert.KernelPoolFwdIdeal.nD Cert.KernelPoolFwdIdeal.τ).loc Cert.KernelPoolFwdIdeal.main_arg1)) (m ((c.tc : Thread Cert.KernelPoolFwdIdeal.nD Cert.KernelPoolFwdIdeal.τ).loc Cert.KernelPoolFwdIdeal.main_arg2))) = (fun _ => 1#1)

def Pre_ReferencePoolFwdIdeal (m : (ℓ : Loc Cert.ReferencePoolFwdIdeal.nD Cert.ReferencePoolFwdIdeal.τ Cert.ReferencePoolFwdIdeal.sig) → Buf (Elt Ideal) ℓ) : Prop :=
  True

def Pre_ReferencePoolFwdIdeal_finite_poolf [hPre_finite_poolf : Cert.Pre_finite_poolf.Facts] (m : (ℓ : Loc Cert.ReferencePoolFwdIdeal.nD Cert.ReferencePoolFwdIdeal.τ Cert.ReferencePoolFwdIdeal.sig) → Buf (Elt Ideal) ℓ) : Prop :=
  ∀ c : Dev Cert.ReferencePoolFwdIdeal.nD,
    (Cert.Pre_finite_poolf.fn (F := Ideal) (m ((c.tc : Thread Cert.ReferencePoolFwdIdeal.nD Cert.ReferencePoolFwdIdeal.τ).loc Cert.ReferencePoolFwdIdeal.main_arg0)) (m ((c.tc : Thread Cert.ReferencePoolFwdIdeal.nD Cert.ReferencePoolFwdIdeal.τ).loc Cert.ReferencePoolFwdIdeal.main_arg1)) (m ((c.tc : Thread Cert.ReferencePoolFwdIdeal.nD Cert.ReferencePoolFwdIdeal.τ).loc Cert.ReferencePoolFwdIdeal.main_arg2))) = (fun _ => 1#1)

def Pre_KernelSwap (m : (ℓ : Loc Cert.KernelSwap.nD Cert.KernelSwap.τ Cert.KernelSwap.sig) → Buf (Elt Bits) ℓ) : Prop :=
  True

def Pre_KernelSwapIdeal (m : (ℓ : Loc Cert.KernelSwapIdeal.nD Cert.KernelSwapIdeal.τ Cert.KernelSwapIdeal.sig) → Buf (Elt Ideal) ℓ) : Prop :=
  True

def Pre_ReferenceSwapIdeal (m : (ℓ : Loc Cert.ReferenceSwapIdeal.nD Cert.ReferenceSwapIdeal.τ Cert.ReferenceSwapIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelMixIn (m : (ℓ : Loc Cert.KernelMixIn.nD Cert.KernelMixIn.τ Cert.KernelMixIn.sig) → Buf (Elt Bits) ℓ) : Prop :=
  True

def Pre_KernelMixInIdeal (m : (ℓ : Loc Cert.KernelMixInIdeal.nD Cert.KernelMixInIdeal.τ Cert.KernelMixInIdeal.sig) → Buf (Elt Ideal) ℓ) : Prop :=
  True

def Pre_ReferenceMixInIdeal (m : (ℓ : Loc Cert.ReferenceMixInIdeal.nD Cert.ReferenceMixInIdeal.τ Cert.ReferenceMixInIdeal.sig) → Buf (Elt Ideal) ℓ) : Prop :=
  True

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelAdamw (m : (ℓ : Loc Cert.KernelAdamw.nD Cert.KernelAdamw.τ Cert.KernelAdamw.sig) → Buf (Elt Bits) ℓ) : Prop :=
  True

def Pre_KernelAdamwIdeal (m : (ℓ : Loc Cert.KernelAdamwIdeal.nD Cert.KernelAdamwIdeal.τ Cert.KernelAdamwIdeal.sig) → Buf (Elt Ideal) ℓ) : Prop :=
  True

def Pre_ReferenceAdamwIdeal (m : (ℓ : Loc Cert.ReferenceAdamwIdeal.nD Cert.ReferenceAdamwIdeal.τ Cert.ReferenceAdamwIdeal.sig) → Buf (Elt Ideal) ℓ) : Prop :=
  True

def Pre_KernelChipSum (m : (ℓ : Loc Cert.KernelChipSum.nD Cert.KernelChipSum.τ Cert.KernelChipSum.sig) → Buf (Elt Bits) ℓ) : Prop :=
  True

def Pre_KernelChipSumIdeal (m : (ℓ : Loc Cert.KernelChipSumIdeal.nD Cert.KernelChipSumIdeal.τ Cert.KernelChipSumIdeal.sig) → Buf (Elt Ideal) ℓ) : Prop :=
  True

def Pre_ReferenceChipSumIdeal (m : (ℓ : Loc Cert.ReferenceChipSumIdeal.nD Cert.ReferenceChipSumIdeal.τ Cert.ReferenceChipSumIdeal.sig) → Buf (Elt Ideal) ℓ) : Prop :=
  True

def Pre_KernelFinalSum (m : (ℓ : Loc Cert.KernelFinalSum.nD Cert.KernelFinalSum.τ Cert.KernelFinalSum.sig) → Buf (Elt Bits) ℓ) : Prop :=
  True

def Pre_KernelFinalSumIdeal (m : (ℓ : Loc Cert.KernelFinalSumIdeal.nD Cert.KernelFinalSumIdeal.τ Cert.KernelFinalSumIdeal.sig) → Buf (Elt Ideal) ℓ) : Prop :=
  True

def Pre_ReferenceFinalSumIdeal (m : (ℓ : Loc Cert.ReferenceFinalSumIdeal.nD Cert.ReferenceFinalSumIdeal.τ Cert.ReferenceFinalSumIdeal.sig) → Buf (Elt Ideal) ℓ) : Prop :=
  True

def Pre_KernelPlaceOwn (m : (ℓ : Loc Cert.KernelPlaceOwn.nD Cert.KernelPlaceOwn.τ Cert.KernelPlaceOwn.sig) → Buf (Elt Bits) ℓ) : Prop :=
  True

def Pre_KernelPlaceOwnIdeal (m : (ℓ : Loc Cert.KernelPlaceOwnIdeal.nD Cert.KernelPlaceOwnIdeal.τ Cert.KernelPlaceOwnIdeal.sig) → Buf (Elt Ideal) ℓ) : Prop :=
  True

def Pre_ReferencePlaceOwnIdeal (m : (ℓ : Loc Cert.ReferencePlaceOwnIdeal.nD Cert.ReferencePlaceOwnIdeal.τ Cert.ReferencePlaceOwnIdeal.sig) → Buf (Elt Ideal) ℓ) : Prop :=
  True

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4)
      ∧ r.2.mem ((c.tc : Thread Cert.KernelGate.nD Cert.KernelGate.τ).loc Cert.KernelGate.main_arg5) = m ((c.tc : Thread Cert.KernelGate.nD Cert.KernelGate.τ).loc Cert.KernelGate.main_arg5))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
      ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4)
      ∧ r.2.mem ((c.tc : Thread Cert.ReferenceGateIdeal.nD Cert.ReferenceGateIdeal.τ).loc Cert.ReferenceGateIdeal.main_arg5) = m ((c.tc : Thread Cert.ReferenceGateIdeal.nD Cert.ReferenceGateIdeal.τ).loc Cert.ReferenceGateIdeal.main_arg5))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_KernelPoolIdeal_pre_finite_pool [hKernelPoolIdeal : Cert.KernelPoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_finite_pool m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_ReferencePoolIdeal_pre_finite_pool [hReferencePoolIdeal : Cert.ReferencePoolIdeal.Facts] [hPre_finite_pool : Cert.Pre_finite_pool.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_finite_pool m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelLat [hKernelLat : Cert.KernelLat.Facts] : Prop :=
  ∀ (m : (ℓ : Loc Cert.KernelLat.nD Cert.KernelLat.τ Cert.KernelLat.sig) → Buf (Elt Bits) ℓ) (g : Dev Cert.KernelLat.nD → PrngReg), Pre_KernelLat m →
    θ_run (Cert.KernelLat.defs (F := Bits)) (onTc (τ := Cert.KernelLat.τ) (Cert.KernelLat.main (F := Bits))) ⟨m, fun _ => 0, g⟩ (fun r => (∀ c : Dev Cert.KernelLat.nD,
      r.2.mem ((c.tc : Thread Cert.KernelLat.nD Cert.KernelLat.τ).loc Cert.KernelLat.main_arg0) = m ((c.tc : Thread Cert.KernelLat.nD Cert.KernelLat.τ).loc Cert.KernelLat.main_arg0)
      ∧ r.2.mem ((c.tc : Thread Cert.KernelLat.nD Cert.KernelLat.τ).loc Cert.KernelLat.main_arg1) = m ((c.tc : Thread Cert.KernelLat.nD Cert.KernelLat.τ).loc Cert.KernelLat.main_arg1)
      ∧ r.2.mem ((c.tc : Thread Cert.KernelLat.nD Cert.KernelLat.τ).loc Cert.KernelLat.main_arg2) = m ((c.tc : Thread Cert.KernelLat.nD Cert.KernelLat.τ).loc Cert.KernelLat.main_arg2)
      ∧ r.2.mem ((c.tc : Thread Cert.KernelLat.nD Cert.KernelLat.τ).loc Cert.KernelLat.main_arg3) = m ((c.tc : Thread Cert.KernelLat.nD Cert.KernelLat.τ).loc Cert.KernelLat.main_arg3)
      ∧ r.2.mem ((c.tc : Thread Cert.KernelLat.nD Cert.KernelLat.τ).loc Cert.KernelLat.main_arg4) = m ((c.tc : Thread Cert.KernelLat.nD Cert.KernelLat.τ).loc Cert.KernelLat.main_arg4)
      ∧ r.2.mem ((c.tc : Thread Cert.KernelLat.nD Cert.KernelLat.τ).loc Cert.KernelLat.main_arg5) = m ((c.tc : Thread Cert.KernelLat.nD Cert.KernelLat.τ).loc Cert.KernelLat.main_arg5)
      ∧ r.2.mem ((c.tc : Thread Cert.KernelLat.nD Cert.KernelLat.τ).loc Cert.KernelLat.main_arg6) = m ((c.tc : Thread Cert.KernelLat.nD Cert.KernelLat.τ).loc Cert.KernelLat.main_arg6))
      ∧ r.2.sem = fun _ => 0)

def quiescent_KernelLatIdeal [hKernelLatIdeal : Cert.KernelLatIdeal.Facts] : Prop :=
  ∀ (m : (ℓ : Loc Cert.KernelLatIdeal.nD Cert.KernelLatIdeal.τ Cert.KernelLatIdeal.sig) → Buf (Elt Ideal) ℓ) (g : Dev Cert.KernelLatIdeal.nD → PrngReg), Pre_KernelLatIdeal m →
    θ_run (Cert.KernelLatIdeal.defs (F := Ideal)) (onTc (τ := Cert.KernelLatIdeal.τ) (Cert.KernelLatIdeal.main (F := Ideal))) ⟨m, fun _ => 0, g⟩ (fun r => (∀ c : Dev Cert.KernelLatIdeal.nD,
      r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
      ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1)
      ∧ r.2.mem ((c.tc : Thread Cert.KernelLatIdeal.nD Cert.KernelLatIdeal.τ).loc Cert.KernelLatIdeal.main_arg2) = m ((c.tc : Thread Cert.KernelLatIdeal.nD Cert.KernelLatIdeal.τ).loc Cert.KernelLatIdeal.main_arg2)
      ∧ r.2.mem ((c.tc : Thread Cert.KernelLatIdeal.nD Cert.KernelLatIdeal.τ).loc Cert.KernelLatIdeal.main_arg3) = m ((c.tc : Thread Cert.KernelLatIdeal.nD Cert.KernelLatIdeal.τ).loc Cert.KernelLatIdeal.main_arg3)
      ∧ r.2.mem ((c.tc : Thread Cert.KernelLatIdeal.nD Cert.KernelLatIdeal.τ).loc Cert.KernelLatIdeal.main_arg4) = m ((c.tc : Thread Cert.KernelLatIdeal.nD Cert.KernelLatIdeal.τ).loc Cert.KernelLatIdeal.main_arg4)
      ∧ r.2.mem ((c.tc : Thread Cert.KernelLatIdeal.nD Cert.KernelLatIdeal.τ).loc Cert.KernelLatIdeal.main_arg5) = m ((c.tc : Thread Cert.KernelLatIdeal.nD Cert.KernelLatIdeal.τ).loc Cert.KernelLatIdeal.main_arg5)
      ∧ r.2.mem ((c.tc : Thread Cert.KernelLatIdeal.nD Cert.KernelLatIdeal.τ).loc Cert.KernelLatIdeal.main_arg6) = m ((c.tc : Thread Cert.KernelLatIdeal.nD Cert.KernelLatIdeal.τ).loc Cert.KernelLatIdeal.main_arg6))
      ∧ r.2.sem = fun _ => 0)

def quiescent_ReferenceLatIdeal [hReferenceLatIdeal : Cert.ReferenceLatIdeal.Facts] : Prop :=
  ∀ (m : (ℓ : Loc Cert.ReferenceLatIdeal.nD Cert.ReferenceLatIdeal.τ Cert.ReferenceLatIdeal.sig) → Buf (Elt Ideal) ℓ) (g : Dev Cert.ReferenceLatIdeal.nD → PrngReg), Pre_ReferenceLatIdeal m →
    θ_run (Cert.ReferenceLatIdeal.defs (F := Ideal)) (onTc (τ := Cert.ReferenceLatIdeal.τ) (Cert.ReferenceLatIdeal.main (F := Ideal))) ⟨m, fun _ => 0, g⟩ (fun r => (∀ c : Dev Cert.ReferenceLatIdeal.nD,
      r.2.mem ((c.tc : Thread Cert.ReferenceLatIdeal.nD Cert.ReferenceLatIdeal.τ).loc Cert.ReferenceLatIdeal.main_arg0) = m ((c.tc : Thread Cert.ReferenceLatIdeal.nD Cert.ReferenceLatIdeal.τ).loc Cert.ReferenceLatIdeal.main_arg0)
      ∧ r.2.mem ((c.tc : Thread Cert.ReferenceLatIdeal.nD Cert.ReferenceLatIdeal.τ).loc Cert.ReferenceLatIdeal.main_arg1) = m ((c.tc : Thread Cert.ReferenceLatIdeal.nD Cert.ReferenceLatIdeal.τ).loc Cert.ReferenceLatIdeal.main_arg1)
      ∧ r.2.mem ((c.tc : Thread Cert.ReferenceLatIdeal.nD Cert.ReferenceLatIdeal.τ).loc Cert.ReferenceLatIdeal.main_arg2) = m ((c.tc : Thread Cert.ReferenceLatIdeal.nD Cert.ReferenceLatIdeal.τ).loc Cert.ReferenceLatIdeal.main_arg2)
      ∧ r.2.mem ((c.tc : Thread Cert.ReferenceLatIdeal.nD Cert.ReferenceLatIdeal.τ).loc Cert.ReferenceLatIdeal.main_arg3) = m ((c.tc : Thread Cert.ReferenceLatIdeal.nD Cert.ReferenceLatIdeal.τ).loc Cert.ReferenceLatIdeal.main_arg3)
      ∧ r.2.mem ((c.tc : Thread Cert.ReferenceLatIdeal.nD Cert.ReferenceLatIdeal.τ).loc Cert.ReferenceLatIdeal.main_arg4) = m ((c.tc : Thread Cert.ReferenceLatIdeal.nD Cert.ReferenceLatIdeal.τ).loc Cert.ReferenceLatIdeal.main_arg4)
      ∧ r.2.mem ((c.tc : Thread Cert.ReferenceLatIdeal.nD Cert.ReferenceLatIdeal.τ).loc Cert.ReferenceLatIdeal.main_arg5) = m ((c.tc : Thread Cert.ReferenceLatIdeal.nD Cert.ReferenceLatIdeal.τ).loc Cert.ReferenceLatIdeal.main_arg5)
      ∧ r.2.mem ((c.tc : Thread Cert.ReferenceLatIdeal.nD Cert.ReferenceLatIdeal.τ).loc Cert.ReferenceLatIdeal.main_arg6) = m ((c.tc : Thread Cert.ReferenceLatIdeal.nD Cert.ReferenceLatIdeal.τ).loc Cert.ReferenceLatIdeal.main_arg6))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelUpNorm [hKernelUpNorm : Cert.KernelUpNorm.Facts] : Prop :=
  ∀ (m : (ℓ : Loc Cert.KernelUpNorm.nD Cert.KernelUpNorm.τ Cert.KernelUpNorm.sig) → Buf (Elt Bits) ℓ) (g : Dev Cert.KernelUpNorm.nD → PrngReg), Pre_KernelUpNorm m →
    θ_run (Cert.KernelUpNorm.defs (F := Bits)) (onTc (τ := Cert.KernelUpNorm.τ) (Cert.KernelUpNorm.main (F := Bits))) ⟨m, fun _ => 0, g⟩ (fun r => (∀ c : Dev Cert.KernelUpNorm.nD,
      r.2.mem ((c.tc : Thread Cert.KernelUpNorm.nD Cert.KernelUpNorm.τ).loc Cert.KernelUpNorm.main_arg0) = m ((c.tc : Thread Cert.KernelUpNorm.nD Cert.KernelUpNorm.τ).loc Cert.KernelUpNorm.main_arg0)
      ∧ r.2.mem ((c.tc : Thread Cert.KernelUpNorm.nD Cert.KernelUpNorm.τ).loc Cert.KernelUpNorm.main_arg1) = m ((c.tc : Thread Cert.KernelUpNorm.nD Cert.KernelUpNorm.τ).loc Cert.KernelUpNorm.main_arg1)
      ∧ r.2.mem ((c.tc : Thread Cert.KernelUpNorm.nD Cert.KernelUpNorm.τ).loc Cert.KernelUpNorm.main_arg2) = m ((c.tc : Thread Cert.KernelUpNorm.nD Cert.KernelUpNorm.τ).loc Cert.KernelUpNorm.main_arg2)
      ∧ r.2.mem ((c.tc : Thread Cert.KernelUpNorm.nD Cert.KernelUpNorm.τ).loc Cert.KernelUpNorm.main_arg3) = m ((c.tc : Thread Cert.KernelUpNorm.nD Cert.KernelUpNorm.τ).loc Cert.KernelUpNorm.main_arg3)
      ∧ r.2.mem ((c.tc : Thread Cert.KernelUpNorm.nD Cert.KernelUpNorm.τ).loc Cert.KernelUpNorm.main_arg4) = m ((c.tc : Thread Cert.KernelUpNorm.nD Cert.KernelUpNorm.τ).loc Cert.KernelUpNorm.main_arg4)
      ∧ r.2.mem ((c.tc : Thread Cert.KernelUpNorm.nD Cert.KernelUpNorm.τ).loc Cert.KernelUpNorm.main_arg5) = m ((c.tc : Thread Cert.KernelUpNorm.nD Cert.KernelUpNorm.τ).loc Cert.KernelUpNorm.main_arg5))
      ∧ r.2.sem = fun _ => 0)

def quiescent_KernelUpNormIdeal [hKernelUpNormIdeal : Cert.KernelUpNormIdeal.Facts] : Prop :=
  ∀ (m : (ℓ : Loc Cert.KernelUpNormIdeal.nD Cert.KernelUpNormIdeal.τ Cert.KernelUpNormIdeal.sig) → Buf (Elt Ideal) ℓ) (g : Dev Cert.KernelUpNormIdeal.nD → PrngReg), Pre_KernelUpNormIdeal m →
    θ_run (Cert.KernelUpNormIdeal.defs (F := Ideal)) (onTc (τ := Cert.KernelUpNormIdeal.τ) (Cert.KernelUpNormIdeal.main (F := Ideal))) ⟨m, fun _ => 0, g⟩ (fun r => (∀ c : Dev Cert.KernelUpNormIdeal.nD,
      r.2.mem ((c.tc : Thread Cert.KernelUpNormIdeal.nD Cert.KernelUpNormIdeal.τ).loc Cert.KernelUpNormIdeal.main_arg0) = m ((c.tc : Thread Cert.KernelUpNormIdeal.nD Cert.KernelUpNormIdeal.τ).loc Cert.KernelUpNormIdeal.main_arg0)
      ∧ r.2.mem ((c.tc : Thread Cert.KernelUpNormIdeal.nD Cert.KernelUpNormIdeal.τ).loc Cert.KernelUpNormIdeal.main_arg1) = m ((c.tc : Thread Cert.KernelUpNormIdeal.nD Cert.KernelUpNormIdeal.τ).loc Cert.KernelUpNormIdeal.main_arg1)
      ∧ r.2.mem ((c.tc : Thread Cert.KernelUpNormIdeal.nD Cert.KernelUpNormIdeal.τ).loc Cert.KernelUpNormIdeal.main_arg2) = m ((c.tc : Thread Cert.KernelUpNormIdeal.nD Cert.KernelUpNormIdeal.τ).loc Cert.KernelUpNormIdeal.main_arg2)
      ∧ r.2.mem ((c.tc : Thread Cert.KernelUpNormIdeal.nD Cert.KernelUpNormIdeal.τ).loc Cert.KernelUpNormIdeal.main_arg3) = m ((c.tc : Thread Cert.KernelUpNormIdeal.nD Cert.KernelUpNormIdeal.τ).loc Cert.KernelUpNormIdeal.main_arg3)
      ∧ r.2.mem ((c.tc : Thread Cert.KernelUpNormIdeal.nD Cert.KernelUpNormIdeal.τ).loc Cert.KernelUpNormIdeal.main_arg4) = m ((c.tc : Thread Cert.KernelUpNormIdeal.nD Cert.KernelUpNormIdeal.τ).loc Cert.KernelUpNormIdeal.main_arg4)
      ∧ r.2.mem ((c.tc : Thread Cert.KernelUpNormIdeal.nD Cert.KernelUpNormIdeal.τ).loc Cert.KernelUpNormIdeal.main_arg5) = m ((c.tc : Thread Cert.KernelUpNormIdeal.nD Cert.KernelUpNormIdeal.τ).loc Cert.KernelUpNormIdeal.main_arg5))
      ∧ r.2.sem = fun _ => 0)

def quiescent_ReferenceUpNormIdeal [hReferenceUpNormIdeal : Cert.ReferenceUpNormIdeal.Facts] : Prop :=
  ∀ (m : (ℓ : Loc Cert.ReferenceUpNormIdeal.nD Cert.ReferenceUpNormIdeal.τ Cert.ReferenceUpNormIdeal.sig) → Buf (Elt Ideal) ℓ) (g : Dev Cert.ReferenceUpNormIdeal.nD → PrngReg), Pre_ReferenceUpNormIdeal m →
    θ_run (Cert.ReferenceUpNormIdeal.defs (F := Ideal)) (onTc (τ := Cert.ReferenceUpNormIdeal.τ) (Cert.ReferenceUpNormIdeal.main (F := Ideal))) ⟨m, fun _ => 0, g⟩ (fun r => (∀ c : Dev Cert.ReferenceUpNormIdeal.nD,
      r.2.mem ((c.tc : Thread Cert.ReferenceUpNormIdeal.nD Cert.ReferenceUpNormIdeal.τ).loc Cert.ReferenceUpNormIdeal.main_arg0) = m ((c.tc : Thread Cert.ReferenceUpNormIdeal.nD Cert.ReferenceUpNormIdeal.τ).loc Cert.ReferenceUpNormIdeal.main_arg0)
      ∧ r.2.mem ((c.tc : Thread Cert.ReferenceUpNormIdeal.nD Cert.ReferenceUpNormIdeal.τ).loc Cert.ReferenceUpNormIdeal.main_arg1) = m ((c.tc : Thread Cert.ReferenceUpNormIdeal.nD Cert.ReferenceUpNormIdeal.τ).loc Cert.ReferenceUpNormIdeal.main_arg1)
      ∧ r.2.mem ((c.tc : Thread Cert.ReferenceUpNormIdeal.nD Cert.ReferenceUpNormIdeal.τ).loc Cert.ReferenceUpNormIdeal.main_arg2) = m ((c.tc : Thread Cert.ReferenceUpNormIdeal.nD Cert.ReferenceUpNormIdeal.τ).loc Cert.ReferenceUpNormIdeal.main_arg2)
      ∧ r.2.mem ((c.tc : Thread Cert.ReferenceUpNormIdeal.nD Cert.ReferenceUpNormIdeal.τ).loc Cert.ReferenceUpNormIdeal.main_arg3) = m ((c.tc : Thread Cert.ReferenceUpNormIdeal.nD Cert.ReferenceUpNormIdeal.τ).loc Cert.ReferenceUpNormIdeal.main_arg3)
      ∧ r.2.mem ((c.tc : Thread Cert.ReferenceUpNormIdeal.nD Cert.ReferenceUpNormIdeal.τ).loc Cert.ReferenceUpNormIdeal.main_arg4) = m ((c.tc : Thread Cert.ReferenceUpNormIdeal.nD Cert.ReferenceUpNormIdeal.τ).loc Cert.ReferenceUpNormIdeal.main_arg4)
      ∧ r.2.mem ((c.tc : Thread Cert.ReferenceUpNormIdeal.nD Cert.ReferenceUpNormIdeal.τ).loc Cert.ReferenceUpNormIdeal.main_arg5) = m ((c.tc : Thread Cert.ReferenceUpNormIdeal.nD Cert.ReferenceUpNormIdeal.τ).loc Cert.ReferenceUpNormIdeal.main_arg5))
      ∧ r.2.sem = fun _ => 0)

def quiescent_KernelInNorm [hKernelInNorm : Cert.KernelInNorm.Facts] : Prop :=
  ∀ (m : (ℓ : Loc Cert.KernelInNorm.nD Cert.KernelInNorm.τ Cert.KernelInNorm.sig) → Buf (Elt Bits) ℓ) (g : Dev Cert.KernelInNorm.nD → PrngReg), Pre_KernelInNorm m →
    θ_run (Cert.KernelInNorm.defs (F := Bits)) (onTc (τ := Cert.KernelInNorm.τ) (Cert.KernelInNorm.main (F := Bits))) ⟨m, fun _ => 0, g⟩ (fun r => (∀ c : Dev Cert.KernelInNorm.nD,
      r.2.mem ((c.tc : Thread Cert.KernelInNorm.nD Cert.KernelInNorm.τ).loc Cert.KernelInNorm.main_arg0) = m ((c.tc : Thread Cert.KernelInNorm.nD Cert.KernelInNorm.τ).loc Cert.KernelInNorm.main_arg0)
      ∧ r.2.mem ((c.tc : Thread Cert.KernelInNorm.nD Cert.KernelInNorm.τ).loc Cert.KernelInNorm.main_arg1) = m ((c.tc : Thread Cert.KernelInNorm.nD Cert.KernelInNorm.τ).loc Cert.KernelInNorm.main_arg1)
      ∧ r.2.mem ((c.tc : Thread Cert.KernelInNorm.nD Cert.KernelInNorm.τ).loc Cert.KernelInNorm.main_arg2) = m ((c.tc : Thread Cert.KernelInNorm.nD Cert.KernelInNorm.τ).loc Cert.KernelInNorm.main_arg2)
      ∧ r.2.mem ((c.tc : Thread Cert.KernelInNorm.nD Cert.KernelInNorm.τ).loc Cert.KernelInNorm.main_arg3) = m ((c.tc : Thread Cert.KernelInNorm.nD Cert.KernelInNorm.τ).loc Cert.KernelInNorm.main_arg3)
      ∧ r.2.mem ((c.tc : Thread Cert.KernelInNorm.nD Cert.KernelInNorm.τ).loc Cert.KernelInNorm.main_arg4) = m ((c.tc : Thread Cert.KernelInNorm.nD Cert.KernelInNorm.τ).loc Cert.KernelInNorm.main_arg4)
      ∧ r.2.mem ((c.tc : Thread Cert.KernelInNorm.nD Cert.KernelInNorm.τ).loc Cert.KernelInNorm.main_arg5) = m ((c.tc : Thread Cert.KernelInNorm.nD Cert.KernelInNorm.τ).loc Cert.KernelInNorm.main_arg5)
      ∧ r.2.mem ((c.tc : Thread Cert.KernelInNorm.nD Cert.KernelInNorm.τ).loc Cert.KernelInNorm.main_arg6) = m ((c.tc : Thread Cert.KernelInNorm.nD Cert.KernelInNorm.τ).loc Cert.KernelInNorm.main_arg6))
      ∧ r.2.sem = fun _ => 0)

def quiescent_KernelInNormIdeal [hKernelInNormIdeal : Cert.KernelInNormIdeal.Facts] : Prop :=
  ∀ (m : (ℓ : Loc Cert.KernelInNormIdeal.nD Cert.KernelInNormIdeal.τ Cert.KernelInNormIdeal.sig) → Buf (Elt Ideal) ℓ) (g : Dev Cert.KernelInNormIdeal.nD → PrngReg), Pre_KernelInNormIdeal m →
    θ_run (Cert.KernelInNormIdeal.defs (F := Ideal)) (onTc (τ := Cert.KernelInNormIdeal.τ) (Cert.KernelInNormIdeal.main (F := Ideal))) ⟨m, fun _ => 0, g⟩ (fun r => (∀ c : Dev Cert.KernelInNormIdeal.nD,
      r.2.mem ((c.tc : Thread Cert.KernelInNormIdeal.nD Cert.KernelInNormIdeal.τ).loc Cert.KernelInNormIdeal.main_arg0) = m ((c.tc : Thread Cert.KernelInNormIdeal.nD Cert.KernelInNormIdeal.τ).loc Cert.KernelInNormIdeal.main_arg0)
      ∧ r.2.mem ((c.tc : Thread Cert.KernelInNormIdeal.nD Cert.KernelInNormIdeal.τ).loc Cert.KernelInNormIdeal.main_arg1) = m ((c.tc : Thread Cert.KernelInNormIdeal.nD Cert.KernelInNormIdeal.τ).loc Cert.KernelInNormIdeal.main_arg1)
      ∧ r.2.mem ((c.tc : Thread Cert.KernelInNormIdeal.nD Cert.KernelInNormIdeal.τ).loc Cert.KernelInNormIdeal.main_arg2) = m ((c.tc : Thread Cert.KernelInNormIdeal.nD Cert.KernelInNormIdeal.τ).loc Cert.KernelInNormIdeal.main_arg2)
      ∧ r.2.mem ((c.tc : Thread Cert.KernelInNormIdeal.nD Cert.KernelInNormIdeal.τ).loc Cert.KernelInNormIdeal.main_arg3) = m ((c.tc : Thread Cert.KernelInNormIdeal.nD Cert.KernelInNormIdeal.τ).loc Cert.KernelInNormIdeal.main_arg3)
      ∧ r.2.mem ((c.tc : Thread Cert.KernelInNormIdeal.nD Cert.KernelInNormIdeal.τ).loc Cert.KernelInNormIdeal.main_arg4) = m ((c.tc : Thread Cert.KernelInNormIdeal.nD Cert.KernelInNormIdeal.τ).loc Cert.KernelInNormIdeal.main_arg4)
      ∧ r.2.mem ((c.tc : Thread Cert.KernelInNormIdeal.nD Cert.KernelInNormIdeal.τ).loc Cert.KernelInNormIdeal.main_arg5) = m ((c.tc : Thread Cert.KernelInNormIdeal.nD Cert.KernelInNormIdeal.τ).loc Cert.KernelInNormIdeal.main_arg5)
      ∧ r.2.mem ((c.tc : Thread Cert.KernelInNormIdeal.nD Cert.KernelInNormIdeal.τ).loc Cert.KernelInNormIdeal.main_arg6) = m ((c.tc : Thread Cert.KernelInNormIdeal.nD Cert.KernelInNormIdeal.τ).loc Cert.KernelInNormIdeal.main_arg6))
      ∧ r.2.sem = fun _ => 0)

def quiescent_ReferenceInNormIdeal [hReferenceInNormIdeal : Cert.ReferenceInNormIdeal.Facts] : Prop :=
  ∀ (m : (ℓ : Loc Cert.ReferenceInNormIdeal.nD Cert.ReferenceInNormIdeal.τ Cert.ReferenceInNormIdeal.sig) → Buf (Elt Ideal) ℓ) (g : Dev Cert.ReferenceInNormIdeal.nD → PrngReg), Pre_ReferenceInNormIdeal m →
    θ_run (Cert.ReferenceInNormIdeal.defs (F := Ideal)) (onTc (τ := Cert.ReferenceInNormIdeal.τ) (Cert.ReferenceInNormIdeal.main (F := Ideal))) ⟨m, fun _ => 0, g⟩ (fun r => (∀ c : Dev Cert.ReferenceInNormIdeal.nD,
      r.2.mem ((c.tc : Thread Cert.ReferenceInNormIdeal.nD Cert.ReferenceInNormIdeal.τ).loc Cert.ReferenceInNormIdeal.main_arg0) = m ((c.tc : Thread Cert.ReferenceInNormIdeal.nD Cert.ReferenceInNormIdeal.τ).loc Cert.ReferenceInNormIdeal.main_arg0)
      ∧ r.2.mem ((c.tc : Thread Cert.ReferenceInNormIdeal.nD Cert.ReferenceInNormIdeal.τ).loc Cert.ReferenceInNormIdeal.main_arg1) = m ((c.tc : Thread Cert.ReferenceInNormIdeal.nD Cert.ReferenceInNormIdeal.τ).loc Cert.ReferenceInNormIdeal.main_arg1)
      ∧ r.2.mem ((c.tc : Thread Cert.ReferenceInNormIdeal.nD Cert.ReferenceInNormIdeal.τ).loc Cert.ReferenceInNormIdeal.main_arg2) = m ((c.tc : Thread Cert.ReferenceInNormIdeal.nD Cert.ReferenceInNormIdeal.τ).loc Cert.ReferenceInNormIdeal.main_arg2)
      ∧ r.2.mem ((c.tc : Thread Cert.ReferenceInNormIdeal.nD Cert.ReferenceInNormIdeal.τ).loc Cert.ReferenceInNormIdeal.main_arg3) = m ((c.tc : Thread Cert.ReferenceInNormIdeal.nD Cert.ReferenceInNormIdeal.τ).loc Cert.ReferenceInNormIdeal.main_arg3)
      ∧ r.2.mem ((c.tc : Thread Cert.ReferenceInNormIdeal.nD Cert.ReferenceInNormIdeal.τ).loc Cert.ReferenceInNormIdeal.main_arg4) = m ((c.tc : Thread Cert.ReferenceInNormIdeal.nD Cert.ReferenceInNormIdeal.τ).loc Cert.ReferenceInNormIdeal.main_arg4)
      ∧ r.2.mem ((c.tc : Thread Cert.ReferenceInNormIdeal.nD Cert.ReferenceInNormIdeal.τ).loc Cert.ReferenceInNormIdeal.main_arg5) = m ((c.tc : Thread Cert.ReferenceInNormIdeal.nD Cert.ReferenceInNormIdeal.τ).loc Cert.ReferenceInNormIdeal.main_arg5)
      ∧ r.2.mem ((c.tc : Thread Cert.ReferenceInNormIdeal.nD Cert.ReferenceInNormIdeal.τ).loc Cert.ReferenceInNormIdeal.main_arg6) = m ((c.tc : Thread Cert.ReferenceInNormIdeal.nD Cert.ReferenceInNormIdeal.τ).loc Cert.ReferenceInNormIdeal.main_arg6))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1))
      ∧ r.2.sem = fun _ => 0)

def quiescent_KernelUpAct [hKernelUpAct : Cert.KernelUpAct.Facts] : Prop :=
  ∀ (m : (ℓ : Loc Cert.KernelUpAct.nD Cert.KernelUpAct.τ Cert.KernelUpAct.sig) → Buf (Elt Bits) ℓ) (g : Dev Cert.KernelUpAct.nD → PrngReg), Pre_KernelUpAct m →
    θ_run (Cert.KernelUpAct.defs (F := Bits)) (onTc (τ := Cert.KernelUpAct.τ) (Cert.KernelUpAct.main (F := Bits))) ⟨m, fun _ => 0, g⟩ (fun r => (∀ c : Dev Cert.KernelUpAct.nD,
      r.2.mem ((c.tc : Thread Cert.KernelUpAct.nD Cert.KernelUpAct.τ).loc Cert.KernelUpAct.main_arg0) = m ((c.tc : Thread Cert.KernelUpAct.nD Cert.KernelUpAct.τ).loc Cert.KernelUpAct.main_arg0)
      ∧ r.2.mem ((c.tc : Thread Cert.KernelUpAct.nD Cert.KernelUpAct.τ).loc Cert.KernelUpAct.main_arg1) = m ((c.tc : Thread Cert.KernelUpAct.nD Cert.KernelUpAct.τ).loc Cert.KernelUpAct.main_arg1))
      ∧ r.2.sem = fun _ => 0)

def quiescent_KernelUpActIdeal [hKernelUpActIdeal : Cert.KernelUpActIdeal.Facts] : Prop :=
  ∀ (m : (ℓ : Loc Cert.KernelUpActIdeal.nD Cert.KernelUpActIdeal.τ Cert.KernelUpActIdeal.sig) → Buf (Elt Ideal) ℓ) (g : Dev Cert.KernelUpActIdeal.nD → PrngReg), Pre_KernelUpActIdeal m →
    θ_run (Cert.KernelUpActIdeal.defs (F := Ideal)) (onTc (τ := Cert.KernelUpActIdeal.τ) (Cert.KernelUpActIdeal.main (F := Ideal))) ⟨m, fun _ => 0, g⟩ (fun r => (∀ c : Dev Cert.KernelUpActIdeal.nD,
      r.2.mem ((c.tc : Thread Cert.KernelUpActIdeal.nD Cert.KernelUpActIdeal.τ).loc Cert.KernelUpActIdeal.main_arg0) = m ((c.tc : Thread Cert.KernelUpActIdeal.nD Cert.KernelUpActIdeal.τ).loc Cert.KernelUpActIdeal.main_arg0)
      ∧ r.2.mem ((c.tc : Thread Cert.KernelUpActIdeal.nD Cert.KernelUpActIdeal.τ).loc Cert.KernelUpActIdeal.main_arg1) = m ((c.tc : Thread Cert.KernelUpActIdeal.nD Cert.KernelUpActIdeal.τ).loc Cert.KernelUpActIdeal.main_arg1))
      ∧ r.2.sem = fun _ => 0)

def quiescent_ReferenceUpActIdeal [hReferenceUpActIdeal : Cert.ReferenceUpActIdeal.Facts] : Prop :=
  ∀ (m : (ℓ : Loc Cert.ReferenceUpActIdeal.nD Cert.ReferenceUpActIdeal.τ Cert.ReferenceUpActIdeal.sig) → Buf (Elt Ideal) ℓ) (g : Dev Cert.ReferenceUpActIdeal.nD → PrngReg), Pre_ReferenceUpActIdeal m →
    θ_run (Cert.ReferenceUpActIdeal.defs (F := Ideal)) (onTc (τ := Cert.ReferenceUpActIdeal.τ) (Cert.ReferenceUpActIdeal.main (F := Ideal))) ⟨m, fun _ => 0, g⟩ (fun r => (∀ c : Dev Cert.ReferenceUpActIdeal.nD,
      r.2.mem ((c.tc : Thread Cert.ReferenceUpActIdeal.nD Cert.ReferenceUpActIdeal.τ).loc Cert.ReferenceUpActIdeal.main_arg0) = m ((c.tc : Thread Cert.ReferenceUpActIdeal.nD Cert.ReferenceUpActIdeal.τ).loc Cert.ReferenceUpActIdeal.main_arg0)
      ∧ r.2.mem ((c.tc : Thread Cert.ReferenceUpActIdeal.nD Cert.ReferenceUpActIdeal.τ).loc Cert.ReferenceUpActIdeal.main_arg1) = m ((c.tc : Thread Cert.ReferenceUpActIdeal.nD Cert.ReferenceUpActIdeal.τ).loc Cert.ReferenceUpActIdeal.main_arg1))
      ∧ r.2.sem = fun _ => 0)

def quiescent_KernelProjGate [hKernelProjGate : Cert.KernelProjGate.Facts] : Prop :=
  ∀ (m : (ℓ : Loc Cert.KernelProjGate.nD Cert.KernelProjGate.τ Cert.KernelProjGate.sig) → Buf (Elt Bits) ℓ) (g : Dev Cert.KernelProjGate.nD → PrngReg), Pre_KernelProjGate m →
    θ_run (Cert.KernelProjGate.defs (F := Bits)) (onTc (τ := Cert.KernelProjGate.τ) (Cert.KernelProjGate.main (F := Bits))) ⟨m, fun _ => 0, g⟩ (fun r => (∀ c : Dev Cert.KernelProjGate.nD,
      r.2.mem ((c.tc : Thread Cert.KernelProjGate.nD Cert.KernelProjGate.τ).loc Cert.KernelProjGate.main_arg0) = m ((c.tc : Thread Cert.KernelProjGate.nD Cert.KernelProjGate.τ).loc Cert.KernelProjGate.main_arg0)
      ∧ r.2.mem ((c.tc : Thread Cert.KernelProjGate.nD Cert.KernelProjGate.τ).loc Cert.KernelProjGate.main_arg1) = m ((c.tc : Thread Cert.KernelProjGate.nD Cert.KernelProjGate.τ).loc Cert.KernelProjGate.main_arg1)
      ∧ r.2.mem ((c.tc : Thread Cert.KernelProjGate.nD Cert.KernelProjGate.τ).loc Cert.KernelProjGate.main_arg2) = m ((c.tc : Thread Cert.KernelProjGate.nD Cert.KernelProjGate.τ).loc Cert.KernelProjGate.main_arg2)
      ∧ r.2.mem ((c.tc : Thread Cert.KernelProjGate.nD Cert.KernelProjGate.τ).loc Cert.KernelProjGate.main_arg3) = m ((c.tc : Thread Cert.KernelProjGate.nD Cert.KernelProjGate.τ).loc Cert.KernelProjGate.main_arg3)
      ∧ r.2.mem ((c.tc : Thread Cert.KernelProjGate.nD Cert.KernelProjGate.τ).loc Cert.KernelProjGate.main_arg4) = m ((c.tc : Thread Cert.KernelProjGate.nD Cert.KernelProjGate.τ).loc Cert.KernelProjGate.main_arg4))
      ∧ r.2.sem = fun _ => 0)

def quiescent_KernelProjGateIdeal [hKernelProjGateIdeal : Cert.KernelProjGateIdeal.Facts] : Prop :=
  ∀ (m : (ℓ : Loc Cert.KernelProjGateIdeal.nD Cert.KernelProjGateIdeal.τ Cert.KernelProjGateIdeal.sig) → Buf (Elt Ideal) ℓ) (g : Dev Cert.KernelProjGateIdeal.nD → PrngReg), Pre_KernelProjGateIdeal m →
    θ_run (Cert.KernelProjGateIdeal.defs (F := Ideal)) (onTc (τ := Cert.KernelProjGateIdeal.τ) (Cert.KernelProjGateIdeal.main (F := Ideal))) ⟨m, fun _ => 0, g⟩ (fun r => (∀ c : Dev Cert.KernelProjGateIdeal.nD,
      r.2.mem ((c.tc : Thread Cert.KernelProjGateIdeal.nD Cert.KernelProjGateIdeal.τ).loc Cert.KernelProjGateIdeal.main_arg0) = m ((c.tc : Thread Cert.KernelProjGateIdeal.nD Cert.KernelProjGateIdeal.τ).loc Cert.KernelProjGateIdeal.main_arg0)
      ∧ r.2.mem ((c.tc : Thread Cert.KernelProjGateIdeal.nD Cert.KernelProjGateIdeal.τ).loc Cert.KernelProjGateIdeal.main_arg1) = m ((c.tc : Thread Cert.KernelProjGateIdeal.nD Cert.KernelProjGateIdeal.τ).loc Cert.KernelProjGateIdeal.main_arg1)
      ∧ r.2.mem ((c.tc : Thread Cert.KernelProjGateIdeal.nD Cert.KernelProjGateIdeal.τ).loc Cert.KernelProjGateIdeal.main_arg2) = m ((c.tc : Thread Cert.KernelProjGateIdeal.nD Cert.KernelProjGateIdeal.τ).loc Cert.KernelProjGateIdeal.main_arg2)
      ∧ r.2.mem ((c.tc : Thread Cert.KernelProjGateIdeal.nD Cert.KernelProjGateIdeal.τ).loc Cert.KernelProjGateIdeal.main_arg3) = m ((c.tc : Thread Cert.KernelProjGateIdeal.nD Cert.KernelProjGateIdeal.τ).loc Cert.KernelProjGateIdeal.main_arg3)
      ∧ r.2.mem ((c.tc : Thread Cert.KernelProjGateIdeal.nD Cert.KernelProjGateIdeal.τ).loc Cert.KernelProjGateIdeal.main_arg4) = m ((c.tc : Thread Cert.KernelProjGateIdeal.nD Cert.KernelProjGateIdeal.τ).loc Cert.KernelProjGateIdeal.main_arg4))
      ∧ r.2.sem = fun _ => 0)

def quiescent_ReferenceProjGateIdeal [hReferenceProjGateIdeal : Cert.ReferenceProjGateIdeal.Facts] : Prop :=
  ∀ (m : (ℓ : Loc Cert.ReferenceProjGateIdeal.nD Cert.ReferenceProjGateIdeal.τ Cert.ReferenceProjGateIdeal.sig) → Buf (Elt Ideal) ℓ) (g : Dev Cert.ReferenceProjGateIdeal.nD → PrngReg), Pre_ReferenceProjGateIdeal m →
    θ_run (Cert.ReferenceProjGateIdeal.defs (F := Ideal)) (onTc (τ := Cert.ReferenceProjGateIdeal.τ) (Cert.ReferenceProjGateIdeal.main (F := Ideal))) ⟨m, fun _ => 0, g⟩ (fun r => (∀ c : Dev Cert.ReferenceProjGateIdeal.nD,
      r.2.mem ((c.tc : Thread Cert.ReferenceProjGateIdeal.nD Cert.ReferenceProjGateIdeal.τ).loc Cert.ReferenceProjGateIdeal.main_arg0) = m ((c.tc : Thread Cert.ReferenceProjGateIdeal.nD Cert.ReferenceProjGateIdeal.τ).loc Cert.ReferenceProjGateIdeal.main_arg0)
      ∧ r.2.mem ((c.tc : Thread Cert.ReferenceProjGateIdeal.nD Cert.ReferenceProjGateIdeal.τ).loc Cert.ReferenceProjGateIdeal.main_arg1) = m ((c.tc : Thread Cert.ReferenceProjGateIdeal.nD Cert.ReferenceProjGateIdeal.τ).loc Cert.ReferenceProjGateIdeal.main_arg1)
      ∧ r.2.mem ((c.tc : Thread Cert.ReferenceProjGateIdeal.nD Cert.ReferenceProjGateIdeal.τ).loc Cert.ReferenceProjGateIdeal.main_arg2) = m ((c.tc : Thread Cert.ReferenceProjGateIdeal.nD Cert.ReferenceProjGateIdeal.τ).loc Cert.ReferenceProjGateIdeal.main_arg2)
      ∧ r.2.mem ((c.tc : Thread Cert.ReferenceProjGateIdeal.nD Cert.ReferenceProjGateIdeal.τ).loc Cert.ReferenceProjGateIdeal.main_arg3) = m ((c.tc : Thread Cert.ReferenceProjGateIdeal.nD Cert.ReferenceProjGateIdeal.τ).loc Cert.ReferenceProjGateIdeal.main_arg3)
      ∧ r.2.mem ((c.tc : Thread Cert.ReferenceProjGateIdeal.nD Cert.ReferenceProjGateIdeal.τ).loc Cert.ReferenceProjGateIdeal.main_arg4) = m ((c.tc : Thread Cert.ReferenceProjGateIdeal.nD Cert.ReferenceProjGateIdeal.τ).loc Cert.ReferenceProjGateIdeal.main_arg4))
      ∧ r.2.sem = fun _ => 0)

def quiescent_KernelLatFwd [hKernelLatFwd : Cert.KernelLatFwd.Facts] : Prop :=
  ∀ (m : (ℓ : Loc Cert.KernelLatFwd.nD Cert.KernelLatFwd.τ Cert.KernelLatFwd.sig) → Buf (Elt Bits) ℓ) (g : Dev Cert.KernelLatFwd.nD → PrngReg), Pre_KernelLatFwd m →
    θ_run (Cert.KernelLatFwd.defs (F := Bits)) (onTc (τ := Cert.KernelLatFwd.τ) (Cert.KernelLatFwd.main (F := Bits))) ⟨m, fun _ => 0, g⟩ (fun r => (∀ c : Dev Cert.KernelLatFwd.nD,
      r.2.mem ((c.tc : Thread Cert.KernelLatFwd.nD Cert.KernelLatFwd.τ).loc Cert.KernelLatFwd.main_arg0) = m ((c.tc : Thread Cert.KernelLatFwd.nD Cert.KernelLatFwd.τ).loc Cert.KernelLatFwd.main_arg0)
      ∧ r.2.mem ((c.tc : Thread Cert.KernelLatFwd.nD Cert.KernelLatFwd.τ).loc Cert.KernelLatFwd.main_arg1) = m ((c.tc : Thread Cert.KernelLatFwd.nD Cert.KernelLatFwd.τ).loc Cert.KernelLatFwd.main_arg1)
      ∧ r.2.mem ((c.tc : Thread Cert.KernelLatFwd.nD Cert.KernelLatFwd.τ).loc Cert.KernelLatFwd.main_arg2) = m ((c.tc : Thread Cert.KernelLatFwd.nD Cert.KernelLatFwd.τ).loc Cert.KernelLatFwd.main_arg2)
      ∧ r.2.mem ((c.tc : Thread Cert.KernelLatFwd.nD Cert.KernelLatFwd.τ).loc Cert.KernelLatFwd.main_arg3) = m ((c.tc : Thread Cert.KernelLatFwd.nD Cert.KernelLatFwd.τ).loc Cert.KernelLatFwd.main_arg3))
      ∧ r.2.sem = fun _ => 0)

def quiescent_KernelLatFwdIdeal [hKernelLatFwdIdeal : Cert.KernelLatFwdIdeal.Facts] : Prop :=
  ∀ (m : (ℓ : Loc Cert.KernelLatFwdIdeal.nD Cert.KernelLatFwdIdeal.τ Cert.KernelLatFwdIdeal.sig) → Buf (Elt Ideal) ℓ) (g : Dev Cert.KernelLatFwdIdeal.nD → PrngReg), Pre_KernelLatFwdIdeal m →
    θ_run (Cert.KernelLatFwdIdeal.defs (F := Ideal)) (onTc (τ := Cert.KernelLatFwdIdeal.τ) (Cert.KernelLatFwdIdeal.main (F := Ideal))) ⟨m, fun _ => 0, g⟩ (fun r => (∀ c : Dev Cert.KernelLatFwdIdeal.nD,
      r.2.mem ((c.tc : Thread Cert.KernelLatFwdIdeal.nD Cert.KernelLatFwdIdeal.τ).loc Cert.KernelLatFwdIdeal.main_arg0) = m ((c.tc : Thread Cert.KernelLatFwdIdeal.nD Cert.KernelLatFwdIdeal.τ).loc Cert.KernelLatFwdIdeal.main_arg0)
      ∧ r.2.mem ((c.tc : Thread Cert.KernelLatFwdIdeal.nD Cert.KernelLatFwdIdeal.τ).loc Cert.KernelLatFwdIdeal.main_arg1) = m ((c.tc : Thread Cert.KernelLatFwdIdeal.nD Cert.KernelLatFwdIdeal.τ).loc Cert.KernelLatFwdIdeal.main_arg1)
      ∧ r.2.mem ((c.tc : Thread Cert.KernelLatFwdIdeal.nD Cert.KernelLatFwdIdeal.τ).loc Cert.KernelLatFwdIdeal.main_arg2) = m ((c.tc : Thread Cert.KernelLatFwdIdeal.nD Cert.KernelLatFwdIdeal.τ).loc Cert.KernelLatFwdIdeal.main_arg2)
      ∧ r.2.mem ((c.tc : Thread Cert.KernelLatFwdIdeal.nD Cert.KernelLatFwdIdeal.τ).loc Cert.KernelLatFwdIdeal.main_arg3) = m ((c.tc : Thread Cert.KernelLatFwdIdeal.nD Cert.KernelLatFwdIdeal.τ).loc Cert.KernelLatFwdIdeal.main_arg3))
      ∧ r.2.sem = fun _ => 0)

def quiescent_ReferenceLatFwdIdeal [hReferenceLatFwdIdeal : Cert.ReferenceLatFwdIdeal.Facts] : Prop :=
  ∀ (m : (ℓ : Loc Cert.ReferenceLatFwdIdeal.nD Cert.ReferenceLatFwdIdeal.τ Cert.ReferenceLatFwdIdeal.sig) → Buf (Elt Ideal) ℓ) (g : Dev Cert.ReferenceLatFwdIdeal.nD → PrngReg), Pre_ReferenceLatFwdIdeal m →
    θ_run (Cert.ReferenceLatFwdIdeal.defs (F := Ideal)) (onTc (τ := Cert.ReferenceLatFwdIdeal.τ) (Cert.ReferenceLatFwdIdeal.main (F := Ideal))) ⟨m, fun _ => 0, g⟩ (fun r => (∀ c : Dev Cert.ReferenceLatFwdIdeal.nD,
      r.2.mem ((c.tc : Thread Cert.ReferenceLatFwdIdeal.nD Cert.ReferenceLatFwdIdeal.τ).loc Cert.ReferenceLatFwdIdeal.main_arg0) = m ((c.tc : Thread Cert.ReferenceLatFwdIdeal.nD Cert.ReferenceLatFwdIdeal.τ).loc Cert.ReferenceLatFwdIdeal.main_arg0)
      ∧ r.2.mem ((c.tc : Thread Cert.ReferenceLatFwdIdeal.nD Cert.ReferenceLatFwdIdeal.τ).loc Cert.ReferenceLatFwdIdeal.main_arg1) = m ((c.tc : Thread Cert.ReferenceLatFwdIdeal.nD Cert.ReferenceLatFwdIdeal.τ).loc Cert.ReferenceLatFwdIdeal.main_arg1)
      ∧ r.2.mem ((c.tc : Thread Cert.ReferenceLatFwdIdeal.nD Cert.ReferenceLatFwdIdeal.τ).loc Cert.ReferenceLatFwdIdeal.main_arg2) = m ((c.tc : Thread Cert.ReferenceLatFwdIdeal.nD Cert.ReferenceLatFwdIdeal.τ).loc Cert.ReferenceLatFwdIdeal.main_arg2)
      ∧ r.2.mem ((c.tc : Thread Cert.ReferenceLatFwdIdeal.nD Cert.ReferenceLatFwdIdeal.τ).loc Cert.ReferenceLatFwdIdeal.main_arg3) = m ((c.tc : Thread Cert.ReferenceLatFwdIdeal.nD Cert.ReferenceLatFwdIdeal.τ).loc Cert.ReferenceLatFwdIdeal.main_arg3))
      ∧ r.2.sem = fun _ => 0)

def quiescent_KernelPoolFwd [hKernelPoolFwd : Cert.KernelPoolFwd.Facts] : Prop :=
  ∀ (m : (ℓ : Loc Cert.KernelPoolFwd.nD Cert.KernelPoolFwd.τ Cert.KernelPoolFwd.sig) → Buf (Elt Bits) ℓ) (g : Dev Cert.KernelPoolFwd.nD → PrngReg), Pre_KernelPoolFwd m →
    θ_run (Cert.KernelPoolFwd.defs (F := Bits)) (onTc (τ := Cert.KernelPoolFwd.τ) (Cert.KernelPoolFwd.main (F := Bits))) ⟨m, fun _ => 0, g⟩ (fun r => (∀ c : Dev Cert.KernelPoolFwd.nD,
      r.2.mem ((c.tc : Thread Cert.KernelPoolFwd.nD Cert.KernelPoolFwd.τ).loc Cert.KernelPoolFwd.main_arg0) = m ((c.tc : Thread Cert.KernelPoolFwd.nD Cert.KernelPoolFwd.τ).loc Cert.KernelPoolFwd.main_arg0)
      ∧ r.2.mem ((c.tc : Thread Cert.KernelPoolFwd.nD Cert.KernelPoolFwd.τ).loc Cert.KernelPoolFwd.main_arg1) = m ((c.tc : Thread Cert.KernelPoolFwd.nD Cert.KernelPoolFwd.τ).loc Cert.KernelPoolFwd.main_arg1)
      ∧ r.2.mem ((c.tc : Thread Cert.KernelPoolFwd.nD Cert.KernelPoolFwd.τ).loc Cert.KernelPoolFwd.main_arg2) = m ((c.tc : Thread Cert.KernelPoolFwd.nD Cert.KernelPoolFwd.τ).loc Cert.KernelPoolFwd.main_arg2))
      ∧ r.2.sem = fun _ => 0)

def quiescent_KernelPoolFwdIdeal [hKernelPoolFwdIdeal : Cert.KernelPoolFwdIdeal.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg), Pre_KernelPoolFwdIdeal m →
    θ_run (Cert.KernelPoolFwdIdeal.defs (F := Ideal)) (onTc (τ := Cert.KernelPoolFwdIdeal.τ) (Cert.KernelPoolFwdIdeal.main (F := Ideal))) ⟨m, fun _ => 0, g⟩ (fun r => (∀ c : Dev Cert.KernelPoolFwdIdeal.nD,
      r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
      ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
      ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ r.2.sem = fun _ => 0)

def quiescent_KernelPoolFwdIdeal_pre_finite_poolf [hKernelPoolFwdIdeal : Cert.KernelPoolFwdIdeal.Facts] [hPre_finite_poolf : Cert.Pre_finite_poolf.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg), Pre_KernelPoolFwdIdeal_finite_poolf m →
    θ_run (Cert.KernelPoolFwdIdeal.defs (F := Ideal)) (onTc (τ := Cert.KernelPoolFwdIdeal.τ) (Cert.KernelPoolFwdIdeal.main (F := Ideal))) ⟨m, fun _ => 0, g⟩ (fun r => (∀ c : Dev Cert.KernelPoolFwdIdeal.nD,
      r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
      ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
      ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ r.2.sem = fun _ => 0)

def quiescent_ReferencePoolFwdIdeal [hReferencePoolFwdIdeal : Cert.ReferencePoolFwdIdeal.Facts] : Prop :=
  ∀ (m : (ℓ : Loc Cert.ReferencePoolFwdIdeal.nD Cert.ReferencePoolFwdIdeal.τ Cert.ReferencePoolFwdIdeal.sig) → Buf (Elt Ideal) ℓ) (g : Dev Cert.ReferencePoolFwdIdeal.nD → PrngReg), Pre_ReferencePoolFwdIdeal m →
    θ_run (Cert.ReferencePoolFwdIdeal.defs (F := Ideal)) (onTc (τ := Cert.ReferencePoolFwdIdeal.τ) (Cert.ReferencePoolFwdIdeal.main (F := Ideal))) ⟨m, fun _ => 0, g⟩ (fun r => (∀ c : Dev Cert.ReferencePoolFwdIdeal.nD,
      r.2.mem ((c.tc : Thread Cert.ReferencePoolFwdIdeal.nD Cert.ReferencePoolFwdIdeal.τ).loc Cert.ReferencePoolFwdIdeal.main_arg0) = m ((c.tc : Thread Cert.ReferencePoolFwdIdeal.nD Cert.ReferencePoolFwdIdeal.τ).loc Cert.ReferencePoolFwdIdeal.main_arg0)
      ∧ r.2.mem ((c.tc : Thread Cert.ReferencePoolFwdIdeal.nD Cert.ReferencePoolFwdIdeal.τ).loc Cert.ReferencePoolFwdIdeal.main_arg1) = m ((c.tc : Thread Cert.ReferencePoolFwdIdeal.nD Cert.ReferencePoolFwdIdeal.τ).loc Cert.ReferencePoolFwdIdeal.main_arg1)
      ∧ r.2.mem ((c.tc : Thread Cert.ReferencePoolFwdIdeal.nD Cert.ReferencePoolFwdIdeal.τ).loc Cert.ReferencePoolFwdIdeal.main_arg2) = m ((c.tc : Thread Cert.ReferencePoolFwdIdeal.nD Cert.ReferencePoolFwdIdeal.τ).loc Cert.ReferencePoolFwdIdeal.main_arg2))
      ∧ r.2.sem = fun _ => 0)

def quiescent_ReferencePoolFwdIdeal_pre_finite_poolf [hReferencePoolFwdIdeal : Cert.ReferencePoolFwdIdeal.Facts] [hPre_finite_poolf : Cert.Pre_finite_poolf.Facts] : Prop :=
  ∀ (m : (ℓ : Loc Cert.ReferencePoolFwdIdeal.nD Cert.ReferencePoolFwdIdeal.τ Cert.ReferencePoolFwdIdeal.sig) → Buf (Elt Ideal) ℓ) (g : Dev Cert.ReferencePoolFwdIdeal.nD → PrngReg), Pre_ReferencePoolFwdIdeal_finite_poolf m →
    θ_run (Cert.ReferencePoolFwdIdeal.defs (F := Ideal)) (onTc (τ := Cert.ReferencePoolFwdIdeal.τ) (Cert.ReferencePoolFwdIdeal.main (F := Ideal))) ⟨m, fun _ => 0, g⟩ (fun r => (∀ c : Dev Cert.ReferencePoolFwdIdeal.nD,
      r.2.mem ((c.tc : Thread Cert.ReferencePoolFwdIdeal.nD Cert.ReferencePoolFwdIdeal.τ).loc Cert.ReferencePoolFwdIdeal.main_arg0) = m ((c.tc : Thread Cert.ReferencePoolFwdIdeal.nD Cert.ReferencePoolFwdIdeal.τ).loc Cert.ReferencePoolFwdIdeal.main_arg0)
      ∧ r.2.mem ((c.tc : Thread Cert.ReferencePoolFwdIdeal.nD Cert.ReferencePoolFwdIdeal.τ).loc Cert.ReferencePoolFwdIdeal.main_arg1) = m ((c.tc : Thread Cert.ReferencePoolFwdIdeal.nD Cert.ReferencePoolFwdIdeal.τ).loc Cert.ReferencePoolFwdIdeal.main_arg1)
      ∧ r.2.mem ((c.tc : Thread Cert.ReferencePoolFwdIdeal.nD Cert.ReferencePoolFwdIdeal.τ).loc Cert.ReferencePoolFwdIdeal.main_arg2) = m ((c.tc : Thread Cert.ReferencePoolFwdIdeal.nD Cert.ReferencePoolFwdIdeal.τ).loc Cert.ReferencePoolFwdIdeal.main_arg2))
      ∧ r.2.sem = fun _ => 0)

def quiescent_KernelSwap [hKernelSwap : Cert.KernelSwap.Facts] : Prop :=
  ∀ (m : (ℓ : Loc Cert.KernelSwap.nD Cert.KernelSwap.τ Cert.KernelSwap.sig) → Buf (Elt Bits) ℓ) (g : Dev Cert.KernelSwap.nD → PrngReg), Pre_KernelSwap m →
    θ_run (Cert.KernelSwap.defs (F := Bits)) (onTc (τ := Cert.KernelSwap.τ) (Cert.KernelSwap.main (F := Bits))) ⟨m, fun _ => 0, g⟩ (fun r => (∀ c : Dev Cert.KernelSwap.nD,
      r.2.mem ((c.tc : Thread Cert.KernelSwap.nD Cert.KernelSwap.τ).loc Cert.KernelSwap.main_arg0) = m ((c.tc : Thread Cert.KernelSwap.nD Cert.KernelSwap.τ).loc Cert.KernelSwap.main_arg0)
      ∧ r.2.mem ((c.tc : Thread Cert.KernelSwap.nD Cert.KernelSwap.τ).loc Cert.KernelSwap.main_arg1) = m ((c.tc : Thread Cert.KernelSwap.nD Cert.KernelSwap.τ).loc Cert.KernelSwap.main_arg1))
      ∧ r.2.sem = fun _ => 0)

def quiescent_KernelSwapIdeal [hKernelSwapIdeal : Cert.KernelSwapIdeal.Facts] : Prop :=
  ∀ (m : (ℓ : Loc Cert.KernelSwapIdeal.nD Cert.KernelSwapIdeal.τ Cert.KernelSwapIdeal.sig) → Buf (Elt Ideal) ℓ) (g : Dev Cert.KernelSwapIdeal.nD → PrngReg), Pre_KernelSwapIdeal m →
    θ_run (Cert.KernelSwapIdeal.defs (F := Ideal)) (onTc (τ := Cert.KernelSwapIdeal.τ) (Cert.KernelSwapIdeal.main (F := Ideal))) ⟨m, fun _ => 0, g⟩ (fun r => (∀ c : Dev Cert.KernelSwapIdeal.nD,
      r.2.mem ((c.tc : Thread Cert.KernelSwapIdeal.nD Cert.KernelSwapIdeal.τ).loc Cert.KernelSwapIdeal.main_arg0) = m ((c.tc : Thread Cert.KernelSwapIdeal.nD Cert.KernelSwapIdeal.τ).loc Cert.KernelSwapIdeal.main_arg0)
      ∧ r.2.mem ((c.tc : Thread Cert.KernelSwapIdeal.nD Cert.KernelSwapIdeal.τ).loc Cert.KernelSwapIdeal.main_arg1) = m ((c.tc : Thread Cert.KernelSwapIdeal.nD Cert.KernelSwapIdeal.τ).loc Cert.KernelSwapIdeal.main_arg1))
      ∧ r.2.sem = fun _ => 0)

def quiescent_ReferenceSwapIdeal [hReferenceSwapIdeal : Cert.ReferenceSwapIdeal.Facts] : Prop :=
  ∀ (m : (ℓ : Loc Cert.ReferenceSwapIdeal.nD Cert.ReferenceSwapIdeal.τ Cert.ReferenceSwapIdeal.sig) → Buf (Elt Ideal) ℓ) (g : Dev Cert.ReferenceSwapIdeal.nD → PrngReg), Pre_ReferenceSwapIdeal m →
    θ_run (Cert.ReferenceSwapIdeal.defs (F := Ideal)) (onTc (τ := Cert.ReferenceSwapIdeal.τ) (Cert.ReferenceSwapIdeal.main (F := Ideal))) ⟨m, fun _ => 0, g⟩ (fun r => (∀ c : Dev Cert.ReferenceSwapIdeal.nD,
      r.2.mem ((c.tc : Thread Cert.ReferenceSwapIdeal.nD Cert.ReferenceSwapIdeal.τ).loc Cert.ReferenceSwapIdeal.main_arg0) = m ((c.tc : Thread Cert.ReferenceSwapIdeal.nD Cert.ReferenceSwapIdeal.τ).loc Cert.ReferenceSwapIdeal.main_arg0)
      ∧ r.2.mem ((c.tc : Thread Cert.ReferenceSwapIdeal.nD Cert.ReferenceSwapIdeal.τ).loc Cert.ReferenceSwapIdeal.main_arg1) = m ((c.tc : Thread Cert.ReferenceSwapIdeal.nD Cert.ReferenceSwapIdeal.τ).loc Cert.ReferenceSwapIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelMixIn [hKernelMixIn : Cert.KernelMixIn.Facts] : Prop :=
  ∀ (m : (ℓ : Loc Cert.KernelMixIn.nD Cert.KernelMixIn.τ Cert.KernelMixIn.sig) → Buf (Elt Bits) ℓ) (g : Dev Cert.KernelMixIn.nD → PrngReg), Pre_KernelMixIn m →
    θ_run (Cert.KernelMixIn.defs (F := Bits)) (onTc (τ := Cert.KernelMixIn.τ) (Cert.KernelMixIn.main (F := Bits))) ⟨m, fun _ => 0, g⟩ (fun r => (∀ c : Dev Cert.KernelMixIn.nD,
      r.2.mem ((c.tc : Thread Cert.KernelMixIn.nD Cert.KernelMixIn.τ).loc Cert.KernelMixIn.main_arg0) = m ((c.tc : Thread Cert.KernelMixIn.nD Cert.KernelMixIn.τ).loc Cert.KernelMixIn.main_arg0)
      ∧ r.2.mem ((c.tc : Thread Cert.KernelMixIn.nD Cert.KernelMixIn.τ).loc Cert.KernelMixIn.main_arg1) = m ((c.tc : Thread Cert.KernelMixIn.nD Cert.KernelMixIn.τ).loc Cert.KernelMixIn.main_arg1))
      ∧ r.2.sem = fun _ => 0)

def quiescent_KernelMixInIdeal [hKernelMixInIdeal : Cert.KernelMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1))
      ∧ r.2.sem = fun _ => 0)

def quiescent_ReferenceMixInIdeal [hReferenceMixInIdeal : Cert.ReferenceMixInIdeal.Facts] : Prop :=
  ∀ (m : (ℓ : Loc Cert.ReferenceMixInIdeal.nD Cert.ReferenceMixInIdeal.τ Cert.ReferenceMixInIdeal.sig) → Buf (Elt Ideal) ℓ) (g : Dev Cert.ReferenceMixInIdeal.nD → PrngReg), Pre_ReferenceMixInIdeal m →
    θ_run (Cert.ReferenceMixInIdeal.defs (F := Ideal)) (onTc (τ := Cert.ReferenceMixInIdeal.τ) (Cert.ReferenceMixInIdeal.main (F := Ideal))) ⟨m, fun _ => 0, g⟩ (fun r => (∀ c : Dev Cert.ReferenceMixInIdeal.nD,
      r.2.mem ((c.tc : Thread Cert.ReferenceMixInIdeal.nD Cert.ReferenceMixInIdeal.τ).loc Cert.ReferenceMixInIdeal.main_arg0) = m ((c.tc : Thread Cert.ReferenceMixInIdeal.nD Cert.ReferenceMixInIdeal.τ).loc Cert.ReferenceMixInIdeal.main_arg0)
      ∧ r.2.mem ((c.tc : Thread Cert.ReferenceMixInIdeal.nD Cert.ReferenceMixInIdeal.τ).loc Cert.ReferenceMixInIdeal.main_arg1) = m ((c.tc : Thread Cert.ReferenceMixInIdeal.nD Cert.ReferenceMixInIdeal.τ).loc Cert.ReferenceMixInIdeal.main_arg1))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1)
      ∧ r.2.mem ((c.tc : Thread Cert.KernelUpDw.nD Cert.KernelUpDw.τ).loc Cert.KernelUpDw.main_arg2) = m ((c.tc : Thread Cert.KernelUpDw.nD Cert.KernelUpDw.τ).loc Cert.KernelUpDw.main_arg2))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1)
      ∧ r.2.mem ((c.tc : Thread Cert.KernelUpDwIdeal.nD Cert.KernelUpDwIdeal.τ).loc Cert.KernelUpDwIdeal.main_arg2) = m ((c.tc : Thread Cert.KernelUpDwIdeal.nD Cert.KernelUpDwIdeal.τ).loc Cert.KernelUpDwIdeal.main_arg2))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1)
      ∧ r.2.mem ((c.tc : Thread Cert.ReferenceUpDwIdeal.nD Cert.ReferenceUpDwIdeal.τ).loc Cert.ReferenceUpDwIdeal.main_arg2) = m ((c.tc : Thread Cert.ReferenceUpDwIdeal.nD Cert.ReferenceUpDwIdeal.τ).loc Cert.ReferenceUpDwIdeal.main_arg2))
      ∧ r.2.sem = fun _ => 0)

def quiescent_KernelAdamw [hKernelAdamw : Cert.KernelAdamw.Facts] : Prop :=
  ∀ (m : (ℓ : Loc Cert.KernelAdamw.nD Cert.KernelAdamw.τ Cert.KernelAdamw.sig) → Buf (Elt Bits) ℓ) (g : Dev Cert.KernelAdamw.nD → PrngReg), Pre_KernelAdamw m →
    θ_run (Cert.KernelAdamw.defs (F := Bits)) (onTc (τ := Cert.KernelAdamw.τ) (Cert.KernelAdamw.main (F := Bits))) ⟨m, fun _ => 0, g⟩ (fun r => (∀ c : Dev Cert.KernelAdamw.nD,
      r.2.mem ((c.tc : Thread Cert.KernelAdamw.nD Cert.KernelAdamw.τ).loc Cert.KernelAdamw.main_arg0) = m ((c.tc : Thread Cert.KernelAdamw.nD Cert.KernelAdamw.τ).loc Cert.KernelAdamw.main_arg0)
      ∧ r.2.mem ((c.tc : Thread Cert.KernelAdamw.nD Cert.KernelAdamw.τ).loc Cert.KernelAdamw.main_arg1) = m ((c.tc : Thread Cert.KernelAdamw.nD Cert.KernelAdamw.τ).loc Cert.KernelAdamw.main_arg1)
      ∧ r.2.mem ((c.tc : Thread Cert.KernelAdamw.nD Cert.KernelAdamw.τ).loc Cert.KernelAdamw.main_arg2) = m ((c.tc : Thread Cert.KernelAdamw.nD Cert.KernelAdamw.τ).loc Cert.KernelAdamw.main_arg2)
      ∧ r.2.mem ((c.tc : Thread Cert.KernelAdamw.nD Cert.KernelAdamw.τ).loc Cert.KernelAdamw.main_arg3) = m ((c.tc : Thread Cert.KernelAdamw.nD Cert.KernelAdamw.τ).loc Cert.KernelAdamw.main_arg3))
      ∧ r.2.sem = fun _ => 0)

def quiescent_KernelAdamwIdeal [hKernelAdamwIdeal : Cert.KernelAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg), Pre_KernelAdamwIdeal m →
    θ_run (Cert.KernelAdamwIdeal.defs (F := Ideal)) (onTc (τ := Cert.KernelAdamwIdeal.τ) (Cert.KernelAdamwIdeal.main (F := Ideal))) ⟨m, fun _ => 0, g⟩ (fun r => (∀ c : Dev Cert.KernelAdamwIdeal.nD,
      r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
      ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
      ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
      ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ r.2.sem = fun _ => 0)

def quiescent_ReferenceAdamwIdeal [hReferenceAdamwIdeal : Cert.ReferenceAdamwIdeal.Facts] : Prop :=
  ∀ (m : (ℓ : Loc Cert.ReferenceAdamwIdeal.nD Cert.ReferenceAdamwIdeal.τ Cert.ReferenceAdamwIdeal.sig) → Buf (Elt Ideal) ℓ) (g : Dev Cert.ReferenceAdamwIdeal.nD → PrngReg), Pre_ReferenceAdamwIdeal m →
    θ_run (Cert.ReferenceAdamwIdeal.defs (F := Ideal)) (onTc (τ := Cert.ReferenceAdamwIdeal.τ) (Cert.ReferenceAdamwIdeal.main (F := Ideal))) ⟨m, fun _ => 0, g⟩ (fun r => (∀ c : Dev Cert.ReferenceAdamwIdeal.nD,
      r.2.mem ((c.tc : Thread Cert.ReferenceAdamwIdeal.nD Cert.ReferenceAdamwIdeal.τ).loc Cert.ReferenceAdamwIdeal.main_arg0) = m ((c.tc : Thread Cert.ReferenceAdamwIdeal.nD Cert.ReferenceAdamwIdeal.τ).loc Cert.ReferenceAdamwIdeal.main_arg0)
      ∧ r.2.mem ((c.tc : Thread Cert.ReferenceAdamwIdeal.nD Cert.ReferenceAdamwIdeal.τ).loc Cert.ReferenceAdamwIdeal.main_arg1) = m ((c.tc : Thread Cert.ReferenceAdamwIdeal.nD Cert.ReferenceAdamwIdeal.τ).loc Cert.ReferenceAdamwIdeal.main_arg1)
      ∧ r.2.mem ((c.tc : Thread Cert.ReferenceAdamwIdeal.nD Cert.ReferenceAdamwIdeal.τ).loc Cert.ReferenceAdamwIdeal.main_arg2) = m ((c.tc : Thread Cert.ReferenceAdamwIdeal.nD Cert.ReferenceAdamwIdeal.τ).loc Cert.ReferenceAdamwIdeal.main_arg2)
      ∧ r.2.mem ((c.tc : Thread Cert.ReferenceAdamwIdeal.nD Cert.ReferenceAdamwIdeal.τ).loc Cert.ReferenceAdamwIdeal.main_arg3) = m ((c.tc : Thread Cert.ReferenceAdamwIdeal.nD Cert.ReferenceAdamwIdeal.τ).loc Cert.ReferenceAdamwIdeal.main_arg3))
      ∧ r.2.sem = fun _ => 0)

def quiescent_KernelChipSum [hKernelChipSum : Cert.KernelChipSum.Facts] : Prop :=
  ∀ (m : (ℓ : Loc Cert.KernelChipSum.nD Cert.KernelChipSum.τ Cert.KernelChipSum.sig) → Buf (Elt Bits) ℓ) (g : Dev Cert.KernelChipSum.nD → PrngReg), Pre_KernelChipSum m →
    θ_run (Cert.KernelChipSum.defs (F := Bits)) (onTc (τ := Cert.KernelChipSum.τ) (Cert.KernelChipSum.main (F := Bits))) ⟨m, fun _ => 0, g⟩ (fun r => (∀ c : Dev Cert.KernelChipSum.nD,
      r.2.mem ((c.tc : Thread Cert.KernelChipSum.nD Cert.KernelChipSum.τ).loc Cert.KernelChipSum.main_arg0) = m ((c.tc : Thread Cert.KernelChipSum.nD Cert.KernelChipSum.τ).loc Cert.KernelChipSum.main_arg0)
      ∧ r.2.mem ((c.tc : Thread Cert.KernelChipSum.nD Cert.KernelChipSum.τ).loc Cert.KernelChipSum.main_arg1) = m ((c.tc : Thread Cert.KernelChipSum.nD Cert.KernelChipSum.τ).loc Cert.KernelChipSum.main_arg1))
      ∧ r.2.sem = fun _ => 0)

def quiescent_KernelChipSumIdeal [hKernelChipSumIdeal : Cert.KernelChipSumIdeal.Facts] : Prop :=
  ∀ (m : (ℓ : Loc Cert.KernelChipSumIdeal.nD Cert.KernelChipSumIdeal.τ Cert.KernelChipSumIdeal.sig) → Buf (Elt Ideal) ℓ) (g : Dev Cert.KernelChipSumIdeal.nD → PrngReg), Pre_KernelChipSumIdeal m →
    θ_run (Cert.KernelChipSumIdeal.defs (F := Ideal)) (onTc (τ := Cert.KernelChipSumIdeal.τ) (Cert.KernelChipSumIdeal.main (F := Ideal))) ⟨m, fun _ => 0, g⟩ (fun r => (∀ c : Dev Cert.KernelChipSumIdeal.nD,
      r.2.mem ((c.tc : Thread Cert.KernelChipSumIdeal.nD Cert.KernelChipSumIdeal.τ).loc Cert.KernelChipSumIdeal.main_arg0) = m ((c.tc : Thread Cert.KernelChipSumIdeal.nD Cert.KernelChipSumIdeal.τ).loc Cert.KernelChipSumIdeal.main_arg0)
      ∧ r.2.mem ((c.tc : Thread Cert.KernelChipSumIdeal.nD Cert.KernelChipSumIdeal.τ).loc Cert.KernelChipSumIdeal.main_arg1) = m ((c.tc : Thread Cert.KernelChipSumIdeal.nD Cert.KernelChipSumIdeal.τ).loc Cert.KernelChipSumIdeal.main_arg1))
      ∧ r.2.sem = fun _ => 0)

def quiescent_ReferenceChipSumIdeal [hReferenceChipSumIdeal : Cert.ReferenceChipSumIdeal.Facts] : Prop :=
  ∀ (m : (ℓ : Loc Cert.ReferenceChipSumIdeal.nD Cert.ReferenceChipSumIdeal.τ Cert.ReferenceChipSumIdeal.sig) → Buf (Elt Ideal) ℓ) (g : Dev Cert.ReferenceChipSumIdeal.nD → PrngReg), Pre_ReferenceChipSumIdeal m →
    θ_run (Cert.ReferenceChipSumIdeal.defs (F := Ideal)) (onTc (τ := Cert.ReferenceChipSumIdeal.τ) (Cert.ReferenceChipSumIdeal.main (F := Ideal))) ⟨m, fun _ => 0, g⟩ (fun r => (∀ c : Dev Cert.ReferenceChipSumIdeal.nD,
      r.2.mem ((c.tc : Thread Cert.ReferenceChipSumIdeal.nD Cert.ReferenceChipSumIdeal.τ).loc Cert.ReferenceChipSumIdeal.main_arg0) = m ((c.tc : Thread Cert.ReferenceChipSumIdeal.nD Cert.ReferenceChipSumIdeal.τ).loc Cert.ReferenceChipSumIdeal.main_arg0)
      ∧ r.2.mem ((c.tc : Thread Cert.ReferenceChipSumIdeal.nD Cert.ReferenceChipSumIdeal.τ).loc Cert.ReferenceChipSumIdeal.main_arg1) = m ((c.tc : Thread Cert.ReferenceChipSumIdeal.nD Cert.ReferenceChipSumIdeal.τ).loc Cert.ReferenceChipSumIdeal.main_arg1))
      ∧ r.2.sem = fun _ => 0)

def quiescent_KernelFinalSum [hKernelFinalSum : Cert.KernelFinalSum.Facts] : Prop :=
  ∀ (m : (ℓ : Loc Cert.KernelFinalSum.nD Cert.KernelFinalSum.τ Cert.KernelFinalSum.sig) → Buf (Elt Bits) ℓ) (g : Dev Cert.KernelFinalSum.nD → PrngReg), Pre_KernelFinalSum m →
    θ_run (Cert.KernelFinalSum.defs (F := Bits)) (onTc (τ := Cert.KernelFinalSum.τ) (Cert.KernelFinalSum.main (F := Bits))) ⟨m, fun _ => 0, g⟩ (fun r => (∀ c : Dev Cert.KernelFinalSum.nD,
      r.2.mem ((c.tc : Thread Cert.KernelFinalSum.nD Cert.KernelFinalSum.τ).loc Cert.KernelFinalSum.main_arg0) = m ((c.tc : Thread Cert.KernelFinalSum.nD Cert.KernelFinalSum.τ).loc Cert.KernelFinalSum.main_arg0)
      ∧ r.2.mem ((c.tc : Thread Cert.KernelFinalSum.nD Cert.KernelFinalSum.τ).loc Cert.KernelFinalSum.main_arg1) = m ((c.tc : Thread Cert.KernelFinalSum.nD Cert.KernelFinalSum.τ).loc Cert.KernelFinalSum.main_arg1)
      ∧ r.2.mem ((c.tc : Thread Cert.KernelFinalSum.nD Cert.KernelFinalSum.τ).loc Cert.KernelFinalSum.main_arg2) = m ((c.tc : Thread Cert.KernelFinalSum.nD Cert.KernelFinalSum.τ).loc Cert.KernelFinalSum.main_arg2)
      ∧ r.2.mem ((c.tc : Thread Cert.KernelFinalSum.nD Cert.KernelFinalSum.τ).loc Cert.KernelFinalSum.main_arg3) = m ((c.tc : Thread Cert.KernelFinalSum.nD Cert.KernelFinalSum.τ).loc Cert.KernelFinalSum.main_arg3))
      ∧ r.2.sem = fun _ => 0)

def quiescent_KernelFinalSumIdeal [hKernelFinalSumIdeal : Cert.KernelFinalSumIdeal.Facts] : Prop :=
  ∀ (m : (ℓ : Loc Cert.KernelFinalSumIdeal.nD Cert.KernelFinalSumIdeal.τ Cert.KernelFinalSumIdeal.sig) → Buf (Elt Ideal) ℓ) (g : Dev Cert.KernelFinalSumIdeal.nD → PrngReg), Pre_KernelFinalSumIdeal m →
    θ_run (Cert.KernelFinalSumIdeal.defs (F := Ideal)) (onTc (τ := Cert.KernelFinalSumIdeal.τ) (Cert.KernelFinalSumIdeal.main (F := Ideal))) ⟨m, fun _ => 0, g⟩ (fun r => (∀ c : Dev Cert.KernelFinalSumIdeal.nD,
      r.2.mem ((c.tc : Thread Cert.KernelFinalSumIdeal.nD Cert.KernelFinalSumIdeal.τ).loc Cert.KernelFinalSumIdeal.main_arg0) = m ((c.tc : Thread Cert.KernelFinalSumIdeal.nD Cert.KernelFinalSumIdeal.τ).loc Cert.KernelFinalSumIdeal.main_arg0)
      ∧ r.2.mem ((c.tc : Thread Cert.KernelFinalSumIdeal.nD Cert.KernelFinalSumIdeal.τ).loc Cert.KernelFinalSumIdeal.main_arg1) = m ((c.tc : Thread Cert.KernelFinalSumIdeal.nD Cert.KernelFinalSumIdeal.τ).loc Cert.KernelFinalSumIdeal.main_arg1)
      ∧ r.2.mem ((c.tc : Thread Cert.KernelFinalSumIdeal.nD Cert.KernelFinalSumIdeal.τ).loc Cert.KernelFinalSumIdeal.main_arg2) = m ((c.tc : Thread Cert.KernelFinalSumIdeal.nD Cert.KernelFinalSumIdeal.τ).loc Cert.KernelFinalSumIdeal.main_arg2)
      ∧ r.2.mem ((c.tc : Thread Cert.KernelFinalSumIdeal.nD Cert.KernelFinalSumIdeal.τ).loc Cert.KernelFinalSumIdeal.main_arg3) = m ((c.tc : Thread Cert.KernelFinalSumIdeal.nD Cert.KernelFinalSumIdeal.τ).loc Cert.KernelFinalSumIdeal.main_arg3))
      ∧ r.2.sem = fun _ => 0)

def quiescent_ReferenceFinalSumIdeal [hReferenceFinalSumIdeal : Cert.ReferenceFinalSumIdeal.Facts] : Prop :=
  ∀ (m : (ℓ : Loc Cert.ReferenceFinalSumIdeal.nD Cert.ReferenceFinalSumIdeal.τ Cert.ReferenceFinalSumIdeal.sig) → Buf (Elt Ideal) ℓ) (g : Dev Cert.ReferenceFinalSumIdeal.nD → PrngReg), Pre_ReferenceFinalSumIdeal m →
    θ_run (Cert.ReferenceFinalSumIdeal.defs (F := Ideal)) (onTc (τ := Cert.ReferenceFinalSumIdeal.τ) (Cert.ReferenceFinalSumIdeal.main (F := Ideal))) ⟨m, fun _ => 0, g⟩ (fun r => (∀ c : Dev Cert.ReferenceFinalSumIdeal.nD,
      r.2.mem ((c.tc : Thread Cert.ReferenceFinalSumIdeal.nD Cert.ReferenceFinalSumIdeal.τ).loc Cert.ReferenceFinalSumIdeal.main_arg0) = m ((c.tc : Thread Cert.ReferenceFinalSumIdeal.nD Cert.ReferenceFinalSumIdeal.τ).loc Cert.ReferenceFinalSumIdeal.main_arg0)
      ∧ r.2.mem ((c.tc : Thread Cert.ReferenceFinalSumIdeal.nD Cert.ReferenceFinalSumIdeal.τ).loc Cert.ReferenceFinalSumIdeal.main_arg1) = m ((c.tc : Thread Cert.ReferenceFinalSumIdeal.nD Cert.ReferenceFinalSumIdeal.τ).loc Cert.ReferenceFinalSumIdeal.main_arg1)
      ∧ r.2.mem ((c.tc : Thread Cert.ReferenceFinalSumIdeal.nD Cert.ReferenceFinalSumIdeal.τ).loc Cert.ReferenceFinalSumIdeal.main_arg2) = m ((c.tc : Thread Cert.ReferenceFinalSumIdeal.nD Cert.ReferenceFinalSumIdeal.τ).loc Cert.ReferenceFinalSumIdeal.main_arg2)
      ∧ r.2.mem ((c.tc : Thread Cert.ReferenceFinalSumIdeal.nD Cert.ReferenceFinalSumIdeal.τ).loc Cert.ReferenceFinalSumIdeal.main_arg3) = m ((c.tc : Thread Cert.ReferenceFinalSumIdeal.nD Cert.ReferenceFinalSumIdeal.τ).loc Cert.ReferenceFinalSumIdeal.main_arg3))
      ∧ r.2.sem = fun _ => 0)

def quiescent_KernelPlaceOwn [hKernelPlaceOwn : Cert.KernelPlaceOwn.Facts] : Prop :=
  ∀ (m : (ℓ : Loc Cert.KernelPlaceOwn.nD Cert.KernelPlaceOwn.τ Cert.KernelPlaceOwn.sig) → Buf (Elt Bits) ℓ) (g : Dev Cert.KernelPlaceOwn.nD → PrngReg), Pre_KernelPlaceOwn m →
    θ_run (Cert.KernelPlaceOwn.defs (F := Bits)) (onTc (τ := Cert.KernelPlaceOwn.τ) (Cert.KernelPlaceOwn.main (F := Bits))) ⟨m, fun _ => 0, g⟩ (fun r => (∀ c : Dev Cert.KernelPlaceOwn.nD,
      r.2.mem ((c.tc : Thread Cert.KernelPlaceOwn.nD Cert.KernelPlaceOwn.τ).loc Cert.KernelPlaceOwn.main_arg0) = m ((c.tc : Thread Cert.KernelPlaceOwn.nD Cert.KernelPlaceOwn.τ).loc Cert.KernelPlaceOwn.main_arg0)
      ∧ r.2.mem ((c.tc : Thread Cert.KernelPlaceOwn.nD Cert.KernelPlaceOwn.τ).loc Cert.KernelPlaceOwn.main_arg1) = m ((c.tc : Thread Cert.KernelPlaceOwn.nD Cert.KernelPlaceOwn.τ).loc Cert.KernelPlaceOwn.main_arg1)
      ∧ r.2.mem ((c.tc : Thread Cert.KernelPlaceOwn.nD Cert.KernelPlaceOwn.τ).loc Cert.KernelPlaceOwn.main_arg2) = m ((c.tc : Thread Cert.KernelPlaceOwn.nD Cert.KernelPlaceOwn.τ).loc Cert.KernelPlaceOwn.main_arg2)
      ∧ r.2.mem ((c.tc : Thread Cert.KernelPlaceOwn.nD Cert.KernelPlaceOwn.τ).loc Cert.KernelPlaceOwn.main_arg3) = m ((c.tc : Thread Cert.KernelPlaceOwn.nD Cert.KernelPlaceOwn.τ).loc Cert.KernelPlaceOwn.main_arg3))
      ∧ r.2.sem = fun _ => 0)

def quiescent_KernelPlaceOwnIdeal [hKernelPlaceOwnIdeal : Cert.KernelPlaceOwnIdeal.Facts] : Prop :=
  ∀ (m : (ℓ : Loc Cert.KernelPlaceOwnIdeal.nD Cert.KernelPlaceOwnIdeal.τ Cert.KernelPlaceOwnIdeal.sig) → Buf (Elt Ideal) ℓ) (g : Dev Cert.KernelPlaceOwnIdeal.nD → PrngReg), Pre_KernelPlaceOwnIdeal m →
    θ_run (Cert.KernelPlaceOwnIdeal.defs (F := Ideal)) (onTc (τ := Cert.KernelPlaceOwnIdeal.τ) (Cert.KernelPlaceOwnIdeal.main (F := Ideal))) ⟨m, fun _ => 0, g⟩ (fun r => (∀ c : Dev Cert.KernelPlaceOwnIdeal.nD,
      r.2.mem ((c.tc : Thread Cert.KernelPlaceOwnIdeal.nD Cert.KernelPlaceOwnIdeal.τ).loc Cert.KernelPlaceOwnIdeal.main_arg0) = m ((c.tc : Thread Cert.KernelPlaceOwnIdeal.nD Cert.KernelPlaceOwnIdeal.τ).loc Cert.KernelPlaceOwnIdeal.main_arg0)
      ∧ r.2.mem ((c.tc : Thread Cert.KernelPlaceOwnIdeal.nD Cert.KernelPlaceOwnIdeal.τ).loc Cert.KernelPlaceOwnIdeal.main_arg1) = m ((c.tc : Thread Cert.KernelPlaceOwnIdeal.nD Cert.KernelPlaceOwnIdeal.τ).loc Cert.KernelPlaceOwnIdeal.main_arg1)
      ∧ r.2.mem ((c.tc : Thread Cert.KernelPlaceOwnIdeal.nD Cert.KernelPlaceOwnIdeal.τ).loc Cert.KernelPlaceOwnIdeal.main_arg2) = m ((c.tc : Thread Cert.KernelPlaceOwnIdeal.nD Cert.KernelPlaceOwnIdeal.τ).loc Cert.KernelPlaceOwnIdeal.main_arg2)
      ∧ r.2.mem ((c.tc : Thread Cert.KernelPlaceOwnIdeal.nD Cert.KernelPlaceOwnIdeal.τ).loc Cert.KernelPlaceOwnIdeal.main_arg3) = m ((c.tc : Thread Cert.KernelPlaceOwnIdeal.nD Cert.KernelPlaceOwnIdeal.τ).loc Cert.KernelPlaceOwnIdeal.main_arg3))
      ∧ r.2.sem = fun _ => 0)

def quiescent_ReferencePlaceOwnIdeal [hReferencePlaceOwnIdeal : Cert.ReferencePlaceOwnIdeal.Facts] : Prop :=
  ∀ (m : (ℓ : Loc Cert.ReferencePlaceOwnIdeal.nD Cert.ReferencePlaceOwnIdeal.τ Cert.ReferencePlaceOwnIdeal.sig) → Buf (Elt Ideal) ℓ) (g : Dev Cert.ReferencePlaceOwnIdeal.nD → PrngReg), Pre_ReferencePlaceOwnIdeal m →
    θ_run (Cert.ReferencePlaceOwnIdeal.defs (F := Ideal)) (onTc (τ := Cert.ReferencePlaceOwnIdeal.τ) (Cert.ReferencePlaceOwnIdeal.main (F := Ideal))) ⟨m, fun _ => 0, g⟩ (fun r => (∀ c : Dev Cert.ReferencePlaceOwnIdeal.nD,
      r.2.mem ((c.tc : Thread Cert.ReferencePlaceOwnIdeal.nD Cert.ReferencePlaceOwnIdeal.τ).loc Cert.ReferencePlaceOwnIdeal.main_arg0) = m ((c.tc : Thread Cert.ReferencePlaceOwnIdeal.nD Cert.ReferencePlaceOwnIdeal.τ).loc Cert.ReferencePlaceOwnIdeal.main_arg0)
      ∧ r.2.mem ((c.tc : Thread Cert.ReferencePlaceOwnIdeal.nD Cert.ReferencePlaceOwnIdeal.τ).loc Cert.ReferencePlaceOwnIdeal.main_arg1) = m ((c.tc : Thread Cert.ReferencePlaceOwnIdeal.nD Cert.ReferencePlaceOwnIdeal.τ).loc Cert.ReferencePlaceOwnIdeal.main_arg1)
      ∧ r.2.mem ((c.tc : Thread Cert.ReferencePlaceOwnIdeal.nD Cert.ReferencePlaceOwnIdeal.τ).loc Cert.ReferencePlaceOwnIdeal.main_arg2) = m ((c.tc : Thread Cert.ReferencePlaceOwnIdeal.nD Cert.ReferencePlaceOwnIdeal.τ).loc Cert.ReferencePlaceOwnIdeal.main_arg2)
      ∧ r.2.mem ((c.tc : Thread Cert.ReferencePlaceOwnIdeal.nD Cert.ReferencePlaceOwnIdeal.τ).loc Cert.ReferencePlaceOwnIdeal.main_arg3) = m ((c.tc : Thread Cert.ReferencePlaceOwnIdeal.nD Cert.ReferencePlaceOwnIdeal.τ).loc Cert.ReferencePlaceOwnIdeal.main_arg3))
      ∧ r.2.sem = fun _ => 0)

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)
      ∧ m' ((c.tc : Thread Cert.ReferenceGateIdeal.nD Cert.ReferenceGateIdeal.τ).loc Cert.ReferenceGateIdeal.main_arg5) = m ((c.tc : Thread Cert.KernelGateIdeal.nD Cert.KernelGateIdeal.τ).loc Cert.KernelGateIdeal.main_arg5)) →
    ∃ (v0 : (c : Dev Cert.KernelGateIdeal.nD) → Buf (Elt Ideal) ((c.tc : Thread Cert.KernelGateIdeal.nD Cert.KernelGateIdeal.τ).loc Cert.KernelGateIdeal.main_v5_0)) (v1 : (c : Dev Cert.KernelGateIdeal.nD) → Buf (Elt Ideal) ((c.tc : Thread Cert.KernelGateIdeal.nD Cert.KernelGateIdeal.τ).loc Cert.KernelGateIdeal.main_v5_1)) (v2 : (c : Dev Cert.KernelGateIdeal.nD) → Buf (Elt Ideal) ((c.tc : Thread Cert.KernelGateIdeal.nD Cert.KernelGateIdeal.τ).loc Cert.KernelGateIdeal.main_v5_2)) (v3 : (c : Dev Cert.KernelGateIdeal.nD) → Buf (Elt Ideal) ((c.tc : Thread Cert.KernelGateIdeal.nD Cert.KernelGateIdeal.τ).loc Cert.KernelGateIdeal.main_v5_3)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v5_0) = v0 c
          ∧ r.2.mem ((c.tc : Thread Cert.KernelGateIdeal.nD Cert.KernelGateIdeal.τ).loc Cert.KernelGateIdeal.main_v5_1) = v1 c
          ∧ r.2.mem ((c.tc : Thread Cert.KernelGateIdeal.nD Cert.KernelGateIdeal.τ).loc Cert.KernelGateIdeal.main_v5_2) = v2 c
          ∧ r.2.mem ((c.tc : Thread Cert.KernelGateIdeal.nD Cert.KernelGateIdeal.τ).loc Cert.KernelGateIdeal.main_v5_3) = v3 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4)
          ∧ r.2.mem ((c.tc : Thread Cert.KernelGateIdeal.nD Cert.KernelGateIdeal.τ).loc Cert.KernelGateIdeal.main_arg5) = m ((c.tc : Thread Cert.KernelGateIdeal.nD Cert.KernelGateIdeal.τ).loc Cert.KernelGateIdeal.main_arg5))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v36) = v0 c
          ∧ r.2.mem ((c.tc : Thread Cert.ReferenceGateIdeal.nD Cert.ReferenceGateIdeal.τ).loc Cert.ReferenceGateIdeal.main_v37) = v1 c
          ∧ r.2.mem ((c.tc : Thread Cert.ReferenceGateIdeal.nD Cert.ReferenceGateIdeal.τ).loc Cert.ReferenceGateIdeal.main_v38) = v2 c
          ∧ r.2.mem ((c.tc : Thread Cert.ReferenceGateIdeal.nD Cert.ReferenceGateIdeal.τ).loc Cert.ReferenceGateIdeal.main_v39) = v3 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4)
          ∧ r.2.mem ((c.tc : Thread Cert.ReferenceGateIdeal.nD Cert.ReferenceGateIdeal.τ).loc Cert.ReferenceGateIdeal.main_arg5) = m' ((c.tc : Thread Cert.ReferenceGateIdeal.nD Cert.ReferenceGateIdeal.τ).loc Cert.ReferenceGateIdeal.main_arg5))

def preserves_KernelAttn_KernelAttnIdeal : Prop :=
  IdealRules.named_const.Statement Cert.KernelAttnIdeal.κ "mask" .f32 0xF149F2CA#32 ⊥

def algebraic_KernelAttnIdeal_ReferenceAttnIdeal_on_head_columns_pre_finite_attn [hKernelAttnIdeal : Cert.KernelAttnIdeal.Facts] [hReferenceAttnIdeal : Cert.ReferenceAttnIdeal.Facts] [hPre_finite_attn : Cert.Pre_finite_attn.Facts] [hOn_head_columns : Cert.On_head_columns.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)) →
    ∃ (v0 : (c : Dev Cert.KernelAttnIdeal.nD) → Buf (Elt Ideal) ((c.tc : Thread Cert.KernelAttnIdeal.nD Cert.KernelAttnIdeal.τ).loc Cert.KernelAttnIdeal.main_v36_0)) (v1 : (c : Dev Cert.KernelAttnIdeal.nD) → Buf (Elt Ideal) ((c.tc : Thread Cert.KernelAttnIdeal.nD Cert.KernelAttnIdeal.τ).loc Cert.KernelAttnIdeal.main_v36_1)) (v2 : (c : Dev Cert.KernelAttnIdeal.nD) → Buf (Elt Ideal) ((c.tc : Thread Cert.KernelAttnIdeal.nD Cert.KernelAttnIdeal.τ).loc Cert.KernelAttnIdeal.main_v36_2)) (v3 : (c : Dev Cert.KernelAttnIdeal.nD) → Buf (Elt Ideal) ((c.tc : Thread Cert.KernelAttnIdeal.nD Cert.KernelAttnIdeal.τ).loc Cert.KernelAttnIdeal.main_v33_0)) (v4 : (c : Dev Cert.KernelAttnIdeal.nD) → Buf (Elt Ideal) ((c.tc : Thread Cert.KernelAttnIdeal.nD Cert.KernelAttnIdeal.τ).loc Cert.KernelAttnIdeal.main_v33_1)) (v5 : (c : Dev Cert.KernelAttnIdeal.nD) → Buf (Elt Ideal) ((c.tc : Thread Cert.KernelAttnIdeal.nD Cert.KernelAttnIdeal.τ).loc Cert.KernelAttnIdeal.main_v33_2)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          (∀ i : (⟨2, ![4096, 2048]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).1 i = 1#1 → r.2.mem ((c.tc : Thread Cert.KernelAttnIdeal.nD Cert.KernelAttnIdeal.τ).loc Cert.KernelAttnIdeal.main_v36_0) i = v0 c i)
          ∧ (∀ i : (⟨2, ![4096, 2048]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.1 i = 1#1 → r.2.mem ((c.tc : Thread Cert.KernelAttnIdeal.nD Cert.KernelAttnIdeal.τ).loc Cert.KernelAttnIdeal.main_v36_1) i = v1 c i)
          ∧ (∀ i : (⟨2, ![4096, 128]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.1 i = 1#1 → r.2.mem ((c.tc : Thread Cert.KernelAttnIdeal.nD Cert.KernelAttnIdeal.τ).loc Cert.KernelAttnIdeal.main_v36_2) i = v2 c i)
          ∧ (∀ i : (⟨2, ![4096, 1024]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.2.1 i = 1#1 → r.2.mem ((c.tc : Thread Cert.KernelAttnIdeal.nD Cert.KernelAttnIdeal.τ).loc Cert.KernelAttnIdeal.main_v33_0) i = v3 c i)
          ∧ (∀ i : (⟨3, ![8, 4096, 1]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.2.2.1 i = 1#1 → r.2.mem ((c.tc : Thread Cert.KernelAttnIdeal.nD Cert.KernelAttnIdeal.τ).loc Cert.KernelAttnIdeal.main_v33_1) i = v4 c i)
          ∧ (∀ i : (⟨2, ![4096, 2048]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.2.2.2 i = 1#1 → r.2.mem ((c.tc : Thread Cert.KernelAttnIdeal.nD Cert.KernelAttnIdeal.τ).loc Cert.KernelAttnIdeal.main_v33_2) i = v5 c i)
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          (∀ i : (⟨2, ![4096, 2048]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).1 i = 1#1 → r.2.mem ((c.tc : Thread Cert.ReferenceAttnIdeal.nD Cert.ReferenceAttnIdeal.τ).loc Cert.ReferenceAttnIdeal.main_v155) i = v0 c i)
          ∧ (∀ i : (⟨2, ![4096, 2048]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.1 i = 1#1 → r.2.mem ((c.tc : Thread Cert.ReferenceAttnIdeal.nD Cert.ReferenceAttnIdeal.τ).loc Cert.ReferenceAttnIdeal.main_v157) i = v1 c i)
          ∧ (∀ i : (⟨2, ![4096, 128]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.1 i = 1#1 → r.2.mem ((c.tc : Thread Cert.ReferenceAttnIdeal.nD Cert.ReferenceAttnIdeal.τ).loc Cert.ReferenceAttnIdeal.main_v149) i = v2 c i)
          ∧ (∀ i : (⟨2, ![4096, 1024]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.2.1 i = 1#1 → r.2.mem ((c.tc : Thread Cert.ReferenceAttnIdeal.nD Cert.ReferenceAttnIdeal.τ).loc Cert.ReferenceAttnIdeal.main_v159) i = v3 c i)
          ∧ (∀ i : (⟨3, ![8, 4096, 1]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.2.2.1 i = 1#1 → r.2.mem ((c.tc : Thread Cert.ReferenceAttnIdeal.nD Cert.ReferenceAttnIdeal.τ).loc Cert.ReferenceAttnIdeal.main_v151) i = v4 c i)
          ∧ (∀ i : (⟨2, ![4096, 2048]⟩ : Shape).Idx, (Cert.On_head_columns.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.2.2.2 i = 1#1 → r.2.mem ((c.tc : Thread Cert.ReferenceAttnIdeal.nD Cert.ReferenceAttnIdeal.τ).loc Cert.ReferenceAttnIdeal.main_v160) i = v5 c i)
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4))

def preserves_KernelPool_KernelPoolIdeal : Prop :=
  True

def algebraic_KernelPoolIdeal_ReferencePoolIdeal_pre_finite_pool [hKernelPoolIdeal : Cert.KernelPoolIdeal.Facts] [hReferencePoolIdeal : Cert.ReferencePoolIdeal.Facts] [hPre_finite_pool : Cert.Pre_finite_pool.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_finite_pool m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)) →
    ∃ (v0 : (c : Dev Cert.KernelPoolIdeal.nD) → Buf (Elt Ideal) ((c.tc : Thread Cert.KernelPoolIdeal.nD Cert.KernelPoolIdeal.τ).loc Cert.KernelPoolIdeal.main_v4_0)) (v1 : (c : Dev Cert.KernelPoolIdeal.nD) → Buf (Elt Ideal) ((c.tc : Thread Cert.KernelPoolIdeal.nD Cert.KernelPoolIdeal.τ).loc Cert.KernelPoolIdeal.main_v4_1)) (v2 : (c : Dev Cert.KernelPoolIdeal.nD) → Buf (Elt Ideal) ((c.tc : Thread Cert.KernelPoolIdeal.nD Cert.KernelPoolIdeal.τ).loc Cert.KernelPoolIdeal.main_v4_2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v4_0) = v0 c
          ∧ r.2.mem ((c.tc : Thread Cert.KernelPoolIdeal.nD Cert.KernelPoolIdeal.τ).loc Cert.KernelPoolIdeal.main_v4_1) = v1 c
          ∧ r.2.mem ((c.tc : Thread Cert.KernelPoolIdeal.nD Cert.KernelPoolIdeal.τ).loc Cert.KernelPoolIdeal.main_v4_2) = v2 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v80) = v0 c
          ∧ r.2.mem ((c.tc : Thread Cert.ReferencePoolIdeal.nD Cert.ReferencePoolIdeal.τ).loc Cert.ReferencePoolIdeal.main_v65) = v1 c
          ∧ r.2.mem ((c.tc : Thread Cert.ReferencePoolIdeal.nD Cert.ReferencePoolIdeal.τ).loc Cert.ReferencePoolIdeal.main_v81) = v2 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3))

def preserves_KernelLat_KernelLatIdeal : Prop :=
  True

def algebraic_KernelLatIdeal_ReferenceLatIdeal_on_lat_columns [hKernelLatIdeal : Cert.KernelLatIdeal.Facts] [hReferenceLatIdeal : Cert.ReferenceLatIdeal.Facts] [hOn_lat_columns : Cert.On_lat_columns.Facts] : Prop :=
  ∀ (m : (ℓ : Loc Cert.KernelLatIdeal.nD Cert.KernelLatIdeal.τ Cert.KernelLatIdeal.sig) → Buf (Elt Ideal) ℓ) (g : Dev Cert.KernelLatIdeal.nD → PrngReg)
    (m' : (ℓ : Loc Cert.ReferenceLatIdeal.nD Cert.ReferenceLatIdeal.τ Cert.ReferenceLatIdeal.sig) → Buf (Elt Ideal) ℓ) (g' : Dev Cert.ReferenceLatIdeal.nD → PrngReg), Pre_KernelLatIdeal m →
    (∀ c : Dev Cert.KernelLatIdeal.nD,
      m' ((c.tc : Thread Cert.ReferenceLatIdeal.nD Cert.ReferenceLatIdeal.τ).loc Cert.ReferenceLatIdeal.main_arg0) = m ((c.tc : Thread Cert.KernelLatIdeal.nD Cert.KernelLatIdeal.τ).loc Cert.KernelLatIdeal.main_arg0)
      ∧ m' ((c.tc : Thread Cert.ReferenceLatIdeal.nD Cert.ReferenceLatIdeal.τ).loc Cert.ReferenceLatIdeal.main_arg1) = m ((c.tc : Thread Cert.KernelLatIdeal.nD Cert.KernelLatIdeal.τ).loc Cert.KernelLatIdeal.main_arg1)
      ∧ m' ((c.tc : Thread Cert.ReferenceLatIdeal.nD Cert.ReferenceLatIdeal.τ).loc Cert.ReferenceLatIdeal.main_arg2) = m ((c.tc : Thread Cert.KernelLatIdeal.nD Cert.KernelLatIdeal.τ).loc Cert.KernelLatIdeal.main_arg2)
      ∧ m' ((c.tc : Thread Cert.ReferenceLatIdeal.nD Cert.ReferenceLatIdeal.τ).loc Cert.ReferenceLatIdeal.main_arg3) = m ((c.tc : Thread Cert.KernelLatIdeal.nD Cert.KernelLatIdeal.τ).loc Cert.KernelLatIdeal.main_arg3)
      ∧ m' ((c.tc : Thread Cert.ReferenceLatIdeal.nD Cert.ReferenceLatIdeal.τ).loc Cert.ReferenceLatIdeal.main_arg4) = m ((c.tc : Thread Cert.KernelLatIdeal.nD Cert.KernelLatIdeal.τ).loc Cert.KernelLatIdeal.main_arg4)
      ∧ m' ((c.tc : Thread Cert.ReferenceLatIdeal.nD Cert.ReferenceLatIdeal.τ).loc Cert.ReferenceLatIdeal.main_arg5) = m ((c.tc : Thread Cert.KernelLatIdeal.nD Cert.KernelLatIdeal.τ).loc Cert.KernelLatIdeal.main_arg5)
      ∧ m' ((c.tc : Thread Cert.ReferenceLatIdeal.nD Cert.ReferenceLatIdeal.τ).loc Cert.ReferenceLatIdeal.main_arg6) = m ((c.tc : Thread Cert.KernelLatIdeal.nD Cert.KernelLatIdeal.τ).loc Cert.KernelLatIdeal.main_arg6)) →
    ∃ (v0 : (c : Dev Cert.KernelLatIdeal.nD) → Buf (Elt Ideal) ((c.tc : Thread Cert.KernelLatIdeal.nD Cert.KernelLatIdeal.τ).loc Cert.KernelLatIdeal.main_v25_0)) (v1 : (c : Dev Cert.KernelLatIdeal.nD) → Buf (Elt Ideal) ((c.tc : Thread Cert.KernelLatIdeal.nD Cert.KernelLatIdeal.τ).loc Cert.KernelLatIdeal.main_v25_1)) (v2 : (c : Dev Cert.KernelLatIdeal.nD) → Buf (Elt Ideal) ((c.tc : Thread Cert.KernelLatIdeal.nD Cert.KernelLatIdeal.τ).loc Cert.KernelLatIdeal.main_v25_2)),
      θ_run (Cert.KernelLatIdeal.defs (F := Ideal)) (onTc (τ := Cert.KernelLatIdeal.τ) (Cert.KernelLatIdeal.main (F := Ideal))) ⟨m, fun _ => 0, g⟩ (fun r => ∀ c : Dev Cert.KernelLatIdeal.nD,
          (∀ i : (⟨2, ![4096, 768]⟩ : Shape).Idx, (Cert.On_lat_columns.fn (F := Ideal) (m ((c.tc : Thread Cert.KernelLatIdeal.nD Cert.KernelLatIdeal.τ).loc Cert.KernelLatIdeal.main_arg0)) (m ((c.tc : Thread Cert.KernelLatIdeal.nD Cert.KernelLatIdeal.τ).loc Cert.KernelLatIdeal.main_arg1)) (m ((c.tc : Thread Cert.KernelLatIdeal.nD Cert.KernelLatIdeal.τ).loc Cert.KernelLatIdeal.main_arg2)) (m ((c.tc : Thread Cert.KernelLatIdeal.nD Cert.KernelLatIdeal.τ).loc Cert.KernelLatIdeal.main_arg3)) (m ((c.tc : Thread Cert.KernelLatIdeal.nD Cert.KernelLatIdeal.τ).loc Cert.KernelLatIdeal.main_arg4)) (m ((c.tc : Thread Cert.KernelLatIdeal.nD Cert.KernelLatIdeal.τ).loc Cert.KernelLatIdeal.main_arg5)) (m ((c.tc : Thread Cert.KernelLatIdeal.nD Cert.KernelLatIdeal.τ).loc Cert.KernelLatIdeal.main_arg6))).1 i = 1#1 → r.2.mem ((c.tc : Thread Cert.KernelLatIdeal.nD Cert.KernelLatIdeal.τ).loc Cert.KernelLatIdeal.main_v25_0) i = v0 c i)
          ∧ (∀ i : (⟨2, ![1, 384]⟩ : Shape).Idx, (Cert.On_lat_columns.fn (F := Ideal) (m ((c.tc : Thread Cert.KernelLatIdeal.nD Cert.KernelLatIdeal.τ).loc Cert.KernelLatIdeal.main_arg0)) (m ((c.tc : Thread Cert.KernelLatIdeal.nD Cert.KernelLatIdeal.τ).loc Cert.KernelLatIdeal.main_arg1)) (m ((c.tc : Thread Cert.KernelLatIdeal.nD Cert.KernelLatIdeal.τ).loc Cert.KernelLatIdeal.main_arg2)) (m ((c.tc : Thread Cert.KernelLatIdeal.nD Cert.KernelLatIdeal.τ).loc Cert.KernelLatIdeal.main_arg3)) (m ((c.tc : Thread Cert.KernelLatIdeal.nD Cert.KernelLatIdeal.τ).loc Cert.KernelLatIdeal.main_arg4)) (m ((c.tc : Thread Cert.KernelLatIdeal.nD Cert.KernelLatIdeal.τ).loc Cert.KernelLatIdeal.main_arg5)) (m ((c.tc : Thread Cert.KernelLatIdeal.nD Cert.KernelLatIdeal.τ).loc Cert.KernelLatIdeal.main_arg6))).2.1 i = 1#1 → r.2.mem ((c.tc : Thread Cert.KernelLatIdeal.nD Cert.KernelLatIdeal.τ).loc Cert.KernelLatIdeal.main_v25_1) i = v1 c i)
          ∧ (∀ i : (⟨2, ![1, 256]⟩ : Shape).Idx, (Cert.On_lat_columns.fn (F := Ideal) (m ((c.tc : Thread Cert.KernelLatIdeal.nD Cert.KernelLatIdeal.τ).loc Cert.KernelLatIdeal.main_arg0)) (m ((c.tc : Thread Cert.KernelLatIdeal.nD Cert.KernelLatIdeal.τ).loc Cert.KernelLatIdeal.main_arg1)) (m ((c.tc : Thread Cert.KernelLatIdeal.nD Cert.KernelLatIdeal.τ).loc Cert.KernelLatIdeal.main_arg2)) (m ((c.tc : Thread Cert.KernelLatIdeal.nD Cert.KernelLatIdeal.τ).loc Cert.KernelLatIdeal.main_arg3)) (m ((c.tc : Thread Cert.KernelLatIdeal.nD Cert.KernelLatIdeal.τ).loc Cert.KernelLatIdeal.main_arg4)) (m ((c.tc : Thread Cert.KernelLatIdeal.nD Cert.KernelLatIdeal.τ).loc Cert.KernelLatIdeal.main_arg5)) (m ((c.tc : Thread Cert.KernelLatIdeal.nD Cert.KernelLatIdeal.τ).loc Cert.KernelLatIdeal.main_arg6))).2.2 i = 1#1 → r.2.mem ((c.tc : Thread Cert.KernelLatIdeal.nD Cert.KernelLatIdeal.τ).loc Cert.KernelLatIdeal.main_v25_2) i = v2 c i)
          ∧ r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
          ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1)
          ∧ r.2.mem ((c.tc : Thread Cert.KernelLatIdeal.nD Cert.KernelLatIdeal.τ).loc Cert.KernelLatIdeal.main_arg2) = m ((c.tc : Thread Cert.KernelLatIdeal.nD Cert.KernelLatIdeal.τ).loc Cert.KernelLatIdeal.main_arg2)
          ∧ r.2.mem ((c.tc : Thread Cert.KernelLatIdeal.nD Cert.KernelLatIdeal.τ).loc Cert.KernelLatIdeal.main_arg3) = m ((c.tc : Thread Cert.KernelLatIdeal.nD Cert.KernelLatIdeal.τ).loc Cert.KernelLatIdeal.main_arg3)
          ∧ r.2.mem ((c.tc : Thread Cert.KernelLatIdeal.nD Cert.KernelLatIdeal.τ).loc Cert.KernelLatIdeal.main_arg4) = m ((c.tc : Thread Cert.KernelLatIdeal.nD Cert.KernelLatIdeal.τ).loc Cert.KernelLatIdeal.main_arg4)
          ∧ r.2.mem ((c.tc : Thread Cert.KernelLatIdeal.nD Cert.KernelLatIdeal.τ).loc Cert.KernelLatIdeal.main_arg5) = m ((c.tc : Thread Cert.KernelLatIdeal.nD Cert.KernelLatIdeal.τ).loc Cert.KernelLatIdeal.main_arg5)
          ∧ r.2.mem ((c.tc : Thread Cert.KernelLatIdeal.nD Cert.KernelLatIdeal.τ).loc Cert.KernelLatIdeal.main_arg6) = m ((c.tc : Thread Cert.KernelLatIdeal.nD Cert.KernelLatIdeal.τ).loc Cert.KernelLatIdeal.main_arg6))
      ∧ θ_run (Cert.ReferenceLatIdeal.defs (F := Ideal)) (onTc (τ := Cert.ReferenceLatIdeal.τ) (Cert.ReferenceLatIdeal.main (F := Ideal))) ⟨m', fun _ => 0, g'⟩ (fun r => ∀ c : Dev Cert.ReferenceLatIdeal.nD,
          (∀ i : (⟨2, ![4096, 768]⟩ : Shape).Idx, (Cert.On_lat_columns.fn (F := Ideal) (m ((c.tc : Thread Cert.KernelLatIdeal.nD Cert.KernelLatIdeal.τ).loc Cert.KernelLatIdeal.main_arg0)) (m ((c.tc : Thread Cert.KernelLatIdeal.nD Cert.KernelLatIdeal.τ).loc Cert.KernelLatIdeal.main_arg1)) (m ((c.tc : Thread Cert.KernelLatIdeal.nD Cert.KernelLatIdeal.τ).loc Cert.KernelLatIdeal.main_arg2)) (m ((c.tc : Thread Cert.KernelLatIdeal.nD Cert.KernelLatIdeal.τ).loc Cert.KernelLatIdeal.main_arg3)) (m ((c.tc : Thread Cert.KernelLatIdeal.nD Cert.KernelLatIdeal.τ).loc Cert.KernelLatIdeal.main_arg4)) (m ((c.tc : Thread Cert.KernelLatIdeal.nD Cert.KernelLatIdeal.τ).loc Cert.KernelLatIdeal.main_arg5)) (m ((c.tc : Thread Cert.KernelLatIdeal.nD Cert.KernelLatIdeal.τ).loc Cert.KernelLatIdeal.main_arg6))).1 i = 1#1 → r.2.mem ((c.tc : Thread Cert.ReferenceLatIdeal.nD Cert.ReferenceLatIdeal.τ).loc Cert.ReferenceLatIdeal.main_v117) i = v0 c i)
          ∧ (∀ i : (⟨2, ![1, 384]⟩ : Shape).Idx, (Cert.On_lat_columns.fn (F := Ideal) (m ((c.tc : Thread Cert.KernelLatIdeal.nD Cert.KernelLatIdeal.τ).loc Cert.KernelLatIdeal.main_arg0)) (m ((c.tc : Thread Cert.KernelLatIdeal.nD Cert.KernelLatIdeal.τ).loc Cert.KernelLatIdeal.main_arg1)) (m ((c.tc : Thread Cert.KernelLatIdeal.nD Cert.KernelLatIdeal.τ).loc Cert.KernelLatIdeal.main_arg2)) (m ((c.tc : Thread Cert.KernelLatIdeal.nD Cert.KernelLatIdeal.τ).loc Cert.KernelLatIdeal.main_arg3)) (m ((c.tc : Thread Cert.KernelLatIdeal.nD Cert.KernelLatIdeal.τ).loc Cert.KernelLatIdeal.main_arg4)) (m ((c.tc : Thread Cert.KernelLatIdeal.nD Cert.KernelLatIdeal.τ).loc Cert.KernelLatIdeal.main_arg5)) (m ((c.tc : Thread Cert.KernelLatIdeal.nD Cert.KernelLatIdeal.τ).loc Cert.KernelLatIdeal.main_arg6))).2.1 i = 1#1 → r.2.mem ((c.tc : Thread Cert.ReferenceLatIdeal.nD Cert.ReferenceLatIdeal.τ).loc Cert.ReferenceLatIdeal.main_v118) i = v1 c i)
          ∧ (∀ i : (⟨2, ![1, 256]⟩ : Shape).Idx, (Cert.On_lat_columns.fn (F := Ideal) (m ((c.tc : Thread Cert.KernelLatIdeal.nD Cert.KernelLatIdeal.τ).loc Cert.KernelLatIdeal.main_arg0)) (m ((c.tc : Thread Cert.KernelLatIdeal.nD Cert.KernelLatIdeal.τ).loc Cert.KernelLatIdeal.main_arg1)) (m ((c.tc : Thread Cert.KernelLatIdeal.nD Cert.KernelLatIdeal.τ).loc Cert.KernelLatIdeal.main_arg2)) (m ((c.tc : Thread Cert.KernelLatIdeal.nD Cert.KernelLatIdeal.τ).loc Cert.KernelLatIdeal.main_arg3)) (m ((c.tc : Thread Cert.KernelLatIdeal.nD Cert.KernelLatIdeal.τ).loc Cert.KernelLatIdeal.main_arg4)) (m ((c.tc : Thread Cert.KernelLatIdeal.nD Cert.KernelLatIdeal.τ).loc Cert.KernelLatIdeal.main_arg5)) (m ((c.tc : Thread Cert.KernelLatIdeal.nD Cert.KernelLatIdeal.τ).loc Cert.KernelLatIdeal.main_arg6))).2.2 i = 1#1 → r.2.mem ((c.tc : Thread Cert.ReferenceLatIdeal.nD Cert.ReferenceLatIdeal.τ).loc Cert.ReferenceLatIdeal.main_v119) i = v2 c i)
          ∧ r.2.mem ((c.tc : Thread Cert.ReferenceLatIdeal.nD Cert.ReferenceLatIdeal.τ).loc Cert.ReferenceLatIdeal.main_arg0) = m' ((c.tc : Thread Cert.ReferenceLatIdeal.nD Cert.ReferenceLatIdeal.τ).loc Cert.ReferenceLatIdeal.main_arg0)
          ∧ r.2.mem ((c.tc : Thread Cert.ReferenceLatIdeal.nD Cert.ReferenceLatIdeal.τ).loc Cert.ReferenceLatIdeal.main_arg1) = m' ((c.tc : Thread Cert.ReferenceLatIdeal.nD Cert.ReferenceLatIdeal.τ).loc Cert.ReferenceLatIdeal.main_arg1)
          ∧ r.2.mem ((c.tc : Thread Cert.ReferenceLatIdeal.nD Cert.ReferenceLatIdeal.τ).loc Cert.ReferenceLatIdeal.main_arg2) = m' ((c.tc : Thread Cert.ReferenceLatIdeal.nD Cert.ReferenceLatIdeal.τ).loc Cert.ReferenceLatIdeal.main_arg2)
          ∧ r.2.mem ((c.tc : Thread Cert.ReferenceLatIdeal.nD Cert.ReferenceLatIdeal.τ).loc Cert.ReferenceLatIdeal.main_arg3) = m' ((c.tc : Thread Cert.ReferenceLatIdeal.nD Cert.ReferenceLatIdeal.τ).loc Cert.ReferenceLatIdeal.main_arg3)
          ∧ r.2.mem ((c.tc : Thread Cert.ReferenceLatIdeal.nD Cert.ReferenceLatIdeal.τ).loc Cert.ReferenceLatIdeal.main_arg4) = m' ((c.tc : Thread Cert.ReferenceLatIdeal.nD Cert.ReferenceLatIdeal.τ).loc Cert.ReferenceLatIdeal.main_arg4)
          ∧ r.2.mem ((c.tc : Thread Cert.ReferenceLatIdeal.nD Cert.ReferenceLatIdeal.τ).loc Cert.ReferenceLatIdeal.main_arg5) = m' ((c.tc : Thread Cert.ReferenceLatIdeal.nD Cert.ReferenceLatIdeal.τ).loc Cert.ReferenceLatIdeal.main_arg5)
          ∧ r.2.mem ((c.tc : Thread Cert.ReferenceLatIdeal.nD Cert.ReferenceLatIdeal.τ).loc Cert.ReferenceLatIdeal.main_arg6) = m' ((c.tc : Thread Cert.ReferenceLatIdeal.nD Cert.ReferenceLatIdeal.τ).loc Cert.ReferenceLatIdeal.main_arg6))

def preserves_KernelAct_KernelActIdeal : Prop :=
  True

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v3_0)) (v1 : (c : Dev Cert.KernelActIdeal.nD) → Buf (Elt Ideal) ((c.tc : Thread Cert.KernelActIdeal.nD Cert.KernelActIdeal.τ).loc Cert.KernelActIdeal.main_v3_1)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v3_0) = v0 c
          ∧ r.2.mem ((c.tc : Thread Cert.KernelActIdeal.nD Cert.KernelActIdeal.τ).loc Cert.KernelActIdeal.main_v3_1) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v11) = v0 c
          ∧ r.2.mem ((c.tc : Thread Cert.ReferenceActIdeal.nD Cert.ReferenceActIdeal.τ).loc Cert.ReferenceActIdeal.main_v12) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelUpNorm_KernelUpNormIdeal : Prop :=
  True

def algebraic_KernelUpNormIdeal_ReferenceUpNormIdeal [hKernelUpNormIdeal : Cert.KernelUpNormIdeal.Facts] [hReferenceUpNormIdeal : Cert.ReferenceUpNormIdeal.Facts] : Prop :=
  ∀ (m : (ℓ : Loc Cert.KernelUpNormIdeal.nD Cert.KernelUpNormIdeal.τ Cert.KernelUpNormIdeal.sig) → Buf (Elt Ideal) ℓ) (g : Dev Cert.KernelUpNormIdeal.nD → PrngReg)
    (m' : (ℓ : Loc Cert.ReferenceUpNormIdeal.nD Cert.ReferenceUpNormIdeal.τ Cert.ReferenceUpNormIdeal.sig) → Buf (Elt Ideal) ℓ) (g' : Dev Cert.ReferenceUpNormIdeal.nD → PrngReg), Pre_KernelUpNormIdeal m →
    (∀ c : Dev Cert.KernelUpNormIdeal.nD,
      m' ((c.tc : Thread Cert.ReferenceUpNormIdeal.nD Cert.ReferenceUpNormIdeal.τ).loc Cert.ReferenceUpNormIdeal.main_arg0) = m ((c.tc : Thread Cert.KernelUpNormIdeal.nD Cert.KernelUpNormIdeal.τ).loc Cert.KernelUpNormIdeal.main_arg0)
      ∧ m' ((c.tc : Thread Cert.ReferenceUpNormIdeal.nD Cert.ReferenceUpNormIdeal.τ).loc Cert.ReferenceUpNormIdeal.main_arg1) = m ((c.tc : Thread Cert.KernelUpNormIdeal.nD Cert.KernelUpNormIdeal.τ).loc Cert.KernelUpNormIdeal.main_arg1)
      ∧ m' ((c.tc : Thread Cert.ReferenceUpNormIdeal.nD Cert.ReferenceUpNormIdeal.τ).loc Cert.ReferenceUpNormIdeal.main_arg2) = m ((c.tc : Thread Cert.KernelUpNormIdeal.nD Cert.KernelUpNormIdeal.τ).loc Cert.KernelUpNormIdeal.main_arg2)
      ∧ m' ((c.tc : Thread Cert.ReferenceUpNormIdeal.nD Cert.ReferenceUpNormIdeal.τ).loc Cert.ReferenceUpNormIdeal.main_arg3) = m ((c.tc : Thread Cert.KernelUpNormIdeal.nD Cert.KernelUpNormIdeal.τ).loc Cert.KernelUpNormIdeal.main_arg3)
      ∧ m' ((c.tc : Thread Cert.ReferenceUpNormIdeal.nD Cert.ReferenceUpNormIdeal.τ).loc Cert.ReferenceUpNormIdeal.main_arg4) = m ((c.tc : Thread Cert.KernelUpNormIdeal.nD Cert.KernelUpNormIdeal.τ).loc Cert.KernelUpNormIdeal.main_arg4)
      ∧ m' ((c.tc : Thread Cert.ReferenceUpNormIdeal.nD Cert.ReferenceUpNormIdeal.τ).loc Cert.ReferenceUpNormIdeal.main_arg5) = m ((c.tc : Thread Cert.KernelUpNormIdeal.nD Cert.KernelUpNormIdeal.τ).loc Cert.KernelUpNormIdeal.main_arg5)) →
    ∃ (v0 : (c : Dev Cert.KernelUpNormIdeal.nD) → Buf (Elt Ideal) ((c.tc : Thread Cert.KernelUpNormIdeal.nD Cert.KernelUpNormIdeal.τ).loc Cert.KernelUpNormIdeal.main_v6_0)) (v1 : (c : Dev Cert.KernelUpNormIdeal.nD) → Buf (Elt Ideal) ((c.tc : Thread Cert.KernelUpNormIdeal.nD Cert.KernelUpNormIdeal.τ).loc Cert.KernelUpNormIdeal.main_v6_1)),
      θ_run (Cert.KernelUpNormIdeal.defs (F := Ideal)) (onTc (τ := Cert.KernelUpNormIdeal.τ) (Cert.KernelUpNormIdeal.main (F := Ideal))) ⟨m, fun _ => 0, g⟩ (fun r => ∀ c : Dev Cert.KernelUpNormIdeal.nD,
          r.2.mem ((c.tc : Thread Cert.KernelUpNormIdeal.nD Cert.KernelUpNormIdeal.τ).loc Cert.KernelUpNormIdeal.main_v6_0) = v0 c
          ∧ r.2.mem ((c.tc : Thread Cert.KernelUpNormIdeal.nD Cert.KernelUpNormIdeal.τ).loc Cert.KernelUpNormIdeal.main_v6_1) = v1 c
          ∧ r.2.mem ((c.tc : Thread Cert.KernelUpNormIdeal.nD Cert.KernelUpNormIdeal.τ).loc Cert.KernelUpNormIdeal.main_arg0) = m ((c.tc : Thread Cert.KernelUpNormIdeal.nD Cert.KernelUpNormIdeal.τ).loc Cert.KernelUpNormIdeal.main_arg0)
          ∧ r.2.mem ((c.tc : Thread Cert.KernelUpNormIdeal.nD Cert.KernelUpNormIdeal.τ).loc Cert.KernelUpNormIdeal.main_arg1) = m ((c.tc : Thread Cert.KernelUpNormIdeal.nD Cert.KernelUpNormIdeal.τ).loc Cert.KernelUpNormIdeal.main_arg1)
          ∧ r.2.mem ((c.tc : Thread Cert.KernelUpNormIdeal.nD Cert.KernelUpNormIdeal.τ).loc Cert.KernelUpNormIdeal.main_arg2) = m ((c.tc : Thread Cert.KernelUpNormIdeal.nD Cert.KernelUpNormIdeal.τ).loc Cert.KernelUpNormIdeal.main_arg2)
          ∧ r.2.mem ((c.tc : Thread Cert.KernelUpNormIdeal.nD Cert.KernelUpNormIdeal.τ).loc Cert.KernelUpNormIdeal.main_arg3) = m ((c.tc : Thread Cert.KernelUpNormIdeal.nD Cert.KernelUpNormIdeal.τ).loc Cert.KernelUpNormIdeal.main_arg3)
          ∧ r.2.mem ((c.tc : Thread Cert.KernelUpNormIdeal.nD Cert.KernelUpNormIdeal.τ).loc Cert.KernelUpNormIdeal.main_arg4) = m ((c.tc : Thread Cert.KernelUpNormIdeal.nD Cert.KernelUpNormIdeal.τ).loc Cert.KernelUpNormIdeal.main_arg4)
          ∧ r.2.mem ((c.tc : Thread Cert.KernelUpNormIdeal.nD Cert.KernelUpNormIdeal.τ).loc Cert.KernelUpNormIdeal.main_arg5) = m ((c.tc : Thread Cert.KernelUpNormIdeal.nD Cert.KernelUpNormIdeal.τ).loc Cert.KernelUpNormIdeal.main_arg5))
      ∧ θ_run (Cert.ReferenceUpNormIdeal.defs (F := Ideal)) (onTc (τ := Cert.ReferenceUpNormIdeal.τ) (Cert.ReferenceUpNormIdeal.main (F := Ideal))) ⟨m', fun _ => 0, g'⟩ (fun r => ∀ c : Dev Cert.ReferenceUpNormIdeal.nD,
          r.2.mem ((c.tc : Thread Cert.ReferenceUpNormIdeal.nD Cert.ReferenceUpNormIdeal.τ).loc Cert.ReferenceUpNormIdeal.main_v41) = v0 c
          ∧ r.2.mem ((c.tc : Thread Cert.ReferenceUpNormIdeal.nD Cert.ReferenceUpNormIdeal.τ).loc Cert.ReferenceUpNormIdeal.main_v42) = v1 c
          ∧ r.2.mem ((c.tc : Thread Cert.ReferenceUpNormIdeal.nD Cert.ReferenceUpNormIdeal.τ).loc Cert.ReferenceUpNormIdeal.main_arg0) = m' ((c.tc : Thread Cert.ReferenceUpNormIdeal.nD Cert.ReferenceUpNormIdeal.τ).loc Cert.ReferenceUpNormIdeal.main_arg0)
          ∧ r.2.mem ((c.tc : Thread Cert.ReferenceUpNormIdeal.nD Cert.ReferenceUpNormIdeal.τ).loc Cert.ReferenceUpNormIdeal.main_arg1) = m' ((c.tc : Thread Cert.ReferenceUpNormIdeal.nD Cert.ReferenceUpNormIdeal.τ).loc Cert.ReferenceUpNormIdeal.main_arg1)
          ∧ r.2.mem ((c.tc : Thread Cert.ReferenceUpNormIdeal.nD Cert.ReferenceUpNormIdeal.τ).loc Cert.ReferenceUpNormIdeal.main_arg2) = m' ((c.tc : Thread Cert.ReferenceUpNormIdeal.nD Cert.ReferenceUpNormIdeal.τ).loc Cert.ReferenceUpNormIdeal.main_arg2)
          ∧ r.2.mem ((c.tc : Thread Cert.ReferenceUpNormIdeal.nD Cert.ReferenceUpNormIdeal.τ).loc Cert.ReferenceUpNormIdeal.main_arg3) = m' ((c.tc : Thread Cert.ReferenceUpNormIdeal.nD Cert.ReferenceUpNormIdeal.τ).loc Cert.ReferenceUpNormIdeal.main_arg3)
          ∧ r.2.mem ((c.tc : Thread Cert.ReferenceUpNormIdeal.nD Cert.ReferenceUpNormIdeal.τ).loc Cert.ReferenceUpNormIdeal.main_arg4) = m' ((c.tc : Thread Cert.ReferenceUpNormIdeal.nD Cert.ReferenceUpNormIdeal.τ).loc Cert.ReferenceUpNormIdeal.main_arg4)
          ∧ r.2.mem ((c.tc : Thread Cert.ReferenceUpNormIdeal.nD Cert.ReferenceUpNormIdeal.τ).loc Cert.ReferenceUpNormIdeal.main_arg5) = m' ((c.tc : Thread Cert.ReferenceUpNormIdeal.nD Cert.ReferenceUpNormIdeal.τ).loc Cert.ReferenceUpNormIdeal.main_arg5))

def preserves_KernelInNorm_KernelInNormIdeal : Prop :=
  True

def algebraic_KernelInNormIdeal_ReferenceInNormIdeal [hKernelInNormIdeal : Cert.KernelInNormIdeal.Facts] [hReferenceInNormIdeal : Cert.ReferenceInNormIdeal.Facts] : Prop :=
  ∀ (m : (ℓ : Loc Cert.KernelInNormIdeal.nD Cert.KernelInNormIdeal.τ Cert.KernelInNormIdeal.sig) → Buf (Elt Ideal) ℓ) (g : Dev Cert.KernelInNormIdeal.nD → PrngReg)
    (m' : (ℓ : Loc Cert.ReferenceInNormIdeal.nD Cert.ReferenceInNormIdeal.τ Cert.ReferenceInNormIdeal.sig) → Buf (Elt Ideal) ℓ) (g' : Dev Cert.ReferenceInNormIdeal.nD → PrngReg), Pre_KernelInNormIdeal m →
    (∀ c : Dev Cert.KernelInNormIdeal.nD,
      m' ((c.tc : Thread Cert.ReferenceInNormIdeal.nD Cert.ReferenceInNormIdeal.τ).loc Cert.ReferenceInNormIdeal.main_arg0) = m ((c.tc : Thread Cert.KernelInNormIdeal.nD Cert.KernelInNormIdeal.τ).loc Cert.KernelInNormIdeal.main_arg0)
      ∧ m' ((c.tc : Thread Cert.ReferenceInNormIdeal.nD Cert.ReferenceInNormIdeal.τ).loc Cert.ReferenceInNormIdeal.main_arg1) = m ((c.tc : Thread Cert.KernelInNormIdeal.nD Cert.KernelInNormIdeal.τ).loc Cert.KernelInNormIdeal.main_arg1)
      ∧ m' ((c.tc : Thread Cert.ReferenceInNormIdeal.nD Cert.ReferenceInNormIdeal.τ).loc Cert.ReferenceInNormIdeal.main_arg2) = m ((c.tc : Thread Cert.KernelInNormIdeal.nD Cert.KernelInNormIdeal.τ).loc Cert.KernelInNormIdeal.main_arg2)
      ∧ m' ((c.tc : Thread Cert.ReferenceInNormIdeal.nD Cert.ReferenceInNormIdeal.τ).loc Cert.ReferenceInNormIdeal.main_arg3) = m ((c.tc : Thread Cert.KernelInNormIdeal.nD Cert.KernelInNormIdeal.τ).loc Cert.KernelInNormIdeal.main_arg3)
      ∧ m' ((c.tc : Thread Cert.ReferenceInNormIdeal.nD Cert.ReferenceInNormIdeal.τ).loc Cert.ReferenceInNormIdeal.main_arg4) = m ((c.tc : Thread Cert.KernelInNormIdeal.nD Cert.KernelInNormIdeal.τ).loc Cert.KernelInNormIdeal.main_arg4)
      ∧ m' ((c.tc : Thread Cert.ReferenceInNormIdeal.nD Cert.ReferenceInNormIdeal.τ).loc Cert.ReferenceInNormIdeal.main_arg5) = m ((c.tc : Thread Cert.KernelInNormIdeal.nD Cert.KernelInNormIdeal.τ).loc Cert.KernelInNormIdeal.main_arg5)
      ∧ m' ((c.tc : Thread Cert.ReferenceInNormIdeal.nD Cert.ReferenceInNormIdeal.τ).loc Cert.ReferenceInNormIdeal.main_arg6) = m ((c.tc : Thread Cert.KernelInNormIdeal.nD Cert.KernelInNormIdeal.τ).loc Cert.KernelInNormIdeal.main_arg6)) →
    ∃ (v0 : (c : Dev Cert.KernelInNormIdeal.nD) → Buf (Elt Ideal) ((c.tc : Thread Cert.KernelInNormIdeal.nD Cert.KernelInNormIdeal.τ).loc Cert.KernelInNormIdeal.main_v10_0)) (v1 : (c : Dev Cert.KernelInNormIdeal.nD) → Buf (Elt Ideal) ((c.tc : Thread Cert.KernelInNormIdeal.nD Cert.KernelInNormIdeal.τ).loc Cert.KernelInNormIdeal.main_v10_1)),
      θ_run (Cert.KernelInNormIdeal.defs (F := Ideal)) (onTc (τ := Cert.KernelInNormIdeal.τ) (Cert.KernelInNormIdeal.main (F := Ideal))) ⟨m, fun _ => 0, g⟩ (fun r => ∀ c : Dev Cert.KernelInNormIdeal.nD,
          r.2.mem ((c.tc : Thread Cert.KernelInNormIdeal.nD Cert.KernelInNormIdeal.τ).loc Cert.KernelInNormIdeal.main_v10_0) = v0 c
          ∧ r.2.mem ((c.tc : Thread Cert.KernelInNormIdeal.nD Cert.KernelInNormIdeal.τ).loc Cert.KernelInNormIdeal.main_v10_1) = v1 c
          ∧ r.2.mem ((c.tc : Thread Cert.KernelInNormIdeal.nD Cert.KernelInNormIdeal.τ).loc Cert.KernelInNormIdeal.main_arg0) = m ((c.tc : Thread Cert.KernelInNormIdeal.nD Cert.KernelInNormIdeal.τ).loc Cert.KernelInNormIdeal.main_arg0)
          ∧ r.2.mem ((c.tc : Thread Cert.KernelInNormIdeal.nD Cert.KernelInNormIdeal.τ).loc Cert.KernelInNormIdeal.main_arg1) = m ((c.tc : Thread Cert.KernelInNormIdeal.nD Cert.KernelInNormIdeal.τ).loc Cert.KernelInNormIdeal.main_arg1)
          ∧ r.2.mem ((c.tc : Thread Cert.KernelInNormIdeal.nD Cert.KernelInNormIdeal.τ).loc Cert.KernelInNormIdeal.main_arg2) = m ((c.tc : Thread Cert.KernelInNormIdeal.nD Cert.KernelInNormIdeal.τ).loc Cert.KernelInNormIdeal.main_arg2)
          ∧ r.2.mem ((c.tc : Thread Cert.KernelInNormIdeal.nD Cert.KernelInNormIdeal.τ).loc Cert.KernelInNormIdeal.main_arg3) = m ((c.tc : Thread Cert.KernelInNormIdeal.nD Cert.KernelInNormIdeal.τ).loc Cert.KernelInNormIdeal.main_arg3)
          ∧ r.2.mem ((c.tc : Thread Cert.KernelInNormIdeal.nD Cert.KernelInNormIdeal.τ).loc Cert.KernelInNormIdeal.main_arg4) = m ((c.tc : Thread Cert.KernelInNormIdeal.nD Cert.KernelInNormIdeal.τ).loc Cert.KernelInNormIdeal.main_arg4)
          ∧ r.2.mem ((c.tc : Thread Cert.KernelInNormIdeal.nD Cert.KernelInNormIdeal.τ).loc Cert.KernelInNormIdeal.main_arg5) = m ((c.tc : Thread Cert.KernelInNormIdeal.nD Cert.KernelInNormIdeal.τ).loc Cert.KernelInNormIdeal.main_arg5)
          ∧ r.2.mem ((c.tc : Thread Cert.KernelInNormIdeal.nD Cert.KernelInNormIdeal.τ).loc Cert.KernelInNormIdeal.main_arg6) = m ((c.tc : Thread Cert.KernelInNormIdeal.nD Cert.KernelInNormIdeal.τ).loc Cert.KernelInNormIdeal.main_arg6))
      ∧ θ_run (Cert.ReferenceInNormIdeal.defs (F := Ideal)) (onTc (τ := Cert.ReferenceInNormIdeal.τ) (Cert.ReferenceInNormIdeal.main (F := Ideal))) ⟨m', fun _ => 0, g'⟩ (fun r => ∀ c : Dev Cert.ReferenceInNormIdeal.nD,
          r.2.mem ((c.tc : Thread Cert.ReferenceInNormIdeal.nD Cert.ReferenceInNormIdeal.τ).loc Cert.ReferenceInNormIdeal.main_v43) = v0 c
          ∧ r.2.mem ((c.tc : Thread Cert.ReferenceInNormIdeal.nD Cert.ReferenceInNormIdeal.τ).loc Cert.ReferenceInNormIdeal.main_v44) = v1 c
          ∧ r.2.mem ((c.tc : Thread Cert.ReferenceInNormIdeal.nD Cert.ReferenceInNormIdeal.τ).loc Cert.ReferenceInNormIdeal.main_arg0) = m' ((c.tc : Thread Cert.ReferenceInNormIdeal.nD Cert.ReferenceInNormIdeal.τ).loc Cert.ReferenceInNormIdeal.main_arg0)
          ∧ r.2.mem ((c.tc : Thread Cert.ReferenceInNormIdeal.nD Cert.ReferenceInNormIdeal.τ).loc Cert.ReferenceInNormIdeal.main_arg1) = m' ((c.tc : Thread Cert.ReferenceInNormIdeal.nD Cert.ReferenceInNormIdeal.τ).loc Cert.ReferenceInNormIdeal.main_arg1)
          ∧ r.2.mem ((c.tc : Thread Cert.ReferenceInNormIdeal.nD Cert.ReferenceInNormIdeal.τ).loc Cert.ReferenceInNormIdeal.main_arg2) = m' ((c.tc : Thread Cert.ReferenceInNormIdeal.nD Cert.ReferenceInNormIdeal.τ).loc Cert.ReferenceInNormIdeal.main_arg2)
          ∧ r.2.mem ((c.tc : Thread Cert.ReferenceInNormIdeal.nD Cert.ReferenceInNormIdeal.τ).loc Cert.ReferenceInNormIdeal.main_arg3) = m' ((c.tc : Thread Cert.ReferenceInNormIdeal.nD Cert.ReferenceInNormIdeal.τ).loc Cert.ReferenceInNormIdeal.main_arg3)
          ∧ r.2.mem ((c.tc : Thread Cert.ReferenceInNormIdeal.nD Cert.ReferenceInNormIdeal.τ).loc Cert.ReferenceInNormIdeal.main_arg4) = m' ((c.tc : Thread Cert.ReferenceInNormIdeal.nD Cert.ReferenceInNormIdeal.τ).loc Cert.ReferenceInNormIdeal.main_arg4)
          ∧ r.2.mem ((c.tc : Thread Cert.ReferenceInNormIdeal.nD Cert.ReferenceInNormIdeal.τ).loc Cert.ReferenceInNormIdeal.main_arg5) = m' ((c.tc : Thread Cert.ReferenceInNormIdeal.nD Cert.ReferenceInNormIdeal.τ).loc Cert.ReferenceInNormIdeal.main_arg5)
          ∧ r.2.mem ((c.tc : Thread Cert.ReferenceInNormIdeal.nD Cert.ReferenceInNormIdeal.τ).loc Cert.ReferenceInNormIdeal.main_arg6) = m' ((c.tc : Thread Cert.ReferenceInNormIdeal.nD Cert.ReferenceInNormIdeal.τ).loc Cert.ReferenceInNormIdeal.main_arg6))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v3_0)) (v1 : (c : Dev Cert.KernelLossIdeal.nD) → Buf (Elt Ideal) ((c.tc : Thread Cert.KernelLossIdeal.nD Cert.KernelLossIdeal.τ).loc Cert.KernelLossIdeal.main_v3_1)) (v2 : (c : Dev Cert.KernelLossIdeal.nD) → Buf (Elt Ideal) ((c.tc : Thread Cert.KernelLossIdeal.nD Cert.KernelLossIdeal.τ).loc Cert.KernelLossIdeal.main_v3_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v3_0) = v0 c
          ∧ r.2.mem ((c.tc : Thread Cert.KernelLossIdeal.nD Cert.KernelLossIdeal.τ).loc Cert.KernelLossIdeal.main_v3_1) = v1 c
          ∧ r.2.mem ((c.tc : Thread Cert.KernelLossIdeal.nD Cert.KernelLossIdeal.τ).loc Cert.KernelLossIdeal.main_v3_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v51) = v0 c
          ∧ r.2.mem ((c.tc : Thread Cert.ReferenceLossIdeal.nD Cert.ReferenceLossIdeal.τ).loc Cert.ReferenceLossIdeal.main_v52) = v1 c
          ∧ r.2.mem ((c.tc : Thread Cert.ReferenceLossIdeal.nD Cert.ReferenceLossIdeal.τ).loc Cert.ReferenceLossIdeal.main_v53) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)) →
    ∃ (v0 : (c : Dev Cert.KernelRmsIdeal.nD) → Buf (Elt Ideal) ((c.tc : Thread Cert.KernelRmsIdeal.nD Cert.KernelRmsIdeal.τ).loc Cert.KernelRmsIdeal.main_v1)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v1) = v0 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v13) = v0 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1))

def preserves_KernelUpAct_KernelUpActIdeal : Prop :=
  True

def algebraic_KernelUpActIdeal_ReferenceUpActIdeal [hKernelUpActIdeal : Cert.KernelUpActIdeal.Facts] [hReferenceUpActIdeal : Cert.ReferenceUpActIdeal.Facts] : Prop :=
  ∀ (m : (ℓ : Loc Cert.KernelUpActIdeal.nD Cert.KernelUpActIdeal.τ Cert.KernelUpActIdeal.sig) → Buf (Elt Ideal) ℓ) (g : Dev Cert.KernelUpActIdeal.nD → PrngReg)
    (m' : (ℓ : Loc Cert.ReferenceUpActIdeal.nD Cert.ReferenceUpActIdeal.τ Cert.ReferenceUpActIdeal.sig) → Buf (Elt Ideal) ℓ) (g' : Dev Cert.ReferenceUpActIdeal.nD → PrngReg), Pre_KernelUpActIdeal m →
    (∀ c : Dev Cert.KernelUpActIdeal.nD,
      m' ((c.tc : Thread Cert.ReferenceUpActIdeal.nD Cert.ReferenceUpActIdeal.τ).loc Cert.ReferenceUpActIdeal.main_arg0) = m ((c.tc : Thread Cert.KernelUpActIdeal.nD Cert.KernelUpActIdeal.τ).loc Cert.KernelUpActIdeal.main_arg0)
      ∧ m' ((c.tc : Thread Cert.ReferenceUpActIdeal.nD Cert.ReferenceUpActIdeal.τ).loc Cert.ReferenceUpActIdeal.main_arg1) = m ((c.tc : Thread Cert.KernelUpActIdeal.nD Cert.KernelUpActIdeal.τ).loc Cert.KernelUpActIdeal.main_arg1)) →
    ∃ (v0 : (c : Dev Cert.KernelUpActIdeal.nD) → Buf (Elt Ideal) ((c.tc : Thread Cert.KernelUpActIdeal.nD Cert.KernelUpActIdeal.τ).loc Cert.KernelUpActIdeal.main_v4_0)) (v1 : (c : Dev Cert.KernelUpActIdeal.nD) → Buf (Elt Ideal) ((c.tc : Thread Cert.KernelUpActIdeal.nD Cert.KernelUpActIdeal.τ).loc Cert.KernelUpActIdeal.main_v4_1)) (v2 : (c : Dev Cert.KernelUpActIdeal.nD) → Buf (Elt Ideal) ((c.tc : Thread Cert.KernelUpActIdeal.nD Cert.KernelUpActIdeal.τ).loc Cert.KernelUpActIdeal.main_v4_2)),
      θ_run (Cert.KernelUpActIdeal.defs (F := Ideal)) (onTc (τ := Cert.KernelUpActIdeal.τ) (Cert.KernelUpActIdeal.main (F := Ideal))) ⟨m, fun _ => 0, g⟩ (fun r => ∀ c : Dev Cert.KernelUpActIdeal.nD,
          r.2.mem ((c.tc : Thread Cert.KernelUpActIdeal.nD Cert.KernelUpActIdeal.τ).loc Cert.KernelUpActIdeal.main_v4_0) = v0 c
          ∧ r.2.mem ((c.tc : Thread Cert.KernelUpActIdeal.nD Cert.KernelUpActIdeal.τ).loc Cert.KernelUpActIdeal.main_v4_1) = v1 c
          ∧ r.2.mem ((c.tc : Thread Cert.KernelUpActIdeal.nD Cert.KernelUpActIdeal.τ).loc Cert.KernelUpActIdeal.main_v4_2) = v2 c
          ∧ r.2.mem ((c.tc : Thread Cert.KernelUpActIdeal.nD Cert.KernelUpActIdeal.τ).loc Cert.KernelUpActIdeal.main_arg0) = m ((c.tc : Thread Cert.KernelUpActIdeal.nD Cert.KernelUpActIdeal.τ).loc Cert.KernelUpActIdeal.main_arg0)
          ∧ r.2.mem ((c.tc : Thread Cert.KernelUpActIdeal.nD Cert.KernelUpActIdeal.τ).loc Cert.KernelUpActIdeal.main_arg1) = m ((c.tc : Thread Cert.KernelUpActIdeal.nD Cert.KernelUpActIdeal.τ).loc Cert.KernelUpActIdeal.main_arg1))
      ∧ θ_run (Cert.ReferenceUpActIdeal.defs (F := Ideal)) (onTc (τ := Cert.ReferenceUpActIdeal.τ) (Cert.ReferenceUpActIdeal.main (F := Ideal))) ⟨m', fun _ => 0, g'⟩ (fun r => ∀ c : Dev Cert.ReferenceUpActIdeal.nD,
          r.2.mem ((c.tc : Thread Cert.ReferenceUpActIdeal.nD Cert.ReferenceUpActIdeal.τ).loc Cert.ReferenceUpActIdeal.main_v5) = v0 c
          ∧ r.2.mem ((c.tc : Thread Cert.ReferenceUpActIdeal.nD Cert.ReferenceUpActIdeal.τ).loc Cert.ReferenceUpActIdeal.main_v6) = v1 c
          ∧ r.2.mem ((c.tc : Thread Cert.ReferenceUpActIdeal.nD Cert.ReferenceUpActIdeal.τ).loc Cert.ReferenceUpActIdeal.main_v7) = v2 c
          ∧ r.2.mem ((c.tc : Thread Cert.ReferenceUpActIdeal.nD Cert.ReferenceUpActIdeal.τ).loc Cert.ReferenceUpActIdeal.main_arg0) = m' ((c.tc : Thread Cert.ReferenceUpActIdeal.nD Cert.ReferenceUpActIdeal.τ).loc Cert.ReferenceUpActIdeal.main_arg0)
          ∧ r.2.mem ((c.tc : Thread Cert.ReferenceUpActIdeal.nD Cert.ReferenceUpActIdeal.τ).loc Cert.ReferenceUpActIdeal.main_arg1) = m' ((c.tc : Thread Cert.ReferenceUpActIdeal.nD Cert.ReferenceUpActIdeal.τ).loc Cert.ReferenceUpActIdeal.main_arg1))

def preserves_KernelProjGate_KernelProjGateIdeal : Prop :=
  True

def algebraic_KernelProjGateIdeal_ReferenceProjGateIdeal [hKernelProjGateIdeal : Cert.KernelProjGateIdeal.Facts] [hReferenceProjGateIdeal : Cert.ReferenceProjGateIdeal.Facts] : Prop :=
  ∀ (m : (ℓ : Loc Cert.KernelProjGateIdeal.nD Cert.KernelProjGateIdeal.τ Cert.KernelProjGateIdeal.sig) → Buf (Elt Ideal) ℓ) (g : Dev Cert.KernelProjGateIdeal.nD → PrngReg)
    (m' : (ℓ : Loc Cert.ReferenceProjGateIdeal.nD Cert.ReferenceProjGateIdeal.τ Cert.ReferenceProjGateIdeal.sig) → Buf (Elt Ideal) ℓ) (g' : Dev Cert.ReferenceProjGateIdeal.nD → PrngReg), Pre_KernelProjGateIdeal m →
    (∀ c : Dev Cert.KernelProjGateIdeal.nD,
      m' ((c.tc : Thread Cert.ReferenceProjGateIdeal.nD Cert.ReferenceProjGateIdeal.τ).loc Cert.ReferenceProjGateIdeal.main_arg0) = m ((c.tc : Thread Cert.KernelProjGateIdeal.nD Cert.KernelProjGateIdeal.τ).loc Cert.KernelProjGateIdeal.main_arg0)
      ∧ m' ((c.tc : Thread Cert.ReferenceProjGateIdeal.nD Cert.ReferenceProjGateIdeal.τ).loc Cert.ReferenceProjGateIdeal.main_arg1) = m ((c.tc : Thread Cert.KernelProjGateIdeal.nD Cert.KernelProjGateIdeal.τ).loc Cert.KernelProjGateIdeal.main_arg1)
      ∧ m' ((c.tc : Thread Cert.ReferenceProjGateIdeal.nD Cert.ReferenceProjGateIdeal.τ).loc Cert.ReferenceProjGateIdeal.main_arg2) = m ((c.tc : Thread Cert.KernelProjGateIdeal.nD Cert.KernelProjGateIdeal.τ).loc Cert.KernelProjGateIdeal.main_arg2)
      ∧ m' ((c.tc : Thread Cert.ReferenceProjGateIdeal.nD Cert.ReferenceProjGateIdeal.τ).loc Cert.ReferenceProjGateIdeal.main_arg3) = m ((c.tc : Thread Cert.KernelProjGateIdeal.nD Cert.KernelProjGateIdeal.τ).loc Cert.KernelProjGateIdeal.main_arg3)
      ∧ m' ((c.tc : Thread Cert.ReferenceProjGateIdeal.nD Cert.ReferenceProjGateIdeal.τ).loc Cert.ReferenceProjGateIdeal.main_arg4) = m ((c.tc : Thread Cert.KernelProjGateIdeal.nD Cert.KernelProjGateIdeal.τ).loc Cert.KernelProjGateIdeal.main_arg4)) →
    ∃ (v0 : (c : Dev Cert.KernelProjGateIdeal.nD) → Buf (Elt Ideal) ((c.tc : Thread Cert.KernelProjGateIdeal.nD Cert.KernelProjGateIdeal.τ).loc Cert.KernelProjGateIdeal.main_v5_0)) (v1 : (c : Dev Cert.KernelProjGateIdeal.nD) → Buf (Elt Ideal) ((c.tc : Thread Cert.KernelProjGateIdeal.nD Cert.KernelProjGateIdeal.τ).loc Cert.KernelProjGateIdeal.main_v5_1)),
      θ_run (Cert.KernelProjGateIdeal.defs (F := Ideal)) (onTc (τ := Cert.KernelProjGateIdeal.τ) (Cert.KernelProjGateIdeal.main (F := Ideal))) ⟨m, fun _ => 0, g⟩ (fun r => ∀ c : Dev Cert.KernelProjGateIdeal.nD,
          r.2.mem ((c.tc : Thread Cert.KernelProjGateIdeal.nD Cert.KernelProjGateIdeal.τ).loc Cert.KernelProjGateIdeal.main_v5_0) = v0 c
          ∧ r.2.mem ((c.tc : Thread Cert.KernelProjGateIdeal.nD Cert.KernelProjGateIdeal.τ).loc Cert.KernelProjGateIdeal.main_v5_1) = v1 c
          ∧ r.2.mem ((c.tc : Thread Cert.KernelProjGateIdeal.nD Cert.KernelProjGateIdeal.τ).loc Cert.KernelProjGateIdeal.main_arg0) = m ((c.tc : Thread Cert.KernelProjGateIdeal.nD Cert.KernelProjGateIdeal.τ).loc Cert.KernelProjGateIdeal.main_arg0)
          ∧ r.2.mem ((c.tc : Thread Cert.KernelProjGateIdeal.nD Cert.KernelProjGateIdeal.τ).loc Cert.KernelProjGateIdeal.main_arg1) = m ((c.tc : Thread Cert.KernelProjGateIdeal.nD Cert.KernelProjGateIdeal.τ).loc Cert.KernelProjGateIdeal.main_arg1)
          ∧ r.2.mem ((c.tc : Thread Cert.KernelProjGateIdeal.nD Cert.KernelProjGateIdeal.τ).loc Cert.KernelProjGateIdeal.main_arg2) = m ((c.tc : Thread Cert.KernelProjGateIdeal.nD Cert.KernelProjGateIdeal.τ).loc Cert.KernelProjGateIdeal.main_arg2)
          ∧ r.2.mem ((c.tc : Thread Cert.KernelProjGateIdeal.nD Cert.KernelProjGateIdeal.τ).loc Cert.KernelProjGateIdeal.main_arg3) = m ((c.tc : Thread Cert.KernelProjGateIdeal.nD Cert.KernelProjGateIdeal.τ).loc Cert.KernelProjGateIdeal.main_arg3)
          ∧ r.2.mem ((c.tc : Thread Cert.KernelProjGateIdeal.nD Cert.KernelProjGateIdeal.τ).loc Cert.KernelProjGateIdeal.main_arg4) = m ((c.tc : Thread Cert.KernelProjGateIdeal.nD Cert.KernelProjGateIdeal.τ).loc Cert.KernelProjGateIdeal.main_arg4))
      ∧ θ_run (Cert.ReferenceProjGateIdeal.defs (F := Ideal)) (onTc (τ := Cert.ReferenceProjGateIdeal.τ) (Cert.ReferenceProjGateIdeal.main (F := Ideal))) ⟨m', fun _ => 0, g'⟩ (fun r => ∀ c : Dev Cert.ReferenceProjGateIdeal.nD,
          r.2.mem ((c.tc : Thread Cert.ReferenceProjGateIdeal.nD Cert.ReferenceProjGateIdeal.τ).loc Cert.ReferenceProjGateIdeal.main_v18) = v0 c
          ∧ r.2.mem ((c.tc : Thread Cert.ReferenceProjGateIdeal.nD Cert.ReferenceProjGateIdeal.τ).loc Cert.ReferenceProjGateIdeal.main_v19) = v1 c
          ∧ r.2.mem ((c.tc : Thread Cert.ReferenceProjGateIdeal.nD Cert.ReferenceProjGateIdeal.τ).loc Cert.ReferenceProjGateIdeal.main_arg0) = m' ((c.tc : Thread Cert.ReferenceProjGateIdeal.nD Cert.ReferenceProjGateIdeal.τ).loc Cert.ReferenceProjGateIdeal.main_arg0)
          ∧ r.2.mem ((c.tc : Thread Cert.ReferenceProjGateIdeal.nD Cert.ReferenceProjGateIdeal.τ).loc Cert.ReferenceProjGateIdeal.main_arg1) = m' ((c.tc : Thread Cert.ReferenceProjGateIdeal.nD Cert.ReferenceProjGateIdeal.τ).loc Cert.ReferenceProjGateIdeal.main_arg1)
          ∧ r.2.mem ((c.tc : Thread Cert.ReferenceProjGateIdeal.nD Cert.ReferenceProjGateIdeal.τ).loc Cert.ReferenceProjGateIdeal.main_arg2) = m' ((c.tc : Thread Cert.ReferenceProjGateIdeal.nD Cert.ReferenceProjGateIdeal.τ).loc Cert.ReferenceProjGateIdeal.main_arg2)
          ∧ r.2.mem ((c.tc : Thread Cert.ReferenceProjGateIdeal.nD Cert.ReferenceProjGateIdeal.τ).loc Cert.ReferenceProjGateIdeal.main_arg3) = m' ((c.tc : Thread Cert.ReferenceProjGateIdeal.nD Cert.ReferenceProjGateIdeal.τ).loc Cert.ReferenceProjGateIdeal.main_arg3)
          ∧ r.2.mem ((c.tc : Thread Cert.ReferenceProjGateIdeal.nD Cert.ReferenceProjGateIdeal.τ).loc Cert.ReferenceProjGateIdeal.main_arg4) = m' ((c.tc : Thread Cert.ReferenceProjGateIdeal.nD Cert.ReferenceProjGateIdeal.τ).loc Cert.ReferenceProjGateIdeal.main_arg4))

def preserves_KernelLatFwd_KernelLatFwdIdeal : Prop :=
  True

def algebraic_KernelLatFwdIdeal_ReferenceLatFwdIdeal [hKernelLatFwdIdeal : Cert.KernelLatFwdIdeal.Facts] [hReferenceLatFwdIdeal : Cert.ReferenceLatFwdIdeal.Facts] : Prop :=
  ∀ (m : (ℓ : Loc Cert.KernelLatFwdIdeal.nD Cert.KernelLatFwdIdeal.τ Cert.KernelLatFwdIdeal.sig) → Buf (Elt Ideal) ℓ) (g : Dev Cert.KernelLatFwdIdeal.nD → PrngReg)
    (m' : (ℓ : Loc Cert.ReferenceLatFwdIdeal.nD Cert.ReferenceLatFwdIdeal.τ Cert.ReferenceLatFwdIdeal.sig) → Buf (Elt Ideal) ℓ) (g' : Dev Cert.ReferenceLatFwdIdeal.nD → PrngReg), Pre_KernelLatFwdIdeal m →
    (∀ c : Dev Cert.KernelLatFwdIdeal.nD,
      m' ((c.tc : Thread Cert.ReferenceLatFwdIdeal.nD Cert.ReferenceLatFwdIdeal.τ).loc Cert.ReferenceLatFwdIdeal.main_arg0) = m ((c.tc : Thread Cert.KernelLatFwdIdeal.nD Cert.KernelLatFwdIdeal.τ).loc Cert.KernelLatFwdIdeal.main_arg0)
      ∧ m' ((c.tc : Thread Cert.ReferenceLatFwdIdeal.nD Cert.ReferenceLatFwdIdeal.τ).loc Cert.ReferenceLatFwdIdeal.main_arg1) = m ((c.tc : Thread Cert.KernelLatFwdIdeal.nD Cert.KernelLatFwdIdeal.τ).loc Cert.KernelLatFwdIdeal.main_arg1)
      ∧ m' ((c.tc : Thread Cert.ReferenceLatFwdIdeal.nD Cert.ReferenceLatFwdIdeal.τ).loc Cert.ReferenceLatFwdIdeal.main_arg2) = m ((c.tc : Thread Cert.KernelLatFwdIdeal.nD Cert.KernelLatFwdIdeal.τ).loc Cert.KernelLatFwdIdeal.main_arg2)
      ∧ m' ((c.tc : Thread Cert.ReferenceLatFwdIdeal.nD Cert.ReferenceLatFwdIdeal.τ).loc Cert.ReferenceLatFwdIdeal.main_arg3) = m ((c.tc : Thread Cert.KernelLatFwdIdeal.nD Cert.KernelLatFwdIdeal.τ).loc Cert.KernelLatFwdIdeal.main_arg3)) →
    ∃ (v0 : (c : Dev Cert.KernelLatFwdIdeal.nD) → Buf (Elt Ideal) ((c.tc : Thread Cert.KernelLatFwdIdeal.nD Cert.KernelLatFwdIdeal.τ).loc Cert.KernelLatFwdIdeal.main_v25_0)) (v1 : (c : Dev Cert.KernelLatFwdIdeal.nD) → Buf (Elt Ideal) ((c.tc : Thread Cert.KernelLatFwdIdeal.nD Cert.KernelLatFwdIdeal.τ).loc Cert.KernelLatFwdIdeal.main_v25_1)) (v2 : (c : Dev Cert.KernelLatFwdIdeal.nD) → Buf (Elt Ideal) ((c.tc : Thread Cert.KernelLatFwdIdeal.nD Cert.KernelLatFwdIdeal.τ).loc Cert.KernelLatFwdIdeal.main_v25_2)),
      θ_run (Cert.KernelLatFwdIdeal.defs (F := Ideal)) (onTc (τ := Cert.KernelLatFwdIdeal.τ) (Cert.KernelLatFwdIdeal.main (F := Ideal))) ⟨m, fun _ => 0, g⟩ (fun r => ∀ c : Dev Cert.KernelLatFwdIdeal.nD,
          r.2.mem ((c.tc : Thread Cert.KernelLatFwdIdeal.nD Cert.KernelLatFwdIdeal.τ).loc Cert.KernelLatFwdIdeal.main_v25_0) = v0 c
          ∧ r.2.mem ((c.tc : Thread Cert.KernelLatFwdIdeal.nD Cert.KernelLatFwdIdeal.τ).loc Cert.KernelLatFwdIdeal.main_v25_1) = v1 c
          ∧ r.2.mem ((c.tc : Thread Cert.KernelLatFwdIdeal.nD Cert.KernelLatFwdIdeal.τ).loc Cert.KernelLatFwdIdeal.main_v25_2) = v2 c
          ∧ r.2.mem ((c.tc : Thread Cert.KernelLatFwdIdeal.nD Cert.KernelLatFwdIdeal.τ).loc Cert.KernelLatFwdIdeal.main_arg0) = m ((c.tc : Thread Cert.KernelLatFwdIdeal.nD Cert.KernelLatFwdIdeal.τ).loc Cert.KernelLatFwdIdeal.main_arg0)
          ∧ r.2.mem ((c.tc : Thread Cert.KernelLatFwdIdeal.nD Cert.KernelLatFwdIdeal.τ).loc Cert.KernelLatFwdIdeal.main_arg1) = m ((c.tc : Thread Cert.KernelLatFwdIdeal.nD Cert.KernelLatFwdIdeal.τ).loc Cert.KernelLatFwdIdeal.main_arg1)
          ∧ r.2.mem ((c.tc : Thread Cert.KernelLatFwdIdeal.nD Cert.KernelLatFwdIdeal.τ).loc Cert.KernelLatFwdIdeal.main_arg2) = m ((c.tc : Thread Cert.KernelLatFwdIdeal.nD Cert.KernelLatFwdIdeal.τ).loc Cert.KernelLatFwdIdeal.main_arg2)
          ∧ r.2.mem ((c.tc : Thread Cert.KernelLatFwdIdeal.nD Cert.KernelLatFwdIdeal.τ).loc Cert.KernelLatFwdIdeal.main_arg3) = m ((c.tc : Thread Cert.KernelLatFwdIdeal.nD Cert.KernelLatFwdIdeal.τ).loc Cert.KernelLatFwdIdeal.main_arg3))
      ∧ θ_run (Cert.ReferenceLatFwdIdeal.defs (F := Ideal)) (onTc (τ := Cert.ReferenceLatFwdIdeal.τ) (Cert.ReferenceLatFwdIdeal.main (F := Ideal))) ⟨m', fun _ => 0, g'⟩ (fun r => ∀ c : Dev Cert.ReferenceLatFwdIdeal.nD,
          r.2.mem ((c.tc : Thread Cert.ReferenceLatFwdIdeal.nD Cert.ReferenceLatFwdIdeal.τ).loc Cert.ReferenceLatFwdIdeal.main_v47) = v0 c
          ∧ r.2.mem ((c.tc : Thread Cert.ReferenceLatFwdIdeal.nD Cert.ReferenceLatFwdIdeal.τ).loc Cert.ReferenceLatFwdIdeal.main_v61) = v1 c
          ∧ r.2.mem ((c.tc : Thread Cert.ReferenceLatFwdIdeal.nD Cert.ReferenceLatFwdIdeal.τ).loc Cert.ReferenceLatFwdIdeal.main_v62) = v2 c
          ∧ r.2.mem ((c.tc : Thread Cert.ReferenceLatFwdIdeal.nD Cert.ReferenceLatFwdIdeal.τ).loc Cert.ReferenceLatFwdIdeal.main_arg0) = m' ((c.tc : Thread Cert.ReferenceLatFwdIdeal.nD Cert.ReferenceLatFwdIdeal.τ).loc Cert.ReferenceLatFwdIdeal.main_arg0)
          ∧ r.2.mem ((c.tc : Thread Cert.ReferenceLatFwdIdeal.nD Cert.ReferenceLatFwdIdeal.τ).loc Cert.ReferenceLatFwdIdeal.main_arg1) = m' ((c.tc : Thread Cert.ReferenceLatFwdIdeal.nD Cert.ReferenceLatFwdIdeal.τ).loc Cert.ReferenceLatFwdIdeal.main_arg1)
          ∧ r.2.mem ((c.tc : Thread Cert.ReferenceLatFwdIdeal.nD Cert.ReferenceLatFwdIdeal.τ).loc Cert.ReferenceLatFwdIdeal.main_arg2) = m' ((c.tc : Thread Cert.ReferenceLatFwdIdeal.nD Cert.ReferenceLatFwdIdeal.τ).loc Cert.ReferenceLatFwdIdeal.main_arg2)
          ∧ r.2.mem ((c.tc : Thread Cert.ReferenceLatFwdIdeal.nD Cert.ReferenceLatFwdIdeal.τ).loc Cert.ReferenceLatFwdIdeal.main_arg3) = m' ((c.tc : Thread Cert.ReferenceLatFwdIdeal.nD Cert.ReferenceLatFwdIdeal.τ).loc Cert.ReferenceLatFwdIdeal.main_arg3))

def preserves_KernelPoolFwd_KernelPoolFwdIdeal : Prop :=
  True

def algebraic_KernelPoolFwdIdeal_ReferencePoolFwdIdeal_pre_finite_poolf [hKernelPoolFwdIdeal : Cert.KernelPoolFwdIdeal.Facts] [hReferencePoolFwdIdeal : Cert.ReferencePoolFwdIdeal.Facts] [hPre_finite_poolf : Cert.Pre_finite_poolf.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg)
    (m' : (ℓ : Loc Cert.ReferencePoolFwdIdeal.nD Cert.ReferencePoolFwdIdeal.τ Cert.ReferencePoolFwdIdeal.sig) → Buf (Elt Ideal) ℓ) (g' : Dev Cert.ReferencePoolFwdIdeal.nD → PrngReg), Pre_KernelPoolFwdIdeal_finite_poolf m →
    (∀ c : Dev Cert.KernelPoolFwdIdeal.nD,
      m' ((c.tc : Thread Cert.ReferencePoolFwdIdeal.nD Cert.ReferencePoolFwdIdeal.τ).loc Cert.ReferencePoolFwdIdeal.main_arg0) = m ((c.tc : Thread Cert.KernelPoolFwdIdeal.nD Cert.KernelPoolFwdIdeal.τ).loc Cert.KernelPoolFwdIdeal.main_arg0)
      ∧ m' ((c.tc : Thread Cert.ReferencePoolFwdIdeal.nD Cert.ReferencePoolFwdIdeal.τ).loc Cert.ReferencePoolFwdIdeal.main_arg1) = m ((c.tc : Thread Cert.KernelPoolFwdIdeal.nD Cert.KernelPoolFwdIdeal.τ).loc Cert.KernelPoolFwdIdeal.main_arg1)
      ∧ m' ((c.tc : Thread Cert.ReferencePoolFwdIdeal.nD Cert.ReferencePoolFwdIdeal.τ).loc Cert.ReferencePoolFwdIdeal.main_arg2) = m ((c.tc : Thread Cert.KernelPoolFwdIdeal.nD Cert.KernelPoolFwdIdeal.τ).loc Cert.KernelPoolFwdIdeal.main_arg2)) →
    ∃ (v0 : (c : Dev Cert.KernelPoolFwdIdeal.nD) → Buf (Elt Ideal) ((c.tc : Thread Cert.KernelPoolFwdIdeal.nD Cert.KernelPoolFwdIdeal.τ).loc Cert.KernelPoolFwdIdeal.main_v3)),
      θ_run (Cert.KernelPoolFwdIdeal.defs (F := Ideal)) (onTc (τ := Cert.KernelPoolFwdIdeal.τ) (Cert.KernelPoolFwdIdeal.main (F := Ideal))) ⟨m, fun _ => 0, g⟩ (fun r => ∀ c : Dev Cert.KernelPoolFwdIdeal.nD,
          r.2.mem ((c.tc : Thread Cert.KernelPoolFwdIdeal.nD Cert.KernelPoolFwdIdeal.τ).loc Cert.KernelPoolFwdIdeal.main_v3) = v0 c
          ∧ r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
          ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
          ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ θ_run (Cert.ReferencePoolFwdIdeal.defs (F := Ideal)) (onTc (τ := Cert.ReferencePoolFwdIdeal.τ) (Cert.ReferencePoolFwdIdeal.main (F := Ideal))) ⟨m', fun _ => 0, g'⟩ (fun r => ∀ c : Dev Cert.ReferencePoolFwdIdeal.nD,
          r.2.mem ((c.tc : Thread Cert.ReferencePoolFwdIdeal.nD Cert.ReferencePoolFwdIdeal.τ).loc Cert.ReferencePoolFwdIdeal.main_v54) = v0 c
          ∧ r.2.mem ((c.tc : Thread Cert.ReferencePoolFwdIdeal.nD Cert.ReferencePoolFwdIdeal.τ).loc Cert.ReferencePoolFwdIdeal.main_arg0) = m' ((c.tc : Thread Cert.ReferencePoolFwdIdeal.nD Cert.ReferencePoolFwdIdeal.τ).loc Cert.ReferencePoolFwdIdeal.main_arg0)
          ∧ r.2.mem ((c.tc : Thread Cert.ReferencePoolFwdIdeal.nD Cert.ReferencePoolFwdIdeal.τ).loc Cert.ReferencePoolFwdIdeal.main_arg1) = m' ((c.tc : Thread Cert.ReferencePoolFwdIdeal.nD Cert.ReferencePoolFwdIdeal.τ).loc Cert.ReferencePoolFwdIdeal.main_arg1)
          ∧ r.2.mem ((c.tc : Thread Cert.ReferencePoolFwdIdeal.nD Cert.ReferencePoolFwdIdeal.τ).loc Cert.ReferencePoolFwdIdeal.main_arg2) = m' ((c.tc : Thread Cert.ReferencePoolFwdIdeal.nD Cert.ReferencePoolFwdIdeal.τ).loc Cert.ReferencePoolFwdIdeal.main_arg2))

def preserves_KernelSwap_KernelSwapIdeal : Prop :=
  True

def algebraic_KernelSwapIdeal_ReferenceSwapIdeal [hKernelSwapIdeal : Cert.KernelSwapIdeal.Facts] [hReferenceSwapIdeal : Cert.ReferenceSwapIdeal.Facts] : Prop :=
  ∀ (m : (ℓ : Loc Cert.KernelSwapIdeal.nD Cert.KernelSwapIdeal.τ Cert.KernelSwapIdeal.sig) → Buf (Elt Ideal) ℓ) (g : Dev Cert.KernelSwapIdeal.nD → PrngReg)
    (m' : (ℓ : Loc Cert.ReferenceSwapIdeal.nD Cert.ReferenceSwapIdeal.τ Cert.ReferenceSwapIdeal.sig) → Buf (Elt Ideal) ℓ) (g' : Dev Cert.ReferenceSwapIdeal.nD → PrngReg), Pre_KernelSwapIdeal m →
    (∀ c : Dev Cert.KernelSwapIdeal.nD,
      m ((c.tc : Thread Cert.KernelSwapIdeal.nD Cert.KernelSwapIdeal.τ).loc Cert.KernelSwapIdeal.main_arg0) = Layout.blockN ⟨3, ![4, 1024, 1408]⟩ ⟨3, ![8, 1024, 1408]⟩ (Layout.meshBlock [1, 1, 2] ![[2], [], []] c) (m' (((0 : Dev Cert.ReferenceSwapIdeal.nD).tc : Thread Cert.ReferenceSwapIdeal.nD Cert.ReferenceSwapIdeal.τ).loc Cert.ReferenceSwapIdeal.main_arg0))
      ∧ m ((c.tc : Thread Cert.KernelSwapIdeal.nD Cert.KernelSwapIdeal.τ).loc Cert.KernelSwapIdeal.main_arg1) = Layout.blockN ⟨3, ![4, 704, 1024]⟩ ⟨3, ![8, 704, 1024]⟩ (Layout.meshBlock [1, 1, 2] ![[2], [], []] c) (m' (((0 : Dev Cert.ReferenceSwapIdeal.nD).tc : Thread Cert.ReferenceSwapIdeal.nD Cert.ReferenceSwapIdeal.τ).loc Cert.ReferenceSwapIdeal.main_arg1))) →
    ∃ (v0 : Buf (Elt Ideal) (((0 : Dev Cert.ReferenceSwapIdeal.nD).tc : Thread Cert.ReferenceSwapIdeal.nD Cert.ReferenceSwapIdeal.τ).loc Cert.ReferenceSwapIdeal.main_v2)) (v1 : Buf (Elt Ideal) (((0 : Dev Cert.ReferenceSwapIdeal.nD).tc : Thread Cert.ReferenceSwapIdeal.nD Cert.ReferenceSwapIdeal.τ).loc Cert.ReferenceSwapIdeal.main_v5)),
      θ_run (Cert.KernelSwapIdeal.defs (F := Ideal)) (onTc (τ := Cert.KernelSwapIdeal.τ) (Cert.KernelSwapIdeal.main (F := Ideal))) ⟨m, fun _ => 0, g⟩ (fun r => ∀ c : Dev Cert.KernelSwapIdeal.nD,
          r.2.mem ((c.tc : Thread Cert.KernelSwapIdeal.nD Cert.KernelSwapIdeal.τ).loc Cert.KernelSwapIdeal.main_v1_0) = Layout.blockN ⟨3, ![4, 512, 1408]⟩ ⟨3, ![8, 512, 1408]⟩ (Layout.meshBlock [1, 1, 2] ![[2], [], []] c) v0
          ∧ r.2.mem ((c.tc : Thread Cert.KernelSwapIdeal.nD Cert.KernelSwapIdeal.τ).loc Cert.KernelSwapIdeal.main_v1_1) = Layout.blockN ⟨3, ![4, 352, 1024]⟩ ⟨3, ![8, 352, 1024]⟩ (Layout.meshBlock [1, 1, 2] ![[2], [], []] c) v1
          ∧ r.2.mem ((c.tc : Thread Cert.KernelSwapIdeal.nD Cert.KernelSwapIdeal.τ).loc Cert.KernelSwapIdeal.main_arg0) = m ((c.tc : Thread Cert.KernelSwapIdeal.nD Cert.KernelSwapIdeal.τ).loc Cert.KernelSwapIdeal.main_arg0)
          ∧ r.2.mem ((c.tc : Thread Cert.KernelSwapIdeal.nD Cert.KernelSwapIdeal.τ).loc Cert.KernelSwapIdeal.main_arg1) = m ((c.tc : Thread Cert.KernelSwapIdeal.nD Cert.KernelSwapIdeal.τ).loc Cert.KernelSwapIdeal.main_arg1))
      ∧ θ_run (Cert.ReferenceSwapIdeal.defs (F := Ideal)) (onTc (τ := Cert.ReferenceSwapIdeal.τ) (Cert.ReferenceSwapIdeal.main (F := Ideal))) ⟨m', fun _ => 0, g'⟩ (fun r =>
          r.2.mem (((0 : Dev Cert.ReferenceSwapIdeal.nD).tc : Thread Cert.ReferenceSwapIdeal.nD Cert.ReferenceSwapIdeal.τ).loc Cert.ReferenceSwapIdeal.main_v2) = v0
          ∧ r.2.mem (((0 : Dev Cert.ReferenceSwapIdeal.nD).tc : Thread Cert.ReferenceSwapIdeal.nD Cert.ReferenceSwapIdeal.τ).loc Cert.ReferenceSwapIdeal.main_v5) = v1
          ∧ r.2.mem (((0 : Dev Cert.ReferenceSwapIdeal.nD).tc : Thread Cert.ReferenceSwapIdeal.nD Cert.ReferenceSwapIdeal.τ).loc Cert.ReferenceSwapIdeal.main_arg0) = m' (((0 : Dev Cert.ReferenceSwapIdeal.nD).tc : Thread Cert.ReferenceSwapIdeal.nD Cert.ReferenceSwapIdeal.τ).loc Cert.ReferenceSwapIdeal.main_arg0)
          ∧ r.2.mem (((0 : Dev Cert.ReferenceSwapIdeal.nD).tc : Thread Cert.ReferenceSwapIdeal.nD Cert.ReferenceSwapIdeal.τ).loc Cert.ReferenceSwapIdeal.main_arg1) = m' (((0 : Dev Cert.ReferenceSwapIdeal.nD).tc : Thread Cert.ReferenceSwapIdeal.nD Cert.ReferenceSwapIdeal.τ).loc Cert.ReferenceSwapIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelMixIn_KernelMixInIdeal : Prop :=
  True

def algebraic_KernelMixInIdeal_ReferenceMixInIdeal [hKernelMixInIdeal : Cert.KernelMixInIdeal.Facts] [hReferenceMixInIdeal : Cert.ReferenceMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg)
    (m' : (ℓ : Loc Cert.ReferenceMixInIdeal.nD Cert.ReferenceMixInIdeal.τ Cert.ReferenceMixInIdeal.sig) → Buf (Elt Ideal) ℓ) (g' : Dev Cert.ReferenceMixInIdeal.nD → PrngReg), Pre_KernelMixInIdeal m →
    (∀ c : Dev Cert.KernelMixInIdeal.nD,
      m' ((c.tc : Thread Cert.ReferenceMixInIdeal.nD Cert.ReferenceMixInIdeal.τ).loc Cert.ReferenceMixInIdeal.main_arg0) = m ((c.tc : Thread Cert.KernelMixInIdeal.nD Cert.KernelMixInIdeal.τ).loc Cert.KernelMixInIdeal.main_arg0)
      ∧ m' ((c.tc : Thread Cert.ReferenceMixInIdeal.nD Cert.ReferenceMixInIdeal.τ).loc Cert.ReferenceMixInIdeal.main_arg1) = m ((c.tc : Thread Cert.KernelMixInIdeal.nD Cert.KernelMixInIdeal.τ).loc Cert.KernelMixInIdeal.main_arg1)) →
    ∃ (v0 : (c : Dev Cert.KernelMixInIdeal.nD) → Buf (Elt Ideal) ((c.tc : Thread Cert.KernelMixInIdeal.nD Cert.KernelMixInIdeal.τ).loc Cert.KernelMixInIdeal.main_v7_0)) (v1 : (c : Dev Cert.KernelMixInIdeal.nD) → Buf (Elt Ideal) ((c.tc : Thread Cert.KernelMixInIdeal.nD Cert.KernelMixInIdeal.τ).loc Cert.KernelMixInIdeal.main_v7_1)) (v2 : (c : Dev Cert.KernelMixInIdeal.nD) → Buf (Elt Ideal) ((c.tc : Thread Cert.KernelMixInIdeal.nD Cert.KernelMixInIdeal.τ).loc Cert.KernelMixInIdeal.main_v7_2)),
      θ_run (Cert.KernelMixInIdeal.defs (F := Ideal)) (onTc (τ := Cert.KernelMixInIdeal.τ) (Cert.KernelMixInIdeal.main (F := Ideal))) ⟨m, fun _ => 0, g⟩ (fun r => ∀ c : Dev Cert.KernelMixInIdeal.nD,
          r.2.mem ((c.tc : Thread Cert.KernelMixInIdeal.nD Cert.KernelMixInIdeal.τ).loc Cert.KernelMixInIdeal.main_v7_0) = v0 c
          ∧ r.2.mem ((c.tc : Thread Cert.KernelMixInIdeal.nD Cert.KernelMixInIdeal.τ).loc Cert.KernelMixInIdeal.main_v7_1) = v1 c
          ∧ r.2.mem ((c.tc : Thread Cert.KernelMixInIdeal.nD Cert.KernelMixInIdeal.τ).loc Cert.KernelMixInIdeal.main_v7_2) = v2 c
          ∧ r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
          ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1))
      ∧ θ_run (Cert.ReferenceMixInIdeal.defs (F := Ideal)) (onTc (τ := Cert.ReferenceMixInIdeal.τ) (Cert.ReferenceMixInIdeal.main (F := Ideal))) ⟨m', fun _ => 0, g'⟩ (fun r => ∀ c : Dev Cert.ReferenceMixInIdeal.nD,
          r.2.mem ((c.tc : Thread Cert.ReferenceMixInIdeal.nD Cert.ReferenceMixInIdeal.τ).loc Cert.ReferenceMixInIdeal.main_v4) = v0 c
          ∧ r.2.mem ((c.tc : Thread Cert.ReferenceMixInIdeal.nD Cert.ReferenceMixInIdeal.τ).loc Cert.ReferenceMixInIdeal.main_v1) = v1 c
          ∧ r.2.mem ((c.tc : Thread Cert.ReferenceMixInIdeal.nD Cert.ReferenceMixInIdeal.τ).loc Cert.ReferenceMixInIdeal.main_v5) = v2 c
          ∧ r.2.mem ((c.tc : Thread Cert.ReferenceMixInIdeal.nD Cert.ReferenceMixInIdeal.τ).loc Cert.ReferenceMixInIdeal.main_arg0) = m' ((c.tc : Thread Cert.ReferenceMixInIdeal.nD Cert.ReferenceMixInIdeal.τ).loc Cert.ReferenceMixInIdeal.main_arg0)
          ∧ r.2.mem ((c.tc : Thread Cert.ReferenceMixInIdeal.nD Cert.ReferenceMixInIdeal.τ).loc Cert.ReferenceMixInIdeal.main_arg1) = m' ((c.tc : Thread Cert.ReferenceMixInIdeal.nD Cert.ReferenceMixInIdeal.τ).loc Cert.ReferenceMixInIdeal.main_arg1))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)
      ∧ m' ((c.tc : Thread Cert.ReferenceUpDwIdeal.nD Cert.ReferenceUpDwIdeal.τ).loc Cert.ReferenceUpDwIdeal.main_arg2) = m ((c.tc : Thread Cert.KernelUpDwIdeal.nD Cert.KernelUpDwIdeal.τ).loc Cert.KernelUpDwIdeal.main_arg2)) →
    ∃ (v0 : (c : Dev Cert.KernelUpDwIdeal.nD) → Buf (Elt Ideal) ((c.tc : Thread Cert.KernelUpDwIdeal.nD Cert.KernelUpDwIdeal.τ).loc Cert.KernelUpDwIdeal.main_v3)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v3) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1)
          ∧ r.2.mem ((c.tc : Thread Cert.KernelUpDwIdeal.nD Cert.KernelUpDwIdeal.τ).loc Cert.KernelUpDwIdeal.main_arg2) = m ((c.tc : Thread Cert.KernelUpDwIdeal.nD Cert.KernelUpDwIdeal.τ).loc Cert.KernelUpDwIdeal.main_arg2))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v9) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1)
          ∧ r.2.mem ((c.tc : Thread Cert.ReferenceUpDwIdeal.nD Cert.ReferenceUpDwIdeal.τ).loc Cert.ReferenceUpDwIdeal.main_arg2) = m' ((c.tc : Thread Cert.ReferenceUpDwIdeal.nD Cert.ReferenceUpDwIdeal.τ).loc Cert.ReferenceUpDwIdeal.main_arg2))

def preserves_KernelAdamw_KernelAdamwIdeal : Prop :=
  True

def algebraic_KernelAdamwIdeal_ReferenceAdamwIdeal [hKernelAdamwIdeal : Cert.KernelAdamwIdeal.Facts] [hReferenceAdamwIdeal : Cert.ReferenceAdamwIdeal.Facts] : Prop :=
  ∀ (m : (ℓ : Loc Cert.KernelAdamwIdeal.nD Cert.KernelAdamwIdeal.τ Cert.KernelAdamwIdeal.sig) → Buf (Elt Ideal) ℓ) (g : Dev Cert.KernelAdamwIdeal.nD → PrngReg)
    (m' : (ℓ : Loc Cert.ReferenceAdamwIdeal.nD Cert.ReferenceAdamwIdeal.τ Cert.ReferenceAdamwIdeal.sig) → Buf (Elt Ideal) ℓ) (g' : Dev Cert.ReferenceAdamwIdeal.nD → PrngReg), Pre_KernelAdamwIdeal m →
    (∀ c : Dev Cert.KernelAdamwIdeal.nD,
      m' ((c.tc : Thread Cert.ReferenceAdamwIdeal.nD Cert.ReferenceAdamwIdeal.τ).loc Cert.ReferenceAdamwIdeal.main_arg0) = m ((c.tc : Thread Cert.KernelAdamwIdeal.nD Cert.KernelAdamwIdeal.τ).loc Cert.KernelAdamwIdeal.main_arg0)
      ∧ m' ((c.tc : Thread Cert.ReferenceAdamwIdeal.nD Cert.ReferenceAdamwIdeal.τ).loc Cert.ReferenceAdamwIdeal.main_arg1) = m ((c.tc : Thread Cert.KernelAdamwIdeal.nD Cert.KernelAdamwIdeal.τ).loc Cert.KernelAdamwIdeal.main_arg1)
      ∧ m' ((c.tc : Thread Cert.ReferenceAdamwIdeal.nD Cert.ReferenceAdamwIdeal.τ).loc Cert.ReferenceAdamwIdeal.main_arg2) = m ((c.tc : Thread Cert.KernelAdamwIdeal.nD Cert.KernelAdamwIdeal.τ).loc Cert.KernelAdamwIdeal.main_arg2)
      ∧ m' ((c.tc : Thread Cert.ReferenceAdamwIdeal.nD Cert.ReferenceAdamwIdeal.τ).loc Cert.ReferenceAdamwIdeal.main_arg3) = m ((c.tc : Thread Cert.KernelAdamwIdeal.nD Cert.KernelAdamwIdeal.τ).loc Cert.KernelAdamwIdeal.main_arg3)) →
    ∃ (v0 : (c : Dev Cert.KernelAdamwIdeal.nD) → Buf (Elt Ideal) ((c.tc : Thread Cert.KernelAdamwIdeal.nD Cert.KernelAdamwIdeal.τ).loc Cert.KernelAdamwIdeal.main_v0_0)) (v1 : (c : Dev Cert.KernelAdamwIdeal.nD) → Buf (Elt Ideal) ((c.tc : Thread Cert.KernelAdamwIdeal.nD Cert.KernelAdamwIdeal.τ).loc Cert.KernelAdamwIdeal.main_v0_1)) (v2 : (c : Dev Cert.KernelAdamwIdeal.nD) → Buf (Elt Ideal) ((c.tc : Thread Cert.KernelAdamwIdeal.nD Cert.KernelAdamwIdeal.τ).loc Cert.KernelAdamwIdeal.main_v0_2)) (v3 : (c : Dev Cert.KernelAdamwIdeal.nD) → Buf (Elt Ideal) ((c.tc : Thread Cert.KernelAdamwIdeal.nD Cert.KernelAdamwIdeal.τ).loc Cert.KernelAdamwIdeal.main_v0_3)),
      θ_run (Cert.KernelAdamwIdeal.defs (F := Ideal)) (onTc (τ := Cert.KernelAdamwIdeal.τ) (Cert.KernelAdamwIdeal.main (F := Ideal))) ⟨m, fun _ => 0, g⟩ (fun r => ∀ c : Dev Cert.KernelAdamwIdeal.nD,
          r.2.mem ((c.tc : Thread Cert.KernelAdamwIdeal.nD Cert.KernelAdamwIdeal.τ).loc Cert.KernelAdamwIdeal.main_v0_0) = v0 c
          ∧ r.2.mem ((c.tc : Thread Cert.KernelAdamwIdeal.nD Cert.KernelAdamwIdeal.τ).loc Cert.KernelAdamwIdeal.main_v0_1) = v1 c
          ∧ r.2.mem ((c.tc : Thread Cert.KernelAdamwIdeal.nD Cert.KernelAdamwIdeal.τ).loc Cert.KernelAdamwIdeal.main_v0_2) = v2 c
          ∧ r.2.mem ((c.tc : Thread Cert.KernelAdamwIdeal.nD Cert.KernelAdamwIdeal.τ).loc Cert.KernelAdamwIdeal.main_v0_3) = v3 c
          ∧ r.2.mem ((c.tc : Thread Cert.KernelAdamwIdeal.nD Cert.KernelAdamwIdeal.τ).loc Cert.KernelAdamwIdeal.main_arg0) = m ((c.tc : Thread Cert.KernelAdamwIdeal.nD Cert.KernelAdamwIdeal.τ).loc Cert.KernelAdamwIdeal.main_arg0)
          ∧ r.2.mem ((c.tc : Thread Cert.KernelAdamwIdeal.nD Cert.KernelAdamwIdeal.τ).loc Cert.KernelAdamwIdeal.main_arg1) = m ((c.tc : Thread Cert.KernelAdamwIdeal.nD Cert.KernelAdamwIdeal.τ).loc Cert.KernelAdamwIdeal.main_arg1)
          ∧ r.2.mem ((c.tc : Thread Cert.KernelAdamwIdeal.nD Cert.KernelAdamwIdeal.τ).loc Cert.KernelAdamwIdeal.main_arg2) = m ((c.tc : Thread Cert.KernelAdamwIdeal.nD Cert.KernelAdamwIdeal.τ).loc Cert.KernelAdamwIdeal.main_arg2)
          ∧ r.2.mem ((c.tc : Thread Cert.KernelAdamwIdeal.nD Cert.KernelAdamwIdeal.τ).loc Cert.KernelAdamwIdeal.main_arg3) = m ((c.tc : Thread Cert.KernelAdamwIdeal.nD Cert.KernelAdamwIdeal.τ).loc Cert.KernelAdamwIdeal.main_arg3))
      ∧ θ_run (Cert.ReferenceAdamwIdeal.defs (F := Ideal)) (onTc (τ := Cert.ReferenceAdamwIdeal.τ) (Cert.ReferenceAdamwIdeal.main (F := Ideal))) ⟨m', fun _ => 0, g'⟩ (fun r => ∀ c : Dev Cert.ReferenceAdamwIdeal.nD,
          r.2.mem ((c.tc : Thread Cert.ReferenceAdamwIdeal.nD Cert.ReferenceAdamwIdeal.τ).loc Cert.ReferenceAdamwIdeal.main_arg1) = v0 c
          ∧ r.2.mem ((c.tc : Thread Cert.ReferenceAdamwIdeal.nD Cert.ReferenceAdamwIdeal.τ).loc Cert.ReferenceAdamwIdeal.main_v23) = v1 c
          ∧ r.2.mem ((c.tc : Thread Cert.ReferenceAdamwIdeal.nD Cert.ReferenceAdamwIdeal.τ).loc Cert.ReferenceAdamwIdeal.main_v4) = v2 c
          ∧ r.2.mem ((c.tc : Thread Cert.ReferenceAdamwIdeal.nD Cert.ReferenceAdamwIdeal.τ).loc Cert.ReferenceAdamwIdeal.main_v10) = v3 c
          ∧ r.2.mem ((c.tc : Thread Cert.ReferenceAdamwIdeal.nD Cert.ReferenceAdamwIdeal.τ).loc Cert.ReferenceAdamwIdeal.main_arg0) = m' ((c.tc : Thread Cert.ReferenceAdamwIdeal.nD Cert.ReferenceAdamwIdeal.τ).loc Cert.ReferenceAdamwIdeal.main_arg0)
          ∧ r.2.mem ((c.tc : Thread Cert.ReferenceAdamwIdeal.nD Cert.ReferenceAdamwIdeal.τ).loc Cert.ReferenceAdamwIdeal.main_arg1) = m' ((c.tc : Thread Cert.ReferenceAdamwIdeal.nD Cert.ReferenceAdamwIdeal.τ).loc Cert.ReferenceAdamwIdeal.main_arg1)
          ∧ r.2.mem ((c.tc : Thread Cert.ReferenceAdamwIdeal.nD Cert.ReferenceAdamwIdeal.τ).loc Cert.ReferenceAdamwIdeal.main_arg2) = m' ((c.tc : Thread Cert.ReferenceAdamwIdeal.nD Cert.ReferenceAdamwIdeal.τ).loc Cert.ReferenceAdamwIdeal.main_arg2)
          ∧ r.2.mem ((c.tc : Thread Cert.ReferenceAdamwIdeal.nD Cert.ReferenceAdamwIdeal.τ).loc Cert.ReferenceAdamwIdeal.main_arg3) = m' ((c.tc : Thread Cert.ReferenceAdamwIdeal.nD Cert.ReferenceAdamwIdeal.τ).loc Cert.ReferenceAdamwIdeal.main_arg3))

def preserves_KernelChipSum_KernelChipSumIdeal : Prop :=
  True

def algebraic_KernelChipSumIdeal_ReferenceChipSumIdeal [hKernelChipSumIdeal : Cert.KernelChipSumIdeal.Facts] [hReferenceChipSumIdeal : Cert.ReferenceChipSumIdeal.Facts] : Prop :=
  ∀ (m : (ℓ : Loc Cert.KernelChipSumIdeal.nD Cert.KernelChipSumIdeal.τ Cert.KernelChipSumIdeal.sig) → Buf (Elt Ideal) ℓ) (g : Dev Cert.KernelChipSumIdeal.nD → PrngReg)
    (m' : (ℓ : Loc Cert.ReferenceChipSumIdeal.nD Cert.ReferenceChipSumIdeal.τ Cert.ReferenceChipSumIdeal.sig) → Buf (Elt Ideal) ℓ) (g' : Dev Cert.ReferenceChipSumIdeal.nD → PrngReg), Pre_KernelChipSumIdeal m →
    (∀ c : Dev Cert.KernelChipSumIdeal.nD,
      m' ((c.tc : Thread Cert.ReferenceChipSumIdeal.nD Cert.ReferenceChipSumIdeal.τ).loc Cert.ReferenceChipSumIdeal.main_arg0) = m ((c.tc : Thread Cert.KernelChipSumIdeal.nD Cert.KernelChipSumIdeal.τ).loc Cert.KernelChipSumIdeal.main_arg0)
      ∧ m' ((c.tc : Thread Cert.ReferenceChipSumIdeal.nD Cert.ReferenceChipSumIdeal.τ).loc Cert.ReferenceChipSumIdeal.main_arg1) = m ((c.tc : Thread Cert.KernelChipSumIdeal.nD Cert.KernelChipSumIdeal.τ).loc Cert.KernelChipSumIdeal.main_arg1)) →
    ∃ (v0 : (c : Dev Cert.KernelChipSumIdeal.nD) → Buf (Elt Ideal) ((c.tc : Thread Cert.KernelChipSumIdeal.nD Cert.KernelChipSumIdeal.τ).loc Cert.KernelChipSumIdeal.main_v0)),
      θ_run (Cert.KernelChipSumIdeal.defs (F := Ideal)) (onTc (τ := Cert.KernelChipSumIdeal.τ) (Cert.KernelChipSumIdeal.main (F := Ideal))) ⟨m, fun _ => 0, g⟩ (fun r => ∀ c : Dev Cert.KernelChipSumIdeal.nD,
          r.2.mem ((c.tc : Thread Cert.KernelChipSumIdeal.nD Cert.KernelChipSumIdeal.τ).loc Cert.KernelChipSumIdeal.main_v0) = v0 c
          ∧ r.2.mem ((c.tc : Thread Cert.KernelChipSumIdeal.nD Cert.KernelChipSumIdeal.τ).loc Cert.KernelChipSumIdeal.main_arg0) = m ((c.tc : Thread Cert.KernelChipSumIdeal.nD Cert.KernelChipSumIdeal.τ).loc Cert.KernelChipSumIdeal.main_arg0)
          ∧ r.2.mem ((c.tc : Thread Cert.KernelChipSumIdeal.nD Cert.KernelChipSumIdeal.τ).loc Cert.KernelChipSumIdeal.main_arg1) = m ((c.tc : Thread Cert.KernelChipSumIdeal.nD Cert.KernelChipSumIdeal.τ).loc Cert.KernelChipSumIdeal.main_arg1))
      ∧ θ_run (Cert.ReferenceChipSumIdeal.defs (F := Ideal)) (onTc (τ := Cert.ReferenceChipSumIdeal.τ) (Cert.ReferenceChipSumIdeal.main (F := Ideal))) ⟨m', fun _ => 0, g'⟩ (fun r => ∀ c : Dev Cert.ReferenceChipSumIdeal.nD,
          r.2.mem ((c.tc : Thread Cert.ReferenceChipSumIdeal.nD Cert.ReferenceChipSumIdeal.τ).loc Cert.ReferenceChipSumIdeal.main_v4) = v0 c
          ∧ r.2.mem ((c.tc : Thread Cert.ReferenceChipSumIdeal.nD Cert.ReferenceChipSumIdeal.τ).loc Cert.ReferenceChipSumIdeal.main_arg0) = m' ((c.tc : Thread Cert.ReferenceChipSumIdeal.nD Cert.ReferenceChipSumIdeal.τ).loc Cert.ReferenceChipSumIdeal.main_arg0)
          ∧ r.2.mem ((c.tc : Thread Cert.ReferenceChipSumIdeal.nD Cert.ReferenceChipSumIdeal.τ).loc Cert.ReferenceChipSumIdeal.main_arg1) = m' ((c.tc : Thread Cert.ReferenceChipSumIdeal.nD Cert.ReferenceChipSumIdeal.τ).loc Cert.ReferenceChipSumIdeal.main_arg1))

def preserves_KernelFinalSum_KernelFinalSumIdeal : Prop :=
  True

def algebraic_KernelFinalSumIdeal_ReferenceFinalSumIdeal [hKernelFinalSumIdeal : Cert.KernelFinalSumIdeal.Facts] [hReferenceFinalSumIdeal : Cert.ReferenceFinalSumIdeal.Facts] : Prop :=
  ∀ (m : (ℓ : Loc Cert.KernelFinalSumIdeal.nD Cert.KernelFinalSumIdeal.τ Cert.KernelFinalSumIdeal.sig) → Buf (Elt Ideal) ℓ) (g : Dev Cert.KernelFinalSumIdeal.nD → PrngReg)
    (m' : (ℓ : Loc Cert.ReferenceFinalSumIdeal.nD Cert.ReferenceFinalSumIdeal.τ Cert.ReferenceFinalSumIdeal.sig) → Buf (Elt Ideal) ℓ) (g' : Dev Cert.ReferenceFinalSumIdeal.nD → PrngReg), Pre_KernelFinalSumIdeal m →
    (∀ c : Dev Cert.KernelFinalSumIdeal.nD,
      m' ((c.tc : Thread Cert.ReferenceFinalSumIdeal.nD Cert.ReferenceFinalSumIdeal.τ).loc Cert.ReferenceFinalSumIdeal.main_arg0) = m ((c.tc : Thread Cert.KernelFinalSumIdeal.nD Cert.KernelFinalSumIdeal.τ).loc Cert.KernelFinalSumIdeal.main_arg0)
      ∧ m' ((c.tc : Thread Cert.ReferenceFinalSumIdeal.nD Cert.ReferenceFinalSumIdeal.τ).loc Cert.ReferenceFinalSumIdeal.main_arg1) = m ((c.tc : Thread Cert.KernelFinalSumIdeal.nD Cert.KernelFinalSumIdeal.τ).loc Cert.KernelFinalSumIdeal.main_arg1)
      ∧ m' ((c.tc : Thread Cert.ReferenceFinalSumIdeal.nD Cert.ReferenceFinalSumIdeal.τ).loc Cert.ReferenceFinalSumIdeal.main_arg2) = m ((c.tc : Thread Cert.KernelFinalSumIdeal.nD Cert.KernelFinalSumIdeal.τ).loc Cert.KernelFinalSumIdeal.main_arg2)
      ∧ m' ((c.tc : Thread Cert.ReferenceFinalSumIdeal.nD Cert.ReferenceFinalSumIdeal.τ).loc Cert.ReferenceFinalSumIdeal.main_arg3) = m ((c.tc : Thread Cert.KernelFinalSumIdeal.nD Cert.KernelFinalSumIdeal.τ).loc Cert.KernelFinalSumIdeal.main_arg3)) →
    ∃ (v0 : (c : Dev Cert.KernelFinalSumIdeal.nD) → Buf (Elt Ideal) ((c.tc : Thread Cert.KernelFinalSumIdeal.nD Cert.KernelFinalSumIdeal.τ).loc Cert.KernelFinalSumIdeal.main_v0)),
      θ_run (Cert.KernelFinalSumIdeal.defs (F := Ideal)) (onTc (τ := Cert.KernelFinalSumIdeal.τ) (Cert.KernelFinalSumIdeal.main (F := Ideal))) ⟨m, fun _ => 0, g⟩ (fun r => ∀ c : Dev Cert.KernelFinalSumIdeal.nD,
          r.2.mem ((c.tc : Thread Cert.KernelFinalSumIdeal.nD Cert.KernelFinalSumIdeal.τ).loc Cert.KernelFinalSumIdeal.main_v0) = v0 c
          ∧ r.2.mem ((c.tc : Thread Cert.KernelFinalSumIdeal.nD Cert.KernelFinalSumIdeal.τ).loc Cert.KernelFinalSumIdeal.main_arg0) = m ((c.tc : Thread Cert.KernelFinalSumIdeal.nD Cert.KernelFinalSumIdeal.τ).loc Cert.KernelFinalSumIdeal.main_arg0)
          ∧ r.2.mem ((c.tc : Thread Cert.KernelFinalSumIdeal.nD Cert.KernelFinalSumIdeal.τ).loc Cert.KernelFinalSumIdeal.main_arg1) = m ((c.tc : Thread Cert.KernelFinalSumIdeal.nD Cert.KernelFinalSumIdeal.τ).loc Cert.KernelFinalSumIdeal.main_arg1)
          ∧ r.2.mem ((c.tc : Thread Cert.KernelFinalSumIdeal.nD Cert.KernelFinalSumIdeal.τ).loc Cert.KernelFinalSumIdeal.main_arg2) = m ((c.tc : Thread Cert.KernelFinalSumIdeal.nD Cert.KernelFinalSumIdeal.τ).loc Cert.KernelFinalSumIdeal.main_arg2)
          ∧ r.2.mem ((c.tc : Thread Cert.KernelFinalSumIdeal.nD Cert.KernelFinalSumIdeal.τ).loc Cert.KernelFinalSumIdeal.main_arg3) = m ((c.tc : Thread Cert.KernelFinalSumIdeal.nD Cert.KernelFinalSumIdeal.τ).loc Cert.KernelFinalSumIdeal.main_arg3))
      ∧ θ_run (Cert.ReferenceFinalSumIdeal.defs (F := Ideal)) (onTc (τ := Cert.ReferenceFinalSumIdeal.τ) (Cert.ReferenceFinalSumIdeal.main (F := Ideal))) ⟨m', fun _ => 0, g'⟩ (fun r => ∀ c : Dev Cert.ReferenceFinalSumIdeal.nD,
          r.2.mem ((c.tc : Thread Cert.ReferenceFinalSumIdeal.nD Cert.ReferenceFinalSumIdeal.τ).loc Cert.ReferenceFinalSumIdeal.main_v11) = v0 c
          ∧ r.2.mem ((c.tc : Thread Cert.ReferenceFinalSumIdeal.nD Cert.ReferenceFinalSumIdeal.τ).loc Cert.ReferenceFinalSumIdeal.main_arg0) = m' ((c.tc : Thread Cert.ReferenceFinalSumIdeal.nD Cert.ReferenceFinalSumIdeal.τ).loc Cert.ReferenceFinalSumIdeal.main_arg0)
          ∧ r.2.mem ((c.tc : Thread Cert.ReferenceFinalSumIdeal.nD Cert.ReferenceFinalSumIdeal.τ).loc Cert.ReferenceFinalSumIdeal.main_arg1) = m' ((c.tc : Thread Cert.ReferenceFinalSumIdeal.nD Cert.ReferenceFinalSumIdeal.τ).loc Cert.ReferenceFinalSumIdeal.main_arg1)
          ∧ r.2.mem ((c.tc : Thread Cert.ReferenceFinalSumIdeal.nD Cert.ReferenceFinalSumIdeal.τ).loc Cert.ReferenceFinalSumIdeal.main_arg2) = m' ((c.tc : Thread Cert.ReferenceFinalSumIdeal.nD Cert.ReferenceFinalSumIdeal.τ).loc Cert.ReferenceFinalSumIdeal.main_arg2)
          ∧ r.2.mem ((c.tc : Thread Cert.ReferenceFinalSumIdeal.nD Cert.ReferenceFinalSumIdeal.τ).loc Cert.ReferenceFinalSumIdeal.main_arg3) = m' ((c.tc : Thread Cert.ReferenceFinalSumIdeal.nD Cert.ReferenceFinalSumIdeal.τ).loc Cert.ReferenceFinalSumIdeal.main_arg3))

def preserves_KernelPlaceOwn_KernelPlaceOwnIdeal : Prop :=
  True

def algebraic_KernelPlaceOwnIdeal_ReferencePlaceOwnIdeal [hKernelPlaceOwnIdeal : Cert.KernelPlaceOwnIdeal.Facts] [hReferencePlaceOwnIdeal : Cert.ReferencePlaceOwnIdeal.Facts] : Prop :=
  ∀ (m : (ℓ : Loc Cert.KernelPlaceOwnIdeal.nD Cert.KernelPlaceOwnIdeal.τ Cert.KernelPlaceOwnIdeal.sig) → Buf (Elt Ideal) ℓ) (g : Dev Cert.KernelPlaceOwnIdeal.nD → PrngReg)
    (m' : (ℓ : Loc Cert.ReferencePlaceOwnIdeal.nD Cert.ReferencePlaceOwnIdeal.τ Cert.ReferencePlaceOwnIdeal.sig) → Buf (Elt Ideal) ℓ) (g' : Dev Cert.ReferencePlaceOwnIdeal.nD → PrngReg), Pre_KernelPlaceOwnIdeal m →
    (∀ c : Dev Cert.KernelPlaceOwnIdeal.nD,
      m' ((c.tc : Thread Cert.ReferencePlaceOwnIdeal.nD Cert.ReferencePlaceOwnIdeal.τ).loc Cert.ReferencePlaceOwnIdeal.main_arg0) = m ((c.tc : Thread Cert.KernelPlaceOwnIdeal.nD Cert.KernelPlaceOwnIdeal.τ).loc Cert.KernelPlaceOwnIdeal.main_arg0)
      ∧ m' ((c.tc : Thread Cert.ReferencePlaceOwnIdeal.nD Cert.ReferencePlaceOwnIdeal.τ).loc Cert.ReferencePlaceOwnIdeal.main_arg1) = m ((c.tc : Thread Cert.KernelPlaceOwnIdeal.nD Cert.KernelPlaceOwnIdeal.τ).loc Cert.KernelPlaceOwnIdeal.main_arg1)
      ∧ m' ((c.tc : Thread Cert.ReferencePlaceOwnIdeal.nD Cert.ReferencePlaceOwnIdeal.τ).loc Cert.ReferencePlaceOwnIdeal.main_arg2) = m ((c.tc : Thread Cert.KernelPlaceOwnIdeal.nD Cert.KernelPlaceOwnIdeal.τ).loc Cert.KernelPlaceOwnIdeal.main_arg2)
      ∧ m' ((c.tc : Thread Cert.ReferencePlaceOwnIdeal.nD Cert.ReferencePlaceOwnIdeal.τ).loc Cert.ReferencePlaceOwnIdeal.main_arg3) = m ((c.tc : Thread Cert.KernelPlaceOwnIdeal.nD Cert.KernelPlaceOwnIdeal.τ).loc Cert.KernelPlaceOwnIdeal.main_arg3)) →
    ∃ (v0 : (c : Dev Cert.KernelPlaceOwnIdeal.nD) → Buf (Elt Ideal) ((c.tc : Thread Cert.KernelPlaceOwnIdeal.nD Cert.KernelPlaceOwnIdeal.τ).loc Cert.KernelPlaceOwnIdeal.main_v0_0)) (v1 : (c : Dev Cert.KernelPlaceOwnIdeal.nD) → Buf (Elt Ideal) ((c.tc : Thread Cert.KernelPlaceOwnIdeal.nD Cert.KernelPlaceOwnIdeal.τ).loc Cert.KernelPlaceOwnIdeal.main_v0_1)),
      θ_run (Cert.KernelPlaceOwnIdeal.defs (F := Ideal)) (onTc (τ := Cert.KernelPlaceOwnIdeal.τ) (Cert.KernelPlaceOwnIdeal.main (F := Ideal))) ⟨m, fun _ => 0, g⟩ (fun r => ∀ c : Dev Cert.KernelPlaceOwnIdeal.nD,
          r.2.mem ((c.tc : Thread Cert.KernelPlaceOwnIdeal.nD Cert.KernelPlaceOwnIdeal.τ).loc Cert.KernelPlaceOwnIdeal.main_v0_0) = v0 c
          ∧ r.2.mem ((c.tc : Thread Cert.KernelPlaceOwnIdeal.nD Cert.KernelPlaceOwnIdeal.τ).loc Cert.KernelPlaceOwnIdeal.main_v0_1) = v1 c
          ∧ r.2.mem ((c.tc : Thread Cert.KernelPlaceOwnIdeal.nD Cert.KernelPlaceOwnIdeal.τ).loc Cert.KernelPlaceOwnIdeal.main_arg0) = m ((c.tc : Thread Cert.KernelPlaceOwnIdeal.nD Cert.KernelPlaceOwnIdeal.τ).loc Cert.KernelPlaceOwnIdeal.main_arg0)
          ∧ r.2.mem ((c.tc : Thread Cert.KernelPlaceOwnIdeal.nD Cert.KernelPlaceOwnIdeal.τ).loc Cert.KernelPlaceOwnIdeal.main_arg1) = m ((c.tc : Thread Cert.KernelPlaceOwnIdeal.nD Cert.KernelPlaceOwnIdeal.τ).loc Cert.KernelPlaceOwnIdeal.main_arg1)
          ∧ r.2.mem ((c.tc : Thread Cert.KernelPlaceOwnIdeal.nD Cert.KernelPlaceOwnIdeal.τ).loc Cert.KernelPlaceOwnIdeal.main_arg2) = m ((c.tc : Thread Cert.KernelPlaceOwnIdeal.nD Cert.KernelPlaceOwnIdeal.τ).loc Cert.KernelPlaceOwnIdeal.main_arg2)
          ∧ r.2.mem ((c.tc : Thread Cert.KernelPlaceOwnIdeal.nD Cert.KernelPlaceOwnIdeal.τ).loc Cert.KernelPlaceOwnIdeal.main_arg3) = m ((c.tc : Thread Cert.KernelPlaceOwnIdeal.nD Cert.KernelPlaceOwnIdeal.τ).loc Cert.KernelPlaceOwnIdeal.main_arg3))
      ∧ θ_run (Cert.ReferencePlaceOwnIdeal.defs (F := Ideal)) (onTc (τ := Cert.ReferencePlaceOwnIdeal.τ) (Cert.ReferencePlaceOwnIdeal.main (F := Ideal))) ⟨m', fun _ => 0, g'⟩ (fun r => ∀ c : Dev Cert.ReferencePlaceOwnIdeal.nD,
          r.2.mem ((c.tc : Thread Cert.ReferencePlaceOwnIdeal.nD Cert.ReferencePlaceOwnIdeal.τ).loc Cert.ReferencePlaceOwnIdeal.main_v1) = v0 c
          ∧ r.2.mem ((c.tc : Thread Cert.ReferencePlaceOwnIdeal.nD Cert.ReferencePlaceOwnIdeal.τ).loc Cert.ReferencePlaceOwnIdeal.main_v3) = v1 c
          ∧ r.2.mem ((c.tc : Thread Cert.ReferencePlaceOwnIdeal.nD Cert.ReferencePlaceOwnIdeal.τ).loc Cert.ReferencePlaceOwnIdeal.main_arg0) = m' ((c.tc : Thread Cert.ReferencePlaceOwnIdeal.nD Cert.ReferencePlaceOwnIdeal.τ).loc Cert.ReferencePlaceOwnIdeal.main_arg0)
          ∧ r.2.mem ((c.tc : Thread Cert.ReferencePlaceOwnIdeal.nD Cert.ReferencePlaceOwnIdeal.τ).loc Cert.ReferencePlaceOwnIdeal.main_arg1) = m' ((c.tc : Thread Cert.ReferencePlaceOwnIdeal.nD Cert.ReferencePlaceOwnIdeal.τ).loc Cert.ReferencePlaceOwnIdeal.main_arg1)
          ∧ r.2.mem ((c.tc : Thread Cert.ReferencePlaceOwnIdeal.nD Cert.ReferencePlaceOwnIdeal.τ).loc Cert.ReferencePlaceOwnIdeal.main_arg2) = m' ((c.tc : Thread Cert.ReferencePlaceOwnIdeal.nD Cert.ReferencePlaceOwnIdeal.τ).loc Cert.ReferencePlaceOwnIdeal.main_arg2)
          ∧ r.2.mem ((c.tc : Thread Cert.ReferencePlaceOwnIdeal.nD Cert.ReferencePlaceOwnIdeal.τ).loc Cert.ReferencePlaceOwnIdeal.main_arg3) = m' ((c.tc : Thread Cert.ReferencePlaceOwnIdeal.nD Cert.ReferencePlaceOwnIdeal.τ).loc Cert.ReferencePlaceOwnIdeal.main_arg3))

def Claim : Prop :=
  ∃ (hKernelGate : Cert.KernelGate.Facts) (hKernelGateIdeal : Cert.KernelGateIdeal.Facts) (hReferenceGateIdeal : Cert.ReferenceGateIdeal.Facts) (hKernelAttn : Cert.KernelAttn.Facts) (hKernelAttnIdeal : Cert.KernelAttnIdeal.Facts) (hReferenceAttnIdeal : Cert.ReferenceAttnIdeal.Facts) (hKernelPool : Cert.KernelPool.Facts) (hKernelPoolIdeal : Cert.KernelPoolIdeal.Facts) (hReferencePoolIdeal : Cert.ReferencePoolIdeal.Facts) (hKernelLat : Cert.KernelLat.Facts) (hKernelLatIdeal : Cert.KernelLatIdeal.Facts) (hReferenceLatIdeal : Cert.ReferenceLatIdeal.Facts) (hKernelAct : Cert.KernelAct.Facts) (hKernelActIdeal : Cert.KernelActIdeal.Facts) (hReferenceActIdeal : Cert.ReferenceActIdeal.Facts) (hKernelUpNorm : Cert.KernelUpNorm.Facts) (hKernelUpNormIdeal : Cert.KernelUpNormIdeal.Facts) (hReferenceUpNormIdeal : Cert.ReferenceUpNormIdeal.Facts) (hKernelInNorm : Cert.KernelInNorm.Facts) (hKernelInNormIdeal : Cert.KernelInNormIdeal.Facts) (hReferenceInNormIdeal : Cert.ReferenceInNormIdeal.Facts) (hKernelLoss : Cert.KernelLoss.Facts) (hKernelLossIdeal : Cert.KernelLossIdeal.Facts) (hReferenceLossIdeal : Cert.ReferenceLossIdeal.Facts) (hKernelRms : Cert.KernelRms.Facts) (hKernelRmsIdeal : Cert.KernelRmsIdeal.Facts) (hReferenceRmsIdeal : Cert.ReferenceRmsIdeal.Facts) (hKernelUpAct : Cert.KernelUpAct.Facts) (hKernelUpActIdeal : Cert.KernelUpActIdeal.Facts) (hReferenceUpActIdeal : Cert.ReferenceUpActIdeal.Facts) (hKernelProjGate : Cert.KernelProjGate.Facts) (hKernelProjGateIdeal : Cert.KernelProjGateIdeal.Facts) (hReferenceProjGateIdeal : Cert.ReferenceProjGateIdeal.Facts) (hKernelLatFwd : Cert.KernelLatFwd.Facts) (hKernelLatFwdIdeal : Cert.KernelLatFwdIdeal.Facts) (hReferenceLatFwdIdeal : Cert.ReferenceLatFwdIdeal.Facts) (hKernelPoolFwd : Cert.KernelPoolFwd.Facts) (hKernelPoolFwdIdeal : Cert.KernelPoolFwdIdeal.Facts) (hReferencePoolFwdIdeal : Cert.ReferencePoolFwdIdeal.Facts) (hKernelSwap : Cert.KernelSwap.Facts) (hKernelSwapIdeal : Cert.KernelSwapIdeal.Facts) (hReferenceSwapIdeal : Cert.ReferenceSwapIdeal.Facts) (hKernelDown : Cert.KernelDown.Facts) (hKernelDownIdeal : Cert.KernelDownIdeal.Facts) (hReferenceDownIdeal : Cert.ReferenceDownIdeal.Facts) (hKernelMixIn : Cert.KernelMixIn.Facts) (hKernelMixInIdeal : Cert.KernelMixInIdeal.Facts) (hReferenceMixInIdeal : Cert.ReferenceMixInIdeal.Facts) (hKernelUpDw : Cert.KernelUpDw.Facts) (hKernelUpDwIdeal : Cert.KernelUpDwIdeal.Facts) (hReferenceUpDwIdeal : Cert.ReferenceUpDwIdeal.Facts) (hKernelAdamw : Cert.KernelAdamw.Facts) (hKernelAdamwIdeal : Cert.KernelAdamwIdeal.Facts) (hReferenceAdamwIdeal : Cert.ReferenceAdamwIdeal.Facts) (hKernelChipSum : Cert.KernelChipSum.Facts) (hKernelChipSumIdeal : Cert.KernelChipSumIdeal.Facts) (hReferenceChipSumIdeal : Cert.ReferenceChipSumIdeal.Facts) (hKernelFinalSum : Cert.KernelFinalSum.Facts) (hKernelFinalSumIdeal : Cert.KernelFinalSumIdeal.Facts) (hReferenceFinalSumIdeal : Cert.ReferenceFinalSumIdeal.Facts) (hKernelPlaceOwn : Cert.KernelPlaceOwn.Facts) (hKernelPlaceOwnIdeal : Cert.KernelPlaceOwnIdeal.Facts) (hReferencePlaceOwnIdeal : Cert.ReferencePlaceOwnIdeal.Facts) (hPre_finite_attn : Cert.Pre_finite_attn.Facts) (hPre_finite_pool : Cert.Pre_finite_pool.Facts) (hPre_finite_act : Cert.Pre_finite_act.Facts) (hPre_finite_poolf : Cert.Pre_finite_poolf.Facts) (hOn_head_columns : Cert.On_head_columns.Facts) (hOn_lat_columns : Cert.On_lat_columns.Facts),
    quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ quiescent_KernelPool (hKernelPool := hKernelPool)
    ∧ quiescent_KernelPoolIdeal (hKernelPoolIdeal := hKernelPoolIdeal)
    ∧ quiescent_KernelPoolIdeal_pre_finite_pool (hKernelPoolIdeal := hKernelPoolIdeal) (hPre_finite_pool := hPre_finite_pool)
    ∧ quiescent_ReferencePoolIdeal (hReferencePoolIdeal := hReferencePoolIdeal)
    ∧ quiescent_ReferencePoolIdeal_pre_finite_pool (hReferencePoolIdeal := hReferencePoolIdeal) (hPre_finite_pool := hPre_finite_pool)
    ∧ quiescent_KernelLat (hKernelLat := hKernelLat)
    ∧ quiescent_KernelLatIdeal (hKernelLatIdeal := hKernelLatIdeal)
    ∧ quiescent_ReferenceLatIdeal (hReferenceLatIdeal := hReferenceLatIdeal)
    ∧ quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelUpNorm (hKernelUpNorm := hKernelUpNorm)
    ∧ quiescent_KernelUpNormIdeal (hKernelUpNormIdeal := hKernelUpNormIdeal)
    ∧ quiescent_ReferenceUpNormIdeal (hReferenceUpNormIdeal := hReferenceUpNormIdeal)
    ∧ quiescent_KernelInNorm (hKernelInNorm := hKernelInNorm)
    ∧ quiescent_KernelInNormIdeal (hKernelInNormIdeal := hKernelInNormIdeal)
    ∧ quiescent_ReferenceInNormIdeal (hReferenceInNormIdeal := hReferenceInNormIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ quiescent_KernelUpAct (hKernelUpAct := hKernelUpAct)
    ∧ quiescent_KernelUpActIdeal (hKernelUpActIdeal := hKernelUpActIdeal)
    ∧ quiescent_ReferenceUpActIdeal (hReferenceUpActIdeal := hReferenceUpActIdeal)
    ∧ quiescent_KernelProjGate (hKernelProjGate := hKernelProjGate)
    ∧ quiescent_KernelProjGateIdeal (hKernelProjGateIdeal := hKernelProjGateIdeal)
    ∧ quiescent_ReferenceProjGateIdeal (hReferenceProjGateIdeal := hReferenceProjGateIdeal)
    ∧ quiescent_KernelLatFwd (hKernelLatFwd := hKernelLatFwd)
    ∧ quiescent_KernelLatFwdIdeal (hKernelLatFwdIdeal := hKernelLatFwdIdeal)
    ∧ quiescent_ReferenceLatFwdIdeal (hReferenceLatFwdIdeal := hReferenceLatFwdIdeal)
    ∧ quiescent_KernelPoolFwd (hKernelPoolFwd := hKernelPoolFwd)
    ∧ quiescent_KernelPoolFwdIdeal (hKernelPoolFwdIdeal := hKernelPoolFwdIdeal)
    ∧ quiescent_KernelPoolFwdIdeal_pre_finite_poolf (hKernelPoolFwdIdeal := hKernelPoolFwdIdeal) (hPre_finite_poolf := hPre_finite_poolf)
    ∧ quiescent_ReferencePoolFwdIdeal (hReferencePoolFwdIdeal := hReferencePoolFwdIdeal)
    ∧ quiescent_ReferencePoolFwdIdeal_pre_finite_poolf (hReferencePoolFwdIdeal := hReferencePoolFwdIdeal) (hPre_finite_poolf := hPre_finite_poolf)
    ∧ quiescent_KernelSwap (hKernelSwap := hKernelSwap)
    ∧ quiescent_KernelSwapIdeal (hKernelSwapIdeal := hKernelSwapIdeal)
    ∧ quiescent_ReferenceSwapIdeal (hReferenceSwapIdeal := hReferenceSwapIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelMixIn (hKernelMixIn := hKernelMixIn)
    ∧ quiescent_KernelMixInIdeal (hKernelMixInIdeal := hKernelMixInIdeal)
    ∧ quiescent_ReferenceMixInIdeal (hReferenceMixInIdeal := hReferenceMixInIdeal)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelAdamw (hKernelAdamw := hKernelAdamw)
    ∧ quiescent_KernelAdamwIdeal (hKernelAdamwIdeal := hKernelAdamwIdeal)
    ∧ quiescent_ReferenceAdamwIdeal (hReferenceAdamwIdeal := hReferenceAdamwIdeal)
    ∧ quiescent_KernelChipSum (hKernelChipSum := hKernelChipSum)
    ∧ quiescent_KernelChipSumIdeal (hKernelChipSumIdeal := hKernelChipSumIdeal)
    ∧ quiescent_ReferenceChipSumIdeal (hReferenceChipSumIdeal := hReferenceChipSumIdeal)
    ∧ quiescent_KernelFinalSum (hKernelFinalSum := hKernelFinalSum)
    ∧ quiescent_KernelFinalSumIdeal (hKernelFinalSumIdeal := hKernelFinalSumIdeal)
    ∧ quiescent_ReferenceFinalSumIdeal (hReferenceFinalSumIdeal := hReferenceFinalSumIdeal)
    ∧ quiescent_KernelPlaceOwn (hKernelPlaceOwn := hKernelPlaceOwn)
    ∧ quiescent_KernelPlaceOwnIdeal (hKernelPlaceOwnIdeal := hKernelPlaceOwnIdeal)
    ∧ quiescent_ReferencePlaceOwnIdeal (hReferencePlaceOwnIdeal := hReferencePlaceOwnIdeal)
    ∧ preserves_KernelGate_KernelGateIdeal
    ∧ algebraic_KernelGateIdeal_ReferenceGateIdeal (hKernelGateIdeal := hKernelGateIdeal) (hReferenceGateIdeal := hReferenceGateIdeal)
    ∧ preserves_KernelAttn_KernelAttnIdeal
    ∧ algebraic_KernelAttnIdeal_ReferenceAttnIdeal_on_head_columns_pre_finite_attn (hKernelAttnIdeal := hKernelAttnIdeal) (hReferenceAttnIdeal := hReferenceAttnIdeal) (hPre_finite_attn := hPre_finite_attn) (hOn_head_columns := hOn_head_columns)
    ∧ preserves_KernelPool_KernelPoolIdeal
    ∧ algebraic_KernelPoolIdeal_ReferencePoolIdeal_pre_finite_pool (hKernelPoolIdeal := hKernelPoolIdeal) (hReferencePoolIdeal := hReferencePoolIdeal) (hPre_finite_pool := hPre_finite_pool)
    ∧ preserves_KernelLat_KernelLatIdeal
    ∧ algebraic_KernelLatIdeal_ReferenceLatIdeal_on_lat_columns (hKernelLatIdeal := hKernelLatIdeal) (hReferenceLatIdeal := hReferenceLatIdeal) (hOn_lat_columns := hOn_lat_columns)
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelUpNorm_KernelUpNormIdeal
    ∧ algebraic_KernelUpNormIdeal_ReferenceUpNormIdeal (hKernelUpNormIdeal := hKernelUpNormIdeal) (hReferenceUpNormIdeal := hReferenceUpNormIdeal)
    ∧ preserves_KernelInNorm_KernelInNormIdeal
    ∧ algebraic_KernelInNormIdeal_ReferenceInNormIdeal (hKernelInNormIdeal := hKernelInNormIdeal) (hReferenceInNormIdeal := hReferenceInNormIdeal)
    ∧ preserves_KernelLoss_KernelLossIdeal
    ∧ algebraic_KernelLossIdeal_ReferenceLossIdeal (hKernelLossIdeal := hKernelLossIdeal) (hReferenceLossIdeal := hReferenceLossIdeal)
    ∧ preserves_KernelRms_KernelRmsIdeal
    ∧ algebraic_KernelRmsIdeal_ReferenceRmsIdeal (hKernelRmsIdeal := hKernelRmsIdeal) (hReferenceRmsIdeal := hReferenceRmsIdeal)
    ∧ preserves_KernelUpAct_KernelUpActIdeal
    ∧ algebraic_KernelUpActIdeal_ReferenceUpActIdeal (hKernelUpActIdeal := hKernelUpActIdeal) (hReferenceUpActIdeal := hReferenceUpActIdeal)
    ∧ preserves_KernelProjGate_KernelProjGateIdeal
    ∧ algebraic_KernelProjGateIdeal_ReferenceProjGateIdeal (hKernelProjGateIdeal := hKernelProjGateIdeal) (hReferenceProjGateIdeal := hReferenceProjGateIdeal)
    ∧ preserves_KernelLatFwd_KernelLatFwdIdeal
    ∧ algebraic_KernelLatFwdIdeal_ReferenceLatFwdIdeal (hKernelLatFwdIdeal := hKernelLatFwdIdeal) (hReferenceLatFwdIdeal := hReferenceLatFwdIdeal)
    ∧ preserves_KernelPoolFwd_KernelPoolFwdIdeal
    ∧ algebraic_KernelPoolFwdIdeal_ReferencePoolFwdIdeal_pre_finite_poolf (hKernelPoolFwdIdeal := hKernelPoolFwdIdeal) (hReferencePoolFwdIdeal := hReferencePoolFwdIdeal) (hPre_finite_poolf := hPre_finite_poolf)
    ∧ preserves_KernelSwap_KernelSwapIdeal
    ∧ algebraic_KernelSwapIdeal_ReferenceSwapIdeal (hKernelSwapIdeal := hKernelSwapIdeal) (hReferenceSwapIdeal := hReferenceSwapIdeal)
    ∧ preserves_KernelDown_KernelDownIdeal
    ∧ algebraic_KernelDownIdeal_ReferenceDownIdeal (hKernelDownIdeal := hKernelDownIdeal) (hReferenceDownIdeal := hReferenceDownIdeal)
    ∧ preserves_KernelMixIn_KernelMixInIdeal
    ∧ algebraic_KernelMixInIdeal_ReferenceMixInIdeal (hKernelMixInIdeal := hKernelMixInIdeal) (hReferenceMixInIdeal := hReferenceMixInIdeal)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelAdamw_KernelAdamwIdeal
    ∧ algebraic_KernelAdamwIdeal_ReferenceAdamwIdeal (hKernelAdamwIdeal := hKernelAdamwIdeal) (hReferenceAdamwIdeal := hReferenceAdamwIdeal)
    ∧ preserves_KernelChipSum_KernelChipSumIdeal
    ∧ algebraic_KernelChipSumIdeal_ReferenceChipSumIdeal (hKernelChipSumIdeal := hKernelChipSumIdeal) (hReferenceChipSumIdeal := hReferenceChipSumIdeal)
    ∧ preserves_KernelFinalSum_KernelFinalSumIdeal
    ∧ algebraic_KernelFinalSumIdeal_ReferenceFinalSumIdeal (hKernelFinalSumIdeal := hKernelFinalSumIdeal) (hReferenceFinalSumIdeal := hReferenceFinalSumIdeal)
    ∧ preserves_KernelPlaceOwn_KernelPlaceOwnIdeal
    ∧ algebraic_KernelPlaceOwnIdeal_ReferencePlaceOwnIdeal (hKernelPlaceOwnIdeal := hKernelPlaceOwnIdeal) (hReferencePlaceOwnIdeal := hReferencePlaceOwnIdeal)
-- ==== On_head_columns.lean ====
abbrev S2x2048x8x192 : Shape := ⟨4, ![2, 2048, 8, 192]⟩
abbrev S2x2048x8x256 : Shape := ⟨4, ![2, 2048, 8, 256]⟩
abbrev S2x2048x64 : Shape := ⟨3, ![2, 2048, 64]⟩
abbrev S2x2048x8x128 : Shape := ⟨4, ![2, 2048, 8, 128]⟩
abbrev S2x2048 : Shape := ⟨2, ![2, 2048]⟩
abbrev S4096x2048 : Shape := ⟨2, ![4096, 2048]⟩
abbrev S_ : Shape := ⟨0, ![]⟩
abbrev S4096x128 : Shape := ⟨2, ![4096, 128]⟩
abbrev S4096x1024 : Shape := ⟨2, ![4096, 1024]⟩
abbrev S8x4096x1 : Shape := ⟨3, ![8, 4096, 1]⟩

class Facts : Prop where
  bcast_S_S4096x2048 : S_.BroadcastsInDim S4096x2048 (![] : Fin 0 → Fin S4096x2048.rank)
  bcast_S_S4096x128 : S_.BroadcastsInDim S4096x128 (![] : Fin 0 → Fin S4096x128.rank)
  bcast_S_S4096x1024 : S_.BroadcastsInDim S4096x1024 (![] : Fin 0 → Fin S4096x1024.rank)
  bcast_S_S8x4096x1 : S_.BroadcastsInDim S8x4096x1 (![] : Fin 0 → Fin S8x4096x1.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4096x2048 32) (arg1 : IVec S_ 32) : IVec S4096x2048 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4096x2048 32 := broadcastInDim S4096x2048 ![] bcast_S_S4096x2048 v2
  let v4 : IVec S4096x2048 32 := Host.remsi arg0 v3
  let c_1 : IVec S_ 32 := constantI S_ 32 0#32
  let v5 : IVec S4096x2048 32 := broadcastInDim S4096x2048 ![] bcast_S_S4096x2048 c_1
  let v6 : IVec S4096x2048 1 := cmpi .ne v4 v5
  let c_2 : IVec S_ 32 := constantI S_ 32 0#32
  let v7 : IVec S4096x2048 32 := broadcastInDim S4096x2048 ![] bcast_S_S4096x2048 c_2
  let v8 : IVec S4096x2048 1 := cmpi .slt v4 v7
  let c_3 : IVec S_ 32 := constantI S_ 32 0#32
  let v9 : IVec S_ 1 := cmpi .slt v2 c_3
  let v10 : IVec S4096x2048 1 := broadcastInDim S4096x2048 ![] bcast_S_S4096x2048 v9
  let v11 : IVec S4096x2048 1 := cmpi .ne v8 v10
  let v12 : IVec S4096x2048 1 := andi v11 v6
  let v13 : IVec S4096x2048 32 := broadcastInDim S4096x2048 ![] bcast_S_S4096x2048 v2
  let v14 : IVec S4096x2048 32 := addi v4 v13
  let v15 : IVec S4096x2048 32 := select v12 v14 v4
  v15

def fn {F : FTy → Type} [FloatOps F] (main_arg0 : FVec F S2x2048x8x192 .f32) (main_arg1 : FVec F S2x2048x8x256 .f32) (main_arg2 : FVec F S2x2048x64 .f32) (main_arg3 : FVec F S2x2048x8x128 .f32) (main_arg4 : IVec S2x2048 32) : IVec S4096x2048 1 × IVec S4096x2048 1 × IVec S4096x128 1 × IVec S4096x1024 1 × IVec S8x4096x1 1 × IVec S4096x2048 1 :=
  let main_v0 : IVec S4096x2048 32 := iotaInDim S4096x2048 32 1
  let main_c : IVec S_ 32 := constantI S_ 32 256#32
  let main_v1 : IVec S4096x2048 32 := fn_remainder (F := F) main_v0 main_c
  let main_c_0 : IVec S_ 32 := constantI S_ 32 192#32
  let main_v2 : IVec S4096x2048 32 := broadcastInDim S4096x2048 ![] bcast_S_S4096x2048 main_c_0
  let main_v3 : IVec S4096x2048 1 := cmpi .slt main_v1 main_v2
  let main_c_1 : IVec S_ 1 := constantI S_ 1 1#1
  let main_v4 : IVec S4096x2048 1 := broadcastInDim S4096x2048 ![] bcast_S_S4096x2048 main_c_1
  let main_c_2 : IVec S_ 1 := constantI S_ 1 1#1
  let main_v5 : IVec S4096x128 1 := broadcastInDim S4096x128 ![] bcast_S_S4096x128 main_c_2
  let main_c_3 : IVec S_ 1 := constantI S_ 1 1#1
  let main_v6 : IVec S4096x1024 1 := broadcastInDim S4096x1024 ![] bcast_S_S4096x1024 main_c_3
  let main_c_4 : IVec S_ 1 := constantI S_ 1 1#1
  let main_v7 : IVec S8x4096x1 1 := broadcastInDim S8x4096x1 ![] bcast_S_S8x4096x1 main_c_4
  let main_c_5 : IVec S_ 1 := constantI S_ 1 1#1
  let main_v8 : IVec S4096x2048 1 := broadcastInDim S4096x2048 ![] bcast_S_S4096x2048 main_c_5
  (main_v3, main_v4, main_v5, main_v6, main_v7, main_v8)
-- ==== On_lat_columns.lean ====
abbrev S4096x768 : Shape := ⟨2, ![4096, 768]⟩
abbrev S384 : Shape := ⟨1, ![384]⟩
abbrev S256 : Shape := ⟨1, ![256]⟩
abbrev S4096x384 : Shape := ⟨2, ![4096, 384]⟩
abbrev S4096x256 : Shape := ⟨2, ![4096, 256]⟩
abbrev S4096x128 : Shape := ⟨2, ![4096, 128]⟩
abbrev S2x2048 : Shape := ⟨2, ![2, 2048]⟩
abbrev S_ : Shape := ⟨0, ![]⟩
abbrev S1x384 : Shape := ⟨2, ![1, 384]⟩
abbrev S1x256 : Shape := ⟨2, ![1, 256]⟩

class Facts : Prop where
  bcast_S_S4096x768 : S_.BroadcastsInDim S4096x768 (![] : Fin 0 → Fin S4096x768.rank)
  bcast_S_S1x384 : S_.BroadcastsInDim S1x384 (![] : Fin 0 → Fin S1x384.rank)
  bcast_S_S1x256 : S_.BroadcastsInDim S1x256 (![] : Fin 0 → Fin S1x256.rank)

variable [Facts]

def fn {F : FTy → Type} [FloatOps F] (main_arg0 : FVec F S4096x768 .f32) (main_arg1 : FVec F S384 .f32) (main_arg2 : FVec F S256 .f32) (main_arg3 : FVec F S4096x384 .f32) (main_arg4 : FVec F S4096x256 .f32) (main_arg5 : FVec F S4096x128 .f32) (main_arg6 : IVec S2x2048 32) : IVec S4096x768 1 × IVec S1x384 1 × IVec S1x256 1 :=
  let main_v0 : IVec S4096x768 32 := iotaInDim S4096x768 32 1
  let main_c : IVec S_ 32 := constantI S_ 32 704#32
  let main_v1 : IVec S4096x768 32 := broadcastInDim S4096x768 ![] bcast_S_S4096x768 main_c
  let main_v2 : IVec S4096x768 1 := cmpi .slt main_v0 main_v1
  let main_c_0 : IVec S_ 1 := constantI S_ 1 1#1
  let main_v3 : IVec S1x384 1 := broadcastInDim S1x384 ![] bcast_S_S1x384 main_c_0
  let main_c_1 : IVec S_ 1 := constantI S_ 1 1#1
  let main_v4 : IVec S1x256 1 := broadcastInDim S1x256 ![] bcast_S_S1x256 main_c_1
  (main_v2, main_v3, main_v4)
-- ==== Pre_finite_act.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .f32) (main_arg1 : FVec F S2816x1024 .f32) (main_arg2 : FVec F S4096x2816 .f32) (main_arg3 : FVec F S4096x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : FVec F S4096x2816 .f32 := Host.absf main_arg3
  let main_cst_2 : FVec F S_ .f32 := constant S_ .f32 0x7F800000#32
  let main_v9 : FVec F S4096x2816 .f32 := broadcastInDim S4096x2816 ![] bcast_S_S4096x2816 main_cst_2
  let main_v10 : IVec S4096x2816 1 := cmpf .olt main_v8 main_v9
  let main_c_3 : IVec S_ 1 := constantI S_ 1 1#1
  let main_v11 : IVec S_ 1 := (fun x v => Host.reduce IntOp.andi x v reducesTo_S4096x2816_S_d0_1 h_S_) main_v10 main_c_3
  let main_v12 : IVec S_ 1 := andi main_v3 main_v7
  let main_v13 : IVec S_ 1 := andi main_v12 main_v11
  main_v13
-- ==== Pre_finite_attn.lean ====
abbrev S2x2048x8x192 : Shape := ⟨4, ![2, 2048, 8, 192]⟩
abbrev S2x2048x8x256 : Shape := ⟨4, ![2, 2048, 8, 256]⟩
abbrev S2x2048x64 : Shape := ⟨3, ![2, 2048, 64]⟩
abbrev S2x2048x8x128 : Shape := ⟨4, ![2, 2048, 8, 128]⟩
abbrev S2x2048 : Shape := ⟨2, ![2, 2048]⟩
abbrev S_ : Shape := ⟨0, ![]⟩

class Facts : Prop where
  bcast_S_S2x2048x8x192 : S_.BroadcastsInDim S2x2048x8x192 (![] : Fin 0 → Fin S2x2048x8x192.rank)
  reducesTo_S2x2048x8x192_S_d0_1_2_3 : S2x2048x8x192.ReducesTo [0, 1, 2, 3] S_
  h_S_ : 0 < S_.numel
  bcast_S_S2x2048x8x256 : S_.BroadcastsInDim S2x2048x8x256 (![] : Fin 0 → Fin S2x2048x8x256.rank)
  reducesTo_S2x2048x8x256_S_d0_1_2_3 : S2x2048x8x256.ReducesTo [0, 1, 2, 3] S_
  bcast_S_S2x2048x64 : S_.BroadcastsInDim S2x2048x64 (![] : Fin 0 → Fin S2x2048x64.rank)
  reducesTo_S2x2048x64_S_d0_1_2 : S2x2048x64.ReducesTo [0, 1, 2] S_
  bcast_S_S2x2048x8x128 : S_.BroadcastsInDim S2x2048x8x128 (![] : Fin 0 → Fin S2x2048x8x128.rank)
  reducesTo_S2x2048x8x128_S_d0_1_2_3 : S2x2048x8x128.ReducesTo [0, 1, 2, 3] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x8x192 .f32) (main_arg1 : FVec F S2x2048x8x256 .f32) (main_arg2 : FVec F S2x2048x64 .f32) (main_arg3 : FVec F S2x2048x8x128 .f32) (main_arg4 : IVec S2x2048 32) : IVec S_ 1 :=
  let main_v0 : FVec F S2x2048x8x192 .f32 := Host.absf main_arg0
  let main_cst : FVec F S_ .f32 := constant S_ .f32 0x7F800000#32
  let main_v1 : FVec F S2x2048x8x192 .f32 := broadcastInDim S2x2048x8x192 ![] bcast_S_S2x2048x8x192 main_cst
  let main_v2 : IVec S2x2048x8x192 1 := cmpf .olt main_v0 main_v1
  let main_c : IVec S_ 1 := constantI S_ 1 1#1
  let main_v3 : IVec S_ 1 := (fun x v => Host.reduce IntOp.andi x v reducesTo_S2x2048x8x192_S_d0_1_2_3 h_S_) main_v2 main_c
  let main_v4 : FVec F S2x2048x8x256 .f32 := Host.absf main_arg1
  let main_cst_0 : FVec F S_ .f32 := constant S_ .f32 0x7F800000#32
  let main_v5 : FVec F S2x2048x8x256 .f32 := broadcastInDim S2x2048x8x256 ![] bcast_S_S2x2048x8x256 main_cst_0
  let main_v6 : IVec S2x2048x8x256 1 := cmpf .olt main_v4 main_v5
  let main_c_1 : IVec S_ 1 := constantI S_ 1 1#1
  let main_v7 : IVec S_ 1 := (fun x v => Host.reduce IntOp.andi x v reducesTo_S2x2048x8x256_S_d0_1_2_3 h_S_) main_v6 main_c_1
  let main_v8 : FVec F S2x2048x64 .f32 := Host.absf main_arg2
  let main_cst_2 : FVec F S_ .f32 := constant S_ .f32 0x7F800000#32
  let main_v9 : FVec F S2x2048x64 .f32 := broadcastInDim S2x2048x64 ![] bcast_S_S2x2048x64 main_cst_2
  let main_v10 : IVec S2x2048x64 1 := cmpf .olt main_v8 main_v9
  let main_c_3 : IVec S_ 1 := constantI S_ 1 1#1
  let main_v11 : IVec S_ 1 := (fun x v => Host.reduce IntOp.andi x v reducesTo_S2x2048x64_S_d0_1_2 h_S_) main_v10 main_c_3
  let main_v12 : FVec F S2x2048x8x128 .f32 := Host.absf main_arg3
  let main_cst_4 : FVec F S_ .f32 := constant S_ .f32 0x7F800000#32
  let main_v13 : FVec F S2x2048x8x128 .f32 := broadcastInDim S2x2048x8x128 ![] bcast_S_S2x2048x8x128 main_cst_4
  let main_v14 : IVec S2x2048x8x128 1 := cmpf .olt main_v12 main_v13
  let main_c_5 : IVec S_ 1 := constantI S_ 1 1#1
  let main_v15 : IVec S_ 1 := (fun x v => Host.reduce IntOp.andi x v reducesTo_S2x2048x8x128_S_d0_1_2_3 h_S_) main_v14 main_c_5
  fn_part1 (F := F) main_v3 main_v7 main_v11 main_v15
-- ==== Pre_finite_pool.lean ====
abbrev S2x2048x512 : Shape := ⟨3, ![2, 2048, 512]⟩
abbrev S4x128x128 : Shape := ⟨3, ![4, 128, 128]⟩
abbrev S512 : Shape := ⟨1, ![512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2x2048x512 .f32) (main_arg1 : FVec F S2x2048x512 .f32) (main_arg2 : FVec F S4x128x128 .f32) (main_arg3 : FVec F S512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : FVec F S4x128x128 .f32 := Host.absf main_arg2
  let main_cst_2 : FVec F S_ .f32 := constant S_ .f32 0x7F800000#32
  let main_v9 : FVec F S4x128x128 .f32 := broadcastInDim S4x128x128 ![] bcast_S_S4x128x128 main_cst_2
  let main_v10 : IVec S4x128x128 1 := cmpf .olt main_v8 main_v9
  let main_c_3 : IVec S_ 1 := constantI S_ 1 1#1
  let main_v11 : IVec S_ 1 := (fun x v => Host.reduce IntOp.andi x v reducesTo_S4x128x128_S_d0_1_2 h_S_) main_v10 main_c_3
  let main_v12 : FVec F S512 .f32 := Host.absf main_arg3
  let main_cst_4 : FVec F S_ .f32 := constant S_ .f32 0x7F800000#32
  let main_v13 : FVec F S512 .f32 := broadcastInDim S512 ![] bcast_S_S512 main_cst_4
  let main_v14 : IVec S512 1 := cmpf .olt main_v12 main_v13
  let main_c_5 : IVec S_ 1 := constantI S_ 1 1#1
  let main_v15 : IVec S_ 1 := (fun x v => Host.reduce IntOp.andi x v reducesTo_S512_S_d0 h_S_) main_v14 main_c_5
  fn_part1 (F := F) main_v3 main_v7 main_v11 main_v15
-- ==== Pre_finite_poolf.lean ====
abbrev S2x2048x512 : Shape := ⟨3, ![2, 2048, 512]⟩
abbrev S4x128x128 : Shape := ⟨3, ![4, 128, 128]⟩
abbrev S512 : Shape := ⟨1, ![512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel

variable [Facts]

def fn {F : FTy → Type} [FloatOps F] (main_arg0 : FVec F S2x2048x512 .f32) (main_arg1 : FVec F S4x128x128 .f32) (main_arg2 : FVec F S512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  main_v3
-- ==== KernelGate.lean ====
abbrev S4096x1024 : Shape := ⟨2, ![4096, 1024]⟩
abbrev S1024x1024 : Shape := ⟨2, ![1024, 1024]⟩
abbrev S4096x2048 : Shape := ⟨2, ![4096, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x2048, .f32⟩
  | .hbm, ⟨3, _⟩ => ⟨S2048, .f32⟩
  | .hbm, ⟨4, _⟩ => ⟨S4096x1024, .f32⟩
  | .hbm, ⟨5, _⟩ => ⟨S4096x1024, .f32⟩
  | .hbm, ⟨6, _⟩ => ⟨S1024x1024, .bf16⟩
  | .hbm, ⟨7, _⟩ => ⟨S4096x2048, .bf16⟩
  | .hbm, ⟨8, _⟩ => ⟨S4096x1024, .bf16⟩
  | .hbm, ⟨9, _⟩ => ⟨S4096x1024, .bf16⟩
  | .hbm, ⟨10, _⟩ => ⟨S1x2048, .f32⟩
  | .hbm, ⟨11, _⟩ => ⟨S4096x1024, .bf16⟩
  | .hbm, ⟨12, _⟩ => ⟨S4096x1024, .bf16⟩
  | .hbm, ⟨13, _⟩ => ⟨S4096x2048, .bf16⟩
  | .hbm, ⟨14, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x2048, .bf16⟩
  | .local _ .vmem, ⟨4, _⟩ => ⟨S512x2048, .bf16⟩
  | .local _ .vmem, ⟨5, _⟩ => ⟨S1x2048, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S1x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceGateIdeal.lean ====
abbrev S4096x1024 : Shape := ⟨2, ![4096, 1024]⟩
abbrev S1024x1024 : Shape := ⟨2, ![1024, 1024]⟩
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096x2x1024 : Shape := ⟨3, ![4096, 2, 1024]⟩
abbrev S4096x1x1024 : Shape := ⟨3, ![4096, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x2048, .f32⟩
  | .hbm, ⟨3, _⟩ => ⟨S2048, .f32⟩
  | .hbm, ⟨4, _⟩ => ⟨S4096x1024, .f32⟩
  | .hbm, ⟨5, _⟩ => ⟨S4096x1024, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S_, .f32⟩
  | .hbm, ⟨35, _⟩ => ⟨S4096x2x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S_, .f32⟩
  | .hbm, ⟨40, _⟩ => ⟨S4096x2x1024, .f32⟩
  | .hbm, ⟨41, _⟩ => ⟨S4096x2x1024, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S2048, .f32⟩
  | .hbm, ⟨49, _⟩ => ⟨S4096x1024, .bf16⟩
  | .hbm, ⟨50, _⟩ => ⟨S4096x1024, .bf16⟩
  | .hbm, ⟨51, _⟩ => ⟨S4096x2048, .bf16⟩
  | .hbm, ⟨52, _⟩ => ⟨S1x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== KernelAttn.lean ====
abbrev S2x2048x8x192 : Shape := ⟨4, ![2, 2048, 8, 192]⟩
abbrev S2x2048x8x256 : Shape := ⟨4, ![2, 2048, 8, 256]⟩
abbrev S2x2048x64 : Shape := ⟨3, ![2, 2048, 64]⟩
abbrev S2x2048x8x128 : Shape := ⟨4, ![2, 2048, 8, 128]⟩
abbrev S2x2048 : Shape := ⟨2, ![2, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S4096x8x192 : Shape := ⟨3, ![4096, 8, 192]⟩
abbrev S4096x8x64 : Shape := ⟨3, ![4096, 8, 64]⟩
abbrev S4096x8x256 : Shape := ⟨3, ![4096, 8, 256]⟩
abbrev S4096x2048 : Shape := ⟨2, ![4096, 2048]⟩
abbrev S4096x1024 : Shape := ⟨2, ![4096, 1024]⟩
abbrev S8x4096x1 : Shape := ⟨3, ![8, 4096, 1]⟩
abbrev S2048x256 : Shape := ⟨2, ![2048, 256]⟩
abbrev S2048x128 : Shape := ⟨2, ![2048, 128]⟩
abbrev S1x2048x1 : Shape := ⟨3, ![1, 2048, 1]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S512x128 : Shape := ⟨2, ![512, 128]⟩
abbrev S512x256 : Shape := ⟨2, ![512, 256]⟩
abbrev S256x512 : Shape := ⟨2, ![256, 512]⟩
abbrev S768x128 : Shape := ⟨2, ![768, 128]⟩
abbrev S768x256 : Shape := ⟨2, ![768, 256]⟩
abbrev S256x768 : Shape := ⟨2, ![256, 768]⟩
abbrev S1024x128 : Shape := ⟨2, ![1024, 128]⟩
abbrev S1024x256 : Shape := ⟨2, ![1024, 256]⟩
abbrev S256x1024 : Shape := ⟨2, ![256, 1024]⟩
abbrev S1280x128 : Shape := ⟨2, ![1280, 128]⟩
abbrev S1280x256 : Shape := ⟨2, ![1280, 256]⟩
abbrev S256x1280 : Shape := ⟨2, ![256, 1280]⟩
abbrev S1536x128 : Shape := ⟨2, ![1536, 128]⟩
abbrev S1536x256 : Shape := ⟨2, ![1536, 256]⟩
abbrev S256x1536 : Shape := ⟨2, ![256, 1536]⟩
abbrev S1792x128 : Shape := ⟨2, ![1792, 128]⟩
abbrev S1792x256 : Shape := ⟨2, ![1792, 256]⟩
abbrev S256x1792 : Shape := ⟨2, ![256, 1792]⟩
abbrev S512 : Shape := ⟨1, ![512]⟩
abbrev S512x1 : Shape := ⟨2, ![512, 1]⟩
abbrev S1x512x1 : Shape := ⟨3, ![1, 512, 1]⟩
abbrev S512x512 : Shape := ⟨2, ![512, 512]⟩
abbrev S512x1024 : Shape := ⟨2, ![512, 1024]⟩
abbrev S512x1536 : Shape := ⟨2, ![512, 1536]⟩

abbrev nBuf : Space → Nat
  | .hbm => 53
  | .vmem => 40
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x256, .f32⟩
  | .hbm, ⟨2, _⟩ => ⟨S2x2048x64, .f32⟩
  | .hbm, ⟨3, _⟩ => ⟨S2x2048x8x128, .f32⟩
  | .hbm, ⟨4, _⟩ => ⟨S2x2048, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2x2048, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S_, .f32⟩
  | .hbm, ⟨29, _⟩ => ⟨S4096x64, .f32⟩
  | .hbm, ⟨30, _⟩ => ⟨S4096x128, .f32⟩
  | .hbm, ⟨31, _⟩ => ⟨S4096x32, .f32⟩
  | .hbm, ⟨32, _⟩ => ⟨S4096x128, .f32⟩
  | .hbm, ⟨33, _⟩ => ⟨S4096x8x192, .f32⟩
  | .hbm, ⟨34, _⟩ => ⟨S_, .f32⟩
  | .hbm, ⟨35, _⟩ => ⟨S4096x8x64, .f32⟩
  | .hbm, ⟨36, _⟩ => ⟨S4096x8x256, .f32⟩
  | .hbm, ⟨37, _⟩ => ⟨S4096x2048, .f32⟩
  | .hbm, ⟨38, _⟩ => ⟨S4096x64, .f32⟩
  | .hbm, ⟨39, _⟩ => ⟨S_, .f32⟩
  | .hbm, ⟨40, _⟩ => ⟨S4096x64, .f32⟩
  | .hbm, ⟨41, _⟩ => ⟨S4096x128, .f32⟩
  | .hbm, ⟨42, _⟩ => ⟨S4096x128, .bf16⟩
  | .hbm, ⟨43, _⟩ => ⟨S4096x2048, .f32⟩
  | .hbm, ⟨44, _⟩ => ⟨S4096x2048, .bf16⟩
  | .hbm, ⟨45, _⟩ => ⟨S4096x1024, .bf16⟩
  | .hbm, ⟨46, _⟩ => ⟨S8x4096x1, .f32⟩
  | .hbm, ⟨47, _⟩ => ⟨S4096x2048, .bf16⟩
  | .hbm, ⟨48, _⟩ => ⟨S2x2048x8x128, .bf16⟩
  | .hbm, ⟨49, _⟩ => ⟨S4096x1024, .bf16⟩
  | .hbm, ⟨50, _⟩ => ⟨S4096x2048, .bf16⟩
  | .hbm, ⟨51, _⟩ => ⟨S4096x2048, .bf16⟩
  | .hbm, ⟨52, _⟩ => ⟨S4096x128, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S1x2048x1, .f32⟩
  | .local _ .vmem, ⟨13, _⟩ => ⟨S1x2048x1, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S1x2048x1, .f32⟩
  | .local _ .vmem, ⟨27, _⟩ => ⟨S1x2048x1, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x256, .bf16⟩
  | .local _ .vmem, ⟨33, _⟩ => ⟨S2048x256, .bf16⟩
  | .local _ .vmem, ⟨34, _⟩ => ⟨S2048x256, .bf16⟩
  | .local _ .vmem, ⟨35, _⟩ => ⟨S2048x256, .bf16⟩
  | .local _ .vmem, ⟨36, _⟩ => ⟨S2048x128, .f32⟩
  | .local _ .vmem, ⟨37, _⟩ => ⟨S2048x128, .f32⟩
  | .local _ .vmem, ⟨38, _⟩ => ⟨S2048x256, .f32⟩
  | .local _ .vmem, ⟨39, _⟩ => ⟨S2048x128, .f32⟩
  | _, _ => ⟨S2x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev main_v33_2 : Ref sig .tc := ⟨.hbm, 47, rfl⟩
abbrev main_v34 : Ref sig .tc := ⟨.hbm, 48, rfl⟩
abbrev main_v35 : Ref sig .tc := ⟨.hbm, 49, rfl⟩
abbrev main_v36_0 : Ref sig .tc := ⟨.hbm, 50, rfl⟩
abbrev main_v36_1 : Ref sig .tc := ⟨.hbm, 51, rfl⟩
abbrev main_v36_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_scratch0 : Ref sig .tc := ⟨.vmem, 38, rfl⟩
abbrev cc1_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2048x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S2048x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]
-- ==== KernelAttnIdeal.lean ====
variable {F : FTy → Type} [FloatOps F] [Named F]
def κ : String → Option EReal := fun
  | "mask" => some ⊥
  | _ => none
-- ==== ReferenceAttnIdeal.lean ====
abbrev S2x2048x8x192 : Shape := ⟨4, ![2, 2048, 8, 192]⟩
abbrev S2x2048x8x256 : Shape := ⟨4, ![2, 2048, 8, 256]⟩
abbrev S2x2048x64 : Shape := ⟨3, ![2, 2048, 64]⟩
abbrev S2x2048x8x128 : Shape := ⟨4, ![2, 2048, 8, 128]⟩
abbrev S2x2048 : Shape := ⟨2, ![2, 2048]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S2x2048x8x64 : Shape := ⟨4, ![2, 2048, 8, 64]⟩
abbrev S2x2048x1x32 : Shape := ⟨4, ![2, 2048, 1, 32]⟩
abbrev S2x2048x8x32 : Shape := ⟨4, ![2, 2048, 8, 32]⟩
abbrev S2x8x2048x2048 : Shape := ⟨4, ![2, 8, 2048, 2048]⟩
abbrev S2x2048x2048x8 : Shape := ⟨4, ![2, 2048, 2048, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x128 : Shape := ⟨4, ![2, 8, 2048, 128]⟩
abbrev S4096x2048 : Shape := ⟨2, ![4096, 2048]⟩
abbrev S2x2048x128 : Shape := ⟨3, ![2, 2048, 128]⟩
abbrev S4096x128 : Shape := ⟨2, ![4096, 128]⟩
abbrev S8x2x2048 : Shape := ⟨3, ![8, 2, 2048]⟩
abbrev S8x4096x1 : Shape := ⟨3, ![8, 4096, 1]⟩
abbrev S4096x1024 : Shape := ⟨2, ![4096, 1024]⟩

abbrev nBuf : Space → Nat
  | .hbm => 203
  | .vmem => 0
  | .smem => 0
  | _ => 0

abbrev hbmTy0_0 (i : Nat) : BufTy := match i % 128 with
  | 0 => ⟨S2x2048x8x192, .f32⟩
  | 1 => ⟨S2x2048x8x256, .f32⟩
  | 2 => ⟨S2x2048x64, .f32⟩
  | 3 => ⟨S2x2048x8x128, .f32⟩
  | 4 => ⟨S2x2048, .i32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S2x2048, .f32⟩
  | 20 => ⟨S2x2048x1, .f32⟩
  | 21 => ⟨S1x1x32, .f32⟩
  | 22 => ⟨S2x2048x32, .f32⟩
  | 23 => ⟨S2x2048x32, .f32⟩
  | 24 => ⟨S2x2048x32, .f32⟩
  | 25 => ⟨S2x2048x32, .f32⟩
  | 26 => ⟨S2x2048x32, .f32⟩
  | 27 => ⟨S2x2048x8x128, .f32⟩
  | 28 => ⟨S2x2048x8x64, .f32⟩
  | 29 => ⟨S2x2048x8x128, .f32⟩
  | 30 => ⟨S2x2048x8x128, .f32⟩
  | 31 => ⟨S2x2048x1x32, .f32⟩
  | 32 => ⟨S2x2048x1x32, .f32⟩
  | 33 => ⟨S2x2048x8x32, .f32⟩
  | 34 => ⟨S2x2048x8x32, .f32⟩
  | 35 => ⟨S2x2048x8x32, .f32⟩
  | 36 => ⟨S2x2048x8x32, .f32⟩
  | 37 => ⟨S2x2048x8x32, .f32⟩
  | 38 => ⟨S2x2048x8x32, .f32⟩
  | 39 => ⟨S2x2048x8x32, .f32⟩
  | 40 => ⟨S2x2048x8x32, .f32⟩
  | 41 => ⟨S2x2048x8x32, .f32⟩
  | 42 => ⟨S2x2048x8x32, .f32⟩
  | 43 => ⟨S2x2048x8x32, .f32⟩
  | 44 => ⟨S2x2048x8x32, .f32⟩
  | 45 => ⟨S2x2048x8x64, .f32⟩
  | 46 => ⟨S2x8x2048x2048, .f32⟩
  | 47 => ⟨S2x2048x2048x8, .f32⟩
  | 48 => ⟨S2x8x2048x2048, .f32⟩
  | 49 => ⟨S2x8x2048x2048, .f32⟩
  | 50 => ⟨S_, .f32⟩
  | 51 => ⟨S2x8x2048x2048, .f32⟩
  | 52 => ⟨S2x8x2048x2048, .f32⟩
  | 53 => ⟨S2048, .i32⟩
  | 54 => ⟨S2048x1, .i32⟩
  | 55 => ⟨S2048, .i32⟩
  | 56 => ⟨S1x2048, .i32⟩
  | 57 => ⟨S2048x2048, .i32⟩
  | 58 => ⟨S2048x2048, .i32⟩
  | 59 => ⟨S2048x2048, .i1⟩
  | 60 => ⟨S1x1x2048x2048, .i1⟩
  | 61 => ⟨S_, .f32⟩
  | 62 => ⟨S_, .f32⟩
  | 63 => ⟨S2x8x2048x2048, .i1⟩
  | 64 => ⟨S2x8x2048x2048, .f32⟩
  | 65 => ⟨S2x8x2048x2048, .f32⟩
  | 66 => ⟨S_, .f32⟩
  | 67 => ⟨S2x8x2048x2048, .f32⟩
  | 68 => ⟨S_, .f32⟩
  | 69 => ⟨S2x8x2048, .f32⟩
  | 70 => ⟨S2x8x2048x1, .f32⟩
  | 71 => ⟨S2x8x2048x2048, .f32⟩
  | 72 => ⟨S2x8x2048x2048, .i1⟩
  | 73 => ⟨S2x8x2048x2048, .f32⟩
  | 74 => ⟨S_, .f32⟩
  | 75 => ⟨S2x8x2048, .f32⟩
  | 76 => ⟨S_, .f32⟩
  | 77 => ⟨S2x8x2048, .f32⟩
  | 78 => ⟨S2x8x2048, .f32⟩
  | 79 => ⟨S_, .f32⟩
  | 80 => ⟨S2x8x2048, .f32⟩
  | 81 => ⟨S2x8x2048, .i1⟩
  | 82 => ⟨S_, .f32⟩
  | 83 => ⟨S2x8x2048, .f32⟩
  | 84 => ⟨S2x8x2048, .i1⟩
  | 85 => ⟨S_, .f32⟩
  | 86 => ⟨S2x8x2048, .f32⟩
  | 87 => ⟨S_, .f32⟩
  | 88 => ⟨S2x8x2048, .f32⟩
  | 89 => ⟨S_, .f32⟩
  | 90 => ⟨S2x8x2048, .f32⟩
  | 91 => ⟨S2x8x2048, .f32⟩
  | 92 => ⟨S2x8x2048, .f32⟩
  | 93 => ⟨S2x8x2048x1, .f32⟩
  | 94 => ⟨S2x8x2048x2048, .f32⟩
  | 95 => ⟨S2x8x2048x2048, .f32⟩
  | 96 => ⟨S2x8x2048x2048, .f32⟩
  | 97 => ⟨S_, .f32⟩
  | 98 => ⟨S2x8x2048, .f32⟩
  | 99 => ⟨S2x8x2048x1, .f32⟩
  | 100 => ⟨S2x8x2048x2048, .f32⟩
  | 101 => ⟨S2x8x2048x2048, .f32⟩
  | 102 => ⟨S2x8x2048x1, .f32⟩
  | 103 => ⟨S_, .f32⟩
  | 104 => ⟨S2x8x2048x1, .f32⟩
  | 105 => ⟨S2x8x2048x1, .f32⟩
  | 106 => ⟨S2x8x128x2048, .f32⟩
  | 107 => ⟨S2x2048x8x128, .f32⟩
  | 108 => ⟨S_, .f32⟩
  | 109 => ⟨S2x8x2048, .f32⟩
  | 110 => ⟨S2x8x2048x1, .f32⟩
  | 111 => ⟨S2x8x2048x2048, .f32⟩
  | 112 => ⟨S2x8x2048x2048, .i1⟩
  | 113 => ⟨S2x8x2048x2048, .f32⟩
  | 114 => ⟨S_, .f32⟩
  | 115 => ⟨S2x8x2048, .f32⟩
  | 116 => ⟨S2x8x2048x1, .f32⟩
  | 117 => ⟨S2x8x2048x2048, .f32⟩
  | 118 => ⟨S2x8x2048x2048, .f32⟩
  | 119 => ⟨S2x8x2048x2048, .f32⟩
  | 120 => ⟨S_, .f32⟩
  | 121 => ⟨S2x8x2048, .f32⟩
  | 122 => ⟨S2x8x2048, .f32⟩
  | 123 => ⟨S2x8x2048, .f32⟩
  | 124 => ⟨S2x2048x8x192, .f32⟩
  | 125 => ⟨S_, .f32⟩
  | 126 => ⟨S2x2048x8x192, .f32⟩
  | 127 => ⟨S2x2048x8x192, .f32⟩
  | _ => ⟨S2x2048x8x192, .f32⟩

abbrev hbmTy0_1 (i : Nat) : BufTy := match i % 128 with
  | 0 => ⟨S2x8x128x2048, .f32⟩
  | 1 => ⟨S2x8x2048x2048, .f32⟩
  | 2 => ⟨S2x8x128x2048, .f32⟩
  | 3 => ⟨S2x2048x8x128, .f32⟩
  | 4 => ⟨S2x8x2048x2048, .f32⟩
  | 5 => ⟨S2x8x2048x2048, .f32⟩
  | 6 => ⟨S2x8x2048x2048, .f32⟩
  | 7 => ⟨S_, .f32⟩
  | 8 => ⟨S2x8x2048, .f32⟩
  | 9 => ⟨S2x8x2048x1, .f32⟩
  | 10 => ⟨S2x8x2048x1, .f32⟩
  | 11 => ⟨S2x8x2048x2048, .f32⟩
  | 12 => ⟨S2x8x2048x2048, .f32⟩
  | 13 => ⟨S_, .f32⟩
  | 14 => ⟨S2x8x2048, .f32⟩
  | 15 => ⟨S2x8x2048x2048, .f32⟩
  | 16 => ⟨S2x8x2048x2048, .f32⟩
  | 17 => ⟨S2x8x2048x2048, .f32⟩
  | 18 => ⟨S_, .f32⟩
  | 19 => ⟨S2x8x2048x2048, .f32⟩
  | 20 => ⟨S2x8x2048x2048, .f32⟩
  | 21 => ⟨S_, .f32⟩
  | 22 => ⟨S2x8x2048x2048, .f32⟩
  | 23 => ⟨S2x8x2048x2048, .f32⟩
  | 24 => ⟨S2x2048x2048x8, .f32⟩
  | 25 => ⟨S2x2048x8x64, .f32⟩
  | 26 => ⟨S2x2048x64, .f32⟩
  | 27 => ⟨S2x8x2048x128, .f32⟩
  | 28 => ⟨S2x2048x8x128, .f32⟩
  | 29 => ⟨S2x8x2048x128, .f32⟩
  | 30 => ⟨S2x2048x8x128, .f32⟩
  | 31 => ⟨S2x2048x8x32, .f32⟩
  | 32 => ⟨S2x2048x8x32, .f32⟩
  | 33 => ⟨S2x2048x8x32, .f32⟩
  | 34 => ⟨S2x2048x8x32, .f32⟩
  | 35 => ⟨S2x2048x8x32, .f32⟩
  | 36 => ⟨S2x2048x8x32, .f32⟩
  | 37 => ⟨S2x2048x8x32, .f32⟩
  | 38 => ⟨S2x2048x8x32, .f32⟩
  | 39 => ⟨S2x2048x8x32, .f32⟩
  | 40 => ⟨S2x2048x8x32, .f32⟩
  | 41 => ⟨S2x2048x8x32, .f32⟩
  | 42 => ⟨S2x2048x8x32, .f32⟩
  | 43 => ⟨S2x2048x8x32, .f32⟩
  | 44 => ⟨S2x2048x8x64, .f32⟩
  | 45 => ⟨S_, .f32⟩
  | 46 => ⟨S2x2048x8x256, .f32⟩
  | 47 => ⟨S_, .f32⟩
  | 48 => ⟨S2x2048x8x256, .f32⟩
  | 49 => ⟨S2x2048x8x256, .f32⟩
  | 50 => ⟨S_, .f32⟩
  | 51 => ⟨S2x2048x8x192, .f32⟩
  | 52 => ⟨S_, .f32⟩
  | 53 => ⟨S2x2048x8x192, .f32⟩
  | 54 => ⟨S2x2048x8x192, .f32⟩
  | 55 => ⟨S_, .f32⟩
  | 56 => ⟨S2x2048x8x64, .f32⟩
  | 57 => ⟨S2x2048x8x256, .f32⟩
  | 58 => ⟨S4096x2048, .f32⟩
  | 59 => ⟨S_, .f32⟩
  | 60 => ⟨S2x2048x64, .f32⟩
  | 61 => ⟨S2x2048x128, .f32⟩
  | 62 => ⟨S4096x128, .f32⟩
  | 63 => ⟨S8x2x2048, .f32⟩
  | 64 => ⟨S8x4096x1, .f32⟩
  | 65 => ⟨S_, .f32⟩
  | 66 => ⟨S2x2048x8x64, .f32⟩
  | 67 => ⟨S2x2048x8x256, .f32⟩
  | 68 => ⟨S4096x2048, .f32⟩
  | 69 => ⟨S4096x2048, .bf16⟩
  | 70 => ⟨S4096x2048, .f32⟩
  | 71 => ⟨S4096x2048, .bf16⟩
  | 72 => ⟨S4096x1024, .f32⟩
  | 73 => ⟨S4096x1024, .bf16⟩
  | 74 => ⟨S4096x2048, .bf16⟩
  | _ => ⟨S2x2048x8x192, .f32⟩

abbrev hbmTy (i : Nat) : BufTy := match i / 128 with
  | 0 => hbmTy0_0 i
  | 1 => hbmTy0_1 i
  | _ => ⟨S2x2048x8x192, .f32⟩

abbrev bufTy : (tb : Table) → Fin (tcTables nBuf tb) → BufTy
  | .hbm, ⟨i, _⟩ => hbmTy i
  | _, _ => ⟨S2x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_call0_v0 : Ref sig .tc := ⟨.hbm, 62, rfl⟩
abbrev main_v51_1 : Ref sig .tc := ⟨.hbm, 63, rfl⟩
abbrev main_call0_v2 : Ref sig .tc := ⟨.hbm, 64, rfl⟩
abbrev main_v51_0 : Ref sig .tc := ⟨.hbm, 65, rfl⟩
abbrev main_call0_cst : Ref sig .tc := ⟨.hbm, 66, rfl⟩
abbrev main_v51_2 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_6 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_cst_9 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_17 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_18 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_19 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_20 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_call1_cst : Ref sig .tc := ⟨.hbm, 146, rfl⟩
abbrev main_call1_v0 : Ref sig .tc := ⟨.hbm, 147, rfl⟩
abbrev main_v114 : Ref sig .tc := ⟨.hbm, 148, rfl⟩
abbrev main_cst_21 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_22 : Ref sig .tc := ⟨.hbm, 173, rfl⟩
abbrev main_v138 : Ref sig .tc := ⟨.hbm, 174, rfl⟩
abbrev main_cst_23 : Ref sig .tc := ⟨.hbm, 175, rfl⟩
abbrev main_v139 : Ref sig .tc := ⟨.hbm, 176, rfl⟩
abbrev main_v140 : Ref sig .tc := ⟨.hbm, 177, rfl⟩
abbrev main_cst_24 : Ref sig .tc := ⟨.hbm, 178, rfl⟩
abbrev main_v141 : Ref sig .tc := ⟨.hbm, 179, rfl⟩
abbrev main_cst_25 : Ref sig .tc := ⟨.hbm, 180, rfl⟩
abbrev main_v142 : Ref sig .tc := ⟨.hbm, 181, rfl⟩
abbrev main_v143 : Ref sig .tc := ⟨.hbm, 182, rfl⟩
abbrev main_cst_26 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_27 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_28 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩

abbrev nD : Nat := 1
abbrev τ : Topo := Topo.v7x

variable {F : FTy → Type} [FloatOps F]
-- ==== KernelPool.lean ====
abbrev S2x2048x512 : Shape := ⟨3, ![2, 2048, 512]⟩
abbrev S4x128x128 : Shape := ⟨3, ![4, 128, 128]⟩
abbrev S512 : Shape := ⟨1, ![512]⟩
abbrev S4096x512 : Shape := ⟨2, ![4096, 512]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S4x128x128, .f32⟩
  | .hbm, ⟨3, _⟩ => ⟨S512, .f32⟩
  | .hbm, ⟨4, _⟩ => ⟨S4096x512, .f32⟩
  | .hbm, ⟨5, _⟩ => ⟨S4096x512, .f32⟩
  | .hbm, ⟨6, _⟩ => ⟨S4x128x128, .bf16⟩
  | .hbm, ⟨7, _⟩ => ⟨S1x512, .f32⟩
  | .hbm, ⟨8, _⟩ => ⟨S4096x512, .bf16⟩
  | .hbm, ⟨9, _⟩ => ⟨S4x128x128, .f32⟩
  | .hbm, ⟨10, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S4x128x128, .bf16⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | .local _ .vmem, ⟨8, _⟩ => ⟨S4x128x128, .f32⟩
  | .local _ .vmem, ⟨9, _⟩ => ⟨S1x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferencePoolIdeal.lean ====
abbrev S2x2048x512 : Shape := ⟨3, ![2, 2048, 512]⟩
abbrev S4x128x128 : Shape := ⟨3, ![4, 128, 128]⟩
abbrev S512 : Shape := ⟨1, ![512]⟩
abbrev S2x2048x4x128 : Shape := ⟨4, ![2, 2048, 4, 128]⟩
abbrev S_ : Shape := ⟨0, ![]⟩
abbrev S2x1x4x128 : Shape := ⟨4, ![2, 1, 4, 128]⟩
abbrev S2x2049x4x128 : Shape := ⟨4, ![2, 2049, 4, 128]⟩
abbrev S4 : Shape := ⟨1, ![4]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩
abbrev S4x128x2x2048 : Shape := ⟨4, ![4, 128, 2, 2048]⟩
abbrev S1x1x512 : Shape := ⟨3, ![1, 1, 512]⟩
abbrev S4x2x2048x128 : Shape := ⟨4, ![4, 2, 2048, 128]⟩
abbrev S4096x512 : Shape := ⟨2, ![4096, 512]⟩
abbrev S1x512 : Shape := ⟨2, ![1, 512]⟩

abbrev nBuf : Space → Nat
  | .hbm => 104
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S4x128x128, .f32⟩
  | .hbm, ⟨3, _⟩ => ⟨S512, .f32⟩
  | .hbm, ⟨4, _⟩ => ⟨S2x2048x4x128, .f32⟩
  | .hbm, ⟨5, _⟩ => ⟨S_, .f32⟩
  | .hbm, ⟨6, _⟩ => ⟨S2x1x4x128, .f32⟩
  | .hbm, ⟨7, _⟩ => ⟨S_, .f32⟩
  | .hbm, ⟨8, _⟩ => ⟨S_, .f32⟩
  | .hbm, ⟨9, _⟩ => ⟨S2x2048x4x128, .f32⟩
  | .hbm, ⟨10, _⟩ => ⟨S2x2049x4x128, .f32⟩
  | .hbm, ⟨11, _⟩ => ⟨S_, .f32⟩
  | .hbm, ⟨12, _⟩ => ⟨S2x1x4x128, .f32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S2048, .i32⟩
  | .hbm, ⟨18, _⟩ => ⟨S2048x1, .i32⟩
  | .hbm, ⟨19, _⟩ => ⟨S_, .i32⟩
  | .hbm, ⟨20, _⟩ => ⟨S2048x1, .i32⟩
  | .hbm, ⟨21, _⟩ => ⟨S2048x1, .i32⟩
  | .hbm, ⟨22, _⟩ => ⟨S1x4, .i32⟩
  | .hbm, ⟨23, _⟩ => ⟨S2048x4, .i32⟩
  | .hbm, ⟨24, _⟩ => ⟨S2048x4, .i32⟩
  | .hbm, ⟨25, _⟩ => ⟨S2048x4, .i32⟩
  | .hbm, ⟨26, _⟩ => ⟨S_, .i32⟩
  | .hbm, ⟨27, _⟩ => ⟨S2048x4, .i32⟩
  | .hbm, ⟨28, _⟩ => ⟨S2048x4, .i32⟩
  | .hbm, ⟨29, _⟩ => ⟨S4, .i32⟩
  | .hbm, ⟨30, _⟩ => ⟨S1x4, .i32⟩
  | .hbm, ⟨31, _⟩ => ⟨S_, .i32⟩
  | .hbm, ⟨32, _⟩ => ⟨S2048x4, .i32⟩
  | .hbm, ⟨33, _⟩ => ⟨S2048x4, .i1⟩
  | .hbm, ⟨34, _⟩ => ⟨S_, .i32⟩
  | .hbm, ⟨35, _⟩ => ⟨S2048x4, .i32⟩
  | .hbm, ⟨36, _⟩ => ⟨S2048x4, .i32⟩
  | .hbm, ⟨37, _⟩ => ⟨S2048x4, .i32⟩
  | .hbm, ⟨38, _⟩ => ⟨S_, .i32⟩
  | .hbm, ⟨39, _⟩ => ⟨S1x4, .i32⟩
  | .hbm, ⟨40, _⟩ => ⟨S1x4, .i1⟩
  | .hbm, ⟨41, _⟩ => ⟨S_, .i32⟩
  | .hbm, ⟨42, _⟩ => ⟨S1x4, .i32⟩
  | .hbm, ⟨43, _⟩ => ⟨S1x4, .i32⟩
  | .hbm, ⟨44, _⟩ => ⟨S1x4, .i32⟩
  | .hbm, ⟨45, _⟩ => ⟨S2048x4, .i32⟩
  | .hbm, ⟨46, _⟩ => ⟨S2048x4x1, .i32⟩
  | .hbm, ⟨47, _⟩ => ⟨S2048x4x1, .i32⟩
  | .hbm, ⟨48, _⟩ => ⟨S2048x4x2, .i32⟩
  | .hbm, ⟨49, _⟩ => ⟨S2x2048x4x128, .f32⟩
  | .hbm, ⟨50, _⟩ => ⟨S_, .i32⟩
  | .hbm, ⟨51, _⟩ => ⟨S2048x1, .i32⟩
  | .hbm, ⟨52, _⟩ => ⟨S2048x1, .i32⟩
  | .hbm, ⟨53, _⟩ => ⟨S1x4, .i32⟩
  | .hbm, ⟨54, _⟩ => ⟨S2048x4, .i32⟩
  | .hbm, ⟨55, _⟩ => ⟨S2048x4, .i32⟩
  | .hbm, ⟨56, _⟩ => ⟨S2048x4, .i32⟩
  | .hbm, ⟨57, _⟩ => ⟨S2048x4, .f32⟩
  | .hbm, ⟨58, _⟩ => ⟨S2x2048x4x128, .f32⟩
  | .hbm, ⟨59, _⟩ => ⟨S2x2048x4x128, .f32⟩
  | .hbm, ⟨60, _⟩ => ⟨S1x2048x4x1, .f32⟩
  | .hbm, ⟨61, _⟩ => ⟨S2x2048x4x128, .f32⟩
  | .hbm, ⟨62, _⟩ => ⟨S2x2048x4x128, .f32⟩
  | .hbm, ⟨63, _⟩ => ⟨S2x2048x4x128, .f32⟩
  | .hbm, ⟨64, _⟩ => ⟨S4x128x2x2048, .f32⟩
  | .hbm, ⟨65, _⟩ => ⟨S2x2048x4x128, .f32⟩
  | .hbm, ⟨66, _⟩ => ⟨S2x2048x512, .f32⟩
  | .hbm, ⟨67, _⟩ => ⟨S1x1x512, .f32⟩
  | .hbm, ⟨68, _⟩ => ⟨S2x2048x512, .f32⟩
  | .hbm, ⟨69, _⟩ => ⟨S2x2048x512, .f32⟩
  | .hbm, ⟨70, _⟩ => ⟨S2x2048x512, .f32⟩
  | .hbm, ⟨71, _⟩ => ⟨S_, .f32⟩
  | .hbm, ⟨72, _⟩ => ⟨S512, .f32⟩
  | .hbm, ⟨73, _⟩ => ⟨S1x1x512, .f32⟩
  | .hbm, ⟨74, _⟩ => ⟨S2x2048x512, .f32⟩
  | .hbm, ⟨75, _⟩ => ⟨S2x2048x512, .f32⟩
  | .hbm, ⟨76, _⟩ => ⟨S_, .f32⟩
  | .hbm, ⟨77, _⟩ => ⟨S512, .f32⟩
  | .hbm, ⟨78, _⟩ => ⟨S2x2048x4x128, .f32⟩
  | .hbm, ⟨79, _⟩ => ⟨S4x128x2x2048, .f32⟩
  | .hbm, ⟨80, _⟩ => ⟨S4x2x2048x128, .f32⟩
  | .hbm, ⟨81, _⟩ => ⟨S2x2048x4x128, .f32⟩
  | .hbm, ⟨82, _⟩ => ⟨S4x128x128, .f32⟩
  | .hbm, ⟨83, _⟩ => ⟨S4x128x128, .f32⟩
  | .hbm, ⟨84, _⟩ => ⟨S2x2048x4x128, .f32⟩
  | .hbm, ⟨85, _⟩ => ⟨S2x2048x4x128, .f32⟩
  | .hbm, ⟨86, _⟩ => ⟨S2x2048x4x128, .f32⟩
  | .hbm, ⟨87, _⟩ => ⟨S2x2048x4x128, .f32⟩
  | .hbm, ⟨88, _⟩ => ⟨S_, .f32⟩
  | .hbm, ⟨89, _⟩ => ⟨S2x2049x4x128, .f32⟩
  | .hbm, ⟨90, _⟩ => ⟨S_, .f32⟩
  | .hbm, ⟨91, _⟩ => ⟨S2x2049x4x128, .f32⟩
  | .hbm, ⟨92, _⟩ => ⟨S2x2049x4x128, .f32⟩
  | .hbm, ⟨93, _⟩ => ⟨S2x2049x4x128, .f32⟩
  | .hbm, ⟨94, _⟩ => ⟨S2x1x4x128, .f32⟩
  | .hbm, ⟨95, _⟩ => ⟨S2x2048x4x128, .f32⟩
  | .hbm, ⟨96, _⟩ => ⟨S_, .f32⟩
  | .hbm, ⟨97, _⟩ => ⟨S_, .f32⟩
  | .hbm, ⟨98, _⟩ => ⟨S2x2048x4x128, .f32⟩
  | .hbm, ⟨99, _⟩ => ⟨S2x2048x4x128, .f32⟩
  | .hbm, ⟨100, _⟩ => ⟨S2x2048x512, .f32⟩
  | .hbm, ⟨101, _⟩ => ⟨S4096x512, .f32⟩
  | .hbm, ⟨102, _⟩ => ⟨S4096x512, .bf16⟩
  | .hbm, ⟨103, _⟩ => ⟨S1x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call1_call0_cst : Ref sig .tc := ⟨.hbm, 96, rfl⟩
abbrev main_call1_call0_v0 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== KernelLat.lean ====
abbrev S4096x768 : Shape := ⟨2, ![4096, 768]⟩
abbrev S384 : Shape := ⟨1, ![384]⟩
abbrev S256 : Shape := ⟨1, ![256]⟩
abbrev S4096x384 : Shape := ⟨2, ![4096, 384]⟩
abbrev S4096x256 : Shape := ⟨2, ![4096, 256]⟩
abbrev S4096x128 : Shape := ⟨2, ![4096, 128]⟩
abbrev S2x2048 : Shape := ⟨2, ![2, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x384 : Shape := ⟨2, ![1, 384]⟩
abbrev S1x256 : Shape := ⟨2, ![1, 256]⟩
abbrev S512x768 : Shape := ⟨2, ![512, 768]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 18
  | .smem => 0
  | _ => 0

abbrev bufTy : (tb : Table) → Fin (tcTables nBuf tb) → BufTy
  | .hbm, ⟨0, _⟩ => ⟨S4096x768, .f32⟩
  | .hbm, ⟨1, _⟩ => ⟨S384, .f32⟩
  | .hbm, ⟨2, _⟩ => ⟨S256, .f32⟩
  | .hbm, ⟨3, _⟩ => ⟨S4096x384, .f32⟩
  | .hbm, ⟨4, _⟩ => ⟨S4096x256, .f32⟩
  | .hbm, ⟨5, _⟩ => ⟨S4096x128, .f32⟩
  | .hbm, ⟨6, _⟩ => ⟨S2x2048, .i32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2x2048, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S_, .f32⟩
  | .hbm, ⟨31, _⟩ => ⟨S4096x64, .f32⟩
  | .hbm, ⟨32, _⟩ => ⟨S4096x128, .f32⟩
  | .hbm, ⟨33, _⟩ => ⟨S4096x32, .f32⟩
  | .hbm, ⟨34, _⟩ => ⟨S4096x128, .f32⟩
  | .hbm, ⟨35, _⟩ => ⟨S1x384, .f32⟩
  | .hbm, ⟨36, _⟩ => ⟨S1x256, .f32⟩
  | .hbm, ⟨37, _⟩ => ⟨S4096x768, .bf16⟩
  | .hbm, ⟨38, _⟩ => ⟨S1x384, .f32⟩
  | .hbm, ⟨39, _⟩ => ⟨S1x256, .f32⟩
  | .local _ .vmem, ⟨0, _⟩ => ⟨S512x768, .f32⟩
  | .local _ .vmem, ⟨1, _⟩ => ⟨S512x768, .f32⟩
  | .local _ .vmem, ⟨2, _⟩ => ⟨S1x384, .f32⟩
  | .local _ .vmem, ⟨3, _⟩ => ⟨S1x256, .f32⟩
  | .local _ .vmem, ⟨4, _⟩ => ⟨S512x384, .f32⟩
  | .local _ .vmem, ⟨5, _⟩ => ⟨S512x384, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x768, .bf16⟩
  | .local _ .vmem, ⟨15, _⟩ => ⟨S512x768, .bf16⟩
  | .local _ .vmem, ⟨16, _⟩ => ⟨S1x384, .f32⟩
  | .local _ .vmem, ⟨17, _⟩ => ⟨S1x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceLatIdeal.lean ====
abbrev S4096x768 : Shape := ⟨2, ![4096, 768]⟩
abbrev S384 : Shape := ⟨1, ![384]⟩
abbrev S256 : Shape := ⟨1, ![256]⟩
abbrev S4096x384 : Shape := ⟨2, ![4096, 384]⟩
abbrev S4096x256 : Shape := ⟨2, ![4096, 256]⟩
abbrev S4096x128 : Shape := ⟨2, ![4096, 128]⟩
abbrev S2x2048 : Shape := ⟨2, ![2, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x704 : Shape := ⟨2, ![4096, 704]⟩
abbrev S4096x64 : Shape := ⟨2, ![4096, 64]⟩
abbrev S1x384 : Shape := ⟨2, ![1, 384]⟩
abbrev S1x256 : Shape := ⟨2, ![1, 256]⟩

abbrev nBuf : Space → Nat
  | .hbm => 150
  | .vmem => 0
  | .smem => 0
  | _ => 0

abbrev hbmTy0_0 (i : Nat) : BufTy := match i % 128 with
  | 0 => ⟨S4096x768, .f32⟩
  | 1 => ⟨S384, .f32⟩
  | 2 => ⟨S256, .f32⟩
  | 3 => ⟨S4096x384, .f32⟩
  | 4 => ⟨S4096x256, .f32⟩
  | 5 => ⟨S4096x128, .f32⟩
  | 6 => ⟨S2x2048, .i32⟩
  | 7 => ⟨S4096, .i32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4096, .f32⟩
  | 23 => ⟨S4096x1, .f32⟩
  | 24 => ⟨S1x32, .f32⟩
  | 25 => ⟨S4096x32, .f32⟩
  | 26 => ⟨S4096x32, .f32⟩
  | 27 => ⟨S4096x32, .f32⟩
  | 28 => ⟨S4096x32, .f32⟩
  | 29 => ⟨S4096x32, .f32⟩
  | 30 => ⟨S4096x704, .f32⟩
  | 31 => ⟨S4096x384, .f32⟩
  | 32 => ⟨S4096x256, .f32⟩
  | 33 => ⟨S4096x64, .f32⟩
  | 34 => ⟨S4096x384, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x384, .f32⟩
  | 50 => ⟨S4096x384, .f32⟩
  | 51 => ⟨S1x384, .f32⟩
  | 52 => ⟨S4096x384, .f32⟩
  | 53 => ⟨S4096x384, .f32⟩
  | 54 => ⟨S4096x256, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x256, .f32⟩
  | 70 => ⟨S4096x256, .f32⟩
  | 71 => ⟨S1x256, .f32⟩
  | 72 => ⟨S4096x256, .f32⟩
  | 73 => ⟨S4096x256, .f32⟩
  | 74 => ⟨S4096x32, .f32⟩
  | 75 => ⟨S4096x32, .f32⟩
  | 76 => ⟨S4096x32, .f32⟩
  | 77 => ⟨S4096x32, .f32⟩
  | 78 => ⟨S4096x32, .f32⟩
  | 79 => ⟨S4096x32, .f32⟩
  | 80 => ⟨S4096x32, .f32⟩
  | 81 => ⟨S4096x32, .f32⟩
  | 82 => ⟨S4096x64, .f32⟩
  | 83 => ⟨S4096x64, .f32⟩
  | 84 => ⟨S4096x32, .f32⟩
  | 85 => ⟨S4096x32, .f32⟩
  | 86 => ⟨S4096x32, .f32⟩
  | 87 => ⟨S4096x32, .f32⟩
  | 88 => ⟨S4096x32, .f32⟩
  | 89 => ⟨S4096x32, .f32⟩
  | 90 => ⟨S4096x32, .f32⟩
  | 91 => ⟨S4096x32, .f32⟩
  | 92 => ⟨S4096x32, .f32⟩
  | 93 => ⟨S4096x64, .f32⟩
  | 94 => ⟨S4096x256, .f32⟩
  | 95 => ⟨S_, .f32⟩
  | 96 => ⟨S256, .f32⟩
  | 97 => ⟨S1x256, .f32⟩
  | 98 => ⟨S4096x256, .f32⟩
  | 99 => ⟨S4096x256, .f32⟩
  | 100 => ⟨S_, .f32⟩
  | 101 => ⟨S256, .f32⟩
  | 102 => ⟨S4096x256, .f32⟩
  | 103 => ⟨S_, .f32⟩
  | 104 => ⟨S4096, .f32⟩
  | 105 => ⟨S4096x1, .f32⟩
  | 106 => ⟨S4096x256, .f32⟩
  | 107 => ⟨S4096x256, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x256, .f32⟩
  | 115 => ⟨S4096x256, .f32⟩
  | 116 => ⟨S4096x256, .f32⟩
  | 117 => ⟨S4096x256, .f32⟩
  | 118 => ⟨S4096x256, .f32⟩
  | 119 => ⟨S4096x384, .f32⟩
  | 120 => ⟨S_, .f32⟩
  | 121 => ⟨S384, .f32⟩
  | 122 => ⟨S1x384, .f32⟩
  | 123 => ⟨S4096x384, .f32⟩
  | 124 => ⟨S4096x384, .f32⟩
  | 125 => ⟨S_, .f32⟩
  | 126 => ⟨S384, .f32⟩
  | 127 => ⟨S4096x384, .f32⟩
  | _ => ⟨S4096x768, .f32⟩

abbrev hbmTy0_1 (i : Nat) : BufTy := match i % 128 with
  | 0 => ⟨S_, .f32⟩
  | 1 => ⟨S4096, .f32⟩
  | 2 => ⟨S4096x1, .f32⟩
  | 3 => ⟨S4096x384, .f32⟩
  | 4 => ⟨S4096x384, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096, .f32⟩
  | 11 => ⟨S4096x384, .f32⟩
  | 12 => ⟨S4096x384, .f32⟩
  | 13 => ⟨S4096x384, .f32⟩
  | 14 => ⟨S4096x384, .f32⟩
  | 15 => ⟨S4096x384, .f32⟩
  | 16 => ⟨S4096x704, .f32⟩
  | 17 => ⟨S_, .f32⟩
  | 18 => ⟨S4096x768, .f32⟩
  | 19 => ⟨S4096x768, .bf16⟩
  | 20 => ⟨S1x384, .f32⟩
  | 21 => ⟨S1x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_11 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_cst_15 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_17 : Ref sig .tc := ⟨.hbm, 125, rfl⟩
abbrev main_v100 : Ref sig .tc := ⟨.hbm, 126, rfl⟩
abbrev main_v101 : Ref sig .tc := ⟨.hbm, 127, rfl⟩
abbrev main_cst_18 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_19 : Ref sig .tc := ⟨.hbm, 134, rfl⟩
abbrev main_v107 : Ref sig .tc := ⟨.hbm, 135, rfl⟩
abbrev main_v108 : Ref sig .tc := ⟨.hbm, 136, rfl⟩
abbrev main_cst_20 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_21 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩

abbrev nD : Nat := 1
abbrev τ : Topo := Topo.v7x

variable {F : FTy → Type} [FloatOps F]
-- ==== KernelAct.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S256x1024 : Shape := ⟨2, ![256, 1024]⟩
abbrev S512x256 : Shape := ⟨2, ![512, 256]⟩
abbrev S128x1024 : Shape := ⟨2, ![128, 1024]⟩
abbrev S512x128 : Shape := ⟨2, ![512, 128]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S2816x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceActIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== KernelUpNorm.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x5632, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S4096x2816, .bf16⟩
  | .hbm, ⟨10, _⟩ => ⟨S4096x2816, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_14 : BitVec 32 := 0#32
  let v21 : BitVec 1 := Scalar.cmpi .ne v20 c0_i32_14
  v21

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let arg1 : BitVec 32 := BitVec.ofNat 32 (i 1).val
  let c0_i32_10 : BitVec 32 := 0#32
  let v12 : BitVec 1 := Scalar.cmpi .eq arg1 c0_i32_10
  let v13 : BitVec 1 := Scalar.andi v11 v12
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceUpNormIdeal.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x5632, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== KernelInNorm.lean ====
abbrev S4096x768 : Shape := ⟨2, ![4096, 768]⟩
abbrev S4096x512 : Shape := ⟨2, ![4096, 512]⟩
abbrev S4096x2048 : Shape := ⟨2, ![4096, 2048]⟩
abbrev S1024x3264 : Shape := ⟨2, ![1024, 3264]⟩
abbrev S4096x1024 : Shape := ⟨2, ![4096, 1024]⟩
abbrev S1024 : Shape := ⟨1, ![1024]⟩
abbrev S1024x512 : Shape := ⟨2, ![1024, 512]⟩
abbrev S1024x704 : Shape := ⟨2, ![1024, 704]⟩
abbrev S_ : Shape := ⟨0, ![]⟩
abbrev S1024x64 : Shape := ⟨2, ![1024, 64]⟩
abbrev S1024x768 : Shape := ⟨2, ![1024, 768]⟩
abbrev S1024x2048 : Shape := ⟨2, ![1024, 2048]⟩
abbrev S1x1024 : Shape := ⟨2, ![1, 1024]⟩
abbrev S512x768 : Shape := ⟨2, ![512, 768]⟩
abbrev S512x512 : Shape := ⟨2, ![512, 512]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S4096x768, .f32⟩
  | .hbm, ⟨1, _⟩ => ⟨S4096x512, .f32⟩
  | .hbm, ⟨2, _⟩ => ⟨S4096x2048, .f32⟩
  | .hbm, ⟨3, _⟩ => ⟨S1024x3264, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S1024x3264, .bf16⟩
  | .hbm, ⟨8, _⟩ => ⟨S1024x512, .bf16⟩
  | .hbm, ⟨9, _⟩ => ⟨S1024x704, .bf16⟩
  | .hbm, ⟨10, _⟩ => ⟨S_, .bf16⟩
  | .hbm, ⟨11, _⟩ => ⟨S1024x64, .bf16⟩
  | .hbm, ⟨12, _⟩ => ⟨S1024x768, .bf16⟩
  | .hbm, ⟨13, _⟩ => ⟨S1024x2048, .bf16⟩
  | .hbm, ⟨14, _⟩ => ⟨S4096x768, .bf16⟩
  | .hbm, ⟨15, _⟩ => ⟨S4096x512, .bf16⟩
  | .hbm, ⟨16, _⟩ => ⟨S4096x2048, .bf16⟩
  | .hbm, ⟨17, _⟩ => ⟨S1x1024, .f32⟩
  | .hbm, ⟨18, _⟩ => ⟨S4096x1024, .f32⟩
  | .hbm, ⟨19, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S1024x768, .bf16⟩
  | .local _ .vmem, ⟨7, _⟩ => ⟨S1024x512, .bf16⟩
  | .local _ .vmem, ⟨8, _⟩ => ⟨S1024x2048, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceInNormIdeal.lean ====
abbrev S4096x768 : Shape := ⟨2, ![4096, 768]⟩
abbrev S4096x512 : Shape := ⟨2, ![4096, 512]⟩
abbrev S4096x2048 : Shape := ⟨2, ![4096, 2048]⟩
abbrev S1024x3264 : Shape := ⟨2, ![1024, 3264]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3264 : Shape := ⟨2, ![4096, 3264]⟩
abbrev S4096x704 : Shape := ⟨2, ![4096, 704]⟩

abbrev nBuf : Space → Nat
  | .hbm => 61
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x512, .f32⟩
  | .hbm, ⟨2, _⟩ => ⟨S4096x2048, .f32⟩
  | .hbm, ⟨3, _⟩ => ⟨S1024x3264, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x3264, .f32⟩
  | .hbm, ⟨28, _⟩ => ⟨S4096x512, .f32⟩
  | .hbm, ⟨29, _⟩ => ⟨S4096x704, .f32⟩
  | .hbm, ⟨30, _⟩ => ⟨S4096x2048, .f32⟩
  | .hbm, ⟨31, _⟩ => ⟨S4096x704, .f32⟩
  | .hbm, ⟨32, _⟩ => ⟨S4096x3264, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== KernelLoss.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S2x2048x1024, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x1024, .f32⟩
  | .hbm, ⟨59, _⟩ => ⟨S2x2048x1024, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S4096x1024, .f32⟩
  | .hbm, ⟨72, _⟩ => ⟨S1x1024, .f32⟩
  | .hbm, ⟨73, _⟩ => ⟨S8x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== KernelRms.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelUpAct.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S1x1024x256 : Shape := ⟨3, ![1, 1024, 256]⟩
abbrev S1024x256 : Shape := ⟨2, ![1024, 256]⟩
abbrev S512x256 : Shape := ⟨2, ![512, 256]⟩
abbrev S1x1024x128 : Shape := ⟨3, ![1, 1024, 128]⟩
abbrev S1024x128 : Shape := ⟨2, ![1024, 128]⟩
abbrev S512x128 : Shape := ⟨2, ![512, 128]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S4096x1024, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceUpActIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S4096x2816, .bf16⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== KernelProjGate.lean ====
abbrev S4096x1024 : Shape := ⟨2, ![4096, 1024]⟩
abbrev S1024x1024 : Shape := ⟨2, ![1024, 1024]⟩
abbrev S4096x2048 : Shape := ⟨2, ![4096, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1x1024 : Shape := ⟨2, ![1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x2048, .f32⟩
  | .hbm, ⟨3, _⟩ => ⟨S2048, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S4096x2048, .bf16⟩
  | .hbm, ⟨8, _⟩ => ⟨S4096x1024, .bf16⟩
  | .hbm, ⟨9, _⟩ => ⟨S1x2048, .f32⟩
  | .hbm, ⟨10, _⟩ => ⟨S4096x1024, .bf16⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2048, .bf16⟩
  | .local _ .vmem, ⟨4, _⟩ => ⟨S512x2048, .bf16⟩
  | .local _ .vmem, ⟨5, _⟩ => ⟨S1x2048, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceProjGateIdeal.lean ====
abbrev S4096x1024 : Shape := ⟨2, ![4096, 1024]⟩
abbrev S1024x1024 : Shape := ⟨2, ![1024, 1024]⟩
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096x2x1024 : Shape := ⟨3, ![4096, 2, 1024]⟩
abbrev S4096x1x1024 : Shape := ⟨3, ![4096, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x2048, .f32⟩
  | .hbm, ⟨3, _⟩ => ⟨S2048, .f32⟩
  | .hbm, ⟨4, _⟩ => ⟨S4096x1024, .f32⟩
  | .hbm, ⟨5, _⟩ => ⟨S4096x1024, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2x1024, .f32⟩
  | .hbm, ⟨18, _⟩ => ⟨S4096x1x1024, .f32⟩
  | .hbm, ⟨19, _⟩ => ⟨S4096x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelLatFwd.lean ====
abbrev S4096x768 : Shape := ⟨2, ![4096, 768]⟩
abbrev S384 : Shape := ⟨1, ![384]⟩
abbrev S256 : Shape := ⟨1, ![256]⟩
abbrev S2x2048 : Shape := ⟨2, ![2, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x384 : Shape := ⟨2, ![1, 384]⟩
abbrev S1x256 : Shape := ⟨2, ![1, 256]⟩
abbrev S4096x384 : Shape := ⟨2, ![4096, 384]⟩
abbrev S4096x256 : Shape := ⟨2, ![4096, 256]⟩
abbrev S512x768 : Shape := ⟨2, ![512, 768]⟩
abbrev S512x128 : Shape := ⟨2, ![512, 128]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 37
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S384, .f32⟩
  | .hbm, ⟨2, _⟩ => ⟨S256, .f32⟩
  | .hbm, ⟨3, _⟩ => ⟨S2x2048, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2x2048, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S_, .f32⟩
  | .hbm, ⟨28, _⟩ => ⟨S4096x64, .f32⟩
  | .hbm, ⟨29, _⟩ => ⟨S4096x128, .f32⟩
  | .hbm, ⟨30, _⟩ => ⟨S4096x32, .f32⟩
  | .hbm, ⟨31, _⟩ => ⟨S4096x128, .f32⟩
  | .hbm, ⟨32, _⟩ => ⟨S1x384, .f32⟩
  | .hbm, ⟨33, _⟩ => ⟨S1x256, .f32⟩
  | .hbm, ⟨34, _⟩ => ⟨S4096x384, .bf16⟩
  | .hbm, ⟨35, _⟩ => ⟨S4096x256, .bf16⟩
  | .hbm, ⟨36, _⟩ => ⟨S4096x128, .bf16⟩
  | .local _ .vmem, ⟨0, _⟩ => ⟨S512x768, .f32⟩
  | .local _ .vmem, ⟨1, _⟩ => ⟨S512x768, .f32⟩
  | .local _ .vmem, ⟨2, _⟩ => ⟨S1x384, .f32⟩
  | .local _ .vmem, ⟨3, _⟩ => ⟨S1x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x384, .bf16⟩
  | .local _ .vmem, ⟨9, _⟩ => ⟨S512x384, .bf16⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceLatFwdIdeal.lean ====
abbrev S4096x768 : Shape := ⟨2, ![4096, 768]⟩
abbrev S384 : Shape := ⟨1, ![384]⟩
abbrev S256 : Shape := ⟨1, ![256]⟩
abbrev S2x2048 : Shape := ⟨2, ![2, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x704 : Shape := ⟨2, ![4096, 704]⟩
abbrev S4096x384 : Shape := ⟨2, ![4096, 384]⟩
abbrev S4096x256 : Shape := ⟨2, ![4096, 256]⟩
abbrev S4096x64 : Shape := ⟨2, ![4096, 64]⟩
abbrev S4096x128 : Shape := ⟨2, ![4096, 128]⟩
abbrev S1x384 : Shape := ⟨2, ![1, 384]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S384, .f32⟩
  | .hbm, ⟨2, _⟩ => ⟨S256, .f32⟩
  | .hbm, ⟨3, _⟩ => ⟨S2x2048, .i32⟩
  | .hbm, ⟨4, _⟩ => ⟨S4096, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x704, .f32⟩
  | .hbm, ⟨28, _⟩ => ⟨S4096x384, .f32⟩
  | .hbm, ⟨29, _⟩ => ⟨S4096x256, .f32⟩
  | .hbm, ⟨30, _⟩ => ⟨S4096x64, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x64, .f32⟩
  | .hbm, ⟨40, _⟩ => ⟨S_, .f32⟩
  | .hbm, ⟨41, _⟩ => ⟨S4096x64, .f32⟩
  | .hbm, ⟨42, _⟩ => ⟨S4096x128, .f32⟩
  | .hbm, ⟨43, _⟩ => ⟨S4096x384, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x384, .f32⟩
  | .hbm, ⟨55, _⟩ => ⟨S4096x384, .f32⟩
  | .hbm, ⟨56, _⟩ => ⟨S1x384, .f32⟩
  | .hbm, ⟨57, _⟩ => ⟨S4096x384, .f32⟩
  | .hbm, ⟨58, _⟩ => ⟨S4096x384, .f32⟩
  | .hbm, ⟨59, _⟩ => ⟨S4096x384, .bf16⟩
  | .hbm, ⟨60, _⟩ => ⟨S4096x256, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x256, .f32⟩
  | .hbm, ⟨72, _⟩ => ⟨S4096x256, .f32⟩
  | .hbm, ⟨73, _⟩ => ⟨S1x256, .f32⟩
  | .hbm, ⟨74, _⟩ => ⟨S4096x256, .f32⟩
  | .hbm, ⟨75, _⟩ => ⟨S4096x256, .f32⟩
  | .hbm, ⟨76, _⟩ => ⟨S4096x256, .bf16⟩
  | .hbm, ⟨77, _⟩ => ⟨S4096x128, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== KernelPoolFwd.lean ====
abbrev S2x2048x512 : Shape := ⟨3, ![2, 2048, 512]⟩
abbrev S4x128x128 : Shape := ⟨3, ![4, 128, 128]⟩
abbrev S512 : Shape := ⟨1, ![512]⟩
abbrev S4096x512 : Shape := ⟨2, ![4096, 512]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x512, .f32⟩
  | .hbm, ⟨1, _⟩ => ⟨S4x128x128, .f32⟩
  | .hbm, ⟨2, _⟩ => ⟨S512, .f32⟩
  | .hbm, ⟨3, _⟩ => ⟨S4096x512, .f32⟩
  | .hbm, ⟨4, _⟩ => ⟨S4x128x128, .bf16⟩
  | .hbm, ⟨5, _⟩ => ⟨S1x512, .f32⟩
  | .hbm, ⟨6, _⟩ => ⟨S4096x512, .bf16⟩
  | .local _ .vmem, ⟨0, _⟩ => ⟨S2048x512, .f32⟩
  | .local _ .vmem, ⟨1, _⟩ => ⟨S2048x512, .f32⟩
  | .local _ .vmem, ⟨2, _⟩ => ⟨S4x128x128, .bf16⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePoolFwdIdeal.lean ====
abbrev S2x2048x512 : Shape := ⟨3, ![2, 2048, 512]⟩
abbrev S4x128x128 : Shape := ⟨3, ![4, 128, 128]⟩
abbrev S512 : Shape := ⟨1, ![512]⟩
abbrev S2x2048x4x128 : Shape := ⟨4, ![2, 2048, 4, 128]⟩
abbrev S_ : Shape := ⟨0, ![]⟩
abbrev S2x1x4x128 : Shape := ⟨4, ![2, 1, 4, 128]⟩
abbrev S2x2049x4x128 : Shape := ⟨4, ![2, 2049, 4, 128]⟩
abbrev S4 : Shape := ⟨1, ![4]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩
abbrev S4x128x2x2048 : Shape := ⟨4, ![4, 128, 2, 2048]⟩
abbrev S1x1x512 : Shape := ⟨3, ![1, 1, 512]⟩
abbrev S4096x512 : Shape := ⟨2, ![4096, 512]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S4x128x128, .f32⟩
  | .hbm, ⟨2, _⟩ => ⟨S512, .f32⟩
  | .hbm, ⟨3, _⟩ => ⟨S2x2048x4x128, .f32⟩
  | .hbm, ⟨4, _⟩ => ⟨S_, .f32⟩
  | .hbm, ⟨5, _⟩ => ⟨S2x1x4x128, .f32⟩
  | .hbm, ⟨6, _⟩ => ⟨S_, .f32⟩
  | .hbm, ⟨7, _⟩ => ⟨S_, .f32⟩
  | .hbm, ⟨8, _⟩ => ⟨S2x2048x4x128, .f32⟩
  | .hbm, ⟨9, _⟩ => ⟨S2x2049x4x128, .f32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S2048, .i32⟩
  | .hbm, ⟨15, _⟩ => ⟨S2048x1, .i32⟩
  | .hbm, ⟨16, _⟩ => ⟨S_, .i32⟩
  | .hbm, ⟨17, _⟩ => ⟨S2048x1, .i32⟩
  | .hbm, ⟨18, _⟩ => ⟨S2048x1, .i32⟩
  | .hbm, ⟨19, _⟩ => ⟨S1x4, .i32⟩
  | .hbm, ⟨20, _⟩ => ⟨S2048x4, .i32⟩
  | .hbm, ⟨21, _⟩ => ⟨S2048x4, .i32⟩
  | .hbm, ⟨22, _⟩ => ⟨S2048x4, .i32⟩
  | .hbm, ⟨23, _⟩ => ⟨S_, .i32⟩
  | .hbm, ⟨24, _⟩ => ⟨S2048x4, .i32⟩
  | .hbm, ⟨25, _⟩ => ⟨S2048x4, .i32⟩
  | .hbm, ⟨26, _⟩ => ⟨S4, .i32⟩
  | .hbm, ⟨27, _⟩ => ⟨S1x4, .i32⟩
  | .hbm, ⟨28, _⟩ => ⟨S_, .i32⟩
  | .hbm, ⟨29, _⟩ => ⟨S2048x4, .i32⟩
  | .hbm, ⟨30, _⟩ => ⟨S2048x4, .i1⟩
  | .hbm, ⟨31, _⟩ => ⟨S_, .i32⟩
  | .hbm, ⟨32, _⟩ => ⟨S2048x4, .i32⟩
  | .hbm, ⟨33, _⟩ => ⟨S2048x4, .i32⟩
  | .hbm, ⟨34, _⟩ => ⟨S2048x4, .i32⟩
  | .hbm, ⟨35, _⟩ => ⟨S_, .i32⟩
  | .hbm, ⟨36, _⟩ => ⟨S1x4, .i32⟩
  | .hbm, ⟨37, _⟩ => ⟨S1x4, .i1⟩
  | .hbm, ⟨38, _⟩ => ⟨S_, .i32⟩
  | .hbm, ⟨39, _⟩ => ⟨S1x4, .i32⟩
  | .hbm, ⟨40, _⟩ => ⟨S1x4, .i32⟩
  | .hbm, ⟨41, _⟩ => ⟨S1x4, .i32⟩
  | .hbm, ⟨42, _⟩ => ⟨S2048x4, .i32⟩
  | .hbm, ⟨43, _⟩ => ⟨S2048x4x1, .i32⟩
  | .hbm, ⟨44, _⟩ => ⟨S2048x4x1, .i32⟩
  | .hbm, ⟨45, _⟩ => ⟨S2048x4x2, .i32⟩
  | .hbm, ⟨46, _⟩ => ⟨S2x2048x4x128, .f32⟩
  | .hbm, ⟨47, _⟩ => ⟨S_, .i32⟩
  | .hbm, ⟨48, _⟩ => ⟨S2048x1, .i32⟩
  | .hbm, ⟨49, _⟩ => ⟨S2048x1, .i32⟩
  | .hbm, ⟨50, _⟩ => ⟨S1x4, .i32⟩
  | .hbm, ⟨51, _⟩ => ⟨S2048x4, .i32⟩
  | .hbm, ⟨52, _⟩ => ⟨S2048x4, .i32⟩
  | .hbm, ⟨53, _⟩ => ⟨S2048x4, .i32⟩
  | .hbm, ⟨54, _⟩ => ⟨S2048x4, .f32⟩
  | .hbm, ⟨55, _⟩ => ⟨S2x2048x4x128, .f32⟩
  | .hbm, ⟨56, _⟩ => ⟨S2x2048x4x128, .f32⟩
  | .hbm, ⟨57, _⟩ => ⟨S1x2048x4x1, .f32⟩
  | .hbm, ⟨58, _⟩ => ⟨S2x2048x4x128, .f32⟩
  | .hbm, ⟨59, _⟩ => ⟨S2x2048x4x128, .f32⟩
  | .hbm, ⟨60, _⟩ => ⟨S2x2048x4x128, .f32⟩
  | .hbm, ⟨61, _⟩ => ⟨S4x128x2x2048, .f32⟩
  | .hbm, ⟨62, _⟩ => ⟨S2x2048x4x128, .f32⟩
  | .hbm, ⟨63, _⟩ => ⟨S2x2048x512, .f32⟩
  | .hbm, ⟨64, _⟩ => ⟨S1x1x512, .f32⟩
  | .hbm, ⟨65, _⟩ => ⟨S2x2048x512, .f32⟩
  | .hbm, ⟨66, _⟩ => ⟨S2x2048x512, .f32⟩
  | .hbm, ⟨67, _⟩ => ⟨S4096x512, .f32⟩
  | .hbm, ⟨68, _⟩ => ⟨S4096x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== KernelSwap.lean ====
abbrev S4x1024x1408 : Shape := ⟨3, ![4, 1024, 1408]⟩
abbrev S4x704x1024 : Shape := ⟨3, ![4, 704, 1024]⟩
abbrev S4x512x1408 : Shape := ⟨3, ![4, 512, 1408]⟩
abbrev S4x352x1024 : Shape := ⟨3, ![4, 352, 1024]⟩
abbrev S2 : Shape := ⟨1, ![2]⟩
abbrev S1 : Shape := ⟨1, ![1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x704x1024, .bf16⟩
  | .hbm, ⟨2, _⟩ => ⟨S4x512x1408, .bf16⟩
  | .hbm, ⟨3, _⟩ => ⟨S4x352x1024, .bf16⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 2
abbrev τ : Topo := Topo.v7x

variable {F : FTy → Type} [FloatOps F]

abbrev grid0 : Pipeline.Grid := .none

def k0_mult1 (d0 : Dev nD) : BitVec 32 :=
  let c1_i32_4 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v9 : BitVec 32 := Scalar.subi c1_i32_4 v8
  let c512_i32 : BitVec 32 := 512#32
  let v10 : BitVec 32 := Scalar.muli v9 c512_i32
  v10
def k0_off1 (d0 : Dev nD) : Fin 3 → Nat :=
  let c0_i32_11 : BitVec 32 := 0#32
  let c1_i32_4 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v9 : BitVec 32 := Scalar.subi c1_i32_4 v8
  let c512_i32 : BitVec 32 := 512#32
  let v10 : BitVec 32 := Scalar.muli v9 c512_i32
  let v11 : BitVec 32 := v10
  let c0_i32_12 : BitVec 32 := 0#32
  ![0, v11.toNat, 0]
def k0_dev1 (d0 : Dev nD) : Nat :=
  let c0_i32_8 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_7 : BitVec 32 := 2#32
  let v13 : BitVec 32 := Scalar.muli v2 c2_i32_7
  let v14 : BitVec 32 := Scalar.addi c0_i32_8 v13
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_9 : BitVec 32 := 2#32
  let v15 : BitVec 32 := Scalar.muli v5 c2_i32_9
  let v16 : BitVec 32 := Scalar.addi v14 v15
  let c1_i32_5 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v12 : BitVec 32 := Scalar.subi c1_i32_5 v8
  let c1_i32_10 : BitVec 32 := 1#32
  let v17 : BitVec 32 := Scalar.muli v12 c1_i32_10
  let v18 : BitVec 32 := Scalar.addi v16 v17
  v18.toNat
def k0_mult2 (d0 : Dev nD) : BitVec 32 :=
  let c1_i32_13 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v24 : BitVec 32 := Scalar.subi c1_i32_13 v8
  let c352_i32 : BitVec 32 := 352#32
  let v25 : BitVec 32 := Scalar.muli v24 c352_i32
  v25
def k0_off2 (d0 : Dev nD) : Fin 3 → Nat :=
  let c0_i32_21 : BitVec 32 := 0#32
  let c1_i32_13 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v24 : BitVec 32 := Scalar.subi c1_i32_13 v8
  let c352_i32 : BitVec 32 := 352#32
  let v25 : BitVec 32 := Scalar.muli v24 c352_i32
  let v26 : BitVec 32 := v25
  let c0_i32_22 : BitVec 32 := 0#32
  ![0, v26.toNat, 0]
def k0_dev2 (d0 : Dev nD) : Nat :=
  let c0_i32_18 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_17 : BitVec 32 := 2#32
  let v28 : BitVec 32 := Scalar.muli v2 c2_i32_17
  let v29 : BitVec 32 := Scalar.addi c0_i32_18 v28
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_19 : BitVec 32 := 2#32
  let v30 : BitVec 32 := Scalar.muli v5 c2_i32_19
  let v31 : BitVec 32 := Scalar.addi v29 v30
  let c1_i32_14 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v27 : BitVec 32 := Scalar.subi c1_i32_14 v8
  let c1_i32_20 : BitVec 32 := 1#32
  let v32 : BitVec 32 := Scalar.muli v27 c1_i32_20
  let v33 : BitVec 32 := Scalar.addi v31 v32
  v33.toNat
-- ==== ReferenceSwapIdeal.lean ====
abbrev S8x1024x1408 : Shape := ⟨3, ![8, 1024, 1408]⟩
abbrev S8x704x1024 : Shape := ⟨3, ![8, 704, 1024]⟩
abbrev S4x512x1408 : Shape := ⟨3, ![4, 512, 1408]⟩
abbrev S8x512x1408 : Shape := ⟨3, ![8, 512, 1408]⟩
abbrev S4x352x1024 : Shape := ⟨3, ![4, 352, 1024]⟩
abbrev S8x352x1024 : Shape := ⟨3, ![8, 352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x1024x1408, .bf16⟩
  | .hbm, ⟨1, _⟩ => ⟨S8x704x1024, .bf16⟩
  | .hbm, ⟨2, _⟩ => ⟨S4x512x1408, .bf16⟩
  | .hbm, ⟨3, _⟩ => ⟨S4x512x1408, .bf16⟩
  | .hbm, ⟨4, _⟩ => ⟨S8x512x1408, .bf16⟩
  | .hbm, ⟨5, _⟩ => ⟨S4x352x1024, .bf16⟩
  | .hbm, ⟨6, _⟩ => ⟨S4x352x1024, .bf16⟩
  | .hbm, ⟨7, _⟩ => ⟨S8x352x1024, .bf16⟩
  | _, _ => ⟨S8x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelDown.lean ====
abbrev S4096x1024 : Shape := ⟨2, ![4096, 1024]⟩
abbrev S4096x2816 : Shape := ⟨2, ![4096, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelMixIn.lean ====
abbrev S4096x1024 : Shape := ⟨2, ![4096, 1024]⟩
abbrev S1024x3264 : Shape := ⟨2, ![1024, 3264]⟩
abbrev S1024x512 : Shape := ⟨2, ![1024, 512]⟩
abbrev S1024x704 : Shape := ⟨2, ![1024, 704]⟩
abbrev S_ : Shape := ⟨0, ![]⟩
abbrev S1024x64 : Shape := ⟨2, ![1024, 64]⟩
abbrev S1024x768 : Shape := ⟨2, ![1024, 768]⟩
abbrev S1024x2048 : Shape := ⟨2, ![1024, 2048]⟩
abbrev S4096x768 : Shape := ⟨2, ![4096, 768]⟩
abbrev S4096x512 : Shape := ⟨2, ![4096, 512]⟩
abbrev S4096x2048 : Shape := ⟨2, ![4096, 2048]⟩
abbrev S512x1024 : Shape := ⟨2, ![512, 1024]⟩
abbrev S512x768 : Shape := ⟨2, ![512, 768]⟩
abbrev S512x512 : Shape := ⟨2, ![512, 512]⟩
abbrev S512x2048 : Shape := ⟨2, ![512, 2048]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x3264, .f32⟩
  | .hbm, ⟨2, _⟩ => ⟨S1024x3264, .bf16⟩
  | .hbm, ⟨3, _⟩ => ⟨S1024x512, .bf16⟩
  | .hbm, ⟨4, _⟩ => ⟨S1024x704, .bf16⟩
  | .hbm, ⟨5, _⟩ => ⟨S_, .bf16⟩
  | .hbm, ⟨6, _⟩ => ⟨S1024x64, .bf16⟩
  | .hbm, ⟨7, _⟩ => ⟨S1024x768, .bf16⟩
  | .hbm, ⟨8, _⟩ => ⟨S1024x2048, .bf16⟩
  | .hbm, ⟨9, _⟩ => ⟨S4096x1024, .bf16⟩
  | .hbm, ⟨10, _⟩ => ⟨S4096x768, .f32⟩
  | .hbm, ⟨11, _⟩ => ⟨S4096x512, .f32⟩
  | .hbm, ⟨12, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x512, .bf16⟩
  | .local _ .vmem, ⟨4, _⟩ => ⟨S1024x2048, .bf16⟩
  | .local _ .vmem, ⟨5, _⟩ => ⟨S512x768, .f32⟩
  | .local _ .vmem, ⟨6, _⟩ => ⟨S512x768, .f32⟩
  | .local _ .vmem, ⟨7, _⟩ => ⟨S512x512, .f32⟩
  | .local _ .vmem, ⟨8, _⟩ => ⟨S512x512, .f32⟩
  | .local _ .vmem, ⟨9, _⟩ => ⟨S512x2048, .bf16⟩
  | .local _ .vmem, ⟨10, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMixInIdeal.lean ====
abbrev S4096x1024 : Shape := ⟨2, ![4096, 1024]⟩
abbrev S1024x3264 : Shape := ⟨2, ![1024, 3264]⟩
abbrev S4096x3264 : Shape := ⟨2, ![4096, 3264]⟩
abbrev S4096x512 : Shape := ⟨2, ![4096, 512]⟩
abbrev S4096x704 : Shape := ⟨2, ![4096, 704]⟩
abbrev S4096x2048 : Shape := ⟨2, ![4096, 2048]⟩
abbrev S_ : Shape := ⟨0, ![]⟩
abbrev S4096x768 : Shape := ⟨2, ![4096, 768]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3264, .f32⟩
  | .hbm, ⟨2, _⟩ => ⟨S4096x3264, .f32⟩
  | .hbm, ⟨3, _⟩ => ⟨S4096x512, .f32⟩
  | .hbm, ⟨4, _⟩ => ⟨S4096x704, .f32⟩
  | .hbm, ⟨5, _⟩ => ⟨S4096x2048, .f32⟩
  | .hbm, ⟨6, _⟩ => ⟨S_, .i32⟩
  | .hbm, ⟨7, _⟩ => ⟨S_, .f32⟩
  | .hbm, ⟨8, _⟩ => ⟨S4096x768, .f32⟩
  | .hbm, ⟨9, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelUpDw.lean ====
abbrev S4096x1024 : Shape := ⟨2, ![4096, 1024]⟩
abbrev S4096x2816 : Shape := ⟨2, ![4096, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S4096x1024, .bf16⟩
  | .hbm, ⟨4, _⟩ => ⟨S4096x2816, .bf16⟩
  | .hbm, ⟨5, _⟩ => ⟨S4096x2816, .bf16⟩
  | .hbm, ⟨6, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 arg1 c0_i32
  let c1_i32 : BitVec 32 := 1#32
  let v2 : BitVec 32 := Scalar.minsi arg0 c1_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c0_i32 : BitVec 32 := 0#32
  let v1 : BitVec 32 := Scalar.select v0 c0_i32 arg1
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceUpDwIdeal.lean ====
abbrev S4096x1024 : Shape := ⟨2, ![4096, 1024]⟩
abbrev S4096x2816 : Shape := ⟨2, ![4096, 2816]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelAdamw.lean ====
abbrev S4096x1408 : Shape := ⟨2, ![4096, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamwIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelChipSum.lean ====
abbrev S4x1024x1408 : Shape := ⟨3, ![4, 1024, 1408]⟩
abbrev S4x512x1408 : Shape := ⟨3, ![4, 512, 1408]⟩
abbrev S1x512x1408 : Shape := ⟨3, ![1, 512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x1408, .bf16⟩
  | .hbm, ⟨1, _⟩ => ⟨S4x512x1408, .bf16⟩
  | .hbm, ⟨2, _⟩ => ⟨S4x512x1408, .bf16⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x512x1408, .bf16⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceChipSumIdeal.lean ====
abbrev S4x1024x1408 : Shape := ⟨3, ![4, 1024, 1408]⟩
abbrev S4x512x1408 : Shape := ⟨3, ![4, 512, 1408]⟩

abbrev nBuf : Space → Nat
  | .hbm => 7
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x512x1408, .bf16⟩
  | .hbm, ⟨2, _⟩ => ⟨S4x512x1408, .bf16⟩
  | .hbm, ⟨3, _⟩ => ⟨S4x512x1408, .f32⟩
  | .hbm, ⟨4, _⟩ => ⟨S4x512x1408, .f32⟩
  | .hbm, ⟨5, _⟩ => ⟨S4x512x1408, .f32⟩
  | .hbm, ⟨6, _⟩ => ⟨S4x512x1408, .bf16⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelFinalSum.lean ====
abbrev S4x1024x1408 : Shape := ⟨3, ![4, 1024, 1408]⟩
abbrev S4x512x1408 : Shape := ⟨3, ![4, 512, 1408]⟩
abbrev S3x512x1408 : Shape := ⟨3, ![3, 512, 1408]⟩
abbrev S1x256x1408 : Shape := ⟨3, ![1, 256, 1408]⟩

abbrev nBuf : Space → Nat
  | .hbm => 5
  | .vmem => 12
  | .smem => 0
  | _ => 0

abbrev bufTy : (tb : Table) → Fin (tcTables nBuf tb) → BufTy
  | .hbm, ⟨0, _⟩ => ⟨S4x1024x1408, .bf16⟩
  | .hbm, ⟨1, _⟩ => ⟨S4x512x1408, .bf16⟩
  | .hbm, ⟨2, _⟩ => ⟨S3x512x1408, .bf16⟩
  | .hbm, ⟨3, _⟩ => ⟨S4x1024x1408, .f32⟩
  | .hbm, ⟨4, _⟩ => ⟨S4x1024x1408, .f32⟩
  | .local _ .vmem, ⟨0, _⟩ => ⟨S1x256x1408, .bf16⟩
  | .local _ .vmem, ⟨1, _⟩ => ⟨S1x256x1408, .bf16⟩
  | .local _ .vmem, ⟨2, _⟩ => ⟨S1x256x1408, .bf16⟩
  | .local _ .vmem, ⟨3, _⟩ => ⟨S1x256x1408, .bf16⟩
  | .local _ .vmem, ⟨4, _⟩ => ⟨S1x256x1408, .bf16⟩
  | .local _ .vmem, ⟨5, _⟩ => ⟨S1x256x1408, .bf16⟩
  | .local _ .vmem, ⟨6, _⟩ => ⟨S1x256x1408, .bf16⟩
  | .local _ .vmem, ⟨7, _⟩ => ⟨S1x256x1408, .bf16⟩
  | .local _ .vmem, ⟨8, _⟩ => ⟨S1x256x1408, .bf16⟩
  | .local _ .vmem, ⟨9, _⟩ => ⟨S1x256x1408, .bf16⟩
  | .local _ .vmem, ⟨10, _⟩ => ⟨S1x256x1408, .f32⟩
  | .local _ .vmem, ⟨11, _⟩ => ⟨S1x256x1408, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFinalSumIdeal.lean ====
abbrev S4x1024x1408 : Shape := ⟨3, ![4, 1024, 1408]⟩
abbrev S4x512x1408 : Shape := ⟨3, ![4, 512, 1408]⟩
abbrev S3x512x1408 : Shape := ⟨3, ![3, 512, 1408]⟩
abbrev S1x512x1408 : Shape := ⟨3, ![1, 512, 1408]⟩
abbrev S512x1408 : Shape := ⟨2, ![512, 1408]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x512x1408, .bf16⟩
  | .hbm, ⟨2, _⟩ => ⟨S3x512x1408, .bf16⟩
  | .hbm, ⟨3, _⟩ => ⟨S4x1024x1408, .f32⟩
  | .hbm, ⟨4, _⟩ => ⟨S1x512x1408, .bf16⟩
  | .hbm, ⟨5, _⟩ => ⟨S512x1408, .bf16⟩
  | .hbm, ⟨6, _⟩ => ⟨S512x1408, .f32⟩
  | .hbm, ⟨7, _⟩ => ⟨S1x512x1408, .bf16⟩
  | .hbm, ⟨8, _⟩ => ⟨S512x1408, .bf16⟩
  | .hbm, ⟨9, _⟩ => ⟨S512x1408, .f32⟩
  | .hbm, ⟨10, _⟩ => ⟨S512x1408, .f32⟩
  | .hbm, ⟨11, _⟩ => ⟨S3x512x1408, .f32⟩
  | .hbm, ⟨12, _⟩ => ⟨S_, .f32⟩
  | .hbm, ⟨13, _⟩ => ⟨S512x1408, .f32⟩
  | .hbm, ⟨14, _⟩ => ⟨S512x1408, .f32⟩
  | .hbm, ⟨15, _⟩ => ⟨S1x512x1408, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4x1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== KernelPlaceOwn.lean ====
abbrev S4x1024x1408 : Shape := ⟨3, ![4, 1024, 1408]⟩
abbrev S4x704x1024 : Shape := ⟨3, ![4, 704, 1024]⟩
abbrev S1024x1408 : Shape := ⟨2, ![1024, 1408]⟩
abbrev S704x1024 : Shape := ⟨2, ![704, 1024]⟩
abbrev S256x1408 : Shape := ⟨2, ![256, 1408]⟩
abbrev S176x1024 : Shape := ⟨2, ![176, 1024]⟩
abbrev S1x256x1408 : Shape := ⟨3, ![1, 256, 1408]⟩
abbrev S1x176x1024 : Shape := ⟨3, ![1, 176, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4x1024x1408, .bf16⟩
  | .hbm, ⟨1, _⟩ => ⟨S4x704x1024, .bf16⟩
  | .hbm, ⟨2, _⟩ => ⟨S1024x1408, .bf16⟩
  | .hbm, ⟨3, _⟩ => ⟨S704x1024, .bf16⟩
  | .hbm, ⟨4, _⟩ => ⟨S4x1024x1408, .bf16⟩
  | .hbm, ⟨5, _⟩ => ⟨S4x704x1024, .bf16⟩
  | .local _ .vmem, ⟨0, _⟩ => ⟨S256x1408, .bf16⟩
  | .local _ .vmem, ⟨1, _⟩ => ⟨S256x1408, .bf16⟩
  | .local _ .vmem, ⟨2, _⟩ => ⟨S176x1024, .bf16⟩
  | .local _ .vmem, ⟨3, _⟩ => ⟨S176x1024, .bf16⟩
  | .local _ .vmem, ⟨4, _⟩ => ⟨S1x256x1408, .bf16⟩
  | .local _ .vmem, ⟨5, _⟩ => ⟨S1x256x1408, .bf16⟩
  | .local _ .vmem, ⟨6, _⟩ => ⟨S1x176x1024, .bf16⟩
  | .local _ .vmem, ⟨7, _⟩ => ⟨S1x176x1024, .bf16⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePlaceOwnIdeal.lean ====
abbrev S4x1024x1408 : Shape := ⟨3, ![4, 1024, 1408]⟩
abbrev S4x704x1024 : Shape := ⟨3, ![4, 704, 1024]⟩
abbrev S1024x1408 : Shape := ⟨2, ![1024, 1408]⟩
abbrev S704x1024 : Shape := ⟨2, ![704, 1024]⟩
abbrev S1x1024x1408 : Shape := ⟨3, ![1, 1024, 1408]⟩
abbrev S_ : Shape := ⟨0, ![]⟩
abbrev S1x704x1024 : Shape := ⟨3, ![1, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x704x1024, .bf16⟩
  | .hbm, ⟨2, _⟩ => ⟨S1024x1408, .bf16⟩
  | .hbm, ⟨3, _⟩ => ⟨S704x1024, .bf16⟩
  | .hbm, ⟨4, _⟩ => ⟨S1x1024x1408, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4x1024x1408, .bf16⟩
  | .hbm, ⟨9, _⟩ => ⟨S1x704x1024, .bf16⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x704x1024, .bf16⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Proof.Pieces.lean ====
/-
  What a buffer holds after stores to some of its parts, read at one index: the newest store there decides.
-/
module

public import Idealize.ShloMosaic.Lib.Pipeline.FrameBody
public import Idealize.ShloMosaic.Lib.Pipeline.ReadBack
public import Idealize.ShloMosaic.Lib.WritesUnit
public import Idealize.ShloMosaic.Lib.Pointwise

@[expose] public section

noncomputable section

namespace Cert.Pieces

open Idealize.ShloMosaic

variable {s : Shape} {e : EltTy} {Val : EltTy → Type} [∀ e, Nonempty (Val e)]

/-- An index inside the newest store reads what was stored there. -/
theorem canon_hit {off size : Fin s.rank → ℕ} (inb : ∀ a, off a + size a ≤ s.size a)
    (w : (Rect.unit off size inb).shape.Idx → Val e) (L : List (View.Piece Val s e)) (i : s.Idx)
    (x : (Rect.unit off size inb).shape.Idx) (h : ∀ a, (i a).val = off a + (x a).val := by intro a; fin_cases a <;> simp) :
    View.canon (⟨Rect.unit off size inb, w⟩ :: L) i = w x := by
  have hi : (Rect.unit off size inb).emb x = i := by
    funext a
    refine Fin.ext (Eq.trans ?_ (h a).symm)
    simp [Rect.emb, Rect.unit]
  rw [← hi]
  exact View.canon_cons_emb _ w L x

/-- An index that some axis puts outside the newest store reads what the earlier stores left. -/
theorem canon_miss {off size : Fin s.rank → ℕ} (inb : ∀ a, off a + size a ≤ s.size a)
    (w : (Rect.unit off size inb).shape.Idx → Val e) (L : List (View.Piece Val s e)) (i : s.Idx)
    (a : Fin s.rank) (h : (i a).val < off a ∨ off a + size a ≤ (i a).val) :
    View.canon (⟨Rect.unit off size inb, w⟩ :: L) i = View.canon L i := by
  refine View.canon_cons_of_not_mem _ L fun hm => ?_
  have hm' : ∀ a, off a ≤ (i a).val ∧ (i a).val < off a + size a := (Rect.mem_set_unit (inb := inb)).mp hm
  have := hm' a
  omega

/-- The same in a matrix, where the row misses. -/
theorem canon_miss_row {R C : ℕ} {off size : Fin 2 → ℕ} (inb : ∀ a, off a + size a ≤ (Shape.mk 2 ![R, C]).size a)
    (w : (Rect.unit (s := Shape.mk 2 ![R, C]) off size inb).shape.Idx → Val e)
    (L : List (View.Piece Val (Shape.mk 2 ![R, C]) e)) (r : Fin R) (k : Fin C)
    (h : r.val < off 0 ∨ off 0 + size 0 ≤ r.val) :
    View.canon (⟨Rect.unit (s := Shape.mk 2 ![R, C]) off size inb, w⟩ :: L) (ix2 r k) = View.canon L (ix2 r k) :=
  canon_miss inb w L (ix2 r k) (0 : Fin 2) h

/-- The same in a matrix, where the column misses. -/
theorem canon_miss_col {R C : ℕ} {off size : Fin 2 → ℕ} (inb : ∀ a, off a + size a ≤ (Shape.mk 2 ![R, C]).size a)
    (w : (Rect.unit (s := Shape.mk 2 ![R, C]) off size inb).shape.Idx → Val e)
    (L : List (View.Piece Val (Shape.mk 2 ![R, C]) e)) (r : Fin R) (k : Fin C)
    (h : k.val < off 1 ∨ off 1 + size 1 ≤ k.val) :
    View.canon (⟨Rect.unit (s := Shape.mk 2 ![R, C]) off size inb, w⟩ :: L) (ix2 r k) = View.canon L (ix2 r k) :=
  canon_miss inb w L (ix2 r k) (1 : Fin 2) h

/-- The same in a stack of matrices, where the row misses. -/
theorem canon_miss_mid {A R C : ℕ} {off size : Fin 3 → ℕ}
    (inb : ∀ a, off a + size a ≤ (Shape.mk 3 ![A, R, C]).size a)
    (w : (Rect.unit (s := Shape.mk 3 ![A, R, C]) off size inb).shape.Idx → Val e)
    (L : List (View.Piece Val (Shape.mk 3 ![A, R, C]) e)) (b : Fin A) (r : Fin R) (k : Fin C)
    (h : r.val < off 1 ∨ off 1 + size 1 ≤ r.val) :
    View.canon (⟨Rect.unit (s := Shape.mk 3 ![A, R, C]) off size inb, w⟩ :: L) (ix3 b r k) = View.canon L (ix3 b r k) :=
  canon_miss inb w L (ix3 b r k) (1 : Fin 3) h

/-- A matrix stored in bands of columns: it holds `G` at an index if the newest band does, and, outside that band,
    what the earlier stores left does. -/
theorem canon_cols {R C W n : ℕ} (inb : ∀ a, (![0, n] : Fin 2 → ℕ) a + (![R, W] : Fin 2 → ℕ) a ≤ (Shape.mk 2 ![R, C]).size a)
    (w : (Rect.unit (s := Shape.mk 2 ![R, C]) ![0, n] ![R, W] inb).shape.Idx → Val e)
    (L : List (View.Piece Val (Shape.mk 2 ![R, C]) e)) (r : Fin R) (k : Fin C) (G : Fin C → Val e)
    (hw : ∀ (x : Fin W) (h : n + x.val < C), w (ix2 r x) = G ⟨n + x.val, h⟩)
    (hL : k.val < n ∨ n + W ≤ k.val → View.canon L (ix2 r k) = G k) :
    View.canon (⟨Rect.unit (s := Shape.mk 2 ![R, C]) ![0, n] ![R, W] inb, w⟩ :: L) (ix2 r k) = G k := by
  by_cases h : k.val < n ∨ n + W ≤ k.val
  · exact (canon_miss_col inb w L r k h).trans (hL h)
  · have hk := k.isLt
    have e : (⟨n + (k.val - n), by omega⟩ : Fin C) = k := Fin.ext (by simp only; omega)
    refine (canon_hit inb w L (ix2 r k) (ix2 r ⟨k.val - n, by omega⟩) ?_).trans ((hw _ (by simp only; omega)).trans (congrArg G e))
    intro a
    fin_cases a <;> simp; omega

/-- The same for a stack of matrices stored one matrix at a time. -/
theorem canon_stack {A R C n : ℕ} (inb : ∀ a, (![n, 0, 0] : Fin 3 → ℕ) a + (![1, R, C] : Fin 3 → ℕ) a ≤ (Shape.mk 3 ![A, R, C]).size a)
    (w : (Rect.unit (s := Shape.mk 3 ![A, R, C]) ![n, 0, 0] ![1, R, C] inb).shape.Idx → Val e)
    (L : List (View.Piece Val (Shape.mk 3 ![A, R, C]) e)) (b : Fin A) (r : Fin R) (k : Fin C) (G : Fin A → Val e)
    (hw : ∀ h : n < A, w (ix3 0 r k) = G ⟨n, h⟩)
    (hL : b.val ≠ n → View.canon L (ix3 b r k) = G b) :
    View.canon (⟨Rect.unit (s := Shape.mk 3 ![A, R, C]) ![n, 0, 0] ![1, R, C] inb, w⟩ :: L) (ix3 b r k) = G b := by
  by_cases h : b.val = n
  · subst h
    refine (canon_hit inb w L (ix3 b r k) (ix3 0 r k) ?_).trans (hw b.isLt)
    intro a
    fin_cases a <;> simp
  · exact (canon_miss inb w L (ix3 b r k) (0 : Fin 3) (show b.val < n ∨ n + 1 ≤ b.val by omega)).trans (hL h)

end Cert.Pieces

end
-- ==== Proof.Loads.lean ====
/-
  A load of a whole buffer reads the buffer, and where an element of a grid point's block lies in the array.
-/
module

public import Idealize.ShloMosaic.Lib.Pipeline.Value
public import Idealize.ShloMosaic.Lib.Pipeline.ReadBack

@[expose] public section

noncomputable section

namespace Cert.Loads

open Idealize.ShloMosaic

variable {Val : EltTy → Type} {e : EltTy} {A R C : ℕ}

theorem mat (inb : ∀ a, (![0, 0] : Fin 2 → ℕ) a + (![R, C] : Fin 2 → ℕ) a ≤ (Shape.mk 2 ![R, C]).size a)
    (X : (Shape.mk 2 ![R, C]).Idx → Val e) :
    View.ld (Val := Val) (e' := e) X (Rect.unit (s := Shape.mk 2 ![R, C]) ![0, 0] ![R, C] inb) = X :=
  View.ld_unit_zero (S := Shape.mk 2 ![R, C]) (by funext a; fin_cases a <;> rfl) inb X

theorem cube (inb : ∀ a, (![0, 0, 0] : Fin 3 → ℕ) a + (![A, R, C] : Fin 3 → ℕ) a ≤ (Shape.mk 3 ![A, R, C]).size a)
    (X : (Shape.mk 3 ![A, R, C]).Idx → Val e) :
    View.ld (Val := Val) (e' := e) X (Rect.unit (s := Shape.mk 3 ![A, R, C]) ![0, 0, 0] ![A, R, C] inb) = X :=
  View.ld_unit_zero (S := Shape.mk 3 ![A, R, C]) (by funext a; fin_cases a <;> rfl) inb X

end Cert.Loads

namespace Cert

open Idealize.ShloMosaic

/-- An element of a window's block lies in the array at the block's place on each axis plus its own. -/
theorem emb_eq {sig : RefSig} {G : Pipeline.Grid} {w : Pipeline.Window sig G} {t : Fin G.N} {i} (h : w.index t = i)
    {y : (w.xblock (G.coords t)).Idx} {z} (hz : ∀ a, i a * w.size a + (y a : ℕ) = z a := by intro a; fin_cases a <;> simp)
    (hk : w.kind = .blocked := by first | rfl | decide) : (w.rect t).emb y = z := by
  funext a
  exact Fin.ext ((w.rect_emb_val t y a hk).trans (h ▸ hz a))

/-- The same where the index map is read off the grid point. -/
theorem emb_at {sig : RefSig} {G : Pipeline.Grid} {w : Pipeline.Window sig G} (i : Fin G.N → Fin w.shape.rank → ℕ) {t : Fin G.N}
    {y : (w.xblock (G.coords t)).Idx} {z} (hz : ∀ a, i t a * w.size a + (y a : ℕ) = z a := by intro a; fin_cases a <;> simp)
    (h : ∀ t, w.index t = i t := by decide +kernel)
    (hk : w.kind = .blocked := by first | rfl | decide) : (w.rect t).emb y = z :=
  emb_eq (h t) hz hk

end Cert

end
-- ==== Proof.RowSum.lean ====
/-
  A sum over the rows of an array, grown one block of rows at a time.
-/
module

public import Mathlib.Algebra.BigOperators.Fin
public import Mathlib.Data.EReal.Operations

@[expose] public section

noncomputable section

namespace Cert.RowSum

variable {M : Type*} [AddCommMonoid M] {N : ℕ}

/-- The sum of `f` over the rows below `n`. -/
def below (f : Fin N → M) (n : ℕ) : M := ∑ i ∈ Finset.univ.filter (fun i : Fin N => i.val < n), f i

theorem below_zero (f : Fin N → M) : below f 0 = 0 := by
  simp [below]

theorem below_all (f : Fin N → M) : below f N = ∑ i, f i := by
  simp [below]

/-- Row `r` of the `B` rows from `n` on. -/
def from_ (n B : ℕ) (h : n + B ≤ N) (r : Fin B) : Fin N := ⟨n + r.val, by omega⟩

theorem from_injective (n B : ℕ) (h : n + B ≤ N) : Function.Injective (from_ n B h : Fin B → Fin N) := fun a b hab => by
  have := congrArg Fin.val hab
  simp only [from_] at this
  exact Fin.ext (by omega)

/-- `B` more rows add their own sum. -/
theorem below_add (f : Fin N → M) (n B : ℕ) (h : n + B ≤ N) :
    below f (n + B) = below f n + ∑ r : Fin B, f ⟨n + r.val, by omega⟩ := by
  have hd : Finset.univ.filter (fun i : Fin N => i.val < n + B)
      = Finset.univ.filter (fun i : Fin N => i.val < n) ∪ Finset.univ.image (from_ n B h) := by
    ext i
    simp only [Finset.mem_filter, Finset.mem_univ, true_and, Finset.mem_union, Finset.mem_image]
    constructor
    · intro hi
      by_cases hn : i.val < n
      · exact Or.inl hn
      · exact Or.inr ⟨⟨i.val - n, by omega⟩, Fin.ext (by simp only [from_]; omega)⟩
    · rintro (hi | ⟨r, rfl⟩)
      · omega
      · simp only [from_]; omega
  have hdis : Disjoint (Finset.univ.filter (fun i : Fin N => i.val < n)) (Finset.univ.image (from_ n B h)) := by
    rw [Finset.disjoint_left]
    intro i hi hm
    simp only [Finset.mem_filter, Finset.mem_univ, true_and] at hi
    simp only [Finset.mem_image, Finset.mem_univ, true_and] at hm
    obtain ⟨r, rfl⟩ := hm
    simp only [from_] at hi
    omega
  unfold below
  rw [hd, Finset.sum_union hdis, Finset.sum_image fun a _ b _ hab => from_injective n B h hab]
  rfl

end Cert.RowSum

end
-- ==== Proof.Sigmoid.lean ====
/-
  Two ways to write the sigmoid, from a hyperbolic tangent and from an exponential, and that they agree on every
  extended real.
-/
module

public import Idealize.ShloMosaic.PureOps.Ideal.Laws
public import Idealize.ShloMosaic.Lib.IdealHost

@[expose] public section

noncomputable section

namespace Cert.Sigmoid

open Idealize.ShloMosaic

/-- The bits of one half. -/
theorem half_eq : Ideal.ofBits .f32 0x3F000000#32 = ((1 / 2 : ℝ) : EReal) := by
  simp [Ideal.ofBits, Ideal.ieee, -EReal.coe_mul]; norm_num

/-- The sigmoid from a hyperbolic tangent. -/
def sig (x : EReal) : EReal :=
  Ideal.ofBits .f32 0x3F000000#32 * Ideal.tanh (Ideal.ofBits .f32 0x3F000000#32 * x) + Ideal.ofBits .f32 0x3F000000#32

/-- On the reals, half of one plus the hyperbolic tangent of half the argument is the sigmoid. -/
theorem tanh_half (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add, add_neg_cancel, Real.exp_zero]
  rw [Real.tanh_eq_sinh_div_cosh, Real.sinh_eq, Real.cosh_eq, h1]
  set a := Real.exp (1 / 2 * r) with ha
  set b := Real.exp (-(1 / 2 * r)) with hb
  have pa : 0 < a := Real.exp_pos _
  have pb : 0 < b := Real.exp_pos _
  have hab : a + b ≠ 0 := by positivity
  have hbb : 1 + b * b ≠ 0 := by positivity
  field_simp
  nlinarith [h2]

/-- The two sigmoids agree, at the two infinities too. -/
theorem sig_eq (x : EReal) : sig x = Ideal.logistic x := by
  unfold sig
  rw [half_eq]
  induction x with
  | bot =>
    rw [EReal.coe_mul_bot_of_pos (by norm_num), Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← EReal.coe_mul, ← EReal.coe_add, tanh_half]

/-- The sigmoid as a quotient. -/
theorem div_eq_sig (x : EReal) : Ideal.div 1 (1 + Ideal.exp (-x)) = sig x := (sig_eq x).symm

end Cert.Sigmoid

end
-- ==== Proof.GateSpec.lean ====
/-
  The gradients of the gated merge, as functions of the arrays: `dy` the cotangent, `w` the output projection, `lg` the
  gate's logits, `b` their bias, `u` and `v` the two merged branches.
-/
module

public import Idealize.ShloMosaic.Lib.Pointwise
public import proofs.«01_k».proof.Proof.Sigmoid

@[expose] public section

noncomputable section

namespace Cert.Gate

open Idealize.ShloMosaic

open Cert.Sigmoid

variable (dy : (Shape.mk 2 ![4096, 1024]).Idx → EReal) (w : (Shape.mk 2 ![1024, 1024]).Idx → EReal)
  (lg : (Shape.mk 2 ![4096, 2048]).Idx → EReal) (b : (Shape.mk 1 ![2048]).Idx → EReal)
  (u v : (Shape.mk 2 ![4096, 1024]).Idx → EReal)

/-- The gate at a row and a column of the logits. -/
def gate (i : Fin 4096) (j : Fin 2048) : EReal := sig (lg (ix2 i j) + b (ix1 j))

/-- The gradient of the merged rows: the cotangent times the projection, transposed. -/
def dmerged (i : Fin 4096) (l : Fin 1024) : EReal := ∑ x : Fin 1024, dy (ix2 i x) * w (ix2 l x)

/-- The gradient of the first branch. -/
def dfst (i : Fin 4096) (l : Fin 1024) : EReal := dmerged dy w i l * gate lg b i ⟨l.val, by omega⟩

/-- The gradient of the second branch. -/
def dsnd (i : Fin 4096) (l : Fin 1024) : EReal := dmerged dy w i l * gate lg b i ⟨1024 + l.val, by omega⟩

/-- The gradient of the logits: the first half of the columns gates the first branch, the second half the second. -/
def dlogit (i : Fin 4096) (j : Fin 2048) : EReal :=
  if h : j.val < 1024 then
    dmerged dy w i ⟨j.val, h⟩ * u (ix2 i ⟨j.val, h⟩) * gate lg b i j * (1 - gate lg b i j)
  else
    dmerged dy w i ⟨j.val - 1024, by omega⟩ * v (ix2 i ⟨j.val - 1024, by omega⟩) * gate lg b i j * (1 - gate lg b i j)

/-- The gradient of the bias: a column sum. -/
def dbias (j : Fin 2048) : EReal := ∑ i : Fin 4096, dlogit dy w lg b u v i j

/-! ## The merge itself -/

/-- A branch's projection: `o` the rows, `w` the projection. -/
def proj (o : (Shape.mk 2 ![4096, 1024]).Idx → EReal) (i : Fin 4096) (l : Fin 1024) : EReal :=
  ∑ x : Fin 1024, o (ix2 i x) * w (ix2 x l)

/-- The merge of the branch `u` and of the projected one, each times its half of the gates. -/
def merged (o : (Shape.mk 2 ![4096, 1024]).Idx → EReal) (i : Fin 4096) (l : Fin 1024) : EReal :=
  gate lg b i ⟨l.val, by omega⟩ * u (ix2 i l) + gate lg b i ⟨1024 + l.val, by omega⟩ * proj w o i l

end Cert.Gate

end
-- ==== Proof.GateKernel.lean ====
/-
  What the kernel of the gated merge's gradient leaves in its four result arrays.
-/
module

public import Idealize.ShloMosaic.Lib.Pipeline.ValueKit.Geometry
public import proofs.«01_k».proof.Proof.Gen.KernelGateIdeal.Value
public import proofs.«01_k».proof.Proof.Pieces
public import proofs.«01_k».proof.Proof.Loads
public import proofs.«01_k».proof.Proof.RowSum
public import proofs.«01_k».proof.Proof.GateSpec

@[expose] public section

set_option maxRecDepth 16384

noncomputable section

namespace Cert.GateKernel

open Cert.KernelGateIdeal Cert.KernelGateIdeal.Gen Idealize.ShloMosaic Idealize.ShloMosaic.TcCoe Idealize.SL.Sem
open Idealize.ShloMosaic.Pipeline (Dat)
open Cert.Gate

variable (m : (ℓ : Loc nD τ sig) → Buf (Elt Ideal) ℓ)

/-! ## The arguments, and the blocks the grid points read of them -/

abbrev dy (c : Dev nD) : S4096x1024.Idx → EReal := m ((c : Thread nD τ).loc main_arg0)
abbrev w (c : Dev nD) : S1024x1024.Idx → EReal := m ((c : Thread nD τ).loc main_arg1)
abbrev lg (c : Dev nD) : S4096x2048.Idx → EReal := m ((c : Thread nD τ).loc main_arg2)
abbrev b (c : Dev nD) : S2048.Idx → EReal := m ((c : Thread nD τ).loc main_arg3)
abbrev u (c : Dev nD) : S4096x1024.Idx → EReal := m ((c : Thread nD τ).loc main_arg4)
abbrev v (c : Dev nD) : S4096x1024.Idx → EReal := m ((c : Thread nD τ).loc main_arg5)

theorem V_w (c : Dev nD) (j : S1024x1024.Idx) : V m c main_v0 j = w m c j := by
  unfold V hostOps0
  after_results_simp
  rfl

theorem V_lg (c : Dev nD) (j : S4096x2048.Idx) : V m c main_v1 j = lg m c j := by
  unfold V hostOps0
  after_results_simp
  rfl

theorem V_u (c : Dev nD) (j : S4096x1024.Idx) : V m c main_v2 j = u m c j := by
  unfold V hostOps0
  after_results_simp
  rfl

theorem V_v (c : Dev nD) (j : S4096x1024.Idx) : V m c main_v3 j = v m c j := by
  unfold V hostOps0
  after_results_simp
  rfl

theorem V_b (c : Dev nD) (j : Fin 2048) : V m c main_v4 (ix2 0 j) = b m c (ix1 j) := by
  unfold V hostOps0
  after_results_simp
  pointwise

/-- Row `r` of point `t`'s blocks of 512 rows. -/
def row (t : Fin cfg0.N) (r : Fin 512) : Fin 4096 := ⟨512 * t.val + r.val, by have : t.val < 8 := t.isLt; omega⟩

theorem emb6 (t : Fin cfg0.N) (r : Fin 512) (k : Fin 1024) : (win0_6.rect t).emb (ix2 r k) = ix2 (row t r) k :=
  emb_at (fun t => ![t.val, 0]) (by intro a; fin_cases a <;> simp [row] <;> omega)

theorem emb7 (t : Fin cfg0.N) (r : Fin 512) (k : Fin 1024) : (win0_7.rect t).emb (ix2 r k) = ix2 (row t r) k :=
  emb_at (fun t => ![t.val, 0]) (by intro a; fin_cases a <;> simp [row] <;> omega)

theorem emb8 (t : Fin cfg0.N) (r : Fin 512) (k : Fin 2048) : (win0_8.rect t).emb (ix2 r k) = ix2 (row t r) k :=
  emb_at (fun t => ![t.val, 0]) (by intro a; fin_cases a <;> simp [row] <;> omega)

theorem emb9 (t : Fin cfg0.N) (k : Fin 2048) : (win0_9.rect t).emb (ix2 0 k) = ix2 0 k :=
  emb_at (fun t => ![0, 0])

theorem blk0 (c : Dev nD) (t : Fin cfg0.N) (r : Fin 512) (k : Fin 1024) :
    iblk m c 0 t (ix2 r k) = dy m c (ix2 (row t r) k) :=
  (congrArg (V m c main_arg0) (emb_at (fun t => ![t.val, 0]) (by intro a; fin_cases a <;> simp [row] <;> omega))).trans (congrFun (V_main_arg0 m c) _)

theorem blk1 (c : Dev nD) (t : Fin cfg0.N) (r k : Fin 1024) : iblk m c 1 t (ix2 r k) = w m c (ix2 r k) :=
  (congrArg (V m c main_v0) (emb_at (fun t => ![0, 0]))).trans (V_w m c _)

theorem blk2 (c : Dev nD) (t : Fin cfg0.N) (r : Fin 512) (k : Fin 2048) :
    iblk m c 2 t (ix2 r k) = lg m c (ix2 (row t r) k) :=
  (congrArg (V m c main_v1) (emb_at (fun t => ![t.val, 0]) (by intro a; fin_cases a <;> simp [row] <;> omega))).trans (V_lg m c _)

theorem blk3 (c : Dev nD) (t : Fin cfg0.N) (k : Fin 2048) : iblk m c 3 t (ix2 0 k) = b m c (ix1 k) :=
  (congrArg (V m c main_v4) (emb_at (fun t => ![0, 0]))).trans (V_b m c k)

theorem blk4 (c : Dev nD) (t : Fin cfg0.N) (r : Fin 512) (k : Fin 1024) :
    iblk m c 4 t (ix2 r k) = u m c (ix2 (row t r) k) :=
  (congrArg (V m c main_v2) (emb_at (fun t => ![t.val, 0]) (by intro a; fin_cases a <;> simp [row] <;> omega))).trans (V_u m c _)

theorem blk5 (c : Dev nD) (t : Fin cfg0.N) (r : Fin 512) (k : Fin 1024) :
    iblk m c 5 t (ix2 r k) = v m c (ix2 (row t r) k) :=
  (congrArg (V m c main_v3) (emb_at (fun t => ![t.val, 0]) (by intro a; fin_cases a <;> simp [row] <;> omega))).trans (V_v m c _)

/-! ## What a grid point writes back -/

theorem flushed6 (c : Dev nD) (t : Fin cfg0.N) (r : Fin 512) (l : Fin 1024) :
    ((dats m 0 c).flushed 6 t (ix2 r l) : EReal) = dfst (dy m c) (w m c) (lg m c) (b m c) (row t r) l := by
  by_cases h0 : t.val % 8 = 0
  · rw [Cert.KernelGateIdeal.Value.flushed6_A m c t h0]
    unfold out0_A_6 kernelRun0_A
    dsimp only
    sl_unfold_words
    simp only [View.readAt_eq_ld, Memref.IsWhole.read_unread]
    rw [View.read_writes_junk_eq_canon]
    refine (Cert.Pieces.canon_hit _ _ _ (ix2 r l) (ix2 r l)).trans ?_
    pointwise [k0_pay3, k0_pay4, k0_pay6, k0_pay7]
    simp only [blk0, blk1, blk2, blk3]
    rfl
  · rw [Cert.KernelGateIdeal.Value.flushed6_B m c t h0]
    unfold out0_B_6 kernelRun0_B
    dsimp only
    sl_unfold_words
    simp only [View.readAt_eq_ld, Memref.IsWhole.read_unread]
    rw [View.read_writes_junk_eq_canon]
    refine (Cert.Pieces.canon_hit _ _ _ (ix2 r l) (ix2 r l)).trans ?_
    pointwise [k0_pay3, k0_pay4, k0_pay6, k0_pay7]
    simp only [blk0, blk1, blk2, blk3]
    rfl

theorem flushed7 (c : Dev nD) (t : Fin cfg0.N) (r : Fin 512) (l : Fin 1024) :
    ((dats m 0 c).flushed 7 t (ix2 r l) : EReal) = dsnd (dy m c) (w m c) (lg m c) (b m c) (row t r) l := by
  by_cases h0 : t.val % 8 = 0
  · rw [Cert.KernelGateIdeal.Value.flushed7_A m c t h0]
    unfold out0_A_7 kernelRun0_A
    dsimp only
    sl_unfold_words
    simp only [View.readAt_eq_ld, Memref.IsWhole.read_unread]
    rw [View.read_writes_junk_eq_canon]
    refine (Cert.Pieces.canon_hit _ _ _ (ix2 r l) (ix2 r l)).trans ?_
    pointwise [k0_pay3, k0_pay5, k0_pay8]
    simp only [blk0, blk1, blk2, blk3]
    rfl
  · rw [Cert.KernelGateIdeal.Value.flushed7_B m c t h0]
    unfold out0_B_7 kernelRun0_B
    dsimp only
    sl_unfold_words
    simp only [View.readAt_eq_ld, Memref.IsWhole.read_unread]
    rw [View.read_writes_junk_eq_canon]
    refine (Cert.Pieces.canon_hit _ _ _ (ix2 r l) (ix2 r l)).trans ?_
    pointwise [k0_pay3, k0_pay5, k0_pay8]
    simp only [blk0, blk1, blk2, blk3]
    rfl

theorem flushed8 (c : Dev nD) (t : Fin cfg0.N) (r : Fin 512) (j : Fin 2048) :
    ((dats m 0 c).flushed 8 t (ix2 r j) : EReal)
      = dlogit (dy m c) (w m c) (lg m c) (b m c) (u m c) (v m c) (row t r) j := by
  by_cases h0 : t.val % 8 = 0
  · rw [Cert.KernelGateIdeal.Value.flushed8_A m c t h0]
    unfold out0_A_8 kernelRun0_A
    dsimp only
    sl_unfold_words
    simp only [View.readAt_eq_ld, Memref.IsWhole.read_unread]
    rw [View.read_writes_junk_eq_canon]
    by_cases hj : j.val < 1024
    · refine (Cert.Pieces.canon_miss _ _ _ (ix2 r j) 1 (Or.inl hj)).trans ?_
      refine (Cert.Pieces.canon_hit _ _ _ (ix2 r j) (ix2 r ⟨j.val, hj⟩)).trans ?_
      pointwise [k0_pay3, k0_pay4, k0_pay9, k0_pay11]
      simp only [blk0, blk1, blk2, blk3, blk4]
      rw [dlogit, dif_pos hj]
      rfl
    · refine (Cert.Pieces.canon_hit _ _ _ (ix2 r j) (ix2 r ⟨j.val - 1024, by omega⟩)
        (by intro a; fin_cases a <;> simp; omega)).trans ?_
      pointwise [k0_pay3, k0_pay5, k0_pay10, k0_pay12]
      simp only [blk0, blk1, blk2, blk3, blk5]
      rw [dlogit, dif_neg hj]
      have e : (⟨1024 + (j.val - 1024), by omega⟩ : Fin 2048) = j := Fin.ext (by simp only; omega)
      simp only [e]
      rfl
  · rw [Cert.KernelGateIdeal.Value.flushed8_B m c t h0]
    unfold out0_B_8 kernelRun0_B
    dsimp only
    sl_unfold_words
    simp only [View.readAt_eq_ld, Memref.IsWhole.read_unread]
    rw [View.read_writes_junk_eq_canon]
    by_cases hj : j.val < 1024
    · refine (Cert.Pieces.canon_miss _ _ _ (ix2 r j) 1 (Or.inl hj)).trans ?_
      refine (Cert.Pieces.canon_hit _ _ _ (ix2 r j) (ix2 r ⟨j.val, hj⟩)).trans ?_
      pointwise [k0_pay3, k0_pay4, k0_pay9, k0_pay11]
      simp only [blk0, blk1, blk2, blk3, blk4]
      rw [dlogit, dif_pos hj]
      rfl
    · refine (Cert.Pieces.canon_hit _ _ _ (ix2 r j) (ix2 r ⟨j.val - 1024, by omega⟩)
        (by intro a; fin_cases a <;> simp; omega)).trans ?_
      pointwise [k0_pay3, k0_pay5, k0_pay10, k0_pay12]
      simp only [blk0, blk1, blk2, blk3, blk5]
      rw [dlogit, dif_neg hj]
      have e : (⟨1024 + (j.val - 1024), by omega⟩ : Fin 2048) = j := Fin.ext (by simp only; omega)
      simp only [e]
      rfl

/-- At the first point the bias's column sums start from the zero that was just stored. -/
theorem outs9_A (c : Dev nD) (t : Fin cfg0.N) (h0 : t.val % 8 = 0) (j : Fin 2048) :
    ((outsAt0 m c t.val t.isLt).2.2.2 (ix2 0 j) : EReal)
      = ∑ r : Fin 512, dlogit (dy m c) (w m c) (lg m c) (b m c) (u m c) (v m c) (row t r) j := by
  simp only [outsAt0_A m c t h0]
  unfold out0_A_9 kernelRun0_A
  dsimp only
  sl_unfold_words
  simp only [View.readAt_eq_ld, Memref.IsWhole.read_unread, View.readCov_eq_canon']
  rw [View.read_writes_junk_eq_canon]
  have hz (L : List (View.Piece (Elt Ideal) S1x2048 .f32)) :
      View.canon (⟨Rect.unit ![0, 0] ![1, 2048] inb_S1x2048_S1x2048_0_0, k0_pay2 (F := Ideal)⟩ :: L) (ix2 0 j) = (0 : EReal) := by
    refine (Cert.Pieces.canon_hit _ _ L (ix2 0 j) (ix2 0 j)).trans ?_
    pointwise [k0_pay2]
  by_cases hj : j.val < 1024
  · refine (Cert.Pieces.canon_miss _ _ _ (ix2 0 j) 1 (Or.inl hj)).trans ?_
    refine (Cert.Pieces.canon_hit _ _ _ (ix2 0 j) (ix2 0 ⟨j.val, hj⟩)).trans ?_
    pointwise [k0_pay3, k0_pay4, k0_pay9, k0_pay13]
    simp only [blk0, blk1, blk2, blk3, blk4, dlogit, dif_pos hj]
    rw [hz, zero_add]
    rfl
  · refine (Cert.Pieces.canon_hit _ _ _ (ix2 0 j) (ix2 0 ⟨j.val - 1024, by omega⟩)
      (by intro a; fin_cases a <;> simp; omega)).trans ?_
    have e : (⟨1024 + (j.val - 1024), by omega⟩ : Fin 2048) = j := Fin.ext (by simp only; omega)
    pointwise [k0_pay3, k0_pay5, k0_pay10, k0_pay1, k0_pay14]
    simp only [blk0, blk1, blk2, blk3, blk5, dlogit, dif_neg hj, e]
    rw [Cert.Pieces.canon_miss _ _ _ (ix2 0 j) 1 (Or.inr ?_), hz, zero_add]
    · rfl
    · simp; omega

/-- At every later point they grow by the point's rows. -/
theorem outs9_B (c : Dev nD) (t : Fin cfg0.N) (h0 : ¬t.val % 8 = 0) (j : Fin 2048) :
    ((outsAt0 m c t.val t.isLt).2.2.2 (ix2 0 j) : EReal)
      = (outsAt0 m c (t.val - 1) (Nat.lt_of_le_of_lt (Nat.sub_le _ _) t.isLt)).2.2.2 (ix2 0 j)
        + ∑ r : Fin 512, dlogit (dy m c) (w m c) (lg m c) (b m c) (u m c) (v m c) (row t r) j := by
  simp only [outsAt0_B m c t h0]
  unfold out0_B_9 kernelRun0_B
  dsimp only
  sl_unfold_words
  simp only [View.readAt_eq_ld, Memref.IsWhole.read_unread]
  rw [View.read_writes_junk_eq_canon]
  by_cases hj : j.val < 1024
  · refine (Cert.Pieces.canon_miss _ _ _ (ix2 0 j) 1 (Or.inl hj)).trans ?_
    refine (Cert.Pieces.canon_hit _ _ _ (ix2 0 j) (ix2 0 ⟨j.val, hj⟩)).trans ?_
    pointwise [k0_pay3, k0_pay4, k0_pay9, k0_pay13]
    simp only [blk0, blk1, blk2, blk3, blk4, dlogit, dif_pos hj]
    rfl
  · refine (Cert.Pieces.canon_hit _ _ _ (ix2 0 j) (ix2 0 ⟨j.val - 1024, by omega⟩)
      (by intro a; fin_cases a <;> simp; omega)).trans ?_
    have e : (⟨1024 + (j.val - 1024), by omega⟩ : Fin 2048) = j := Fin.ext (by simp only; omega)
    pointwise [k0_pay3, k0_pay5, k0_pay10, k0_pay1, k0_pay14]
    simp only [blk0, blk1, blk2, blk3, blk5, dlogit, dif_neg hj, e]
    rfl

/-- After point `n` they are the sums over the rows seen so far. -/
theorem outs9 (c : Dev nD) (j : Fin 2048) : ∀ (n : ℕ) (hn : n < cfg0.N),
    ((outsAt0 m c n hn).2.2.2 (ix2 0 j) : EReal)
      = Cert.RowSum.below (fun i => dlogit (dy m c) (w m c) (lg m c) (b m c) (u m c) (v m c) i j) (512 * n + 512)
  | 0, hn => by
    rw [outs9_A m c ⟨0, hn⟩ rfl j, Cert.RowSum.below_add _ _ _ (by decide), Cert.RowSum.below_zero, zero_add]
    rfl
  | n + 1, hn => by
    have hN : n + 1 < 8 := hn
    rw [outs9_B m c ⟨n + 1, hn⟩ (by simp only; omega) j, Cert.RowSum.below_add _ _ _ (by omega)]
    simp only [Nat.add_sub_cancel]
    rw [outs9 c j n]
    rfl

/-! ## The result arrays -/

theorem final6 (c : Dev nD) : (dats m 0 c).arrAt 6 cfg0.N
    = fun i : S4096x1024.Idx => dfst (dy m c) (w m c) (lg m c) (b m c) (i 0) (i 1) := by
  apply Dat.arrAt_eq_of_cover
  · intro t _
    funext y
    obtain ⟨r, l, rfl⟩ : ∃ (r : Fin 512) (l : Fin 1024), y = ix2 r l := ⟨y 0, y 1, eq_ix2 y⟩
    exact (flushed6 m c t r l).trans
      (congrArg (fun i : S4096x1024.Idx => dfst (dy m c) (w m c) (lg m c) (b m c) (i 0) (i 1)) (emb6 t r l).symm)
  · exact (by decide +kernel : (cfg0.win 6).Covers).cover _ (Memref.isWhole_whole _)

theorem final7 (c : Dev nD) : (dats m 0 c).arrAt 7 cfg0.N
    = fun i : S4096x1024.Idx => dsnd (dy m c) (w m c) (lg m c) (b m c) (i 0) (i 1) := by
  apply Dat.arrAt_eq_of_cover
  · intro t _
    funext y
    obtain ⟨r, l, rfl⟩ : ∃ (r : Fin 512) (l : Fin 1024), y = ix2 r l := ⟨y 0, y 1, eq_ix2 y⟩
    exact (flushed7 m c t r l).trans
      (congrArg (fun i : S4096x1024.Idx => dsnd (dy m c) (w m c) (lg m c) (b m c) (i 0) (i 1)) (emb7 t r l).symm)
  · exact (by decide +kernel : (cfg0.win 7).Covers).cover _ (Memref.isWhole_whole _)

theorem final8 (c : Dev nD) : (dats m 0 c).arrAt 8 cfg0.N
    = fun i : S4096x2048.Idx => dlogit (dy m c) (w m c) (lg m c) (b m c) (u m c) (v m c) (i 0) (i 1) := by
  apply Dat.arrAt_eq_of_cover
  · intro t _
    funext y
    obtain ⟨r, l, rfl⟩ : ∃ (r : Fin 512) (l : Fin 2048), y = ix2 r l := ⟨y 0, y 1, eq_ix2 y⟩
    exact (flushed8 m c t r l).trans
      (congrArg (fun i : S4096x2048.Idx => dlogit (dy m c) (w m c) (lg m c) (b m c) (u m c) (v m c) (i 0) (i 1)) (emb8 t r l).symm)
  · exact (by decide +kernel : (cfg0.win 8).Covers).cover _ (Memref.isWhole_whole _)

theorem final9 (c : Dev nD) : (dats m 0 c).arrAt 9 cfg0.N
    = fun i : S1x2048.Idx => dbias (dy m c) (w m c) (lg m c) (b m c) (u m c) (v m c) (i 1) := by
  apply Dat.arrAt_eq_of_cover
  · intro t hf
    have h7 : t.val % 8 = 7 := (flush0_9 t).mp hf
    have h8 : t.val < 8 := t.isLt
    funext y
    obtain ⟨l, rfl⟩ : ∃ l : Fin 2048, y = ix2 0 l :=
      ⟨y 1, by funext a; fin_cases a; exacts [Fin.ext (Nat.lt_one_iff.mp (y 0).isLt), rfl]⟩
    rw [Cert.KernelGateIdeal.Value.flushed9 m c t]
    refine (outs9 m c l t.val t.isLt).trans ?_
    have e : 512 * t.val + 512 = 4096 := by omega
    rw [e, Cert.RowSum.below_all]
    exact congrArg (fun i : S1x2048.Idx => dbias (dy m c) (w m c) (lg m c) (b m c) (u m c) (v m c) (i 1)) (emb9 t l).symm
  · exact (by decide +kernel : (cfg0.win 9).Covers).cover _ (Memref.isWhole_whole _)

end Cert.GateKernel

end
-- ==== Proof.GateRef.lean ====
/-
  What the reference of the gated merge's gradient computes, element by element.
-/
module

public import proofs.«01_k».proof.Proof.Gen.ReferenceGateIdeal.Read
public import proofs.«01_k».proof.Proof.GateSpec

@[expose] public section

set_option maxRecDepth 16384

noncomputable section

namespace Cert.GateRef

open Cert.ReferenceGateIdeal Cert.ReferenceGateIdeal.Gen Cert.ReferenceGateIdeal.Read
open Idealize.ShloMosaic Idealize.ShloMosaic.TcCoe Idealize.SL.Sem
open Cert.Gate Cert.Sigmoid

variable (dy u v : S4096x1024.Idx → EReal) (w : S1024x1024.Idx → EReal) (lg : S4096x2048.Idx → EReal)
  (b : S2048.Idx → EReal)

/-- The reference's gate, from the exponential. -/
theorem ref_gate (i : Fin 4096) (j : Fin 2048) : val_main_v8 (F := Ideal) lg b (ix2 i j) = gate lg b i j := by
  pointwise [val_main_v8, val_main_v7, val_main_v6, val_main_v5, val_main_v4, val_main_v3, val_main_v2, val_main_v1,
    val_main_v0, val_main_cst, val_main_cst_0]
  exact div_eq_sig _

/-- The reference's gradient of the logits. -/
theorem ref_dlogit (i : Fin 4096) (j : Fin 2048) :
    val_main_v32 (F := Ideal) dy w lg b u v (ix2 i j) = dlogit dy w lg b u v i j := by
  pointwise [val_main_v32, val_main_v31, val_main_v30, val_main_v29, val_main_v28, val_main_v27, val_main_v25,
    val_main_v24, val_main_v23, val_main_v21, val_main_v11, val_main_v10, val_main_v9, val_main_cst_1,
    val_main_cst_2, val_main_cst_3]
  simp only [ref_gate]
  have hj := j.isLt
  by_cases h : j.val < 1024
  · have h1 : ¬((1 ≤ j.val / 1024 ∧ j.val / 1024 - 1 < 1) ∧ j.val % 1024 < 1024) := by omega
    have h2 : j.val / 1024 < 1 ∧ j.val % 1024 < 1024 := by omega
    have e : j.val % 1024 = j.val := by omega
    simp only [dif_neg h1, dif_pos h2]
    simp only [e, zero_add, dlogit, dif_pos h, dmerged, mul_assoc]
  · have h1 : (1 ≤ j.val / 1024 ∧ j.val / 1024 - 1 < 1) ∧ j.val % 1024 < 1024 := by omega
    have h2 : ¬(j.val / 1024 < 1 ∧ j.val % 1024 < 1024) := by omega
    have e : j.val % 1024 = j.val - 1024 := by omega
    simp only [dif_pos h1, dif_neg h2]
    simp only [e, add_zero, dlogit, dif_neg h, dmerged, mul_assoc]

theorem ref_fst (i : Fin 4096) (l : Fin 1024) : val_main_v36 (F := Ideal) dy w lg b (ix2 i l) = dfst dy w lg b i l := by
  pointwise [val_main_v36, val_main_v26, val_main_v21, val_main_v14, val_main_v13, val_main_v12]
  simp only [ref_gate]
  exact mul_comm _ _

theorem ref_snd (i : Fin 4096) (l : Fin 1024) : val_main_v37 (F := Ideal) dy w lg b (ix2 i l) = dsnd dy w lg b i l := by
  pointwise [val_main_v37, val_main_v22, val_main_v21, val_main_v17, val_main_v16, val_main_v12]
  simp only [ref_gate]
  exact mul_comm _ _

theorem ref_logit (i : Fin 4096) (j : Fin 2048) :
    val_main_v38 (F := Ideal) dy w lg b u v (ix2 i j) = dlogit dy w lg b u v i j := by
  pointwise [val_main_v38]
  exact ref_dlogit dy u v w lg b i j

theorem ref_bias (j : Fin 2048) : val_main_v39 (F := Ideal) dy w lg b u v (ix2 0 j) = dbias dy w lg b u v j := by
  pointwise [val_main_v39, val_main_v35, val_main_v34, val_main_v33, val_main_cst_4, val_main_cst_5]
  simp only [ref_dlogit, Finset.univ_unique, Finset.sum_singleton]
  rfl

end Cert.GateRef

end
-- ==== Proof.GateClaim.lean ====
/-
  The kernel of the gated merge's gradient and its reference leave the same four results.
-/
module

public import proofs.«01_k».proof.Defs
public import proofs.«01_k».proof.Proof.GateKernel
public import proofs.«01_k».proof.Proof.GateRef
public import Idealize.ShloMosaic.Lib.Quiescent

@[expose] public section

set_option maxRecDepth 16384

noncomputable section

namespace Cert.GateClaim

open Idealize.ShloMosaic Idealize.ShloMosaic.TcCoe Idealize.SL.Sem
open Cert.Gate Cert.GateKernel

theorem algebraic : Cert.algebraic_KernelGateIdeal_ReferenceGateIdeal := by
  intro m g m' g' _ hag
  refine ⟨fun c i => dfst (dy m c) (w m c) (lg m c) (b m c) (i 0) (i 1),
    fun c i => dsnd (dy m c) (w m c) (lg m c) (b m c) (i 0) (i 1),
    fun c i => dlogit (dy m c) (w m c) (lg m c) (b m c) (u m c) (v m c) (i 0) (i 1),
    fun c i => dbias (dy m c) (w m c) (lg m c) (b m c) (u m c) (v m c) (i 1), ?_, ?_⟩
  · refine (θ_run Cert.KernelGateIdeal.defs _ _).mono (fun r h c => ?_) (Cert.KernelGateIdeal.Value.run_blocks m g)
    obtain ⟨h6, h7, h8, h9, ha⟩ := h c
    exact ⟨h6.trans (final6 m c), h7.trans (final7 m c), h8.trans (final8 m c), h9.trans (final9 m c), ha⟩
  · refine (θ_run Cert.ReferenceGateIdeal.defs _ _).mono (fun r h c => ?_) (Cert.ReferenceGateIdeal.Value.run m' g')
    obtain ⟨h6, h7, h8, h9, ha⟩ := h c
    obtain ⟨a0, a1, a2, a3, a4, a5⟩ := hag c
    rw [a0, a1, a2, a3] at h6 h7
    rw [a0, a1, a2, a3, a4, a5] at h8 h9
    refine ⟨h6.trans ?_, h7.trans ?_, h8.trans ?_, h9.trans ?_, ha⟩
    · rw [Cert.ReferenceGateIdeal.Read.val_main_v36_eq]
      funext i
      obtain ⟨p, q, rfl⟩ : ∃ (p : Fin 4096) (q : Fin 1024), i = ix2 p q := ⟨i 0, i 1, by funext a; fin_cases a <;> rfl⟩
      exact Cert.GateRef.ref_fst _ _ _ _ p q
    · rw [Cert.ReferenceGateIdeal.Read.val_main_v37_eq]
      funext i
      obtain ⟨p, q, rfl⟩ : ∃ (p : Fin 4096) (q : Fin 1024), i = ix2 p q := ⟨i 0, i 1, by funext a; fin_cases a <;> rfl⟩
      exact Cert.GateRef.ref_snd _ _ _ _ p q
    · rw [Cert.ReferenceGateIdeal.Read.val_main_v38_eq]
      funext i
      obtain ⟨p, q, rfl⟩ : ∃ (p : Fin 4096) (q : Fin 2048), i = ix2 p q := ⟨i 0, i 1, by funext a; fin_cases a <;> rfl⟩
      exact Cert.GateRef.ref_logit _ _ _ _ _ _ p q
    · rw [Cert.ReferenceGateIdeal.Read.val_main_v39_eq]
      funext i
      obtain ⟨q, rfl⟩ : ∃ q : Fin 2048, i = ix2 0 q :=
        ⟨i 1, by funext a; fin_cases a; exacts [Fin.ext (Nat.lt_one_iff.mp (i 0).isLt), rfl]⟩
      exact Cert.GateRef.ref_bias _ _ _ _ _ _ q

/-- The reference runs, leaves its arguments unchanged and has no semaphore. -/
theorem reference_runs : Cert.quiescent_ReferenceGateIdeal := fun m g _ =>
  (θ_run Cert.ReferenceGateIdeal.defs _ _).mono
    (fun r h => ⟨fun c => (h c).2.2.2.2, sem_eq_zero_of_no_sems (by decide) r.2⟩) (Cert.ReferenceGateIdeal.Value.run m g)

end Cert.GateClaim

end
-- ==== Proof.RealLift.lean ====
/-
  Extended reals that are real numbers: sums, quotients and maxima of them.
-/
module

public import Idealize.ShloMosaic.Lib.Pointwise
public import Idealize.ShloMosaic.Lib.WordCmp

@[expose] public section

namespace Cert.RealLift

open Idealize.ShloMosaic

/-- A sum of real numbers, taken among the extended reals. -/
theorem sum_coe {ι : Type*} (t : Finset ι) (f : ι → ℝ) : ∑ x ∈ t, (f x : EReal) = ((∑ x ∈ t, f x : ℝ) : EReal) := by
  classical
  induction t using Finset.induction_on with
  | empty => simp
  | insert a t ha ih => rw [Finset.sum_insert ha, Finset.sum_insert ha, ih, EReal.coe_add]

/-- A quotient of real numbers. -/
theorem div_coe (a : ℝ) {b : ℝ} (h : b ≠ 0) : Ideal.div (a : EReal) (b : EReal) = ((a / b : ℝ) : EReal) := by
  rw [Ideal.div_coe h, ← EReal.coe_mul, mul_one_div]

/-- The logarithm of a positive real number. -/
theorem log_coe {a : ℝ} (h : 0 < a) : Ideal.log (a : EReal) = ((Real.log a : ℝ) : EReal) := by
  rw [Ideal.log_coe, if_neg (not_le.mpr h)]

/-- A largest element is a real number where no element is `⊤` and one of them is not `⊥`. -/
theorem fold_max_real {n : ℕ} (f : Fin n → EReal) (x : Fin n) (hx : f x ≠ ⊥) (hf : ∀ y, f y ≠ ⊤) :
    ∃ M : ℝ, Finset.fold max (⊥ : EReal) f Finset.univ = (M : EReal) := by
  have e : Finset.fold max (⊥ : EReal) f Finset.univ = Finset.univ.sup f := rfl
  have h1 : Finset.univ.sup f ≠ ⊤ :=
    ((Finset.sup_lt_iff bot_lt_top).mpr fun y _ => lt_top_iff_ne_top.mpr (hf y)).ne
  have h2 : Finset.univ.sup f ≠ ⊥ := fun h =>
    hx (le_bot_iff.mp (h ▸ Finset.le_sup (f := f) (Finset.mem_univ x)))
  exact ⟨(Finset.univ.sup f).toReal, by rw [e, EReal.coe_toReal h1 h2]⟩

/-- A largest element is not `⊤` where no element is. -/
theorem fold_max_ne_top {n : ℕ} (f : Fin n → EReal) (hf : ∀ y, f y ≠ ⊤) :
    Finset.fold max (⊥ : EReal) f Finset.univ ≠ ⊤ :=
  ((Finset.sup_lt_iff bot_lt_top).mpr fun y _ => lt_top_iff_ne_top.mpr (hf y)).ne

/-- The larger of a real number and something below `⊤` is a real number. -/
theorem max_real (M : ℝ) (y : EReal) (hy : y ≠ ⊤) : ∃ M' : ℝ, max (M : EReal) y = (M' : EReal) := by
  rcases le_total (M : EReal) y with h | h
  · refine ⟨y.toReal, ?_⟩
    rw [max_eq_right h, EReal.coe_toReal hy]
    rintro rfl
    simp at h
  · exact ⟨M, max_eq_left h⟩

/-- The word of minus infinity. -/
theorem ofBits_neg_inf : Ideal.ofBits FTy.f32 4286578688#32 = (⊥ : EReal) := by
  simp [Ideal.ofBits, Ideal.ieee]

/-- A choice by comparing two small counters. -/
theorem select_ge {n : ℕ} (hn : n ≤ 4096) (r x : Fin n) (a b : EReal) :
    Scalar.select (IntOp.cmpi CmpIPredicate.sge (BitVec.ofNat 32 r.val) (BitVec.ofNat 32 x.val)) a b
      = if x.val ≤ r.val then a else b := by
  have h1 : (BitVec.ofNat 32 r.val).toInt = r.val := by
    have := r.isLt; rw [BitVec.toInt_eq_toNat_of_lt] <;> simp <;> omega
  have h2 : (BitVec.ofNat 32 x.val).toInt = x.val := by
    have := x.isLt; rw [BitVec.toInt_eq_toNat_of_lt] <;> simp <;> omega
  rw [Idealize.ShloMosaic.WordCmp.cmpi_sge_eq, h1, h2]
  by_cases h : x.val ≤ r.val <;> simp [h, Scalar.select]

/-- The same with a number in place of the second counter. -/
theorem select_lt (k n : ℕ) (hk : k < 4096) (hn : n < 4096) (a b : EReal) :
    Scalar.select (IntOp.cmpi CmpIPredicate.slt (BitVec.ofNat 32 k) (BitVec.ofNat 32 n)) a b = if k < n then a else b := by
  have h1 : (BitVec.ofNat 32 k).toInt = k := by rw [BitVec.toInt_eq_toNat_of_lt] <;> simp <;> omega
  have h2 : (BitVec.ofNat 32 n).toInt = n := by rw [BitVec.toInt_eq_toNat_of_lt] <;> simp <;> omega
  rw [Idealize.ShloMosaic.WordCmp.cmpi_slt_eq, h1, h2]
  by_cases h : k < n <;> simp [h, Scalar.select]

end Cert.RealLift
-- ==== Proof.AttnMath.lean ====
/-
  Causal softmax attention of one head over the reals, and what one block of 256 queries of the forward kernel computes.
-/
module

public import proofs.«01_k».proof.Proof.RealLift

@[expose] public section

noncomputable section

namespace Cert.Attn

open Idealize.ShloMosaic Cert.RealLift

/-! ## Over the reals -/

/-- The weights' sum of a query before it is divided out. -/
def Z (s : Fin 2048 → Fin 2048 → ℝ) (i : Fin 2048) : ℝ := ∑ j : Fin 2048, if j ≤ i then Real.exp (s i j) else 0

/-- The softmax of the scores of a query with the keys up to it. -/
def P (s : Fin 2048 → Fin 2048 → ℝ) (i j : Fin 2048) : ℝ := if j ≤ i then Real.exp (s i j) / Z s i else 0

/-- The attention's result. -/
def O (s : Fin 2048 → Fin 2048 → ℝ) (v : Fin 2048 → Fin 128 → ℝ) (i : Fin 2048) (d : Fin 128) : ℝ :=
  ∑ j : Fin 2048, P s i j * v j d

theorem Z_pos (s : Fin 2048 → Fin 2048 → ℝ) (i : Fin 2048) : 0 < Z s i := by
  refine Finset.sum_pos' (fun j _ => ?_) ⟨i, Finset.mem_univ i, ?_⟩
  · split_ifs
    · exact (Real.exp_pos _).le
    · exact le_rfl
  · rw [if_pos le_rfl]; exact Real.exp_pos _

/-- A sum over the keys up to a query, split at the query's block. -/
theorem sum_split (f : Fin 2048 → ℝ) (o : ℕ) (ho : o + 256 ≤ 2048) (r : Fin 256) :
    ∑ j : Fin 2048, (if j ≤ (⟨o + r.val, by omega⟩ : Fin 2048) then f j else 0)
      = ∑ x : Fin 256, (if x.val ≤ r.val then f ⟨o + x.val, by omega⟩ else 0) + ∑ x : Fin o, f ⟨x.val, by omega⟩ := by
  set g : ℕ → ℝ := fun j => if h : j < 2048 then (if j ≤ o + r.val then f ⟨j, h⟩ else 0) else 0 with hg
  have e : ∀ j : Fin 2048, (if j ≤ (⟨o + r.val, by omega⟩ : Fin 2048) then f j else 0) = g j.val := by
    intro j
    simp only [hg, j.isLt, dif_pos, Fin.le_def]
  have e1 : ∀ x : Fin 256, (if x.val ≤ r.val then f ⟨o + x.val, by omega⟩ else 0) = g (o + x.val) := by
    intro x
    have h : o + x.val < 2048 := by omega
    simp only [hg, h, dif_pos, Nat.add_le_add_iff_left]
  have e2 : ∀ x : Fin o, f ⟨x.val, by omega⟩ = g x.val := by
    intro x
    have h : x.val < 2048 := by omega
    have h' : x.val ≤ o + r.val := by omega
    simp only [hg, h, dif_pos, h', if_pos]
  rw [Finset.sum_congr rfl fun j _ => e j, Finset.sum_congr rfl fun x _ => e1 x, Finset.sum_congr rfl fun x _ => e2 x,
    Fin.sum_univ_eq_sum_range g 2048, Fin.sum_univ_eq_sum_range (fun x => g (o + x)) 256, Fin.sum_univ_eq_sum_range g o]
  obtain ⟨k, hk⟩ := Nat.exists_eq_add_of_le ho
  rw [hk, Finset.sum_range_add, Finset.sum_range_add]
  have z : ∑ x ∈ Finset.range k, g (o + 256 + x) = 0 := by
    refine Finset.sum_eq_zero fun x hx => ?_
    have : ¬ o + 256 + x ≤ o + r.val := by omega
    simp only [hg, this, if_false]
    split_ifs <;> rfl
  rw [z, add_zero, add_comm]

/-! ## A block of 256 queries -/

section Block

variable (s : Fin 2048 → Fin 2048 → EReal) (v : Fin 2048 → Fin 128 → EReal) (b : EReal) (o : ℕ) (ho : o + 256 ≤ 2048)
  (r : Fin 256) (d : Fin 128)

/-- The scores of a query with the keys of its own block, the later ones masked. -/
def own (x : Fin 256) : EReal :=
  Scalar.select (IntOp.cmpi CmpIPredicate.sge (BitVec.ofNat 32 r.val) (BitVec.ofNat 32 x.val))
    (s ⟨o + r.val, by omega⟩ ⟨o + x.val, by omega⟩) b

/-- Its scores with the keys before its block. -/
def before (x : Fin o) : EReal := s ⟨o + r.val, by omega⟩ ⟨x.val, by omega⟩

/-- The largest score in the own block. -/
def top0 : EReal := Finset.fold max (Ideal.ofBits FTy.f32 4286578688#32) (own s b o ho r) Finset.univ

/-- The largest score. -/
def top : EReal :=
  max (top0 s b o ho r) (Finset.fold max (Ideal.ofBits FTy.f32 4286578688#32) (before s o ho r) Finset.univ)

def den0 (M : EReal) : EReal := ∑ x, Ideal.exp (own s b o ho r x - M)
def den (M : EReal) : EReal := ∑ x, Ideal.exp (own s b o ho r x - M) + ∑ x, Ideal.exp (before s o ho r x - M)
def num0 (M : EReal) : EReal := ∑ x : Fin 256, Ideal.exp (own s b o ho r x - M) * v ⟨o + x.val, by omega⟩ d
def num (M : EReal) : EReal :=
  ∑ x : Fin 256, Ideal.exp (own s b o ho r x - M) * v ⟨o + x.val, by omega⟩ d
    + ∑ x : Fin o, Ideal.exp (before s o ho r x - M) * v ⟨x.val, by omega⟩ d

end Block

/-- The first block has no keys before it. -/
theorem den_first (s : Fin 2048 → Fin 2048 → EReal) (b : EReal) (ho : 0 + 256 ≤ 2048) (r : Fin 256) (M : EReal) :
    den s b 0 ho r M = den0 s b 0 ho r M := by simp [den, den0]
theorem num_first (s : Fin 2048 → Fin 2048 → EReal) (v : Fin 2048 → Fin 128 → EReal) (b : EReal) (ho : 0 + 256 ≤ 2048)
    (r : Fin 256) (d : Fin 128) (M : EReal) : num s v b 0 ho r d M = num0 s v b 0 ho r d M := by simp [num, num0]

section BlockReal

variable {s : Fin 2048 → Fin 2048 → EReal} {v : Fin 2048 → Fin 128 → EReal} {sR : Fin 2048 → Fin 2048 → ℝ}
  {vR : Fin 2048 → Fin 128 → ℝ} (hs : ∀ i j, s i j = (sR i j : EReal)) (hv : ∀ j d, v j d = (vR j d : EReal))
  (o : ℕ) (ho : o + 256 ≤ 2048) (r : Fin 256) (d : Fin 128)

include hs

theorem own_eq (x : Fin 256) : own s ⊥ o ho r x
    = if x.val ≤ r.val then (sR ⟨o + r.val, by omega⟩ ⟨o + x.val, by omega⟩ : EReal) else ⊥ := by
  unfold own
  rw [select_ge (by decide), hs]

theorem own_exp (x : Fin 256) (M : ℝ) : Ideal.exp (own s ⊥ o ho r x - (M : EReal))
    = ((if x.val ≤ r.val then Real.exp (sR ⟨o + r.val, by omega⟩ ⟨o + x.val, by omega⟩) / Real.exp M else 0 : ℝ) : EReal) := by
  rw [own_eq hs]
  split_ifs
  · rw [← EReal.coe_sub, Ideal.exp_coe, Real.exp_sub]
  · rw [EReal.bot_sub, Ideal.exp_bot, EReal.coe_zero]

theorem before_exp (x : Fin o) (M : ℝ) : Ideal.exp (before s o ho r x - (M : EReal))
    = ((Real.exp (sR ⟨o + r.val, by omega⟩ ⟨x.val, by omega⟩) / Real.exp M : ℝ) : EReal) := by
  unfold before
  rw [hs, ← EReal.coe_sub, Ideal.exp_coe, Real.exp_sub]

theorem top0_real : ∃ M : ℝ, top0 s ⊥ o ho r = (M : EReal) := by
  unfold top0
  rw [ofBits_neg_inf]
  refine fold_max_real _ r ?_ fun y => ?_
  · rw [own_eq hs, if_pos le_rfl]; exact EReal.coe_ne_bot _
  · rw [own_eq hs]; split_ifs
    · exact EReal.coe_ne_top _
    · exact bot_ne_top

theorem top_real : ∃ M : ℝ, top s ⊥ o ho r = (M : EReal) := by
  obtain ⟨M, hM⟩ := top0_real hs o ho r
  unfold top
  rw [hM, ofBits_neg_inf]
  refine max_real M _ (fold_max_ne_top _ fun y => ?_)
  unfold before
  rw [hs]; exact EReal.coe_ne_top _

theorem den_eq (M : ℝ) : den s ⊥ o ho r (M : EReal) = ((Z sR ⟨o + r.val, by omega⟩ / Real.exp M : ℝ) : EReal) := by
  unfold den
  rw [Finset.sum_congr rfl fun x _ => own_exp hs o ho r x M, Finset.sum_congr rfl fun x _ => before_exp hs o ho r x M,
    sum_coe, sum_coe, ← EReal.coe_add, EReal.coe_eq_coe_iff]
  unfold Z
  rw [sum_split (fun j => Real.exp (sR _ j)) o ho r, add_div, Finset.sum_div, Finset.sum_div]
  congr 1
  refine Finset.sum_congr rfl fun x _ => ?_
  split_ifs <;> simp

theorem lse_eq (M : ℝ) : (M : EReal) + Ideal.log (den s ⊥ o ho r (M : EReal))
    = ((Real.log (Z sR ⟨o + r.val, by omega⟩) : ℝ) : EReal) := by
  have hz := Z_pos sR ⟨o + r.val, by omega⟩
  rw [den_eq hs, log_coe (div_pos hz (Real.exp_pos M)), ← EReal.coe_add, Real.log_div hz.ne' (Real.exp_ne_zero M),
    Real.log_exp, add_sub_cancel]

include hv

theorem num_eq (M : ℝ) : num s v ⊥ o ho r d (M : EReal)
    = ((O sR vR ⟨o + r.val, by omega⟩ d * Z sR ⟨o + r.val, by omega⟩ / Real.exp M : ℝ) : EReal) := by
  unfold num
  have h1 : ∀ x : Fin 256, Ideal.exp (own s ⊥ o ho r x - (M : EReal)) * v ⟨o + x.val, by omega⟩ d
      = ((if x.val ≤ r.val then Real.exp (sR ⟨o + r.val, by omega⟩ ⟨o + x.val, by omega⟩) * vR ⟨o + x.val, by omega⟩ d / Real.exp M
          else 0 : ℝ) : EReal) := by
    intro x
    rw [own_exp hs, hv, ← EReal.coe_mul, EReal.coe_eq_coe_iff]
    split_ifs
    · ring
    · ring
  have h2 : ∀ x : Fin o, Ideal.exp (before s o ho r x - (M : EReal)) * v ⟨x.val, by omega⟩ d
      = ((Real.exp (sR ⟨o + r.val, by omega⟩ ⟨x.val, by omega⟩) * vR ⟨x.val, by omega⟩ d / Real.exp M : ℝ) : EReal) := by
    intro x
    rw [before_exp hs, hv, ← EReal.coe_mul, EReal.coe_eq_coe_iff]
    ring
  rw [Finset.sum_congr rfl fun x _ => h1 x, Finset.sum_congr rfl fun x _ => h2 x,
    sum_coe, sum_coe, ← EReal.coe_add, EReal.coe_eq_coe_iff,
    ← sum_split (fun j => Real.exp (sR ⟨o + r.val, by omega⟩ j) * vR j d / Real.exp M) o ho r]
  unfold O
  rw [Finset.sum_mul, Finset.sum_div]
  refine Finset.sum_congr rfl fun j _ => ?_
  have hz := (Z_pos sR ⟨o + r.val, by omega⟩).ne'
  unfold P
  split_ifs
  · field_simp
  · ring

theorem out_eq (M : ℝ) : Ideal.div (num s v ⊥ o ho r d (M : EReal)) (den s ⊥ o ho r (M : EReal))
    = ((O sR vR ⟨o + r.val, by omega⟩ d : ℝ) : EReal) := by
  have hz := (Z_pos sR ⟨o + r.val, by omega⟩).ne'
  rw [num_eq hs hv, den_eq hs, div_coe _ (div_ne_zero hz (Real.exp_ne_zero M)), EReal.coe_eq_coe_iff]
  have := Real.exp_ne_zero M
  field_simp

end BlockReal

end Cert.Attn

end
-- ==== Proof.AttnGrad.lean ====
/-
  The gradient of one head's causal softmax attention over the reals, and what the backward kernel's blocks of 512 queries
  compute of it.
-/
module

public import proofs.«01_k».proof.Proof.AttnMath

@[expose] public section

noncomputable section

namespace Cert.Attn

open Idealize.ShloMosaic Cert.RealLift

/-! ## Over the reals -/

section Reals

variable (s : Fin 2048 → Fin 2048 → ℝ) (v g : Fin 2048 → Fin 128 → ℝ)

/-- The gradient in a weight. -/
def dP (i j : Fin 2048) : ℝ := ∑ d, g i d * v j d

/-- The gradient in a score. -/
def dS (i j : Fin 2048) : ℝ := P s i j * (dP v g i j - ∑ d, g i d * O s v i d)

theorem P_later {i j : Fin 2048} (h : ¬ j ≤ i) : P s i j = 0 := if_neg h

theorem dS_later {i j : Fin 2048} (h : ¬ j ≤ i) : dS s v g i j = 0 := by
  unfold dS; rw [P_later s h, zero_mul]

/-- The weight is the exponential of the score less the logarithm of the weights' sum. -/
theorem P_exp {i j : Fin 2048} (h : j ≤ i) : Real.exp (s i j - Real.log (Z s i)) = P s i j := by
  rw [Real.exp_sub, Real.exp_log (Z_pos s i), P, if_pos h]

/-- What 512 queries from `o` on give to the gradient in a key's row, `a` being the gradient in the weights or scores. -/
def part {C : ℕ} (a : Fin 2048 → Fin 2048 → ℝ) (x : Fin 2048 → Fin C → ℝ) (q : Fin 4) (j : Fin 2048) (k : Fin C) : ℝ :=
  ∑ y : Fin 512, a ⟨512 * q.val + y.val, by omega⟩ j * x ⟨512 * q.val + y.val, by omega⟩ k

theorem part_later {C : ℕ} (a : Fin 2048 → Fin 2048 → ℝ) (ha : ∀ i j, ¬ j ≤ i → a i j = 0) (x : Fin 2048 → Fin C → ℝ)
    (q : Fin 4) (j : Fin 2048) (k : Fin C) (h : 512 * (q.val + 1) ≤ j.val) : part a x q j k = 0 := by
  refine Finset.sum_eq_zero fun y _ => ?_
  rw [ha _ _ (by rw [Fin.le_def]; show ¬ j.val ≤ 512 * q.val + y.val; omega), zero_mul]

theorem part_sum {C : ℕ} (a : Fin 2048 → Fin 2048 → ℝ) (x : Fin 2048 → Fin C → ℝ) (j : Fin 2048) (k : Fin C) :
    ∑ q : Fin 4, part a x q j k = ∑ i : Fin 2048, a i j * x i k := by
  unfold part
  have e := (Fintype.sum_equiv (finProdFinEquiv (m := 4) (n := 512)) (fun p => a ⟨512 * p.1.val + p.2.val, by omega⟩ j
    * x ⟨512 * p.1.val + p.2.val, by omega⟩ k) (fun i : Fin (4 * 512) => a i j * x i k) (fun p => by
      have : (⟨512 * p.1.val + p.2.val, by omega⟩ : Fin 2048) = (finProdFinEquiv p : Fin (4 * 512)) :=
        Fin.ext (by simp [finProdFinEquiv]; omega)
      rw [this]))
  rw [Fintype.sum_prod_type] at e
  exact e

/-- A sum over all keys where the ones after a block give nothing. -/
theorem sum_block (f : Fin 2048 → ℝ) (o n : ℕ) (ho : o + n ≤ 2048) (hf : ∀ j : Fin 2048, o + n ≤ j.val → f j = 0) :
    ∑ j : Fin 2048, f j = ∑ x : Fin n, f ⟨o + x.val, by omega⟩ + ∑ x : Fin o, f ⟨x.val, by omega⟩ := by
  set g : ℕ → ℝ := fun j => if h : j < 2048 then f ⟨j, h⟩ else 0 with hg
  have e : ∀ j : Fin 2048, f j = g j.val := fun j => by simp only [hg, j.isLt, dif_pos]
  have e1 : ∀ x : Fin n, f ⟨o + x.val, by omega⟩ = g (o + x.val) := fun x => by
    have h : o + x.val < 2048 := by omega
    simp only [hg, h, dif_pos]
  have e2 : ∀ x : Fin o, f ⟨x.val, by omega⟩ = g x.val := fun x => by
    have h : x.val < 2048 := by omega
    simp only [hg, h, dif_pos]
  rw [Finset.sum_congr rfl fun j _ => e j, Finset.sum_congr rfl fun x _ => e1 x, Finset.sum_congr rfl fun x _ => e2 x,
    Fin.sum_univ_eq_sum_range g 2048, Fin.sum_univ_eq_sum_range (fun x => g (o + x)) n, Fin.sum_univ_eq_sum_range g o]
  obtain ⟨k, hk⟩ := Nat.exists_eq_add_of_le ho
  rw [hk, Finset.sum_range_add, Finset.sum_range_add]
  have z : ∑ x ∈ Finset.range k, g (o + n + x) = 0 := by
    refine Finset.sum_eq_zero fun x hx => ?_
    simp only [hg]
    split_ifs with h
    · exact hf _ (by show o + n ≤ o + n + x; omega)
    · rfl
  rw [z, add_zero, add_comm]

end Reals

/-! ## A block of 512 queries -/

section Block

variable (s : Fin 2048 → Fin 2048 → EReal) (b : EReal) (l : Fin 2048 → EReal) (g v out : Fin 2048 → Fin 128 → EReal)
  (o : ℕ) (ho : o + 512 ≤ 2048) (y : Fin 512)

/-- The weight of a key of the block. -/
def wOwn (x : Fin 512) : EReal :=
  Ideal.exp (Scalar.select (IntOp.cmpi CmpIPredicate.sge (BitVec.ofNat 32 y.val) (BitVec.ofNat 32 x.val))
    (s ⟨o + y.val, by omega⟩ ⟨o + x.val, by omega⟩) b - l ⟨o + y.val, by omega⟩)

/-- The weight of an earlier key. -/
def wBef (j : Fin 2048) : EReal := Ideal.exp (s ⟨o + y.val, by omega⟩ j - l ⟨o + y.val, by omega⟩)

/-- The factor that turns a weight into the gradient in its score. -/
def grow (j : Fin 2048) : EReal :=
  ∑ d, g ⟨o + y.val, by omega⟩ d * v j d - ∑ d, g ⟨o + y.val, by omega⟩ d * out ⟨o + y.val, by omega⟩ d

end Block

section BlockReal

variable {s : Fin 2048 → Fin 2048 → EReal} {l : Fin 2048 → EReal} {g v out : Fin 2048 → Fin 128 → EReal}
  {sR : Fin 2048 → Fin 2048 → ℝ} {gR vR : Fin 2048 → Fin 128 → ℝ} {b : EReal} (hb : b = ⊥)
  (hs : ∀ i j, s i j = (sR i j : EReal)) (hl : ∀ i, l i = (Real.log (Z sR i) : EReal))
  (hg : ∀ j d, g j d = (gR j d : EReal)) (hv : ∀ j d, v j d = (vR j d : EReal))
  (hout : ∀ j d, out j d = (O sR vR j d : EReal))
  (o : ℕ) (ho : o + 512 ≤ 2048) (y : Fin 512)

include hs hl

include hb in
theorem wOwn_eq (x : Fin 512) : wOwn s b l o ho y x = (P sR ⟨o + y.val, by omega⟩ ⟨o + x.val, by omega⟩ : EReal) := by
  unfold wOwn
  rw [select_ge (by decide), hs, hl, hb]
  split_ifs with h
  · rw [← EReal.coe_sub, Ideal.exp_coe, P_exp sR (by rw [Fin.le_def]; show o + x.val ≤ o + y.val; omega)]
  · rw [EReal.bot_sub, Ideal.exp_bot, P_later sR (by rw [Fin.le_def]; show ¬ o + x.val ≤ o + y.val; omega), EReal.coe_zero]

theorem wBef_eq (j : Fin 2048) (hj : j.val < o) :
    wBef s l o ho y j = (P sR ⟨o + y.val, by omega⟩ j : EReal) := by
  unfold wBef
  rw [hs, hl, ← EReal.coe_sub, Ideal.exp_coe, P_exp sR (by rw [Fin.le_def]; show j.val ≤ o + y.val; omega)]

omit hs hl

include hg hv hout

theorem grow_eq (j : Fin 2048) : grow g v out o ho y j
    = (dP vR gR ⟨o + y.val, by omega⟩ j
        - ∑ d, gR ⟨o + y.val, by omega⟩ d * O sR vR ⟨o + y.val, by omega⟩ d : ℝ) := by
  unfold grow dP
  simp only [hg, hv, hout, ← EReal.coe_mul]
  rw [sum_coe, sum_coe, ← EReal.coe_sub]

include hs hl

include hb in
theorem dOwn_eq (x : Fin 512) : wOwn s b l o ho y x * grow g v out o ho y ⟨o + x.val, by omega⟩
    = (dS sR vR gR ⟨o + y.val, by omega⟩ ⟨o + x.val, by omega⟩ : EReal) := by
  rw [wOwn_eq hb hs hl, grow_eq hg hv hout, ← EReal.coe_mul]; rfl

theorem dBef_eq (j : Fin 2048) (hj : j.val < o) : wBef s l o ho y j * grow g v out o ho y j
    = (dS sR vR gR ⟨o + y.val, by omega⟩ j : EReal) := by
  rw [wBef_eq hs hl o ho y j hj, grow_eq hg hv hout, ← EReal.coe_mul]; rfl

end BlockReal

/-- What a block gives to a key's row, from the numbers it multiplies. -/
theorem part_coe {C : ℕ} {a : Fin 2048 → Fin 2048 → ℝ} {xR : Fin 2048 → Fin C → ℝ} {q : Fin 4} {j : Fin 2048} {k : Fin C}
    {F G : Fin 512 → EReal} (hF : ∀ y, F y = (a ⟨512 * q.val + y.val, by omega⟩ j : EReal))
    (hG : ∀ y, G y = (xR ⟨512 * q.val + y.val, by omega⟩ k : EReal)) :
    ∑ y, F y * G y = (part a xR q j k : EReal) := by
  simp only [hF, hG, ← EReal.coe_mul]
  exact sum_coe _ _

/-- A query's sum over the keys of its block and the ones before. -/
theorem row_coe {a f : Fin 2048 → ℝ} {o : ℕ} (ho : o + 512 ≤ 2048) (ha : ∀ j : Fin 2048, o + 512 ≤ j.val → a j = 0)
    {F G : Fin 512 → EReal} {F' G' : Fin o → EReal} (hF : ∀ x : Fin 512, F x = (a ⟨o + x.val, by omega⟩ : EReal))
    (hG : ∀ x : Fin 512, G x = (f ⟨o + x.val, by omega⟩ : EReal)) (hF' : ∀ x : Fin o, F' x = (a ⟨x.val, by omega⟩ : EReal))
    (hG' : ∀ x : Fin o, G' x = (f ⟨x.val, by omega⟩ : EReal)) :
    ∑ x, F x * G x + ∑ x, F' x * G' x = ((∑ j, a j * f j : ℝ) : EReal) := by
  simp only [hF, hG, hF', hG', ← EReal.coe_mul]
  rw [sum_coe, sum_coe, ← EReal.coe_add, sum_block (fun j => a j * f j) o 512 ho fun j h => by rw [ha j h, zero_mul]]

end Cert.Attn

end
-- ==== Proof.AttnSpec.lean ====
/-
  Causal attention over rotated queries and shared rotated keys, and its gradient, over the real numbers: what both
  programs of the pair compute when the arguments are finite.
-/
module

public import proofs.«01_k».proof.Proof.AttnGrad
public import proofs.«01_k».proof.Proof.RealLift

@[expose] public section

noncomputable section

namespace Cert.AttnSpec

open Idealize.ShloMosaic

/-- The rotation angle of position `p` at frequency `k`. -/
def angle (p : BitVec 32) (k : Fin 32) : EReal :=
  (FloatOps.sitofp (F := Ideal) FTy.f32 p : EReal) *
    Ideal.pow (Ideal.ofBits FTy.f32 0x461C4000#32)
      (Ideal.div (-(Ideal.ofBits FTy.f32 0x40000000#32 * (FloatOps.sitofp (F := Ideal) FTy.f32 (BitVec.ofNat 32 k.val) : EReal)))
        (Ideal.ofBits FTy.f32 0x42800000#32))

theorem angle_real (p : BitVec 32) (k : Fin 32) : ∃ r : ℝ, angle p k = (r : EReal) := by
  have e1 : Ideal.ofBits FTy.f32 0x461C4000#32 = ((10000 : ℝ) : EReal) := by
    simp [Ideal.ofBits, Ideal.ieee, -EReal.coe_mul]; norm_num
  have e2 : Ideal.ofBits FTy.f32 0x40000000#32 = ((2 : ℝ) : EReal) := by
    simp [Ideal.ofBits, Ideal.ieee, -EReal.coe_mul]; norm_num
  have e3 : Ideal.ofBits FTy.f32 0x42800000#32 = ((64 : ℝ) : EReal) := by
    simp [Ideal.ofBits, Ideal.ieee, -EReal.coe_mul]; norm_num
  have es : ∀ x : BitVec 32, (FloatOps.sitofp (F := Ideal) FTy.f32 x : EReal) = ((x.toInt : ℝ) : EReal) := fun x => rfl
  unfold angle
  rw [e1, e2, e3, es, es, ← EReal.coe_mul, ← EReal.coe_neg, Cert.RealLift.div_coe _ (by norm_num)]
  exact ⟨_, (EReal.coe_mul _ _).symm⟩

/-- The cosine and the sine of a rotation angle. -/
def co (p : BitVec 32) (k : Fin 32) : ℝ := Real.cos (angle p k).toReal
def si (p : BitVec 32) (k : Fin 32) : ℝ := Real.sin (angle p k).toReal

theorem cos_angle (p : BitVec 32) (k : Fin 32) : Ideal.cos (angle p k) = (co p k : EReal) := by
  obtain ⟨r, h⟩ := angle_real p k
  rw [co, h, EReal.toReal_coe, Ideal.cos_coe]

theorem sin_angle (p : BitVec 32) (k : Fin 32) : Ideal.sin (angle p k) = (si p k : EReal) := by
  obtain ⟨r, h⟩ := angle_real p k
  rw [si, h, EReal.toReal_coe, Ideal.sin_coe]

/-- The scores' scale, as the 32-bit float it is in both programs. -/
def scale : ℝ := (Ideal.ofBits FTy.f32 0x3D93CD3A#32).toReal

theorem scale_eq : Ideal.ofBits FTy.f32 0x3D93CD3A#32 = (scale : EReal) := by
  have h : Ideal.ofBits FTy.f32 0x3D93CD3A#32 = ((9686330 / 134217728 : ℝ) : EReal) := by
    simp [Ideal.ofBits, Ideal.ieee, -EReal.coe_mul]; norm_num
  rw [scale, h, EReal.toReal_coe]

/-! ## One head of one batch entry

  `q i k` is a query's entry `k`, of 128 without and 64 with positions; `kv j k` holds a key's 128 entries and then the
  128 of its value; `kr j r` is the key's rotated part; `g` is the gradient arriving at the output. -/

variable (p : Fin 2048 → BitVec 32) (q : Fin 2048 → Fin 192 → ℝ) (kv : Fin 2048 → Fin 256 → ℝ)
  (kr : Fin 2048 → Fin 64 → ℝ) (g : Fin 2048 → Fin 128 → ℝ)

/-- The rotated part of a query. -/
def rot (i : Fin 2048) (r : Fin 64) : ℝ :=
  if h : r.val < 32 then
    q i ⟨128 + r.val, by omega⟩ * co (p i) ⟨r.val, h⟩ - q i ⟨160 + r.val, by omega⟩ * si (p i) ⟨r.val, h⟩
  else
    q i ⟨128 + r.val, by omega⟩ * co (p i) ⟨r.val - 32, by omega⟩
      + q i ⟨96 + r.val, by omega⟩ * si (p i) ⟨r.val - 32, by omega⟩

/-- The score of query `i` against key `j`. -/
def score (i j : Fin 2048) : ℝ :=
  (∑ d : Fin 128, q i ⟨d.val, by omega⟩ * kv j ⟨d.val, by omega⟩ + ∑ r : Fin 64, kr j r * rot p q i r) * scale

/-- The values. -/
def value (j : Fin 2048) (d : Fin 128) : ℝ := kv j ⟨128 + d.val, by omega⟩

/-- The gradient in the scores. -/
def ds (i j : Fin 2048) : ℝ := Cert.Attn.dS (score p q kv kr) (value kv) g i j

/-- The gradient in the values. -/
def dv (j : Fin 2048) (d : Fin 128) : ℝ := ∑ i : Fin 2048, Cert.Attn.P (score p q kv kr) i j * g i d

/-- The gradient in the keys without positions. -/
def dk (j : Fin 2048) (d : Fin 128) : ℝ := ∑ i : Fin 2048, ds p q kv kr g i j * (q i ⟨d.val, by omega⟩ * scale)

/-- One head's part of the gradient in the shared rotated keys. -/
def dr (j : Fin 2048) (r : Fin 64) : ℝ := ∑ i : Fin 2048, ds p q kv kr g i j * (rot p q i r * scale)

/-- The gradient in the queries without positions. -/
def dn (i : Fin 2048) (d : Fin 128) : ℝ := (∑ j : Fin 2048, ds p q kv kr g i j * kv j ⟨d.val, by omega⟩) * scale

/-- The gradient in the rotated queries. -/
def dt (i : Fin 2048) (r : Fin 64) : ℝ := (∑ j : Fin 2048, ds p q kv kr g i j * kr j r) * scale

/-- The gradient in the queries, before their rotation. -/
def dp (i : Fin 2048) (r : Fin 64) : ℝ :=
  if h : r.val < 32 then
    dt p q kv kr g i r * co (p i) ⟨r.val, h⟩ + dt p q kv kr g i ⟨32 + r.val, by omega⟩ * si (p i) ⟨r.val, h⟩
  else
    dt p q kv kr g i r * co (p i) ⟨r.val - 32, by omega⟩
      - dt p q kv kr g i ⟨r.val - 32, by omega⟩ * si (p i) ⟨r.val - 32, by omega⟩

/-! ## The padded operands of the kernels -/

/-- A query as the kernels hold it: scaled, its second half rotated, padded with zeros to 256 entries. -/
def queries (i : Fin 2048) (k : Fin 256) : ℝ :=
  if h : k.val < 128 then q i ⟨k.val, by omega⟩ * scale
  else if h' : k.val < 192 then rot p q i ⟨k.val - 128, by omega⟩ * scale else 0

/-- A key's two parts, padded with zeros to 256 entries. -/
def keys (j : Fin 2048) (k : Fin 256) : ℝ :=
  if h : k.val < 128 then kv j ⟨k.val, by omega⟩ else if h' : k.val < 192 then kr j ⟨k.val - 128, by omega⟩ else 0

/-- The two rotation tables. -/
def cosines (i : Fin 2048) (k : Fin 128) : ℝ :=
  if h : k.val < 32 then co (p i) ⟨k.val, h⟩ else if h' : k.val - 32 < 32 then co (p i) ⟨k.val - 32, h'⟩ else 0
def sines (i : Fin 2048) (k : Fin 128) : ℝ :=
  if h : k.val < 32 then -si (p i) ⟨k.val, h⟩ else if h' : k.val - 32 < 32 then si (p i) ⟨k.val - 32, h'⟩ else 0

theorem queries_fst (i : Fin 2048) (k : Fin 128) : queries p q i ⟨k.val, by omega⟩ = q i ⟨k.val, by omega⟩ * scale :=
  dif_pos k.isLt

theorem queries_snd (i : Fin 2048) (k : Fin 128) :
    queries p q i ⟨128 + k.val, by omega⟩ = if h : k.val < 64 then rot p q i ⟨k.val, h⟩ * scale else 0 := by
  unfold queries
  rw [dif_neg (by simp)]
  split_ifs <;> first | rfl | (exfalso; simp only [] at *; omega) | (simp only [Nat.add_sub_cancel_left])

theorem keys_fst (j : Fin 2048) (k : Fin 128) : keys kv kr j ⟨k.val, by omega⟩ = kv j ⟨k.val, by omega⟩ := dif_pos k.isLt

theorem keys_snd (j : Fin 2048) (k : Fin 128) :
    keys kv kr j ⟨128 + k.val, by omega⟩ = if h : k.val < 64 then kr j ⟨k.val, h⟩ else 0 := by
  unfold keys
  rw [dif_neg (by simp)]
  split_ifs <;> first | rfl | (exfalso; simp only [] at *; omega) | (simp only [Nat.add_sub_cancel_left])

/-- The score in padded operands. -/
theorem score_padded (i j : Fin 2048) :
    ∑ x : Fin 128, queries p q i ⟨x.val, by omega⟩ * keys kv kr j ⟨x.val, by omega⟩
        + ∑ x : Fin 128, queries p q i ⟨128 + x.val, by omega⟩ * keys kv kr j ⟨128 + x.val, by omega⟩
      = score p q kv kr i j := by
  unfold score
  rw [Fin.sum_univ_two_halves 64 64 (by norm_num) (fun x : Fin 128 =>
      queries p q i ⟨128 + x.val, by omega⟩ * keys kv kr j ⟨128 + x.val, by omega⟩), add_mul, Finset.sum_mul, Finset.sum_mul]
  have z : ∑ k : Fin 64, queries p q i ⟨128 + (64 + k.val), by omega⟩ * keys kv kr j ⟨128 + (64 + k.val), by omega⟩ = 0 := by
    refine Finset.sum_eq_zero fun k _ => ?_
    have e := queries_snd p q i ⟨64 + k.val, by omega⟩
    rw [dif_neg (by simp)] at e
    exact (congrArg (· * _) e).trans (zero_mul _)
  refine congrArg₂ (· + ·) (Finset.sum_congr rfl fun d _ => ?_)
    ((congrArg (_ + ·) z).trans ((add_zero _).trans (Finset.sum_congr rfl fun r _ => ?_)))
  · rw [queries_fst, keys_fst]; ring
  · have e1 := queries_snd p q i ⟨r.val, by omega⟩
    have e2 := keys_snd kv kr j ⟨r.val, by omega⟩
    rw [dif_pos r.isLt] at e1 e2
    exact (congrArg₂ (· * ·) e1 e2).trans (by ring)

end Cert.AttnSpec
-- ==== Proof.AttnHost.lean ====
/-
  The operands of attention's two calls on the chip: the padded queries, the keys and values, and the rotation tables.
-/
module

public import proofs.«01_k».proof.Proof.Gen.KernelAttnIdeal.Frame
public import proofs.«01_k».proof.Proof.Pieces
public import proofs.«01_k».proof.Proof.AttnSpec

@[expose] public section

set_option maxRecDepth 16384

noncomputable section

namespace Cert.AttnHost

open Cert.KernelAttnIdeal Cert.KernelAttnIdeal.Gen Idealize.ShloMosaic Idealize.ShloMosaic.TcCoe Idealize.SL.Sem
open Cert.AttnSpec

variable (m : (ℓ : Loc nD τ sig) → Buf (Elt Ideal) ℓ) (ρ : Dev nD → PrngReg)

abbrev q (c : Dev nD) : S2x2048x8x192.Idx → EReal := m ((c : Thread nD τ).loc main_arg0)
abbrev kv (c : Dev nD) : S2x2048x8x256.Idx → EReal := m ((c : Thread nD τ).loc main_arg1)
abbrev kr (c : Dev nD) : S2x2048x64.Idx → EReal := m ((c : Thread nD τ).loc main_arg2)
abbrev g (c : Dev nD) : S2x2048x8x128.Idx → EReal := m ((c : Thread nD τ).loc main_arg3)
abbrev pos (c : Dev nD) : S2x2048.Idx → BitVec 32 := m ((c : Thread nD τ).loc main_arg4)

/-- Row `i` of batch entry `b`. -/
def row (b : Fin 2) (i : Fin 2048) : Fin 4096 := ⟨2048 * b.val + i.val, by omega⟩

/-- Column `k` of head `h`. -/
def col (h : Fin 8) (k : Fin 256) : Fin 2048 := ⟨256 * h.val + k.val, by omega⟩

/-- Column `d` of head `h`, of the arrays with 128 columns a head. -/
def col' (h : Fin 8) (d : Fin 128) : Fin 1024 := ⟨128 * h.val + d.val, by omega⟩

theorem V_q (c : Dev nD) (b : Fin 2) (i : Fin 2048) (h : Fin 8) (k : Fin 256) :
    V1 m ρ c main_v26 (ix2 (row b i) (col h k)) = if hk : k.val < 192 then q m c (ix4 b i h ⟨k.val, hk⟩) else (0 : EReal) := by
  have e : (256 * h.val + k.val) % 256 = k.val := by omega
  show StableHlo.after hostOps0 (W0 m ρ c) (Proc.devRef .tc main_v26) _ = _
  unfold hostOps0
  after_results_simp
  pointwise [row, col]
  after_results_simp
  pointwise

theorem V_kv (c : Dev nD) (b : Fin 2) (i : Fin 2048) (h : Fin 8) (k : Fin 256) :
    V1 m ρ c main_v32 (ix2 (row b i) (col h k)) = kv m c (ix4 b i h k) := by
  show StableHlo.after hostOps0 (W0 m ρ c) (Proc.devRef .tc main_v32) _ = _
  unfold hostOps0
  after_results_simp
  pointwise [row, col]
  refine congrArg (kv m c) ?_
  funext a
  fin_cases a <;> apply Fin.ext <;> simp <;> omega

theorem V_kr (c : Dev nD) (b : Fin 2) (i : Fin 2048) (k : Fin 128) :
    V1 m ρ c main_v30 (ix2 (row b i) k) = if hk : k.val < 64 then kr m c (ix3 b i ⟨k.val, hk⟩) else (0 : EReal) := by
  show StableHlo.after hostOps0 (W0 m ρ c) (Proc.devRef .tc main_v30) _ = _
  unfold hostOps0
  after_results_simp
  pointwise [row, col]
  after_results_simp
  pointwise

theorem V_cos (c : Dev nD) (b : Fin 2) (i : Fin 2048) (k : Fin 128) :
    V1 m ρ c main_v20 (ix2 (row b i) k) =
      if h : k.val < 32 then Ideal.cos (angle (pos m c (ix2 b i)) ⟨k.val, h⟩)
      else if h' : k.val - 32 < 32 then Ideal.cos (angle (pos m c (ix2 b i)) ⟨k.val - 32, by omega⟩) else (0 : EReal) := by
  have e1 : (2048 * b.val + i.val) / 2048 = b.val := by omega
  have e2 : (2048 * b.val + i.val) % 2048 = i.val := by omega
  show StableHlo.after hostOps0 (W0 m ρ c) (Proc.devRef .tc main_v20) _ = _
  unfold hostOps0
  after_results_simp
  pointwise [row, col]
  after_results_simp
  pointwise
  simp only [e1, e2]
  rfl

theorem V_sin (c : Dev nD) (b : Fin 2) (i : Fin 2048) (k : Fin 128) :
    V1 m ρ c main_v22 (ix2 (row b i) k) =
      if h : k.val < 32 then -Ideal.sin (angle (pos m c (ix2 b i)) ⟨k.val, h⟩)
      else if h' : k.val - 32 < 32 then Ideal.sin (angle (pos m c (ix2 b i)) ⟨k.val - 32, by omega⟩) else (0 : EReal) := by
  have e1 : (2048 * b.val + i.val) / 2048 = b.val := by omega
  have e2 : (2048 * b.val + i.val) % 2048 = i.val := by omega
  show StableHlo.after hostOps0 (W0 m ρ c) (Proc.devRef .tc main_v22) _ = _
  unfold hostOps0
  after_results_simp
  pointwise [row, col]
  after_results_simp
  pointwise
  simp only [e1, e2]
  rfl

theorem V_g (c : Dev nD) (b : Fin 2) (i : Fin 2048) (h : Fin 8) (d : Fin 128) :
    V3 m ρ c main_v35 (ix2 (row b i) (col' h d)) = g m c (ix4 b i h d) := by
  show StableHlo.after hostOps1 (W2 m ρ c) (Proc.devRef .tc main_v35) _ = _
  unfold hostOps1
  after_results_simp
  pointwise [row, col']
  exact congrFun (W2_args m ρ c main_arg3 (by decide)) _

end Cert.AttnHost
-- ==== Proof.AttnBlocks.lean ====
/-
  The blocks that the grid points of attention's two calls read and write: point `t` is head `t % 8` of batch entry `t / 8`.
-/
module

public import Idealize.ShloMosaic.Lib.Pipeline.ValueKit.Geometry
public import proofs.«01_k».proof.Proof.AttnHost
public import proofs.«01_k».proof.Proof.Loads

@[expose] public section

set_option maxRecDepth 16384

noncomputable section

namespace Cert.AttnBlocks

open Cert.KernelAttnIdeal Cert.KernelAttnIdeal.Gen Idealize.ShloMosaic Idealize.ShloMosaic.TcCoe Idealize.SL.Sem
open Idealize.ShloMosaic.Pipeline (Dat)
open Cert.AttnHost

/-- The batch entry and the head of a grid point. -/
def bt (t : ℕ) : Fin 2 := ⟨t / 8 % 2, by omega⟩
def hd (t : ℕ) : Fin 8 := ⟨t % 8, by omega⟩

/-! ## Reading a row and a column number apart -/

def bOf (n : Fin 4096) : Fin 2 := ⟨n.val / 2048, by omega⟩
def rOf (n : Fin 4096) : Fin 2048 := ⟨n.val % 2048, Nat.mod_lt _ (by decide)⟩
def hOf (n : Fin 2048) : Fin 8 := ⟨n.val / 256, by omega⟩
def kOf (n : Fin 2048) : Fin 256 := ⟨n.val % 256, Nat.mod_lt _ (by decide)⟩
def hOf' (n : Fin 1024) : Fin 8 := ⟨n.val / 128, by omega⟩
def dOf' (n : Fin 1024) : Fin 128 := ⟨n.val % 128, Nat.mod_lt _ (by decide)⟩

theorem bOf_row (b : Fin 2) (i : Fin 2048) : bOf (row b i) = b := Fin.ext (by simp only [bOf, row]; omega)
theorem rOf_row (b : Fin 2) (i : Fin 2048) : rOf (row b i) = i := Fin.ext (by simp only [rOf, row]; omega)
theorem hOf_col (h : Fin 8) (k : Fin 256) : hOf (col h k) = h := Fin.ext (by simp only [hOf, col]; omega)
theorem kOf_col (h : Fin 8) (k : Fin 256) : kOf (col h k) = k := Fin.ext (by simp only [kOf, col]; omega)
theorem hOf'_col (h : Fin 8) (d : Fin 128) : hOf' (col' h d) = h := Fin.ext (by simp only [hOf', col']; omega)
theorem dOf'_col (h : Fin 8) (d : Fin 128) : dOf' (col' h d) = d := Fin.ext (by simp only [dOf', col']; omega)

theorem row_of (n : Fin 4096) : row (bOf n) (rOf n) = n := Fin.ext (Nat.div_add_mod n.val 2048)
theorem col'_of (n : Fin 1024) : col' (hOf' n) (dOf' n) = n := Fin.ext (Nat.div_add_mod n.val 128)
theorem col_of (n : Fin 2048) : col (hOf n) (kOf n) = n := Fin.ext (Nat.div_add_mod n.val 256)

variable (V : (c : Dev nD) → (b : Ref sig .tc) → Buf (Elt Ideal) ((c : Thread nD τ).loc b))

theorem emb0_0 (t : Fin grid0.N) (r : Fin 2048) (k : Fin 256) : (win0_0.rect t).emb (ix2 r k) = ix2 (row (bt t.val) r) (col (hd t.val) k) := by
  have ht : t.val < 16 := t.isLt
  exact emb_at (fun t => ![t.val / 8, t.val % 8]) (by intro a; fin_cases a <;> simp [row, col, col', bt, hd] <;> omega)

theorem blk0_0 (c : Dev nD) (t : Fin grid0.N) (r : Fin 2048) (k : Fin 256) : iblk0 V c 0 t (ix2 r k) = V c main_v26 (ix2 (row (bt t.val) r) (col (hd t.val) k)) :=
  congrArg (V c main_v26) (emb0_0 t r k)

theorem emb0_1 (t : Fin grid0.N) (r : Fin 2048) (k : Fin 256) : (win0_1.rect t).emb (ix2 r k) = ix2 (row (bt t.val) r) (col (hd t.val) k) := by
  have ht : t.val < 16 := t.isLt
  exact emb_at (fun t => ![t.val / 8, t.val % 8]) (by intro a; fin_cases a <;> simp [row, col, col', bt, hd] <;> omega)

theorem blk0_1 (c : Dev nD) (t : Fin grid0.N) (r : Fin 2048) (k : Fin 256) : iblk0 V c 1 t (ix2 r k) = V c main_v32 (ix2 (row (bt t.val) r) (col (hd t.val) k)) :=
  congrArg (V c main_v32) (emb0_1 t r k)

theorem emb0_2 (t : Fin grid0.N) (r : Fin 2048) (k : Fin 128) : (win0_2.rect t).emb (ix2 r k) = ix2 (row (bt t.val) r) k := by
  have ht : t.val < 16 := t.isLt
  exact emb_at (fun t => ![t.val / 8, 0]) (by intro a; fin_cases a <;> simp [row, col, col', bt, hd] <;> omega)

theorem blk0_2 (c : Dev nD) (t : Fin grid0.N) (r : Fin 2048) (k : Fin 128) : iblk0 V c 2 t (ix2 r k) = V c main_v30 (ix2 (row (bt t.val) r) k) :=
  congrArg (V c main_v30) (emb0_2 t r k)

theorem emb0_3 (t : Fin grid0.N) (r : Fin 2048) (k : Fin 128) : (win0_3.rect t).emb (ix2 r k) = ix2 (row (bt t.val) r) k := by
  have ht : t.val < 16 := t.isLt
  exact emb_at (fun t => ![t.val / 8, 0]) (by intro a; fin_cases a <;> simp [row, col, col', bt, hd] <;> omega)

theorem blk0_3 (c : Dev nD) (t : Fin grid0.N) (r : Fin 2048) (k : Fin 128) : iblk0 V c 3 t (ix2 r k) = V c main_v20 (ix2 (row (bt t.val) r) k) :=
  congrArg (V c main_v20) (emb0_3 t r k)

theorem emb0_4 (t : Fin grid0.N) (r : Fin 2048) (k : Fin 128) : (win0_4.rect t).emb (ix2 r k) = ix2 (row (bt t.val) r) k := by
  have ht : t.val < 16 := t.isLt
  exact emb_at (fun t => ![t.val / 8, 0]) (by intro a; fin_cases a <;> simp [row, col, col', bt, hd] <;> omega)

theorem blk0_4 (c : Dev nD) (t : Fin grid0.N) (r : Fin 2048) (k : Fin 128) : iblk0 V c 4 t (ix2 r k) = V c main_v22 (ix2 (row (bt t.val) r) k) :=
  congrArg (V c main_v22) (emb0_4 t r k)

theorem emb0_5 (t : Fin grid0.N) (r : Fin 2048) (k : Fin 128) : (win0_5.rect t).emb (ix2 r k) = ix2 (row (bt t.val) r) (col' (hd t.val) k) := by
  have ht : t.val < 16 := t.isLt
  exact emb_at (fun t => ![t.val / 8, t.val % 8]) (by intro a; fin_cases a <;> simp [row, col, col', bt, hd] <;> omega)

theorem emb0_6 (t : Fin grid0.N) (r : Fin 2048) : (win0_6.rect t).emb (ix3 0 r 0) = ix3 (hd t.val) (row (bt t.val) r) 0 := by
  have ht : t.val < 16 := t.isLt
  exact emb_at (fun t => ![t.val % 8, t.val / 8, 0]) (by intro a; fin_cases a <;> simp [row, col, col', bt, hd] <;> omega)

theorem emb0_7 (t : Fin grid0.N) (r : Fin 2048) (k : Fin 256) : (win0_7.rect t).emb (ix2 r k) = ix2 (row (bt t.val) r) (col (hd t.val) k) := by
  have ht : t.val < 16 := t.isLt
  exact emb_at (fun t => ![t.val / 8, t.val % 8]) (by intro a; fin_cases a <;> simp [row, col, col', bt, hd] <;> omega)

theorem index1_0 : ∀ t : Fin grid1.N, win1_0.index t = ![t.val / 8, t.val % 8] := by decide +kernel

theorem emb1_0 (t : Fin grid1.N) (r : Fin 2048) (k : Fin 256) : (win1_0.rect t).emb (ix2 r k) = ix2 (row (bt t.val) r) (col (hd t.val) k) := by
  have ht : t.val < 16 := t.isLt
  exact emb_eq (index1_0 t) (by intro a; fin_cases a <;> simp [row, col, col', bt, hd] <;> omega)

theorem blk1_0 (c : Dev nD) (t : Fin grid1.N) (r : Fin 2048) (k : Fin 256) : iblk1 V c 0 t (ix2 r k) = V c main_v33_2 (ix2 (row (bt t.val) r) (col (hd t.val) k)) :=
  congrArg (V c main_v33_2) (emb1_0 t r k)

theorem index1_1 : ∀ t : Fin grid1.N, win1_1.index t = ![t.val / 8, t.val % 8] := by decide +kernel

theorem emb1_1 (t : Fin grid1.N) (r : Fin 2048) (k : Fin 256) : (win1_1.rect t).emb (ix2 r k) = ix2 (row (bt t.val) r) (col (hd t.val) k) := by
  have ht : t.val < 16 := t.isLt
  exact emb_eq (index1_1 t) (by intro a; fin_cases a <;> simp [row, col, col', bt, hd] <;> omega)

theorem blk1_1 (c : Dev nD) (t : Fin grid1.N) (r : Fin 2048) (k : Fin 256) : iblk1 V c 1 t (ix2 r k) = V c main_v32 (ix2 (row (bt t.val) r) (col (hd t.val) k)) :=
  congrArg (V c main_v32) (emb1_1 t r k)

theorem index1_2 : ∀ t : Fin grid1.N, win1_2.index t = ![t.val / 8, 0] := by decide +kernel

theorem emb1_2 (t : Fin grid1.N) (r : Fin 2048) (k : Fin 128) : (win1_2.rect t).emb (ix2 r k) = ix2 (row (bt t.val) r) k := by
  have ht : t.val < 16 := t.isLt
  exact emb_eq (index1_2 t) (by intro a; fin_cases a <;> simp [row, col, col', bt, hd] <;> omega)

theorem blk1_2 (c : Dev nD) (t : Fin grid1.N) (r : Fin 2048) (k : Fin 128) : iblk1 V c 2 t (ix2 r k) = V c main_v30 (ix2 (row (bt t.val) r) k) :=
  congrArg (V c main_v30) (emb1_2 t r k)

theorem index1_3 : ∀ t : Fin grid1.N, win1_3.index t = ![t.val / 8, t.val % 8] := by decide +kernel

theorem emb1_3 (t : Fin grid1.N) (r : Fin 2048) (k : Fin 128) : (win1_3.rect t).emb (ix2 r k) = ix2 (row (bt t.val) r) (col' (hd t.val) k) := by
  have ht : t.val < 16 := t.isLt
  exact emb_eq (index1_3 t) (by intro a; fin_cases a <;> simp [row, col, col', bt, hd] <;> omega)

theorem blk1_3 (c : Dev nD) (t : Fin grid1.N) (r : Fin 2048) (k : Fin 128) : iblk1 V c 3 t (ix2 r k) = V c main_v33_0 (ix2 (row (bt t.val) r) (col' (hd t.val) k)) :=
  congrArg (V c main_v33_0) (emb1_3 t r k)

theorem index1_4 : ∀ t : Fin grid1.N, win1_4.index t = ![t.val / 8, t.val % 8] := by decide +kernel

theorem emb1_4 (t : Fin grid1.N) (r : Fin 2048) (k : Fin 128) : (win1_4.rect t).emb (ix2 r k) = ix2 (row (bt t.val) r) (col' (hd t.val) k) := by
  have ht : t.val < 16 := t.isLt
  exact emb_eq (index1_4 t) (by intro a; fin_cases a <;> simp [row, col, col', bt, hd] <;> omega)

theorem blk1_4 (c : Dev nD) (t : Fin grid1.N) (r : Fin 2048) (k : Fin 128) : iblk1 V c 4 t (ix2 r k) = V c main_v35 (ix2 (row (bt t.val) r) (col' (hd t.val) k)) :=
  congrArg (V c main_v35) (emb1_4 t r k)

theorem index1_5 : ∀ t : Fin grid1.N, win1_5.index t = ![t.val % 8, t.val / 8, 0] := by decide +kernel

theorem emb1_5 (t : Fin grid1.N) (r : Fin 2048) : (win1_5.rect t).emb (ix3 0 r 0) = ix3 (hd t.val) (row (bt t.val) r) 0 := by
  have ht : t.val < 16 := t.isLt
  exact emb_eq (index1_5 t) (by intro a; fin_cases a <;> simp [row, col, col', bt, hd] <;> omega)

theorem blk1_5 (c : Dev nD) (t : Fin grid1.N) (r : Fin 2048) : iblk1 V c 5 t (ix3 0 r 0) = V c main_v33_1 (ix3 (hd t.val) (row (bt t.val) r) 0) :=
  congrArg (V c main_v33_1) (emb1_5 t r)

theorem index1_6 : ∀ t : Fin grid1.N, win1_6.index t = ![t.val / 8, 0] := by decide +kernel

theorem emb1_6 (t : Fin grid1.N) (r : Fin 2048) (k : Fin 128) : (win1_6.rect t).emb (ix2 r k) = ix2 (row (bt t.val) r) k := by
  have ht : t.val < 16 := t.isLt
  exact emb_eq (index1_6 t) (by intro a; fin_cases a <;> simp [row, col, col', bt, hd] <;> omega)

theorem blk1_6 (c : Dev nD) (t : Fin grid1.N) (r : Fin 2048) (k : Fin 128) : iblk1 V c 6 t (ix2 r k) = V c main_v20 (ix2 (row (bt t.val) r) k) :=
  congrArg (V c main_v20) (emb1_6 t r k)

theorem index1_7 : ∀ t : Fin grid1.N, win1_7.index t = ![t.val / 8, 0] := by decide +kernel

theorem emb1_7 (t : Fin grid1.N) (r : Fin 2048) (k : Fin 128) : (win1_7.rect t).emb (ix2 r k) = ix2 (row (bt t.val) r) k := by
  have ht : t.val < 16 := t.isLt
  exact emb_eq (index1_7 t) (by intro a; fin_cases a <;> simp [row, col, col', bt, hd] <;> omega)

theorem blk1_7 (c : Dev nD) (t : Fin grid1.N) (r : Fin 2048) (k : Fin 128) : iblk1 V c 7 t (ix2 r k) = V c main_v22 (ix2 (row (bt t.val) r) k) :=
  congrArg (V c main_v22) (emb1_7 t r k)

theorem index1_8 : ∀ t : Fin grid1.N, win1_8.index t = ![t.val / 8, t.val % 8] := by decide +kernel

theorem emb1_8 (t : Fin grid1.N) (r : Fin 2048) (k : Fin 256) : (win1_8.rect t).emb (ix2 r k) = ix2 (row (bt t.val) r) (col (hd t.val) k) := by
  have ht : t.val < 16 := t.isLt
  exact emb_eq (index1_8 t) (by intro a; fin_cases a <;> simp [row, col, col', bt, hd] <;> omega)

theorem index1_9 : ∀ t : Fin grid1.N, win1_9.index t = ![t.val / 8, t.val % 8] := by decide +kernel

theorem emb1_9 (t : Fin grid1.N) (r : Fin 2048) (k : Fin 256) : (win1_9.rect t).emb (ix2 r k) = ix2 (row (bt t.val) r) (col (hd t.val) k) := by
  have ht : t.val < 16 := t.isLt
  exact emb_eq (index1_9 t) (by intro a; fin_cases a <;> simp [row, col, col', bt, hd] <;> omega)

theorem index1_10 : ∀ t : Fin grid1.N, win1_10.index t = ![t.val / 8, 0] := by decide +kernel

theorem emb1_10 (t : Fin grid1.N) (r : Fin 2048) (k : Fin 128) : (win1_10.rect t).emb (ix2 r k) = ix2 (row (bt t.val) r) k := by
  have ht : t.val < 16 := t.isLt
  exact emb_eq (index1_10 t) (by intro a; fin_cases a <;> simp [row, col, col', bt, hd] <;> omega)

/-- Output 5 of call 0, from what its grid points leave. -/
theorem array0_5 (c : Dev nD) (f : S4096x1024.Idx → EReal)
    (h : ∀ (t : Fin cfg0.N) (r : Fin 2048) (k : Fin 128), (outsAt0 V c t).1 (ix2 r k) = f (ix2 (row (bt t.val) r) (col' (hd t.val) k))) : (dat0 V c).arrAt 5 cfg0.N = f := by
  apply Dat.arrAt_eq_of_cover
  · intro t _
    funext y
    obtain ⟨r, l, rfl⟩ : ∃ (r : Fin 2048) (l : Fin 128), y = ix2 r l := ⟨y 0, y 1, eq_ix2 y⟩
    refine Eq.trans ?_ (congrArg f (emb0_5 t r l).symm)
    show (cfg0.win 5).cut (grid0.coords t) ((dat0 V c).after 5 t) _ = _
    rw [after0_5]
    exact h t r l
  · exact (by decide +kernel : (cfg0.win 5).Covers).cover _ (Memref.isWhole_whole _)

theorem read0_5 (c : Dev nD) (G : Fin 2 → Fin 8 → Fin 2048 → Fin 128 → EReal)
    (hG : ∀ (t : Fin cfg0.N) (r : Fin 2048) (k : Fin 128), (outsAt0 V c t).1 (ix2 r k) = G (bt t.val) (hd t.val) r k) (b : Fin 2) (h : Fin 8) (i : Fin 2048) (k : Fin 128) :
    (dat0 V c).arrAt 5 cfg0.N (ix2 (row b i) (col' h k)) = G b h i k := by
  have e : ∀ (b : Fin 2) (h : Fin 8) (i : Fin 2048) (k : Fin 128), G (bOf (row (b) i)) (hOf' (col' (h) k)) (rOf (row (b) i)) (dOf' (col' (h) k)) = G b h i k := by
    intros
    simp only [bOf_row, rOf_row, hOf'_col, dOf'_col]
  exact (congrFun (array0_5 V c (fun x => G (bOf (x 0)) (hOf' (x 1)) (rOf (x 0)) (dOf' (x 1))) (fun t r k => (hG t r k).trans (e _ _ r k).symm)) _).trans (e b h i k)

/-- Output 6 of call 0, from what its grid points leave. -/
theorem array0_6 (c : Dev nD) (f : S8x4096x1.Idx → EReal)
    (h : ∀ (t : Fin cfg0.N) (r : Fin 2048), (outsAt0 V c t).2.1 (ix3 0 r 0) = f (ix3 (hd t.val) (row (bt t.val) r) 0)) : (dat0 V c).arrAt 6 cfg0.N = f := by
  apply Dat.arrAt_eq_of_cover
  · intro t _
    funext y
    obtain ⟨r, rfl⟩ : ∃ r : Fin 2048, y = ix3 0 r 0 := ⟨y 1, by funext a; fin_cases a <;> first | rfl | exact Fin.ext (Nat.lt_one_iff.mp (y 0).isLt) | exact Fin.ext (Nat.lt_one_iff.mp (y 2).isLt)⟩
    refine Eq.trans ?_ (congrArg f (emb0_6 t r).symm)
    show (cfg0.win 6).cut (grid0.coords t) ((dat0 V c).after 6 t) _ = _
    rw [after0_6]
    exact h t r
  · exact (by decide +kernel : (cfg0.win 6).Covers).cover _ (Memref.isWhole_whole _)

theorem read0_6 (c : Dev nD) (G : Fin 2 → Fin 8 → Fin 2048 → EReal)
    (hG : ∀ (t : Fin cfg0.N) (r : Fin 2048), (outsAt0 V c t).2.1 (ix3 0 r 0) = G (bt t.val) (hd t.val) r) (b : Fin 2) (h : Fin 8) (i : Fin 2048) :
    (dat0 V c).arrAt 6 cfg0.N (ix3 h (row b i) 0) = G b h i := by
  have e : ∀ (b : Fin 2) (h : Fin 8) (i : Fin 2048), G (bOf (row (b) i)) (h) (rOf (row (b) i)) = G b h i := by
    intros
    simp only [bOf_row, rOf_row]
  exact (congrFun (array0_6 V c (fun x => G (bOf (x 1)) (x 0) (rOf (x 1))) (fun t r => (hG t r).trans (e _ _ r).symm)) _).trans (e b h i)

/-- Output 7 of call 0, from what its grid points leave. -/
theorem array0_7 (c : Dev nD) (f : S4096x2048.Idx → EReal)
    (h : ∀ (t : Fin cfg0.N) (r : Fin 2048) (k : Fin 256), (outsAt0 V c t).2.2 (ix2 r k) = f (ix2 (row (bt t.val) r) (col (hd t.val) k))) : (dat0 V c).arrAt 7 cfg0.N = f := by
  apply Dat.arrAt_eq_of_cover
  · intro t _
    funext y
    obtain ⟨r, l, rfl⟩ : ∃ (r : Fin 2048) (l : Fin 256), y = ix2 r l := ⟨y 0, y 1, eq_ix2 y⟩
    refine Eq.trans ?_ (congrArg f (emb0_7 t r l).symm)
    show (cfg0.win 7).cut (grid0.coords t) ((dat0 V c).after 7 t) _ = _
    rw [after0_7]
    exact h t r l
  · exact (by decide +kernel : (cfg0.win 7).Covers).cover _ (Memref.isWhole_whole _)

theorem read0_7 (c : Dev nD) (G : Fin 2 → Fin 8 → Fin 2048 → Fin 256 → EReal)
    (hG : ∀ (t : Fin cfg0.N) (r : Fin 2048) (k : Fin 256), (outsAt0 V c t).2.2 (ix2 r k) = G (bt t.val) (hd t.val) r k) (b : Fin 2) (h : Fin 8) (i : Fin 2048) (k : Fin 256) :
    (dat0 V c).arrAt 7 cfg0.N (ix2 (row b i) (col h k)) = G b h i k := by
  have e : ∀ (b : Fin 2) (h : Fin 8) (i : Fin 2048) (k : Fin 256), G (bOf (row (b) i)) (hOf (col (h) k)) (rOf (row (b) i)) (kOf (col (h) k)) = G b h i k := by
    intros
    simp only [bOf_row, rOf_row, hOf_col, kOf_col]
  exact (congrFun (array0_7 V c (fun x => G (bOf (x 0)) (hOf (x 1)) (rOf (x 0)) (kOf (x 1))) (fun t r k => (hG t r k).trans (e _ _ r k).symm)) _).trans (e b h i k)

/-- Output 8 of call 1, from what its grid points leave. -/
theorem array1_8 (c : Dev nD) (f : S4096x2048.Idx → EReal)
    (h : ∀ (t : Fin cfg1.N) (r : Fin 2048) (k : Fin 256), (outsAt1 V c t.val t.isLt).1 (ix2 r k) = f (ix2 (row (bt t.val) r) (col (hd t.val) k))) : (dat1 V c).arrAt 8 cfg1.N = f := by
  apply Dat.arrAt_eq_of_cover
  · intro t _
    funext y
    obtain ⟨r, l, rfl⟩ : ∃ (r : Fin 2048) (l : Fin 256), y = ix2 r l := ⟨y 0, y 1, eq_ix2 y⟩
    refine Eq.trans ?_ (congrArg f (emb1_8 t r l).symm)
    show (cfg1.win 8).cut (grid1.coords t) ((dat1 V c).after 8 t) _ = _
    rw [after1_8]
    exact h t r l
  · exact (by decide +kernel : (cfg0.win 7).Covers).cover _ (Memref.isWhole_whole _)

theorem read1_8 (c : Dev nD) (G : Fin 2 → Fin 8 → Fin 2048 → Fin 256 → EReal)
    (hG : ∀ (t : Fin cfg1.N) (r : Fin 2048) (k : Fin 256), (outsAt1 V c t.val t.isLt).1 (ix2 r k) = G (bt t.val) (hd t.val) r k) (b : Fin 2) (h : Fin 8) (i : Fin 2048) (k : Fin 256) :
    (dat1 V c).arrAt 8 cfg1.N (ix2 (row b i) (col h k)) = G b h i k := by
  have e : ∀ (b : Fin 2) (h : Fin 8) (i : Fin 2048) (k : Fin 256), G (bOf (row (b) i)) (hOf (col (h) k)) (rOf (row (b) i)) (kOf (col (h) k)) = G b h i k := by
    intros
    simp only [bOf_row, rOf_row, hOf_col, kOf_col]
  exact (congrFun (array1_8 V c (fun x => G (bOf (x 0)) (hOf (x 1)) (rOf (x 0)) (kOf (x 1))) (fun t r k => (hG t r k).trans (e _ _ r k).symm)) _).trans (e b h i k)

/-- Output 9 of call 1, from what its grid points leave. -/
theorem array1_9 (c : Dev nD) (f : S4096x2048.Idx → EReal)
    (h : ∀ (t : Fin cfg1.N) (r : Fin 2048) (k : Fin 256), (outsAt1 V c t.val t.isLt).2.1 (ix2 r k) = f (ix2 (row (bt t.val) r) (col (hd t.val) k))) : (dat1 V c).arrAt 9 cfg1.N = f := by
  apply Dat.arrAt_eq_of_cover
  · intro t _
    funext y
    obtain ⟨r, l, rfl⟩ : ∃ (r : Fin 2048) (l : Fin 256), y = ix2 r l := ⟨y 0, y 1, eq_ix2 y⟩
    refine Eq.trans ?_ (congrArg f (emb1_9 t r l).symm)
    show (cfg1.win 9).cut (grid1.coords t) ((dat1 V c).after 9 t) _ = _
    rw [after1_9]
    exact h t r l
  · exact (by decide +kernel : (cfg0.win 7).Covers).cover _ (Memref.isWhole_whole _)

theorem read1_9 (c : Dev nD) (G : Fin 2 → Fin 8 → Fin 2048 → Fin 256 → EReal)
    (hG : ∀ (t : Fin cfg1.N) (r : Fin 2048) (k : Fin 256), (outsAt1 V c t.val t.isLt).2.1 (ix2 r k) = G (bt t.val) (hd t.val) r k) (b : Fin 2) (h : Fin 8) (i : Fin 2048) (k : Fin 256) :
    (dat1 V c).arrAt 9 cfg1.N (ix2 (row b i) (col h k)) = G b h i k := by
  have e : ∀ (b : Fin 2) (h : Fin 8) (i : Fin 2048) (k : Fin 256), G (bOf (row (b) i)) (hOf (col (h) k)) (rOf (row (b) i)) (kOf (col (h) k)) = G b h i k := by
    intros
    simp only [bOf_row, rOf_row, hOf_col, kOf_col]
  exact (congrFun (array1_9 V c (fun x => G (bOf (x 0)) (hOf (x 1)) (rOf (x 0)) (kOf (x 1))) (fun t r k => (hG t r k).trans (e _ _ r k).symm)) _).trans (e b h i k)

/-- Output 10 of the backward call, from what the last head of each batch entry leaves. -/
theorem array1_10 (c : Dev nD) (f : S4096x128.Idx → EReal)
    (h : ∀ (t : Fin cfg1.N) (_ : t.val % 8 = 7) (r : Fin 2048) (k : Fin 128),
      (outsAt1 V c t.val t.isLt).2.2 (ix2 r k) = f (ix2 (row (bt t.val) r) k)) : (dat1 V c).arrAt 10 cfg1.N = f := by
  apply Dat.arrAt_eq_of_cover
  · intro t hf
    funext y
    obtain ⟨r, l, rfl⟩ : ∃ (r : Fin 2048) (l : Fin 128), y = ix2 r l := ⟨y 0, y 1, eq_ix2 y⟩
    refine Eq.trans ?_ (congrArg f (emb1_10 t r l).symm)
    show (cfg1.win 10).cut (grid1.coords t) ((dat1 V c).after 10 t) _ = _
    rw [after1_10]
    exact h t ((flush1_10 t).mp hf) r l
  · exact (by decide +kernel : (cfg1.win 10).Covers).cover _ (Memref.isWhole_whole _)

end Cert.AttnBlocks
-- ==== Proof.AttnFwd.lean ====
module

public import proofs.«01_k».proof.Proof.Gen.KernelAttnIdeal.Frame
public import proofs.«01_k».proof.Proof.Pieces
public import proofs.«01_k».proof.Proof.AttnMath

@[expose] public section

set_option maxRecDepth 16384

noncomputable section

namespace Cert.AttnFwd

open Cert.KernelAttnIdeal Cert.KernelAttnIdeal.Gen Idealize.ShloMosaic Idealize.ShloMosaic.TcCoe Idealize.SL.Sem
open Idealize.ShloMosaic.Pipeline (Dat)

attribute [local pointwise]
  k0_pay1 k0_pay2 k0_pay3 k0_pay4 k0_pay5 k0_pay6 k0_pay7 k0_pay8 k0_pay9 k0_pay10 k0_pay11 k0_pay12 k0_pay13
  k0_pay14 k0_pay15 k0_pay16 k0_pay17 k0_pay18 k0_pay19 k0_pay20 k0_pay21 k0_pay22 k0_pay23 k0_pay24 k0_pay25
  k0_pay26 k0_pay27 k0_pay28 k0_pay29 k0_pay30 k0_pay31 k0_pay32 k0_pay33 k0_pay34 k0_pay35 k0_pay36 k0_pay37
  k0_pay38 k0_pay39 k0_pay40 k0_pay41 k0_pay42 k0_pay43 k0_pay44 k0_pay45 k0_pay46 k0_pay47 k0_pay48 k0_pay49
  k0_pay50 k0_pay51 k0_pay52 k0_pay53 k0_pay54 k0_pay55 k0_pay56 k0_pay57 k0_pay58 k0_pay59 k0_pay60 k0_pay61
  k0_pay62 k0_pay63 k0_pay64 k0_pay65 k0_pay66 k0_pay67 k0_pay68 k0_pay69 k0_pay70 k0_pay71 k0_pay72 k0_pay73
  k0_pay74 k0_pay75 k0_pay76 k0_pay77 k0_pay78 k0_pay79 k0_pay80 k0_pay81 k0_pay82 k0_pay83 k0_pay84 k0_pay85
  k0_pay86 k0_pay87 k0_pay88

variable (c : Dev nD) (i : grid0.Coords)
  (arg2 : Memref sig .tc .vmem S2048x256 .f32) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S1x2048x1 .f32) (harg8 : arg8.IsWhole) (arg9 : Memref sig .tc .vmem S2048x256 .bf16) (harg9 : arg9.IsWhole)
  (x0 : Vec Ideal S2048x256 .f32) (x1 : Vec Ideal S2048x256 .bf16) (x2 : Vec Ideal S2048x128 .bf16) (x3 : Vec Ideal S2048x128 .f32) (x4 : Vec Ideal S2048x128 .f32)

/-- The queries, scaled and rotated, as the kernel stores them. -/
def Q : S2048x256.Idx → EReal :=
  View.canon (Val := Elt Ideal) (s := S2048x256) (e := .bf16)
    [⟨Rect.unit ![0, 128] ![2048, 128] inb_S2048x256_S2048x128_0_128,
      k0_pay4 (F := Ideal) (View.ld x0 (Rect.unit ![0, 128] ![2048, 128] inb_S2048x256_S2048x128_0_128))
        (View.ld x3 (Rect.unit ![0, 0] ![2048, 128] inb_S2048x128_S2048x128_0_0))
        (View.ld x4 (Rect.unit ![0, 0] ![2048, 128] inb_S2048x128_S2048x128_0_0))⟩,
     ⟨Rect.unit ![0, 0] ![2048, 128] inb_S2048x256_S2048x128_0_0,
      k0_pay3 (F := Ideal) (View.ld x0 (Rect.unit ![0, 0] ![2048, 128] inb_S2048x256_S2048x128_0_0))⟩]

/-- The number the scores of later keys are replaced by. -/
def mask : Ideal .f32 := Named.named κ "mask" 4048155338#32

/-- The score of a query with a key: the part without positions, and the rotated part. -/
def score (qs kv : S2048x256.Idx → EReal) (kr : S2048x128.Idx → EReal) (i j : Fin 2048) : EReal :=
  ∑ x : Fin 128, qs (ix2 i ⟨x.val, by omega⟩) * kv (ix2 j ⟨x.val, by omega⟩)
    + ∑ x : Fin 128, qs (ix2 i ⟨128 + x.val, by omega⟩) * kr (ix2 j x)

/-- The values of the keys. -/
def value (kv : S2048x256.Idx → EReal) (j : Fin 2048) (d : Fin 128) : EReal := kv (ix2 j ⟨128 + d.val, by omega⟩)

theorem out_o (q : Fin 8) (r : Fin 256) (d : Fin 128) :
    out0_A_5 c i arg2 harg2 arg3 harg3 arg4 harg4 arg5 harg5 arg6 harg6 arg7 harg7 arg8 harg8 arg9 harg9 x0 x1 x2 x3 x4 (ix2 ⟨256 * q.val + r.val, by omega⟩ d)
      = if q = 0 then
          Ideal.div (Cert.Attn.num0 (score (Q x0 x3 x4) x1 x2) (value x1) mask 0 (by omega) r d
              (Cert.Attn.top0 (score (Q x0 x3 x4) x1 x2) mask 0 (by omega) r))
            (Cert.Attn.den0 (score (Q x0 x3 x4) x1 x2) mask 0 (by omega) r
              (Cert.Attn.top0 (score (Q x0 x3 x4) x1 x2) mask 0 (by omega) r))
        else
          Ideal.div (Cert.Attn.num (score (Q x0 x3 x4) x1 x2) (value x1) mask (256 * q.val) (by omega) r d
              (Cert.Attn.top (score (Q x0 x3 x4) x1 x2) mask (256 * q.val) (by omega) r))
            (Cert.Attn.den (score (Q x0 x3 x4) x1 x2) mask (256 * q.val) (by omega) r
              (Cert.Attn.top (score (Q x0 x3 x4) x1 x2) mask (256 * q.val) (by omega) r)) := by
  unfold out0_A_5 kernelRun0_A Q
  dsimp only
  sl_unfold_words
  simp only [View.readAt_eq_ld, Memref.IsWhole.read_unread, View.readCov_eq_canon']
  rw [View.read_writes_junk_eq_canon]
  fin_cases q
  all_goals
    repeat (refine (Cert.Pieces.canon_miss_row _ _ _ _ _ (Or.inl ?_)).trans ?_; · (simp <;> omega))
    refine (Cert.Pieces.canon_hit _ _ _ _ (ix2 r d)).trans ?_
    generalize View.canon (Val := Elt Ideal) (s := S2048x256) (e := .bf16) _ = qs
    pointwise
  · unfold Cert.Attn.num0 Cert.Attn.den0 Cert.Attn.top0 Cert.Attn.own
    simp [score, value, mask]
  all_goals rfl

theorem out_lse (q : Fin 8) (r : Fin 256)  :
    out0_A_6 c i arg2 harg2 arg3 harg3 arg4 harg4 arg5 harg5 arg6 harg6 arg7 harg7 arg8 harg8 arg9 harg9 x0 x1 x2 x3 x4 (ix3 0 ⟨256 * q.val + r.val, by omega⟩ 0)
      = if q = 0 then
          Cert.Attn.top0 (score (Q x0 x3 x4) x1 x2) mask 0 (by omega) r
            + Ideal.log (Cert.Attn.den0 (score (Q x0 x3 x4) x1 x2) mask 0 (by omega) r
              (Cert.Attn.top0 (score (Q x0 x3 x4) x1 x2) mask 0 (by omega) r))
        else
          Cert.Attn.top (score (Q x0 x3 x4) x1 x2) mask (256 * q.val) (by omega) r
            + Ideal.log (Cert.Attn.den (score (Q x0 x3 x4) x1 x2) mask (256 * q.val) (by omega) r
              (Cert.Attn.top (score (Q x0 x3 x4) x1 x2) mask (256 * q.val) (by omega) r)) := by
  unfold out0_A_6 kernelRun0_A Q
  dsimp only
  sl_unfold_words
  simp only [View.readAt_eq_ld, Memref.IsWhole.read_unread, View.readCov_eq_canon']
  rw [View.read_writes_junk_eq_canon]
  fin_cases q
  all_goals
    repeat (refine (Cert.Pieces.canon_miss_mid _ _ _ _ _ _ (Or.inl ?_)).trans ?_; · (simp <;> omega))
    refine (Cert.Pieces.canon_hit _ _ _ _ (ix3 0 r 0)).trans ?_
    generalize View.canon (Val := Elt Ideal) (s := S2048x256) (e := .bf16) _ = qs
    pointwise
  · unfold Cert.Attn.den0 Cert.Attn.top0 Cert.Attn.own
    simp [score, mask]
  all_goals rfl

/-- The columns without positions are the queries times the scale. -/
theorem Q_nope (i : Fin 2048) (k : Fin 128) :
    Q x0 x3 x4 (ix2 i ⟨k.val, by omega⟩) = x0 (ix2 i ⟨k.val, by omega⟩) * Ideal.ofBits FTy.f32 0x3D93CD3A#32 := by
  unfold Q
  refine (Cert.Pieces.canon_miss_col _ _ _ _ _ (Or.inl (by simp <;> omega))).trans ?_
  refine (Cert.Pieces.canon_hit _ _ _ _ (ix2 i k)).trans ?_
  pointwise [k0_pay3]

/-- The columns with positions are the rotated queries times the scale. -/
theorem Q_rope (i : Fin 2048) (k : Fin 128) :
    Q x0 x3 x4 (ix2 i ⟨128 + k.val, by omega⟩)
      = x0 (ix2 i ⟨128 + k.val, by omega⟩) * (x3 (ix2 i k) * Ideal.ofBits FTy.f32 0x3D93CD3A#32)
        + (if k.val < 32 then x0 (ix2 i ⟨128 + (k.val + 128 - 96) % 128, by omega⟩)
            else x0 (ix2 i ⟨128 + (k.val + 128 - 32) % 128, by omega⟩))
          * (x4 (ix2 i k) * Ideal.ofBits FTy.f32 0x3D93CD3A#32) := by
  unfold Q
  refine (Cert.Pieces.canon_hit _ _ _ _ (ix2 i k)).trans ?_
  pointwise [k0_pay4]
  rw [Cert.RealLift.select_lt k.val 32 (by omega) (by omega)]

theorem out_q : out0_A_7 c i arg2 harg2 arg3 harg3 arg4 harg4 arg5 harg5 arg6 harg6 arg7 harg7 arg8 harg8 arg9 harg9 x0 x1 x2 x3 x4
    = Q x0 x3 x4 := by
  unfold out0_A_7 kernelRun0_A Q
  dsimp only
  sl_unfold_words
  simp only [View.readAt_eq_ld, Memref.IsWhole.read_unread]
  rw [View.read_writes_junk_eq_canon]

end Cert.AttnFwd

end
-- ==== Proof.AttnScratch.lean ====
/-
  The gradient's two scratch matrices: four query blocks add to the rows of their own keys and of the keys before them, each
  on top of what the blocks before left.
-/
module

public import proofs.«01_k».proof.Proof.Pieces
public import proofs.«01_k».proof.Proof.RealLift

@[expose] public section

noncomputable section

namespace Cert.AttnScratch

open Idealize.ShloMosaic Cert.Pieces

variable {C : ℕ}

abbrev Mat (C : ℕ) : Shape := Shape.mk 2 ![2048, C]

/-- A store to the rows from `o` on, read in one of these rows. -/
theorem canon_rows {o n : ℕ} (inb : ∀ a, (![o, 0] : Fin 2 → ℕ) a + (![n, C] : Fin 2 → ℕ) a ≤ (Mat C).size a)
    (w : (Rect.unit (s := Mat C) ![o, 0] ![n, C] inb).shape.Idx → EReal)
    (L : List (View.Piece (Elt Ideal) (Mat C) .f32)) (i : Fin 2048) (x : Fin n) (k : Fin C) (h : i.val = o + x.val) :
    View.canon (Val := Elt Ideal) (e := .f32) (⟨Rect.unit (s := Mat C) ![o, 0] ![n, C] inb, w⟩ :: L) (ix2 i k) = w (ix2 x k) := by
  refine canon_hit (Val := Elt Ideal) (e := .f32) inb w L (ix2 i k) (ix2 x k) ?_
  intro a
  fin_cases a
  · exact h
  · exact (Nat.zero_add _).symm

/-- A store to other rows. -/
theorem canon_others {o n : ℕ} (inb : ∀ a, (![o, 0] : Fin 2 → ℕ) a + (![n, C] : Fin 2 → ℕ) a ≤ (Mat C).size a)
    (w : (Rect.unit (s := Mat C) ![o, 0] ![n, C] inb).shape.Idx → EReal)
    (L : List (View.Piece (Elt Ideal) (Mat C) .f32)) (i : Fin 2048) (k : Fin C) (h : i.val < o ∨ o + n ≤ i.val) :
    View.canon (Val := Elt Ideal) (e := .f32) (⟨Rect.unit (s := Mat C) ![o, 0] ![n, C] inb, w⟩ :: L) (ix2 i k)
      = View.canon (Val := Elt Ideal) (e := .f32) L (ix2 i k) :=
  canon_miss_row (Val := Elt Ideal) (e := .f32) inb w L i k h

section Step

variable (t : Fin 4 → Fin 2048 → Fin C → ℝ) (ht : ∀ q j k, 512 * (q.val + 1) ≤ j.val → t q j k = 0)

include ht

/-- One query block's two stores: every row grows by the block's part. -/
theorem step (q : Fin 4) {o n : ℕ} (ho : o = 512 * q.val) (hn : n = 512 * q.val)
    (inbP : ∀ a, (![0, 0] : Fin 2 → ℕ) a + (![n, C] : Fin 2 → ℕ) a ≤ (Mat C).size a)
    (inbD : ∀ a, (![o, 0] : Fin 2 → ℕ) a + (![512, C] : Fin 2 → ℕ) a ≤ (Mat C).size a)
    (wP : (Rect.unit (s := Mat C) ![0, 0] ![n, C] inbP).shape.Idx → EReal)
    (wD : (Rect.unit (s := Mat C) ![o, 0] ![512, C] inbD).shape.Idx → EReal)
    (L : List (View.Piece (Elt Ideal) (Mat C) .f32)) (f : Fin 2048 → Fin C → ℝ)
    (hD : ∀ (x : Fin 512) (k : Fin C), wD (ix2 x k)
      = View.canon (Val := Elt Ideal) (e := .f32) L (ix2 ⟨o + x.val, by have := q.isLt; omega⟩ k)
        + (t q ⟨o + x.val, by have := q.isLt; omega⟩ k : EReal))
    (hP : ∀ (x : Fin n) (k : Fin C), wP (ix2 x k)
      = View.canon (Val := Elt Ideal) (e := .f32) (⟨Rect.unit (s := Mat C) ![o, 0] ![512, C] inbD, wD⟩ :: L)
          (ix2 ⟨x.val, by have := q.isLt; omega⟩ k) + (t q ⟨x.val, by have := q.isLt; omega⟩ k : EReal))
    (hL : ∀ j k, View.canon (Val := Elt Ideal) (e := .f32) L (ix2 j k) = (f j k : EReal)) (j : Fin 2048) (k : Fin C) :
    View.canon (Val := Elt Ideal) (e := .f32) (⟨Rect.unit (s := Mat C) ![0, 0] ![n, C] inbP, wP⟩
        :: ⟨Rect.unit (s := Mat C) ![o, 0] ![512, C] inbD, wD⟩ :: L) (ix2 j k) = ((f j k + t q j k : ℝ) : EReal) := by
  by_cases h1 : j.val < n
  · rw [canon_rows inbP wP _ j ⟨j.val, h1⟩ k (Nat.zero_add _).symm, hP]
    rw [canon_others inbD wD L _ k (Or.inl (by show j.val < o; omega)), hL, EReal.coe_add]
  · rw [canon_others inbP wP _ j k (Or.inr (by omega))]
    by_cases h2 : j.val < o + 512
    · have e : (⟨o + (j.val - o), by omega⟩ : Fin 2048) = j := Fin.ext (by show o + (j.val - o) = j.val; omega)
      rw [canon_rows inbD wD L j ⟨j.val - o, by omega⟩ k (by show j.val = o + (j.val - o); omega), hD]
      simp only [e]
      rw [hL, EReal.coe_add]
    · rw [canon_others inbD wD L j k (Or.inr (by omega)), hL, ht q j k (by omega), add_zero]

/-- All four query blocks on top of zeros. -/
theorem total (i0 i1 i1' i2 i2' i3 i3' iz)
    (wz : (Rect.unit (s := Mat C) ![0, 0] ![2048, C] iz).shape.Idx → EReal)
    (w0 : (Rect.unit (s := Mat C) ![0, 0] ![512, C] i0).shape.Idx → EReal)
    (w1 : (Rect.unit (s := Mat C) ![512, 0] ![512, C] i1).shape.Idx → EReal)
    (w1' : (Rect.unit (s := Mat C) ![0, 0] ![512, C] i1').shape.Idx → EReal)
    (w2 : (Rect.unit (s := Mat C) ![1024, 0] ![512, C] i2).shape.Idx → EReal)
    (w2' : (Rect.unit (s := Mat C) ![0, 0] ![1024, C] i2').shape.Idx → EReal)
    (w3 : (Rect.unit (s := Mat C) ![1536, 0] ![512, C] i3).shape.Idx → EReal)
    (w3' : (Rect.unit (s := Mat C) ![0, 0] ![1536, C] i3').shape.Idx → EReal)
    (hz : ∀ (x : Fin 2048) (k : Fin C), wz (ix2 x k) = 0)
    (h0 : ∀ (x : Fin 512) (k : Fin C), w0 (ix2 x k)
      = View.canon (Val := Elt Ideal) (e := .f32) [⟨Rect.unit (s := Mat C) ![0, 0] ![2048, C] iz, wz⟩] (ix2 ⟨x.val, by omega⟩ k)
        + (t 0 ⟨x.val, by omega⟩ k : EReal))
    (h1 : ∀ (x : Fin 512) (k : Fin C), w1 (ix2 x k)
      = View.canon (Val := Elt Ideal) (e := .f32) [⟨Rect.unit (s := Mat C) ![0, 0] ![512, C] i0, w0⟩,
          ⟨Rect.unit (s := Mat C) ![0, 0] ![2048, C] iz, wz⟩] (ix2 ⟨512 + x.val, by omega⟩ k)
        + (t 1 ⟨512 + x.val, by omega⟩ k : EReal))
    (h1' : ∀ (x : Fin 512) (k : Fin C), w1' (ix2 x k)
      = View.canon (Val := Elt Ideal) (e := .f32) [⟨Rect.unit (s := Mat C) ![512, 0] ![512, C] i1, w1⟩,
          ⟨Rect.unit (s := Mat C) ![0, 0] ![512, C] i0, w0⟩, ⟨Rect.unit (s := Mat C) ![0, 0] ![2048, C] iz, wz⟩]
          (ix2 ⟨x.val, by omega⟩ k) + (t 1 ⟨x.val, by omega⟩ k : EReal))
    (h2 : ∀ (x : Fin 512) (k : Fin C), w2 (ix2 x k)
      = View.canon (Val := Elt Ideal) (e := .f32) [⟨Rect.unit (s := Mat C) ![0, 0] ![512, C] i1', w1'⟩,
          ⟨Rect.unit (s := Mat C) ![512, 0] ![512, C] i1, w1⟩,
          ⟨Rect.unit (s := Mat C) ![0, 0] ![512, C] i0, w0⟩, ⟨Rect.unit (s := Mat C) ![0, 0] ![2048, C] iz, wz⟩]
          (ix2 ⟨1024 + x.val, by omega⟩ k) + (t 2 ⟨1024 + x.val, by omega⟩ k : EReal))
    (h2' : ∀ (x : Fin 1024) (k : Fin C), w2' (ix2 x k)
      = View.canon (Val := Elt Ideal) (e := .f32) [⟨Rect.unit (s := Mat C) ![1024, 0] ![512, C] i2, w2⟩,
          ⟨Rect.unit (s := Mat C) ![0, 0] ![512, C] i1', w1'⟩, ⟨Rect.unit (s := Mat C) ![512, 0] ![512, C] i1, w1⟩,
          ⟨Rect.unit (s := Mat C) ![0, 0] ![512, C] i0, w0⟩, ⟨Rect.unit (s := Mat C) ![0, 0] ![2048, C] iz, wz⟩]
          (ix2 ⟨x.val, by omega⟩ k) + (t 2 ⟨x.val, by omega⟩ k : EReal))
    (h3 : ∀ (x : Fin 512) (k : Fin C), w3 (ix2 x k)
      = View.canon (Val := Elt Ideal) (e := .f32) [⟨Rect.unit (s := Mat C) ![0, 0] ![1024, C] i2', w2'⟩,
          ⟨Rect.unit (s := Mat C) ![1024, 0] ![512, C] i2, w2⟩,
          ⟨Rect.unit (s := Mat C) ![0, 0] ![512, C] i1', w1'⟩, ⟨Rect.unit (s := Mat C) ![512, 0] ![512, C] i1, w1⟩,
          ⟨Rect.unit (s := Mat C) ![0, 0] ![512, C] i0, w0⟩, ⟨Rect.unit (s := Mat C) ![0, 0] ![2048, C] iz, wz⟩]
          (ix2 ⟨1536 + x.val, by omega⟩ k) + (t 3 ⟨1536 + x.val, by omega⟩ k : EReal))
    (h3' : ∀ (x : Fin 1536) (k : Fin C), w3' (ix2 x k)
      = View.canon (Val := Elt Ideal) (e := .f32) [⟨Rect.unit (s := Mat C) ![1536, 0] ![512, C] i3, w3⟩,
          ⟨Rect.unit (s := Mat C) ![0, 0] ![1024, C] i2', w2'⟩, ⟨Rect.unit (s := Mat C) ![1024, 0] ![512, C] i2, w2⟩,
          ⟨Rect.unit (s := Mat C) ![0, 0] ![512, C] i1', w1'⟩, ⟨Rect.unit (s := Mat C) ![512, 0] ![512, C] i1, w1⟩,
          ⟨Rect.unit (s := Mat C) ![0, 0] ![512, C] i0, w0⟩, ⟨Rect.unit (s := Mat C) ![0, 0] ![2048, C] iz, wz⟩]
          (ix2 ⟨x.val, by omega⟩ k) + (t 3 ⟨x.val, by omega⟩ k : EReal))
    (j : Fin 2048) (k : Fin C) :
    View.canon (Val := Elt Ideal) (e := .f32) [⟨Rect.unit (s := Mat C) ![0, 0] ![1536, C] i3', w3'⟩,
        ⟨Rect.unit (s := Mat C) ![1536, 0] ![512, C] i3, w3⟩,
        ⟨Rect.unit (s := Mat C) ![0, 0] ![1024, C] i2', w2'⟩, ⟨Rect.unit (s := Mat C) ![1024, 0] ![512, C] i2, w2⟩,
        ⟨Rect.unit (s := Mat C) ![0, 0] ![512, C] i1', w1'⟩, ⟨Rect.unit (s := Mat C) ![512, 0] ![512, C] i1, w1⟩,
        ⟨Rect.unit (s := Mat C) ![0, 0] ![512, C] i0, w0⟩, ⟨Rect.unit (s := Mat C) ![0, 0] ![2048, C] iz, wz⟩]
        (ix2 j k) = ((∑ q : Fin 4, t q j k : ℝ) : EReal) := by
  have e0 : ∀ j k, View.canon (Val := Elt Ideal) (e := .f32) [⟨Rect.unit (s := Mat C) ![0, 0] ![2048, C] iz, wz⟩] (ix2 j k)
      = ((0 : ℝ) : EReal) := fun j k => (canon_rows iz wz _ j j k (Nat.zero_add _).symm).trans (hz j k)
  have e1 : ∀ j k, View.canon (Val := Elt Ideal) (e := .f32) [⟨Rect.unit (s := Mat C) ![0, 0] ![512, C] i0, w0⟩,
      ⟨Rect.unit (s := Mat C) ![0, 0] ![2048, C] iz, wz⟩] (ix2 j k) = ((0 + t 0 j k : ℝ) : EReal) := by
    intro j k
    by_cases h : j.val < 512
    · rw [canon_rows i0 w0 _ j ⟨j.val, h⟩ k (Nat.zero_add _).symm, h0, e0, EReal.coe_add]
    · rw [canon_others i0 w0 _ j k (Or.inr (by omega)), e0, ht 0 j k (by show 512 * (0 + 1) ≤ j.val; omega), add_zero]
  have e2 := step t ht 1 (o := 512) (n := 512) rfl rfl i1' i1 w1' w1 _ _ h1 h1' e1
  have e3 := step t ht 2 (o := 1024) (n := 1024) rfl rfl i2' i2 w2' w2 _ _ h2 h2' e2
  have e4 := step t ht 3 (o := 1536) (n := 1536) rfl rfl i3' i3 w3' w3 _ _ h3 h3' e3
  refine (e4 j k).trans ?_
  rw [EReal.coe_eq_coe_iff, Fin.sum_univ_four, zero_add]

end Step

end Cert.AttnScratch

end
-- ==== Proof.AttnBwd.lean ====
module

public import proofs.«01_k».proof.Proof.Gen.KernelAttnIdeal.Frame
public import proofs.«01_k».proof.Proof.Pieces
public import proofs.«01_k».proof.Proof.AttnMath
public import proofs.«01_k».proof.Proof.AttnFwd
public import proofs.«01_k».proof.Proof.AttnGrad
public import proofs.«01_k».proof.Proof.AttnScratch

@[expose] public section

set_option maxHeartbeats 2000000
set_option maxRecDepth 16384

noncomputable section

namespace Cert.AttnBwd

open Cert.KernelAttnIdeal Cert.KernelAttnIdeal.Gen Idealize.ShloMosaic Idealize.ShloMosaic.TcCoe Idealize.SL.Sem
open Idealize.ShloMosaic.Pipeline (Dat)

attribute [local pointwise]
  k1_pay1 k1_pay2 k1_pay3 k1_pay4 k1_pay5 k1_pay6 k1_pay7 k1_pay8 k1_pay9 k1_pay10 k1_pay11 k1_pay12 k1_pay13
  k1_pay14 k1_pay15 k1_pay16 k1_pay17 k1_pay18 k1_pay19 k1_pay20 k1_pay21 k1_pay22 k1_pay23 k1_pay24 k1_pay25
  k1_pay26 k1_pay27 k1_pay28 k1_pay29 k1_pay30 k1_pay31 k1_pay32 k1_pay33 k1_pay34 k1_pay35 k1_pay36 k1_pay37
  k1_pay38 k1_pay39 k1_pay40 k1_pay41 k1_pay42 k1_pay43 k1_pay44 k1_pay45 k1_pay46 k1_pay47 k1_pay48 k1_pay49
  k1_pay50 k1_pay51 k1_pay52 k1_pay53 k1_pay54 k1_pay55 k1_pay56 k1_pay57 k1_pay58 k1_pay59 k1_pay60 k1_pay61
  k1_pay62 k1_pay63 k1_pay64 k1_pay65 k1_pay66 k1_pay67 k1_pay68 k1_pay69 k1_pay70 k1_pay71 k1_pay72 k1_pay73
  k1_pay74 k1_pay75 k1_pay76 k1_pay77 k1_pay78 k1_pay79 k1_pay80 k1_pay81 k1_pay82 k1_pay83 k1_pay84 k1_pay85
  k1_pay86 k1_pay87 k1_pay88 k1_pay89

variable (c : Dev nD) (i : grid1.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x128 .f32) (harg14 : arg14.IsWhole) (hc0 : cond1_0 i)
    (x0 : Vec Ideal S2048x256 .bf16) (x1 : Vec Ideal S2048x256 .bf16) (x2 : Vec Ideal S2048x128 .bf16) (x3 : Vec Ideal S2048x128 .bf16) (x4 : Vec Ideal S2048x128 .bf16) (x5 : Vec Ideal S1x2048x1 .f32) (x6 : Vec Ideal S2048x128 .f32) (x7 : Vec Ideal S2048x128 .f32)

variable {sR : Fin 2048 → Fin 2048 → ℝ} {gR vR : Fin 2048 → Fin 128 → ℝ} {qR kR : Fin 2048 → Fin 256 → ℝ}
  (hs : ∀ i j, Cert.AttnFwd.score x0 x1 x2 i j = (sR i j : EReal))
  (hl : ∀ i, x5 (ix3 0 i 0) = (Real.log (Cert.Attn.Z sR i) : EReal))
  (hg : ∀ j d, x4 (ix2 j d) = (gR j d : EReal))
  (hv : ∀ j d, Cert.AttnFwd.value x1 j d = (vR j d : EReal))
  (hout : ∀ j d, x3 (ix2 j d) = (Cert.Attn.O sR vR j d : EReal))
  (hq : ∀ j d, x0 (ix2 j d) = (qR j d : EReal))
  (hb : Cert.AttnFwd.mask = ⊥)

include hs hl hg hb

theorem dv_part (r : Fin 2048) (d : Fin 128) : out1_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r ⟨128 + d.val, by omega⟩)
    = ((∑ i : Fin 2048, Cert.Attn.P sR i r * gR i d : ℝ) : EReal) := by
  rw [← Cert.Attn.part_sum (Cert.Attn.P sR) gR]
  unfold out1_A_9 kernelRun1_A
  dsimp only
  sl_unfold_words
  simp only [View.readAt_eq_ld, Memref.IsWhole.read_unread, View.readCov_eq_canon']
  rw [View.read_writes_junk_eq_canon]
  refine (Cert.Pieces.canon_hit _ _ _ _ (ix2 r d)).trans ?_
  generalize hacc : View.canon (Val := Elt Ideal) (s := S2048x128) (e := .f32) _ = acc
  pointwise
  subst hacc
  refine Cert.AttnScratch.total _ (Cert.Attn.part_later (Cert.Attn.P sR) (fun _ _ => Cert.Attn.P_later sR) gR)
    _ _ _ _ _ _ _ _ _ _ _ _ _ _ _ _ ?_ ?_ ?_ ?_ ?_ ?_ ?_ ?_ r d
  · intro x k
    pointwise
  all_goals
    intro x k
    generalize View.canon (Val := Elt Ideal) (s := S2048x128) (e := .f32) _ = acc
    pointwise
    refine congrArg (acc _ + ·) ?_
  · have e := Cert.Attn.part_coe (xR := gR) (q := 0) (k := k) (fun y => Cert.Attn.wOwn_eq hb hs hl 0 (by omega) y x)
      (fun y => hg _ k)
    simp only [Cert.Attn.wOwn, Fin.val_zero, mul_zero, zero_add] at e
    exact e
  · exact Cert.Attn.part_coe (xR := gR) (q := 1) (fun y => Cert.Attn.wOwn_eq hb hs hl 512 (by omega) y x) (fun y => hg _ k)
  · exact Cert.Attn.part_coe (xR := gR) (q := 1) (fun y => Cert.Attn.wBef_eq hs hl 512 (by omega) y ⟨x.val, by omega⟩ x.isLt) (fun y => hg _ k)
  · exact Cert.Attn.part_coe (xR := gR) (q := 2) (fun y => Cert.Attn.wOwn_eq hb hs hl 1024 (by omega) y x) (fun y => hg _ k)
  · exact Cert.Attn.part_coe (xR := gR) (q := 2) (fun y => Cert.Attn.wBef_eq hs hl 1024 (by omega) y ⟨x.val, by omega⟩ x.isLt) (fun y => hg _ k)
  · exact Cert.Attn.part_coe (xR := gR) (q := 3) (fun y => Cert.Attn.wOwn_eq hb hs hl 1536 (by omega) y x) (fun y => hg _ k)
  · exact Cert.Attn.part_coe (xR := gR) (q := 3) (fun y => Cert.Attn.wBef_eq hs hl 1536 (by omega) y ⟨x.val, by omega⟩ x.isLt) (fun y => hg _ k)

include hv hout hq

/-- The gradient in the keys: the part without positions, and the rotated part, which starts at zero for the first head and
    is added to for the others. -/
theorem dk_part (i2 : grid1.Coords) (hc2 : ¬cond1_0 i2) (xo10 : Vec Ideal S2048x128 .f32) (r : Fin 2048) (d : Fin 128) :
    out1_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r ⟨d.val, by omega⟩)
        = ((∑ i : Fin 2048, Cert.Attn.dS sR vR gR i r * qR i ⟨d.val, by omega⟩ : ℝ) : EReal)
    ∧ out1_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r d)
        = ((∑ i : Fin 2048, Cert.Attn.dS sR vR gR i r * qR i ⟨128 + d.val, by omega⟩ : ℝ) : EReal)
    ∧ out1_B_10 c i2 arg2 harg2 arg3 harg3 arg4 harg4 arg5 harg5 arg6 harg6 arg7 harg7 arg8 harg8 arg9 harg9 arg10 harg10 arg11 harg11 arg12 harg12 arg13 harg13 arg14 harg14 hc2 x0 x1 x2 x3 x4 x5 x6 x7 xo10 (ix2 r d)
        = xo10 (ix2 r d) + ((∑ i : Fin 2048, Cert.Attn.dS sR vR gR i r * qR i ⟨128 + d.val, by omega⟩ : ℝ) : EReal) := by
  simp only [← Cert.Attn.part_sum (Cert.Attn.dS sR vR gR) qR]
  have ht := Cert.Attn.part_later (Cert.Attn.dS sR vR gR) (fun _ _ => Cert.Attn.dS_later sR vR gR) qR
  refine ⟨?_, ?_, ?_⟩
  on_goal 3 =>
    unfold out1_B_10 kernelRun1_B
    dsimp only
    sl_unfold_words
    simp only [View.readAt_eq_ld, Memref.IsWhole.read_unread, View.readCov_eq_canon']
    rw [View.read_writes_junk_eq_canon]
    refine (Cert.Pieces.canon_hit _ _ _ _ (ix2 r d)).trans ?_
    generalize hacc : View.canon (Val := Elt Ideal) (s := S2048x256) (e := .f32) _ = acc
    pointwise
    subst hacc
    refine congrArg (xo10 _ + ·) (Cert.AttnScratch.total _ ht _ _ _ _ _ _ _ _ _ _ _ _ _ _ _ _ ?_ ?_ ?_ ?_ ?_ ?_ ?_ ?_ r _)
  on_goal 2 =>
    unfold out1_A_10 kernelRun1_A
    dsimp only
    sl_unfold_words
    simp only [View.readAt_eq_ld, Memref.IsWhole.read_unread, View.readCov_eq_canon']
    rw [View.read_writes_junk_eq_canon]
    refine (Cert.Pieces.canon_hit _ _ _ _ (ix2 r d)).trans ?_
    generalize hacc : View.canon (Val := Elt Ideal) (s := S2048x256) (e := .f32) _ = acc
    pointwise
    subst hacc
    refine (congrArg₂ (· + ·) (x' := 0) ?_ (Cert.AttnScratch.total _ ht _ _ _ _ _ _ _ _ _ _ _ _ _ _ _ _ ?_ ?_ ?_ ?_ ?_ ?_ ?_ ?_ r _)).trans (zero_add _)
    · refine (Cert.Pieces.canon_hit _ _ _ _ (ix2 r d)).trans ?_
      pointwise
  on_goal 1 =>
    unfold out1_A_9 kernelRun1_A
    dsimp only
    sl_unfold_words
    simp only [View.readAt_eq_ld, Memref.IsWhole.read_unread, View.readCov_eq_canon']
    rw [View.read_writes_junk_eq_canon]
    refine (Cert.Pieces.canon_miss_col _ _ _ _ _ (Or.inl (by simp <;> omega))).trans ?_
    refine (Cert.Pieces.canon_hit _ _ _ _ (ix2 r d)).trans ?_
    generalize hacc : View.canon (Val := Elt Ideal) (s := S2048x256) (e := .f32) _ = acc
    pointwise
    subst hacc
    refine Cert.AttnScratch.total _ ht _ _ _ _ _ _ _ _ _ _ _ _ _ _ _ _ ?_ ?_ ?_ ?_ ?_ ?_ ?_ ?_ r _
  all_goals
    intro x k
    first
    | (generalize View.canon (Val := Elt Ideal) (s := S2048x256) (e := .f32) _ = acc
       pointwise
       refine congrArg (acc _ + ·) ?_)
    | pointwise
  iterate 3
    · have e := Cert.Attn.part_coe (xR := qR) (q := 0) (k := k)
        (fun y => Cert.Attn.dOwn_eq hb hs hl hg hv hout 0 (by omega) y x) (fun y => hq _ k)
      simp only [Cert.Attn.wOwn, Cert.Attn.grow, Fin.val_zero, mul_zero, zero_add] at e
      exact e
    · exact Cert.Attn.part_coe (xR := qR) (q := 1) (fun y => Cert.Attn.dOwn_eq hb hs hl hg hv hout 512 (by omega) y x) (fun y => hq _ k)
    · exact Cert.Attn.part_coe (xR := qR) (q := 1) (fun y => Cert.Attn.dBef_eq hs hl hg hv hout 512 (by omega) y ⟨x.val, by omega⟩ x.isLt) (fun y => hq _ k)
    · exact Cert.Attn.part_coe (xR := qR) (q := 2) (fun y => Cert.Attn.dOwn_eq hb hs hl hg hv hout 1024 (by omega) y x) (fun y => hq _ k)
    · exact Cert.Attn.part_coe (xR := qR) (q := 2) (fun y => Cert.Attn.dBef_eq hs hl hg hv hout 1024 (by omega) y ⟨x.val, by omega⟩ x.isLt) (fun y => hq _ k)
    · exact Cert.Attn.part_coe (xR := qR) (q := 3) (fun y => Cert.Attn.dOwn_eq hb hs hl hg hv hout 1536 (by omega) y x) (fun y => hq _ k)
    · exact Cert.Attn.part_coe (xR := qR) (q := 3) (fun y => Cert.Attn.dBef_eq hs hl hg hv hout 1536 (by omega) y ⟨x.val, by omega⟩ x.isLt) (fun y => hq _ k)

omit hs hl hg hb hv hout hq in
/-- For the later heads the kernel does the same with the queries' gradient and with the one of keys and values. -/
theorem later_heads (i2 : grid1.Coords) (hc2 : ¬cond1_0 i2) (xo10 : Vec Ideal S2048x128 .f32) :
    out1_B_8 c i2 arg2 harg2 arg3 harg3 arg4 harg4 arg5 harg5 arg6 harg6 arg7 harg7 arg8 harg8 arg9 harg9 arg10 harg10 arg11 harg11 arg12 harg12 arg13 harg13 arg14 harg14 hc2 x0 x1 x2 x3 x4 x5 x6 x7 xo10 = out1_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7
    ∧ out1_B_9 c i2 arg2 harg2 arg3 harg3 arg4 harg4 arg5 harg5 arg6 harg6 arg7 harg7 arg8 harg8 arg9 harg9 arg10 harg10 arg11 harg11 arg12 harg12 arg13 harg13 arg14 harg14 hc2 x0 x1 x2 x3 x4 x5 x6 x7 xo10 = out1_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 := by
  constructor
  on_goal 1 => unfold out1_A_8 kernelRun1_A out1_B_8 kernelRun1_B
  on_goal 2 => unfold out1_A_9 kernelRun1_A out1_B_9 kernelRun1_B
  all_goals
    dsimp only
    sl_unfold_words
    simp only [View.readAt_eq_ld, Memref.IsWhole.read_unread, View.readCov_eq_canon']

variable (hk : ∀ (j : Fin 2048) (d : Fin 128), x1 (ix2 j ⟨d.val, by omega⟩) = (kR j ⟨d.val, by omega⟩ : EReal))
  (hr : ∀ (j : Fin 2048) (d : Fin 128), x2 (ix2 j d) = (kR j ⟨128 + d.val, by omega⟩ : EReal))

omit hq
include hk hr

/-- The gradient in the scaled and rotated queries. -/
def dQ (sR : Fin 2048 → Fin 2048 → ℝ) (vR gR : Fin 2048 → Fin 128 → ℝ) (kR : Fin 2048 → Fin 256 → ℝ) (i : Fin 2048)
    (k : Fin 256) : ℝ := ∑ j : Fin 2048, Cert.Attn.dS sR vR gR i j * kR j k

/-- The gradient in the queries: the part without positions, and the rotated part, rotated back. -/
theorem dq_part (q : Fin 4) (r : Fin 512) (d : Fin 128) :
    out1_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 ⟨512 * q.val + r.val, by omega⟩ ⟨d.val, by omega⟩)
        = (dQ sR vR gR kR ⟨512 * q.val + r.val, by omega⟩ ⟨d.val, by omega⟩ : EReal) * Ideal.ofBits FTy.f32 0x3D93CD3A#32
    ∧ out1_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 ⟨512 * q.val + r.val, by omega⟩ ⟨128 + d.val, by omega⟩)
        = (dQ sR vR gR kR ⟨512 * q.val + r.val, by omega⟩ ⟨128 + d.val, by omega⟩ : EReal)
            * (x6 (ix2 ⟨512 * q.val + r.val, by omega⟩ d) * Ideal.ofBits FTy.f32 0x3D93CD3A#32)
          + if d.val < 32 then
              (dQ sR vR gR kR ⟨512 * q.val + r.val, by omega⟩ ⟨128 + (d.val + 128 - 96) % 128, by omega⟩ : EReal)
                * (x7 (ix2 ⟨512 * q.val + r.val, by omega⟩ ⟨(d.val + 128 - 96) % 128, by omega⟩)
                  * Ideal.ofBits FTy.f32 0x3D93CD3A#32)
            else
              (dQ sR vR gR kR ⟨512 * q.val + r.val, by omega⟩ ⟨128 + (d.val + 128 - 32) % 128, by omega⟩ : EReal)
                * (x7 (ix2 ⟨512 * q.val + r.val, by omega⟩ ⟨(d.val + 128 - 32) % 128, by omega⟩)
                  * Ideal.ofBits FTy.f32 0x3D93CD3A#32) := by
  have en := fun (o : ℕ) (ho : o + 512 ≤ 2048) (k : Fin 128) =>
    Cert.Attn.row_coe (f := fun j => kR j ⟨k.val, by omega⟩) ho
      (fun j h => Cert.Attn.dS_later sR vR gR (i := ⟨o + r.val, by omega⟩) (by rw [Fin.le_def]; show ¬ j.val ≤ o + r.val; omega))
      (fun x => Cert.Attn.dOwn_eq hb hs hl hg hv hout o ho r x) (fun x => hk _ k)
      (fun x => Cert.Attn.dBef_eq hs hl hg hv hout o ho r ⟨x.val, by omega⟩ x.isLt) (fun x => hk _ k)
  have er := fun (o : ℕ) (ho : o + 512 ≤ 2048) (k : Fin 128) =>
    Cert.Attn.row_coe (f := fun j => kR j ⟨128 + k.val, by omega⟩) ho
      (fun j h => Cert.Attn.dS_later sR vR gR (i := ⟨o + r.val, by omega⟩) (by rw [Fin.le_def]; show ¬ j.val ≤ o + r.val; omega))
      (fun x => Cert.Attn.dOwn_eq hb hs hl hg hv hout o ho r x) (fun x => hr _ k)
      (fun x => Cert.Attn.dBef_eq hs hl hg hv hout o ho r ⟨x.val, by omega⟩ x.isLt) (fun x => hr _ k)
  have en0 := en 0 (by omega)
  have er0 := er 0 (by omega)
  simp only [Cert.Attn.wOwn, Cert.Attn.grow, zero_add, Finset.univ_eq_empty, Finset.sum_empty, add_zero] at en0 er0
  unfold out1_A_8 kernelRun1_A
  dsimp only
  sl_unfold_words
  simp only [View.readAt_eq_ld, Memref.IsWhole.read_unread, View.readCov_eq_canon']
  rw [View.read_writes_junk_eq_canon]
  refine ⟨?_, ?_⟩ <;> fin_cases q
  all_goals
    repeat (refine (Cert.Pieces.canon_miss_row _ _ _ _ _ (Or.inl ?_)).trans ?_; · (simp <;> omega))
    try (refine (Cert.Pieces.canon_miss_col _ _ _ _ _ (Or.inl ?_)).trans ?_; · (simp <;> omega))
    refine (Cert.Pieces.canon_hit _ _ _ _ (ix2 r d)).trans ?_
    pointwise
  · exact congrArg (· * _) (en0 d)
  · exact congrArg (· * _) (en 512 (by omega) d)
  · exact congrArg (· * _) (en 1024 (by omega) d)
  · exact congrArg (· * _) (en 1536 (by omega) d)
  all_goals rw [Cert.RealLift.select_lt d.val 32 (by omega) (by omega)]
  · refine congrArg₂ (· + ·) (congrArg (· * _) (er0 d)) ?_
    split_ifs <;> exact congrArg (· * _) (er0 _)
  · refine congrArg₂ (· + ·) (congrArg (· * _) (er 512 (by omega) d)) ?_
    split_ifs <;> exact congrArg (· * _) (er 512 (by omega) _)
  · refine congrArg₂ (· + ·) (congrArg (· * _) (er 1024 (by omega) d)) ?_
    split_ifs <;> exact congrArg (· * _) (er 1024 (by omega) _)
  · refine congrArg₂ (· + ·) (congrArg (· * _) (er 1536 (by omega) d)) ?_
    split_ifs <;> exact congrArg (· * _) (er 1536 (by omega) _)

end Cert.AttnBwd

end
-- ==== Proof.AttnBody.lean ====
/-
  One head of one batch entry in the two attention kernels, over the real numbers.
-/
module

public import proofs.«01_k».proof.Proof.AttnFwd
public import proofs.«01_k».proof.Proof.AttnBwd
public import proofs.«01_k».proof.Proof.AttnSpec

@[expose] public section

set_option maxRecDepth 16384

noncomputable section

namespace Cert.AttnBody

open Cert.KernelAttnIdeal Cert.KernelAttnIdeal.Gen Idealize.ShloMosaic Idealize.ShloMosaic.TcCoe Idealize.SL.Sem
open Cert.AttnSpec

theorem mask_eq : Cert.AttnFwd.mask = ⊥ := rfl

section Operands

variable {p : Fin 2048 → BitVec 32} {q : Fin 2048 → Fin 192 → ℝ} {kv : Fin 2048 → Fin 256 → ℝ}
  {kr : Fin 2048 → Fin 64 → ℝ} {g : Fin 2048 → Fin 128 → ℝ}
  {y0 : S2048x256.Idx → EReal} {x1 : S2048x256.Idx → EReal} {x2 x3 x4 : S2048x128.Idx → EReal}
  (hy : ∀ i k, y0 (ix2 i k) = if h : k.val < 192 then (q i ⟨k.val, h⟩ : EReal) else 0)
  (h1 : ∀ j k, x1 (ix2 j k) = (kv j k : EReal))
  (h2 : ∀ j k, x2 (ix2 j k) = if h : k.val < 64 then (kr j ⟨k.val, h⟩ : EReal) else 0)
  (h3 : ∀ i k, x3 (ix2 i k) = (cosines p i k : EReal))
  (h4 : ∀ i k, x4 (ix2 i k) = (sines p i k : EReal))

include h2 in
theorem keys_second (j : Fin 2048) (k : Fin 128) : x2 (ix2 j k) = (keys kv kr j ⟨128 + k.val, by omega⟩ : EReal) := by
  rw [h2, keys_snd]
  split_ifs <;> rfl

include h1 in
theorem keys_first (j : Fin 2048) (k : Fin 128) : x1 (ix2 j ⟨k.val, by omega⟩) = (keys kv kr j ⟨k.val, by omega⟩ : EReal) := by
  rw [h1, keys_fst]

include h1 in
theorem value_real (j : Fin 2048) (d : Fin 128) : Cert.AttnFwd.value x1 j d = (value kv j d : EReal) := h1 j _

include hy h3 h4 in
/-- The kernel rotates a query by adding its entries, shifted by half the rotated width and times the signed sines. -/
theorem rotated (i : Fin 2048) (k : Fin 128) :
    y0 (ix2 i ⟨128 + k.val, by omega⟩) * (x3 (ix2 i k) * Ideal.ofBits FTy.f32 0x3D93CD3A#32)
        + (if k.val < 32 then y0 (ix2 i ⟨128 + (k.val + 128 - 96) % 128, by omega⟩)
            else y0 (ix2 i ⟨128 + (k.val + 128 - 32) % 128, by omega⟩))
          * (x4 (ix2 i k) * Ideal.ofBits FTy.f32 0x3D93CD3A#32)
      = ((if h : k.val < 64 then rot p q i ⟨k.val, h⟩ * scale else 0 : ℝ) : EReal) := by
  have ey : ∀ (n : ℕ) (hn : n < 256) (n' : ℕ) (hn' : n' < 192), n = n' → y0 (ix2 i ⟨n, hn⟩) = (q i ⟨n', hn'⟩ : EReal) := by
    rintro n hn n' hn' rfl
    rw [hy, dif_pos hn']
  rw [h3, h4, scale_eq]
  unfold cosines sines rot
  by_cases a : k.val < 32
  · have a' : k.val < 64 := by omega
    rw [if_pos a, dif_pos a, dif_pos a, dif_pos a', dif_pos a, ey _ _ (128 + k.val) (by omega) rfl,
      ey _ _ (160 + k.val) (by omega) (by omega), ← EReal.coe_mul, ← EReal.coe_mul, ← EReal.coe_mul, ← EReal.coe_mul,
      ← EReal.coe_add]
    exact congrArg _ (by ring)
  by_cases b : k.val < 64
  · have b' : k.val - 32 < 32 := by omega
    rw [if_neg a, dif_neg a, dif_neg a, dif_pos b', dif_pos b', dif_pos b, dif_neg a, ey _ _ (128 + k.val) (by omega) rfl,
      ey _ _ (96 + k.val) (by omega) (by omega), ← EReal.coe_mul, ← EReal.coe_mul, ← EReal.coe_mul, ← EReal.coe_mul,
      ← EReal.coe_add]
    exact congrArg _ (by ring)
  · have b' : ¬ k.val - 32 < 32 := by omega
    rw [dif_neg a, dif_neg a, dif_neg b', dif_neg b', dif_neg b]
    simp

include hy h3 h4 in
theorem queries_real (i : Fin 2048) (k : Fin 256) : Cert.AttnFwd.Q y0 x3 x4 (ix2 i k) = (queries p q i k : EReal) := by
  by_cases hk : k.val < 128
  · have e := Cert.AttnFwd.Q_nope y0 x3 x4 i ⟨k.val, hk⟩
    refine e.trans ?_
    rw [hy, dif_pos (by simp; omega), scale_eq, ← EReal.coe_mul]
    exact congrArg _ (queries_fst p q i ⟨k.val, hk⟩).symm
  · have e := (Cert.AttnFwd.Q_rope y0 x3 x4 i ⟨k.val - 128, by omega⟩).trans (rotated hy h3 h4 i ⟨k.val - 128, by omega⟩)
    rw [← queries_snd p q i ⟨k.val - 128, by omega⟩] at e
    have ek : (⟨128 + (k.val - 128), by omega⟩ : Fin 256) = k := Fin.ext (by simp; omega)
    simp only [ek] at e
    exact e

include h1 h2 in
theorem score_real (hq : ∀ i k, y0 (ix2 i k) = (queries p q i k : EReal)) (i j : Fin 2048) :
    Cert.AttnFwd.score y0 x1 x2 i j = (score p q kv kr i j : EReal) := by
  rw [← score_padded, EReal.coe_add, ← Cert.RealLift.sum_coe, ← Cert.RealLift.sum_coe]
  unfold Cert.AttnFwd.score
  refine congrArg₂ (· + ·) (Finset.sum_congr rfl fun x _ => ?_) (Finset.sum_congr rfl fun x _ => ?_)
  · rw [hq, keys_first h1 (kr := kr), EReal.coe_mul]
  · rw [hq, keys_second h2 (kv := kv), EReal.coe_mul]

end Operands

/-! ## The forward kernel -/

section Forward

variable (c : Dev nD) (i : grid0.Coords)
  (arg2 : Memref sig .tc .vmem S2048x256 .f32) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S1x2048x1 .f32) (harg8 : arg8.IsWhole) (arg9 : Memref sig .tc .vmem S2048x256 .bf16) (harg9 : arg9.IsWhole)
  (x0 : Vec Ideal S2048x256 .f32) (x1 : Vec Ideal S2048x256 .bf16) (x2 : Vec Ideal S2048x128 .bf16) (x3 : Vec Ideal S2048x128 .f32) (x4 : Vec Ideal S2048x128 .f32)

variable {p : Fin 2048 → BitVec 32} {q : Fin 2048 → Fin 192 → ℝ} {kv : Fin 2048 → Fin 256 → ℝ}
  {kr : Fin 2048 → Fin 64 → ℝ}
  (h0 : ∀ i k, x0 (ix2 i k) = if h : k.val < 192 then (q i ⟨k.val, h⟩ : EReal) else 0)
  (h1 : ∀ j k, x1 (ix2 j k) = (kv j k : EReal))
  (h2 : ∀ j k, x2 (ix2 j k) = if h : k.val < 64 then (kr j ⟨k.val, h⟩ : EReal) else 0)
  (h3 : ∀ i k, x3 (ix2 i k) = (cosines p i k : EReal))
  (h4 : ∀ i k, x4 (ix2 i k) = (sines p i k : EReal))

include h0 h1 h2 h3 h4

/-- The outputs of the queries are the probabilities' means of the values. -/
theorem forward_o (n : Fin 2048) (d : Fin 128) :
    out0_A_5 c i arg2 harg2 arg3 harg3 arg4 harg4 arg5 harg5 arg6 harg6 arg7 harg7 arg8 harg8 arg9 harg9 x0 x1 x2 x3 x4 (ix2 n d) = (Cert.Attn.O (score p q kv kr) (value kv) n d : EReal) := by
  have hs := score_real h1 h2 (queries_real h0 h3 h4)
  have e := Cert.AttnFwd.out_o c i arg2 harg2 arg3 harg3 arg4 harg4 arg5 harg5 arg6 harg6 arg7 harg7 arg8 harg8 arg9 harg9 x0 x1 x2 x3 x4 ⟨n.val / 256, by omega⟩ ⟨n.val % 256, Nat.mod_lt _ (by norm_num)⟩ d
  have en : (⟨256 * (n.val / 256) + n.val % 256, by omega⟩ : Fin 2048) = n := Fin.ext (by simp; omega)
  simp only [en] at e
  rw [e, mask_eq]
  split_ifs with hn
  · obtain ⟨M, hM⟩ := Cert.Attn.top0_real hs 0 (by omega) ⟨n.val % 256, Nat.mod_lt _ (by norm_num)⟩
    have eo := Cert.Attn.out_eq hs (value_real h1) 0 (by omega) ⟨n.val % 256, Nat.mod_lt _ (by norm_num)⟩ d M
    have h := congrArg Fin.val hn
    have en0 : (⟨0 + n.val % 256, by omega⟩ : Fin 2048) = n := Fin.ext (by simp at h ⊢; omega)
    simp only [en0] at eo
    rw [Cert.Attn.num_first, Cert.Attn.den_first] at eo
    rw [hM]
    exact eo
  · obtain ⟨M, hM⟩ := Cert.Attn.top_real hs (256 * (n.val / 256)) (by omega) ⟨n.val % 256, Nat.mod_lt _ (by norm_num)⟩
    have eo := Cert.Attn.out_eq hs (value_real h1) (256 * (n.val / 256)) (by omega) ⟨n.val % 256, Nat.mod_lt _ (by norm_num)⟩ d M
    simp only [en] at eo
    rw [hM]
    exact eo

/-- The second output is the logarithm of the probabilities' denominators. -/
theorem forward_lse (n : Fin 2048) :
    out0_A_6 c i arg2 harg2 arg3 harg3 arg4 harg4 arg5 harg5 arg6 harg6 arg7 harg7 arg8 harg8 arg9 harg9 x0 x1 x2 x3 x4 (ix3 0 n 0) = (Real.log (Cert.Attn.Z (score p q kv kr) n) : EReal) := by
  have hs := score_real h1 h2 (queries_real h0 h3 h4)
  have e := Cert.AttnFwd.out_lse c i arg2 harg2 arg3 harg3 arg4 harg4 arg5 harg5 arg6 harg6 arg7 harg7 arg8 harg8 arg9 harg9 x0 x1 x2 x3 x4 ⟨n.val / 256, by omega⟩ ⟨n.val % 256, Nat.mod_lt _ (by norm_num)⟩
  have en : (⟨256 * (n.val / 256) + n.val % 256, by omega⟩ : Fin 2048) = n := Fin.ext (by simp; omega)
  simp only [en] at e
  rw [e, mask_eq]
  split_ifs with hn
  · obtain ⟨M, hM⟩ := Cert.Attn.top0_real hs 0 (by omega) ⟨n.val % 256, Nat.mod_lt _ (by norm_num)⟩
    have eo := Cert.Attn.lse_eq hs 0 (by omega) ⟨n.val % 256, Nat.mod_lt _ (by norm_num)⟩ M
    have h := congrArg Fin.val hn
    have en0 : (⟨0 + n.val % 256, by omega⟩ : Fin 2048) = n := Fin.ext (by simp at h ⊢; omega)
    simp only [en0] at eo
    rw [Cert.Attn.den_first] at eo
    rw [hM]
    exact eo
  · obtain ⟨M, hM⟩ := Cert.Attn.top_real hs (256 * (n.val / 256)) (by omega) ⟨n.val % 256, Nat.mod_lt _ (by norm_num)⟩
    have eo := Cert.Attn.lse_eq hs (256 * (n.val / 256)) (by omega) ⟨n.val % 256, Nat.mod_lt _ (by norm_num)⟩ M
    simp only [en] at eo
    rw [hM]
    exact eo

omit h1 h2 in
/-- The third output is the queries, scaled and rotated. -/
theorem forward_q (n : Fin 2048) (k : Fin 256) : out0_A_7 c i arg2 harg2 arg3 harg3 arg4 harg4 arg5 harg5 arg6 harg6 arg7 harg7 arg8 harg8 arg9 harg9 x0 x1 x2 x3 x4 (ix2 n k) = (queries p q n k : EReal) := by
  rw [Cert.AttnFwd.out_q]
  exact queries_real h0 h3 h4 n k

end Forward

/-! ## The backward kernel -/

section Backward

variable (c : Dev nD) (i : grid1.Coords) (arg2 : Memref sig .tc .vmem S2048x256 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x2048x1 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x128 .f32) (harg14 : arg14.IsWhole) (hc0 : cond1_0 i)
    (x0 : Vec Ideal S2048x256 .bf16) (x1 : Vec Ideal S2048x256 .bf16) (x2 : Vec Ideal S2048x128 .bf16) (x3 : Vec Ideal S2048x128 .bf16) (x4 : Vec Ideal S2048x128 .bf16) (x5 : Vec Ideal S1x2048x1 .f32) (x6 : Vec Ideal S2048x128 .f32) (x7 : Vec Ideal S2048x128 .f32)

variable {p : Fin 2048 → BitVec 32} {q : Fin 2048 → Fin 192 → ℝ} {kv : Fin 2048 → Fin 256 → ℝ}
  {kr : Fin 2048 → Fin 64 → ℝ} {g : Fin 2048 → Fin 128 → ℝ}
  (h0 : ∀ i k, x0 (ix2 i k) = (queries p q i k : EReal))
  (h1 : ∀ j k, x1 (ix2 j k) = (kv j k : EReal))
  (h2 : ∀ j k, x2 (ix2 j k) = if h : k.val < 64 then (kr j ⟨k.val, h⟩ : EReal) else 0)
  (h3 : ∀ j d, x3 (ix2 j d) = (Cert.Attn.O (score p q kv kr) (value kv) j d : EReal))
  (h4 : ∀ j d, x4 (ix2 j d) = (g j d : EReal))
  (h5 : ∀ i, x5 (ix3 0 i 0) = (Real.log (Cert.Attn.Z (score p q kv kr) i) : EReal))
  (h6 : ∀ i k, x6 (ix2 i k) = (cosines p i k : EReal))
  (h7 : ∀ i k, x7 (ix2 i k) = (sines p i k : EReal))

include h0 h1 h2 h4 h5 in
/-- The gradient in the values. -/
theorem backward_v (j : Fin 2048) (d : Fin 128) :
    out1_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 j ⟨128 + d.val, by omega⟩) = (dv p q kv kr g j d : EReal) :=
  Cert.AttnBwd.dv_part c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (score_real h1 h2 h0) h5 h4 mask_eq j d

include h0 h1 h2 h3 h4 h5 in
/-- The gradient in the keys. -/
theorem backward_k (i2 : grid1.Coords) (hc2 : ¬cond1_0 i2) (xo10 : Vec Ideal S2048x128 .f32) (j : Fin 2048) (d : Fin 128) :
    out1_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 j ⟨d.val, by omega⟩) = (dk p q kv kr g j d : EReal)
    ∧ out1_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 j d) = ((if h : d.val < 64 then dr p q kv kr g j ⟨d.val, h⟩ else 0 : ℝ) : EReal)
    ∧ out1_B_10 c i2 arg2 harg2 arg3 harg3 arg4 harg4 arg5 harg5 arg6 harg6 arg7 harg7 arg8 harg8 arg9 harg9 arg10 harg10 arg11 harg11 arg12 harg12 arg13 harg13 arg14 harg14 hc2 x0 x1 x2 x3 x4 x5 x6 x7 xo10 (ix2 j d)
        = xo10 (ix2 j d) + ((if h : d.val < 64 then dr p q kv kr g j ⟨d.val, h⟩ else 0 : ℝ) : EReal) := by
  have e := Cert.AttnBwd.dk_part c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (score_real h1 h2 h0) h5 h4 (value_real h1) h3 h0 mask_eq i2 hc2 xo10 j d
  have e1 : ∑ i : Fin 2048, Cert.Attn.dS (score p q kv kr) (value kv) g i j * queries p q i ⟨d.val, by omega⟩ = dk p q kv kr g j d :=
    Finset.sum_congr rfl fun i _ => by rw [queries_fst]; rfl
  have e2 : ∑ i : Fin 2048, Cert.Attn.dS (score p q kv kr) (value kv) g i j * queries p q i ⟨128 + d.val, by omega⟩
      = if h : d.val < 64 then dr p q kv kr g j ⟨d.val, h⟩ else 0 := by
    split_ifs with h
    · exact Finset.sum_congr rfl fun i _ => by rw [queries_snd, dif_pos h]; rfl
    · exact Finset.sum_eq_zero fun i _ => by rw [queries_snd, dif_neg h, mul_zero]
  rw [e1, e2] at e
  exact e

include h0 h1 h2 h3 h4 h5 h6 h7 in
/-- The gradient in the queries, in the columns that hold them: the kernel pads them to 256 columns a head. -/
theorem backward_q (i' : Fin 2048) (k : Fin 192) :
    out1_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 i' ⟨k.val, by omega⟩)
      = ((if h : k.val < 128 then dn p q kv kr g i' ⟨k.val, h⟩ else dp p q kv kr g i' ⟨k.val - 128, by omega⟩ : ℝ) : EReal) := by
  have en : (⟨512 * (i'.val / 512) + i'.val % 512, by omega⟩ : Fin 2048) = i' := Fin.ext (by simp; omega)
  have ed : ∀ d : Fin 128, Cert.AttnBwd.dQ (score p q kv kr) (value kv) g (keys kv kr) i' ⟨d.val, by omega⟩ * scale
      = dn p q kv kr g i' d := fun d =>
    congrArg (· * scale) (Finset.sum_congr rfl fun j _ => by rw [keys_fst]; rfl)
  have et : ∀ (n : ℕ) (hn : n < 64) (n' : ℕ) (hn' : n' < 256), n' = 128 + n →
      Cert.AttnBwd.dQ (score p q kv kr) (value kv) g (keys kv kr) i' ⟨n', hn'⟩ * scale = dt p q kv kr g i' ⟨n, hn⟩ := by
    rintro n hn n' hn' rfl
    refine congrArg (· * scale) (Finset.sum_congr rfl fun j _ => ?_)
    have e := keys_snd kv kr j ⟨n, by omega⟩
    rw [dif_pos hn] at e
    exact congrArg _ e
  have e := fun d => Cert.AttnBwd.dq_part c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (score_real h1 h2 h0) h5 h4 (value_real h1) h3 mask_eq
    (keys_first h1 (kr := kr)) (keys_second h2 (kv := kv)) ⟨i'.val / 512, by omega⟩ ⟨i'.val % 512, Nat.mod_lt _ (by norm_num)⟩ d
  simp only [en, scale_eq, h6, h7, ← EReal.coe_mul] at e
  by_cases h : k.val < 128
  · rw [dif_pos h, ← ed]
    exact (e ⟨k.val, h⟩).1
  rw [dif_neg h]
  have ek : (⟨128 + (k.val - 128), by omega⟩ : Fin 256) = ⟨k.val, by omega⟩ := Fin.ext (by simp; omega)
  have e' := (e ⟨k.val - 128, by omega⟩).2
  simp only [ek] at e'
  refine e'.trans ?_
  have t1 := et (k.val - 128) (by omega) k.val (by omega) (by omega)
  unfold dp
  by_cases a : k.val - 128 < 32
  · have c1 : cosines p i' ⟨k.val - 128, by omega⟩ = co (p i') ⟨k.val - 128, a⟩ := dif_pos a
    have s1 : sines p i' ⟨(k.val - 128 + 128 - 96) % 128, by omega⟩ = si (p i') ⟨k.val - 128, a⟩ := by
      unfold sines
      rw [dif_neg (by simp only []; omega), dif_pos (by simp only []; omega)]
      exact congrArg _ (Fin.ext (by simp only []; omega))
    have t2 := et (32 + (k.val - 128)) (by omega) (128 + (k.val - 128 + 128 - 96) % 128) (by omega) (by omega)
    rw [if_pos a, dif_pos a, c1, s1, ← EReal.coe_add, ← t1, ← t2]
    exact congrArg _ (by ring)
  · have c1 : cosines p i' ⟨k.val - 128, by omega⟩ = co (p i') ⟨k.val - 128 - 32, by omega⟩ := by
      unfold cosines
      rw [dif_neg a, dif_pos (by simp only []; omega)]
    have s1 : sines p i' ⟨(k.val - 128 + 128 - 32) % 128, by omega⟩ = -si (p i') ⟨k.val - 128 - 32, by omega⟩ := by
      unfold sines
      rw [dif_pos (by simp only []; omega)]
      exact congrArg (fun x => -si (p i') x) (Fin.ext (by simp only []; omega))
    have t2 := et (k.val - 128 - 32) (by omega) (128 + (k.val - 128 + 128 - 32) % 128) (by omega) (by omega)
    rw [if_neg a, dif_neg a, c1, s1, ← EReal.coe_add, ← t1, ← t2]
    exact congrArg _ (by ring)

end Backward

end Cert.AttnBody
-- ==== Proof.AttnArrays.lean ====
/-
  The arrays that attention's two calls leave in main memory, as functions of finite arguments.
-/
module

public import proofs.«01_k».proof.Proof.AttnBlocks
public import proofs.«01_k».proof.Proof.AttnBody
public import proofs.«01_k».proof.Proof.RowSum

@[expose] public section

set_option maxRecDepth 16384

noncomputable section

namespace Cert.AttnArrays

open Cert.KernelAttnIdeal Cert.KernelAttnIdeal.Gen Idealize.ShloMosaic Idealize.ShloMosaic.TcCoe Idealize.SL.Sem
open Cert.AttnHost Cert.AttnBlocks Cert.AttnSpec

variable (m : (ℓ : Loc nD τ sig) → Buf (Elt Ideal) ℓ) (ρ : Dev nD → PrngReg) (c : Dev nD)
  {Q : Fin 2 → Fin 8 → Fin 2048 → Fin 192 → ℝ} {K : Fin 2 → Fin 8 → Fin 2048 → Fin 256 → ℝ}
  {R : Fin 2 → Fin 2048 → Fin 64 → ℝ} {G : Fin 2 → Fin 8 → Fin 2048 → Fin 128 → ℝ}

/-- The positions of a batch entry. -/
abbrev P (b : Fin 2) : Fin 2048 → BitVec 32 := fun i => pos m c (ix2 b i)

variable (hq : ∀ b i h k, q m c (ix4 b i h k) = (Q b h i k : EReal))
  (hkv : ∀ b i h k, kv m c (ix4 b i h k) = (K b h i k : EReal))
  (hkr : ∀ b i k, kr m c (ix3 b i k) = (R b i k : EReal))
  (hg : ∀ b i h k, g m c (ix4 b i h k) = (G b h i k : EReal))

/-! ## The arrays the forward call reads -/

include hq in
theorem host_q (b : Fin 2) (h : Fin 8) (i : Fin 2048) (k : Fin 256) :
    V1 m ρ c main_v26 (ix2 (row b i) (col h k)) = if hk : k.val < 192 then (Q b h i ⟨k.val, hk⟩ : EReal) else 0 :=
  (V_q m ρ c b i h k).trans (by split_ifs <;> [exact hq _ _ _ _; rfl])

include hkv in
theorem host_kv (b : Fin 2) (h : Fin 8) (i : Fin 2048) (k : Fin 256) :
    V1 m ρ c main_v32 (ix2 (row b i) (col h k)) = (K b h i k : EReal) :=
  (V_kv m ρ c b i h k).trans (hkv _ _ _ _)

include hkr in
theorem host_kr (b : Fin 2) (i : Fin 2048) (k : Fin 128) :
    V1 m ρ c main_v30 (ix2 (row b i) k) = if hk : k.val < 64 then (R b i ⟨k.val, hk⟩ : EReal) else 0 :=
  (V_kr m ρ c b i k).trans (by split_ifs <;> [exact hkr _ _ _; rfl])

theorem host_cos (b : Fin 2) (i : Fin 2048) (k : Fin 128) :
    V1 m ρ c main_v20 (ix2 (row b i) k) = (cosines (P m c b) i k : EReal) := by
  refine (V_cos m ρ c b i k).trans ?_
  unfold cosines
  split_ifs <;> [exact cos_angle _ _; exact cos_angle _ _; rfl]

theorem host_sin (b : Fin 2) (i : Fin 2048) (k : Fin 128) :
    V1 m ρ c main_v22 (ix2 (row b i) k) = (sines (P m c b) i k : EReal) := by
  refine (V_sin m ρ c b i k).trans ?_
  unfold sines
  split_ifs <;> [exact (congrArg _ (sin_angle _ _)).trans (EReal.coe_neg _).symm; exact sin_angle _ _; rfl]

/-! ## The arrays the forward call leaves -/

include hq hkv hkr

theorem fwd_o (b : Fin 2) (h : Fin 8) (i : Fin 2048) (d : Fin 128) :
    (dat0 (V1 m ρ) c).arrAt 5 cfg0.N (ix2 (row b i) (col' h d))
      = (Cert.Attn.O (score (P m c b) (Q b h) (K b h) (R b)) (value (K b h)) i d : EReal) :=
  read0_5 (V1 m ρ) c (fun b h i d => (Cert.Attn.O (score (P m c b) (Q b h) (K b h) (R b)) (value (K b h)) i d : EReal))
    (fun t r k => by
      unfold outsAt0
      dsimp only
      exact Cert.AttnBody.forward_o c _ _ _ _ _ _ _ _ _ _ _ _ _ _ _ _ _ _ _ _ _ _
        (fun i k => (blk0_0 (V1 m ρ) c t i k).trans (host_q m ρ c hq _ _ i k))
        (fun i k => (blk0_1 (V1 m ρ) c t i k).trans (host_kv m ρ c hkv _ _ i k))
        (fun i k => (blk0_2 (V1 m ρ) c t i k).trans (host_kr m ρ c hkr _ i k))
        (fun i k => (blk0_3 (V1 m ρ) c t i k).trans (host_cos m ρ c _ i k))
        (fun i k => (blk0_4 (V1 m ρ) c t i k).trans (host_sin m ρ c _ i k)) r k) b h i d

theorem fwd_lse (b : Fin 2) (h : Fin 8) (i : Fin 2048) :
    (dat0 (V1 m ρ) c).arrAt 6 cfg0.N (ix3 h (row b i) 0) = (Real.log (Cert.Attn.Z (score (P m c b) (Q b h) (K b h) (R b)) i) : EReal) :=
  read0_6 (V1 m ρ) c (fun b h i => (Real.log (Cert.Attn.Z (score (P m c b) (Q b h) (K b h) (R b)) i) : EReal))
    (fun t r => by
      unfold outsAt0
      dsimp only
      exact Cert.AttnBody.forward_lse c _ _ _ _ _ _ _ _ _ _ _ _ _ _ _ _ _ _ _ _ _ _
        (fun i k => (blk0_0 (V1 m ρ) c t i k).trans (host_q m ρ c hq _ _ i k))
        (fun i k => (blk0_1 (V1 m ρ) c t i k).trans (host_kv m ρ c hkv _ _ i k))
        (fun i k => (blk0_2 (V1 m ρ) c t i k).trans (host_kr m ρ c hkr _ i k))
        (fun i k => (blk0_3 (V1 m ρ) c t i k).trans (host_cos m ρ c _ i k))
        (fun i k => (blk0_4 (V1 m ρ) c t i k).trans (host_sin m ρ c _ i k)) r) b h i

omit hkv hkr in
theorem fwd_q (b : Fin 2) (h : Fin 8) (i : Fin 2048) (k : Fin 256) :
    (dat0 (V1 m ρ) c).arrAt 7 cfg0.N (ix2 (row b i) (col h k)) = (queries (P m c b) (Q b h) i k : EReal) :=
  read0_7 (V1 m ρ) c (fun b h i k => (queries (P m c b) (Q b h) i k : EReal))
    (fun t r k => by
      unfold outsAt0
      dsimp only
      exact Cert.AttnBody.forward_q c _ _ _ _ _ _ _ _ _ _ _ _ _ _ _ _ _ _ _ _ _ _
        (fun i k => (blk0_0 (V1 m ρ) c t i k).trans (host_q m ρ c hq _ _ i k))
        (fun i k => (blk0_3 (V1 m ρ) c t i k).trans (host_cos m ρ c _ i k))
        (fun i k => (blk0_4 (V1 m ρ) c t i k).trans (host_sin m ρ c _ i k)) r k) b h i k

/-! ## The arrays the backward call reads -/

omit hq hkv hkr in
theorem kept (r : Ref sig .tc) (h : r ∉ hostOps1_W) (h' : ∀ w : Fin cfg0.W, Pipeline.arrRef spec0 w = r → (cfg0.win w).isOut = false) :
    V3 m ρ c r = V1 m ρ c r :=
  (W3_of m ρ c r h).trans (W2_of m ρ c r h')

omit hq hkv hkr in
theorem made (w : Fin cfg0.W) (h : Pipeline.arrRef spec0 w ∉ hostOps1_W) :
    V3 m ρ c (Pipeline.arrRef spec0 w) = (dat0 (V1 m ρ) c).arrAt w cfg0.N :=
  (W3_of m ρ c _ h).trans (W2_arr m ρ c w)

omit hkv hkr in
theorem in_q (t : Fin cfg1.N) (i : Fin 2048) (k : Fin 256) :
    iblk1 (V3 m ρ) c 0 t (ix2 i k) = (queries (P m c (bt t.val)) (Q (bt t.val) (hd t.val)) i k : EReal) :=
  (blk1_0 (V3 m ρ) c t i k).trans ((congrFun (made m ρ c 7 (by decide)) _).trans (fwd_q m ρ c hq _ _ i k))

omit hq hkr in
theorem in_kv (t : Fin cfg1.N) (i : Fin 2048) (k : Fin 256) :
    iblk1 (V3 m ρ) c 1 t (ix2 i k) = (K (bt t.val) (hd t.val) i k : EReal) :=
  (blk1_1 (V3 m ρ) c t i k).trans ((congrFun (kept m ρ c main_v32 (by decide) (by decide)) _).trans (host_kv m ρ c hkv _ _ i k))

omit hq hkv in
theorem in_kr (t : Fin cfg1.N) (i : Fin 2048) (k : Fin 128) :
    iblk1 (V3 m ρ) c 2 t (ix2 i k) = if hk : k.val < 64 then (R (bt t.val) i ⟨k.val, hk⟩ : EReal) else 0 :=
  (blk1_2 (V3 m ρ) c t i k).trans ((congrFun (kept m ρ c main_v30 (by decide) (by decide)) _).trans (host_kr m ρ c hkr _ i k))

theorem in_o (t : Fin cfg1.N) (i : Fin 2048) (d : Fin 128) :
    iblk1 (V3 m ρ) c 3 t (ix2 i d) = (Cert.Attn.O (score (P m c (bt t.val)) (Q (bt t.val) (hd t.val)) (K (bt t.val) (hd t.val)) (R (bt t.val))) (value (K (bt t.val) (hd t.val))) i d : EReal) :=
  (blk1_3 (V3 m ρ) c t i d).trans ((congrFun (made m ρ c 5 (by decide)) _).trans (fwd_o m ρ c hq hkv hkr _ _ i d))

omit hq hkv hkr in
include hg in
theorem in_g (t : Fin cfg1.N) (i : Fin 2048) (d : Fin 128) :
    iblk1 (V3 m ρ) c 4 t (ix2 i d) = (G (bt t.val) (hd t.val) i d : EReal) :=
  (blk1_4 (V3 m ρ) c t i d).trans ((V_g m ρ c _ i _ d).trans (hg _ _ _ _))

theorem in_lse (t : Fin cfg1.N) (i : Fin 2048) :
    iblk1 (V3 m ρ) c 5 t (ix3 0 i 0) = (Real.log (Cert.Attn.Z (score (P m c (bt t.val)) (Q (bt t.val) (hd t.val)) (K (bt t.val) (hd t.val)) (R (bt t.val))) i) : EReal) :=
  (blk1_5 (V3 m ρ) c t i).trans ((congrFun (made m ρ c 6 (by decide)) _).trans (fwd_lse m ρ c hq hkv hkr _ _ i))

omit hq hkv hkr in
theorem in_cos (t : Fin cfg1.N) (i : Fin 2048) (k : Fin 128) :
    iblk1 (V3 m ρ) c 6 t (ix2 i k) = (cosines (P m c (bt t.val)) i k : EReal) :=
  (blk1_6 (V3 m ρ) c t i k).trans ((congrFun (kept m ρ c main_v20 (by decide) (by decide)) _).trans (host_cos m ρ c _ i k))

omit hq hkv hkr in
theorem in_sin (t : Fin cfg1.N) (i : Fin 2048) (k : Fin 128) :
    iblk1 (V3 m ρ) c 7 t (ix2 i k) = (sines (P m c (bt t.val)) i k : EReal) :=
  (blk1_7 (V3 m ρ) c t i k).trans ((congrFun (kept m ρ c main_v22 (by decide) (by decide)) _).trans (host_sin m ρ c _ i k))

/-! ## What each grid point of the backward call leaves -/

omit hq hkv hkr in
theorem first : cond1_0 (grid1.coords ⟨0, by decide⟩) := (hcond1_0 ⟨0, by decide⟩).mpr rfl

include hg

theorem out_q (t : Fin cfg1.N) (i : Fin 2048) (k : Fin 192) :
    (outsAt1 (V3 m ρ) c t.val t.isLt).1 (ix2 i ⟨k.val, by omega⟩)
      = ((if h : k.val < 128 then dn (P m c (bt t.val)) (Q (bt t.val) (hd t.val)) (K (bt t.val) (hd t.val)) (R (bt t.val)) (G (bt t.val) (hd t.val)) i ⟨k.val, h⟩ else dp (P m c (bt t.val)) (Q (bt t.val) (hd t.val)) (K (bt t.val) (hd t.val)) (R (bt t.val)) (G (bt t.val) (hd t.val)) i ⟨k.val - 128, by omega⟩ : ℝ) : EReal) := by
  by_cases h0 : t.val % 8 = 0
  · rw [outsAt1_A (V3 m ρ) c t h0]
    dsimp only
    exact Cert.AttnBody.backward_q c (grid1.coords t) _ _ _ _ _ _ _ _ _ _ _ _ _ _ _ _ _ _ _ _ _ _ _ _ _ _ ((hcond1_0 t).mpr h0) _ _ _ _ _ _ _ _ (in_q m ρ c hq t) (in_kv m ρ c hkv t) (in_kr m ρ c hkr t) (in_o m ρ c hq hkv hkr t) (in_g m ρ c hg t) (in_lse m ρ c hq hkv hkr t) (in_cos m ρ c t) (in_sin m ρ c t) i k
  · rw [outsAt1_B (V3 m ρ) c t h0]
    dsimp only
    exact (congrFun (Cert.AttnBwd.later_heads c (grid1.coords ⟨0, by decide⟩) _ _ _ _ _ _ _ _ _ _ _ _ _ _ _ _ _ _ _ _ _ _ _ _ _ _ first _ _ _ _ _ _ _ _ (grid1.coords t) _ _).1 _).trans (Cert.AttnBody.backward_q c (grid1.coords ⟨0, by decide⟩) _ _ _ _ _ _ _ _ _ _ _ _ _ _ _ _ _ _ _ _ _ _ _ _ _ _ first _ _ _ _ _ _ _ _ (in_q m ρ c hq t) (in_kv m ρ c hkv t) (in_kr m ρ c hkr t) (in_o m ρ c hq hkv hkr t) (in_g m ρ c hg t) (in_lse m ρ c hq hkv hkr t) (in_cos m ρ c t) (in_sin m ρ c t) i k)

theorem out_v (t : Fin cfg1.N) (j : Fin 2048) (d : Fin 128) :
    (outsAt1 (V3 m ρ) c t.val t.isLt).2.1 (ix2 j ⟨128 + d.val, by omega⟩) = (dv (P m c (bt t.val)) (Q (bt t.val) (hd t.val)) (K (bt t.val) (hd t.val)) (R (bt t.val)) (G (bt t.val) (hd t.val)) j d : EReal) := by
  by_cases h0 : t.val % 8 = 0
  · rw [outsAt1_A (V3 m ρ) c t h0]
    dsimp only
    exact Cert.AttnBody.backward_v c (grid1.coords t) _ _ _ _ _ _ _ _ _ _ _ _ _ _ _ _ _ _ _ _ _ _ _ _ _ _ ((hcond1_0 t).mpr h0) _ _ _ _ _ _ _ _ (in_q m ρ c hq t) (in_kv m ρ c hkv t) (in_kr m ρ c hkr t) (in_g m ρ c hg t) (in_lse m ρ c hq hkv hkr t) j d
  · rw [outsAt1_B (V3 m ρ) c t h0]
    dsimp only
    exact (congrFun (Cert.AttnBwd.later_heads c (grid1.coords ⟨0, by decide⟩) _ _ _ _ _ _ _ _ _ _ _ _ _ _ _ _ _ _ _ _ _ _ _ _ _ _ first _ _ _ _ _ _ _ _ (grid1.coords t) _ _).2 _).trans (Cert.AttnBody.backward_v c (grid1.coords ⟨0, by decide⟩) _ _ _ _ _ _ _ _ _ _ _ _ _ _ _ _ _ _ _ _ _ _ _ _ _ _ first _ _ _ _ _ _ _ _ (in_q m ρ c hq t) (in_kv m ρ c hkv t) (in_kr m ρ c hkr t) (in_g m ρ c hg t) (in_lse m ρ c hq hkv hkr t) j d)

theorem out_k (t : Fin cfg1.N) (j : Fin 2048) (d : Fin 128) :
    (outsAt1 (V3 m ρ) c t.val t.isLt).2.1 (ix2 j ⟨d.val, by omega⟩) = (dk (P m c (bt t.val)) (Q (bt t.val) (hd t.val)) (K (bt t.val) (hd t.val)) (R (bt t.val)) (G (bt t.val) (hd t.val)) j d : EReal) := by
  by_cases h0 : t.val % 8 = 0
  · rw [outsAt1_A (V3 m ρ) c t h0]
    dsimp only
    exact (Cert.AttnBody.backward_k c (grid1.coords t) _ _ _ _ _ _ _ _ _ _ _ _ _ _ _ _ _ _ _ _ _ _ _ _ _ _ ((hcond1_0 t).mpr h0) _ _ _ _ _ _ _ _ (in_q m ρ c hq t) (in_kv m ρ c hkv t) (in_kr m ρ c hkr t) (in_o m ρ c hq hkv hkr t) (in_g m ρ c hg t) (in_lse m ρ c hq hkv hkr t) (grid1.coords ⟨1, by decide⟩) (fun h => absurd ((hcond1_0 ⟨1, by decide⟩).mp h) (by decide)) (fun _ => 0) j d).1
  · rw [outsAt1_B (V3 m ρ) c t h0]
    dsimp only
    exact (congrFun (Cert.AttnBwd.later_heads c (grid1.coords ⟨0, by decide⟩) _ _ _ _ _ _ _ _ _ _ _ _ _ _ _ _ _ _ _ _ _ _ _ _ _ _ first _ _ _ _ _ _ _ _ (grid1.coords t) _ _).2 _).trans (Cert.AttnBody.backward_k c (grid1.coords ⟨0, by decide⟩) _ _ _ _ _ _ _ _ _ _ _ _ _ _ _ _ _ _ _ _ _ _ _ _ _ _ first _ _ _ _ _ _ _ _ (in_q m ρ c hq t) (in_kv m ρ c hkv t) (in_kr m ρ c hkr t) (in_o m ρ c hq hkv hkr t) (in_g m ρ c hg t) (in_lse m ρ c hq hkv hkr t) (grid1.coords ⟨1, by decide⟩) (fun h => absurd ((hcond1_0 ⟨1, by decide⟩).mp h) (by decide)) (fun _ => 0) j d).1

/-- The first head's part of the rotated keys' gradient. -/
theorem out_r_first (t : Fin cfg1.N) (h0 : t.val % 8 = 0) (j : Fin 2048) (d : Fin 128) :
    (outsAt1 (V3 m ρ) c t.val t.isLt).2.2 (ix2 j d) = ((if h : d.val < 64 then dr (P m c (bt t.val)) (Q (bt t.val) (hd t.val)) (K (bt t.val) (hd t.val)) (R (bt t.val)) (G (bt t.val) (hd t.val)) j ⟨d.val, h⟩ else 0 : ℝ) : EReal) := by
  rw [outsAt1_A (V3 m ρ) c t h0]
  dsimp only
  exact (Cert.AttnBody.backward_k c (grid1.coords t) _ _ _ _ _ _ _ _ _ _ _ _ _ _ _ _ _ _ _ _ _ _ _ _ _ _ ((hcond1_0 t).mpr h0) _ _ _ _ _ _ _ _ (in_q m ρ c hq t) (in_kv m ρ c hkv t) (in_kr m ρ c hkr t) (in_o m ρ c hq hkv hkr t) (in_g m ρ c hg t) (in_lse m ρ c hq hkv hkr t) (grid1.coords ⟨1, by decide⟩) (fun h => absurd ((hcond1_0 ⟨1, by decide⟩).mp h) (by decide)) (fun _ => 0) j d).2.1

/-- Each later head adds its own. -/
theorem out_r_later (t : Fin cfg1.N) (h0 : ¬t.val % 8 = 0) (j : Fin 2048) (d : Fin 128) :
    (outsAt1 (V3 m ρ) c t.val t.isLt).2.2 (ix2 j d)
      = (outsAt1 (V3 m ρ) c (t.val - 1) (Nat.lt_of_le_of_lt (Nat.sub_le _ _) t.isLt)).2.2 (ix2 j d) + ((if h : d.val < 64 then dr (P m c (bt t.val)) (Q (bt t.val) (hd t.val)) (K (bt t.val) (hd t.val)) (R (bt t.val)) (G (bt t.val) (hd t.val)) j ⟨d.val, h⟩ else 0 : ℝ) : EReal) := by
  rw [outsAt1_B (V3 m ρ) c t h0]
  dsimp only
  exact (Cert.AttnBody.backward_k c (grid1.coords ⟨0, by decide⟩) _ _ _ _ _ _ _ _ _ _ _ _ _ _ _ _ _ _ _ _ _ _ _ _ _ _ first _ _ _ _ _ _ _ _ (in_q m ρ c hq t) (in_kv m ρ c hkv t) (in_kr m ρ c hkr t) (in_o m ρ c hq hkv hkr t) (in_g m ρ c hg t) (in_lse m ρ c hq hkv hkr t) (grid1.coords t) (fun h => h0 ((hcond1_0 t).mp h)) _ j d).2.2

/-- One head's part. -/
def part (P : Fin 2048 → BitVec 32) (Q : Fin 8 → Fin 2048 → Fin 192 → ℝ) (K : Fin 8 → Fin 2048 → Fin 256 → ℝ)
    (R : Fin 2048 → Fin 64 → ℝ) (G : Fin 8 → Fin 2048 → Fin 128 → ℝ) (j : Fin 2048) (d : Fin 128) (h : Fin 8) : ℝ :=
  if hd : d.val < 64 then dr P (Q h) (K h) R (G h) j ⟨d.val, hd⟩ else 0

theorem out_r (n : ℕ) (hn : n < cfg1.N) (j : Fin 2048) (d : Fin 128) :
    (outsAt1 (V3 m ρ) c n hn).2.2 (ix2 j d)
      = ((Cert.RowSum.below (part (P m c (bt n)) (Q (bt n)) (K (bt n)) (R (bt n)) (G (bt n)) j d) (n % 8 + 1) : ℝ) : EReal) := by
  have hs : ∀ n, Cert.RowSum.below (part (P m c (bt n)) (Q (bt n)) (K (bt n)) (R (bt n)) (G (bt n)) j d) (n % 8 + 1)
      = Cert.RowSum.below (part (P m c (bt n)) (Q (bt n)) (K (bt n)) (R (bt n)) (G (bt n)) j d) (n % 8)
        + part (P m c (bt n)) (Q (bt n)) (K (bt n)) (R (bt n)) (G (bt n)) j d (hd n) := fun n => by
    rw [Cert.RowSum.below_add _ (n % 8) 1 (by omega), Fin.sum_univ_one]
    rfl
  induction n with
  | zero =>
    refine (out_r_first m ρ c hq hkv hkr hg ⟨0, hn⟩ rfl j d).trans ?_
    rw [hs 0, Nat.zero_mod, Cert.RowSum.below_zero, zero_add]
    rfl
  | succ n ih =>
    by_cases h0 : (n + 1) % 8 = 0
    · refine (out_r_first m ρ c hq hkv hkr hg ⟨n + 1, hn⟩ h0 j d).trans ?_
      rw [hs (n + 1), h0, Cert.RowSum.below_zero, zero_add]
      rfl
    · refine (out_r_later m ρ c hq hkv hkr hg ⟨n + 1, hn⟩ h0 j d).trans ?_
      have eb : bt n = bt (n + 1) := Fin.ext (by simp only [bt]; omega)
      have en : n % 8 + 1 = (n + 1) % 8 := by omega
      rw [hs (n + 1), EReal.coe_add, ← en, ← eb]
      exact congrArg₂ (· + ·) (ih _) (by rw [eb]; rfl)

/-! ## The arrays the backward call leaves -/

theorem bwd_q (b : Fin 2) (h : Fin 8) (i : Fin 2048) (k : Fin 192) :
    (dat1 (V3 m ρ) c).arrAt 8 cfg1.N (ix2 (row b i) (col h ⟨k.val, by omega⟩))
      = ((if h' : k.val < 128 then dn (P m c b) (Q b h) (K b h) (R b) (G b h) i ⟨k.val, h'⟩
          else dp (P m c b) (Q b h) (K b h) (R b) (G b h) i ⟨k.val - 128, by omega⟩ : ℝ) : EReal) := by
  obtain ⟨f, hf⟩ : ∃ f : Fin 2 → Fin 8 → Fin 2048 → Fin 256 → EReal, ∀ (t : Fin cfg1.N) r k,
      (outsAt1 (V3 m ρ) c t.val t.isLt).1 (ix2 r k) = f (bt t.val) (hd t.val) r k :=
    ⟨fun b h r k => (outsAt1 (V3 m ρ) c (8 * b.val + h.val) (by show _ < 16; omega)).1 (ix2 r k), fun t r k => by
      have e : 8 * (bt t.val).val + (hd t.val).val = t.val := by
        have ht : t.val < 16 := t.isLt
        simp only [bt, hd]
        omega
      simp only [e]⟩
  refine (read1_8 (V3 m ρ) c f hf b h i ⟨k.val, by omega⟩).trans ?_
  have hb : bt (8 * b.val + h.val) = b := Fin.ext (by simp only [bt]; omega)
  have hh : hd (8 * b.val + h.val) = h := Fin.ext (by simp only [hd]; omega)
  have e := hf ⟨8 * b.val + h.val, by show _ < 16; omega⟩ i ⟨k.val, by omega⟩
  simp only [hb, hh] at e
  have e' := out_q m ρ c hq hkv hkr hg ⟨8 * b.val + h.val, by show _ < 16; omega⟩ i k
  simp only [hb, hh] at e'
  exact e.symm.trans e'

theorem bwd_kv (b : Fin 2) (h : Fin 8) (j : Fin 2048) (k : Fin 256) :
    (dat1 (V3 m ρ) c).arrAt 9 cfg1.N (ix2 (row b j) (col h k))
      = ((if h' : k.val < 128 then dk (P m c b) (Q b h) (K b h) (R b) (G b h) j ⟨k.val, h'⟩
          else dv (P m c b) (Q b h) (K b h) (R b) (G b h) j ⟨k.val - 128, by omega⟩ : ℝ) : EReal) := by
  refine read1_9 (V3 m ρ) c (fun b h j k => ((if h' : k.val < 128 then dk (P m c b) (Q b h) (K b h) (R b) (G b h) j ⟨k.val, h'⟩
          else dv (P m c b) (Q b h) (K b h) (R b) (G b h) j ⟨k.val - 128, by omega⟩ : ℝ) : EReal)) (fun t r k => ?_) b h j k
  by_cases hk : k.val < 128
  · rw [dif_pos hk]
    exact out_k m ρ c hq hkv hkr hg t r ⟨k.val, hk⟩
  · rw [dif_neg hk]
    have ek : (⟨128 + (k.val - 128), by omega⟩ : Fin 256) = k := Fin.ext (by simp only []; omega)
    have e := out_v m ρ c hq hkv hkr hg t r ⟨k.val - 128, by omega⟩
    simp only [ek] at e
    exact e

theorem bwd_kr (b : Fin 2) (j : Fin 2048) (d : Fin 128) :
    (dat1 (V3 m ρ) c).arrAt 10 cfg1.N (ix2 (row b j) d)
      = ((∑ h, part (P m c b) (Q b) (K b) (R b) (G b) j d h : ℝ) : EReal) := by
  rw [array1_10 (V3 m ρ) c (fun x => ((∑ h, part (P m c (bOf (x 0))) (Q (bOf (x 0))) (K (bOf (x 0))) (R (bOf (x 0))) (G (bOf (x 0))) (rOf (x 0)) (x 1) h : ℝ) : EReal)) (fun t ht r k => ?_)]
  · show ((∑ h, part (P m c (bOf (row b j))) (Q (bOf (row b j))) (K (bOf (row b j))) (R (bOf (row b j))) (G (bOf (row b j))) (rOf (row b j)) d h : ℝ) : EReal) = _
    rw [bOf_row, rOf_row]
  · show _ = ((∑ h, part (P m c (bOf (row (bt t.val) r))) (Q (bOf (row (bt t.val) r))) (K (bOf (row (bt t.val) r))) (R (bOf (row (bt t.val) r))) (G (bOf (row (bt t.val) r))) (rOf (row (bt t.val) r)) k h : ℝ) : EReal)
    rw [bOf_row, rOf_row, out_r m ρ c hq hkv hkr hg, ht, Cert.RowSum.below_all]

end Cert.AttnArrays
-- ==== Proof.AttnRun.lean ====
/-
  The run of attention's two calls: at the end every array of main memory holds what the last call's boundary says.
-/
module

public import proofs.«01_k».proof.Proof.Gen.KernelAttnIdeal.Frame

@[expose] public section

set_option maxRecDepth 16384

noncomputable section

namespace Cert.AttnRun

open Cert.KernelAttnIdeal Cert.KernelAttnIdeal.Gen Idealize.ShloMosaic Idealize.ShloMosaic.TcCoe
open Idealize.SL Idealize.SL.RA Idealize.SL.BI Idealize.SL.BI.BIBase Idealize.SL.BI.Laws Idealize.SL.ProofMode Idealize.SL.Sem
open scoped Idealize.SL.BI

variable (m : (ℓ : Loc nD τ sig) → Buf (Elt Ideal) ℓ) (ρ : Dev nD → PrngReg)

/-- The resources the launch hands out, before they are shared between the devices. -/
abbrev start : UR sig nD τ := Rounds.initOf (Pipeline.cells cfgs cellOf_inj) (Pipeline.launchToks cfgs cellOf_inj)

-- the launch rule's implicit arguments are read off the statement below
set_option backward.isDefEq.respectTransparency.types false in
/-- Every weakly fair execution ends, with main memory as at the boundary after the backward call. -/
theorem ends : θ_run defs (onTc (τ := τ) (main (F := Ideal))) ⟨m, fun _ => 0, ρ⟩
    (fun r => ∀ c : Dev nD, ∀ b ∈ Pipeline.ucRefs τ sig, r.2.mem ((c : Thread nD τ).1, b) = W4 m ρ c b) := by
  refine Pipeline.θ_run_regions_kit_sems pcfgs adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := start)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (QY := fun c s => ∀ b ∈ Pipeline.ucRefs τ sig, s.mem ((c : Thread nD τ).1, b) = W4 m ρ c b)
    (hQ := fun s h _ => h) (hu₀ := ?_) (hinit := ?_) (hfin := ?_)
  · iintro Hu
    imodintro
    isplitl [Hu]
    · iapply (show (ownU start : sProp (MT nD τ sig Unit (Elt Ideal) ℕ (UR sig nD τ) ℕ)) ⊢ BI.own (emb₁ start) from .rfl)
      iexact Hu
    iapply (show (BI.emp : sProp (MT nD τ sig Unit (Elt Ideal) ℕ (UR sig nD τ) ℕ)) ⊢ bigSep Finset.univ (fun _ : Dev nD => BI.emp) from by
      rw [BI.bigSep_emp_const])
    iempintro
  · refine Pipeline.initEach L lv fun c => ?_
    rw [show unscopedBufs c (fun b => m ((c : Thread nD τ).loc b)) = _ from Pipeline.unscopedBufs_held c (W0 m ρ c)]
    iintro ⟨⟨Hmem, -, Howe, -, Hreg, -⟩, -⟩
    imodintro
    isplitl [Hmem]
    · iexact Hmem
    isplitl [Hreg]
    · iexists _
      iexact Hreg
    iexists ∅
    iexact Howe
  · intro c s
    iintro ⟨⟨Hmem, -⟩, Hst⟩
    unfold StableHlo.held
    imodintro
    iapply (pointsTo_read_all (Pipeline.ucRefs τ sig) (fun b => ((c : Thread nD τ).1, b)) (W4 m ρ c) s)
    isplitl [Hmem] <;> iassumption

/-- An array that the forward call wrote is at the end as that call left it. -/
theorem saved (c : Dev nD) (w : Fin cfg0.W) (h : Pipeline.arrRef spec0 w ∉ hostOps1_W)
    (h' : ∀ x : Fin cfg1.W, Pipeline.arrRef spec1 x = Pipeline.arrRef spec0 w → (cfg1.win x).isOut = false) :
    W4 m ρ c (Proc.devRef .tc (Pipeline.arrRef spec0 w)) = (dat0 (V1 m ρ) c).arrAt w cfg0.N :=
  (W4_of m ρ c _ h').trans ((W3_of m ρ c _ h).trans (W2_arr m ρ c w))

/-- The three gradients' arrays, the forward call's three and the arguments at the end of the run. -/
theorem run : θ_run defs (onTc (τ := τ) (main (F := Ideal))) ⟨m, fun _ => 0, ρ⟩ (fun r => ∀ c : Dev nD,
    r.2.mem ((c.tc : Thread nD τ).loc main_v36_0) = (dat1 (V3 m ρ) c).arrAt 8 cfg1.N
    ∧ r.2.mem ((c.tc : Thread nD τ).loc main_v36_1) = (dat1 (V3 m ρ) c).arrAt 9 cfg1.N
    ∧ r.2.mem ((c.tc : Thread nD τ).loc main_v36_2) = (dat1 (V3 m ρ) c).arrAt 10 cfg1.N
    ∧ r.2.mem ((c.tc : Thread nD τ).loc main_v33_0) = (dat0 (V1 m ρ) c).arrAt 5 cfg0.N
    ∧ r.2.mem ((c.tc : Thread nD τ).loc main_v33_1) = (dat0 (V1 m ρ) c).arrAt 6 cfg0.N
    ∧ r.2.mem ((c.tc : Thread nD τ).loc main_v33_2) = (dat0 (V1 m ρ) c).arrAt 7 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c =>
    ⟨(h c _ (mem_uc main_v36_0 (by decide))).trans (W4_arr m ρ c 8),
     (h c _ (mem_uc main_v36_1 (by decide))).trans (W4_arr m ρ c 9),
     (h c _ (mem_uc main_v36_2 (by decide))).trans (W4_arr m ρ c 10),
     (h c _ (mem_uc main_v33_0 (by decide))).trans (saved m ρ c 5 (by decide) (by decide)),
     (h c _ (mem_uc main_v33_1 (by decide))).trans (saved m ρ c 6 (by decide) (by decide)),
     (h c _ (mem_uc main_v33_2 (by decide))).trans (saved m ρ c 7 (by decide) (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (ends m ρ)

end Cert.AttnRun

end
-- ==== Proof.AttnRef.lean ====
/-
  What attention's reference computes, element by element, on finite arguments.
-/
module

public import proofs.«01_k».proof.Proof.Gen.ReferenceAttnIdeal.Read
public import proofs.«01_k».proof.Proof.AttnSpec
public import proofs.«01_k».proof.Proof.Pieces

@[expose] public section

set_option maxRecDepth 16384

noncomputable section

namespace Cert.AttnRef

open Cert.ReferenceAttnIdeal Cert.ReferenceAttnIdeal.Gen Cert.ReferenceAttnIdeal.Read
open Idealize.ShloMosaic Idealize.ShloMosaic.TcCoe Idealize.SL.Sem
open Cert.AttnSpec Cert.RealLift

variable {x0 : S2x2048x8x192.Idx → EReal} {x1 : S2x2048x8x256.Idx → EReal} {x2 : S2x2048x64.Idx → EReal}
  {x3 : S2x2048x8x128.Idx → EReal} (x4 : S2x2048.Idx → BitVec 32)
  {Q : Fin 2 → Fin 8 → Fin 2048 → Fin 192 → ℝ} {K : Fin 2 → Fin 8 → Fin 2048 → Fin 256 → ℝ}
  {R : Fin 2 → Fin 2048 → Fin 64 → ℝ} {G : Fin 2 → Fin 8 → Fin 2048 → Fin 128 → ℝ}

/-- The positions of a batch entry. -/
abbrev P (b : Fin 2) : Fin 2048 → BitVec 32 := fun i => x4 (ix2 b i)

variable (hq : ∀ b i h k, x0 (ix4 b i h k) = (Q b h i k : EReal))
  (hkv : ∀ b i h k, x1 (ix4 b i h k) = (K b h i k : EReal))
  (hkr : ∀ b i k, x2 (ix3 b i k) = (R b i k : EReal))
  (hg : ∀ b i h k, x3 (ix4 b i h k) = (G b h i k : EReal))

theorem ref_angle (b : Fin 2) (i : Fin 2048) (k : Fin 32) : val_main_v15 (F := Ideal) x4 (ix3 b i k) = angle (P x4 b i) k := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, val_main_cst_2]
  rfl

theorem ref_cos (b : Fin 2) (i : Fin 2048) (k : Fin 32) :
    val_main_v16 (F := Ideal) x4 (ix3 b i k) = (co (P x4 b i) k : EReal) := by
  refine Eq.trans ?_ (cos_angle _ k)
  pointwise [val_main_v16]
  simp only [ref_angle]

theorem ref_sin (b : Fin 2) (i : Fin 2048) (k : Fin 32) :
    val_main_v17 (F := Ideal) x4 (ix3 b i k) = (si (P x4 b i) k : EReal) := by
  refine Eq.trans ?_ (sin_angle _ k)
  pointwise [val_main_v17]
  simp only [ref_angle]

include hq in
theorem ref_rot (b : Fin 2) (i : Fin 2048) (h : Fin 8) (r : Fin 64) :
    val_main_v36 (F := Ideal) x0 x4 (ix4 b i h r) = (rot (P x4 b) (Q b h) i r : EReal) := by
  pointwise [val_main_v36, val_main_v35, val_main_v34, val_main_v33, val_main_v32, val_main_v31, val_main_v30, val_main_v29,
    val_main_v28, val_main_v27, val_main_v26, val_main_v25, val_main_v24, val_main_v23, val_main_v22, val_main_v19]
  simp only [ref_cos, ref_sin, hq]
  have e : ∀ (n n' : ℕ) (hn : n < 192) (hn' : n' < 192), n = n' → Q b h i ⟨n, hn⟩ = Q b h i ⟨n', hn'⟩ := by
    rintro n n' hn hn' rfl
    rfl
  unfold rot
  by_cases hr : r.val < 32
  · simp only [dif_pos hr]
    rw [EReal.coe_sub, EReal.coe_mul, EReal.coe_mul, e (128 + (32 + r.val)) (160 + r.val) _ _ (by omega)]
  · simp only [dif_neg hr]
    rw [EReal.coe_add, EReal.coe_mul, EReal.coe_mul, e (128 + (32 + (r.val - 32))) (128 + r.val) _ _ (by omega),
      e (128 + (r.val - 32)) (96 + r.val) _ _ (by omega)]

include hq hkv hkr in
theorem ref_score (b : Fin 2) (h : Fin 8) (i j : Fin 2048) :
    val_main_v42 (F := Ideal) x0 x1 x2 x4 (ix4 b h i j) = (score (P x4 b) (Q b h) (K b h) (R b) i j : EReal) := by
  pointwise [val_main_v42, val_main_v41, val_main_v40, val_main_v39, val_main_v38, val_main_v37, val_main_v20, val_main_v18, val_main_cst_3]
  simp only [ref_rot x4 hq, hq, hkv, hkr]
  unfold score
  rw [EReal.coe_mul, EReal.coe_add, ← sum_coe, ← sum_coe]
  simp only [EReal.coe_mul]
  exact congrArg₂ (· * ·) rfl scale_eq

/-! ## The softmax -/

include hq hkv hkr

/-- The scores, with minus infinity for the later keys. -/
theorem ref_masked (b : Fin 2) (h : Fin 8) (i j : Fin 2048) :
    val_main_v51_0 (F := Ideal) x0 x1 x2 x4 (ix4 b h i j)
      = if j.val ≤ i.val then (score (P x4 b) (Q b h) (K b h) (R b) i j : EReal) else ⊥ := by
  pointwise [val_main_v51_0, val_main_v51_1, val_main_v50, val_main_v49, val_main_v48, val_main_v47, val_main_v46, val_main_v45,
    val_main_v44, val_main_v43, val_main_call0_v2, val_main_call0_v0, val_main_cst_4]
  rw [ref_score x4 hq hkv hkr]
  refine (select_ge (by decide) i j _ _).trans ?_
  by_cases hj : j.val ≤ i.val
  · rw [if_pos hj, if_pos hj]
  · rw [if_neg hj, if_neg hj]
    exact ofBits_neg_inf

omit hq hkv hkr in
/-- A row's largest score, as the fold that the reduction is. -/
theorem ref_fold (b : Fin 2) (h : Fin 8) (i : Fin 2048) :
    val_main_v52 (F := Ideal) x0 x1 x2 x4 (ix3 b h i)
      = Finset.fold max (Ideal.ofBits FTy.f32 4286578688#32)
          (fun j => val_main_v51_0 (F := Ideal) x0 x1 x2 x4 (ix4 b h i j)) Finset.univ := by
  pointwise [val_main_v52]
  rfl

omit hq hkv hkr in
theorem ref_max (b : Fin 2) (h : Fin 8) (i : Fin 2048) (N : EReal)
    (hN : val_main_v52 (F := Ideal) x0 x1 x2 x4 (ix3 b h i) = N) :
    val_main_v59 (F := Ideal) x0 x1 x2 x4 (ix3 b h i) = max (Ideal.ofBits FTy.f32 4286578688#32) N := by
  rw [val_main_v59_apply, hN, val_main_v58_apply, val_main_cst_7_apply]
  rfl

theorem ref_largest (b : Fin 2) (h : Fin 8) (i : Fin 2048) :
    ∃ N : ℝ, val_main_v52 (F := Ideal) x0 x1 x2 x4 (ix3 b h i) = (N : EReal) := by
  rw [ref_fold x4 b h i, ofBits_neg_inf]
  have hm : ∀ j, (fun j => val_main_v51_0 (F := Ideal) x0 x1 x2 x4 (ix4 b h i j)) j = _ := fun j =>
    ref_masked x4 hq hkv hkr b h i j
  generalize (fun j => val_main_v51_0 (F := Ideal) x0 x1 x2 x4 (ix4 b h i j)) = f at hm ⊢
  have h1 : ∀ j, f j ≠ ⊤ := fun j => by
    rw [hm j]
    split_ifs
    · exact EReal.coe_ne_top _
    · exact bot_lt_top.ne
  have h2 : f i ≠ ⊥ := by
    rw [hm i, if_pos (Nat.le_refl _)]
    exact EReal.coe_ne_bot _
  exact fold_max_real f i h2 h1

/-- A row's largest score is a real number. -/
theorem ref_top : ∃ M : Fin 2 → Fin 8 → Fin 2048 → ℝ, ∀ b h i,
    val_main_v59 (F := Ideal) x0 x1 x2 x4 (ix3 b h i) = (M b h i : EReal) := by
  choose M hM using ref_largest x4 hq hkv hkr
  refine ⟨M, fun b h i => ?_⟩
  rw [ref_max x4 b h i _ (hM b h i), ofBits_neg_inf]
  exact max_eq_right bot_le

variable {M : Fin 2 → Fin 8 → Fin 2048 → ℝ}
  (hM : ∀ b h i, val_main_v59 (F := Ideal) x0 x1 x2 x4 (ix3 b h i) = (M b h i : EReal))

include hM

theorem ref_exp (b : Fin 2) (h : Fin 8) (i j : Fin 2048) :
    val_main_v72 (F := Ideal) x0 x1 x2 x4 (ix4 b h i j)
      = ((if j ≤ i then Real.exp (score (P x4 b) (Q b h) (K b h) (R b) i j) / Real.exp (M b h i) else 0 : ℝ) : EReal) := by
  pointwise [val_main_v72, val_main_v71, val_main_v70, val_main_v69]
  simp only [ref_masked x4 hq hkv hkr, hM]
  by_cases hj : j ≤ i
  · rw [if_pos hj, if_pos (Fin.le_def.mp hj), ← EReal.coe_sub, Ideal.exp_coe, Real.exp_sub]
  · rw [if_neg hj, if_neg (fun a => hj (Fin.le_def.mpr a)), EReal.bot_sub, Ideal.exp_bot, EReal.coe_zero]

theorem ref_den (b : Fin 2) (h : Fin 8) (i : Fin 2048) :
    val_main_v73 (F := Ideal) x0 x1 x2 x4 (ix3 b h i)
      = ((Cert.Attn.Z (score (P x4 b) (Q b h) (K b h) (R b)) i / Real.exp (M b h i) : ℝ) : EReal) := by
  pointwise [val_main_v73, val_main_cst_13]
  simp only [ref_exp x4 hq hkv hkr hM]
  rw [sum_coe]
  refine congrArg _ ?_
  unfold Cert.Attn.Z
  rw [Finset.sum_div]
  exact Finset.sum_congr rfl fun x _ => by split_ifs <;> simp

theorem ref_prob (b : Fin 2) (h : Fin 8) (i j : Fin 2048) :
    val_main_v76 (F := Ideal) x0 x1 x2 x4 (ix4 b h i j)
      = (Cert.Attn.P (score (P x4 b) (Q b h) (K b h) (R b)) i j : EReal) := by
  pointwise [val_main_v76, val_main_v75, val_main_v74]
  simp only [ref_exp x4 hq hkv hkr hM, ref_den x4 hq hkv hkr hM]
  have hz := (Cert.Attn.Z_pos (score (P x4 b) (Q b h) (K b h) (R b)) i).ne'
  have hm := Real.exp_ne_zero (M b h i)
  rw [div_coe _ (div_ne_zero hz hm), EReal.coe_eq_coe_iff]
  unfold Cert.Attn.P
  split_ifs
  · field_simp
  · exact zero_div _

/-! ## The gradients -/

omit hq hkv hkr hM in
/-- The gradient in a score, as the reference takes it through the quotient: `m` is what all exponentials are divided by. -/
theorem grad_real (s : Fin 2048 → Fin 2048 → ℝ) (v g : Fin 2048 → Fin 128 → ℝ) (i j : Fin 2048) {m : ℝ} (hm : m ≠ 0) :
    (Cert.Attn.dP v g i j / (Cert.Attn.Z s i / m)
        + -∑ x, Cert.Attn.dP v g i x * (1 / (Cert.Attn.Z s i / m * (Cert.Attn.Z s i / m))) * (if x ≤ i then Real.exp (s i x) / m else 0))
      * (if j ≤ i then Real.exp (s i j) / m else 0) = Cert.Attn.dS s v g i j := by
  have hz : Cert.Attn.Z s i / m ≠ 0 := div_ne_zero (Cert.Attn.Z_pos s i).ne' hm
  have hE : ∀ x, (if x ≤ i then Real.exp (s i x) / m else 0) = Cert.Attn.P s i x * (Cert.Attn.Z s i / m) := fun x => by
    have := (Cert.Attn.Z_pos s i).ne'
    unfold Cert.Attn.P
    split_ifs
    · field_simp
    · rw [zero_mul]
  have hS : ∑ d, g i d * Cert.Attn.O s v i d = ∑ x, Cert.Attn.P s i x * Cert.Attn.dP v g i x := by
    unfold Cert.Attn.O Cert.Attn.dP
    simp only [Finset.mul_sum]
    rw [Finset.sum_comm]
    exact Finset.sum_congr rfl fun x _ => Finset.sum_congr rfl fun d _ => by ring
  simp only [hE]
  unfold Cert.Attn.dS
  rw [hS]
  generalize Cert.Attn.Z s i / m = z at hz ⊢
  have e : ∑ x, Cert.Attn.dP v g i x * (1 / (z * z)) * (Cert.Attn.P s i x * z)
      = (∑ x, Cert.Attn.P s i x * Cert.Attn.dP v g i x) / z := by
    rw [Finset.sum_div]
    exact Finset.sum_congr rfl fun x _ => by field_simp
  rw [e]
  field_simp
  ring

include hg

omit hq hkr hM in
theorem ref_dp (b : Fin 2) (h : Fin 8) (i j : Fin 2048) :
    val_main_v99 (F := Ideal) x1 x3 (ix4 b h i j) = (Cert.Attn.dP (value (K b h)) (G b h) i j : EReal) := by
  pointwise [val_main_v99, val_main_v98, val_main_v21]
  simp only [hkv, hg]
  unfold Cert.Attn.dP
  rw [← sum_coe]
  simp only [EReal.coe_mul]
  rfl

theorem ref_ds (b : Fin 2) (h : Fin 8) (i j : Fin 2048) :
    val_main_v116 (F := Ideal) x0 x1 x2 x3 x4 (ix4 b h i j)
      = (ds (P x4 b) (Q b h) (K b h) (R b) (G b h) i j * scale : ℝ) := by
  pointwise [val_main_v116, val_main_v115, val_main_v114, val_main_v113, val_main_v112, val_main_v111, val_main_v110, val_main_v109,
    val_main_v108, val_main_v107, val_main_v106, val_main_v105, val_main_v104, val_main_v103, val_main_v102, val_main_v79, val_main_v78,
    val_main_v77, val_main_v74, val_main_cst_14, val_main_cst_19, val_main_cst_20, val_main_cst_21, val_main_v51_1, val_main_v50, val_main_v49,
    val_main_v48, val_main_v47, val_main_v46, val_main_v45, val_main_v44, val_main_v43, val_main_call1_v0, val_main_call1_cst]
  simp only [ref_exp x4 hq hkv hkr hM, ref_den x4 hq hkv hkr hM, ref_dp hkv hg]
  refine (select_ge (by decide) i j _ _).trans ?_
  have hz : Cert.Attn.Z (score (P x4 b) (Q b h) (K b h) (R b)) i / Real.exp (M b h i) ≠ 0 :=
    div_ne_zero (Cert.Attn.Z_pos _ i).ne' (Real.exp_ne_zero _)
  have hone : (1 : EReal) = ((1 : ℝ) : EReal) := EReal.coe_one.symm
  rw [Finset.univ_unique, Finset.sum_singleton, scale_eq, ← EReal.coe_mul, hone, div_coe _ (mul_ne_zero hz hz), div_coe _ hz]
  simp only [← EReal.coe_mul]
  rw [sum_coe, ← EReal.coe_neg, ← EReal.coe_add, ← EReal.coe_mul, ← EReal.coe_mul,
    grad_real _ _ _ i j (Real.exp_ne_zero _)]
  by_cases hj : j.val ≤ i.val
  · exact if_pos hj
  · rw [if_neg hj]
    unfold ds
    rw [Cert.Attn.dS_later _ _ _ (fun a => hj (Fin.le_def.mp a)), zero_mul]
    rfl

end Cert.AttnRef
-- ==== Proof.AttnRefOut.lean ====
/-
  The gradients that attention's reference returns, element by element, on finite arguments.
-/
module

public import proofs.«01_k».proof.Proof.AttnRef

@[expose] public section

set_option maxRecDepth 16384

noncomputable section

namespace Cert.AttnRef

open Cert.ReferenceAttnIdeal Cert.ReferenceAttnIdeal.Gen Cert.ReferenceAttnIdeal.Read
open Idealize.ShloMosaic Idealize.ShloMosaic.TcCoe Idealize.SL.Sem
open Cert.AttnSpec Cert.RealLift

variable {x0 : S2x2048x8x192.Idx → EReal} {x1 : S2x2048x8x256.Idx → EReal} {x2 : S2x2048x64.Idx → EReal}
  {x3 : S2x2048x8x128.Idx → EReal} (x4 : S2x2048.Idx → BitVec 32)
  {Q : Fin 2 → Fin 8 → Fin 2048 → Fin 192 → ℝ} {K : Fin 2 → Fin 8 → Fin 2048 → Fin 256 → ℝ}
  {R : Fin 2 → Fin 2048 → Fin 64 → ℝ} {G : Fin 2 → Fin 8 → Fin 2048 → Fin 128 → ℝ}
  (hq : ∀ b i h k, x0 (ix4 b i h k) = (Q b h i k : EReal))
  (hkv : ∀ b i h k, x1 (ix4 b i h k) = (K b h i k : EReal))
  (hkr : ∀ b i k, x2 (ix3 b i k) = (R b i k : EReal))
  (hg : ∀ b i h k, x3 (ix4 b i h k) = (G b h i k : EReal))
  {M : Fin 2 → Fin 8 → Fin 2048 → ℝ}
  (hM : ∀ b h i, val_main_v59 (F := Ideal) x0 x1 x2 x4 (ix3 b h i) = (M b h i : EReal))

include hq hkv hkr hg hM

theorem ref_dv (b : Fin 2) (h : Fin 8) (j : Fin 2048) (d : Fin 128) :
    val_main_v101 (F := Ideal) x0 x1 x2 x3 x4 (ix4 b j h d) = (dv (P x4 b) (Q b h) (K b h) (R b) (G b h) j d : EReal) := by
  pointwise [val_main_v101, val_main_v100, val_main_v98]
  simp only [ref_prob x4 hq hkv hkr hM, hg, ← EReal.coe_mul]
  rw [sum_coe]
  refine congrArg _ (Finset.sum_congr rfl fun i _ => ?_)
  ring

theorem ref_dk (b : Fin 2) (h : Fin 8) (j : Fin 2048) (d : Fin 128) :
    val_main_v121 (F := Ideal) x0 x1 x2 x3 x4 (ix4 b j h d) = (dk (P x4 b) (Q b h) (K b h) (R b) (G b h) j d : EReal) := by
  pointwise [val_main_v121, val_main_v120, val_main_v18]
  simp only [ref_ds x4 hq hkv hkr hg hM, hq, ← EReal.coe_mul]
  rw [sum_coe]
  refine congrArg _ (Finset.sum_congr rfl fun i _ => ?_)
  ring

theorem ref_dn (b : Fin 2) (h : Fin 8) (i : Fin 2048) (d : Fin 128) :
    val_main_v123 (F := Ideal) x0 x1 x2 x3 x4 (ix4 b i h d) = (dn (P x4 b) (Q b h) (K b h) (R b) (G b h) i d : EReal) := by
  pointwise [val_main_v123, val_main_v122, val_main_v20]
  simp only [ref_ds x4 hq hkv hkr hg hM, hkv, ← EReal.coe_mul]
  rw [sum_coe]
  unfold dn
  rw [Finset.sum_mul]
  refine congrArg _ (Finset.sum_congr rfl fun i _ => ?_)
  ring

theorem ref_dt (b : Fin 2) (h : Fin 8) (i : Fin 2048) (r : Fin 64) :
    val_main_v118 (F := Ideal) x0 x1 x2 x3 x4 (ix4 b i h r) = (dt (P x4 b) (Q b h) (K b h) (R b) (G b h) i r : EReal) := by
  pointwise [val_main_v118, val_main_v117]
  simp only [ref_ds x4 hq hkv hkr hg hM, hkr, ← EReal.coe_mul]
  rw [sum_coe]
  unfold dt
  rw [Finset.sum_mul]
  refine congrArg _ (Finset.sum_congr rfl fun i _ => ?_)
  ring

theorem ref_dr (b : Fin 2) (j : Fin 2048) (r : Fin 64) :
    val_main_v119 (F := Ideal) x0 x1 x2 x3 x4 (ix3 b j r) = (∑ h, dr (P x4 b) (Q b h) (K b h) (R b) (G b h) j r : ℝ) := by
  pointwise [val_main_v119, val_main_v117]
  simp only [ref_ds x4 hq hkv hkr hg hM, ref_rot x4 hq, ← EReal.coe_mul, sum_coe]
  refine congrArg _ (Finset.sum_comm.trans (Finset.sum_congr rfl fun h _ => Finset.sum_congr rfl fun i _ => ?_))
  ring

theorem ref_dprot (b : Fin 2) (h : Fin 8) (i : Fin 2048) (r : Fin 64) :
    val_main_v137 (F := Ideal) x0 x1 x2 x3 x4 (ix4 b i h r) = (dp (P x4 b) (Q b h) (K b h) (R b) (G b h) i r : EReal) := by
  pointwise [val_main_v137, val_main_v136, val_main_v135, val_main_v134, val_main_v133, val_main_v132, val_main_v131, val_main_v130,
    val_main_v129, val_main_v128, val_main_v127, val_main_v126, val_main_v125, val_main_v124, val_main_v22, val_main_v23]
  simp only [ref_dt x4 hq hkv hkr hg hM, ref_cos, ref_sin]
  have e : ∀ (n n' : ℕ) (hn : n < 64) (hn' : n' < 64), n = n' →
      dt (P x4 b) (Q b h) (K b h) (R b) (G b h) i ⟨n, hn⟩ = dt (P x4 b) (Q b h) (K b h) (R b) (G b h) i ⟨n', hn'⟩ := by
    rintro n n' hn hn' rfl
    rfl
  unfold dp
  by_cases hr : r.val < 32
  · simp only [dif_pos hr, ← EReal.coe_mul, ← EReal.coe_add]
    rw [add_comm]
  · simp only [dif_neg hr, ← EReal.coe_mul, ← EReal.coe_add, ← EReal.coe_neg]
    rw [e (32 + (r.val - 32)) r.val _ _ (by omega), neg_mul, ← sub_eq_add_neg]

/-! ## The results -/

/-- The gradient in the queries, each head padded to 256 columns. -/
theorem ref_q (b : Fin 2) (i : Fin 2048) (h : Fin 8) (k : Fin 256) :
    val_main_v145 (F := Ideal) x0 x1 x2 x3 x4 (ix4 b i h k)
      = ((if hk : k.val < 128 then dn (P x4 b) (Q b h) (K b h) (R b) (G b h) i ⟨k.val, hk⟩
          else if hk' : k.val - 128 < 64 then dp (P x4 b) (Q b h) (K b h) (R b) (G b h) i ⟨k.val - 128, hk'⟩ else 0 : ℝ) : EReal) := by
  pointwise [val_main_v145, val_main_v144, val_main_v143, val_main_v142, val_main_v141]
  simp only [ref_dn x4 hq hkv hkr hg hM, ref_dprot x4 hq hkv hkr hg hM]
  have z : val_main_cst_24 (F := Ideal) (Shape.Idx.first h_S_) = 0 := Ideal.ofBits_zero_f32
  have z' : val_main_cst_25 (F := Ideal) (Shape.Idx.first h_S_) = 0 := Ideal.ofBits_zero_f32
  have z'' : val_main_cst_26 (F := Ideal) ix0 = 0 := Ideal.ofBits_zero_f32
  rw [z, z', z'']
  by_cases h1 : k.val < 128
  · have h2 : k.val < 192 := by omega
    have h3 : ¬ (128 ≤ k.val ∧ k.val - 128 < 64) := by omega
    simp only [dif_pos h1, dif_pos h2, dif_neg h3, zero_add]
  · by_cases h2 : k.val < 192
    · have h3 : 128 ≤ k.val ∧ k.val - 128 < 64 := by omega
      simp only [dif_neg h1, dif_pos h2, dif_pos h3, dif_pos h3.2, add_zero]
    · have h3 : ¬ k.val - 128 < 64 := by omega
      simp only [dif_neg h1, dif_neg h2, dif_neg h3, EReal.coe_zero]

theorem ref_kv (b : Fin 2) (i : Fin 2048) (h : Fin 8) (k : Fin 256) :
    val_main_v140 (F := Ideal) x0 x1 x2 x3 x4 (ix4 b i h k)
      = ((if hk : k.val < 128 then dk (P x4 b) (Q b h) (K b h) (R b) (G b h) i ⟨k.val, hk⟩
          else dv (P x4 b) (Q b h) (K b h) (R b) (G b h) i ⟨k.val - 128, by omega⟩ : ℝ) : EReal) := by
  pointwise [val_main_v140, val_main_v139, val_main_v138]
  simp only [ref_dk x4 hq hkv hkr hg hM, ref_dv x4 hq hkv hkr hg hM]
  have z : val_main_cst_22 (F := Ideal) (Shape.Idx.first h_S_) = 0 := Ideal.ofBits_zero_f32
  have z' : val_main_cst_23 (F := Ideal) (Shape.Idx.first h_S_) = 0 := Ideal.ofBits_zero_f32
  rw [z, z']
  by_cases h1 : k.val < 128
  · have h3 : ¬ (128 ≤ k.val ∧ k.val - 128 < 128) := by omega
    simp only [dif_pos h1, dif_neg h3, zero_add]
  · have h3 : 128 ≤ k.val ∧ k.val - 128 < 128 := by omega
    simp only [dif_neg h1, dif_pos h3, add_zero]

theorem ref_kr (b : Fin 2) (i : Fin 2048) (d : Fin 128) :
    val_main_v148 (F := Ideal) x0 x1 x2 x3 x4 (ix3 b i d)
      = ((∑ h, if hd : d.val < 64 then dr (P x4 b) (Q b h) (K b h) (R b) (G b h) i ⟨d.val, hd⟩ else 0 : ℝ) : EReal) := by
  pointwise [val_main_v148, val_main_v147]
  simp only [ref_dr x4 hq hkv hkr hg hM]
  have z : val_main_cst_27 (F := Ideal) ix0 = 0 := Ideal.ofBits_zero_f32
  rw [z]
  by_cases h1 : d.val < 64
  · simp only [dif_pos h1]
  · simp only [dif_neg h1, Finset.sum_const_zero, EReal.coe_zero]

end Cert.AttnRef
-- ==== Proof.AttnSaved.lean ====
/-
  What attention's reference returns of its forward pass, element by element, on finite arguments: the output, the logarithm of
  each row's denominator, and the scaled queries.
-/
module

public import proofs.«01_k».proof.Proof.AttnRef
public import proofs.«01_k».proof.Proof.AttnBlocks

@[expose] public section

set_option maxRecDepth 16384

noncomputable section

namespace Cert.AttnRef

open Cert.ReferenceAttnIdeal Cert.ReferenceAttnIdeal.Gen Cert.ReferenceAttnIdeal.Read
open Idealize.ShloMosaic Idealize.ShloMosaic.TcCoe Idealize.SL.Sem
open Cert.AttnSpec Cert.RealLift Cert.AttnHost Cert.AttnBlocks

variable {x0 : S2x2048x8x192.Idx → EReal} {x1 : S2x2048x8x256.Idx → EReal} {x2 : S2x2048x64.Idx → EReal}
  (x4 : S2x2048.Idx → BitVec 32)
  {Q : Fin 2 → Fin 8 → Fin 2048 → Fin 192 → ℝ} {K : Fin 2 → Fin 8 → Fin 2048 → Fin 256 → ℝ}
  {R : Fin 2 → Fin 2048 → Fin 64 → ℝ}
  (hq : ∀ b i h k, x0 (ix4 b i h k) = (Q b h i k : EReal))
  (hkv : ∀ b i h k, x1 (ix4 b i h k) = (K b h i k : EReal))
  (hkr : ∀ b i k, x2 (ix3 b i k) = (R b i k : EReal))
  {M : Fin 2 → Fin 8 → Fin 2048 → ℝ}
  (hM : ∀ b h i, val_main_v59 (F := Ideal) x0 x1 x2 x4 (ix3 b h i) = (M b h i : EReal))

/-! ## The queries -/

include hq in
theorem ref_scaled (b : Fin 2) (i : Fin 2048) (h : Fin 8) (k : Fin 256) :
    val_main_v153 (F := Ideal) x0 x4 (ix4 b i h k) = (queries (P x4 b) (Q b h) i k : EReal) := by
  pointwise [val_main_v153, val_main_v152, val_main_v97, val_main_v96, val_main_v95, val_main_v18, val_main_cst_18, val_main_cst_28]
  simp only [ref_rot x4 hq, hq, scale_eq]
  unfold queries
  by_cases h1 : k.val < 128
  · have h2 : k.val < 192 := by omega
    simp only [dif_pos h1, dif_pos h2]
    exact (EReal.coe_mul _ _).symm
  · by_cases h2 : k.val < 192
    · simp only [dif_neg h1, dif_pos h2]
      exact (EReal.coe_mul _ _).symm
    · simp only [dif_neg h1, dif_neg h2]
      exact EReal.coe_zero.symm

include hq in
theorem saved_q (b : Fin 2) (i : Fin 2048) (h : Fin 8) (k : Fin 256) :
    val_main_v160 (F := Ideal) x0 x4 (ix2 (row b i) (col h k)) = (queries (P x4 b) (Q b h) i k : EReal) := by
  refine Eq.trans ?_ (ref_scaled x4 hq b i h k)
  unfold val_main_v160 val_main_v154
  generalize val_main_v153 (F := Ideal) x0 x4 = f
  pointwise [row, col]

include hq hkv hkr hM

/-! ## The output -/

theorem ref_o (b : Fin 2) (i : Fin 2048) (h : Fin 8) (d : Fin 128) :
    val_main_v81 (F := Ideal) x0 x1 x2 x4 (ix4 b i h d)
      = (Cert.Attn.O (score (P x4 b) (Q b h) (K b h) (R b)) (value (K b h)) i d : EReal) := by
  pointwise [val_main_v81, val_main_v80, val_main_v21]
  simp only [ref_prob x4 hq hkv hkr hM, hkv, ← EReal.coe_mul]
  rw [sum_coe]
  unfold Cert.Attn.O value
  refine congrArg _ (Finset.sum_congr rfl fun j _ => ?_)
  exact mul_comm _ _

theorem saved_o (b : Fin 2) (i : Fin 2048) (h : Fin 8) (d : Fin 128) :
    val_main_v159 (F := Ideal) x0 x1 x2 x4 (ix2 (row b i) (col' h d))
      = (Cert.Attn.O (score (P x4 b) (Q b h) (K b h) (R b)) (value (K b h)) i d : EReal) := by
  refine Eq.trans ?_ (ref_o x4 hq hkv hkr hM b i h d)
  unfold val_main_v159 val_main_v158
  generalize val_main_v81 (F := Ideal) x0 x1 x2 x4 = f
  pointwise [row, col']

/-! ## The rows' denominators -/

omit hq hkv hkr in
theorem ref_row_top (b : Fin 2) (h : Fin 8) (i : Fin 2048) :
    val_main_v82 (F := Ideal) x0 x1 x2 x4 (ix3 b h i) = (M b h i : EReal) := by
  have e := (ref_max x4 b h i _ rfl).symm.trans (hM b h i)
  rw [ofBits_neg_inf, max_eq_right bot_le] at e
  refine Eq.trans ?_ e
  unfold val_main_v82 val_main_v52 val_main_cst_15 val_main_cst_5
  rfl

theorem ref_row_exp (b : Fin 2) (h : Fin 8) (i j : Fin 2048) :
    val_main_v91 (F := Ideal) x0 x1 x2 x4 (ix4 b h i j) = val_main_v72 (F := Ideal) x0 x1 x2 x4 (ix4 b h i j) := by
  pointwise [val_main_v91, val_main_v90, val_main_v89, val_main_v88, val_main_v72, val_main_v71, val_main_v70, val_main_v69]
  simp only [ref_row_top x4 hM, hM]

theorem ref_row_den (b : Fin 2) (h : Fin 8) (i : Fin 2048) :
    val_main_v92 (F := Ideal) x0 x1 x2 x4 (ix3 b h i) = val_main_v73 (F := Ideal) x0 x1 x2 x4 (ix3 b h i) := by
  pointwise [val_main_v92, val_main_v73, val_main_cst_17, val_main_cst_13]
  simp only [ref_row_exp x4 hq hkv hkr hM]

theorem ref_lse (b : Fin 2) (h : Fin 8) (i : Fin 2048) :
    val_main_v94 (F := Ideal) x0 x1 x2 x4 (ix3 b h i)
      = (Real.log (Cert.Attn.Z (score (P x4 b) (Q b h) (K b h) (R b)) i) : EReal) := by
  pointwise [val_main_v94, val_main_v93]
  rw [ref_row_den x4 hq hkv hkr hM, ref_den x4 hq hkv hkr hM, ref_row_top x4 hM]
  have hz := Cert.Attn.Z_pos (score (P x4 b) (Q b h) (K b h) (R b)) i
  rw [log_coe (div_pos hz (Real.exp_pos _)), ← EReal.coe_add, Real.log_div hz.ne' (Real.exp_ne_zero _), Real.log_exp,
    sub_add_cancel]

theorem saved_lse (b : Fin 2) (i : Fin 2048) (h : Fin 8) :
    val_main_v151 (F := Ideal) x0 x1 x2 x4 (ix3 h (row b i) 0)
      = (Real.log (Cert.Attn.Z (score (P x4 b) (Q b h) (K b h) (R b)) i) : EReal) := by
  refine Eq.trans ?_ (ref_lse x4 hq hkv hkr hM b h i)
  unfold val_main_v151 val_main_v150
  generalize val_main_v94 (F := Ideal) x0 x1 x2 x4 = f
  pointwise [row]

end Cert.AttnRef
-- ==== Proof.Finite.lean ====
/-
  What the preconditions say of one element: a float whose absolute value lies below infinity is a real number.
-/
module

public import Idealize.ShloMosaic.Lib.ReduceAll
public import Idealize.ShloMosaic.Lib.IdealHost
public import proofs.«01_k».proof.Proof.RealLift

@[expose] public section

noncomputable section

namespace Cert.Finite

open Idealize.ShloMosaic

/-- The word of infinity is the largest extended real. -/
theorem ofBits_inf : Ideal.ofBits FTy.f32 0x7F800000#32 = (⊤ : EReal) := by simp [Ideal.ofBits, Ideal.ieee]

/-- The test of one element. -/
theorem real_of_test (x : EReal) (h : Ideal.cmp CmpFPredicate.olt (max x (-x)) ⊤ = 1#1) : x = (x.toReal : EReal) := by
  have h' : max x (-x) < ⊤ := by
    by_contra hn
    exact absurd h (by simp [Ideal.cmp, hn])
  refine (EReal.coe_toReal ?_ ?_).symm
  · rintro rfl
    simp at h'
  · rintro rfl
    simp at h'

/-- The test of a whole array. -/
theorem real_of_all {s t u : Shape} {axes : List (Fin s.rank)} [Subsingleton t.Idx] (x y : s.Idx → EReal) (v : u.Idx → BitVec 1)
    (h : s.ReducesTo axes t) (hu : 0 < u.numel) (j : t.Idx) (hy : ∀ i, y i = Ideal.ofBits FTy.f32 0x7F800000#32)
    (e : Host.reduce IntOp.andi (fun i => Ideal.cmp CmpFPredicate.olt (max (x i) (-(x i))) (y i)) v h hu j = 1#1) (i : s.Idx) :
    x i = ((x i).toReal : EReal) := by
  have e' := Host.reduce_andi_all _ v h hu j e i
  rw [hy, ofBits_inf] at e'
  exact real_of_test _ e'

/-- Both of two tests hold where their conjunction does. -/
theorem and_one {a b : BitVec 1} (h : IntOp.andi a b = 1#1) : a = 1#1 ∧ b = 1#1 := by
  revert a b
  decide

end Cert.Finite
-- ==== Proof.AttnClaim.lean ====
/-
  Attention's gradient: its kernels and its reference leave the same gradients and the same values saved of the forward pass, wherever the arguments are finite, in every
  column that is not a head's padding.
-/
module

public import proofs.«01_k».proof.Defs
public import proofs.«01_k».proof.Proof.AttnArrays
public import proofs.«01_k».proof.Proof.AttnRun
public import proofs.«01_k».proof.Proof.AttnRefOut
public import proofs.«01_k».proof.Proof.AttnSaved
public import proofs.«01_k».proof.Proof.Finite
public import Idealize.ShloMosaic.Lib.Quiescent

@[expose] public section

set_option maxRecDepth 16384

noncomputable section

namespace Cert.AttnClaim

open Idealize.ShloMosaic Idealize.ShloMosaic.TcCoe Idealize.SL.Sem
open Cert.AttnHost Cert.AttnBlocks Cert.AttnSpec

/-! ## The precondition and the mask -/

section Pre

open Cert.Pre_finite_attn

theorem finite [Facts] (x0 : S2x2048x8x192.Idx → EReal) (x1 : S2x2048x8x256.Idx → EReal) (x2 : S2x2048x64.Idx → EReal)
    (x3 : S2x2048x8x128.Idx → EReal) (x4 : S2x2048.Idx → BitVec 32) (j : S_.Idx) (h : fn (F := Ideal) x0 x1 x2 x3 x4 j = 1#1) :
    (∀ i, x0 i = ((x0 i).toReal : EReal)) ∧ (∀ i, x1 i = ((x1 i).toReal : EReal)) ∧ (∀ i, x2 i = ((x2 i).toReal : EReal))
      ∧ ∀ i, x3 i = ((x3 i).toReal : EReal) := by
  obtain ⟨h012, h3⟩ := Cert.Finite.and_one h
  obtain ⟨h01, h2⟩ := Cert.Finite.and_one h012
  obtain ⟨h0, h1⟩ := Cert.Finite.and_one h01
  have : Subsingleton S_.Idx := ⟨fun a b => funext fun i => i.elim0⟩
  exact ⟨Cert.Finite.real_of_all _ _ _ _ _ _ (fun _ => rfl) h0, Cert.Finite.real_of_all _ _ _ _ _ _ (fun _ => rfl) h1,
    Cert.Finite.real_of_all _ _ _ _ _ _ (fun _ => rfl) h2, Cert.Finite.real_of_all _ _ _ _ _ _ (fun _ => rfl) h3⟩

end Pre

section Mask

open Cert.On_head_columns

/-- The mask's word of a column. -/
def word (k : BitVec 32) : BitVec 1 :=
  let r := IntOp.remsi .host k 256#32
  let s := Scalar.select (IntOp.andi (IntOp.cmpi .ne (IntOp.cmpi .slt r 0#32) (IntOp.cmpi .slt 256#32 0#32)) (IntOp.cmpi .ne r 0#32))
    (IntOp.addi r 256#32) r
  IntOp.cmpi .slt s 192#32

theorem word_col : ∀ (h : Fin 8) (k : Fin 256), word (BitVec.ofNat 32 (256 * h.val + k.val)) = 1#1 → k.val < 192 := by
  decide +kernel

theorem mask_col [Facts] (x0 : S2x2048x8x192.Idx → EReal) (x1 : S2x2048x8x256.Idx → EReal) (x2 : S2x2048x64.Idx → EReal)
    (x3 : S2x2048x8x128.Idx → EReal) (x4 : S2x2048.Idx → BitVec 32) (n : Fin 4096) (h : Fin 8) (k : Fin 256)
    (e : (fn (F := Ideal) x0 x1 x2 x3 x4).1 (ix2 n (col h k)) = 1#1) : k.val < 192 :=
  word_col h k e

end Mask

/-! ## The reference's results, at a row and a column -/

section Ref

open Cert.ReferenceAttnIdeal Cert.ReferenceAttnIdeal.Gen Cert.ReferenceAttnIdeal.Read

variable (x0 : S2x2048x8x192.Idx → EReal) (x1 : S2x2048x8x256.Idx → EReal) (x2 : S2x2048x64.Idx → EReal)
  (x3 : S2x2048x8x128.Idx → EReal) (x4 : S2x2048.Idx → BitVec 32)

theorem at_q (b : Fin 2) (i : Fin 2048) (h : Fin 8) (k : Fin 256) :
    val_main_v155 (F := Ideal) x0 x1 x2 x3 x4 (ix2 (row b i) (col h k)) = val_main_v145 (F := Ideal) x0 x1 x2 x3 x4 (ix4 b i h k) := by
  unfold val_main_v155 val_main_v146
  generalize val_main_v145 (F := Ideal) x0 x1 x2 x3 x4 = f
  pointwise [row, col]

theorem at_kv (b : Fin 2) (i : Fin 2048) (h : Fin 8) (k : Fin 256) :
    val_main_v157 (F := Ideal) x0 x1 x2 x3 x4 (ix2 (row b i) (col h k)) = val_main_v140 (F := Ideal) x0 x1 x2 x3 x4 (ix4 b i h k) := by
  unfold val_main_v157 val_main_v156
  generalize val_main_v140 (F := Ideal) x0 x1 x2 x3 x4 = f
  pointwise [row, col]

theorem at_kr (b : Fin 2) (i : Fin 2048) (d : Fin 128) :
    val_main_v149 (F := Ideal) x0 x1 x2 x3 x4 (ix2 (row b i) d) = val_main_v148 (F := Ideal) x0 x1 x2 x3 x4 (ix3 b i d) := by
  unfold val_main_v149
  generalize val_main_v148 (F := Ideal) x0 x1 x2 x3 x4 = f
  pointwise [row]

end Ref

/-! ## Both programs' results, on the same arguments -/

section Results

open Cert.KernelAttnIdeal Cert.KernelAttnIdeal.Gen

variable (m : (ℓ : Loc nD τ sig) → Buf (Elt Ideal) ℓ) (ρ : Dev nD → PrngReg) (c : Dev nD)
  (h0 : ∀ i, q m c i = ((q m c i).toReal : EReal)) (h1 : ∀ i, kv m c i = ((kv m c i).toReal : EReal))
  (h2 : ∀ i, kr m c i = ((kr m c i).toReal : EReal)) (h3 : ∀ i, g m c i = ((g m c i).toReal : EReal))

include h0 h1 h2 h3

theorem same_q (n : Fin 4096) (k : Fin 2048) (hk : (kOf k).val < 192) :
    Cert.ReferenceAttnIdeal.Read.val_main_v155 (F := Ideal) (q m c) (kv m c) (kr m c) (g m c) (pos m c) (ix2 n k)
      = (dat1 (V3 m ρ) c).arrAt 8 cfg1.N (ix2 n k) := by
  obtain ⟨M, hM⟩ := Cert.AttnRef.ref_top (pos m c) (fun b i h k => h0 (ix4 b i h k)) (fun b i h k => h1 (ix4 b i h k))
    (fun b i k => h2 (ix3 b i k))
  have e := Cert.AttnRef.ref_q (pos m c) (fun b i h k => h0 (ix4 b i h k)) (fun b i h k => h1 (ix4 b i h k))
    (fun b i k => h2 (ix3 b i k)) (fun b i h k => h3 (ix4 b i h k)) hM (bOf n) (rOf n) (hOf k) (kOf k)
  have e' := Cert.AttnArrays.bwd_q m ρ c (fun b i h k => h0 (ix4 b i h k)) (fun b i h k => h1 (ix4 b i h k))
    (fun b i k => h2 (ix3 b i k)) (fun b i h k => h3 (ix4 b i h k)) (bOf n) (hOf k) (rOf n) ⟨(kOf k).val, hk⟩
  rw [← row_of n, ← col_of k, at_q, e]
  refine Eq.trans ?_ e'.symm
  refine congrArg _ ?_
  by_cases hk' : (kOf k).val < 128
  · simp only [dif_pos hk']
  · have : (kOf k).val - 128 < 64 := by omega
    simp only [dif_neg hk', dif_pos this]

theorem same_kv (n : Fin 4096) (k : Fin 2048) :
    Cert.ReferenceAttnIdeal.Read.val_main_v157 (F := Ideal) (q m c) (kv m c) (kr m c) (g m c) (pos m c) (ix2 n k)
      = (dat1 (V3 m ρ) c).arrAt 9 cfg1.N (ix2 n k) := by
  obtain ⟨M, hM⟩ := Cert.AttnRef.ref_top (pos m c) (fun b i h k => h0 (ix4 b i h k)) (fun b i h k => h1 (ix4 b i h k))
    (fun b i k => h2 (ix3 b i k))
  have e := Cert.AttnRef.ref_kv (pos m c) (fun b i h k => h0 (ix4 b i h k)) (fun b i h k => h1 (ix4 b i h k))
    (fun b i k => h2 (ix3 b i k)) (fun b i h k => h3 (ix4 b i h k)) hM (bOf n) (rOf n) (hOf k) (kOf k)
  have e' := Cert.AttnArrays.bwd_kv m ρ c (fun b i h k => h0 (ix4 b i h k)) (fun b i h k => h1 (ix4 b i h k))
    (fun b i k => h2 (ix3 b i k)) (fun b i h k => h3 (ix4 b i h k)) (bOf n) (hOf k) (rOf n) (kOf k)
  rw [← row_of n, ← col_of k, at_kv, e]
  exact e'.symm

theorem same_kr (n : Fin 4096) (d : Fin 128) :
    Cert.ReferenceAttnIdeal.Read.val_main_v149 (F := Ideal) (q m c) (kv m c) (kr m c) (g m c) (pos m c) (ix2 n d)
      = (dat1 (V3 m ρ) c).arrAt 10 cfg1.N (ix2 n d) := by
  obtain ⟨M, hM⟩ := Cert.AttnRef.ref_top (pos m c) (fun b i h k => h0 (ix4 b i h k)) (fun b i h k => h1 (ix4 b i h k))
    (fun b i k => h2 (ix3 b i k))
  have e := Cert.AttnRef.ref_kr (pos m c) (fun b i h k => h0 (ix4 b i h k)) (fun b i h k => h1 (ix4 b i h k))
    (fun b i k => h2 (ix3 b i k)) (fun b i h k => h3 (ix4 b i h k)) hM (bOf n) (rOf n) d
  have e' := Cert.AttnArrays.bwd_kr m ρ c (fun b i h k => h0 (ix4 b i h k)) (fun b i h k => h1 (ix4 b i h k))
    (fun b i k => h2 (ix3 b i k)) (fun b i h k => h3 (ix4 b i h k)) (bOf n) (rOf n) d
  rw [← row_of n, at_kr, e]
  exact e'.symm

omit h3

theorem same_o (n : Fin 4096) (k : Fin 1024) :
    Cert.ReferenceAttnIdeal.Read.val_main_v159 (F := Ideal) (q m c) (kv m c) (kr m c) (pos m c) (ix2 n k)
      = (dat0 (V1 m ρ) c).arrAt 5 cfg0.N (ix2 n k) := by
  obtain ⟨M, hM⟩ := Cert.AttnRef.ref_top (pos m c) (fun b i h k => h0 (ix4 b i h k)) (fun b i h k => h1 (ix4 b i h k))
    (fun b i k => h2 (ix3 b i k))
  rw [← row_of n, ← col'_of k]
  exact (Cert.AttnRef.saved_o (pos m c) (fun b i h k => h0 (ix4 b i h k)) (fun b i h k => h1 (ix4 b i h k))
    (fun b i k => h2 (ix3 b i k)) hM (bOf n) (rOf n) (hOf' k) (dOf' k)).trans
    (Cert.AttnArrays.fwd_o m ρ c (fun b i h k => h0 (ix4 b i h k)) (fun b i h k => h1 (ix4 b i h k))
      (fun b i k => h2 (ix3 b i k)) (bOf n) (hOf' k) (rOf n) (dOf' k)).symm

theorem same_lse (h : Fin 8) (n : Fin 4096) :
    Cert.ReferenceAttnIdeal.Read.val_main_v151 (F := Ideal) (q m c) (kv m c) (kr m c) (pos m c) (ix3 h n 0)
      = (dat0 (V1 m ρ) c).arrAt 6 cfg0.N (ix3 h n 0) := by
  obtain ⟨M, hM⟩ := Cert.AttnRef.ref_top (pos m c) (fun b i h k => h0 (ix4 b i h k)) (fun b i h k => h1 (ix4 b i h k))
    (fun b i k => h2 (ix3 b i k))
  rw [← row_of n]
  exact (Cert.AttnRef.saved_lse (pos m c) (fun b i h k => h0 (ix4 b i h k)) (fun b i h k => h1 (ix4 b i h k))
    (fun b i k => h2 (ix3 b i k)) hM (bOf n) (rOf n) h).trans
    (Cert.AttnArrays.fwd_lse m ρ c (fun b i h k => h0 (ix4 b i h k)) (fun b i h k => h1 (ix4 b i h k))
      (fun b i k => h2 (ix3 b i k)) (bOf n) h (rOf n)).symm

omit h1 h2

theorem same_scaled (n : Fin 4096) (k : Fin 2048) :
    Cert.ReferenceAttnIdeal.Read.val_main_v160 (F := Ideal) (q m c) (pos m c) (ix2 n k)
      = (dat0 (V1 m ρ) c).arrAt 7 cfg0.N (ix2 n k) := by
  rw [← row_of n, ← col_of k]
  exact (Cert.AttnRef.saved_q (pos m c) (fun b i h k => h0 (ix4 b i h k)) (bOf n) (rOf n) (hOf k) (kOf k)).trans
    (Cert.AttnArrays.fwd_q m ρ c (fun b i h k => h0 (ix4 b i h k)) (bOf n) (hOf k) (rOf n) (kOf k)).symm

end Results

/-! ## The claims -/

theorem algebraic [hF : Cert.Pre_finite_attn.Facts] [hO : Cert.On_head_columns.Facts] :
    Cert.algebraic_KernelAttnIdeal_ReferenceAttnIdeal_on_head_columns_pre_finite_attn := by
  intro m g0 m' g' hp hag
  have hf := fun c => finite _ _ _ _ _ (fun i => i.elim0) (congrFun (hp c) _)
  refine ⟨fun c => (Cert.KernelAttnIdeal.Gen.dat1 (Cert.KernelAttnIdeal.Gen.V3 m g0) c).arrAt 8 Cert.KernelAttnIdeal.cfg1.N,
    fun c => (Cert.KernelAttnIdeal.Gen.dat1 (Cert.KernelAttnIdeal.Gen.V3 m g0) c).arrAt 9 Cert.KernelAttnIdeal.cfg1.N,
    fun c => (Cert.KernelAttnIdeal.Gen.dat1 (Cert.KernelAttnIdeal.Gen.V3 m g0) c).arrAt 10 Cert.KernelAttnIdeal.cfg1.N,
    fun c => (Cert.KernelAttnIdeal.Gen.dat0 (Cert.KernelAttnIdeal.Gen.V1 m g0) c).arrAt 5 Cert.KernelAttnIdeal.cfg0.N,
    fun c => (Cert.KernelAttnIdeal.Gen.dat0 (Cert.KernelAttnIdeal.Gen.V1 m g0) c).arrAt 6 Cert.KernelAttnIdeal.cfg0.N,
    fun c => (Cert.KernelAttnIdeal.Gen.dat0 (Cert.KernelAttnIdeal.Gen.V1 m g0) c).arrAt 7 Cert.KernelAttnIdeal.cfg0.N, ?_, ?_⟩
  · refine (θ_run Cert.KernelAttnIdeal.defs _ _).mono (fun r h c => ?_) (Cert.AttnRun.run m g0)
    obtain ⟨r0, r1, r2, r3, r4, r5, ha⟩ := h c
    exact ⟨fun i _ => congrFun r0 i, fun i _ => congrFun r1 i, fun i _ => congrFun r2 i, fun i _ => congrFun r3 i,
      fun i _ => congrFun r4 i, fun i _ => congrFun r5 i, ha⟩
  · refine (θ_run Cert.ReferenceAttnIdeal.defs _ _).mono (fun r h c => ?_) (Cert.ReferenceAttnIdeal.Value.run m' g')
    obtain ⟨r0, r1, r2, r3, r4, r5, ha⟩ := h c
    obtain ⟨a0, a1, a2, a3, a4⟩ := hag c
    obtain ⟨f0, f1, f2, f3⟩ := hf c
    have k0 : StableHlo.launchContents m' c (Proc.devRef .tc Cert.ReferenceAttnIdeal.main_arg0) = m ((c.tc : Thread Cert.KernelAttnIdeal.nD Cert.KernelAttnIdeal.τ).loc Cert.KernelAttnIdeal.main_arg0) := a0
    have k1 : StableHlo.launchContents m' c (Proc.devRef .tc Cert.ReferenceAttnIdeal.main_arg1) = m ((c.tc : Thread Cert.KernelAttnIdeal.nD Cert.KernelAttnIdeal.τ).loc Cert.KernelAttnIdeal.main_arg1) := a1
    have k2 : StableHlo.launchContents m' c (Proc.devRef .tc Cert.ReferenceAttnIdeal.main_arg2) = m ((c.tc : Thread Cert.KernelAttnIdeal.nD Cert.KernelAttnIdeal.τ).loc Cert.KernelAttnIdeal.main_arg2) := a2
    have k3 : StableHlo.launchContents m' c (Proc.devRef .tc Cert.ReferenceAttnIdeal.main_arg3) = m ((c.tc : Thread Cert.KernelAttnIdeal.nD Cert.KernelAttnIdeal.τ).loc Cert.KernelAttnIdeal.main_arg3) := a3
    have k4 : StableHlo.launchContents m' c (Proc.devRef .tc Cert.ReferenceAttnIdeal.main_arg4) = m ((c.tc : Thread Cert.KernelAttnIdeal.nD Cert.KernelAttnIdeal.τ).loc Cert.KernelAttnIdeal.main_arg4) := a4
    have r0' := r0.trans (Cert.ReferenceAttnIdeal.Read.val_main_v155_eq (StableHlo.launchContents m' c))
    have r1' := r1.trans (Cert.ReferenceAttnIdeal.Read.val_main_v157_eq (StableHlo.launchContents m' c))
    have r2' := r2.trans (Cert.ReferenceAttnIdeal.Read.val_main_v149_eq (StableHlo.launchContents m' c))
    have r3' := r3.trans (Cert.ReferenceAttnIdeal.Read.val_main_v159_eq (StableHlo.launchContents m' c))
    have r4' := r4.trans (Cert.ReferenceAttnIdeal.Read.val_main_v151_eq (StableHlo.launchContents m' c))
    have r5' := r5.trans (Cert.ReferenceAttnIdeal.Read.val_main_v160_eq (StableHlo.launchContents m' c))
    rw [k0, k1, k2, k3, k4] at r0' r1' r2'
    rw [k0, k1, k2, k4] at r3' r4'
    rw [k0, k4] at r5'
    refine ⟨fun i hi => ?_, fun i _ => ?_, fun i _ => ?_, fun i _ => ?_, fun i _ => ?_, fun i _ => ?_, ha⟩
    · obtain ⟨n, k, rfl⟩ : ∃ (n : Fin 4096) (k : Fin 2048), i = ix2 n k := ⟨i 0, i 1, by funext a; fin_cases a <;> rfl⟩
      rw [← col_of k] at hi
      exact (congrFun r0' _).trans (same_q m g0 c f0 f1 f2 f3 n k (mask_col _ _ _ _ _ n (hOf k) (kOf k) hi))
    · obtain ⟨n, k, rfl⟩ : ∃ (n : Fin 4096) (k : Fin 2048), i = ix2 n k := ⟨i 0, i 1, by funext a; fin_cases a <;> rfl⟩
      exact (congrFun r1' _).trans (same_kv m g0 c f0 f1 f2 f3 n k)
    · obtain ⟨n, k, rfl⟩ : ∃ (n : Fin 4096) (k : Fin 128), i = ix2 n k := ⟨i 0, i 1, by funext a; fin_cases a <;> rfl⟩
      exact (congrFun r2' _).trans (same_kr m g0 c f0 f1 f2 f3 n k)
    · obtain ⟨n, k, rfl⟩ : ∃ (n : Fin 4096) (k : Fin 1024), i = ix2 n k := ⟨i 0, i 1, by funext a; fin_cases a <;> rfl⟩
      exact (congrFun r3' _).trans (same_o m g0 c f0 f1 f2 n k)
    · obtain ⟨h, n, rfl⟩ : ∃ (h : Fin 8) (n : Fin 4096), i = ix3 h n 0 :=
        ⟨i 0, i 1, by funext a; fin_cases a; exacts [rfl, rfl, Fin.ext (Nat.lt_one_iff.mp (i 2).isLt)]⟩
      exact (congrFun r4' _).trans (same_lse m g0 c f0 f1 f2 h n)
    · obtain ⟨n, k, rfl⟩ : ∃ (n : Fin 4096) (k : Fin 2048), i = ix2 n k := ⟨i 0, i 1, by funext a; fin_cases a <;> rfl⟩
      exact (congrFun r5' _).trans (same_scaled m g0 c f0 n k)

/-- The reference runs, leaves its arguments unchanged and has no semaphore. -/
theorem reference_runs : Cert.quiescent_ReferenceAttnIdeal := fun m g _ =>
  (θ_run Cert.ReferenceAttnIdeal.defs _ _).mono
    (fun r h => ⟨fun c => (h c).2.2.2.2.2.2, sem_eq_zero_of_no_sems (by decide) r.2⟩) (Cert.ReferenceAttnIdeal.Value.run m g)

end Cert.AttnClaim

end
-- ==== Proof.PoolSpec.lean ====
/-
  The gradient of the causal pooling with four window lengths, as sums over the windows: what both programs compute.
-/
module

public import Idealize.ShloMosaic.Lib.Pointwise

@[expose] public section

noncomputable section

namespace Cert.Pool

open Idealize.ShloMosaic

/-- The sum of the `w` entries that end at position `r`, or of those that there are. -/
def down (w : ℕ) (f : Fin 2048 → EReal) (r : Fin 2048) : EReal :=
  ∑ k : Fin 2048, if k.val ≤ r.val ∧ r.val < k.val + w then f k else 0

/-- The sum of the `w` entries that begin at position `r`, or of those that there are. -/
def up (w : ℕ) (f : Fin 2048 → EReal) (r : Fin 2048) : EReal :=
  ∑ k : Fin 2048, if r.val ≤ k.val ∧ k.val < r.val + w then f k else 0

theorem down_one (f : Fin 2048 → EReal) (r : Fin 2048) : down 1 f r = f r := by
  unfold down
  rw [Finset.sum_eq_single r]
  · exact if_pos ⟨le_refl _, Nat.lt_succ_self _⟩
  · intro k _ hk
    exact if_neg fun h => hk (Fin.ext (by omega))
  · exact fun h => absurd (Finset.mem_univ r) h

theorem up_one (f : Fin 2048 → EReal) (r : Fin 2048) : up 1 f r = f r := by
  unfold up
  rw [Finset.sum_eq_single r]
  · exact if_pos ⟨le_refl _, Nat.lt_succ_self _⟩
  · intro k _ hk
    exact if_neg fun h => hk (Fin.ext (by omega))
  · exact fun h => absurd (Finset.mem_univ r) h

/-- A window twice as long is the window and the one before it. -/
theorem down_twice (w : ℕ) (f : Fin 2048 → EReal) (r : Fin 2048) :
    down w f r + (if h : w ≤ r.val then down w f ⟨r.val - w, by omega⟩ else 0) = down (w + w) f r := by
  by_cases h : w ≤ r.val
  · rw [dif_pos h]
    unfold down
    rw [← Finset.sum_add_distrib]
    refine Finset.sum_congr rfl fun k _ => ?_
    by_cases h1 : k.val ≤ r.val ∧ r.val < k.val + w
    · rw [if_pos h1, if_neg (show ¬(k.val ≤ r.val - w ∧ r.val - w < k.val + w) by omega), if_pos (by omega), add_zero]
    · by_cases h2 : k.val ≤ r.val - w ∧ r.val - w < k.val + w
      · rw [if_neg h1, if_pos h2, if_pos (by omega), zero_add]
      · rw [if_neg h1, if_neg h2, if_neg (by omega), zero_add]
  · rw [dif_neg h, add_zero]
    unfold down
    refine Finset.sum_congr rfl fun k _ => ?_
    by_cases h1 : k.val ≤ r.val
    · rw [if_pos (by omega), if_pos (by omega)]
    · rw [if_neg (by omega), if_neg (by omega)]

/-- A window twice as long is the window and the one after it. -/
theorem up_twice (w : ℕ) (f : Fin 2048 → EReal) (r : Fin 2048) :
    up w f r + (if h : r.val + w < 2048 then up w f ⟨r.val + w, h⟩ else 0) = up (w + w) f r := by
  by_cases h : r.val + w < 2048
  · rw [dif_pos h]
    unfold up
    rw [← Finset.sum_add_distrib]
    refine Finset.sum_congr rfl fun k _ => ?_
    by_cases h1 : r.val ≤ k.val ∧ k.val < r.val + w
    · rw [if_pos h1, if_neg (show ¬(r.val + w ≤ k.val ∧ k.val < r.val + w + w) by omega), if_pos (by omega), add_zero]
    · by_cases h2 : r.val + w ≤ k.val ∧ k.val < r.val + w + w
      · rw [if_neg h1, if_pos h2, if_pos (by omega), zero_add]
      · rw [if_neg h1, if_neg h2, if_neg (by omega), zero_add]
  · rw [dif_neg h, add_zero]
    unfold up
    refine Finset.sum_congr rfl fun k _ => ?_
    have hk := k.isLt
    by_cases h1 : r.val ≤ k.val
    · rw [if_pos (by omega), if_pos (by omega)]
    · rw [if_neg (by omega), if_neg (by omega)]

/-- How many entries a window that ends at position `r` has. -/
def count (w : ℕ) (r : Fin 2048) : ℕ := min (r.val + 1) w

def cnt (w : ℕ) (r : Fin 2048) : EReal := ((count w r : ℝ) : EReal)

/-- The window of each group of columns: 2, 4, 8 and 16. -/
def win (g : Fin 4) : ℕ := 2 ^ (g.val + 1)

/-- Column `c` of group `g`. -/
def col (g : Fin 4) (c : Fin 128) : Fin 512 := ⟨128 * g.val + c.val, by omega⟩

abbrev Act := Fin 2 → Fin 2048 → Fin 512 → EReal
abbrev Maps := Fin 4 → Fin 128 → Fin 128 → EReal
abbrev Scale := Fin 512 → EReal

/-- The mean over the window less the entry itself. -/
def pooled (x : Act) (b : Fin 2) (g : Fin 4) (r : Fin 2048) (c : Fin 128) : EReal :=
  Ideal.div (down (win g) (fun k => x b k (col g c)) r) (cnt (win g) r) - x b r (col g c)

/-- The gradient at the mixed columns. -/
def dmix (d : Act) (s : Scale) (b : Fin 2) (g : Fin 4) (r : Fin 2048) (e : Fin 128) : EReal := d b r (col g e) * s (col g e)

def dpool (d : Act) (s : Scale) (w : Maps) (b : Fin 2) (g : Fin 4) (r : Fin 2048) (c : Fin 128) : EReal :=
  ∑ e : Fin 128, dmix d s b g r e * w g c e

def dxG (d : Act) (s : Scale) (w : Maps) (b : Fin 2) (g : Fin 4) (r : Fin 2048) (c : Fin 128) : EReal :=
  up (win g) (fun k => Ideal.div (dpool d s w b g k c) (cnt (win g) k)) r - dpool d s w b g r c

/-- The gradient at the pooling's input, the two sequences one after the other. -/
def dx (d : Act) (s : Scale) (w : Maps) (i : Fin 4096) (l : Fin 512) : EReal :=
  dxG d s w ⟨i.val / 2048, by omega⟩ ⟨l.val / 128, by omega⟩ ⟨i.val % 2048, Nat.mod_lt _ (by decide)⟩
    ⟨l.val % 128, Nat.mod_lt _ (by decide)⟩

def dmapsB (x d : Act) (s : Scale) (b : Fin 2) (g : Fin 4) (c e : Fin 128) : EReal :=
  ∑ r : Fin 2048, pooled x b g r c * dmix d s b g r e

def dmaps (x d : Act) (s : Scale) (g : Fin 4) (c e : Fin 128) : EReal := dmapsB x d s 0 g c e + dmapsB x d s 1 g c e

def mixed (x : Act) (w : Maps) (b : Fin 2) (g : Fin 4) (r : Fin 2048) (e : Fin 128) : EReal :=
  ∑ c : Fin 128, pooled x b g r c * w g c e

/-- The mixed columns, scaled, the two sequences one after the other. -/
def outp (x : Act) (w : Maps) (s : Scale) (i : Fin 4096) (l : Fin 512) : EReal :=
  mixed x w ⟨i.val / 2048, by omega⟩ ⟨l.val / 128, by omega⟩ ⟨i.val % 2048, Nat.mod_lt _ (by decide)⟩
    ⟨l.val % 128, Nat.mod_lt _ (by decide)⟩ * s l

def dscaleB (x d : Act) (w : Maps) (b : Fin 2) (g : Fin 4) (e : Fin 128) : EReal :=
  ∑ r : Fin 2048, d b r (col g e) * mixed x w b g r e

/-- The scale's gradient. -/
def dscale (x d : Act) (w : Maps) (l : Fin 512) : EReal :=
  dscaleB x d w 0 ⟨l.val / 128, by omega⟩ ⟨l.val % 128, Nat.mod_lt _ (by decide)⟩
    + dscaleB x d w 1 ⟨l.val / 128, by omega⟩ ⟨l.val % 128, Nat.mod_lt _ (by decide)⟩

end Cert.Pool

end
-- ==== Proof.PoolSteps.lean ====
/-
  The kernel's window sums: each step adds the rows a shift away, and so doubles the window.
-/
module

public import proofs.«01_k».proof.KernelPoolIdeal
public import proofs.«01_k».proof.Proof.Gen.KernelPoolIdeal.Skeleton
public import proofs.«01_k».proof.Proof.PoolSpec

@[expose] public section

set_option maxRecDepth 16384

noncomputable section

namespace Cert.PoolSteps

open Cert.KernelPoolIdeal Cert.KernelPoolIdeal.Gen Idealize.ShloMosaic
open Cert.Pool

abbrev Rows := FVec Ideal S2048x128 .f32

def zeroRows : Rows := broadcast S2048x128 (Scalar.ofBits .f32 0x00000000#32 : Ideal .f32)

/-- A row and the one `d` rows above it. -/
def stepDown (d : BitVec 32) (v : Rows) : Rows :=
  addf v (select (cmpi .sge (iota .tc S2048x128 32 [0] iota_S2048x128_d0_w32) (broadcast S2048x128 d))
    (dynamicRotate 0 d none v rotates_S2048x128_d0) zeroRows)

/-- A row and the one that a rotation by `d` brings there, on the rows below `d`. -/
def stepUp (d : BitVec 32) (v : Rows) : Rows :=
  addf v (select (cmpi .slt (iota .tc S2048x128 32 [0] iota_S2048x128_d0_w32) (broadcast S2048x128 d))
    (dynamicRotate 0 d none v rotates_S2048x128_d0) zeroRows)

/-- The window's lengths by row. -/
def counts (w : BitVec 32) : Rows :=
  sitofp .f32 (minsi (addi (iota .tc S2048x128 32 [0] iota_S2048x128_d0_w32) (broadcast S2048x128 1#32)) (broadcast S2048x128 w))

theorem cmpDown {w : ℕ} (hw : w = 1 ∨ w = 2 ∨ w = 4 ∨ w = 8) :
    ∀ r : Fin 2048, IntOp.cmpi .sge (BitVec.ofNat 32 r.val) (BitVec.ofNat 32 w) = if w ≤ r.val then 1#1 else 0#1 := by
  rcases hw with rfl | rfl | rfl | rfl <;> decide +kernel

/-- A step down doubles the window. -/
theorem down_step {w : ℕ} (hw : w = 1 ∨ w = 2 ∨ w = 4 ∨ w = 8) (f : Fin 2048 → Fin 128 → EReal) (v : Rows)
    (hv : ∀ r l, (v (ix2 r l) : EReal) = down w (fun k => f k l) r) (r : Fin 2048) (l : Fin 128) :
    (stepDown (BitVec.ofNat 32 w) v (ix2 r l) : EReal) = down (w + w) (fun k => f k l) r := by
  refine Eq.trans ?_ (down_twice w (fun k => f k l) r)
  have hc := cmpDown hw r
  have e (h : w ≤ r.val) : (⟨(r.val + 2048 - w) % 2048, Nat.mod_lt _ (by decide)⟩ : Fin 2048) = ⟨r.val - w, by omega⟩ :=
    Fin.ext (by simp only; omega)
  rcases hw with rfl | rfl | rfl | rfl
  all_goals
    pointwise [stepDown, zeroRows]
    rw [hv, hc]
    refine congrArg (down _ (fun k => f k l) r + ·) ?_
    split_ifs with h
    · exact (congrArg (fun i => (v (ix2 i l) : EReal)) (e h)).trans (hv _ l)
    · rfl

theorem cmpUp {w n : ℕ} (hw : w = 1 ∧ n = 2047 ∨ w = 2 ∧ n = 2046 ∨ w = 4 ∧ n = 2044 ∨ w = 8 ∧ n = 2040) :
    ∀ r : Fin 2048, IntOp.cmpi .slt (BitVec.ofNat 32 r.val) (BitVec.ofNat 32 n) = if r.val + w < 2048 then 1#1 else 0#1 := by
  rcases hw with ⟨rfl, rfl⟩ | ⟨rfl, rfl⟩ | ⟨rfl, rfl⟩ | ⟨rfl, rfl⟩ <;> decide +kernel

/-- A step up doubles the window. -/
theorem up_step {w n : ℕ} (hw : w = 1 ∧ n = 2047 ∨ w = 2 ∧ n = 2046 ∨ w = 4 ∧ n = 2044 ∨ w = 8 ∧ n = 2040)
    (f : Fin 2048 → Fin 128 → EReal) (v : Rows) (hv : ∀ r l, (v (ix2 r l) : EReal) = up w (fun k => f k l) r)
    (r : Fin 2048) (l : Fin 128) : (stepUp (BitVec.ofNat 32 n) v (ix2 r l) : EReal) = up (w + w) (fun k => f k l) r := by
  refine Eq.trans ?_ (up_twice w (fun k => f k l) r)
  have hc := cmpUp hw r
  have e (h : r.val + w < 2048) : (⟨(r.val + 2048 - n) % 2048, Nat.mod_lt _ (by decide)⟩ : Fin 2048) = ⟨r.val + w, h⟩ :=
    Fin.ext (by simp only; omega)
  rcases hw with ⟨rfl, rfl⟩ | ⟨rfl, rfl⟩ | ⟨rfl, rfl⟩ | ⟨rfl, rfl⟩
  all_goals
    pointwise [stepUp, zeroRows]
    rw [hv, hc]
    refine congrArg (up _ (fun k => f k l) r + ·) ?_
    split_ifs with h
    · exact (congrArg (fun i => (v (ix2 i l) : EReal)) (e h)).trans (hv _ l)
    · rfl

theorem int_count {w : ℕ} (hw : w = 2 ∨ w = 4 ∨ w = 8 ∨ w = 16) : ∀ r : Fin 2048,
    (IntOp.minsi (IntOp.addi (BitVec.ofNat 32 r.val) 1#32) (BitVec.ofNat 32 w)).toInt = (count w r : ℤ) := by
  rcases hw with rfl | rfl | rfl | rfl <;> decide +kernel

theorem counts_at {w : ℕ} (hw : w = 2 ∨ w = 4 ∨ w = 8 ∨ w = 16) (r : Fin 2048) (l : Fin 128) :
    (counts (BitVec.ofNat 32 w) (ix2 r l) : EReal) = cnt w r := by
  pointwise [counts]
  show (((IntOp.minsi (IntOp.addi (BitVec.ofNat 32 r.val) 1#32) (BitVec.ofNat 32 w)).toInt : ℝ) : EReal) = _
  rw [int_count hw]
  rfl

section
variable (f : Fin 2048 → Fin 128 → EReal) (v : Rows)

theorem down1 (hv : ∀ r l, (v (ix2 r l) : EReal) = down 1 (fun k => f k l) r) (r l) :
    (stepDown 1#32 v (ix2 r l) : EReal) = down 2 (fun k => f k l) r := down_step (w := 1) (by decide) f v hv r l
theorem down2 (hv : ∀ r l, (v (ix2 r l) : EReal) = down 2 (fun k => f k l) r) (r l) :
    (stepDown 2#32 v (ix2 r l) : EReal) = down 4 (fun k => f k l) r := down_step (w := 2) (by decide) f v hv r l
theorem down4 (hv : ∀ r l, (v (ix2 r l) : EReal) = down 4 (fun k => f k l) r) (r l) :
    (stepDown 4#32 v (ix2 r l) : EReal) = down 8 (fun k => f k l) r := down_step (w := 4) (by decide) f v hv r l
theorem down8 (hv : ∀ r l, (v (ix2 r l) : EReal) = down 8 (fun k => f k l) r) (r l) :
    (stepDown 8#32 v (ix2 r l) : EReal) = down 16 (fun k => f k l) r := down_step (w := 8) (by decide) f v hv r l
theorem up1 (hv : ∀ r l, (v (ix2 r l) : EReal) = up 1 (fun k => f k l) r) (r l) :
    (stepUp 2047#32 v (ix2 r l) : EReal) = up 2 (fun k => f k l) r := up_step (w := 1) (by decide) f v hv r l
theorem up2 (hv : ∀ r l, (v (ix2 r l) : EReal) = up 2 (fun k => f k l) r) (r l) :
    (stepUp 2046#32 v (ix2 r l) : EReal) = up 4 (fun k => f k l) r := up_step (w := 2) (by decide) f v hv r l
theorem up4 (hv : ∀ r l, (v (ix2 r l) : EReal) = up 4 (fun k => f k l) r) (r l) :
    (stepUp 2044#32 v (ix2 r l) : EReal) = up 8 (fun k => f k l) r := up_step (w := 4) (by decide) f v hv r l
theorem up8 (hv : ∀ r l, (v (ix2 r l) : EReal) = up 8 (fun k => f k l) r) (r l) :
    (stepUp 2040#32 v (ix2 r l) : EReal) = up 16 (fun k => f k l) r := up_step (w := 8) (by decide) f v hv r l

end

theorem counts2 (r : Fin 2048) (l : Fin 128) : (counts 2#32 (ix2 r l) : EReal) = cnt 2 r := counts_at (w := 2) (by decide) r l
theorem counts4 (r : Fin 2048) (l : Fin 128) : (counts 4#32 (ix2 r l) : EReal) = cnt 4 r := counts_at (w := 4) (by decide) r l
theorem counts8 (r : Fin 2048) (l : Fin 128) : (counts 8#32 (ix2 r l) : EReal) = cnt 8 r := counts_at (w := 8) (by decide) r l
theorem counts16 (r : Fin 2048) (l : Fin 128) : (counts 16#32 (ix2 r l) : EReal) = cnt 16 r := counts_at (w := 16) (by decide) r l

/-! ## The kernel's expressions, group by group -/

def rows (X : Vec Ideal S2048x128 .f32) : Rows := shapeCast S2048x128 X shapeCasts_S2048x128_S2048x128

/-- The mean over the window less the row. -/
def less (s c v : Rows) : FVec Ideal S2048x128 .bf16 := truncf .bf16 (subf (divf s c) v) bitsLt_bf16_f32

def pooled0 (X : Vec Ideal S2048x128 .f32) := less (stepDown 1#32 (rows X)) (counts 2#32) (rows X)
def pooled1 (X : Vec Ideal S2048x128 .f32) := less (stepDown 2#32 (stepDown 1#32 (rows X))) (counts 4#32) (rows X)
def pooled2 (X : Vec Ideal S2048x128 .f32) :=
  less (stepDown 4#32 (stepDown 2#32 (stepDown 1#32 (rows X)))) (counts 8#32) (rows X)
def pooled3 (X : Vec Ideal S2048x128 .f32) :=
  less (stepDown 8#32 (stepDown 4#32 (stepDown 2#32 (stepDown 1#32 (rows X))))) (counts 16#32) (rows X)

/-- The gradient at the mixed columns. -/
def mixRows (D : Vec Ideal S2048x128 .f32) (S : Vec Ideal S1x128 .f32) : FVec Ideal S2048x128 .bf16 :=
  truncf .bf16 (mulf (rows D) (broadcastTo S2048x128 (shapeCast S1x128 S shapeCasts_S1x128_S1x128) broadcasts_S1x128_S2048x128))
    bitsLt_bf16_f32

/-- The same through the map. -/
def back (D : Vec Ideal S2048x128 .f32) (S : Vec Ideal S1x128 .f32) (M : Vec Ideal S1x128x128 .bf16) : Rows :=
  matmul dot_S2048x128_S128x128_S2048x128_1_1_0_0_n_n none (mixRows D S) (shapeCast S128x128 M shapeCasts_S1x128x128_S128x128 : FVec Ideal S128x128 .bf16)
    (constant S2048x128 .f32 0x00000000#32)

def out (s q : Rows) : FVec Ideal S2048x128 .bf16 := truncf .bf16 (subf s q) bitsLt_bf16_f32

def dx0 (q : Rows) := out (stepUp 2047#32 (divf q (counts 2#32))) q
def dx1 (q : Rows) := out (stepUp 2046#32 (stepUp 2047#32 (divf q (counts 4#32)))) q
def dx2 (q : Rows) := out (stepUp 2044#32 (stepUp 2046#32 (stepUp 2047#32 (divf q (counts 8#32))))) q
def dx3 (q : Rows) := out (stepUp 2040#32 (stepUp 2044#32 (stepUp 2046#32 (stepUp 2047#32 (divf q (counts 16#32)))))) q

/-- A map's gradient, added to what was there. -/
def addMap (P Q : FVec Ideal S2048x128 .bf16) (A : Vec Ideal S1x128x128 .f32) : FVec Ideal S1x128x128 .f32 :=
  shapeCast S1x128x128 (addf (shapeCast S128x128 A shapeCasts_S1x128x128_S128x128)
    (matmul dot_S2048x128_S2048x128_S128x128_0_0_1_1_n_n none P Q (constant S128x128 .f32 0x00000000#32))) shapeCasts_S128x128_S1x128x128

/-- The scale's gradient, added to what was there. -/
def addScale (P : FVec Ideal S2048x128 .bf16) (D : Vec Ideal S2048x128 .f32) (M : Vec Ideal S1x128x128 .bf16)
    (A : Vec Ideal S1x128 .f32) : FVec Ideal S1x128 .f32 :=
  addf (shapeCast S1x128 A shapeCasts_S1x128_S1x128) (shapeCast S1x128 (multiReduction .add [0] S128 (mulf (rows D)
    (matmul dot_S2048x128_S128x128_S2048x128_1_0_0_1_n_n none P (shapeCast S128x128 M shapeCasts_S1x128x128_S128x128 : FVec Ideal S128x128 .bf16)
      (constant S2048x128 .f32 0x00000000#32))) 0x00000000#32 reduces_S2048x128_S128 (.inl rfl) rfl) shapeCasts_S128_S1x128)

variable (X D : Vec Ideal S2048x128 .f32) (S A : Vec Ideal S1x128 .f32) (M : Vec Ideal S1x128x128 .bf16) (B : Vec Ideal S1x128x128 .f32)

def iotaRows : IVec S2048x128 32 := iota .tc S2048x128 32 [0] iota_S2048x128_d0_w32

theorem map0 : k0_pay10 (F := Ideal) (k0_pay5 X) (k0_pay6 D) (k0_pay8 S) B = addMap (pooled0 X) (mixRows D S) B := rfl
theorem scale0 : k0_pay7 (F := Ideal) X M D A = addScale (pooled0 X) D M A := rfl
theorem grad0 : k0_pay11 (F := Ideal) k0_pay4 (k0_pay6 D) (k0_pay8 S) M = dx0 (back D S M) := rfl

theorem map1 : k0_pay21 (F := Ideal) (k0_pay20 (k0_pay12 X) k0_pay13 k0_pay14 (k0_pay15 X) D S B)
    = addMap (pooled1 X) (mixRows D S) B := rfl
theorem scale1 : k0_pay18 (F := Ideal) (k0_pay12 X) k0_pay13 k0_pay14 (k0_pay15 X) M D A = addScale (pooled1 X) D M A := rfl
theorem grad1 : k0_pay22 (F := Ideal) k0_pay13 (k0_pay19 D S) M = dx1 (back D S M) := rfl

theorem map2 : k0_pay32 (F := Ideal) (k0_pay30 B) (k0_pay31 (k0_pay23 X) k0_pay24 (k0_pay25 X) iotaRows D S)
    = addMap (pooled2 X) (mixRows D S) B := rfl
theorem scale2 : k0_pay28 (F := Ideal) (k0_pay23 X) k0_pay24 (k0_pay25 X) iotaRows M D A = addScale (pooled2 X) D M A := rfl
theorem grad2 : k0_pay33 (F := Ideal) k0_pay24 (k0_pay29 D S) M = dx2 (back D S M) := rfl

theorem map3 : k0_pay42 (F := Ideal) (k0_pay37 (k0_pay34 X) k0_pay35) (k0_pay39 D) S B = addMap (pooled3 X) (mixRows D S) B := rfl
theorem scale3 : k0_pay40 (F := Ideal) (k0_pay38 (k0_pay34 X) k0_pay35 M) (k0_pay39 D) A = addScale (pooled3 X) D M A := rfl
theorem grad3 : k0_pay1 (F := Ideal) (k0_pay43 (k0_pay39 D) S M) (k0_pay44 (k0_pay36 k0_pay35) (k0_pay39 D) S M)
    (k0_pay45 (k0_pay36 k0_pay35) (k0_pay39 D) S M) = dx3 (back D S M) := rfl

/-! ## Their values -/

variable (x d : Fin 2048 → Fin 128 → EReal)

theorem rows_at (hX : ∀ r l, (X (ix2 r l) : EReal) = x r l) (r : Fin 2048) (l : Fin 128) : (rows X (ix2 r l) : EReal) = x r l := by
  pointwise [rows]
  exact hX r l

theorem rows_down (hX : ∀ r l, (X (ix2 r l) : EReal) = x r l) (r : Fin 2048) (l : Fin 128) :
    (rows X (ix2 r l) : EReal) = down 1 (fun k => x k l) r := (rows_at X x hX r l).trans (down_one (fun k => x k l) r).symm

theorem pooled0_at (hX : ∀ r l, (X (ix2 r l) : EReal) = x r l) (r : Fin 2048) (l : Fin 128) :
    (pooled0 X (ix2 r l) : EReal) = Ideal.div (down 2 (fun k => x k l) r) (cnt 2 r) - x r l := by
  have h := down1 x _ (rows_down X x hX)
  unfold pooled0
  pointwise [less]
  rw [h, counts2, rows_at X x hX]

theorem pooled1_at (hX : ∀ r l, (X (ix2 r l) : EReal) = x r l) (r : Fin 2048) (l : Fin 128) :
    (pooled1 X (ix2 r l) : EReal) = Ideal.div (down 4 (fun k => x k l) r) (cnt 4 r) - x r l := by
  have h := down2 x _ (down1 x _ (rows_down X x hX))
  unfold pooled1
  pointwise [less]
  rw [h, counts4, rows_at X x hX]

theorem pooled2_at (hX : ∀ r l, (X (ix2 r l) : EReal) = x r l) (r : Fin 2048) (l : Fin 128) :
    (pooled2 X (ix2 r l) : EReal) = Ideal.div (down 8 (fun k => x k l) r) (cnt 8 r) - x r l := by
  have h := down4 x _ (down2 x _ (down1 x _ (rows_down X x hX)))
  unfold pooled2
  pointwise [less]
  rw [h, counts8, rows_at X x hX]

theorem pooled3_at (hX : ∀ r l, (X (ix2 r l) : EReal) = x r l) (r : Fin 2048) (l : Fin 128) :
    (pooled3 X (ix2 r l) : EReal) = Ideal.div (down 16 (fun k => x k l) r) (cnt 16 r) - x r l := by
  have h := down8 x _ (down4 x _ (down2 x _ (down1 x _ (rows_down X x hX))))
  unfold pooled3
  pointwise [less]
  rw [h, counts16, rows_at X x hX]

/-- One over the window's length, row by row. -/
theorem div_up (w : ℕ) (c q : Rows) (f : Fin 2048 → Fin 128 → EReal) (hc : ∀ r l, (c (ix2 r l) : EReal) = cnt w r)
    (hq : ∀ r l, (q (ix2 r l) : EReal) = f r l) (r : Fin 2048) (l : Fin 128) :
    (divf q c (ix2 r l) : EReal) = up 1 (fun k => Ideal.div (f k l) (cnt w k)) r := by
  rw [up_one]
  pointwise
  rw [hq, hc]

variable (f : Fin 2048 → Fin 128 → EReal) (q : Rows)

theorem dx0_at (hq : ∀ r l, (q (ix2 r l) : EReal) = f r l) (r : Fin 2048) (l : Fin 128) :
    (dx0 q (ix2 r l) : EReal) = up 2 (fun k => Ideal.div (f k l) (cnt 2 k)) r - f r l := by
  have h := up1 (fun k l => Ideal.div (f k l) (cnt 2 k)) _ (div_up 2 _ q f counts2 hq)
  unfold dx0
  pointwise [out]
  rw [h, hq]

theorem dx1_at (hq : ∀ r l, (q (ix2 r l) : EReal) = f r l) (r : Fin 2048) (l : Fin 128) :
    (dx1 q (ix2 r l) : EReal) = up 4 (fun k => Ideal.div (f k l) (cnt 4 k)) r - f r l := by
  have h := up2 (fun k l => Ideal.div (f k l) (cnt 4 k)) _ (up1 (fun k l => Ideal.div (f k l) (cnt 4 k)) _ (div_up 4 _ q f counts4 hq))
  unfold dx1
  pointwise [out]
  rw [h, hq]

theorem dx2_at (hq : ∀ r l, (q (ix2 r l) : EReal) = f r l) (r : Fin 2048) (l : Fin 128) :
    (dx2 q (ix2 r l) : EReal) = up 8 (fun k => Ideal.div (f k l) (cnt 8 k)) r - f r l := by
  have h := up4 (fun k l => Ideal.div (f k l) (cnt 8 k)) _ (up2 (fun k l => Ideal.div (f k l) (cnt 8 k)) _ (up1 (fun k l => Ideal.div (f k l) (cnt 8 k)) _ (div_up 8 _ q f counts8 hq)))
  unfold dx2
  pointwise [out]
  rw [h, hq]

theorem dx3_at (hq : ∀ r l, (q (ix2 r l) : EReal) = f r l) (r : Fin 2048) (l : Fin 128) :
    (dx3 q (ix2 r l) : EReal) = up 16 (fun k => Ideal.div (f k l) (cnt 16 k)) r - f r l := by
  have h := up8 (fun k l => Ideal.div (f k l) (cnt 16 k)) _ (up4 (fun k l => Ideal.div (f k l) (cnt 16 k)) _ (up2 (fun k l => Ideal.div (f k l) (cnt 16 k)) _ (up1 (fun k l => Ideal.div (f k l) (cnt 16 k)) _ (div_up 16 _ q f counts16 hq))))
  unfold dx3
  pointwise [out]
  rw [h, hq]

variable (s : Fin 128 → EReal) (w : Fin 128 → Fin 128 → EReal)

theorem mix_at (hD : ∀ r l, (D (ix2 r l) : EReal) = d r l) (hS : ∀ l, (S (ix2 0 l) : EReal) = s l) (r : Fin 2048) (l : Fin 128) :
    (mixRows D S (ix2 r l) : EReal) = d r l * s l := by
  have h := rows_at D d hD
  pointwise [mixRows]
  rw [h, hS]

theorem back_at (hD : ∀ r l, (D (ix2 r l) : EReal) = d r l) (hS : ∀ l, (S (ix2 0 l) : EReal) = s l)
    (hM : ∀ a b, (M (ix3 0 a b) : EReal) = w a b) (r : Fin 2048) (l : Fin 128) :
    (back D S M (ix2 r l) : EReal) = ∑ e : Fin 128, d r e * s e * w l e := by
  have h := mix_at D S d s hD hS
  pointwise [back]
  simp only [h, hM]

theorem addMap_at (P Q : FVec Ideal S2048x128 .bf16) (a b : Fin 128) :
    (addMap P Q B (ix3 0 a b) : EReal) = B (ix3 0 a b) + ∑ r : Fin 2048, (P (ix2 r a) : EReal) * Q (ix2 r b) := by
  pointwise [addMap]

theorem addScale_at (hD : ∀ r l, (D (ix2 r l) : EReal) = d r l) (hM : ∀ a b, (M (ix3 0 a b) : EReal) = w a b)
    (P : FVec Ideal S2048x128 .bf16) (l : Fin 128) :
    (addScale P D M A (ix2 0 l) : EReal)
      = A (ix2 0 l) + ∑ r : Fin 2048, d r l * ∑ c : Fin 128, (P (ix2 r c) : EReal) * w c l := by
  have h := rows_at D d hD
  pointwise [addScale]
  simp only [h, hM]

end Cert.PoolSteps

end
-- ==== Proof.PoolKernel.lean ====
/-
  What the kernel of the pooling's gradient leaves in its three result arrays.
-/
module

public import Idealize.ShloMosaic.Lib.Pipeline.ValueKit.Geometry
public import proofs.«01_k».proof.Proof.Gen.KernelPoolIdeal.Value
public import proofs.«01_k».proof.Proof.Pieces
public import proofs.«01_k».proof.Proof.Loads
public import proofs.«01_k».proof.Proof.PoolSteps
public import proofs.«01_k».proof.Proof.PoolSpec

@[expose] public section

set_option maxRecDepth 16384

noncomputable section

namespace Cert.PoolKernel

open Cert.KernelPoolIdeal Cert.KernelPoolIdeal.Gen Idealize.ShloMosaic Idealize.ShloMosaic.TcCoe Idealize.SL.Sem
open Idealize.ShloMosaic.Pipeline (Dat)
open Cert.Pool Cert.PoolSteps

variable (m : (ℓ : Loc nD τ sig) → Buf (Elt Ideal) ℓ)

/-! ## The arguments, and the blocks the grid points read of them -/

abbrev x3 (c : Dev nD) : S2x2048x512.Idx → EReal := m ((c : Thread nD τ).loc main_arg0)
abbrev d3 (c : Dev nD) : S2x2048x512.Idx → EReal := m ((c : Thread nD τ).loc main_arg1)
abbrev w3 (c : Dev nD) : S4x128x128.Idx → EReal := m ((c : Thread nD τ).loc main_arg2)
abbrev s1 (c : Dev nD) : S512.Idx → EReal := m ((c : Thread nD τ).loc main_arg3)

abbrev x (c : Dev nD) : Act := fun b r l => x3 m c (ix3 b r l)
abbrev d (c : Dev nD) : Act := fun b r l => d3 m c (ix3 b r l)
abbrev w (c : Dev nD) : Maps := fun g a e => w3 m c (ix3 g a e)
abbrev s (c : Dev nD) : Scale := fun l => s1 m c (ix1 l)

/-- Row `r` of sequence `t`. -/
def row (t : Fin cfg0.N) (r : Fin 2048) : Fin 4096 := ⟨2048 * t.val + r.val, by have : t.val < 2 := t.isLt; omega⟩

def seq (t : Fin cfg0.N) : Fin 2 := ⟨t.val, t.isLt⟩

theorem V_x (c : Dev nD) (t : Fin cfg0.N) (r : Fin 2048) (l : Fin 512) : V m c main_v0 (ix2 (row t r) l) = x m c (seq t) r l := by
  unfold V hostOps0
  after_results_simp
  pointwise
  refine congrArg (x3 m c) ?_
  have h0 : (2048 * t.val + r.val) / 2048 = t.val := by omega
  have h1 : (2048 * t.val + r.val) % 2048 = r.val := by omega
  funext a
  fin_cases a
  · exact Fin.ext h0
  · exact Fin.ext h1
  · rfl

theorem V_d (c : Dev nD) (t : Fin cfg0.N) (r : Fin 2048) (l : Fin 512) : V m c main_v1 (ix2 (row t r) l) = d m c (seq t) r l := by
  unfold V hostOps0
  after_results_simp
  pointwise
  refine congrArg (d3 m c) ?_
  have h0 : (2048 * t.val + r.val) / 2048 = t.val := by omega
  have h1 : (2048 * t.val + r.val) % 2048 = r.val := by omega
  funext a
  fin_cases a
  · exact Fin.ext h0
  · exact Fin.ext h1
  · rfl

theorem V_w (c : Dev nD) (g : Fin 4) (a e : Fin 128) : V m c main_v2 (ix3 g a e) = w m c g a e := by
  unfold V hostOps0
  after_results_simp
  pointwise

theorem V_s (c : Dev nD) (l : Fin 512) : V m c main_v3 (ix2 0 l) = s m c l := by
  unfold V hostOps0
  after_results_simp
  pointwise

theorem emb4 (t : Fin cfg0.N) (r : Fin 2048) (k : Fin 512) : (win0_4.rect t).emb (ix2 r k) = ix2 (row t r) k :=
  emb_at (fun t => ![t.val, 0]) (by intro a; fin_cases a <;> simp [row] <;> omega)

theorem emb6 (t : Fin cfg0.N) (k : Fin 512) : (win0_6.rect t).emb (ix2 0 k) = ix2 0 k :=
  emb_at (fun t => ![0, 0])

theorem emb5 (t : Fin cfg0.N) (g : Fin 4) (a e : Fin 128) : (win0_5.rect t).emb (ix3 g a e) = ix3 g a e :=
  emb_at (fun t => ![0, 0, 0])

theorem blk0 (c : Dev nD) (t : Fin cfg0.N) (r : Fin 2048) (k : Fin 512) :
    iblk m c 0 t (ix2 r k) = x m c (seq t) r k :=
  (congrArg (V m c main_v0) (emb_at (fun t => ![t.val, 0]) (by intro a; fin_cases a <;> simp [row] <;> omega))).trans (V_x m c t r k)

theorem blk1 (c : Dev nD) (t : Fin cfg0.N) (r : Fin 2048) (k : Fin 512) :
    iblk m c 1 t (ix2 r k) = d m c (seq t) r k :=
  (congrArg (V m c main_v1) (emb_at (fun t => ![t.val, 0]) (by intro a; fin_cases a <;> simp [row] <;> omega))).trans (V_d m c t r k)

theorem blk2 (c : Dev nD) (t : Fin cfg0.N) (g : Fin 4) (a e : Fin 128) :
    iblk m c 2 t (ix3 g a e) = w m c g a e :=
  (congrArg (V m c main_v2) (emb_at (fun t => ![0, 0, 0]))).trans (V_w m c g a e)

theorem blk3 (c : Dev nD) (t : Fin cfg0.N) (k : Fin 512) :
    iblk m c 3 t (ix2 0 k) = s m c k :=
  (congrArg (V m c main_v3) (emb_at (fun t => ![0, 0]))).trans (V_s m c k)

/-! ## Loads of a group's columns -/

theorem idxMap (g : Fin 4) (n : ℕ) (hn : n = g.val) (inb : ∀ a, (![n, 0, 0] : Fin 3 → ℕ) a + (![1, 128, 128] : Fin 3 → ℕ) a ≤ S4x128x128.size a)
    (a e : Fin 128) : (Rect.unit (s := S4x128x128) ![n, 0, 0] ![1, 128, 128] inb).idx (ix3 0 a e) = ix3 g a e := by
  subst hn
  funext k
  refine Fin.ext ?_
  fin_cases k <;> simp [Rect.unit]

theorem idxScale (g : Fin 4) (n : ℕ) (hn : n = 128 * g.val) (inb : ∀ a, (![0, n] : Fin 2 → ℕ) a + (![1, 128] : Fin 2 → ℕ) a ≤ S1x512.size a)
    (e : Fin 128) : (Rect.unit (s := S1x512) ![0, n] ![1, 128] inb).idx (ix2 0 e) = ix2 0 (col g e) := by
  subst hn
  funext k
  refine Fin.ext ?_
  fin_cases k <;> simp [Rect.unit, col]

theorem idxRows (g : Fin 4) (n : ℕ) (hn : n = 128 * g.val) (inb : ∀ a, (![0, n] : Fin 2 → ℕ) a + (![2048, 128] : Fin 2 → ℕ) a ≤ S2048x512.size a)
    (r : Fin 2048) (e : Fin 128) : (Rect.unit (s := S2048x512) ![0, n] ![2048, 128] inb).idx (ix2 r e) = ix2 r (col g e) := by
  subst hn
  funext k
  refine Fin.ext ?_
  fin_cases k <;> simp [Rect.unit, col]

section
variable (c : Dev nD) (t : Fin cfg0.N) (g : Fin 4) (n : ℕ)

theorem ldX (hn : n = 128 * g.val) (inb) (r : Fin 2048) (e : Fin 128) :
    (View.ld (iblk m c 0 t) (Rect.unit (s := S2048x512) ![0, n] ![2048, 128] inb) (ix2 r e) : EReal) = x m c (seq t) r (col g e) :=
  (congrArg (iblk m c 0 t) (idxRows g n hn inb r e)).trans (blk0 m c t r (col g e))

theorem ldD (hn : n = 128 * g.val) (inb) (r : Fin 2048) (e : Fin 128) :
    (View.ld (iblk m c 1 t) (Rect.unit (s := S2048x512) ![0, n] ![2048, 128] inb) (ix2 r e) : EReal) = d m c (seq t) r (col g e) :=
  (congrArg (iblk m c 1 t) (idxRows g n hn inb r e)).trans (blk1 m c t r (col g e))

theorem ldM (hn : n = g.val) (inb) (a e : Fin 128) :
    (View.ld (iblk m c 2 t) (Rect.unit (s := S4x128x128) ![n, 0, 0] ![1, 128, 128] inb) (ix3 0 a e) : EReal) = w m c g a e :=
  (congrArg (iblk m c 2 t) (idxMap g n hn inb a e)).trans (blk2 m c t g a e)

theorem ldS (hn : n = 128 * g.val) (inb) (e : Fin 128) :
    (View.ld (iblk m c 3 t) (Rect.unit (s := S1x512) ![0, n] ![1, 128] inb) (ix2 0 e) : EReal) = s m c (col g e) :=
  (congrArg (iblk m c 3 t) (idxScale g n hn inb e)).trans (blk3 m c t (col g e))

end

/-! ## What a grid point leaves -/

abbrev dxAt (c : Dev nD) (i : Fin 4096) (l : Fin 512) : EReal := dx (d m c) (s m c) (w m c) i l

theorem dx_row (c : Dev nD) (t : Fin cfg0.N) (g : Fin 4) (r : Fin 2048) (e : Fin 128) :
    dxG (d m c) (s m c) (w m c) (seq t) g r e = dxAt m c (row t r) (col g e) := by
  have h0 : (2048 * t.val + r.val) / 2048 = t.val := by omega
  have h1 : (2048 * t.val + r.val) % 2048 = r.val := by omega
  have h2 : (128 * g.val + e.val) / 128 = g.val := by omega
  have h3 : (128 * g.val + e.val) % 128 = e.val := by omega
  unfold dxAt dx
  have e0 : (⟨(row t r).val / 2048, by omega⟩ : Fin 2) = seq t := Fin.ext h0
  have e1 : (⟨(row t r).val % 2048, Nat.mod_lt _ (by decide)⟩ : Fin 2048) = r := Fin.ext h1
  have e2 : (⟨(col g e).val / 128, by omega⟩ : Fin 4) = g := Fin.ext h2
  have e3 : (⟨(col g e).val % 128, Nat.mod_lt _ (by decide)⟩ : Fin 128) = e := Fin.ext h3
  rw [e0, e1, e2, e3]

abbrev dscaleAt (c : Dev nD) (b : Fin 2) (l : Fin 512) : EReal :=
  dscaleB (x m c) (d m c) (w m c) b ⟨l.val / 128, by omega⟩ ⟨l.val % 128, Nat.mod_lt _ (by decide)⟩

theorem dscale_col (c : Dev nD) (b : Fin 2) (g : Fin 4) (e : Fin 128) :
    dscaleB (x m c) (d m c) (w m c) b g e = dscaleAt m c b (col g e) := by
  have h2 : (128 * g.val + e.val) / 128 = g.val := by omega
  have h3 : (128 * g.val + e.val) % 128 = e.val := by omega
  have e2 : (⟨(col g e).val / 128, by omega⟩ : Fin 4) = g := Fin.ext h2
  have e3 : (⟨(col g e).val % 128, Nat.mod_lt _ (by decide)⟩ : Fin 128) = e := Fin.ext h3
  unfold dscaleAt
  rw [e2, e3]

section
variable (c : Dev nD) (t : Fin cfg0.N) (g : Fin 4) {k n : ℕ} (hk : k = g.val) (hn : n = 128 * g.val)
include hn

theorem back_group (hk : k = g.val) (i₁ i₂ i₃) (r : Fin 2048) (a : Fin 128) :
    (back (View.ld (iblk m c 1 t) (Rect.unit (s := S2048x512) ![0, n] ![2048, 128] i₁)) (View.ld (iblk m c 3 t) (Rect.unit (s := S1x512) ![0, n] ![1, 128] i₂))
      (View.ld (iblk m c 2 t) (Rect.unit (s := S4x128x128) ![k, 0, 0] ![1, 128, 128] i₃)) (ix2 r a) : EReal) = dpool (d m c) (s m c) (w m c) (seq t) g r a :=
  back_at _ _ _ _ _ _ (ldD m c t g n hn _) (ldS m c t g n hn _) (ldM m c t g k hk _) r a

/-- A map's gradient over one sequence, added to what was there. -/
theorem map_group (P : FVec Ideal S2048x128 .bf16) (hP : ∀ r a, (P (ix2 r a) : EReal) = pooled (x m c) (seq t) g r a) (i₁ i₂)
    (A : Vec Ideal S1x128x128 .f32) (z : EReal) (a e : Fin 128) (hA : A (ix3 0 a e) = z) :
    (addMap P (mixRows (View.ld (iblk m c 1 t) (Rect.unit (s := S2048x512) ![0, n] ![2048, 128] i₁))
      (View.ld (iblk m c 3 t) (Rect.unit (s := S1x512) ![0, n] ![1, 128] i₂))) A (ix3 0 a e) : EReal) = z + dmapsB (x m c) (d m c) (s m c) (seq t) g a e :=
  (addMap_at _ _ _ a e).trans (congrArg₂ (fun p q : EReal => p + q) hA (Finset.sum_congr rfl fun r _ =>
    congrArg₂ (fun p q : EReal => p * q) (hP r a) (mix_at _ _ _ _ (ldD m c t g n hn _) (ldS m c t g n hn _) r e)))

/-- The scale's gradient over one sequence, in one group's columns, added to what was there. -/
theorem scale_group (hk : k = g.val) (P : FVec Ideal S2048x128 .bf16) (hP : ∀ r a, (P (ix2 r a) : EReal) = pooled (x m c) (seq t) g r a) (i₁ i₂)
    (A : Vec Ideal S1x128 .f32) (z : EReal) (e : Fin 128) (hA : A (ix2 0 e) = z) :
    (addScale P (View.ld (iblk m c 1 t) (Rect.unit (s := S2048x512) ![0, n] ![2048, 128] i₁))
      (View.ld (iblk m c 2 t) (Rect.unit (s := S4x128x128) ![k, 0, 0] ![1, 128, 128] i₂)) A (ix2 0 e) : EReal) = z + dscaleAt m c (seq t) (col g e) :=
  ((addScale_at _ _ _ _ (w m c g) (ldD m c t g n hn _) (ldM m c t g k hk _) P e).trans (congrArg₂ (fun p q : EReal => p + q) hA
    (Finset.sum_congr rfl fun r _ => congrArg (fun q : EReal => d m c (seq t) r (col g e) * q)
      (Finset.sum_congr rfl fun a _ => congrArg (fun p : EReal => p * w m c g a e) (hP r a))))).trans
    (congrArg (fun p : EReal => z + p) (dscale_col m c (seq t) g e))

end

/-! What the first grid point clears stays zero in a group until the group's own store. -/

section
variable {g : Fin 4} {n : ℕ} {a e : Fin 128}

theorem cleared5 (inb) : (View.canon (Val := Elt Ideal) (e := .f32) [⟨Rect.unit (s := S4x128x128) ![0, 0, 0] ![4, 128, 128] inb, k0_pay2 (F := Ideal)⟩] (ix3 g a e) : EReal) = 0 := by
  refine (Cert.Pieces.canon_hit _ _ _ (ix3 g a e) (ix3 g a e)).trans ?_
  pointwise [k0_pay2]

theorem cleared6 (inb) {l : Fin 512} :
    (View.canon (Val := Elt Ideal) (e := .f32) [⟨Rect.unit (s := S1x512) ![0, 0] ![1, 512] inb, k0_pay3 (F := Ideal)⟩] (ix2 0 l) : EReal) = 0 := by
  refine (Cert.Pieces.canon_hit _ _ _ (ix2 0 l) (ix2 0 l)).trans ?_
  pointwise [k0_pay3]

theorem skip5 (inb w) (L : List (View.Piece (Elt Ideal) S4x128x128 .f32)) (h : n + 1 ≤ g.val) (hL : View.canon L (ix3 g a e) = (0 : EReal)) :
    View.canon (⟨Rect.unit (s := S4x128x128) ![n, 0, 0] ![1, 128, 128] inb, w⟩ :: L) (ix3 g a e) = (0 : EReal) :=
  (Cert.Pieces.canon_miss inb w L (ix3 g a e) (0 : Fin 3) (Or.inr h)).trans hL

theorem skip6 (inb w) (L : List (View.Piece (Elt Ideal) S1x512 .f32)) (h : n + 128 ≤ 128 * g.val) (hL : View.canon L (ix2 0 (col g e)) = (0 : EReal)) :
    View.canon (⟨Rect.unit (s := S1x512) ![0, n] ![1, 128] inb, w⟩ :: L) (ix2 0 (col g e)) = (0 : EReal) :=
  (Cert.Pieces.canon_miss_col inb w L 0 (col g e) (Or.inr (show n + 128 ≤ 128 * g.val + e.val by omega))).trans hL

end

/-- What the grid point before left of the two sums. -/
abbrev prev (c : Dev nD) (t : Fin cfg0.N) := outsAt0 m c (t.val - 1) (Nat.lt_of_le_of_lt (Nat.sub_le _ _) t.isLt)

theorem flushed4_A (c : Dev nD) (t : Fin cfg0.N) (h0 : t.val % 2 = 0) (r : Fin 2048) (l : Fin 512) :
    ((dats m 0 c).flushed 4 t (ix2 r l) : EReal) = dxAt m c (row t r) l := by
  rw [Cert.KernelPoolIdeal.Value.flushed4_A m c t h0]
  unfold out0_A_4 kernelRun0_A
  dsimp only
  sl_unfold_words
  simp only [View.readAt_eq_ld, Memref.IsWhole.read_unread, View.readCov_eq_canon']
  rw [View.read_writes_junk_eq_canon]
  refine Cert.Pieces.canon_cols (Val := Elt Ideal) (e := .bf16) _ _ _ r l (fun l => dxAt m c (row t r) l) (fun e _ => (congrFun (grad3 _ _ _) _).trans
    ((dx3_at _ _ (back_group m c t 3 rfl rfl _ _ _) r e).trans (dx_row m c t 3 r e))) fun h3 =>
    Cert.Pieces.canon_cols (Val := Elt Ideal) (e := .bf16) _ _ _ r l (fun l => dxAt m c (row t r) l) (fun e _ => (congrFun (grad2 _ _ _) _).trans
    ((dx2_at _ _ (back_group m c t 2 rfl rfl _ _ _) r e).trans (dx_row m c t 2 r e))) fun h2 =>
    Cert.Pieces.canon_cols (Val := Elt Ideal) (e := .bf16) _ _ _ r l (fun l => dxAt m c (row t r) l) (fun e _ => (congrFun (grad1 _ _ _) _).trans
    ((dx1_at _ _ (back_group m c t 1 rfl rfl _ _ _) r e).trans (dx_row m c t 1 r e))) fun h1 =>
    Cert.Pieces.canon_cols (Val := Elt Ideal) (e := .bf16) _ _ _ r l (fun l => dxAt m c (row t r) l) (fun e _ => (congrFun (grad0 _ _ _) _).trans
    ((dx0_at _ _ (back_group m c t 0 rfl rfl _ _ _) r e).trans (dx_row m c t 0 r e))) fun h0 => by omega

theorem flushed4_B (c : Dev nD) (t : Fin cfg0.N) (h0 : ¬t.val % 2 = 0) (r : Fin 2048) (l : Fin 512) :
    ((dats m 0 c).flushed 4 t (ix2 r l) : EReal) = dxAt m c (row t r) l := by
  rw [Cert.KernelPoolIdeal.Value.flushed4_B m c t h0]
  unfold out0_B_4 kernelRun0_B
  dsimp only
  sl_unfold_words
  simp only [View.readAt_eq_ld, Memref.IsWhole.read_unread, View.readCov_eq_canon']
  rw [View.read_writes_junk_eq_canon]
  refine Cert.Pieces.canon_cols (Val := Elt Ideal) (e := .bf16) _ _ _ r l (fun l => dxAt m c (row t r) l) (fun e _ => (congrFun (grad3 _ _ _) _).trans
    ((dx3_at _ _ (back_group m c t 3 rfl rfl _ _ _) r e).trans (dx_row m c t 3 r e))) fun h3 =>
    Cert.Pieces.canon_cols (Val := Elt Ideal) (e := .bf16) _ _ _ r l (fun l => dxAt m c (row t r) l) (fun e _ => (congrFun (grad2 _ _ _) _).trans
    ((dx2_at _ _ (back_group m c t 2 rfl rfl _ _ _) r e).trans (dx_row m c t 2 r e))) fun h2 =>
    Cert.Pieces.canon_cols (Val := Elt Ideal) (e := .bf16) _ _ _ r l (fun l => dxAt m c (row t r) l) (fun e _ => (congrFun (grad1 _ _ _) _).trans
    ((dx1_at _ _ (back_group m c t 1 rfl rfl _ _ _) r e).trans (dx_row m c t 1 r e))) fun h1 =>
    Cert.Pieces.canon_cols (Val := Elt Ideal) (e := .bf16) _ _ _ r l (fun l => dxAt m c (row t r) l) (fun e _ => (congrFun (grad0 _ _ _) _).trans
    ((dx0_at _ _ (back_group m c t 0 rfl rfl _ _ _) r e).trans (dx_row m c t 0 r e))) fun h0 => by omega

theorem outs5_A (c : Dev nD) (t : Fin cfg0.N) (h0 : t.val % 2 = 0) (g : Fin 4) (a e : Fin 128) :
    ((outsAt0 m c t.val t.isLt).2.1 (ix3 g a e) : EReal) = dmapsB (x m c) (d m c) (s m c) (seq t) g a e := by
  simp only [outsAt0_A m c t h0]
  unfold out0_A_5 kernelRun0_A
  dsimp only
  sl_unfold_words
  simp only [View.readAt_eq_ld, Memref.IsWhole.read_unread, View.readCov_eq_canon']
  rw [View.read_writes_junk_eq_canon]
  refine Cert.Pieces.canon_stack (Val := Elt Ideal) (e := .f32) _ _ _ g a e (fun g => (dmapsB (x m c) (d m c) (s m c) (seq t) g a e : EReal)) (fun _ => (congrFun (map3 _ _ _ _) _).trans
    ((map_group m c t 3 rfl _ (pooled3_at _ _ (ldX m c t 3 _ rfl _)) _ _ _ 0 a e
      (by exact (congrArg (View.canon _) (idxMap 3 _ rfl _ a e)).trans (skip5 _ _ _ (by decide) (skip5 _ _ _ (by decide) (skip5 _ _ _ (by decide) (cleared5 _)))))).trans (zero_add _))) fun h3 =>
    Cert.Pieces.canon_stack (Val := Elt Ideal) (e := .f32) _ _ _ g a e (fun g => (dmapsB (x m c) (d m c) (s m c) (seq t) g a e : EReal)) (fun _ => (congrFun (map2 _ _ _ _) _).trans
    ((map_group m c t 2 rfl _ (pooled2_at _ _ (ldX m c t 2 _ rfl _)) _ _ _ 0 a e
      (by exact (congrArg (View.canon _) (idxMap 2 _ rfl _ a e)).trans (skip5 _ _ _ (by decide) (skip5 _ _ _ (by decide) (cleared5 _))))).trans (zero_add _))) fun h2 =>
    Cert.Pieces.canon_stack (Val := Elt Ideal) (e := .f32) _ _ _ g a e (fun g => (dmapsB (x m c) (d m c) (s m c) (seq t) g a e : EReal)) (fun _ => (congrFun (map1 _ _ _ _) _).trans
    ((map_group m c t 1 rfl _ (pooled1_at _ _ (ldX m c t 1 _ rfl _)) _ _ _ 0 a e
      (by exact (congrArg (View.canon _) (idxMap 1 _ rfl _ a e)).trans (skip5 _ _ _ (by decide) (cleared5 _)))).trans (zero_add _))) fun h1 =>
    Cert.Pieces.canon_stack (Val := Elt Ideal) (e := .f32) _ _ _ g a e (fun g => (dmapsB (x m c) (d m c) (s m c) (seq t) g a e : EReal)) (fun _ => (congrFun (map0 _ _ _ _) _).trans
    ((map_group m c t 0 rfl _ (pooled0_at _ _ (ldX m c t 0 _ rfl _)) _ _ _ 0 a e
      (by exact (congrArg (View.canon _) (idxMap 0 _ rfl _ a e)).trans (cleared5 _))).trans (zero_add _))) fun h0 => by omega

theorem outs5_B (c : Dev nD) (t : Fin cfg0.N) (h0 : ¬t.val % 2 = 0) (g : Fin 4) (a e : Fin 128) :
    ((outsAt0 m c t.val t.isLt).2.1 (ix3 g a e) : EReal) = (prev m c t).2.1 (ix3 g a e) + dmapsB (x m c) (d m c) (s m c) (seq t) g a e := by
  simp only [outsAt0_B m c t h0]
  unfold out0_B_5 kernelRun0_B
  dsimp only
  sl_unfold_words
  simp only [View.readAt_eq_ld, Memref.IsWhole.read_unread, View.readCov_eq_canon']
  rw [View.read_writes_junk_eq_canon]
  refine Cert.Pieces.canon_stack (Val := Elt Ideal) (e := .f32) _ _ _ g a e (fun g => ((prev m c t).2.1 (ix3 g a e) + dmapsB (x m c) (d m c) (s m c) (seq t) g a e : EReal)) (fun _ => (congrFun (map3 _ _ _ _) _).trans
    ((map_group m c t 3 rfl _ (pooled3_at _ _ (ldX m c t 3 _ rfl _)) _ _ _ ((prev m c t).2.1 (ix3 3 a e)) a e (by exact congrArg (prev m c t).2.1 (idxMap 3 _ rfl _ a e))))) fun h3 =>
    Cert.Pieces.canon_stack (Val := Elt Ideal) (e := .f32) _ _ _ g a e (fun g => ((prev m c t).2.1 (ix3 g a e) + dmapsB (x m c) (d m c) (s m c) (seq t) g a e : EReal)) (fun _ => (congrFun (map2 _ _ _ _) _).trans
    ((map_group m c t 2 rfl _ (pooled2_at _ _ (ldX m c t 2 _ rfl _)) _ _ _ ((prev m c t).2.1 (ix3 2 a e)) a e (by exact congrArg (prev m c t).2.1 (idxMap 2 _ rfl _ a e))))) fun h2 =>
    Cert.Pieces.canon_stack (Val := Elt Ideal) (e := .f32) _ _ _ g a e (fun g => ((prev m c t).2.1 (ix3 g a e) + dmapsB (x m c) (d m c) (s m c) (seq t) g a e : EReal)) (fun _ => (congrFun (map1 _ _ _ _) _).trans
    ((map_group m c t 1 rfl _ (pooled1_at _ _ (ldX m c t 1 _ rfl _)) _ _ _ ((prev m c t).2.1 (ix3 1 a e)) a e (by exact congrArg (prev m c t).2.1 (idxMap 1 _ rfl _ a e))))) fun h1 =>
    Cert.Pieces.canon_stack (Val := Elt Ideal) (e := .f32) _ _ _ g a e (fun g => ((prev m c t).2.1 (ix3 g a e) + dmapsB (x m c) (d m c) (s m c) (seq t) g a e : EReal)) (fun _ => (congrFun (map0 _ _ _ _) _).trans
    ((map_group m c t 0 rfl _ (pooled0_at _ _ (ldX m c t 0 _ rfl _)) _ _ _ ((prev m c t).2.1 (ix3 0 a e)) a e (by exact congrArg (prev m c t).2.1 (idxMap 0 _ rfl _ a e))))) fun h0 => by omega

theorem outs6_A (c : Dev nD) (t : Fin cfg0.N) (h0 : t.val % 2 = 0) (l : Fin 512) :
    ((outsAt0 m c t.val t.isLt).2.2 (ix2 0 l) : EReal) = dscaleAt m c (seq t) l := by
  simp only [outsAt0_A m c t h0]
  unfold out0_A_6 kernelRun0_A
  dsimp only
  sl_unfold_words
  simp only [View.readAt_eq_ld, Memref.IsWhole.read_unread, View.readCov_eq_canon']
  rw [View.read_writes_junk_eq_canon]
  refine Cert.Pieces.canon_cols (Val := Elt Ideal) (e := .f32) _ _ _ 0 l (fun l => (dscaleAt m c (seq t) l : EReal)) (fun e _ => (congrFun (scale3 _ _ _ _) _).trans
    ((scale_group m c t 3 rfl rfl _ (pooled3_at _ _ (ldX m c t 3 _ rfl _)) _ _ _ 0 e
      (by exact (congrArg (View.canon _) (idxScale 3 _ rfl _ e)).trans (skip6 _ _ _ (by decide) (skip6 _ _ _ (by decide) (skip6 _ _ _ (by decide) (cleared6 _)))))).trans (zero_add _))) fun h3 =>
    Cert.Pieces.canon_cols (Val := Elt Ideal) (e := .f32) _ _ _ 0 l (fun l => (dscaleAt m c (seq t) l : EReal)) (fun e _ => (congrFun (scale2 _ _ _ _) _).trans
    ((scale_group m c t 2 rfl rfl _ (pooled2_at _ _ (ldX m c t 2 _ rfl _)) _ _ _ 0 e
      (by exact (congrArg (View.canon _) (idxScale 2 _ rfl _ e)).trans (skip6 _ _ _ (by decide) (skip6 _ _ _ (by decide) (cleared6 _))))).trans (zero_add _))) fun h2 =>
    Cert.Pieces.canon_cols (Val := Elt Ideal) (e := .f32) _ _ _ 0 l (fun l => (dscaleAt m c (seq t) l : EReal)) (fun e _ => (congrFun (scale1 _ _ _ _) _).trans
    ((scale_group m c t 1 rfl rfl _ (pooled1_at _ _ (ldX m c t 1 _ rfl _)) _ _ _ 0 e
      (by exact (congrArg (View.canon _) (idxScale 1 _ rfl _ e)).trans (skip6 _ _ _ (by decide) (cleared6 _)))).trans (zero_add _))) fun h1 =>
    Cert.Pieces.canon_cols (Val := Elt Ideal) (e := .f32) _ _ _ 0 l (fun l => (dscaleAt m c (seq t) l : EReal)) (fun e _ => (congrFun (scale0 _ _ _ _) _).trans
    ((scale_group m c t 0 rfl rfl _ (pooled0_at _ _ (ldX m c t 0 _ rfl _)) _ _ _ 0 e
      (by exact (congrArg (View.canon _) (idxScale 0 _ rfl _ e)).trans (cleared6 _))).trans (zero_add _))) fun h0 => by omega

theorem outs6_B (c : Dev nD) (t : Fin cfg0.N) (h0 : ¬t.val % 2 = 0) (l : Fin 512) :
    ((outsAt0 m c t.val t.isLt).2.2 (ix2 0 l) : EReal) = (prev m c t).2.2 (ix2 0 l) + dscaleAt m c (seq t) l := by
  simp only [outsAt0_B m c t h0]
  unfold out0_B_6 kernelRun0_B
  dsimp only
  sl_unfold_words
  simp only [View.readAt_eq_ld, Memref.IsWhole.read_unread, View.readCov_eq_canon']
  rw [View.read_writes_junk_eq_canon]
  refine Cert.Pieces.canon_cols (Val := Elt Ideal) (e := .f32) _ _ _ 0 l (fun l => ((prev m c t).2.2 (ix2 0 l) + dscaleAt m c (seq t) l : EReal)) (fun e _ => (congrFun (scale3 _ _ _ _) _).trans
    ((scale_group m c t 3 rfl rfl _ (pooled3_at _ _ (ldX m c t 3 _ rfl _)) _ _ _ ((prev m c t).2.2 (ix2 0 (col 3 e))) e (by exact congrArg (prev m c t).2.2 (idxScale 3 _ rfl _ e))))) fun h3 =>
    Cert.Pieces.canon_cols (Val := Elt Ideal) (e := .f32) _ _ _ 0 l (fun l => ((prev m c t).2.2 (ix2 0 l) + dscaleAt m c (seq t) l : EReal)) (fun e _ => (congrFun (scale2 _ _ _ _) _).trans
    ((scale_group m c t 2 rfl rfl _ (pooled2_at _ _ (ldX m c t 2 _ rfl _)) _ _ _ ((prev m c t).2.2 (ix2 0 (col 2 e))) e (by exact congrArg (prev m c t).2.2 (idxScale 2 _ rfl _ e))))) fun h2 =>
    Cert.Pieces.canon_cols (Val := Elt Ideal) (e := .f32) _ _ _ 0 l (fun l => ((prev m c t).2.2 (ix2 0 l) + dscaleAt m c (seq t) l : EReal)) (fun e _ => (congrFun (scale1 _ _ _ _) _).trans
    ((scale_group m c t 1 rfl rfl _ (pooled1_at _ _ (ldX m c t 1 _ rfl _)) _ _ _ ((prev m c t).2.2 (ix2 0 (col 1 e))) e (by exact congrArg (prev m c t).2.2 (idxScale 1 _ rfl _ e))))) fun h1 =>
    Cert.Pieces.canon_cols (Val := Elt Ideal) (e := .f32) _ _ _ 0 l (fun l => ((prev m c t).2.2 (ix2 0 l) + dscaleAt m c (seq t) l : EReal)) (fun e _ => (congrFun (scale0 _ _ _ _) _).trans
    ((scale_group m c t 0 rfl rfl _ (pooled0_at _ _ (ldX m c t 0 _ rfl _)) _ _ _ ((prev m c t).2.2 (ix2 0 (col 0 e))) e (by exact congrArg (prev m c t).2.2 (idxScale 0 _ rfl _ e))))) fun h0 => by omega

/-! ## The result arrays -/

theorem final4 (c : Dev nD) : (dats m 0 c).arrAt 4 cfg0.N
    = fun i : S4096x512.Idx => dxAt m c (i 0) (i 1) := by
  apply Dat.arrAt_eq_of_cover
  · intro t hf
    funext y
    obtain ⟨r, l, rfl⟩ : ∃ (r : Fin 2048) (l : Fin 512), y = ix2 r l := ⟨y 0, y 1, eq_ix2 y⟩
    refine (if h0 : t.val % 2 = 0 then flushed4_A m c t h0 r l else flushed4_B m c t h0 r l).trans ?_
    show _ = dxAt m c ((win0_4.rect t).emb (ix2 r l) 0) ((win0_4.rect t).emb (ix2 r l) 1)
    rw [emb4]
    rfl
  · exact (by decide +kernel : (cfg0.win 4).Covers).cover _ (Memref.isWhole_whole _)

theorem outs5 (c : Dev nD) (t : Fin cfg0.N) (h1 : t.val = 1) (g : Fin 4) (a e : Fin 128) :
    ((outsAt0 m c t.val t.isLt).2.1 (ix3 g a e) : EReal) = dmaps (x m c) (d m c) (s m c) g a e := by
  obtain rfl : t = ⟨1, by decide⟩ := Fin.ext h1
  exact (outs5_B m c ⟨1, by decide⟩ (by decide) g a e).trans
    (congrArg (fun p : EReal => p + _) (outs5_A m c ⟨0, by decide⟩ rfl g a e))

theorem outs6 (c : Dev nD) (t : Fin cfg0.N) (h1 : t.val = 1) (l : Fin 512) :
    ((outsAt0 m c t.val t.isLt).2.2 (ix2 0 l) : EReal) = dscale (x m c) (d m c) (w m c) l := by
  obtain rfl : t = ⟨1, by decide⟩ := Fin.ext h1
  exact (outs6_B m c ⟨1, by decide⟩ (by decide) l).trans
    (congrArg (fun p : EReal => p + _) (outs6_A m c ⟨0, by decide⟩ rfl l))

theorem final5 (c : Dev nD) : (dats m 0 c).arrAt 5 cfg0.N = fun i : S4x128x128.Idx => dmaps (x m c) (d m c) (s m c) (i 0) (i 1) (i 2) := by
  apply Dat.arrAt_eq_of_cover
  · intro t hf
    have hl : t.val % 2 = 1 := (flush0_5 t).mp hf
    have hn : t.val < 2 := t.isLt
    funext y
    obtain ⟨g, a, e, rfl⟩ : ∃ (g : Fin 4) (a e : Fin 128), y = ix3 g a e := ⟨y 0, y 1, y 2, by funext a; fin_cases a <;> rfl⟩
    rw [Cert.KernelPoolIdeal.Value.flushed5 m c t]
    refine (outs5 m c t (by omega) g a e).trans ?_
    show _ = (fun i : S4x128x128.Idx => dmaps (x m c) (d m c) (s m c) (i 0) (i 1) (i 2)) ((win0_5.rect t).emb (ix3 g a e))
    rw [emb5]
    rfl
  · exact (by decide +kernel : (cfg0.win 5).Covers).cover _ (Memref.isWhole_whole _)

theorem final6 (c : Dev nD) : (dats m 0 c).arrAt 6 cfg0.N = fun i : S1x512.Idx => dscale (x m c) (d m c) (w m c) (i 1) := by
  apply Dat.arrAt_eq_of_cover
  · intro t hf
    have hl : t.val % 2 = 1 := (flush0_6 t).mp hf
    have hn : t.val < 2 := t.isLt
    funext y
    obtain ⟨l, rfl⟩ : ∃ l : Fin 512, y = ix2 0 l :=
      ⟨y 1, by funext a; fin_cases a; exacts [Fin.ext (Nat.lt_one_iff.mp (y 0).isLt), rfl]⟩
    rw [Cert.KernelPoolIdeal.Value.flushed6 m c t]
    refine (outs6 m c t (by omega) l).trans ?_
    show _ = (fun i : S1x512.Idx => dscale (x m c) (d m c) (w m c) (i 1)) ((win0_6.rect t).emb (ix2 0 l))
    rw [emb6]
    rfl
  · exact (by decide +kernel : (cfg0.win 6).Covers).cover _ (Memref.isWhole_whole _)

end Cert.PoolKernel

end
-- ==== Proof.PoolRead.lean ====
/-
  The running sums, the lookups and the accumulations of the pooling's reference, each read at one element.
-/
module

public import proofs.«01_k».proof.Proof.Gen.ReferencePoolIdeal.Read
public import proofs.«01_k».proof.Proof.PoolSpec
public import Idealize.ShloMosaic.Lib.Routing.OpsPair

@[expose] public section

noncomputable section

namespace Cert.PoolRead

open Cert.ReferencePoolIdeal Cert.ReferencePoolIdeal.Gen Idealize.ShloMosaic

/-- A sum taken term after term is the sum. -/
theorem foldl_sum {α : Type*} (f : α → EReal) (l : List α) (v : EReal) :
    l.foldl (fun r n => r + f n) v = v + (l.map f).sum := by
  induction l generalizing v with
  | nil => simp
  | cons a l ih => rw [List.foldl_cons, ih, List.map_cons, List.sum_cons, add_assoc]

theorem foldl_fin {N : ℕ} (f : Fin N → EReal) (v : EReal) :
    (List.finRange N).foldl (fun r n => r + f n) v = v + ∑ n, f n := by
  rw [foldl_sum, Fin.sum_univ_def]

/-- The positions of a window that is long on one axis. -/
def along : (Shape.mk 4 ![1, 2048, 1, 1]).Idx ≃ Fin 2048 where
  toFun p := p 1
  invFun k := ix4 0 k 0 0
  left_inv p := by
    funext a
    fin_cases a
    · exact Fin.ext (Nat.lt_one_iff.mp (p 0).isLt).symm
    · rfl
    · exact Fin.ext (Nat.lt_one_iff.mp (p 2).isLt).symm
    · exact Fin.ext (Nat.lt_one_iff.mp (p 3).isLt).symm
  right_inv k := rfl

/-- Every windowed sum over the long axis: the sum over the window's positions, the padding adding nothing. -/
theorem windowed (lo hi : Fin 4 → ℕ) (x : S2x2048x4x128.Idx → EReal)
    (h : S2x2048x4x128.ReduceWindows (![1, 2048, 1, 1] : Fin 4 → ℕ) ![1, 1, 1, 1] lo hi S2x2048x4x128) (h0 : lo 0 = 0) (h2 : lo 2 = 0) (h3 : lo 3 = 0)
    (b : Fin 2) (j : Fin 2048) (g : Fin 4) (c : Fin 128) :
    Ideal.hostReduceWindowAdd (s := S2x2048x4x128) ![1, 2048, 1, 1] ![1, 1, 1, 1] lo hi h x 0 (ix4 b j g c)
      = ∑ n : Fin 2048, if hn : lo 1 ≤ j.val + n.val ∧ j.val + n.val - lo 1 < 2048 then x (ix4 b ⟨j.val + n.val - lo 1, hn.2⟩ g c) else 0 := by
  unfold Ideal.hostReduceWindowAdd Host.reduceWindow
  dsimp only
  refine (foldl_fin _ _).trans ((zero_add _).trans ?_)
  refine (Equiv.sum_comp (Shape.mk 4 ![1, 2048, 1, 1]).rowMajor _).symm.trans ?_
  simp only [Equiv.symm_apply_apply]
  refine Fintype.sum_equiv along _ _ fun p => ?_
  have p0 : (p 0).val = 0 := Nat.lt_one_iff.mp (p 0).isLt
  have p2 : (p 2).val = 0 := Nat.lt_one_iff.mp (p 2).isLt
  have p3 : (p 3).val = 0 := Nat.lt_one_iff.mp (p 3).isLt
  show _ = if hn : lo 1 ≤ j.val + (p 1).val ∧ j.val + (p 1).val - lo 1 < 2048 then x (ix4 b ⟨j.val + (p 1).val - lo 1, hn.2⟩ g c) else 0
  by_cases hn : lo 1 ≤ j.val + (p 1).val ∧ j.val + (p 1).val - lo 1 < 2048
  · rw [dif_pos hn]
    have hin : ∀ a : Fin 4, lo a ≤ (ix4 b j g c a).val * (![1, 1, 1, 1] : Fin 4 → ℕ) a + (p a).val
        ∧ (ix4 b j g c a).val * (![1, 1, 1, 1] : Fin 4 → ℕ) a + (p a).val - lo a < S2x2048x4x128.size a := by
      intro a
      fin_cases a
      · show lo 0 ≤ b.val * 1 + (p 0).val ∧ b.val * 1 + (p 0).val - lo 0 < 2
        omega
      · show lo 1 ≤ j.val * 1 + (p 1).val ∧ j.val * 1 + (p 1).val - lo 1 < 2048
        omega
      · show lo 2 ≤ g.val * 1 + (p 2).val ∧ g.val * 1 + (p 2).val - lo 2 < 4
        omega
      · show lo 3 ≤ c.val * 1 + (p 3).val ∧ c.val * 1 + (p 3).val - lo 3 < 128
        omega
    refine (dif_pos hin).trans (congrArg x ?_)
    funext a
    refine Fin.ext ?_
    fin_cases a
    · show b.val * 1 + (p 0).val - lo 0 = b.val
      omega
    · show j.val * 1 + (p 1).val - lo 1 = j.val + (p 1).val - lo 1
      omega
    · show g.val * 1 + (p 2).val - lo 2 = g.val
      omega
    · show c.val * 1 + (p 3).val - lo 3 = c.val
      omega
  · rw [dif_neg hn]
    refine dif_neg fun hin => hn ?_
    have h1 : lo 1 ≤ j.val * 1 + (p 1).val ∧ j.val * 1 + (p 1).val - lo 1 < 2048 := hin 1
    omega

/-- The running sum from the first position. -/
theorem running (x : S2x2048x4x128.Idx → EReal)
    (h : S2x2048x4x128.ReduceWindows (![1, 2048, 1, 1] : Fin 4 → ℕ) ![1, 1, 1, 1] ![0, 2047, 0, 0] ![0, 0, 0, 0] S2x2048x4x128)
    (b : Fin 2) (j : Fin 2048) (g : Fin 4) (c : Fin 128) :
    Ideal.hostReduceWindowAdd (s := S2x2048x4x128) ![1, 2048, 1, 1] ![1, 1, 1, 1] ![0, 2047, 0, 0] ![0, 0, 0, 0] h x 0 (ix4 b j g c)
      = ∑ k : Fin 2048, if k.val ≤ j.val then x (ix4 b k g c) else 0 := by
  rw [windowed _ _ x h rfl rfl rfl]
  show (∑ n : Fin 2048, if hn : 2047 ≤ j.val + n.val ∧ j.val + n.val - 2047 < 2048 then x (ix4 b ⟨j.val + n.val - 2047, hn.2⟩ g c) else 0) = _
  rw [← Finset.sum_filter]
  refine (Finset.sum_subset (Finset.filter_subset (fun n : Fin 2048 => 2047 ≤ j.val + n.val) _) ?_).symm.trans ?_
  · intro n _ hn
    exact dif_neg fun h => hn (Finset.mem_filter.mpr ⟨Finset.mem_univ _, h.1⟩)
  · refine Finset.sum_bij' (fun n _ => (⟨j.val + n.val - 2047, by omega⟩ : Fin 2048))
      (fun k hk => (⟨k.val + 2047 - j.val, by have := (Finset.mem_filter.mp hk).2; omega⟩ : Fin 2048)) ?_ ?_ ?_ ?_ ?_
    · intro n hn
      exact Finset.mem_filter.mpr ⟨Finset.mem_univ _, show j.val + n.val - 2047 ≤ j.val by omega⟩
    · intro k hk
      exact Finset.mem_filter.mpr ⟨Finset.mem_univ _, show 2047 ≤ j.val + (k.val + 2047 - j.val) by omega⟩
    · intro n hn
      have : 2047 ≤ j.val + n.val := (Finset.mem_filter.mp hn).2
      exact Fin.ext (show j.val + n.val - 2047 + 2047 - j.val = n.val by omega)
    · intro k hk
      have : k.val ≤ j.val := (Finset.mem_filter.mp hk).2
      exact Fin.ext (show j.val + (k.val + 2047 - j.val) - 2047 = k.val by omega)
    · intro n hn
      have : 2047 ≤ j.val + n.val := (Finset.mem_filter.mp hn).2
      exact dif_pos ⟨this, by omega⟩

/-- The running sum up to the last position. -/
theorem remaining (x : S2x2048x4x128.Idx → EReal)
    (h : S2x2048x4x128.ReduceWindows (![1, 2048, 1, 1] : Fin 4 → ℕ) ![1, 1, 1, 1] ![0, 0, 0, 0] ![0, 2047, 0, 0] S2x2048x4x128)
    (b : Fin 2) (j : Fin 2048) (g : Fin 4) (c : Fin 128) :
    Ideal.hostReduceWindowAdd (s := S2x2048x4x128) ![1, 2048, 1, 1] ![1, 1, 1, 1] ![0, 0, 0, 0] ![0, 2047, 0, 0] h x 0 (ix4 b j g c)
      = ∑ k : Fin 2048, if j.val ≤ k.val then x (ix4 b k g c) else 0 := by
  rw [windowed _ _ x h rfl rfl rfl]
  show (∑ n : Fin 2048, if hn : 0 ≤ j.val + n.val ∧ j.val + n.val - 0 < 2048 then x (ix4 b ⟨j.val + n.val - 0, hn.2⟩ g c) else 0) = _
  rw [← Finset.sum_filter]
  refine (Finset.sum_subset (Finset.filter_subset (fun n : Fin 2048 => j.val + n.val < 2048) _) ?_).symm.trans ?_
  · intro n _ hn
    exact dif_neg fun h => hn (Finset.mem_filter.mpr ⟨Finset.mem_univ _, h.2⟩)
  · refine Finset.sum_bij' (fun n hn => (⟨j.val + n.val, (Finset.mem_filter.mp hn).2⟩ : Fin 2048))
      (fun k _ => (⟨k.val - j.val, by omega⟩ : Fin 2048)) ?_ ?_ ?_ ?_ ?_
    · intro n hn
      exact Finset.mem_filter.mpr ⟨Finset.mem_univ _, show j.val ≤ j.val + n.val by omega⟩
    · intro k hk
      exact Finset.mem_filter.mpr ⟨Finset.mem_univ _, show j.val + (k.val - j.val) < 2048 by omega⟩
    · intro n hn
      exact Fin.ext (show j.val + n.val - j.val = n.val by omega)
    · intro k hk
      have : j.val ≤ k.val := (Finset.mem_filter.mp hk).2
      exact Fin.ext (show j.val + (k.val - j.val) = k.val by omega)
    · intro n hn
      have : j.val + n.val < 2048 := (Finset.mem_filter.mp hn).2
      exact dif_pos ⟨Nat.zero_le _, this⟩

/-- A lookup of whole columns at a table of rows and groups. -/
theorem looked_up (x : S2x2049x4x128.Idx → EReal) (idx : IVec S2048x4x2 32) (b : Fin 2) (j : Fin 2048) (g : Fin 4) (c : Fin 128) (m : Fin 2049)
    (hm : (idx (ix3 j g 0)).toInt = (m.val : ℤ)) (hg : (idx (ix3 j g 1)).toInt = (g.val : ℤ)) :
    Host.gather gather_S2x2049x4x128_S2048x4x2_S2x2048x4x128_03_12_n_n_12_2_211128 x idx (ix4 b j g c) = x (ix4 b m g c) := by
  unfold Host.gather
  refine congrArg x ?_
  funext a
  refine Fin.ext ?_
  have s0 : ∀ hc, gather_S2x2049x4x128_S2048x4x2_S2x2048x4x128_03_12_n_n_12_2_211128.siIdx (ix4 b j g c) ⟨0, hc⟩ = ix3 j g 0 := by
    intro hc
    funext k
    fin_cases k <;> rfl
  have s1 : ∀ hc, gather_S2x2049x4x128_S2048x4x2_S2x2048x4x128_03_12_n_n_12_2_211128.siIdx (ix4 b j g c) ⟨1, hc⟩ = ix3 j g 1 := by
    intro hc
    funext k
    fin_cases k <;> rfl
  fin_cases a
  · show 0 + 0 + b.val = b.val
    omega
  · refine (congrArg (fun k => min (idx k).toInt.toNat (2049 - 1) + 0 + 0) (s0 (by decide))).trans ?_
    show min (idx (ix3 j g 0)).toInt.toNat (2049 - 1) + 0 + 0 = m.val
    rw [hm]
    omega
  · refine (congrArg (fun k => min (idx k).toInt.toNat (4 - 1) + 0 + 0) (s1 (by decide))).trans ?_
    show min (idx (ix3 j g 1)).toInt.toNat (4 - 1) + 0 + 0 = g.val
    rw [hg]
    omega
  · show 0 + 0 + c.val = c.val
    omega

/-- An update lands where its table entry says. -/
theorem lands (idx : IVec S2048x4x2 32) (k : S2x2048x4x128.Idx) (i : S2x2049x4x128.Idx) :
    scatter_S2x2049x4x128_S2048x4x2_S2x2048x4x128_03_12_12_2.resultIdx? k idx = some i ↔
      (k 0).val = (i 0).val ∧ (idx (ix3 (k 1) (k 2) 0)).toInt = ((i 1).val : ℤ) ∧ (idx (ix3 (k 1) (k 2) 1)).toInt = ((i 2).val : ℤ) ∧ (k 3).val = (i 3).val := by
  have s0 : ∀ hc, scatter_S2x2049x4x128_S2048x4x2_S2x2048x4x128_03_12_12_2.siIdx k ⟨0, hc⟩ = ix3 (k 1) (k 2) 0 := by
    intro hc
    funext a
    fin_cases a <;> rfl
  have s1 : ∀ hc, scatter_S2x2049x4x128_S2048x4x2_S2x2048x4x128_03_12_12_2.siIdx k ⟨1, hc⟩ = ix3 (k 1) (k 2) 1 := by
    intro hc
    funext a
    fin_cases a <;> rfl
  have e0 : scatter_S2x2049x4x128_S2048x4x2_S2x2048x4x128_03_12_12_2.start k idx 1 = (idx (ix3 (k 1) (k 2) 0)).toInt :=
    congrArg (fun a => (idx a).toInt) (s0 (by decide))
  have e1 : scatter_S2x2049x4x128_S2048x4x2_S2x2048x4x128_03_12_12_2.start k idx 2 = (idx (ix3 (k 1) (k 2) 1)).toInt :=
    congrArg (fun a => (idx a).toInt) (s1 (by decide))
  rw [Routing.resultIdx?_eq_some]
  constructor
  · intro h
    have h0 : (0 : ℤ) + ((k 0).val : ℤ) = ((i 0).val : ℤ) := h 0
    have h1 : _ + ((0 : ℕ) : ℤ) = ((i 1).val : ℤ) := h 1
    have h2 : _ + ((0 : ℕ) : ℤ) = ((i 2).val : ℤ) := h 2
    have h3 : (0 : ℤ) + ((k 3).val : ℤ) = ((i 3).val : ℤ) := h 3
    rw [e0] at h1
    rw [e1] at h2
    refine ⟨by omega, by omega, by omega, by omega⟩
  · rintro ⟨h0, h1, h2, h3⟩ a
    fin_cases a
    · show (0 : ℤ) + ((k 0).val : ℤ) = ((i 0).val : ℤ)
      omega
    · refine (congrArg (fun z : ℤ => z + ((0 : ℕ) : ℤ)) e0).trans ?_
      show (idx (ix3 (k 1) (k 2) 0)).toInt + ((0 : ℕ) : ℤ) = ((i 1).val : ℤ)
      omega
    · refine (congrArg (fun z : ℤ => z + ((0 : ℕ) : ℤ)) e1).trans ?_
      show (idx (ix3 (k 1) (k 2) 1)).toInt + ((0 : ℕ) : ℤ) = ((i 2).val : ℤ)
      omega
    · show (0 : ℤ) + ((k 3).val : ℤ) = ((i 3).val : ℤ)
      omega

/-- An accumulation of whole columns at a table of rows and groups: each row gathers the updates whose entry names it. -/
theorem accumulated (x : S2x2049x4x128.Idx → EReal) (idx : IVec S2048x4x2 32) (u : S2x2048x4x128.Idx → EReal) (m : Fin 2048 → Fin 4 → ℕ)
    (hm : ∀ j g, (idx (ix3 j g 0)).toInt = (m j g : ℤ)) (hg : ∀ j g, (idx (ix3 j g 1)).toInt = (g.val : ℤ))
    (b : Fin 2) (i : Fin 2049) (g : Fin 4) (c : Fin 128) :
    Ideal.hostScatterAdd scatter_S2x2049x4x128_S2048x4x2_S2x2048x4x128_03_12_12_2 x idx u (ix4 b i g c)
      = x (ix4 b i g c) + ∑ k : Fin 2048, if m k g = i.val then u (ix4 b k g c) else 0 := by
  unfold Ideal.hostScatterAdd
  refine congrArg (fun z : EReal => x (ix4 b i g c) + z) ?_
  rw [← Finset.sum_filter]
  have key : ∀ k : S2x2048x4x128.Idx, scatter_S2x2049x4x128_S2048x4x2_S2x2048x4x128_03_12_12_2.resultIdx? k idx = some (ix4 b i g c) →
      k = ix4 b (k 1) g c ∧ m (k 1) g = i.val := by
    intro k hk
    obtain ⟨h0, h1, h2, h3⟩ := (lands idx k _).mp hk
    have h1' : (m (k 1) (k 2) : ℤ) = (i.val : ℤ) := (hm (k 1) (k 2)).symm.trans h1
    have h2' : ((k 2).val : ℤ) = (g.val : ℤ) := (hg (k 1) (k 2)).symm.trans h2
    have e2 : k 2 = g := Fin.ext (by omega)
    rw [e2] at h1'
    refine ⟨?_, by omega⟩
    funext a
    fin_cases a
    · exact Fin.ext h0
    · rfl
    · exact e2
    · exact Fin.ext h3
  refine Finset.sum_bij' (fun k _ => (k 1 : Fin 2048)) (fun k _ => (ix4 b k g c : S2x2048x4x128.Idx)) ?_ ?_ ?_ ?_ ?_
  · intro k hk
    exact Finset.mem_filter.mpr ⟨Finset.mem_univ _, (key k (Finset.mem_filter.mp hk).2).2⟩
  · intro k hk
    have h : m k g = i.val := (Finset.mem_filter.mp hk).2
    refine Finset.mem_filter.mpr ⟨Finset.mem_univ _, (lands idx _ _).mpr ⟨rfl, ?_, ?_, rfl⟩⟩
    · show (idx (ix3 k g 0)).toInt = (i.val : ℤ)
      rw [hm, h]
    · exact hg k g
  · intro k hk
    exact (key k (Finset.mem_filter.mp hk).2).1.symm
  · intro k hk
    rfl
  · intro k hk
    exact congrArg u (key k (Finset.mem_filter.mp hk).2).1

end Cert.PoolRead

end
-- ==== Proof.PoolSums.lean ====
/-
  A window's sum of reals is the difference of two running sums, and the same for the windows that begin at a position.
-/
module

public import proofs.«01_k».proof.Proof.PoolSpec
public import proofs.«01_k».proof.Proof.RealLift

@[expose] public section

noncomputable section

namespace Cert.PoolSums

open Idealize.ShloMosaic Cert.Pool Cert.RealLift

theorem ite_coe (p : Prop) [Decidable p] (a : ℝ) : (if p then (a : EReal) else 0) = ((if p then a else 0 : ℝ) : EReal) := by
  split <;> simp

theorem reals {ι : Type*} (f : ι → EReal) (h : ∀ k, f k = ((f k).toReal : EReal)) : ∃ a : ι → ℝ, f = fun k => (a k : EReal) :=
  ⟨fun k => (f k).toReal, funext h⟩

/-- The running sum up to a position, less the running sum up to where its window begins. -/
theorem down_eq (w : ℕ) (f : Fin 2048 → EReal) (h : ∀ k, f k = ((f k).toReal : EReal)) (r : Fin 2048) :
    (∑ k : Fin 2048, if k.val < r.val + 1 then f k else 0) - (∑ k : Fin 2048, if k.val < r.val + 1 - w then f k else 0) = down w f r := by
  obtain ⟨a, rfl⟩ := reals f h
  unfold down
  simp only [ite_coe, sum_coe, ← EReal.coe_sub]
  refine congrArg _ ?_
  rw [← Finset.sum_sub_distrib]
  refine Finset.sum_congr rfl fun k _ => ?_
  by_cases h1 : k.val < r.val + 1
  · by_cases h2 : k.val < r.val + 1 - w
    · rw [if_pos h1, if_pos h2, if_neg (by omega), sub_self]
    · rw [if_pos h1, if_neg h2, if_pos (by omega), sub_zero]
  · rw [if_neg h1, if_neg (by omega), if_neg (by omega), sub_zero]

/-- The remaining sum of every entry, each taken away again where its window has ended. -/
theorem up_eq (w : ℕ) (hw : 0 < w) (q : Fin 2048 → EReal) (h : ∀ k, q k = ((q k).toReal : EReal)) (j : Fin 2048) :
    (∑ k : Fin 2048, if j.val ≤ k.val then q k + ∑ t : Fin 2048, (if t.val + 1 - w = k.val + 1 then -q t else 0) else 0) = up w q j := by
  obtain ⟨a, rfl⟩ := reals q h
  unfold up
  simp only [← EReal.coe_neg, ite_coe, sum_coe, ← EReal.coe_add]
  refine congrArg _ ?_
  have e : ∀ k : Fin 2048, (if j.val ≤ k.val then a k + ∑ t : Fin 2048, (if t.val + 1 - w = k.val + 1 then -a t else 0) else 0)
      = (if j.val ≤ k.val then a k else 0) + ∑ t : Fin 2048, (if j.val ≤ k.val ∧ t.val + 1 - w = k.val + 1 then -a t else 0) := by
    intro k
    by_cases hk : j.val ≤ k.val
    · rw [if_pos hk, if_pos hk]
      refine congrArg _ (Finset.sum_congr rfl fun t _ => ?_)
      by_cases ht : t.val + 1 - w = k.val + 1
      · rw [if_pos ht, if_pos ⟨hk, ht⟩]
      · rw [if_neg ht, if_neg fun z => ht z.2]
    · rw [if_neg hk, if_neg hk, zero_add]
      exact (Finset.sum_eq_zero fun t _ => if_neg fun z => hk z.1).symm
  rw [Finset.sum_congr rfl fun k _ => e k, Finset.sum_add_distrib, Finset.sum_comm, ← Finset.sum_add_distrib]
  refine Finset.sum_congr rfl fun t _ => ?_
  by_cases ht : j.val + w ≤ t.val
  · have ht' := t.isLt
    have e1 : (∑ k : Fin 2048, if j.val ≤ k.val ∧ t.val + 1 - w = k.val + 1 then -a t else 0) = -a t := by
      rw [Finset.sum_eq_single (⟨t.val - w, by omega⟩ : Fin 2048)]
      · exact if_pos ⟨show j.val ≤ t.val - w by omega, show t.val + 1 - w = t.val - w + 1 by omega⟩
      · intro k _ hk
        exact if_neg fun z => hk (Fin.ext (show k.val = t.val - w by omega))
      · exact fun z => absurd (Finset.mem_univ _) z
    rw [e1, if_pos (by omega), if_neg (by omega), add_neg_cancel]
  · have e1 : (∑ k : Fin 2048, if j.val ≤ k.val ∧ t.val + 1 - w = k.val + 1 then -a t else 0) = 0 :=
      Finset.sum_eq_zero fun k _ => if_neg (by omega)
    rw [e1, add_zero]
    by_cases hj : j.val ≤ t.val
    · rw [if_pos hj, if_pos (by omega)]
    · rw [if_neg hj, if_neg (by omega)]

end Cert.PoolSums

end
-- ==== Proof.LeadSum.lean ====
/-
  The host's sum over the two leading axes of an array of three, at one element.
-/
module

public import Idealize.ShloMosaic.Lib.Pointwise

@[expose] public section

noncomputable section

namespace Cert.LeadSum

open Idealize.ShloMosaic

variable {A B C : ℕ}

theorem drop_eq (h : (Shape.mk 3 ![A, B, C]).ReducesTo [0, 1] (Shape.mk 1 ![C])) (i : (Shape.mk 3 ![A, B, C]).Idx) (j : Fin C) :
    h.drop i = ix1 j ↔ i 2 = j := by
  constructor
  · intro e
    exact Fin.ext (congrArg Fin.val (congrFun e 0))
  · intro e
    funext a
    fin_cases a
    exact Fin.ext (congrArg Fin.val e)

theorem sum_lead (h : (Shape.mk 3 ![A, B, C]).ReducesTo [0, 1] (Shape.mk 1 ![C])) (v : (Shape.mk 3 ![A, B, C]).Idx → EReal)
    (o : EReal) (j : Fin C) : Ideal.hostReduceAdd h v o (ix1 j) = o + ∑ a : Fin A, ∑ b : Fin B, v (ix3 a b j) := by
  unfold Ideal.hostReduceAdd
  rw [← Fintype.sum_prod_type' fun (a : Fin A) (b : Fin B) => v (ix3 a b j)]
  refine congrArg (o + ·) (Finset.sum_bij' (fun i _ => ((i 0, i 1) : Fin A × Fin B)) (fun p _ => ix3 p.1 p.2 j)
    (fun _ _ => Finset.mem_univ _) ?_ ?_ ?_ ?_)
  · intro p _
    exact Finset.mem_filter.mpr ⟨Finset.mem_univ _, (drop_eq h _ _).mpr rfl⟩
  · intro i hi
    have e := (drop_eq h i j).mp (Finset.mem_filter.mp hi).2
    funext a
    fin_cases a
    exacts [rfl, rfl, e.symm]
  · intro p _
    rfl
  · intro i hi
    have e := (drop_eq h i j).mp (Finset.mem_filter.mp hi).2
    refine congrArg v ?_
    funext a
    fin_cases a
    exacts [rfl, rfl, e]

end Cert.LeadSum

end
-- ==== Proof.PoolRef.lean ====
/-
  The results of the pooling's reference, read one element at a time.
-/
module

public import proofs.«01_k».proof.Proof.PoolRead
public import proofs.«01_k».proof.Proof.PoolSums
public import proofs.«01_k».proof.Proof.LeadSum

@[expose] public section

set_option maxRecDepth 16384

noncomputable section

namespace Cert.PoolRef

open Cert.ReferencePoolIdeal Cert.ReferencePoolIdeal.Gen Cert.ReferencePoolIdeal.Read Idealize.ShloMosaic
open Cert.Pool Cert.PoolRead Cert.PoolSums Cert.RealLift

variable (x d : S2x2048x512.Idx → EReal) (w : S4x128x128.Idx → EReal) (s : S512.Idx → EReal)

abbrev act (x : S2x2048x512.Idx → EReal) : Act := fun b r l => x (ix3 b r l)
abbrev maps (w : S4x128x128.Idx → EReal) : Maps := fun g c e => w (ix3 g c e)
abbrev scale (s : S512.Idx → EReal) : Scale := fun l => s (ix1 l)

/-- Where each row's window begins, in the reference's table. -/
theorem start0 (j : Fin 2048) (g : Fin 4) : (val_main_v33 (F := Ideal) (ix3 j g 0)).toInt = ((j.val + 1 - win g : ℕ) : ℤ) := by
  unfold val_main_v33
  pointwise [val_main_v31, val_main_v24, val_main_v23, val_main_v22, val_main_v21, val_main_v20, val_main_v17, val_main_v16, val_main_v15,
    val_main_v14, val_main_v13, val_main_v12, val_main_v11, val_main_v10, val_main_v9, val_main_v8, val_main_v7, val_main_v6, val_main_v5,
    val_main_c, val_main_c_1, val_main_c_2, val_main_c_3, val_main_c_4]
  revert j g
  decide +kernel

theorem start1 (j : Fin 2048) (g : Fin 4) : (val_main_v33 (F := Ideal) (ix3 j g 1)).toInt = (g.val : ℤ) := by
  unfold val_main_v33
  pointwise [val_main_v32, val_main_v30, val_main_v29, val_main_v28, val_main_v27, val_main_v26, val_main_v25, val_main_v19, val_main_v18,
    val_main_c_5, val_main_c_6]
  revert g
  decide +kernel

theorem counted (j : Fin 2048) (g : Fin 4) : val_main_v41 (F := Ideal) (ix2 j g) = cnt (win g) j := by
  have e : ∀ (j : Fin 2048) (g : Fin 4), BitVec.toInt (IntOp.minsi (IntOp.addi (BitVec.ofNat 32 j.val) 1#32)
      (IntOp.shli ArithUnit.host (2#32) (BitVec.ofNat 32 g.val))) = ((count (win g) j : ℕ) : ℤ) := by decide +kernel
  pointwise [val_main_v41, val_main_v40, val_main_v39, val_main_v38, val_main_v37, val_main_v36, val_main_v35, val_main_v9, val_main_v8,
    val_main_v7, val_main_v6, val_main_v5, val_main_c, val_main_c_7]
  refine (congrArg (fun z : ℤ => ((z : ℝ) : EReal)) (e j g)).trans ?_
  simp [cnt]

theorem col_eq (g : Fin 4) (e : Fin 128) (h : g.val * 128 + e.val < 512) : (⟨g.val * 128 + e.val, h⟩ : Fin 512) = col g e :=
  Fin.ext (show g.val * 128 + e.val = 128 * g.val + e.val by omega)

theorem cut (x : S2x2048x512.Idx → EReal) (b : Fin 2) (k : Fin 2048) (g : Fin 4) (c : Fin 128) :
    shapeCast S2x2048x4x128 x shapeCasts_S2x2048x512_S2x2048x4x128 (ix4 b k g c) = x (ix3 b k (col g c)) := by
  pointwise
  exact congrArg (fun l => x (ix3 b k l)) (col_eq g c _)

theorem running_at (b : Fin 2) (j : Fin 2048) (g : Fin 4) (c : Fin 128) :
    val_main_v2 (F := Ideal) x (ix4 b j g c) = ∑ k : Fin 2048, if k.val ≤ j.val then x (ix3 b k (col g c)) else 0 := by
  have z : val_main_call0_call0_v0 (F := Ideal) (Shape.Idx.first h_S_) = (0 : EReal) := by
    pointwise [val_main_call0_call0_v0, val_main_call0_call0_cst]
  unfold val_main_v2
  rw [Host.reduceWindowAdd, z, Ideal.hostReduceWindowAdd_def]
  refine (running _ _ b j g c).trans (Finset.sum_congr rfl fun k _ => ?_)
  rw [val_main_v0, cut]

/-- The running sums, with the leading zero. -/
theorem sums (b : Fin 2) (i : Fin 2049) (g : Fin 4) (c : Fin 128) :
    val_main_v3 (F := Ideal) x (ix4 b i g c) = ∑ k : Fin 2048, if k.val < i.val then x (ix3 b k (col g c)) else 0 := by
  unfold val_main_v3
  pointwise [val_main_v1, val_main_cst]
  by_cases hi : i.val < 1
  · rw [dif_pos hi]
    exact (Finset.sum_eq_zero fun k _ => if_neg (by omega)).symm
  · rw [dif_neg hi]
    refine (running_at x b ⟨i.val - 1, by omega⟩ g c).trans (Finset.sum_congr rfl fun k _ => ?_)
    by_cases hk : k.val < i.val
    · rw [if_pos hk, if_pos (show k.val ≤ i.val - 1 by omega)]
    · rw [if_neg hk, if_neg (show ¬k.val ≤ i.val - 1 by omega)]

theorem win_pos (g : Fin 4) : 0 < win g := Nat.pos_of_ne_zero (by simp [win])

theorem ref_pooled (hx : ∀ i, x i = ((x i).toReal : EReal)) (b : Fin 2) (r : Fin 2048) (g : Fin 4) (c : Fin 128) :
    val_main_v47 (F := Ideal) x (ix4 b r g c) = pooled (act x) b g r c := by
  have hs : val_main_v34 (F := Ideal) x (ix4 b r g c) = val_main_v3 (F := Ideal) x (ix4 b ⟨r.val + 1 - win g, by omega⟩ g c) := by
    unfold val_main_v34
    exact looked_up _ _ b r g c _ (start0 r g) (start1 r g)
  have e := down_eq (win g) (fun k => x (ix3 b k (col g c))) (fun k => hx _) r
  pointwise [val_main_v47, val_main_v46, val_main_v45, val_main_v44, val_main_v43, val_main_v42]
  rw [hs, sums, sums, counted, val_main_v0, cut]
  refine congrArg (fun z : EReal => Ideal.div z (cnt (win g) r) - x (ix3 b r (col g c))) (Eq.trans ?_ e)
  refine congrArg (fun z : EReal => z - _) (Finset.sum_congr rfl fun k _ => ?_)
  by_cases hk : k.val < r.val + 1
  · rw [if_pos hk, if_pos (show k.val < 1 + r.val by omega)]
  · rw [if_neg hk, if_neg (show ¬k.val < 1 + r.val by omega)]

theorem ref_dmix (b : Fin 2) (r : Fin 2048) (g : Fin 4) (e : Fin 128) :
    val_main_v61 (F := Ideal) d s (ix4 g e b r) = dmix (act d) (scale s) b g r e := by
  pointwise [val_main_v61, val_main_v60, val_main_v58, val_main_v57, val_main_v51]
  rw [col_eq]
  rfl

theorem ref_dpool (b : Fin 2) (r : Fin 2048) (g : Fin 4) (c : Fin 128) :
    val_main_v63 (F := Ideal) d w s (ix4 b r g c) = dpool (act d) (scale s) (maps w) b g r c := by
  pointwise [val_main_v63, val_main_v62]
  simp only [ref_dmix]
  rfl

theorem ref_mixed (hx : ∀ i, x i = ((x i).toReal : EReal)) (b : Fin 2) (r : Fin 2048) (g : Fin 4) (e : Fin 128) :
    val_main_v50 (F := Ideal) x w (ix3 b r (col g e)) = mixed (act x) (maps w) b g r e := by
  pointwise [val_main_v50, val_main_v49, val_main_v48]
  have e2 : ∀ h, (⟨(col g e).val / 128, h⟩ : Fin 4) = g := fun h => Fin.ext (show (128 * g.val + e.val) / 128 = g.val by omega)
  have e3 : ∀ h, (⟨(col g e).val % 128, h⟩ : Fin 128) = e := fun h => Fin.ext (show (128 * g.val + e.val) % 128 = e.val by omega)
  simp only [e2, e3, ref_pooled x hx]
  exact Finset.sum_congr rfl fun k _ => mul_comm _ _

theorem ref_dmaps (hx : ∀ i, x i = ((x i).toReal : EReal)) (g : Fin 4) (c e : Fin 128) :
    val_main_v65 (F := Ideal) x d s (ix3 g c e) = dmaps (act x) (act d) (scale s) g c e := by
  pointwise [val_main_v65, val_main_v64]
  simp only [ref_dmix, ref_pooled x hx, Fin.sum_univ_two]
  exact congrArg₂ (fun p q : EReal => p + q) (Finset.sum_congr rfl fun k _ => mul_comm _ _) (Finset.sum_congr rfl fun k _ => mul_comm _ _)

theorem ref_dscale (hx : ∀ i, x i = ((x i).toReal : EReal)) (l : Fin 512) :
    val_main_v81 (F := Ideal) x d w (ix2 0 l) = dscale (act x) (act d) (maps w) l := by
  pointwise [val_main_v81, val_main_v59]
  have z9 : val_main_cst_9 (F := Ideal) (Shape.Idx.first h_S_) = (0 : EReal) := by pointwise [val_main_cst_9]
  have z8 : val_main_cst_8 (F := Ideal) (Shape.Idx.first h_S_) = (0 : EReal) := by pointwise [val_main_cst_8]
  rw [z9]
  refine (Cert.LeadSum.sum_lead _ _ _ l).trans ((zero_add _).trans ?_)
  rw [Fin.sum_univ_one, Fin.sum_univ_one]
  pointwise [val_main_v56, val_main_v55]
  rw [z8]
  refine (Cert.LeadSum.sum_lead _ _ _ l).trans ((zero_add _).trans ?_)
  obtain ⟨g, e, rfl⟩ : ∃ (g : Fin 4) (e : Fin 128), l = col g e :=
    ⟨⟨l.val / 128, by omega⟩, ⟨l.val % 128, Nat.mod_lt _ (by decide)⟩, Fin.ext (show l.val = 128 * (l.val / 128) + l.val % 128 by omega)⟩
  have e2 : ∀ h, (⟨(col g e).val / 128, h⟩ : Fin 4) = g := fun h => Fin.ext (show (128 * g.val + e.val) / 128 = g.val by omega)
  have e3 : ∀ h, (⟨(col g e).val % 128, h⟩ : Fin 128) = e := fun h => Fin.ext (show (128 * g.val + e.val) % 128 = e.val by omega)
  unfold dscale
  rw [e2, e3, Fin.sum_univ_two]
  have t : ∀ b, (∑ r : Fin 2048, val_main_v54 (F := Ideal) x d w (ix3 b r (col g e))) = dscaleB (act x) (act d) (maps w) b g e := by
    intro b
    refine Finset.sum_congr rfl fun r _ => ?_
    pointwise [val_main_v54]
    rw [ref_mixed x w hx]
    exact mul_comm _ _
  exact congrArg₂ (fun p q : EReal => p + q) (t 0) (t 1)

/-- What the reference adds up from the last row back: each row's share, taken away again where its window ends. -/
theorem ref_shares (b : Fin 2) (k : Fin 2048) (g : Fin 4) (c : Fin 128) (q : Fin 2048 → EReal)
    (hq : ∀ t, val_main_v68 (F := Ideal) d w s (ix4 b t g c) = q t) :
    val_main_v75 (F := Ideal) d w s (ix4 b k g c)
      = q k + ∑ t : Fin 2048, (if t.val + 1 - win g = k.val + 1 then -q t else 0) := by
  have hk : 1 + k.val < 2049 := by omega
  have e1 : val_main_v70 (F := Ideal) d w s (ix4 b ⟨1 + k.val, hk⟩ g c) = q k := by
    unfold val_main_v70
    pointwise
    exact hq k
  have e2 : val_main_v72 (F := Ideal) d w s (ix4 b ⟨1 + k.val, hk⟩ g c)
      = ∑ t : Fin 2048, (if t.val + 1 - win g = k.val + 1 then -q t else 0) := by
    unfold val_main_v72
    rw [Host.scatterAdd, Ideal.hostScatterAdd_def]
    refine (accumulated _ _ _ (fun j g => j.val + 1 - win g) start0 start1 b _ g c).trans ?_
    have z : val_main_v71 (F := Ideal) (ix4 b ⟨1 + k.val, hk⟩ g c) = (0 : EReal) := by pointwise [val_main_v71, val_main_cst_11]
    rw [z, zero_add]
    refine Finset.sum_congr rfl fun t _ => ?_
    have hv : val_main_v69 (F := Ideal) d w s (ix4 b t g c) = -q t := by
      pointwise [val_main_v69]
      rw [hq]
    rw [hv]
    by_cases ht : t.val + 1 - win g = k.val + 1
    · rw [if_pos ht, if_pos (show t.val + 1 - win g = 1 + k.val by omega)]
    · rw [if_neg ht, if_neg (show ¬t.val + 1 - win g = 1 + k.val by omega)]
  pointwise [val_main_v75, val_main_v73]
  rw [e1, e2]

/-- A row's share of a window is a real. -/
theorem share_real (hd : ∀ i, d i = ((d i).toReal : EReal)) (hs : ∀ i, s i = ((s i).toReal : EReal)) (hw : ∀ i, w i = ((w i).toReal : EReal))
    (b : Fin 2) (g : Fin 4) (c : Fin 128) (k : Fin 2048) :
    ∃ a : ℝ, Ideal.div (dpool (act d) (scale s) (maps w) b g k c) (cnt (win g) k) = (a : EReal) := by
  have h : dpool (act d) (scale s) (maps w) b g k c
      = ((∑ e : Fin 128, (d (ix3 b k (col g e))).toReal * (s (ix1 (col g e))).toReal * (w (ix3 g c e)).toReal : ℝ) : EReal) := by
    rw [← sum_coe]
    refine Finset.sum_congr rfl fun e _ => ?_
    rw [EReal.coe_mul, EReal.coe_mul, ← hd, ← hs, ← hw]
    rfl
  rw [h, cnt]
  refine ⟨_, div_coe _ ?_⟩
  have := win_pos g
  exact Nat.cast_ne_zero.mpr (show min (k.val + 1) (win g) ≠ 0 by omega)

theorem ref_dxG (hd : ∀ i, d i = ((d i).toReal : EReal)) (hs : ∀ i, s i = ((s i).toReal : EReal)) (hw : ∀ i, w i = ((w i).toReal : EReal))
    (b : Fin 2) (r : Fin 2048) (g : Fin 4) (c : Fin 128) :
    -val_main_v63 (F := Ideal) d w s (ix4 b r g c) + val_main_v76 (F := Ideal) d w s (ix4 b r g c)
      = dxG (act d) (scale s) (maps w) b g r c := by
  have hq : ∀ t, val_main_v68 (F := Ideal) d w s (ix4 b t g c)
      = Ideal.div (dpool (act d) (scale s) (maps w) b g t c) (cnt (win g) t) := by
    intro t
    pointwise [val_main_v68, val_main_v67, val_main_v44]
    rw [ref_dpool, counted]
  have e : val_main_v76 (F := Ideal) d w s (ix4 b r g c)
      = up (win g) (fun k => Ideal.div (dpool (act d) (scale s) (maps w) b g k c) (cnt (win g) k)) r := by
    have z : val_main_call1_call0_v0 (F := Ideal) (Shape.Idx.first h_S_) = (0 : EReal) := by
      pointwise [val_main_call1_call0_v0, val_main_call1_call0_cst]
    unfold val_main_v76
    rw [Host.reduceWindowAdd, z, Ideal.hostReduceWindowAdd_def]
    refine (remaining _ _ b r g c).trans ?_
    simp only [ref_shares d w s b _ g c _ hq]
    refine up_eq (win g) (win_pos g) _ (fun k => ?_) r
    obtain ⟨a, ha⟩ := share_real d w s hd hs hw b g c k
    rw [ha, EReal.toReal_coe]
  rw [e, ref_dpool, dxG, sub_eq_add_neg]
  exact add_comm _ _

theorem ref_dx (hd : ∀ i, d i = ((d i).toReal : EReal)) (hs : ∀ i, s i = ((s i).toReal : EReal)) (hw : ∀ i, w i = ((w i).toReal : EReal))
    (i : Fin 4096) (l : Fin 512) : val_main_v80 (F := Ideal) d w s (ix2 i l) = dx (act d) (scale s) (maps w) i l := by
  pointwise [val_main_v80, val_main_v79, val_main_v78, val_main_v77, val_main_v66]
  exact ref_dxG d w s hd hs hw _ _ _ _

end Cert.PoolRef

end
-- ==== Proof.PoolClaim.lean ====
/-
  The kernel of the causal pooling's gradient and its reference leave the same three results, wherever the arguments are
  finite.
-/
module

public import proofs.«01_k».proof.Defs
public import proofs.«01_k».proof.Proof.PoolKernel
public import proofs.«01_k».proof.Proof.PoolRef
public import proofs.«01_k».proof.Proof.Finite
public import Idealize.ShloMosaic.Lib.Quiescent

@[expose] public section

set_option maxRecDepth 16384

noncomputable section

namespace Cert.PoolClaim

open Idealize.ShloMosaic Idealize.ShloMosaic.TcCoe Idealize.SL.Sem
open Cert.Pool Cert.PoolKernel

/-- What the precondition says of the arguments it tests. -/
theorem finite [Cert.Pre_finite_pool.Facts] (x0 : Cert.Pre_finite_pool.S2x2048x512.Idx → EReal) (x1 : Cert.Pre_finite_pool.S2x2048x512.Idx → EReal) (x2 : Cert.Pre_finite_pool.S4x128x128.Idx → EReal) (x3 : Cert.Pre_finite_pool.S512.Idx → EReal)
    (j : Cert.Pre_finite_pool.S_.Idx) (h : Cert.Pre_finite_pool.fn (F := Ideal) x0 x1 x2 x3 j = 1#1) :
    (∀ i, x0 i = ((x0 i).toReal : EReal)) ∧ (∀ i, x1 i = ((x1 i).toReal : EReal)) ∧ (∀ i, x2 i = ((x2 i).toReal : EReal)) ∧ (∀ i, x3 i = ((x3 i).toReal : EReal)) := by
  obtain ⟨p3, h3⟩ := Cert.Finite.and_one h
  obtain ⟨p2, h2⟩ := Cert.Finite.and_one p3
  obtain ⟨h0, h1⟩ := Cert.Finite.and_one p2
  have : Subsingleton Cert.Pre_finite_pool.S_.Idx := ⟨fun a b => funext fun i => i.elim0⟩
  exact ⟨Cert.Finite.real_of_all _ _ _ _ _ _ (fun _ => rfl) h0, Cert.Finite.real_of_all _ _ _ _ _ _ (fun _ => rfl) h1, Cert.Finite.real_of_all _ _ _ _ _ _ (fun _ => rfl) h2, Cert.Finite.real_of_all _ _ _ _ _ _ (fun _ => rfl) h3⟩

theorem algebraic [hF : Cert.Pre_finite_pool.Facts] :
    Cert.algebraic_KernelPoolIdeal_ReferencePoolIdeal_pre_finite_pool := by
  intro m g0 m' g' hp hag
  have hf := fun c => finite _ _ _ _ (fun i => i.elim0) (congrFun (hp c) _)
  refine ⟨fun c => fun i => dxAt m c (i 0) (i 1), fun c => fun i => dmaps (x m c) (d m c) (s m c) (i 0) (i 1) (i 2), fun c => fun i => dscale (x m c) (d m c) (w m c) (i 1), ?_, ?_⟩
  · refine (θ_run Cert.KernelPoolIdeal.defs _ _).mono (fun r h c => ?_) (Cert.KernelPoolIdeal.Value.run_blocks m g0)
    obtain ⟨r0, r1, r2, ha⟩ := h c
    exact ⟨r0.trans (final4 m c), r1.trans (final5 m c), r2.trans (final6 m c), ha⟩
  · refine (θ_run Cert.ReferencePoolIdeal.defs _ _).mono (fun r h c => ?_) (Cert.ReferencePoolIdeal.Value.run m' g')
    obtain ⟨r0, r1, r2, ha⟩ := h c
    obtain ⟨a0, a1, a2, a3⟩ := hag c
    obtain ⟨f0, f1, f2, f3⟩ := hf c
    rw [Cert.ReferencePoolIdeal.Read.val_main_v80_eq, a1, a2, a3] at r0
    rw [Cert.ReferencePoolIdeal.Read.val_main_v65_eq, a0, a1, a3] at r1
    rw [Cert.ReferencePoolIdeal.Read.val_main_v81_eq, a0, a1, a2] at r2
    refine ⟨r0.trans (funext fun i => ?_), r1.trans (funext fun i => ?_), r2.trans (funext fun i => ?_), ha⟩
    · obtain ⟨p, q, rfl⟩ : ∃ (p : Fin 4096) (q : Fin 512), i = ix2 p q := ⟨i 0, i 1, by funext a; fin_cases a <;> rfl⟩
      exact Cert.PoolRef.ref_dx _ _ _ f1 f3 f2 p q
    · obtain ⟨b, p, q, rfl⟩ : ∃ (b : Fin 4) (p : Fin 128) (q : Fin 128), i = ix3 b p q :=
        ⟨i 0, i 1, i 2, by funext a; fin_cases a <;> rfl⟩
      exact Cert.PoolRef.ref_dmaps _ _ _ f0 b p q
    · obtain ⟨q, rfl⟩ : ∃ q : Fin 512, i = ix2 0 q :=
        ⟨i 1, by funext a; fin_cases a; exacts [Fin.ext (Nat.lt_one_iff.mp (i 0).isLt), rfl]⟩
      exact Cert.PoolRef.ref_dscale _ _ _ f0 q

/-- The reference runs, leaves its arguments unchanged and has no semaphore. -/
theorem reference_runs : Cert.quiescent_ReferencePoolIdeal := fun m g _ =>
  (θ_run Cert.ReferencePoolIdeal.defs _ _).mono
    (fun r h => ⟨fun c => (h c).2.2.2, sem_eq_zero_of_no_sems (by decide) r.2⟩) (Cert.ReferencePoolIdeal.Value.run m g)

end Cert.PoolClaim

end
-- ==== Proof.Norm.lean ====
/-
  The gradient of a row scaled by the reciprocal root of its mean square, as a kernel writes it and as the chain rule
  does: the two agree on every extended real, because the scale is always a real number, zero for a row that is not one of
  reals.
-/
module

public import Idealize.ShloMosaic.PureOps.Ideal.Laws
public import Idealize.ShloMosaic.Lib.IdealHost

@[expose] public section

noncomputable section

namespace Cert.Norm

open Idealize.ShloMosaic

variable {n : ℕ}

/-- The small constant under the root. -/
abbrev eps : EReal := Ideal.ofBits .f32 0x358637BD#32

/-- The mean square of a row, divided by `N`, plus the small constant. -/
def meansq (N : EReal) (x : Fin n → EReal) : EReal := Ideal.div (∑ k, x k * x k) N + eps

/-- The row's scale. -/
def scale (N : EReal) (x : Fin n → EReal) : EReal := Ideal.rsqrt (meansq N x)

/-- The row's gradient, given that of the scaled row, `a`. -/
def drow (N : EReal) (x a : Fin n → EReal) (j : Fin n) : EReal :=
  scale N x * (a j - x j * scale N x * Ideal.div (∑ k, a k * (x k * scale N x)) N)

theorem eps_pos : ∃ e : ℝ, 0 < e ∧ eps = (e : EReal) := by
  refine ⟨_, ?_, by simp [eps, Ideal.ofBits, Ideal.ieee, -EReal.coe_mul]; rfl⟩
  norm_num

/-- The bits of minus one half. -/
theorem neg_half_eq : Ideal.ofBits .f32 0xBF000000#32 = ((-(1 / 2) : ℝ) : EReal) := by
  simp [Ideal.ofBits, Ideal.ieee, -EReal.coe_mul]; norm_num

theorem mul_self_nonneg (x : EReal) : 0 ≤ x * x := by
  induction x with
  | bot => simp
  | top => simp
  | coe r => rw [← EReal.coe_mul]; exact_mod_cast _root_.mul_self_nonneg r

/-- The scale is a real, and over the mean square it is its own cube. -/
theorem scale_real {N : ℝ} (hN : 0 < N) (x : Fin n → EReal) : ∃ r : ℝ, 0 ≤ r ∧ scale (N : EReal) x = (r : EReal)
    ∧ Ideal.div (scale (N : EReal) x) (meansq (N : EReal) x) = ((r * r * r : ℝ) : EReal) := by
  obtain ⟨e, he, hee⟩ := eps_pos
  have h0 : 0 ≤ ∑ k, x k * x k := Finset.sum_nonneg fun k _ => mul_self_nonneg (x k)
  unfold scale meansq
  rw [hee, Ideal.div_coe hN.ne']
  generalize ∑ k, x k * x k = s at h0
  have hi : 0 < 1 / N := by positivity
  induction s with
  | bot => exact absurd h0 (by simp)
  | top =>
    refine ⟨0, le_rfl, ?_, ?_⟩ <;> rw [EReal.top_mul_coe_of_pos hi, EReal.top_add_coe, Ideal.rsqrt_top]
    · rfl
    · simp [Ideal.div]
  | coe s =>
    have hs : 0 ≤ s := by exact_mod_cast h0
    have hv : 0 < s * (1 / N) + e := by positivity
    rw [← EReal.coe_mul, ← EReal.coe_add, Ideal.rsqrt_coe, if_neg hv.not_gt, if_neg hv.ne']
    refine ⟨_, inv_nonneg.mpr (Real.sqrt_nonneg _), rfl, ?_⟩
    rw [Ideal.div_coe hv.ne', ← EReal.coe_mul]
    refine congrArg _ ?_
    generalize hw : s * (1 / N) + e = v at hv
    have hq := Real.mul_self_sqrt hv.le
    have hp := Real.sqrt_pos.mpr hv
    generalize Real.sqrt v = q at hq hp
    rw [← hq]
    field_simp

theorem sum_mul_real {r : ℝ} (hr : 0 ≤ r) (f : Fin n → EReal) : ∑ k, f k * (r : EReal) = (∑ k, f k) * (r : EReal) := by
  induction n with
  | zero => simp
  | succ n ih =>
    rw [Fin.sum_univ_succ, Fin.sum_univ_succ, ih, EReal.right_distrib_of_nonneg_of_ne_top (by exact_mod_cast hr) (EReal.coe_ne_top _)]

/-- The chain rule's form of the row's gradient: the scaled part, and twice what comes through the mean square. -/
theorem drow_eq {N : ℝ} (hN : 0 < N) (x a : Fin n → EReal) (j : Fin n) :
    let c := Ideal.div ((∑ k, x k * a k)
      * (Ideal.ofBits .f32 0xBF000000#32 * Ideal.div (scale (N : EReal) x) (meansq (N : EReal) x))) (N : EReal)
    a j * scale (N : EReal) x + (x j * c + c * x j) = drow (N : EReal) x a j := by
  obtain ⟨r, hr, hs, hc⟩ := scale_real hN x
  dsimp only
  unfold drow
  rw [hc, hs, neg_half_eq, Ideal.div_coe hN.ne', Ideal.div_coe hN.ne']
  have e : ∑ k, a k * (x k * (r : EReal)) = (∑ k, x k * a k) * (r : EReal) := by
    rw [← sum_mul_real hr]
    exact Finset.sum_congr rfl fun k _ => by rw [← mul_assoc, mul_comm (a k)]
  rw [e]
  generalize ∑ k, x k * a k = S
  have hk : (0 : ℝ) ≤ r * r * r * (1 / N) / 2 := by positivity
  generalize hκ : r * r * r * (1 / N) / 2 = κ at hk
  have e1 : x j * (S * (((-(1 / 2) : ℝ) : EReal) * ((r * r * r : ℝ) : EReal)) * ((1 / N : ℝ) : EReal)) = (κ : EReal) * -(x j * S) := by
    rw [mul_neg, ← neg_mul, ← EReal.coe_neg, ← hκ, ← EReal.coe_mul, mul_assoc, ← EReal.coe_mul, ← mul_assoc, mul_comm]
    exact congrArg (fun t : ℝ => (t : EReal) * _) (by ring)
  rw [mul_comm _ (x j), e1, ← EReal.right_distrib_of_nonneg (by exact_mod_cast hk) (by exact_mod_cast hk), ← EReal.coe_add]
  rw [sub_eq_add_neg, EReal.left_distrib_of_nonneg_of_ne_top (by exact_mod_cast hr) (EReal.coe_ne_top _), mul_comm (a j)]
  refine congrArg _ ?_
  rw [mul_neg, mul_neg]
  refine congrArg _ ?_
  have e2 : x j * (r : EReal) * (S * (r : EReal) * ((1 / N : ℝ) : EReal)) = ((r * r * (1 / N) : ℝ) : EReal) * (x j * S) := by
    rw [EReal.coe_mul, EReal.coe_mul]
    simp only [mul_comm, mul_left_comm, mul_assoc]
  rw [e2, ← mul_assoc (r : EReal), ← EReal.coe_mul]
  exact congrArg (fun t : ℝ => (t : EReal) * _) (by rw [← hκ]; ring)

end Cert.Norm

end
-- ==== Proof.LatSpec.lean ====
/-
  The gradient through the latents, as functions of the arrays. A row of `lat` holds the query's latent (384 columns), the
  keys' and values' (256) and the rotated key's (64), and padding. `qg` and `kg` are the two normalisations' gains, `dq`, `dk`
  and `dr` the three gradients, `pos` the positions that the last 64 columns are rotated by.
-/
module

public import proofs.«01_k».proof.Proof.Norm
public import proofs.«01_k».proof.Proof.AttnSpec

@[expose] public section

noncomputable section

namespace Cert.Lat

open Idealize.ShloMosaic Cert.Norm

/-- The lengths of the two normalised parts. -/
abbrev lenQ : EReal := Ideal.ofBits .f32 0x43C00000#32
abbrev lenK : EReal := Ideal.ofBits .f32 0x43800000#32

theorem lenQ_eq : lenQ = ((384 : ℝ) : EReal) := by
  simp [lenQ, Ideal.ofBits, Ideal.ieee, -EReal.coe_mul]; norm_num

theorem lenK_eq : lenK = ((256 : ℝ) : EReal) := by
  simp [lenK, Ideal.ofBits, Ideal.ieee, -EReal.coe_mul]; norm_num

variable (lat : (Shape.mk 2 ![4096, 768]).Idx → EReal) (qg : (Shape.mk 1 ![384]).Idx → EReal)
  (kg : (Shape.mk 1 ![256]).Idx → EReal) (dq : (Shape.mk 2 ![4096, 384]).Idx → EReal)
  (dk : (Shape.mk 2 ![4096, 256]).Idx → EReal) (dr : (Shape.mk 2 ![4096, 128]).Idx → EReal)
  (pos : (Shape.mk 2 ![2, 2048]).Idx → BitVec 32)

/-- The two normalised parts of row `i`. -/
def rowQ (i : Fin 4096) : Fin 384 → EReal := fun k => lat (ix2 i ⟨k.val, by omega⟩)
def rowK (i : Fin 4096) : Fin 256 → EReal := fun k => lat (ix2 i ⟨384 + k.val, by omega⟩)

/-- Row `i`'s position. -/
def posOf (i : Fin 4096) : BitVec 32 := pos (ix2 ⟨i.val / 2048, by omega⟩ ⟨i.val % 2048, by omega⟩)

/-- The tables: each cosine twice and zeros; each sine negated, then as it is, and zeros. -/
def cosT (i : Fin 4096) (k : Fin 128) : EReal :=
  if h : k.val < 32 then Ideal.cos (Cert.AttnSpec.angle (posOf pos i) ⟨k.val, h⟩)
  else if h' : k.val - 32 < 32 then Ideal.cos (Cert.AttnSpec.angle (posOf pos i) ⟨k.val - 32, h'⟩) else (0 : EReal)
def sinT (i : Fin 4096) (k : Fin 128) : EReal :=
  if h : k.val < 32 then -Ideal.sin (Cert.AttnSpec.angle (posOf pos i) ⟨k.val, h⟩)
  else if h' : k.val - 32 < 32 then Ideal.sin (Cert.AttnSpec.angle (posOf pos i) ⟨k.val - 32, h'⟩) else (0 : EReal)

/-- The gradients of the three parts of a row. -/
def dxQ (i : Fin 4096) (j : Fin 384) : EReal := drow lenQ (rowQ lat i) (fun k => dq (ix2 i k) * qg (ix1 k)) j
def dxK (i : Fin 4096) (j : Fin 256) : EReal := drow lenK (rowK lat i) (fun k => dk (ix2 i k) * kg (ix1 k)) j
def dxR (i : Fin 4096) (k : Fin 128) : EReal :=
  dr (ix2 i k) * cosT pos i k
    + if h : k.val < 32 then dr (ix2 i ⟨k.val + 32, by omega⟩) * sinT pos i ⟨k.val + 32, by omega⟩
      else dr (ix2 i ⟨k.val - 32, by omega⟩) * sinT pos i ⟨k.val - 32, by omega⟩

/-- The gradient of a row. -/
def dlat (i : Fin 4096) (j : Fin 768) : EReal :=
  if h : j.val < 384 then dxQ lat qg dq i ⟨j.val, h⟩
  else if h' : j.val < 640 then dxK lat kg dk i ⟨j.val - 384, by omega⟩
  else dxR dr pos i ⟨j.val - 640, by omega⟩

/-- A row's parts of the gradients of the gains, and the gradients. -/
def gainQ (i : Fin 4096) (j : Fin 384) : EReal := dq (ix2 i j) * (rowQ lat i j * scale lenQ (rowQ lat i))
def gainK (i : Fin 4096) (j : Fin 256) : EReal := dk (ix2 i j) * (rowK lat i j * scale lenK (rowK lat i))
def dgainQ (j : Fin 384) : EReal := ∑ i : Fin 4096, gainQ lat dq i j
def dgainK (j : Fin 256) : EReal := ∑ i : Fin 4096, gainK lat dk i j

/-! ## The latents themselves -/

/-- The two normalised parts of a row, times their gains. -/
def normQ (i : Fin 4096) (j : Fin 384) : EReal := rowQ lat i j * scale lenQ (rowQ lat i) * qg (ix1 j)
def normK (i : Fin 4096) (j : Fin 256) : EReal := rowK lat i j * scale lenK (rowK lat i) * kg (ix1 j)

/-- The last columns of a row, rotated. -/
def rotated (i : Fin 4096) (k : Fin 128) : EReal :=
  lat (ix2 i ⟨640 + k.val, by omega⟩) * cosT pos i k
    + (if h : k.val < 32 then lat (ix2 i ⟨640 + (k.val + 32), by omega⟩) else lat (ix2 i ⟨640 + (k.val - 32), by omega⟩)) * sinT pos i k

end Cert.Lat

end
-- ==== Proof.LatKernel.lean ====
/-
  What the kernel of the gradient through the latents leaves in its three result arrays.
-/
module

public import Idealize.ShloMosaic.Lib.Pipeline.ValueKit.Geometry
public import proofs.«01_k».proof.Proof.Gen.KernelLatIdeal.Value
public import proofs.«01_k».proof.Proof.Pieces
public import proofs.«01_k».proof.Proof.Loads
public import proofs.«01_k».proof.Proof.RowSum
public import proofs.«01_k».proof.Proof.LatSpec

@[expose] public section

set_option maxRecDepth 16384

noncomputable section

namespace Cert.LatKernel

open Cert.KernelLatIdeal Cert.KernelLatIdeal.Gen Idealize.ShloMosaic Idealize.ShloMosaic.TcCoe Idealize.SL.Sem
open Idealize.ShloMosaic.Pipeline (Dat)
open Cert.Lat Cert.Norm

variable (m : (ℓ : Loc nD τ sig) → Buf (Elt Ideal) ℓ)

/-! ## The arguments, and the blocks the grid points read of them -/

abbrev lat (c : Dev nD) : S4096x768.Idx → EReal := m ((c : Thread nD τ).loc main_arg0)
abbrev qg (c : Dev nD) : S384.Idx → EReal := m ((c : Thread nD τ).loc main_arg1)
abbrev kg (c : Dev nD) : S256.Idx → EReal := m ((c : Thread nD τ).loc main_arg2)
abbrev dq (c : Dev nD) : S4096x384.Idx → EReal := m ((c : Thread nD τ).loc main_arg3)
abbrev dk (c : Dev nD) : S4096x256.Idx → EReal := m ((c : Thread nD τ).loc main_arg4)
abbrev dr (c : Dev nD) : S4096x128.Idx → EReal := m ((c : Thread nD τ).loc main_arg5)
abbrev pos (c : Dev nD) : S2x2048.Idx → BitVec 32 := m ((c : Thread nD τ).loc main_arg6)

theorem V_qg (c : Dev nD) (j : Fin 384) : V m c main_v23 (ix2 0 j) = qg m c (ix1 j) := by
  unfold V hostOps0
  after_results_simp
  pointwise

theorem V_kg (c : Dev nD) (j : Fin 256) : V m c main_v24 (ix2 0 j) = kg m c (ix1 j) := by
  unfold V hostOps0
  after_results_simp
  pointwise

theorem V_cos (c : Dev nD) (i : Fin 4096) (k : Fin 128) : V m c main_v20 (ix2 i k) = cosT (pos m c) i k := by
  unfold V hostOps0
  after_results_simp
  pointwise
  after_results_simp
  pointwise
  rfl

theorem V_sin (c : Dev nD) (i : Fin 4096) (k : Fin 128) : V m c main_v22 (ix2 i k) = sinT (pos m c) i k := by
  unfold V hostOps0
  after_results_simp
  pointwise
  after_results_simp
  pointwise
  rfl

/-- Row `r` of point `t`'s block of 512 rows. -/
def row (t : Fin cfg0.N) (r : Fin 512) : Fin 4096 := ⟨512 * t.val + r.val, by have : t.val < 8 := t.isLt; omega⟩

theorem emb8 (t : Fin cfg0.N) (r : Fin 512) (k : Fin 768) : (win0_8.rect t).emb (ix2 r k) = ix2 (row t r) k :=
  emb_at (fun t => ![t.val, 0]) (by intro a; fin_cases a <;> simp [row] <;> omega)

theorem emb9 (t : Fin cfg0.N) (k : Fin 384) : (win0_9.rect t).emb (ix2 0 k) = ix2 0 k :=
  emb_at (fun t => ![0, 0])

theorem emb10 (t : Fin cfg0.N) (k : Fin 256) : (win0_10.rect t).emb (ix2 0 k) = ix2 0 k :=
  emb_at (fun t => ![0, 0])

theorem blk0 (c : Dev nD) (t : Fin cfg0.N) (r : Fin 512) (k : Fin 768) :
    iblk m c 0 t (ix2 r k) = lat m c (ix2 (row t r) k) :=
  (congrArg (V m c main_arg0) (emb_at (fun t => ![t.val, 0]) (by intro a; fin_cases a <;> simp [row] <;> omega))).trans (congrFun (V_main_arg0 m c) _)

theorem blk3 (c : Dev nD) (t : Fin cfg0.N) (r : Fin 512) (k : Fin 384) :
    iblk m c 3 t (ix2 r k) = dq m c (ix2 (row t r) k) :=
  (congrArg (V m c main_arg3) (emb_at (fun t => ![t.val, 0]) (by intro a; fin_cases a <;> simp [row] <;> omega))).trans (congrFun (V_main_arg3 m c) _)

theorem blk4 (c : Dev nD) (t : Fin cfg0.N) (r : Fin 512) (k : Fin 256) :
    iblk m c 4 t (ix2 r k) = dk m c (ix2 (row t r) k) :=
  (congrArg (V m c main_arg4) (emb_at (fun t => ![t.val, 0]) (by intro a; fin_cases a <;> simp [row] <;> omega))).trans (congrFun (V_main_arg4 m c) _)

theorem blk5 (c : Dev nD) (t : Fin cfg0.N) (r : Fin 512) (k : Fin 128) :
    iblk m c 5 t (ix2 r k) = dr m c (ix2 (row t r) k) :=
  (congrArg (V m c main_arg5) (emb_at (fun t => ![t.val, 0]) (by intro a; fin_cases a <;> simp [row] <;> omega))).trans (congrFun (V_main_arg5 m c) _)

theorem blk1 (c : Dev nD) (t : Fin cfg0.N) (k : Fin 384) :
    iblk m c 1 t (ix2 0 k) = qg m c (ix1 k) :=
  (congrArg (V m c main_v23) (emb_at (fun t => ![0, 0]))).trans (V_qg m c k)

theorem blk2 (c : Dev nD) (t : Fin cfg0.N) (k : Fin 256) :
    iblk m c 2 t (ix2 0 k) = kg m c (ix1 k) :=
  (congrArg (V m c main_v24) (emb_at (fun t => ![0, 0]))).trans (V_kg m c k)

theorem blk6 (c : Dev nD) (t : Fin cfg0.N) (r : Fin 512) (k : Fin 128) :
    iblk m c 6 t (ix2 r k) = cosT (pos m c) (row t r) k :=
  (congrArg (V m c main_v20) (emb_at (fun t => ![t.val, 0]) (by intro a; fin_cases a <;> simp [row] <;> omega))).trans (V_cos m c _ k)

theorem blk7 (c : Dev nD) (t : Fin cfg0.N) (r : Fin 512) (k : Fin 128) :
    iblk m c 7 t (ix2 r k) = sinT (pos m c) (row t r) k :=
  (congrArg (V m c main_v22) (emb_at (fun t => ![t.val, 0]) (by intro a; fin_cases a <;> simp [row] <;> omega))).trans (V_sin m c _ k)

theorem low : ∀ k : Fin 128, IntOp.cmpi .slt (BitVec.ofNat 32 k.val) 32#32 = if k.val < 32 then 1#1 else 0#1 := by
  decide +kernel

/-- The rotated columns of a point. -/
theorem pay1 (c : Dev nD) (t : Fin cfg0.N) (r : Fin 512) (k : Fin 128) :
    k0_pay1 (F := Ideal) (iblk m c 5 t) (iblk m c 6 t) (iblk m c 7 t) (ix2 r k) = dxR (dr m c) (pos m c) (row t r) k := by
  pointwise [k0_pay1]
  simp only [blk5, blk6, blk7]
  unfold dxR
  by_cases hk : k.val < 32
  · have e : (k.val + 128 - 96) % 128 = k.val + 32 := by omega
    simp only [hk, e, low, ↓reduceDIte, ↓reduceIte]
    rfl
  · have e : (k.val + 128 - 32) % 128 = k.val - 32 := by omega
    simp only [hk, e, low, ↓reduceDIte, ↓reduceIte]
    rfl

/-! ## What a grid point leaves -/

abbrev dlatAt (c : Dev nD) (i : Fin 4096) (j : Fin 768) : EReal :=
  dlat (lat m c) (qg m c) (kg m c) (dq m c) (dk m c) (dr m c) (pos m c) i j

theorem flushed8_A (c : Dev nD) (t : Fin cfg0.N) (h0 : t.val % 8 = 0) (r : Fin 512) (l : Fin 768) :
    ((dats m 0 c).flushed 8 t (ix2 r l) : EReal) = dlatAt m c (row t r) l := by
  rw [Cert.KernelLatIdeal.Value.flushed8_A m c t h0]
  unfold out0_A_8 kernelRun0_A
  dsimp only
  sl_unfold_words
  simp only [View.readAt_eq_ld, Memref.IsWhole.read_unread, View.readCov_eq_canon', Cert.Loads.mat]
  rw [View.read_writes_junk_eq_canon]
  by_cases h1 : l.val < 384
  · refine (Cert.Pieces.canon_miss _ _ _ (ix2 r l) 1 (Or.inl (show l.val < 640 by omega))).trans ?_
    refine (Cert.Pieces.canon_miss _ _ _ (ix2 r l) 1 (Or.inl h1)).trans ?_
    refine (Cert.Pieces.canon_hit _ _ _ (ix2 r l) (ix2 r ⟨l.val, h1⟩)).trans ?_
    pointwise [k0_pay6, k0_pay5, k0_pay4]
    simp only [blk0, blk1, blk3, dlatAt, dlat, h1, ↓reduceDIte]
    rfl
  · by_cases h2 : l.val < 640
    · refine (Cert.Pieces.canon_miss _ _ _ (ix2 r l) 1 (Or.inl h2)).trans ?_
      refine (Cert.Pieces.canon_hit _ _ _ (ix2 r l) (ix2 r ⟨l.val - 384, by omega⟩) (by intro a; fin_cases a <;> simp; omega)).trans ?_
      pointwise [k0_pay10, k0_pay9, k0_pay8]
      simp only [blk0, blk2, blk4, dlatAt, dlat, h1, h2, ↓reduceDIte]
      rfl
    · refine (Cert.Pieces.canon_hit _ _ _ (ix2 r l) (ix2 r ⟨l.val - 640, by omega⟩) (by intro a; fin_cases a <;> simp; omega)).trans ?_
      refine (pay1 m c t r ⟨l.val - 640, by omega⟩).trans ?_
      simp only [dlatAt, dlat, h1, h2, ↓reduceDIte]

theorem flushed8_B (c : Dev nD) (t : Fin cfg0.N) (h0 : ¬t.val % 8 = 0) (r : Fin 512) (l : Fin 768) :
    ((dats m 0 c).flushed 8 t (ix2 r l) : EReal) = dlatAt m c (row t r) l := by
  rw [Cert.KernelLatIdeal.Value.flushed8_B m c t h0]
  unfold out0_B_8 kernelRun0_B
  dsimp only
  sl_unfold_words
  simp only [View.readAt_eq_ld, Memref.IsWhole.read_unread, View.readCov_eq_canon', Cert.Loads.mat]
  rw [View.read_writes_junk_eq_canon]
  by_cases h1 : l.val < 384
  · refine (Cert.Pieces.canon_miss _ _ _ (ix2 r l) 1 (Or.inl (show l.val < 640 by omega))).trans ?_
    refine (Cert.Pieces.canon_miss _ _ _ (ix2 r l) 1 (Or.inl h1)).trans ?_
    refine (Cert.Pieces.canon_hit _ _ _ (ix2 r l) (ix2 r ⟨l.val, h1⟩)).trans ?_
    pointwise [k0_pay6, k0_pay5, k0_pay4]
    simp only [blk0, blk1, blk3, dlatAt, dlat, h1, ↓reduceDIte]
    rfl
  · by_cases h2 : l.val < 640
    · refine (Cert.Pieces.canon_miss _ _ _ (ix2 r l) 1 (Or.inl h2)).trans ?_
      refine (Cert.Pieces.canon_hit _ _ _ (ix2 r l) (ix2 r ⟨l.val - 384, by omega⟩) (by intro a; fin_cases a <;> simp; omega)).trans ?_
      pointwise [k0_pay10, k0_pay9, k0_pay8]
      simp only [blk0, blk2, blk4, dlatAt, dlat, h1, h2, ↓reduceDIte]
      rfl
    · refine (Cert.Pieces.canon_hit _ _ _ (ix2 r l) (ix2 r ⟨l.val - 640, by omega⟩) (by intro a; fin_cases a <;> simp; omega)).trans ?_
      refine (pay1 m c t r ⟨l.val - 640, by omega⟩).trans ?_
      simp only [dlatAt, dlat, h1, h2, ↓reduceDIte]

theorem outs9_A (c : Dev nD) (t : Fin cfg0.N) (h0 : t.val % 8 = 0) (j : Fin 384) :
    ((outsAt0 m c t.val t.isLt).2.1 (ix2 0 j) : EReal) = ∑ r : Fin 512, gainQ (lat m c) (dq m c) (row t r) j := by
  simp only [outsAt0_A m c t h0]
  unfold out0_A_9 kernelRun0_A
  dsimp only
  sl_unfold_words
  simp only [View.readAt_eq_ld, Memref.IsWhole.read_unread, View.readCov_eq_canon', Cert.Loads.mat]
  rw [View.read_writes_junk_eq_canon]
  refine (Cert.Pieces.canon_hit _ _ _ (ix2 0 j) (ix2 0 j)).trans ?_
  generalize hacc : View.canon (Val := Elt Ideal) (s := S1x384) (e := .f32) _ = acc
  have hz : (acc (ix2 0 j) : EReal) = 0 := by
    subst hacc
    refine (Cert.Pieces.canon_hit _ _ _ (ix2 0 j) (ix2 0 j)).trans ?_
    pointwise [k0_pay2]
  pointwise [k0_pay7, k0_pay5, k0_pay4]
  simp only [blk0, blk3]
  rw [hz, zero_add]
  rfl

theorem outs9_B (c : Dev nD) (t : Fin cfg0.N) (h0 : ¬t.val % 8 = 0) (j : Fin 384) :
    ((outsAt0 m c t.val t.isLt).2.1 (ix2 0 j) : EReal)
      = (outsAt0 m c (t.val - 1) (Nat.lt_of_le_of_lt (Nat.sub_le _ _) t.isLt)).2.1 (ix2 0 j)
        + ∑ r : Fin 512, gainQ (lat m c) (dq m c) (row t r) j := by
  simp only [outsAt0_B m c t h0]
  unfold out0_B_9 kernelRun0_B
  dsimp only
  sl_unfold_words
  simp only [View.readAt_eq_ld, Memref.IsWhole.read_unread, View.readCov_eq_canon', Cert.Loads.mat]
  rw [View.read_writes_junk_eq_canon]
  refine (Cert.Pieces.canon_hit _ _ _ (ix2 0 j) (ix2 0 j)).trans ?_
  pointwise [k0_pay7, k0_pay5, k0_pay4]
  simp only [blk0, blk3]
  rfl

/-- After point `n` these gains' gradient is the sum over the rows so far. -/
theorem outs9 (c : Dev nD) (j : Fin 384) : ∀ (n : ℕ) (hn : n < cfg0.N),
    ((outsAt0 m c n hn).2.1 (ix2 0 j) : EReal) = Cert.RowSum.below (fun i => gainQ (lat m c) (dq m c) i j) (512 * (n + 1))
  | 0, hn => by
    rw [outs9_A m c ⟨0, hn⟩ rfl j, show 512 * (0 + 1) = 0 + 512 from rfl, Cert.RowSum.below_add _ _ _ (by omega),
      Cert.RowSum.below_zero, zero_add]
    rfl
  | n + 1, hn => by
    have hN : n + 1 < 8 := hn
    rw [outs9_B m c ⟨n + 1, hn⟩ (by simp only; omega) j, Nat.mul_succ, Cert.RowSum.below_add _ _ _ (by omega)]
    simp only [Nat.add_sub_cancel]
    rw [outs9 c j n]
    rfl

theorem outs10_A (c : Dev nD) (t : Fin cfg0.N) (h0 : t.val % 8 = 0) (j : Fin 256) :
    ((outsAt0 m c t.val t.isLt).2.2 (ix2 0 j) : EReal) = ∑ r : Fin 512, gainK (lat m c) (dk m c) (row t r) j := by
  simp only [outsAt0_A m c t h0]
  unfold out0_A_10 kernelRun0_A
  dsimp only
  sl_unfold_words
  simp only [View.readAt_eq_ld, Memref.IsWhole.read_unread, View.readCov_eq_canon', Cert.Loads.mat]
  rw [View.read_writes_junk_eq_canon]
  refine (Cert.Pieces.canon_hit _ _ _ (ix2 0 j) (ix2 0 j)).trans ?_
  generalize hacc : View.canon (Val := Elt Ideal) (s := S1x256) (e := .f32) _ = acc
  have hz : (acc (ix2 0 j) : EReal) = 0 := by
    subst hacc
    refine (Cert.Pieces.canon_hit _ _ _ (ix2 0 j) (ix2 0 j)).trans ?_
    pointwise [k0_pay3]
  pointwise [k0_pay11, k0_pay9, k0_pay8]
  simp only [blk0, blk4]
  rw [hz, zero_add]
  rfl

theorem outs10_B (c : Dev nD) (t : Fin cfg0.N) (h0 : ¬t.val % 8 = 0) (j : Fin 256) :
    ((outsAt0 m c t.val t.isLt).2.2 (ix2 0 j) : EReal)
      = (outsAt0 m c (t.val - 1) (Nat.lt_of_le_of_lt (Nat.sub_le _ _) t.isLt)).2.2 (ix2 0 j)
        + ∑ r : Fin 512, gainK (lat m c) (dk m c) (row t r) j := by
  simp only [outsAt0_B m c t h0]
  unfold out0_B_10 kernelRun0_B
  dsimp only
  sl_unfold_words
  simp only [View.readAt_eq_ld, Memref.IsWhole.read_unread, View.readCov_eq_canon', Cert.Loads.mat]
  rw [View.read_writes_junk_eq_canon]
  refine (Cert.Pieces.canon_hit _ _ _ (ix2 0 j) (ix2 0 j)).trans ?_
  pointwise [k0_pay11, k0_pay9, k0_pay8]
  simp only [blk0, blk4]
  rfl

/-- After point `n` these gains' gradient is the sum over the rows so far. -/
theorem outs10 (c : Dev nD) (j : Fin 256) : ∀ (n : ℕ) (hn : n < cfg0.N),
    ((outsAt0 m c n hn).2.2 (ix2 0 j) : EReal) = Cert.RowSum.below (fun i => gainK (lat m c) (dk m c) i j) (512 * (n + 1))
  | 0, hn => by
    rw [outs10_A m c ⟨0, hn⟩ rfl j, show 512 * (0 + 1) = 0 + 512 from rfl, Cert.RowSum.below_add _ _ _ (by omega),
      Cert.RowSum.below_zero, zero_add]
    rfl
  | n + 1, hn => by
    have hN : n + 1 < 8 := hn
    rw [outs10_B m c ⟨n + 1, hn⟩ (by simp only; omega) j, Nat.mul_succ, Cert.RowSum.below_add _ _ _ (by omega)]
    simp only [Nat.add_sub_cancel]
    rw [outs10 c j n]
    rfl

/-! ## The result arrays -/

theorem final8 (c : Dev nD) : (dats m 0 c).arrAt 8 cfg0.N
    = fun i : S4096x768.Idx => dlatAt m c (i 0) (i 1) := by
  apply Dat.arrAt_eq_of_cover
  · intro t hf
    funext y
    obtain ⟨r, l, rfl⟩ : ∃ (r : Fin 512) (l : Fin 768), y = ix2 r l := ⟨y 0, y 1, eq_ix2 y⟩
    refine (if h0 : t.val % 8 = 0 then flushed8_A m c t h0 r l else flushed8_B m c t h0 r l).trans ?_
    show _ = dlatAt m c ((win0_8.rect t).emb (ix2 r l) 0) ((win0_8.rect t).emb (ix2 r l) 1)
    rw [emb8]
    rfl
  · exact (by decide +kernel : (cfg0.win 8).Covers).cover _ (Memref.isWhole_whole _)

theorem final9 (c : Dev nD) : (dats m 0 c).arrAt 9 cfg0.N = fun i : S1x384.Idx => dgainQ (lat m c) (dq m c) (i 1) := by
  apply Dat.arrAt_eq_of_cover
  · intro t hf
    have hl : t.val % 8 = 7 := (flush0_9 t).mp hf
    have hn : t.val < 8 := t.isLt
    funext y
    obtain ⟨l, rfl⟩ : ∃ l : Fin 384, y = ix2 0 l :=
      ⟨y 1, by funext a; fin_cases a; exacts [Fin.ext (Nat.lt_one_iff.mp (y 0).isLt), rfl]⟩
    rw [Cert.KernelLatIdeal.Value.flushed9 m c t]
    refine (outs9 m c l t.val t.isLt).trans ?_
    have e : 512 * (t.val + 1) = 4096 := by omega
    rw [e, Cert.RowSum.below_all]
    show _ = dgainQ (lat m c) (dq m c) ((win0_9.rect t).emb (ix2 0 l) 1)
    rw [emb9]
    rfl
  · exact (by decide +kernel : (cfg0.win 9).Covers).cover _ (Memref.isWhole_whole _)

theorem final10 (c : Dev nD) : (dats m 0 c).arrAt 10 cfg0.N = fun i : S1x256.Idx => dgainK (lat m c) (dk m c) (i 1) := by
  apply Dat.arrAt_eq_of_cover
  · intro t hf
    have hl : t.val % 8 = 7 := (flush0_10 t).mp hf
    have hn : t.val < 8 := t.isLt
    funext y
    obtain ⟨l, rfl⟩ : ∃ l : Fin 256, y = ix2 0 l :=
      ⟨y 1, by funext a; fin_cases a; exacts [Fin.ext (Nat.lt_one_iff.mp (y 0).isLt), rfl]⟩
    rw [Cert.KernelLatIdeal.Value.flushed10 m c t]
    refine (outs10 m c l t.val t.isLt).trans ?_
    have e : 512 * (t.val + 1) = 4096 := by omega
    rw [e, Cert.RowSum.below_all]
    show _ = dgainK (lat m c) (dk m c) ((win0_10.rect t).emb (ix2 0 l) 1)
    rw [emb10]
    rfl
  · exact (by decide +kernel : (cfg0.win 10).Covers).cover _ (Memref.isWhole_whole _)

end Cert.LatKernel

end
-- ==== Proof.LatRef.lean ====
/-
  The results of the reference of the gradient through the latents, read one element at a time.
-/
module

public import proofs.«01_k».proof.Proof.Gen.ReferenceLatIdeal.Read
public import proofs.«01_k».proof.Proof.LatSpec

@[expose] public section

noncomputable section

namespace Cert.LatRef

open Cert.ReferenceLatIdeal Cert.ReferenceLatIdeal.Gen Cert.ReferenceLatIdeal.Read Idealize.ShloMosaic
open Cert.Lat Cert.Norm

variable (lat : S4096x768.Idx → EReal) (qg : S384.Idx → EReal) (kg : S256.Idx → EReal) (dq : S4096x384.Idx → EReal)
  (dk : S4096x256.Idx → EReal) (dr : S4096x128.Idx → EReal) (pos : S2x2048.Idx → BitVec 32)

theorem ref_meansqQ (i : Fin 4096) (o : Fin 1) : val_main_v29 (F := Ideal) lat (ix2 i o) = meansq lenQ (rowQ lat i) := by
  pointwise [val_main_v29, val_main_v28, val_main_v27, val_main_v26, val_main_v25, val_main_v24, val_main_v23, val_main_v20, val_main_v19, val_main_cst_3, val_main_cst_4, val_main_cst_5]
  rfl

theorem ref_scaleQ (i : Fin 4096) (o : Fin 1) : val_main_v30 (F := Ideal) lat (ix2 i o) = scale lenQ (rowQ lat i) := by
  pointwise [val_main_v30]
  rw [ref_meansqQ]
  rfl

theorem ref_dxQ (i : Fin 4096) (j : Fin 384) : val_main_v114 (F := Ideal) lat qg dq (ix2 i j) = dxQ lat qg dq i j := by
  pointwise [val_main_v114, val_main_v113, val_main_v112, val_main_v111, val_main_v110, val_main_v109, val_main_v108, val_main_v107, val_main_v106, val_main_v105, val_main_v104, val_main_v103, val_main_v102, val_main_v101, val_main_v99, val_main_v98, val_main_v36, val_main_v33, val_main_v32, val_main_v31, val_main_v20, val_main_v19, val_main_cst_6, val_main_cst_18, val_main_cst_19, val_main_cst_20]
  simp only [ref_scaleQ, ref_meansqQ, Finset.univ_unique, Finset.sum_singleton]
  rw [dxQ, lenQ_eq, ← drow_eq (by norm_num : (0 : ℝ) < 384)]
  simp only [show Ideal.ofBits .f32 0x43C00000#32 = ((384 : ℝ) : EReal) from lenQ_eq]
  exact add_assoc _ _ _

theorem ref_dgainQ (j : Fin 384) : val_main_v118 (F := Ideal) lat dq (ix2 0 j) = dgainQ lat dq j := by
  pointwise [val_main_v118, val_main_v100, val_main_v97, val_main_v96, val_main_v95, val_main_v35, val_main_v34, val_main_v20, val_main_v19, val_main_cst_16, val_main_cst_17]
  simp only [ref_scaleQ, Finset.univ_unique, Finset.sum_singleton]
  exact Finset.sum_congr rfl fun i _ => mul_comm _ _

theorem ref_meansqK (i : Fin 4096) (o : Fin 1) : val_main_v45 (F := Ideal) lat (ix2 i o) = meansq lenK (rowK lat i) := by
  pointwise [val_main_v45, val_main_v44, val_main_v43, val_main_v42, val_main_v41, val_main_v40, val_main_v39, val_main_v21, val_main_v19, val_main_cst_7, val_main_cst_8, val_main_cst_9]
  rfl

theorem ref_scaleK (i : Fin 4096) (o : Fin 1) : val_main_v46 (F := Ideal) lat (ix2 i o) = scale lenK (rowK lat i) := by
  pointwise [val_main_v46]
  rw [ref_meansqK]
  rfl

theorem ref_dxK (i : Fin 4096) (j : Fin 256) : val_main_v94 (F := Ideal) lat kg dk (ix2 i j) = dxK lat kg dk i j := by
  pointwise [val_main_v94, val_main_v93, val_main_v92, val_main_v91, val_main_v90, val_main_v89, val_main_v88, val_main_v87, val_main_v86, val_main_v85, val_main_v84, val_main_v83, val_main_v82, val_main_v81, val_main_v79, val_main_v78, val_main_v52, val_main_v49, val_main_v48, val_main_v47, val_main_v21, val_main_v19, val_main_cst_10, val_main_cst_13, val_main_cst_14, val_main_cst_15]
  simp only [ref_scaleK, ref_meansqK, Finset.univ_unique, Finset.sum_singleton]
  rw [dxK, lenK_eq, ← drow_eq (by norm_num : (0 : ℝ) < 256)]
  simp only [show Ideal.ofBits .f32 0x43800000#32 = ((256 : ℝ) : EReal) from lenK_eq]
  exact add_assoc _ _ _

theorem ref_dgainK (j : Fin 256) : val_main_v119 (F := Ideal) lat dk (ix2 0 j) = dgainK lat dk j := by
  pointwise [val_main_v119, val_main_v80, val_main_v77, val_main_v76, val_main_v75, val_main_v51, val_main_v50, val_main_v21, val_main_v19, val_main_cst_11, val_main_cst_12]
  simp only [ref_scaleK, Finset.univ_unique, Finset.sum_singleton]
  exact Finset.sum_congr rfl fun i _ => mul_comm _ _

theorem ref_cos (i : Fin 4096) (k : Fin 32) : val_main_v17 (F := Ideal) pos (ix2 i k) = Ideal.cos (Cert.AttnSpec.angle (posOf pos i) k) := by
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2]
  rfl

theorem ref_sin (i : Fin 4096) (k : Fin 32) : val_main_v18 (F := Ideal) pos (ix2 i k) = Ideal.sin (Cert.AttnSpec.angle (posOf pos i) k) := by
  pointwise [val_main_v18, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2]
  rfl

/-- The rotated columns: the rotation's transpose. -/
theorem ref_dxR (i : Fin 4096) (k : Fin 64) :
    val_main_v74 (F := Ideal) dr pos (ix2 i k) = dxR dr pos i ⟨k.val, by omega⟩ := by
  pointwise [val_main_v74, val_main_v73, val_main_v72, val_main_v71, val_main_v70, val_main_v69, val_main_v68, val_main_v67,
    val_main_v66, val_main_v65, val_main_v64]
  simp only [ref_cos, ref_sin]
  by_cases hk : k.val < 32
  · have h1 : ¬k.val + 32 < 32 := by omega
    simp only [dxR, cosT, sinT, hk, h1, ↓reduceDIte, Nat.add_sub_cancel, Nat.add_comm 32 k.val]
    exact add_comm _ _
  · have h1 : k.val - 32 < 32 := by omega
    have h2 : 32 + (k.val - 32) = k.val := by omega
    simp only [dxR, cosT, sinT, hk, h1, h2, ↓reduceDIte]
    rw [EReal.neg_mul, mul_neg]

/-- The rows' gradient, on the columns that are not padding. -/
theorem ref_dlat (i : Fin 4096) (j : Fin 768) (hj : j.val < 704) :
    val_main_v117 (F := Ideal) lat qg kg dq dk dr pos (ix2 i j) = dlat lat qg kg dq dk dr pos i j := by
  pointwise [val_main_v117, val_main_v116, val_main_v115]
  simp only [ref_dxQ, ref_dxK, ref_dxR]
  rw [dif_pos hj]
  unfold dlat
  by_cases h1 : j.val < 384
  · rw [dif_pos h1, dif_pos h1]
  · rw [dif_neg h1, dif_neg h1]
    by_cases h2 : j.val < 640
    · rw [dif_pos h2, dif_pos (by omega)]
    · rw [dif_neg h2, dif_neg (by omega)]
      exact congrArg (dxR dr pos i) (Fin.ext (Nat.sub_sub _ _ _))

end Cert.LatRef

end
-- ==== Proof.LatClaim.lean ====
/-
  The kernel of the gradient through the latents and its reference leave the same results: the rows' gradient on the columns that
  are not padding, and both gains' gradients.
-/
module

public import proofs.«01_k».proof.Defs
public import proofs.«01_k».proof.Proof.LatKernel
public import proofs.«01_k».proof.Proof.LatRef
public import proofs.«01_k».proof.Proof.Finite
public import Idealize.ShloMosaic.Lib.Quiescent

@[expose] public section

set_option maxRecDepth 16384

noncomputable section

namespace Cert.LatClaim

open Idealize.ShloMosaic Idealize.ShloMosaic.TcCoe Idealize.SL.Sem
open Cert.Lat Cert.LatKernel

theorem lt_of_cmp : ∀ k : Fin 768, IntOp.cmpi .slt (BitVec.ofNat 32 k.val) 704#32 = 1#1 → k.val < 704 := by
  decide +kernel

/-- Where the rows' gradient is compared. -/
theorem lt_of_mask [Cert.On_lat_columns.Facts] {a0 a1 a2 a3 a4 a5 a6} (p : Fin 4096) (q : Fin 768)
    (h : (Cert.On_lat_columns.fn (F := Ideal) a0 a1 a2 a3 a4 a5 a6).1 (ix2 p q) = 1#1) : q.val < 704 :=
  lt_of_cmp q h

theorem algebraic [hO : Cert.On_lat_columns.Facts] :
    Cert.algebraic_KernelLatIdeal_ReferenceLatIdeal_on_lat_columns := by
  intro m g0 m' g' _ hag
  refine ⟨fun c => fun i => dlatAt m c (i 0) (i 1), fun c => fun i => dgainQ (lat m c) (dq m c) (i 1), fun c => fun i => dgainK (lat m c) (dk m c) (i 1), ?_, ?_⟩
  · refine (θ_run Cert.KernelLatIdeal.defs _ _).mono (fun r h c => ?_) (Cert.KernelLatIdeal.Value.run_blocks m g0)
    obtain ⟨r0, r1, r2, ha⟩ := h c
    exact ⟨fun i _ => congrFun (r0.trans (final8 m c)) i, fun i _ => congrFun (r1.trans (final9 m c)) i, fun i _ => congrFun (r2.trans (final10 m c)) i, ha⟩
  · refine (θ_run Cert.ReferenceLatIdeal.defs _ _).mono (fun r h c => ?_) (Cert.ReferenceLatIdeal.Value.run m' g')
    obtain ⟨r0, r1, r2, ha⟩ := h c
    obtain ⟨a0, a1, a2, a3, a4, a5, a6⟩ := hag c
    rw [Cert.ReferenceLatIdeal.Read.val_main_v117_eq, a0, a1, a2, a3, a4, a5, a6] at r0
    rw [Cert.ReferenceLatIdeal.Read.val_main_v118_eq, a0, a3] at r1
    rw [Cert.ReferenceLatIdeal.Read.val_main_v119_eq, a0, a4] at r2
    refine ⟨fun i hi => ?_, fun i _ => ?_, fun i _ => ?_, ha⟩
    · obtain ⟨p, q, rfl⟩ : ∃ (p : Fin 4096) (q : Fin 768), i = ix2 p q := ⟨i 0, i 1, by funext a; fin_cases a <;> rfl⟩
      exact (congrFun r0 _).trans (Cert.LatRef.ref_dlat _ _ _ _ _ _ _ p q (lt_of_mask p q hi))
    · obtain ⟨q, rfl⟩ : ∃ q : Fin 384, i = ix2 0 q :=
        ⟨i 1, by funext a; fin_cases a; exacts [Fin.ext (Nat.lt_one_iff.mp (i 0).isLt), rfl]⟩
      exact (congrFun r1 _).trans (Cert.LatRef.ref_dgainQ _ _ q)
    · obtain ⟨q, rfl⟩ : ∃ q : Fin 256, i = ix2 0 q :=
        ⟨i 1, by funext a; fin_cases a; exacts [Fin.ext (Nat.lt_one_iff.mp (i 0).isLt), rfl]⟩
      exact (congrFun r2 _).trans (Cert.LatRef.ref_dgainK _ _ q)

/-- The reference runs, leaves its arguments unchanged and has no semaphore. -/
theorem reference_runs : Cert.quiescent_ReferenceLatIdeal := fun m g _ =>
  (θ_run Cert.ReferenceLatIdeal.defs _ _).mono
    (fun r h => ⟨fun c => (h c).2.2.2, sem_eq_zero_of_no_sems (by decide) r.2⟩) (Cert.ReferenceLatIdeal.Value.run m g)

end Cert.LatClaim

end
-- ==== Proof.ActSpec.lean ====
/-
  The gradients of the feed-forward layer's gated unit, as functions of the arrays: `dy` the cotangent of the layer's
  result, `w` the down projection, `g` the gate's argument, `u` what the gate multiplies.
-/
module

public import Idealize.ShloMosaic.Lib.Pointwise
public import proofs.«01_k».proof.Proof.Sigmoid

@[expose] public section

noncomputable section

namespace Cert.Act

open Idealize.ShloMosaic

open Cert.Sigmoid

variable (dy : (Shape.mk 2 ![4096, 1024]).Idx → EReal) (w : (Shape.mk 2 ![2816, 1024]).Idx → EReal)
  (g u : (Shape.mk 2 ![4096, 2816]).Idx → EReal)

/-- The gradient of the gated unit's value: half the cotangent times the down projection, transposed. -/
def dact (i : Fin 4096) (j : Fin 2816) : EReal :=
  Ideal.ofBits .f32 0x3F000000#32 * ∑ x : Fin 1024, dy (ix2 i x) * w (ix2 j x)

/-- The gradient of the gate's argument. -/
def dgate (i : Fin 4096) (j : Fin 2816) : EReal :=
  dact dy w i j * u (ix2 i j) * (sig (g (ix2 i j)) * (1 + g (ix2 i j) * (1 - sig (g (ix2 i j)))))

/-- The gradient of what the gate multiplies. -/
def dup (i : Fin 4096) (j : Fin 2816) : EReal := dact dy w i j * (g (ix2 i j) * sig (g (ix2 i j)))

end Cert.Act

end
-- ==== Proof.ActKernel.lean ====
/-
  What the kernel of the gated unit's gradient leaves in its two result arrays.
-/
module

public import Idealize.ShloMosaic.Lib.Pipeline.ValueKit.Geometry
public import proofs.«01_k».proof.Proof.Gen.KernelActIdeal.Value
public import proofs.«01_k».proof.Proof.Pieces
public import proofs.«01_k».proof.Proof.Loads
public import proofs.«01_k».proof.Proof.ActSpec

@[expose] public section

set_option maxRecDepth 16384

noncomputable section

namespace Cert.ActKernel

open Cert.KernelActIdeal Cert.KernelActIdeal.Gen Idealize.ShloMosaic Idealize.ShloMosaic.TcCoe Idealize.SL.Sem
open Idealize.ShloMosaic.Pipeline (Dat)
open Cert.Act

variable (m : (ℓ : Loc nD τ sig) → Buf (Elt Ideal) ℓ)

/-! ## The arguments, and the blocks the grid points read of them -/

abbrev dy (c : Dev nD) : S4096x1024.Idx → EReal := m ((c : Thread nD τ).loc main_arg0)
abbrev w (c : Dev nD) : S2816x1024.Idx → EReal := m ((c : Thread nD τ).loc main_arg1)
abbrev g (c : Dev nD) : S4096x2816.Idx → EReal := m ((c : Thread nD τ).loc main_arg2)
abbrev u (c : Dev nD) : S4096x2816.Idx → EReal := m ((c : Thread nD τ).loc main_arg3)

theorem V_w (c : Dev nD) (j : S2816x1024.Idx) : V m c main_v0 j = w m c j := by
  unfold V hostOps0
  after_results_simp
  rfl

theorem V_g (c : Dev nD) (j : S4096x2816.Idx) : V m c main_v1 j = g m c j := by
  unfold V hostOps0
  after_results_simp
  rfl

theorem V_u (c : Dev nD) (j : S4096x2816.Idx) : V m c main_v2 j = u m c j := by
  unfold V hostOps0
  after_results_simp
  rfl

/-- Row `r` of point `t`'s block of 512 rows, and column `l` of its half of the columns. -/
def row (t : Fin cfg0.N) (r : Fin 512) : Fin 4096 := ⟨512 * (t.val % 8) + r.val, by omega⟩
def col (t : Fin cfg0.N) (l : Fin 1408) : Fin 2816 := ⟨1408 * (t.val / 8) + l.val, by have : t.val < 16 := t.isLt; omega⟩

theorem emb4 (t : Fin cfg0.N) (r : Fin 512) (k : Fin 1408) : (win0_4.rect t).emb (ix2 r k) = ix2 (row t r) (col t k) :=
  emb_at (fun t => ![t.val % 8, t.val / 8]) (by intro a; fin_cases a <;> simp [row, col] <;> omega)

theorem emb5 (t : Fin cfg0.N) (r : Fin 512) (k : Fin 1408) : (win0_5.rect t).emb (ix2 r k) = ix2 (row t r) (col t k) :=
  emb_at (fun t => ![t.val % 8, t.val / 8]) (by intro a; fin_cases a <;> simp [row, col] <;> omega)

theorem blk0 (c : Dev nD) (t : Fin cfg0.N) (r : Fin 512) (k : Fin 1024) :
    iblk m c 0 t (ix2 r k) = dy m c (ix2 (row t r) k) :=
  (congrArg (V m c main_arg0) (emb_at (fun t => ![t.val % 8, 0]) (by intro a; fin_cases a <;> simp [row, col] <;> omega))).trans (congrFun (V_main_arg0 m c) _)

theorem blk1 (c : Dev nD) (t : Fin cfg0.N) (r : Fin 1408) (k : Fin 1024) :
    iblk m c 1 t (ix2 r k) = w m c (ix2 (col t r) k) :=
  (congrArg (V m c main_v0) (emb_at (fun t => ![t.val / 8, 0]) (by intro a; fin_cases a <;> simp [row, col] <;> omega))).trans (V_w m c _)

theorem blk2 (c : Dev nD) (t : Fin cfg0.N) (r : Fin 512) (k : Fin 1408) :
    iblk m c 2 t (ix2 r k) = g m c (ix2 (row t r) (col t k)) :=
  (congrArg (V m c main_v1) (emb_at (fun t => ![t.val % 8, t.val / 8]) (by intro a; fin_cases a <;> simp [row, col] <;> omega))).trans (V_g m c _)

theorem blk3 (c : Dev nD) (t : Fin cfg0.N) (r : Fin 512) (k : Fin 1408) :
    iblk m c 3 t (ix2 r k) = u m c (ix2 (row t r) (col t k)) :=
  (congrArg (V m c main_v2) (emb_at (fun t => ![t.val % 8, t.val / 8]) (by intro a; fin_cases a <;> simp [row, col] <;> omega))).trans (V_u m c _)

/-! ## What a grid point writes back -/

theorem flushed4 (c : Dev nD) (t : Fin cfg0.N) (r : Fin 512) (l : Fin 1408) :
    ((dats m 0 c).flushed 4 t (ix2 r l) : EReal) = dgate (dy m c) (w m c) (g m c) (u m c) (row t r) (col t l) := by
  rw [Cert.KernelActIdeal.Value.flushed4_A m c t]
  unfold out0_A_4 kernelRun0_A
  dsimp only
  sl_unfold_words
  simp only [View.readAt_eq_ld, Memref.IsWhole.read_unread]
  rw [View.read_writes_junk_eq_canon]
  refine Cert.Pieces.canon_cols (Val := Elt Ideal) (e := .bf16) _ _ _ r l (fun l => dgate (dy m c) (w m c) (g m c) (u m c) (row t r) (col t l)) (fun x _ => ?_) fun h0 =>
    Cert.Pieces.canon_cols (Val := Elt Ideal) (e := .bf16) _ _ _ r l (fun l => dgate (dy m c) (w m c) (g m c) (u m c) (row t r) (col t l)) (fun x _ => ?_) fun h1 =>
    Cert.Pieces.canon_cols (Val := Elt Ideal) (e := .bf16) _ _ _ r l (fun l => dgate (dy m c) (w m c) (g m c) (u m c) (row t r) (col t l)) (fun x _ => ?_) fun h2 =>
    Cert.Pieces.canon_cols (Val := Elt Ideal) (e := .bf16) _ _ _ r l (fun l => dgate (dy m c) (w m c) (g m c) (u m c) (row t r) (col t l)) (fun x _ => ?_) fun h3 =>
    Cert.Pieces.canon_cols (Val := Elt Ideal) (e := .bf16) _ _ _ r l (fun l => dgate (dy m c) (w m c) (g m c) (u m c) (row t r) (col t l)) (fun x _ => ?_) fun h4 =>
    Cert.Pieces.canon_cols (Val := Elt Ideal) (e := .bf16) _ _ _ r l (fun l => dgate (dy m c) (w m c) (g m c) (u m c) (row t r) (col t l)) (fun x _ => ?_) fun h5 => by omega
  all_goals
    pointwise [k0_pay3, k0_pay1, k0_pay2, k0_pay32, k0_pay33, k0_pay34, k0_pay35, k0_pay26, k0_pay27, k0_pay28, k0_pay29, k0_pay30, k0_pay31,
      k0_pay19, k0_pay20, k0_pay21, k0_pay22, k0_pay23, k0_pay24, k0_pay25, k0_pay14, k0_pay15, k0_pay16, k0_pay17, k0_pay18,
      k0_pay9, k0_pay10, k0_pay11, k0_pay12, k0_pay13, k0_pay4, k0_pay5, k0_pay6, k0_pay7, k0_pay8]
    simp only [blk0, blk1, blk2, blk3, Nat.zero_add]
    rfl

theorem flushed5 (c : Dev nD) (t : Fin cfg0.N) (r : Fin 512) (l : Fin 1408) :
    ((dats m 0 c).flushed 5 t (ix2 r l) : EReal) = dup (dy m c) (w m c) (g m c) (row t r) (col t l) := by
  rw [Cert.KernelActIdeal.Value.flushed5_A m c t]
  unfold out0_A_5 kernelRun0_A
  dsimp only
  sl_unfold_words
  simp only [View.readAt_eq_ld, Memref.IsWhole.read_unread]
  rw [View.read_writes_junk_eq_canon]
  refine Cert.Pieces.canon_cols (Val := Elt Ideal) (e := .bf16) _ _ _ r l (fun l => dup (dy m c) (w m c) (g m c) (row t r) (col t l)) (fun x _ => ?_) fun h0 =>
    Cert.Pieces.canon_cols (Val := Elt Ideal) (e := .bf16) _ _ _ r l (fun l => dup (dy m c) (w m c) (g m c) (row t r) (col t l)) (fun x _ => ?_) fun h1 =>
    Cert.Pieces.canon_cols (Val := Elt Ideal) (e := .bf16) _ _ _ r l (fun l => dup (dy m c) (w m c) (g m c) (row t r) (col t l)) (fun x _ => ?_) fun h2 =>
    Cert.Pieces.canon_cols (Val := Elt Ideal) (e := .bf16) _ _ _ r l (fun l => dup (dy m c) (w m c) (g m c) (row t r) (col t l)) (fun x _ => ?_) fun h3 =>
    Cert.Pieces.canon_cols (Val := Elt Ideal) (e := .bf16) _ _ _ r l (fun l => dup (dy m c) (w m c) (g m c) (row t r) (col t l)) (fun x _ => ?_) fun h4 =>
    Cert.Pieces.canon_cols (Val := Elt Ideal) (e := .bf16) _ _ _ r l (fun l => dup (dy m c) (w m c) (g m c) (row t r) (col t l)) (fun x _ => ?_) fun h5 => by omega
  all_goals
    pointwise [k0_pay3, k0_pay1, k0_pay2, k0_pay32, k0_pay33, k0_pay34, k0_pay35, k0_pay26, k0_pay27, k0_pay28, k0_pay29, k0_pay30, k0_pay31,
      k0_pay19, k0_pay20, k0_pay21, k0_pay22, k0_pay23, k0_pay24, k0_pay25, k0_pay14, k0_pay15, k0_pay16, k0_pay17, k0_pay18,
      k0_pay9, k0_pay10, k0_pay11, k0_pay12, k0_pay13, k0_pay4, k0_pay5, k0_pay6, k0_pay7, k0_pay8]
    simp only [blk0, blk1, blk2, blk3, Nat.zero_add]
    rfl

/-! ## The result arrays -/

theorem final4 (c : Dev nD) : (dats m 0 c).arrAt 4 cfg0.N
    = fun i : S4096x2816.Idx => dgate (dy m c) (w m c) (g m c) (u m c) (i 0) (i 1) := by
  apply Dat.arrAt_eq_of_cover
  · intro t _
    funext y
    obtain ⟨r, l, rfl⟩ : ∃ (r : Fin 512) (l : Fin 1408), y = ix2 r l := ⟨y 0, y 1, eq_ix2 y⟩
    refine (flushed4 m c t r l).trans ?_
    show _ = dgate (dy m c) (w m c) (g m c) (u m c) ((win0_4.rect t).emb (ix2 r l) 0) ((win0_4.rect t).emb (ix2 r l) 1)
    rw [emb4]
    rfl
  · exact (by decide +kernel : (cfg0.win 4).Covers).cover _ (Memref.isWhole_whole _)

theorem final5 (c : Dev nD) : (dats m 0 c).arrAt 5 cfg0.N
    = fun i : S4096x2816.Idx => dup (dy m c) (w m c) (g m c) (i 0) (i 1) := by
  apply Dat.arrAt_eq_of_cover
  · intro t _
    funext y
    obtain ⟨r, l, rfl⟩ : ∃ (r : Fin 512) (l : Fin 1408), y = ix2 r l := ⟨y 0, y 1, eq_ix2 y⟩
    refine (flushed5 m c t r l).trans ?_
    show _ = dup (dy m c) (w m c) (g m c) ((win0_5.rect t).emb (ix2 r l) 0) ((win0_5.rect t).emb (ix2 r l) 1)
    rw [emb5]
    rfl
  · exact (by decide +kernel : (cfg0.win 5).Covers).cover _ (Memref.isWhole_whole _)

end Cert.ActKernel

end
-- ==== Proof.ActRef.lean ====
/-
  The results of the gated unit's reference, read one element at a time.
-/
module

public import proofs.«01_k».proof.Proof.Gen.ReferenceActIdeal.Read
public import proofs.«01_k».proof.Proof.ActSpec
public import proofs.«01_k».proof.Proof.RealLift

@[expose] public section

noncomputable section

namespace Cert.ActRef

open Cert.ReferenceActIdeal Cert.ReferenceActIdeal.Gen Cert.ReferenceActIdeal.Read Idealize.ShloMosaic
open Cert.Act Cert.Sigmoid Cert.RealLift

variable (dy : S4096x1024.Idx → EReal) (w : S2816x1024.Idx → EReal) (g u : S4096x2816.Idx → EReal)

/-- The reference's sigmoid, from the exponential. -/
theorem ref_sig (i : Fin 4096) (j : Fin 2816) : val_main_v0_2 (F := Ideal) g (ix2 i j) = sig (g (ix2 i j)) := by
  pointwise [val_main_v0_2, val_main_call0_v4, val_main_call0_v3, val_main_call0_v2, val_main_call0_v1, val_main_call0_v0,
    val_main_call0_cst, val_main_call0_cst_0]
  exact div_eq_sig _

/-- The reference halves each factor of the product's sum, the kernel its total. -/
theorem half_sum {n : ℕ} (f h : Fin n → EReal) :
    ∑ x, Ideal.ofBits .f32 0x3F000000#32 * f x * h x = Ideal.ofBits .f32 0x3F000000#32 * ∑ x, f x * h x := by
  rw [half_eq]
  induction n with
  | zero => simp
  | succ n ih =>
    rw [Fin.sum_univ_succ, Fin.sum_univ_succ, ih, EReal.left_distrib_of_nonneg_of_ne_top (by positivity) (EReal.coe_ne_top _), mul_assoc]

theorem ref_dact (i : Fin 4096) (j : Fin 2816) : val_main_v7 (F := Ideal) dy w (ix2 i j) = dact dy w i j := by
  pointwise [val_main_v7, val_main_v6, val_main_v5, val_main_cst_0]
  exact half_sum _ _

theorem ref_up (i : Fin 4096) (j : Fin 2816) : val_main_v12 (F := Ideal) dy w g (ix2 i j) = dup dy w g i j := by
  pointwise [val_main_v12, val_main_v8, val_main_v0_0]
  rw [ref_sig, ref_dact]
  exact mul_comm _ _

/-- The sigmoid of a real is a real. -/
theorem sig_coe (r : ℝ) : ∃ s : ℝ, sig (r : EReal) = (s : EReal) :=
  ⟨(1 + Real.exp (-r))⁻¹, (sig_eq _).trans (Ideal.logistic_coe r)⟩

/-- The product rule's two terms, on a real cotangent, as one product; the gate's argument may be infinite. -/
theorem silu_rule (c : ℝ) (x : EReal) :
    (c : EReal) * sig x + x * (c : EReal) * (sig x * (1 - sig x)) = (c : EReal) * (sig x * (1 + x * (1 - sig x))) := by
  induction x with
  | bot => rw [sig_eq, Ideal.logistic_bot]; simp
  | top =>
    have h : (1 : EReal) - 1 = 0 := by
      rw [show (1 : EReal) = ((1 : ℝ) : EReal) from rfl, ← EReal.coe_sub, sub_self, EReal.coe_zero]
    rw [sig_eq, Ideal.logistic_top, h]; simp
  | coe r =>
    obtain ⟨s, hs⟩ := sig_coe r
    rw [hs, show (1 : EReal) = ((1 : ℝ) : EReal) from rfl]
    simp only [← EReal.coe_mul, ← EReal.coe_add, ← EReal.coe_sub]
    exact congrArg _ (by ring)

theorem ref_gate (h0 : ∀ i, dy i = ((dy i).toReal : EReal)) (h1 : ∀ i, w i = ((w i).toReal : EReal))
    (h3 : ∀ i, u i = ((u i).toReal : EReal)) (i : Fin 4096) (j : Fin 2816) :
    val_main_v11 (F := Ideal) dy w g u (ix2 i j) = dgate dy w g u i j := by
  have hc : ∃ c : ℝ, dact dy w i j * u (ix2 i j) = (c : EReal) := by
    refine ⟨1 / 2 * (∑ x : Fin 1024, (dy (ix2 i x)).toReal * (w (ix2 j x)).toReal) * (u (ix2 i j)).toReal, ?_⟩
    rw [EReal.coe_mul, EReal.coe_mul, ← sum_coe, dact, half_eq, ← h3]
    refine congrArg (· * _) (congrArg _ (Finset.sum_congr rfl fun x _ => ?_))
    rw [EReal.coe_mul, ← h0, ← h1]
  obtain ⟨c, hc⟩ := hc
  pointwise [val_main_v11, val_main_v10, val_main_v9, val_main_v0_1, val_main_call0_v7, val_main_call0_v6,
    val_main_call0_cst_1, val_main_call1_v0, val_main_call1_v1, val_main_call1_v2]
  rw [ref_sig, ref_dact, dgate, hc]
  first
    | exact silu_rule c _
    | (rw [Ideal.ofBits_one_f32]; exact silu_rule c _)

end Cert.ActRef

end
-- ==== Proof.ActClaim.lean ====
/-
  The kernel of the gated unit's gradient and its reference leave the same two results, wherever the cotangent, the
  projection and the multiplied branch are finite.
-/
module

public import proofs.«01_k».proof.Defs
public import proofs.«01_k».proof.Proof.ActKernel
public import proofs.«01_k».proof.Proof.ActRef
public import proofs.«01_k».proof.Proof.Finite
public import Idealize.ShloMosaic.Lib.Quiescent

@[expose] public section

set_option maxRecDepth 16384

noncomputable section

namespace Cert.ActClaim

open Idealize.ShloMosaic Idealize.ShloMosaic.TcCoe Idealize.SL.Sem
open Cert.Act Cert.ActKernel

/-- What the precondition says of the arguments it tests. -/
theorem finite [Cert.Pre_finite_act.Facts] (x0 : Cert.Pre_finite_act.S4096x1024.Idx → EReal) (x1 : Cert.Pre_finite_act.S2816x1024.Idx → EReal) (x2 : Cert.Pre_finite_act.S4096x2816.Idx → EReal) (x3 : Cert.Pre_finite_act.S4096x2816.Idx → EReal)
    (j : Cert.Pre_finite_act.S_.Idx) (h : Cert.Pre_finite_act.fn (F := Ideal) x0 x1 x2 x3 j = 1#1) :
    (∀ i, x0 i = ((x0 i).toReal : EReal)) ∧ (∀ i, x1 i = ((x1 i).toReal : EReal)) ∧ (∀ i, x3 i = ((x3 i).toReal : EReal)) := by
  obtain ⟨p2, h3⟩ := Cert.Finite.and_one h
  obtain ⟨h0, h1⟩ := Cert.Finite.and_one p2
  have : Subsingleton Cert.Pre_finite_act.S_.Idx := ⟨fun a b => funext fun i => i.elim0⟩
  exact ⟨Cert.Finite.real_of_all _ _ _ _ _ _ (fun _ => rfl) h0, Cert.Finite.real_of_all _ _ _ _ _ _ (fun _ => rfl) h1, Cert.Finite.real_of_all _ _ _ _ _ _ (fun _ => rfl) h3⟩

theorem algebraic [hF : Cert.Pre_finite_act.Facts] :
    Cert.algebraic_KernelActIdeal_ReferenceActIdeal_pre_finite_act := by
  intro m g0 m' g' hp hag
  have hf := fun c => finite _ _ _ _ (fun i => i.elim0) (congrFun (hp c) _)
  refine ⟨fun c => fun i => dgate (dy m c) (w m c) (g m c) (u m c) (i 0) (i 1), fun c => fun i => dup (dy m c) (w m c) (g m c) (i 0) (i 1), ?_, ?_⟩
  · refine (θ_run Cert.KernelActIdeal.defs _ _).mono (fun r h c => ?_) (Cert.KernelActIdeal.Value.run_blocks m g0)
    obtain ⟨r0, r1, ha⟩ := h c
    exact ⟨r0.trans (final4 m c), r1.trans (final5 m c), ha⟩
  · refine (θ_run Cert.ReferenceActIdeal.defs _ _).mono (fun r h c => ?_) (Cert.ReferenceActIdeal.Value.run m' g')
    obtain ⟨r0, r1, ha⟩ := h c
    obtain ⟨a0, a1, a2, a3⟩ := hag c
    obtain ⟨f0, f1, f3⟩ := hf c
    rw [Cert.ReferenceActIdeal.Read.val_main_v11_eq, a0, a1, a2, a3] at r0
    rw [Cert.ReferenceActIdeal.Read.val_main_v12_eq, a0, a1, a2] at r1
    refine ⟨r0.trans (funext fun i => ?_), r1.trans (funext fun i => ?_), ha⟩
    · obtain ⟨p, q, rfl⟩ : ∃ (p : Fin 4096) (q : Fin 2816), i = ix2 p q := ⟨i 0, i 1, by funext a; fin_cases a <;> rfl⟩
      exact Cert.ActRef.ref_gate _ _ _ _ f0 f1 f3 p q
    · obtain ⟨p, q, rfl⟩ : ∃ (p : Fin 4096) (q : Fin 2816), i = ix2 p q := ⟨i 0, i 1, by funext a; fin_cases a <;> rfl⟩
      exact Cert.ActRef.ref_up _ _ _ p q

/-- The reference runs, leaves its arguments unchanged and has no semaphore. -/
theorem reference_runs : Cert.quiescent_ReferenceActIdeal := fun m g _ =>
  (θ_run Cert.ReferenceActIdeal.defs _ _).mono
    (fun r h => ⟨fun c => (h c).2.2, sem_eq_zero_of_no_sems (by decide) r.2⟩) (Cert.ReferenceActIdeal.Value.run m g)

end Cert.ActClaim

end
-- ==== Proof.RmsSpec.lean ====
/-
  The gradient through a normalised layer's input, as a function of the arrays: `x` the rows, `g` the normalisation's gains,
  `dh` the gradient of the normalised rows, `dy` the gradient that reaches the rows directly.
-/
module

public import Idealize.ShloMosaic.Lib.Pointwise
public import proofs.«01_k».proof.Proof.Norm

@[expose] public section

noncomputable section

namespace Cert.Rms

open Idealize.ShloMosaic Cert.Norm

variable (x dy : (Shape.mk 2 ![4096, 1024]).Idx → EReal) (g : (Shape.mk 1 ![1024]).Idx → EReal)
  (dh : Fin 4096 → Fin 1024 → EReal)

/-- The rows' length. -/
abbrev len : EReal := Ideal.ofBits .f32 0x44800000#32

theorem len_eq : len = ((1024 : ℝ) : EReal) := by
  simp [len, Ideal.ofBits, Ideal.ieee, -EReal.coe_mul]; norm_num

/-- Row `i` of an array. -/
abbrev rowOf (i : Fin 4096) : Fin 1024 → EReal := fun k => x (ix2 i k)

/-- The gradient of the rows. -/
def dx (i : Fin 4096) (j : Fin 1024) : EReal :=
  dy (ix2 i j) + drow len (rowOf x i) (fun k => dh i k * g (ix1 k)) j

/-- Row `i`'s part of the gradient of the gains. -/
def gain (i : Fin 4096) (j : Fin 1024) : EReal := dh i j * (x (ix2 i j) * scale len (rowOf x i))

/-- The gradient of the gains: a column sum. -/
def dgain (j : Fin 1024) : EReal := ∑ i : Fin 4096, gain x dh i j

/-- The chain rule's form of the rows' gradient. -/
theorem dx_eq (i : Fin 4096) (j : Fin 1024) :
    let c := Ideal.div ((∑ k, x (ix2 i k) * (dh i k * g (ix1 k)))
      * (Ideal.ofBits .f32 0xBF000000#32 * Ideal.div (scale len (rowOf x i)) (meansq len (rowOf x i)))) len
    dy (ix2 i j) + dh i j * g (ix1 j) * scale len (rowOf x i) + x (ix2 i j) * c + c * x (ix2 i j) = dx x dy g dh i j := by
  dsimp only
  rw [dx, len_eq, ← drow_eq (by norm_num : (0 : ℝ) < 1024) (rowOf x i) (fun k => dh i k * g (ix1 k)) j, add_assoc, add_assoc]

/-- The rows normalised, and times the gains. -/
def normed (i : Fin 4096) (j : Fin 1024) : EReal := x (ix2 i j) * scale len (rowOf x i) * g (ix1 j)

end Cert.Rms

end
-- ==== Proof.UpNormSpec.lean ====
/-
  The gradient of the feed-forward layer's normalised rows, as a function of the arrays: `dg` and `du` the gradients of the
  gate's argument and of what it multiplies, `w` the up projection, whose columns are the gate's and then the others.
-/
module

public import proofs.«01_k».proof.Proof.RmsSpec

@[expose] public section

noncomputable section

namespace Cert.UpNorm

open Idealize.ShloMosaic

variable (dg du : (Shape.mk 2 ![4096, 2816]).Idx → EReal) (w : (Shape.mk 2 ![1024, 5632]).Idx → EReal)

/-- Half `q` of the columns of both gradients, times the projection. -/
def part (q : Fin 2) (i : Fin 4096) (k : Fin 1024) : EReal :=
  (∑ j : Fin 1408, dg (ix2 i ⟨1408 * q.val + j.val, by omega⟩) * w (ix2 k ⟨1408 * q.val + j.val, by omega⟩))
    + ∑ j : Fin 1408, du (ix2 i ⟨1408 * q.val + j.val, by omega⟩) * w (ix2 k ⟨2816 + 1408 * q.val + j.val, by omega⟩)

/-- The gradient of the normalised rows. -/
def dh (i : Fin 4096) (k : Fin 1024) : EReal := part dg du w 0 i k + part dg du w 1 i k

end Cert.UpNorm

end
-- ==== Proof.UpNormKernel.lean ====
/-
  What the kernel of the gradient through the feed-forward layer's input leaves in its two result arrays.
-/
module

public import Idealize.ShloMosaic.Lib.Pipeline.ValueKit.Geometry
public import proofs.«01_k».proof.Proof.Gen.KernelUpNormIdeal.Value
public import proofs.«01_k».proof.Proof.Pieces
public import proofs.«01_k».proof.Proof.Loads
public import proofs.«01_k».proof.Proof.RowSum
public import proofs.«01_k».proof.Proof.UpNormSpec

@[expose] public section

set_option maxRecDepth 16384

noncomputable section

namespace Cert.UpNormKernel

open Cert.KernelUpNormIdeal Cert.KernelUpNormIdeal.Gen Idealize.ShloMosaic Idealize.ShloMosaic.TcCoe Idealize.SL.Sem
open Idealize.ShloMosaic.Pipeline (Dat)
open Cert.UpNorm Cert.Rms Cert.Norm

variable (m : (ℓ : Loc nD τ sig) → Buf (Elt Ideal) ℓ)

/-! ## The arguments, and the blocks the grid points read of them -/

abbrev dg (c : Dev nD) : S4096x2816.Idx → EReal := m ((c : Thread nD τ).loc main_arg0)
abbrev du (c : Dev nD) : S4096x2816.Idx → EReal := m ((c : Thread nD τ).loc main_arg1)
abbrev w (c : Dev nD) : S1024x5632.Idx → EReal := m ((c : Thread nD τ).loc main_arg2)
abbrev x (c : Dev nD) : S4096x1024.Idx → EReal := m ((c : Thread nD τ).loc main_arg3)
abbrev g (c : Dev nD) : S1024.Idx → EReal := m ((c : Thread nD τ).loc main_arg4)
abbrev dy (c : Dev nD) : S4096x1024.Idx → EReal := m ((c : Thread nD τ).loc main_arg5)

theorem V_dg (c : Dev nD) (j : S4096x2816.Idx) : V m c main_v3 j = dg m c j := by
  unfold V hostOps0
  after_results_simp
  rfl

theorem V_du (c : Dev nD) (j : S4096x2816.Idx) : V m c main_v4 j = du m c j := by
  unfold V hostOps0
  after_results_simp
  rfl

theorem V_g (c : Dev nD) (j : Fin 1024) : V m c main_v5 (ix2 0 j) = g m c (ix1 j) := by
  unfold V hostOps0
  after_results_simp
  pointwise

theorem V_w (c : Dev nD) (q : Fin 4) (k : Fin 1024) (j : Fin 1408) : V m c main_v2 (ix3 q k j) = w m c (ix2 k ⟨1408 * q.val + j.val, by omega⟩) := by
  unfold V hostOps0
  after_results_simp
  pointwise
  exact congrArg (w m c) (congrArg (ix2 k) (Fin.ext (show q.val * 1408 + j.val = 1408 * q.val + j.val by omega)))

/-- Row `r` of point `t`'s block of 512 rows, and column `l` of its half of the columns. -/
def row (t : Fin cfg0.N) (r : Fin 512) : Fin 4096 := ⟨512 * (t.val / 2) + r.val, by have : t.val < 16 := t.isLt; omega⟩
def col (t : Fin cfg0.N) (l : Fin 1408) : Fin 2816 := ⟨1408 * (t.val % 2) + l.val, by omega⟩
def half (t : Fin cfg0.N) : Fin 2 := ⟨t.val % 2, by omega⟩

theorem emb2 (t : Fin cfg0.N) (k : Fin 1024) (j : Fin 1408) : (win0_2.rect t).emb (ix3 0 k j) = ix3 ⟨t.val % 2, by omega⟩ k j :=
  emb_at (fun t => ![t.val % 2, 0, 0])

theorem emb3 (t : Fin cfg0.N) (k : Fin 1024) (j : Fin 1408) : (win0_3.rect t).emb (ix3 0 k j) = ix3 ⟨2 + t.val % 2, by omega⟩ k j :=
  emb_at (fun t => ![2 + t.val % 2, 0, 0])

theorem emb7 (t : Fin cfg0.N) (r : Fin 512) (k : Fin 1024) : (win0_7.rect t).emb (ix2 r k) = ix2 (row t r) k :=
  emb_at (fun t => ![t.val / 2, 0]) (by intro a; fin_cases a <;> simp [row] <;> omega)

theorem emb8 (t : Fin cfg0.N) (k : Fin 1024) : (win0_8.rect t).emb (ix2 0 k) = ix2 0 k :=
  emb_at (fun t => ![0, 0])

theorem blk0 (c : Dev nD) (t : Fin cfg0.N) (r : Fin 512) (k : Fin 1408) :
    iblk m c 0 t (ix2 r k) = dg m c (ix2 (row t r) (col t k)) :=
  (congrArg (V m c main_v3) (emb_at (fun t => ![t.val / 2, t.val % 2]) (by intro a; fin_cases a <;> simp [row, col] <;> omega))).trans (V_dg m c _)

theorem blk1 (c : Dev nD) (t : Fin cfg0.N) (r : Fin 512) (k : Fin 1408) :
    iblk m c 1 t (ix2 r k) = du m c (ix2 (row t r) (col t k)) :=
  (congrArg (V m c main_v4) (emb_at (fun t => ![t.val / 2, t.val % 2]) (by intro a; fin_cases a <;> simp [row, col] <;> omega))).trans (V_du m c _)

theorem blk2 (c : Dev nD) (t : Fin cfg0.N) (k : Fin 1024) (j : Fin 1408) :
    iblk m c 2 t (ix3 0 k j) = w m c (ix2 k ⟨1408 * (t.val % 2) + j.val, by omega⟩) :=
  (congrArg (V m c main_v2) (emb2 t k j)).trans (V_w m c _ k j)

theorem blk3 (c : Dev nD) (t : Fin cfg0.N) (k : Fin 1024) (j : Fin 1408) :
    iblk m c 3 t (ix3 0 k j) = w m c (ix2 k ⟨1408 * (2 + t.val % 2) + j.val, by omega⟩) :=
  (congrArg (V m c main_v2) (emb3 t k j)).trans (V_w m c _ k j)

theorem blk4 (c : Dev nD) (t : Fin cfg0.N) (r : Fin 512) (k : Fin 1024) :
    iblk m c 4 t (ix2 r k) = x m c (ix2 (row t r) k) :=
  (congrArg (V m c main_arg3) (emb_at (fun t => ![t.val / 2, 0]) (by intro a; fin_cases a <;> simp [row] <;> omega))).trans (congrFun (V_main_arg3 m c) _)

theorem blk5 (c : Dev nD) (t : Fin cfg0.N) (k : Fin 1024) :
    iblk m c 5 t (ix2 0 k) = g m c (ix1 k) :=
  (congrArg (V m c main_v5) (emb_at (fun t => ![0, 0]))).trans (V_g m c k)

theorem blk6 (c : Dev nD) (t : Fin cfg0.N) (r : Fin 512) (k : Fin 1024) :
    iblk m c 6 t (ix2 r k) = dy m c (ix2 (row t r) k) :=
  (congrArg (V m c main_arg5) (emb_at (fun t => ![t.val / 2, 0]) (by intro a; fin_cases a <;> simp [row] <;> omega))).trans (congrFun (V_main_arg5 m c) _)

/-- The gradient of the normalised rows, of the arguments. -/
abbrev h (c : Dev nD) : Fin 4096 → Fin 1024 → EReal := dh (dg m c) (du m c) (w m c)

/-- A point's product: its half of the columns. -/
theorem pay1 (c : Dev nD) (t : Fin cfg0.N) (r : Fin 512) (k : Fin 1024) :
    k0_pay1 (F := Ideal) (iblk m c 0 t) (iblk m c 2 t) (iblk m c 1 t) (iblk m c 3 t) (ix2 r k)
      = part (dg m c) (du m c) (w m c) (half t) (row t r) k := by
  pointwise [k0_pay1]
  simp only [blk0, blk1, blk2, blk3]
  unfold part
  refine congrArg _ (Finset.sum_congr rfl fun j _ => congrArg _ (congrArg _ (congrArg _ (Fin.ext ?_))))
  simp only [half]
  omega

/-! ## What a grid point leaves -/

/-- An even point leaves its product in the scratch. -/
theorem scratch_even (c : Dev nD) (t : Fin cfg0.N) (h1 : t.val % 2 = 0) (r : Fin 512) (k : Fin 1024) :
    ((outsAt0 m c t.val t.isLt).2.2 (ix2 r k) : EReal) = part (dg m c) (du m c) (w m c) 0 (row t r) k := by
  have e : half t = 0 := Fin.ext h1
  by_cases h0 : t.val % 16 = 0
  · simp only [outsAt0_A m c t h0 h1 (by omega)]
    unfold sout0_A_0 kernelRun0_A
    dsimp only
    sl_unfold_words
    simp only [View.readAt_eq_ld, Memref.IsWhole.read_unread, read_unread_whole, Cert.Loads.mat, Cert.Loads.cube]
    rw [View.read_writes_junk_eq_canon]
    refine (Cert.Pieces.canon_hit _ _ _ (ix2 r k) (ix2 r k)).trans ?_
    rw [← e, ← pay1]
    pointwise [k0_pay3]
  · simp only [outsAt0_C m c t h0 h1 (by omega)]
    unfold sout0_C_0 kernelRun0_C
    dsimp only
    sl_unfold_words
    simp only [View.readAt_eq_ld, Memref.IsWhole.read_unread, read_unread_whole, Cert.Loads.mat, Cert.Loads.cube]
    rw [View.read_writes_junk_eq_canon]
    refine (Cert.Pieces.canon_hit _ _ _ (ix2 r k) (ix2 r k)).trans ?_
    rw [← e, ← pay1]
    pointwise [k0_pay3]

/-- At an odd point the scratch and the point's product make the whole gradient. -/
theorem odd_sum (c : Dev nD) (t : Fin cfg0.N) (h1 : t.val % 2 = 1) (r : Fin 512) (k : Fin 1024) :
    ((outsAt0 m c (t.val - 1) (Nat.lt_of_le_of_lt (Nat.sub_le _ _) t.isLt)).2.2 (ix2 r k) : EReal)
      + k0_pay1 (F := Ideal) (iblk m c 0 t) (iblk m c 2 t) (iblk m c 1 t) (iblk m c 3 t) (ix2 r k) = h m c (row t r) k := by
  rw [pay1, scratch_even m c ⟨t.val - 1, Nat.lt_of_le_of_lt (Nat.sub_le _ _) t.isLt⟩ (by simp only; omega) r k]
  have e : half t = 1 := Fin.ext h1
  have er : row ⟨t.val - 1, Nat.lt_of_le_of_lt (Nat.sub_le _ _) t.isLt⟩ r = row t r :=
    Fin.ext (show 512 * ((t.val - 1) / 2) + r.val = 512 * (t.val / 2) + r.val by omega)
  rw [e, er]
  rfl

theorem flushed7 (c : Dev nD) (t : Fin cfg0.N) (h1 : t.val % 2 = 1) (r : Fin 512) (l : Fin 1024) :
    ((dats m 0 c).flushed 7 t (ix2 r l) : EReal) = dx (x m c) (dy m c) (g m c) (h m c) (row t r) l := by
  rw [Cert.KernelUpNormIdeal.Value.flushed7_B m c t (by omega) (by omega) h1]
  unfold out0_B_7 kernelRun0_B
  dsimp only
  sl_unfold_words
  simp only [View.readAt_eq_ld, Memref.IsWhole.read_unread, read_unread_whole, Cert.Loads.mat, Cert.Loads.cube]
  rw [View.read_writes_junk_eq_canon]
  refine (Cert.Pieces.canon_hit _ _ _ (ix2 r l) (ix2 r l)).trans ?_
  pointwise [k0_pay7, k0_pay6, k0_pay5, k0_pay4]
  simp only [blk4, blk5, blk6, odd_sum m c t h1]
  rfl

/-- At the first two points the gains' column sums start from the zero that was just stored. -/
theorem outs8_A (c : Dev nD) (t : Fin cfg0.N) (h0 : t.val % 16 = 0) (j : Fin 1024) :
    ((outsAt0 m c t.val t.isLt).2.1 (ix2 0 j) : EReal) = 0 := by
  simp only [outsAt0_A m c t h0 (by omega) (by omega)]
  unfold out0_A_8 kernelRun0_A
  dsimp only
  sl_unfold_words
  rw [View.read_writes_junk_eq_canon]
  refine (Cert.Pieces.canon_hit _ _ _ (ix2 0 j) (ix2 0 j)).trans ?_
  pointwise [k0_pay2]

/-- The other even points leave them as they are. -/
theorem outs8_C (c : Dev nD) (t : Fin cfg0.N) (h0 : ¬t.val % 16 = 0) (h1 : t.val % 2 = 0) (j : Fin 1024) :
    ((outsAt0 m c t.val t.isLt).2.1 (ix2 0 j) : EReal)
      = (outsAt0 m c (t.val - 1) (Nat.lt_of_le_of_lt (Nat.sub_le _ _) t.isLt)).2.1 (ix2 0 j) := by
  simp only [outsAt0_C m c t h0 h1 (by omega)]
  rfl

/-- At an odd point they grow by the point's rows. -/
theorem outs8_B (c : Dev nD) (t : Fin cfg0.N) (h1 : t.val % 2 = 1) (j : Fin 1024) :
    ((outsAt0 m c t.val t.isLt).2.1 (ix2 0 j) : EReal)
      = (outsAt0 m c (t.val - 1) (Nat.lt_of_le_of_lt (Nat.sub_le _ _) t.isLt)).2.1 (ix2 0 j)
        + ∑ r : Fin 512, gain (x m c) (h m c) (row t r) j := by
  simp only [outsAt0_B m c t (by omega) (by omega) h1]
  unfold out0_B_8 kernelRun0_B
  dsimp only
  sl_unfold_words
  simp only [View.readAt_eq_ld, Memref.IsWhole.read_unread, read_unread_whole, Cert.Loads.mat, Cert.Loads.cube]
  rw [View.read_writes_junk_eq_canon]
  refine (Cert.Pieces.canon_hit _ _ _ (ix2 0 j) (ix2 0 j)).trans ?_
  pointwise [k0_pay8, k0_pay6, k0_pay5, k0_pay4]
  simp only [blk4, odd_sum m c t h1]
  rfl

/-- After point `n` they are the sums over the row blocks finished so far. -/
theorem outs8 (c : Dev nD) (j : Fin 1024) : ∀ (n : ℕ) (hn : n < cfg0.N),
    ((outsAt0 m c n hn).2.1 (ix2 0 j) : EReal)
      = Cert.RowSum.below (fun i => gain (x m c) (h m c) i j) (512 * ((n + 1) / 2))
  | 0, hn => by
    rw [outs8_A m c ⟨0, hn⟩ rfl j]
    exact (Cert.RowSum.below_zero _).symm
  | n + 1, hn => by
    have hN : n + 1 < 16 := hn
    by_cases h1 : (n + 1) % 2 = 0
    · rw [outs8_C m c ⟨n + 1, hn⟩ (by simp only; omega) h1 j]
      simp only [Nat.add_sub_cancel]
      rw [outs8 c j n]
      exact congrArg _ (by omega)
    · rw [outs8_B m c ⟨n + 1, hn⟩ (by simp only; omega) j]
      simp only [Nat.add_sub_cancel]
      rw [outs8 c j n]
      have e1 : 512 * ((n + 1 + 1) / 2) = 512 * ((n + 1) / 2) + 512 := by omega
      rw [e1, Cert.RowSum.below_add _ _ _ (by omega)]
      rfl

/-! ## The result arrays -/

theorem final7 (c : Dev nD) : (dats m 0 c).arrAt 7 cfg0.N
    = fun i : S4096x1024.Idx => dx (x m c) (dy m c) (g m c) (h m c) (i 0) (i 1) := by
  apply Dat.arrAt_eq_of_cover
  · intro t hf
    funext y
    obtain ⟨r, l, rfl⟩ : ∃ (r : Fin 512) (l : Fin 1024), y = ix2 r l := ⟨y 0, y 1, eq_ix2 y⟩
    refine (flushed7 m c t ((flush0_7 t).mp hf) r l).trans ?_
    show _ = dx (x m c) (dy m c) (g m c) (h m c) ((win0_7.rect t).emb (ix2 r l) 0) ((win0_7.rect t).emb (ix2 r l) 1)
    rw [emb7]
    rfl
  · exact (by decide +kernel : (cfg0.win 7).Covers).cover _ (Memref.isWhole_whole _)

theorem final8 (c : Dev nD) : (dats m 0 c).arrAt 8 cfg0.N = fun i : S1x1024.Idx => dgain (x m c) (h m c) (i 1) := by
  apply Dat.arrAt_eq_of_cover
  · intro t hf
    have h15 : t.val % 16 = 15 := (flush0_8 t).mp hf
    have h16 : t.val < 16 := t.isLt
    funext y
    obtain ⟨l, rfl⟩ : ∃ l : Fin 1024, y = ix2 0 l :=
      ⟨y 1, by funext a; fin_cases a; exacts [Fin.ext (Nat.lt_one_iff.mp (y 0).isLt), rfl]⟩
    rw [Cert.KernelUpNormIdeal.Value.flushed8 m c t]
    refine (outs8 m c l t.val t.isLt).trans ?_
    have e : 512 * ((t.val + 1) / 2) = 4096 := by omega
    rw [e, Cert.RowSum.below_all]
    show _ = dgain (x m c) (h m c) ((win0_8.rect t).emb (ix2 0 l) 1)
    rw [emb8]
    rfl
  · exact (by decide +kernel : (cfg0.win 8).Covers).cover _ (Memref.isWhole_whole _)

end Cert.UpNormKernel

end
-- ==== Proof.UpNormRef.lean ====
/-
  The results of the reference of the gradient through the feed-forward layer's input, read one element at a time.
-/
module

public import proofs.«01_k».proof.Proof.Gen.ReferenceUpNormIdeal.Read
public import proofs.«01_k».proof.Proof.UpNormSpec

@[expose] public section

noncomputable section

namespace Cert.UpNormRef

open Cert.ReferenceUpNormIdeal Cert.ReferenceUpNormIdeal.Gen Cert.ReferenceUpNormIdeal.Read Idealize.ShloMosaic
open Cert.UpNorm Cert.Rms Cert.Norm

variable (dg du : S4096x2816.Idx → EReal) (w : S1024x5632.Idx → EReal) (x dy : S4096x1024.Idx → EReal) (g : S1024.Idx → EReal)

theorem ref_meansq (i : Fin 4096) (o : Fin 1) : val_main_v6 (F := Ideal) x (ix2 i o) = meansq len (rowOf x i) := by
  pointwise [val_main_v6, val_main_v5, val_main_v4, val_main_v3, val_main_v2, val_main_v1, val_main_v0, val_main_cst,
    val_main_cst_0, val_main_cst_1]
  rfl

theorem ref_scale (i : Fin 4096) (o : Fin 1) : val_main_v7 (F := Ideal) x (ix2 i o) = scale len (rowOf x i) := by
  pointwise [val_main_v7]
  rw [ref_meansq]
  rfl

/-- The sum over the joined columns, in the kernel's order. -/
theorem ref_dh (i : Fin 4096) (k : Fin 1024) : val_main_v20 (F := Ideal) dg du w (ix2 i k) = dh dg du w i k := by
  pointwise [val_main_v20, val_main_v19]
  rw [Fin.sum_univ_two_halves 1408 1408 rfl fun x : Fin 2816 => dg (ix2 i x) * w (ix2 k ⟨x.val, by omega⟩),
    Fin.sum_univ_two_halves 1408 1408 rfl fun x : Fin 2816 => du (ix2 i x) * w (ix2 k ⟨2816 + x.val, by omega⟩),
    add_add_add_comm]
  simp only [dh, part, Fin.val_zero, Fin.val_one, mul_zero, mul_one, zero_add, add_zero, add_assoc]

theorem ref_dx (i : Fin 4096) (j : Fin 1024) :
    val_main_v41 (F := Ideal) dg du w x g dy (ix2 i j) = dx x dy g (dh dg du w) i j := by
  pointwise [val_main_v41, val_main_v40, val_main_v39, val_main_v38, val_main_v37, val_main_v36, val_main_v35, val_main_v34,
    val_main_v33, val_main_v32, val_main_v31, val_main_v30, val_main_v29, val_main_v28, val_main_v27, val_main_v25,
    val_main_v24, val_main_v13, val_main_v10, val_main_v9, val_main_v8, val_main_cst_2, val_main_cst_5, val_main_cst_6,
    val_main_cst_7]
  simp only [ref_dh, ref_scale, ref_meansq, Finset.univ_unique, Finset.sum_singleton]
  exact dx_eq x dy g (dh dg du w) i j

theorem ref_dgain (j : Fin 1024) : val_main_v42 (F := Ideal) dg du w x (ix2 0 j) = dgain x (dh dg du w) j := by
  pointwise [val_main_v42, val_main_v26, val_main_v23, val_main_v22, val_main_v21, val_main_v12, val_main_v11, val_main_cst_3,
    val_main_cst_4]
  simp only [ref_dh, ref_scale, Finset.univ_unique, Finset.sum_singleton]
  exact Finset.sum_congr rfl fun i _ => mul_comm _ _

end Cert.UpNormRef

end
-- ==== Proof.UpNormClaim.lean ====
/-
  The kernel of the gradient through the feed-forward layer's input and its reference leave the same two results.
-/
module

public import proofs.«01_k».proof.Defs
public import proofs.«01_k».proof.Proof.UpNormKernel
public import proofs.«01_k».proof.Proof.UpNormRef
public import proofs.«01_k».proof.Proof.Finite
public import Idealize.ShloMosaic.Lib.Quiescent

@[expose] public section

set_option maxRecDepth 16384

noncomputable section

namespace Cert.UpNormClaim

open Idealize.ShloMosaic Idealize.ShloMosaic.TcCoe Idealize.SL.Sem
open Cert.UpNorm Cert.UpNormKernel Cert.Rms

theorem algebraic :
    Cert.algebraic_KernelUpNormIdeal_ReferenceUpNormIdeal := by
  intro m g0 m' g' _ hag
  refine ⟨fun c => fun i => dx (x m c) (dy m c) (g m c) (h m c) (i 0) (i 1), fun c => fun i => dgain (x m c) (h m c) (i 1), ?_, ?_⟩
  · refine (θ_run Cert.KernelUpNormIdeal.defs _ _).mono (fun r h c => ?_) (Cert.KernelUpNormIdeal.Value.run_blocks m g0)
    obtain ⟨r0, r1, ha⟩ := h c
    exact ⟨r0.trans (final7 m c), r1.trans (final8 m c), ha⟩
  · refine (θ_run Cert.ReferenceUpNormIdeal.defs _ _).mono (fun r h c => ?_) (Cert.ReferenceUpNormIdeal.Value.run m' g')
    obtain ⟨r0, r1, ha⟩ := h c
    obtain ⟨a0, a1, a2, a3, a4, a5⟩ := hag c
    rw [Cert.ReferenceUpNormIdeal.Read.val_main_v41_eq, a0, a1, a2, a3, a4, a5] at r0
    rw [Cert.ReferenceUpNormIdeal.Read.val_main_v42_eq, a0, a1, a2, a3] at r1
    refine ⟨r0.trans (funext fun i => ?_), r1.trans (funext fun i => ?_), ha⟩
    · obtain ⟨p, q, rfl⟩ : ∃ (p : Fin 4096) (q : Fin 1024), i = ix2 p q := ⟨i 0, i 1, by funext a; fin_cases a <;> rfl⟩
      exact Cert.UpNormRef.ref_dx _ _ _ _ _ _ p q
    · obtain ⟨q, rfl⟩ : ∃ q : Fin 1024, i = ix2 0 q :=
        ⟨i 1, by funext a; fin_cases a; exacts [Fin.ext (Nat.lt_one_iff.mp (i 0).isLt), rfl]⟩
      exact Cert.UpNormRef.ref_dgain _ _ _ _ q

/-- The reference runs, leaves its arguments unchanged and has no semaphore. -/
theorem reference_runs : Cert.quiescent_ReferenceUpNormIdeal := fun m g _ =>
  (θ_run Cert.ReferenceUpNormIdeal.defs _ _).mono
    (fun r h => ⟨fun c => (h c).2.2, sem_eq_zero_of_no_sems (by decide) r.2⟩) (Cert.ReferenceUpNormIdeal.Value.run m g)

end Cert.UpNormClaim

end
-- ==== Proof.InNormSpec.lean ====
/-
  The gradient of the token mixer's normalised rows, as a function of the arrays: `dl`, `dp` and `dg` the gradients of the
  latents, of the pooled rows' input and of the gates' arguments, `w` the in projection, whose columns are the pooled rows'
  (512), then the latents' (704), then the gates'. The columns of `dl` past 704 are padding that no column of `w` meets.
-/
module

public import proofs.«01_k».proof.Proof.RmsSpec

@[expose] public section

noncomputable section

namespace Cert.InNorm

open Idealize.ShloMosaic

variable (dl : (Shape.mk 2 ![4096, 768]).Idx → EReal) (dp : (Shape.mk 2 ![4096, 512]).Idx → EReal)
  (dg : (Shape.mk 2 ![4096, 2048]).Idx → EReal) (w : (Shape.mk 2 ![1024, 3264]).Idx → EReal)

/-- The gradient of the normalised rows. -/
def dh (i : Fin 4096) (k : Fin 1024) : EReal :=
  (∑ j : Fin 704, dl (ix2 i ⟨j.val, by omega⟩) * w (ix2 k ⟨512 + j.val, by omega⟩))
    + (∑ j : Fin 512, dp (ix2 i j) * w (ix2 k ⟨j.val, by omega⟩))
    + ∑ j : Fin 2048, dg (ix2 i j) * w (ix2 k ⟨1216 + j.val, by omega⟩)

end Cert.InNorm

end
-- ==== Proof.InNormKernel.lean ====
/-
  What the kernel of the gradient through the token mixer's input leaves in its two result arrays.
-/
module

public import Idealize.ShloMosaic.Lib.Pipeline.ValueKit.Geometry
public import proofs.«01_k».proof.Proof.Gen.KernelInNormIdeal.Value
public import proofs.«01_k».proof.Proof.Pieces
public import proofs.«01_k».proof.Proof.Loads
public import proofs.«01_k».proof.Proof.RowSum
public import proofs.«01_k».proof.Proof.InNormSpec

@[expose] public section

set_option maxRecDepth 16384

noncomputable section

namespace Cert.InNormKernel

open Cert.KernelInNormIdeal Cert.KernelInNormIdeal.Gen Idealize.ShloMosaic Idealize.ShloMosaic.TcCoe Idealize.SL.Sem
open Idealize.ShloMosaic.Pipeline (Dat)
open Cert.InNorm Cert.Rms Cert.Norm

variable (m : (ℓ : Loc nD τ sig) → Buf (Elt Ideal) ℓ)

/-! ## The arguments, and the blocks the grid points read of them -/

abbrev dl (c : Dev nD) : S4096x768.Idx → EReal := m ((c : Thread nD τ).loc main_arg0)
abbrev dp (c : Dev nD) : S4096x512.Idx → EReal := m ((c : Thread nD τ).loc main_arg1)
abbrev dg (c : Dev nD) : S4096x2048.Idx → EReal := m ((c : Thread nD τ).loc main_arg2)
abbrev w (c : Dev nD) : S1024x3264.Idx → EReal := m ((c : Thread nD τ).loc main_arg3)
abbrev x (c : Dev nD) : S4096x1024.Idx → EReal := m ((c : Thread nD τ).loc main_arg4)
abbrev g (c : Dev nD) : S1024.Idx → EReal := m ((c : Thread nD τ).loc main_arg5)
abbrev dy (c : Dev nD) : S4096x1024.Idx → EReal := m ((c : Thread nD τ).loc main_arg6)

theorem V_dl (c : Dev nD) (j : S4096x768.Idx) : V m c main_v6 j = dl m c j := by
  unfold V hostOps0
  after_results_simp
  rfl

theorem V_dp (c : Dev nD) (j : S4096x512.Idx) : V m c main_v7 j = dp m c j := by
  unfold V hostOps0
  after_results_simp
  rfl

theorem V_dg (c : Dev nD) (j : S4096x2048.Idx) : V m c main_v8 j = dg m c j := by
  unfold V hostOps0
  after_results_simp
  rfl

theorem V_g (c : Dev nD) (j : Fin 1024) : V m c main_v9 (ix2 0 j) = g m c (ix1 j) := by
  unfold V hostOps0
  after_results_simp
  pointwise

theorem V_wp (c : Dev nD) (k : Fin 1024) (j : Fin 512) : V m c main_v1 (ix2 k j) = w m c (ix2 k ⟨j.val, by omega⟩) := by
  unfold V hostOps0
  after_results_simp
  pointwise

theorem V_wg (c : Dev nD) (k : Fin 1024) (j : Fin 2048) : V m c main_v5 (ix2 k j) = w m c (ix2 k ⟨1216 + j.val, by omega⟩) := by
  unfold V hostOps0
  after_results_simp
  pointwise

theorem V_wl (c : Dev nD) (k : Fin 1024) (j : Fin 768) : V m c main_v4 (ix2 k j) = if h : j.val < 704 then w m c (ix2 k ⟨512 + j.val, by omega⟩) else 0 := by
  unfold V hostOps0
  after_results_simp
  pointwise

/-- Row `r` of point `t`'s block of 512 rows. -/
def row (t : Fin cfg0.N) (r : Fin 512) : Fin 4096 := ⟨512 * t.val + r.val, by have : t.val < 8 := t.isLt; omega⟩

theorem emb9 (t : Fin cfg0.N) (r : Fin 512) (k : Fin 1024) : (win0_9.rect t).emb (ix2 r k) = ix2 (row t r) k :=
  emb_at (fun t => ![t.val, 0]) (by intro a; fin_cases a <;> simp [row] <;> omega)

theorem emb10 (t : Fin cfg0.N) (k : Fin 1024) : (win0_10.rect t).emb (ix2 0 k) = ix2 0 k :=
  emb_at (fun t => ![0, 0])

theorem blk0 (c : Dev nD) (t : Fin cfg0.N) (r : Fin 512) (k : Fin 768) :
    iblk m c 0 t (ix2 r k) = dl m c (ix2 (row t r) k) :=
  (congrArg (V m c main_v6) (emb_at (fun t => ![t.val, 0]) (by intro a; fin_cases a <;> simp [row] <;> omega))).trans (V_dl m c _)

theorem blk1 (c : Dev nD) (t : Fin cfg0.N) (r : Fin 512) (k : Fin 512) :
    iblk m c 1 t (ix2 r k) = dp m c (ix2 (row t r) k) :=
  (congrArg (V m c main_v7) (emb_at (fun t => ![t.val, 0]) (by intro a; fin_cases a <;> simp [row] <;> omega))).trans (V_dp m c _)

theorem blk2 (c : Dev nD) (t : Fin cfg0.N) (r : Fin 512) (k : Fin 2048) :
    iblk m c 2 t (ix2 r k) = dg m c (ix2 (row t r) k) :=
  (congrArg (V m c main_v8) (emb_at (fun t => ![t.val, 0]) (by intro a; fin_cases a <;> simp [row] <;> omega))).trans (V_dg m c _)

theorem blk3 (c : Dev nD) (t : Fin cfg0.N) (k : Fin 1024) (j : Fin 768) :
    iblk m c 3 t (ix2 k j) = if h : j.val < 704 then w m c (ix2 k ⟨512 + j.val, by omega⟩) else 0 :=
  (congrArg (V m c main_v4) (emb_at (fun t => ![0, 0]))).trans (V_wl m c k j)

theorem blk4 (c : Dev nD) (t : Fin cfg0.N) (k : Fin 1024) (j : Fin 512) :
    iblk m c 4 t (ix2 k j) = w m c (ix2 k ⟨j.val, by omega⟩) :=
  (congrArg (V m c main_v1) (emb_at (fun t => ![0, 0]))).trans (V_wp m c k j)

theorem blk5 (c : Dev nD) (t : Fin cfg0.N) (k : Fin 1024) (j : Fin 2048) :
    iblk m c 5 t (ix2 k j) = w m c (ix2 k ⟨1216 + j.val, by omega⟩) :=
  (congrArg (V m c main_v5) (emb_at (fun t => ![0, 0]))).trans (V_wg m c k j)

theorem blk6 (c : Dev nD) (t : Fin cfg0.N) (r : Fin 512) (k : Fin 1024) :
    iblk m c 6 t (ix2 r k) = x m c (ix2 (row t r) k) :=
  (congrArg (V m c main_arg4) (emb_at (fun t => ![t.val, 0]) (by intro a; fin_cases a <;> simp [row] <;> omega))).trans (congrFun (V_main_arg4 m c) _)

theorem blk7 (c : Dev nD) (t : Fin cfg0.N) (k : Fin 1024) :
    iblk m c 7 t (ix2 0 k) = g m c (ix1 k) :=
  (congrArg (V m c main_v9) (emb_at (fun t => ![0, 0]))).trans (V_g m c k)

theorem blk8 (c : Dev nD) (t : Fin cfg0.N) (r : Fin 512) (k : Fin 1024) :
    iblk m c 8 t (ix2 r k) = dy m c (ix2 (row t r) k) :=
  (congrArg (V m c main_arg6) (emb_at (fun t => ![t.val, 0]) (by intro a; fin_cases a <;> simp [row] <;> omega))).trans (congrFun (V_main_arg6 m c) _)

/-- The gradient of the normalised rows, of the arguments. -/
abbrev h (c : Dev nD) : Fin 4096 → Fin 1024 → EReal := dh (dl m c) (dp m c) (dg m c) (w m c)

/-- A point's three products; the padding of the latents' columns meets zeros. -/
theorem pay4 (c : Dev nD) (t : Fin cfg0.N) (r : Fin 512) (k : Fin 1024) :
    k0_pay4 (F := Ideal) (iblk m c 0 t) (iblk m c 3 t) (iblk m c 1 t) (iblk m c 4 t) (iblk m c 2 t) (iblk m c 5 t) (ix2 r k)
      = h m c (row t r) k := by
  pointwise [k0_pay4]
  simp only [blk0, blk1, blk2, blk3, blk4, blk5]
  refine congrArg (· + _ + _) ((Fin.sum_univ_two_halves 704 64 rfl _).trans ?_)
  rw [Finset.sum_eq_zero (f := fun i : Fin 64 => _) fun i _ => ?_, add_zero]
  · exact Finset.sum_congr rfl fun j _ => congrArg _ (dif_pos j.isLt)
  · rw [dif_neg (by simp), mul_zero]

/-! ## What a grid point leaves -/

theorem flushed9_A (c : Dev nD) (t : Fin cfg0.N) (h0 : t.val % 8 = 0) (r : Fin 512) (l : Fin 1024) :
    ((dats m 0 c).flushed 9 t (ix2 r l) : EReal) = dx (x m c) (dy m c) (g m c) (h m c) (row t r) l := by
  rw [Cert.KernelInNormIdeal.Value.flushed9_A m c t h0]
  unfold out0_A_9 kernelRun0_A
  dsimp only
  sl_unfold_words
  simp only [View.readAt_eq_ld, Memref.IsWhole.read_unread, View.readCov_eq_canon', Cert.Loads.mat]
  rw [View.read_writes_junk_eq_canon]
  refine (Cert.Pieces.canon_hit _ _ _ (ix2 r l) (ix2 r l)).trans ?_
  pointwise [k0_pay1, k0_pay5, k0_pay6, k0_pay7]
  simp only [blk6, blk7, blk8, pay4]
  rfl

theorem flushed9_B (c : Dev nD) (t : Fin cfg0.N) (h0 : ¬t.val % 8 = 0) (r : Fin 512) (l : Fin 1024) :
    ((dats m 0 c).flushed 9 t (ix2 r l) : EReal) = dx (x m c) (dy m c) (g m c) (h m c) (row t r) l := by
  rw [Cert.KernelInNormIdeal.Value.flushed9_B m c t h0]
  unfold out0_B_9 kernelRun0_B
  dsimp only
  sl_unfold_words
  simp only [View.readAt_eq_ld, Memref.IsWhole.read_unread, View.readCov_eq_canon', Cert.Loads.mat]
  rw [View.read_writes_junk_eq_canon]
  refine (Cert.Pieces.canon_hit _ _ _ (ix2 r l) (ix2 r l)).trans ?_
  pointwise [k0_pay1, k0_pay5, k0_pay6, k0_pay7]
  simp only [blk6, blk7, blk8, pay4]
  rfl

/-- The first point's column sums start from the zero that was just stored. -/
theorem outs10_A (c : Dev nD) (t : Fin cfg0.N) (h0 : t.val % 8 = 0) (j : Fin 1024) :
    ((outsAt0 m c t.val t.isLt).2 (ix2 0 j) : EReal) = ∑ r : Fin 512, gain (x m c) (h m c) (row t r) j := by
  simp only [outsAt0_A m c t h0]
  unfold out0_A_10 kernelRun0_A
  dsimp only
  sl_unfold_words
  simp only [View.readAt_eq_ld, Memref.IsWhole.read_unread, View.readCov_eq_canon', Cert.Loads.mat]
  rw [View.read_writes_junk_eq_canon]
  refine (Cert.Pieces.canon_hit _ _ _ (ix2 0 j) (ix2 0 j)).trans ?_
  generalize hacc : View.canon (Val := Elt Ideal) (s := S1x1024) (e := .f32) _ = acc
  have hz : (acc (ix2 0 j) : EReal) = 0 := by
    subst hacc
    refine (Cert.Pieces.canon_hit _ _ _ (ix2 0 j) (ix2 0 j)).trans ?_
    pointwise [k0_pay3]
  pointwise [k0_pay2, k0_pay8, k0_pay7, k0_pay6]
  simp only [blk6, pay4]
  rw [hz, zero_add]
  rfl

/-- A later point's grow by its rows. -/
theorem outs10_B (c : Dev nD) (t : Fin cfg0.N) (h0 : ¬t.val % 8 = 0) (j : Fin 1024) :
    ((outsAt0 m c t.val t.isLt).2 (ix2 0 j) : EReal)
      = (outsAt0 m c (t.val - 1) (Nat.lt_of_le_of_lt (Nat.sub_le _ _) t.isLt)).2 (ix2 0 j)
        + ∑ r : Fin 512, gain (x m c) (h m c) (row t r) j := by
  simp only [outsAt0_B m c t h0]
  unfold out0_B_10 kernelRun0_B
  dsimp only
  sl_unfold_words
  simp only [View.readAt_eq_ld, Memref.IsWhole.read_unread, View.readCov_eq_canon', Cert.Loads.mat]
  rw [View.read_writes_junk_eq_canon]
  refine (Cert.Pieces.canon_hit _ _ _ (ix2 0 j) (ix2 0 j)).trans ?_
  pointwise [k0_pay2, k0_pay8, k0_pay7, k0_pay6]
  simp only [blk6, pay4]
  rfl

/-- After point `n` they are the sums over the rows so far. -/
theorem outs10 (c : Dev nD) (j : Fin 1024) : ∀ (n : ℕ) (hn : n < cfg0.N),
    ((outsAt0 m c n hn).2 (ix2 0 j) : EReal)
      = Cert.RowSum.below (fun i => gain (x m c) (h m c) i j) (512 * (n + 1))
  | 0, hn => by
    rw [outs10_A m c ⟨0, hn⟩ rfl j, show 512 * (0 + 1) = 0 + 512 from rfl, Cert.RowSum.below_add _ _ _ (by omega),
      Cert.RowSum.below_zero, zero_add]
    rfl
  | n + 1, hn => by
    have hN : n + 1 < 8 := hn
    rw [outs10_B m c ⟨n + 1, hn⟩ (by simp only; omega) j, Nat.mul_succ, Cert.RowSum.below_add _ _ _ (by omega)]
    simp only [Nat.add_sub_cancel]
    rw [outs10 c j n]
    rfl

/-! ## The result arrays -/

theorem final9 (c : Dev nD) : (dats m 0 c).arrAt 9 cfg0.N
    = fun i : S4096x1024.Idx => dx (x m c) (dy m c) (g m c) (h m c) (i 0) (i 1) := by
  apply Dat.arrAt_eq_of_cover
  · intro t hf
    funext y
    obtain ⟨r, l, rfl⟩ : ∃ (r : Fin 512) (l : Fin 1024), y = ix2 r l := ⟨y 0, y 1, eq_ix2 y⟩
    refine (if h0 : t.val % 8 = 0 then flushed9_A m c t h0 r l else flushed9_B m c t h0 r l).trans ?_
    show _ = dx (x m c) (dy m c) (g m c) (h m c) ((win0_9.rect t).emb (ix2 r l) 0) ((win0_9.rect t).emb (ix2 r l) 1)
    rw [emb9]
    rfl
  · exact (by decide +kernel : (cfg0.win 9).Covers).cover _ (Memref.isWhole_whole _)

theorem final10 (c : Dev nD) : (dats m 0 c).arrAt 10 cfg0.N = fun i : S1x1024.Idx => dgain (x m c) (h m c) (i 1) := by
  apply Dat.arrAt_eq_of_cover
  · intro t hf
    have hl : t.val % 8 = 7 := (flush0_10 t).mp hf
    have hn : t.val < 8 := t.isLt
    funext y
    obtain ⟨l, rfl⟩ : ∃ l : Fin 1024, y = ix2 0 l :=
      ⟨y 1, by funext a; fin_cases a; exacts [Fin.ext (Nat.lt_one_iff.mp (y 0).isLt), rfl]⟩
    rw [Cert.KernelInNormIdeal.Value.flushed10 m c t]
    refine (outs10 m c l t.val t.isLt).trans ?_
    have e : 512 * (t.val + 1) = 4096 := by omega
    rw [e, Cert.RowSum.below_all]
    show _ = dgain (x m c) (h m c) ((win0_10.rect t).emb (ix2 0 l) 1)
    rw [emb10]
    rfl
  · exact (by decide +kernel : (cfg0.win 10).Covers).cover _ (Memref.isWhole_whole _)

end Cert.InNormKernel

end
-- ==== Proof.InNormRef.lean ====
/-
  The results of the reference of the gradient through the token mixer's input, read one element at a time.
-/
module

public import proofs.«01_k».proof.Proof.Gen.ReferenceInNormIdeal.Read
public import proofs.«01_k».proof.Proof.InNormSpec

@[expose] public section

noncomputable section

namespace Cert.InNormRef

open Cert.ReferenceInNormIdeal Cert.ReferenceInNormIdeal.Gen Cert.ReferenceInNormIdeal.Read Idealize.ShloMosaic
open Cert.InNorm Cert.Rms Cert.Norm

variable (dl : S4096x768.Idx → EReal) (dp : S4096x512.Idx → EReal) (dg : S4096x2048.Idx → EReal) (w : S1024x3264.Idx → EReal)
  (x dy : S4096x1024.Idx → EReal) (g : S1024.Idx → EReal)

theorem ref_meansq (i : Fin 4096) (o : Fin 1) : val_main_v6 (F := Ideal) x (ix2 i o) = meansq len (rowOf x i) := by
  pointwise [val_main_v6, val_main_v5, val_main_v4, val_main_v3, val_main_v2, val_main_v1, val_main_v0, val_main_cst,
    val_main_cst_0, val_main_cst_1]
  rfl

theorem ref_scale (i : Fin 4096) (o : Fin 1) : val_main_v7 (F := Ideal) x (ix2 i o) = scale len (rowOf x i) := by
  pointwise [val_main_v7]
  rw [ref_meansq]
  rfl

/-- The sum over the joined columns, in the kernel's order. -/
theorem ref_dh (i : Fin 4096) (k : Fin 1024) : val_main_v22 (F := Ideal) dl dp dg w (ix2 i k) = dh dl dp dg w i k := by
  pointwise [val_main_v22, val_main_v21, val_main_v20]
  refine (Fin.sum_univ_two_halves 512 2752 rfl _).trans ?_
  rw [Fin.sum_univ_two_halves 704 2048 rfl fun x : Fin 2752 => _]
  refine (congrArg₂ (· + ·) (Finset.sum_congr rfl fun j _ => ?_) (congrArg₂ (· + ·) (Finset.sum_congr rfl fun j _ => ?_)
    (Finset.sum_congr rfl fun j _ => ?_))).trans (add_left_comm _ _ _ |>.trans (add_assoc _ _ _).symm)
  · exact congrArg (· * _) (dif_pos j.isLt)
  · rw [dif_neg (by simp), dif_pos (by simp)]
    simp only [Nat.add_sub_cancel_left]
  · rw [dif_neg (by simp), dif_neg (by simp)]
    exact congrArg₂ (fun a b => dg (ix2 i a) * w (ix2 k b))
      (Fin.ext (show 512 + (704 + j.val) - 512 - 704 = j.val by omega)) (Fin.ext (show 512 + (704 + j.val) = 1216 + j.val by omega))

theorem ref_dx (i : Fin 4096) (j : Fin 1024) :
    val_main_v43 (F := Ideal) dl dp dg w x g dy (ix2 i j) = dx x dy g (dh dl dp dg w) i j := by
  pointwise [val_main_v43, val_main_v42, val_main_v41, val_main_v40, val_main_v39, val_main_v38, val_main_v37, val_main_v36,
    val_main_v35, val_main_v34, val_main_v33, val_main_v32, val_main_v31, val_main_v30, val_main_v29, val_main_v27,
    val_main_v26, val_main_v13, val_main_v10, val_main_v9, val_main_v8, val_main_cst_2, val_main_cst_5, val_main_cst_6,
    val_main_cst_7]
  simp only [ref_dh, ref_scale, ref_meansq, Finset.univ_unique, Finset.sum_singleton]
  exact dx_eq x dy g (dh dl dp dg w) i j

theorem ref_dgain (j : Fin 1024) : val_main_v44 (F := Ideal) dl dp dg w x (ix2 0 j) = dgain x (dh dl dp dg w) j := by
  pointwise [val_main_v44, val_main_v28, val_main_v25, val_main_v24, val_main_v23, val_main_v12, val_main_v11, val_main_cst_3,
    val_main_cst_4]
  simp only [ref_dh, ref_scale, Finset.univ_unique, Finset.sum_singleton]
  exact Finset.sum_congr rfl fun i _ => mul_comm _ _

end Cert.InNormRef

end
-- ==== Proof.InNormClaim.lean ====
/-
  The kernel of the gradient through the token mixer's input and its reference leave the same two results.
-/
module

public import proofs.«01_k».proof.Defs
public import proofs.«01_k».proof.Proof.InNormKernel
public import proofs.«01_k».proof.Proof.InNormRef
public import proofs.«01_k».proof.Proof.Finite
public import Idealize.ShloMosaic.Lib.Quiescent

@[expose] public section

set_option maxRecDepth 16384

noncomputable section

namespace Cert.InNormClaim

open Idealize.ShloMosaic Idealize.ShloMosaic.TcCoe Idealize.SL.Sem
open Cert.InNorm Cert.InNormKernel Cert.Rms

theorem algebraic :
    Cert.algebraic_KernelInNormIdeal_ReferenceInNormIdeal := by
  intro m g0 m' g' _ hag
  refine ⟨fun c => fun i => dx (x m c) (dy m c) (g m c) (h m c) (i 0) (i 1), fun c => fun i => dgain (x m c) (h m c) (i 1), ?_, ?_⟩
  · refine (θ_run Cert.KernelInNormIdeal.defs _ _).mono (fun r h c => ?_) (Cert.KernelInNormIdeal.Value.run_blocks m g0)
    obtain ⟨r0, r1, ha⟩ := h c
    exact ⟨r0.trans (final9 m c), r1.trans (final10 m c), ha⟩
  · refine (θ_run Cert.ReferenceInNormIdeal.defs _ _).mono (fun r h c => ?_) (Cert.ReferenceInNormIdeal.Value.run m' g')
    obtain ⟨r0, r1, ha⟩ := h c
    obtain ⟨a0, a1, a2, a3, a4, a5, a6⟩ := hag c
    rw [Cert.ReferenceInNormIdeal.Read.val_main_v43_eq, a0, a1, a2, a3, a4, a5, a6] at r0
    rw [Cert.ReferenceInNormIdeal.Read.val_main_v44_eq, a0, a1, a2, a3, a4] at r1
    refine ⟨r0.trans (funext fun i => ?_), r1.trans (funext fun i => ?_), ha⟩
    · obtain ⟨p, q, rfl⟩ : ∃ (p : Fin 4096) (q : Fin 1024), i = ix2 p q := ⟨i 0, i 1, by funext a; fin_cases a <;> rfl⟩
      exact Cert.InNormRef.ref_dx _ _ _ _ _ _ _ p q
    · obtain ⟨q, rfl⟩ : ∃ q : Fin 1024, i = ix2 0 q :=
        ⟨i 1, by funext a; fin_cases a; exacts [Fin.ext (Nat.lt_one_iff.mp (i 0).isLt), rfl]⟩
      exact Cert.InNormRef.ref_dgain _ _ _ _ _ q

/-- The reference runs, leaves its arguments unchanged and has no semaphore. -/
theorem reference_runs : Cert.quiescent_ReferenceInNormIdeal := fun m g _ =>
  (θ_run Cert.ReferenceInNormIdeal.defs _ _).mono
    (fun r h => ⟨fun c => (h c).2.2, sem_eq_zero_of_no_sems (by decide) r.2⟩) (Cert.ReferenceInNormIdeal.Value.run m g)

end Cert.InNormClaim

end
-- ==== Proof.LossSpec.lean ====
/-
  The loss and its gradient through the last normalisation, as functions of the arrays: `x` the rows and `t` their targets,
  kept per sequence, `g` the normalisation's gains.
-/
module

public import Idealize.ShloMosaic.Lib.Pointwise
public import proofs.«01_k».proof.Proof.RmsSpec

@[expose] public section

noncomputable section

namespace Cert.Loss

open Idealize.ShloMosaic Cert.Norm

/-- Row `i` of an array of two sequences of 2048 rows. -/
def rowOf (a : (Shape.mk 3 ![2, 2048, 1024]).Idx → EReal) (i : Fin 4096) : Fin 1024 → EReal :=
  fun k => a (ix3 ⟨i.val / 2048, by omega⟩ ⟨i.val % 2048, by omega⟩ k)

abbrev len : EReal := Ideal.ofBits .f32 0x44800000#32
abbrev half : EReal := Ideal.ofBits .f32 0x3F000000#32
abbrev invLen : EReal := Ideal.ofBits .f32 0x3A800000#32

theorem half_eq : half = ((1 / 2 : ℝ) : EReal) := by
  simp [half, Ideal.ofBits, Ideal.ieee, -EReal.coe_mul]; norm_num

theorem invLen_eq : invLen = ((1 / 1024 : ℝ) : EReal) := by
  simp [invLen, Ideal.ofBits, Ideal.ieee, -EReal.coe_mul]; norm_num

/-- Halving and dividing by the length undoes the square's factor two. -/
theorem weight (e : EReal) :
    Ideal.div half len * (Ideal.ofBits .f32 0x40000000#32 * e) = e * invLen := by
  have h2 : Ideal.ofBits .f32 0x40000000#32 = ((2 : ℝ) : EReal) := by
    simp [Ideal.ofBits, Ideal.ieee, -EReal.coe_mul]; norm_num
  rw [h2, show len = ((1024 : ℝ) : EReal) from Cert.Rms.len_eq,
    Ideal.div_coe (by norm_num), half_eq, invLen_eq, ← mul_assoc, ← EReal.coe_mul, ← EReal.coe_mul, mul_comm e]
  norm_num

section Row

variable (g : (Shape.mk 1 ![1024]).Idx → EReal) (x t : Fin 1024 → EReal)

/-- What a row misses its target by. -/
def err (k : Fin 1024) : EReal := x k * scale len x * g (ix1 k) - t k

/-- The gradient of the normalised row. -/
def dh (k : Fin 1024) : EReal := err g x t k * invLen

/-- The gradient of the row. -/
def dx (j : Fin 1024) : EReal := drow len x (fun k => dh g x t k * g (ix1 k)) j

/-- The row's part of the gradient of the gains. -/
def gain (j : Fin 1024) : EReal := dh g x t j * (x j * scale len x)

/-- The row's mean square error. -/
def mse : EReal := Ideal.div (∑ k, err g x t k * err g x t k) len

end Row

variable (x t : (Shape.mk 3 ![2, 2048, 1024]).Idx → EReal) (g : (Shape.mk 1 ![1024]).Idx → EReal)

/-- The gradient of the gains. -/
def dgain (j : Fin 1024) : EReal := ∑ i : Fin 4096, gain g (rowOf x i) (rowOf t i) j

/-- The loss. -/
def loss : EReal := half * ∑ i : Fin 4096, mse g (rowOf x i) (rowOf t i)

/-- A sum over the rows, one sequence after the other. -/
theorem sum_rows (F : Fin 2 → Fin 2048 → EReal) :
    ∑ b : Fin 2, ∑ s : Fin 2048, F b s = ∑ i : Fin 4096, F ⟨i.val / 2048, by omega⟩ ⟨i.val % 2048, by omega⟩ := by
  rw [Fin.sum_univ_two_halves 2048 2048 rfl fun i : Fin 4096 => F ⟨i.val / 2048, by omega⟩ ⟨i.val % 2048, by omega⟩,
    Fin.sum_univ_two]
  refine congrArg₂ (· + ·) (Finset.sum_congr rfl fun s _ => congrArg₂ F (Fin.ext ?_) (Fin.ext ?_))
    (Finset.sum_congr rfl fun s _ => congrArg₂ F (Fin.ext ?_) (Fin.ext ?_))
  · exact (Nat.div_eq_of_lt s.isLt).symm
  · exact (Nat.mod_eq_of_lt s.isLt).symm
  · show 1 = (2048 + s.val) / 2048
    omega
  · show s.val = (2048 + s.val) % 2048
    omega

end Cert.Loss

end
-- ==== Proof.LossKernel.lean ====
/-
  What the kernel of the loss and its gradient leaves in its three result arrays.
-/
module

public import Idealize.ShloMosaic.Lib.Pipeline.ValueKit.Geometry
public import proofs.«01_k».proof.Proof.Gen.KernelLossIdeal.Value
public import proofs.«01_k».proof.Proof.Pieces
public import proofs.«01_k».proof.Proof.Loads
public import proofs.«01_k».proof.Proof.RowSum
public import proofs.«01_k».proof.Proof.LossSpec

@[expose] public section

set_option maxRecDepth 16384

noncomputable section

namespace Cert.LossKernel

open Cert.KernelLossIdeal Cert.KernelLossIdeal.Gen Idealize.ShloMosaic Idealize.ShloMosaic.TcCoe Idealize.SL.Sem
open Idealize.ShloMosaic.Pipeline (Dat)
open Cert.Loss Cert.Norm

variable (m : (ℓ : Loc nD τ sig) → Buf (Elt Ideal) ℓ)

/-! ## The arguments, and the blocks the grid points read of them -/

abbrev x (c : Dev nD) : S2x2048x1024.Idx → EReal := m ((c : Thread nD τ).loc main_arg0)
abbrev g (c : Dev nD) : S1024.Idx → EReal := m ((c : Thread nD τ).loc main_arg1)
abbrev tg (c : Dev nD) : S2x2048x1024.Idx → EReal := m ((c : Thread nD τ).loc main_arg2)

theorem V_x (c : Dev nD) (i : Fin 4096) (k : Fin 1024) : V m c main_v0 (ix2 i k) = rowOf (x m c) i k := by
  unfold V hostOps0
  after_results_simp
  pointwise
  rfl

theorem V_tg (c : Dev nD) (i : Fin 4096) (k : Fin 1024) : V m c main_v1 (ix2 i k) = rowOf (tg m c) i k := by
  unfold V hostOps0
  after_results_simp
  pointwise
  rfl

theorem V_g (c : Dev nD) (j : Fin 1024) : V m c main_v2 (ix2 0 j) = g m c (ix1 j) := by
  unfold V hostOps0
  after_results_simp
  pointwise

/-- Row `r` of point `t`'s block of 512 rows. -/
def row (t : Fin cfg0.N) (r : Fin 512) : Fin 4096 := ⟨512 * t.val + r.val, by have : t.val < 8 := t.isLt; omega⟩

theorem emb3 (t : Fin cfg0.N) (r : Fin 512) (k : Fin 1024) : (win0_3.rect t).emb (ix2 r k) = ix2 (row t r) k :=
  emb_at (fun t => ![t.val, 0]) (by intro a; fin_cases a <;> simp [row] <;> omega)

theorem emb4 (t : Fin cfg0.N) (k : Fin 1024) : (win0_4.rect t).emb (ix2 0 k) = ix2 0 k :=
  emb_at (fun t => ![0, 0])

theorem emb5 (t : Fin cfg0.N) (p : Fin 8) (q : Fin 128) : (win0_5.rect t).emb (ix2 p q) = ix2 p q :=
  emb_at (fun t => ![0, 0])

theorem blk0 (c : Dev nD) (t : Fin cfg0.N) (r : Fin 512) (k : Fin 1024) :
    iblk m c 0 t (ix2 r k) = rowOf (x m c) (row t r) k :=
  (congrArg (V m c main_v0) (emb_at (fun t => ![t.val, 0]) (by intro a; fin_cases a <;> simp [row] <;> omega))).trans (V_x m c _ k)

theorem blk1 (c : Dev nD) (t : Fin cfg0.N) (k : Fin 1024) :
    iblk m c 1 t (ix2 0 k) = g m c (ix1 k) :=
  (congrArg (V m c main_v2) (emb_at (fun t => ![0, 0]))).trans (V_g m c k)

theorem blk2 (c : Dev nD) (t : Fin cfg0.N) (r : Fin 512) (k : Fin 1024) :
    iblk m c 2 t (ix2 r k) = rowOf (tg m c) (row t r) k :=
  (congrArg (V m c main_v1) (emb_at (fun t => ![t.val, 0]) (by intro a; fin_cases a <;> simp [row] <;> omega))).trans (V_tg m c _ k)

/-- A point's misses. -/
theorem pay10 (c : Dev nD) (t : Fin cfg0.N) (r : Fin 512) (k : Fin 1024) :
    k0_pay10 (F := Ideal) (iblk m c 0 t) (iblk m c 1 t) (iblk m c 2 t) (ix2 r k)
      = err (g m c) (rowOf (x m c) (row t r)) (rowOf (tg m c) (row t r)) k := by
  pointwise [k0_pay10, k0_pay9, k0_pay8, k0_pay7, k0_pay6]
  simp only [blk0, blk1, blk2]
  rfl

/-! ## What a grid point leaves -/

theorem flushed3_A (c : Dev nD) (t : Fin cfg0.N) (h0 : t.val % 8 = 0) (r : Fin 512) (l : Fin 1024) :
    ((dats m 0 c).flushed 3 t (ix2 r l) : EReal)
      = dx (g m c) (rowOf (x m c) (row t r)) (rowOf (tg m c) (row t r)) l := by
  rw [Cert.KernelLossIdeal.Value.flushed3_A m c t h0]
  unfold out0_A_3 kernelRun0_A
  dsimp only
  sl_unfold_words
  simp only [View.readAt_eq_ld, Memref.IsWhole.read_unread, View.readCov_eq_canon', Cert.Loads.mat]
  rw [View.read_writes_junk_eq_canon]
  refine (Cert.Pieces.canon_hit _ _ _ (ix2 r l) (ix2 r l)).trans ?_
  pointwise [k0_pay3, k0_pay1, k0_pay9, k0_pay8, k0_pay7, k0_pay6]
  simp only [blk0, blk1, pay10]
  rfl

theorem flushed3_B (c : Dev nD) (t : Fin cfg0.N) (h0 : ¬t.val % 8 = 0) (r : Fin 512) (l : Fin 1024) :
    ((dats m 0 c).flushed 3 t (ix2 r l) : EReal)
      = dx (g m c) (rowOf (x m c) (row t r)) (rowOf (tg m c) (row t r)) l := by
  rw [Cert.KernelLossIdeal.Value.flushed3_B m c t h0]
  unfold out0_B_3 kernelRun0_B
  dsimp only
  sl_unfold_words
  simp only [View.readAt_eq_ld, Memref.IsWhole.read_unread, View.readCov_eq_canon', Cert.Loads.mat]
  rw [View.read_writes_junk_eq_canon]
  refine (Cert.Pieces.canon_hit _ _ _ (ix2 r l) (ix2 r l)).trans ?_
  pointwise [k0_pay3, k0_pay1, k0_pay9, k0_pay8, k0_pay7, k0_pay6]
  simp only [blk0, blk1, pay10]
  rfl

theorem outs4_A (c : Dev nD) (t : Fin cfg0.N) (h0 : t.val % 8 = 0) (j : Fin 1024) :
    ((outsAt0 m c t.val t.isLt).2.1 (ix2 0 j) : EReal) = ∑ r : Fin 512, gain (g m c) (rowOf (x m c) (row t r)) (rowOf (tg m c) (row t r)) j := by
  simp only [outsAt0_A m c t h0]
  unfold out0_A_4 kernelRun0_A
  dsimp only
  sl_unfold_words
  simp only [View.readAt_eq_ld, Memref.IsWhole.read_unread, View.readCov_eq_canon', Cert.Loads.mat]
  rw [View.read_writes_junk_eq_canon]
  refine (Cert.Pieces.canon_hit _ _ _ (ix2 0 j) (ix2 0 j)).trans ?_
  generalize hacc : View.canon (Val := Elt Ideal) (s := S1x1024) (e := .f32) _ = acc
  have hz : (acc (ix2 0 j) : EReal) = 0 := by
    subst hacc
    refine (Cert.Pieces.canon_hit _ _ _ (ix2 0 j) (ix2 0 j)).trans ?_
    pointwise [k0_pay4]
  pointwise [k0_pay2, k0_pay1, k0_pay9, k0_pay8, k0_pay6]
  simp only [blk0, pay10]
  rw [hz, zero_add]
  rfl

theorem outs4_B (c : Dev nD) (t : Fin cfg0.N) (h0 : ¬t.val % 8 = 0) (j : Fin 1024) :
    ((outsAt0 m c t.val t.isLt).2.1 (ix2 0 j) : EReal)
      = (outsAt0 m c (t.val - 1) (Nat.lt_of_le_of_lt (Nat.sub_le _ _) t.isLt)).2.1 (ix2 0 j)
        + ∑ r : Fin 512, gain (g m c) (rowOf (x m c) (row t r)) (rowOf (tg m c) (row t r)) j := by
  simp only [outsAt0_B m c t h0]
  unfold out0_B_4 kernelRun0_B
  dsimp only
  sl_unfold_words
  simp only [View.readAt_eq_ld, Memref.IsWhole.read_unread, View.readCov_eq_canon', Cert.Loads.mat]
  rw [View.read_writes_junk_eq_canon]
  refine (Cert.Pieces.canon_hit _ _ _ (ix2 0 j) (ix2 0 j)).trans ?_
  pointwise [k0_pay2, k0_pay1, k0_pay9, k0_pay8, k0_pay6]
  simp only [blk0, pay10]
  rfl

theorem outs5_A (c : Dev nD) (t : Fin cfg0.N) (h0 : t.val % 8 = 0) (p : Fin 8) (q : Fin 128) :
    ((outsAt0 m c t.val t.isLt).2.2 (ix2 p q) : EReal) = half * ∑ r : Fin 512, mse (g m c) (rowOf (x m c) (row t r)) (rowOf (tg m c) (row t r)) := by
  simp only [outsAt0_A m c t h0]
  unfold out0_A_5 kernelRun0_A
  dsimp only
  sl_unfold_words
  simp only [View.readAt_eq_ld, Memref.IsWhole.read_unread, View.readCov_eq_canon', Cert.Loads.mat]
  rw [View.read_writes_junk_eq_canon]
  refine (Cert.Pieces.canon_hit _ _ _ (ix2 p q) (ix2 p q)).trans ?_
  generalize hacc : View.canon (Val := Elt Ideal) (s := S8x128) (e := .f32) _ = acc
  have hz : (acc (ix2 p q) : EReal) = 0 := by
    subst hacc
    refine (Cert.Pieces.canon_hit _ _ _ (ix2 p q) (ix2 p q)).trans ?_
    pointwise [k0_pay5]
  pointwise [k0_pay11]
  simp only [pay10, Finset.univ_unique, Finset.sum_singleton]
  rw [hz, zero_add]
  rfl

theorem outs5_B (c : Dev nD) (t : Fin cfg0.N) (h0 : ¬t.val % 8 = 0) (p : Fin 8) (q : Fin 128) :
    ((outsAt0 m c t.val t.isLt).2.2 (ix2 p q) : EReal)
      = (outsAt0 m c (t.val - 1) (Nat.lt_of_le_of_lt (Nat.sub_le _ _) t.isLt)).2.2 (ix2 p q)
        + half * ∑ r : Fin 512, mse (g m c) (rowOf (x m c) (row t r)) (rowOf (tg m c) (row t r)) := by
  simp only [outsAt0_B m c t h0]
  unfold out0_B_5 kernelRun0_B
  dsimp only
  sl_unfold_words
  simp only [View.readAt_eq_ld, Memref.IsWhole.read_unread, View.readCov_eq_canon', Cert.Loads.mat]
  rw [View.read_writes_junk_eq_canon]
  refine (Cert.Pieces.canon_hit _ _ _ (ix2 p q) (ix2 p q)).trans ?_
  pointwise [k0_pay11]
  simp only [pay10, Finset.univ_unique, Finset.sum_singleton]
  rfl

/-- After point `n` the gains' gradient is the sum over the rows so far. -/
theorem outs4 (c : Dev nD) (j : Fin 1024) : ∀ (n : ℕ) (hn : n < cfg0.N),
    ((outsAt0 m c n hn).2.1 (ix2 0 j) : EReal) = Cert.RowSum.below (fun i => gain (g m c) (rowOf (x m c) i) (rowOf (tg m c) i) j) (512 * (n + 1))
  | 0, hn => by
    rw [outs4_A m c ⟨0, hn⟩ rfl j, show 512 * (0 + 1) = 0 + 512 from rfl, Cert.RowSum.below_add _ _ _ (by omega),
      Cert.RowSum.below_zero, zero_add]
    rfl
  | n + 1, hn => by
    have hN : n + 1 < 8 := hn
    rw [outs4_B m c ⟨n + 1, hn⟩ (by simp only; omega) j, Nat.mul_succ, Cert.RowSum.below_add _ _ _ (by omega)]
    simp only [Nat.add_sub_cancel]
    rw [outs4 c j n]
    rfl

theorem half_add (a b : EReal) : half * (a + b) = half * a + half * b := by
  rw [half_eq]
  exact EReal.left_distrib_of_nonneg_of_ne_top (by exact_mod_cast (by norm_num : (0 : ℝ) ≤ 1 / 2)) (EReal.coe_ne_top _) _ _

/-- After point `n` the loss is that of the rows so far. -/
theorem outs5 (c : Dev nD) (p : Fin 8) (q : Fin 128) : ∀ (n : ℕ) (hn : n < cfg0.N),
    ((outsAt0 m c n hn).2.2 (ix2 p q) : EReal) = half * Cert.RowSum.below (fun i => mse (g m c) (rowOf (x m c) i) (rowOf (tg m c) i)) (512 * (n + 1))
  | 0, hn => by
    rw [outs5_A m c ⟨0, hn⟩ rfl p q, show 512 * (0 + 1) = 0 + 512 from rfl, Cert.RowSum.below_add _ _ _ (by omega),
      Cert.RowSum.below_zero, zero_add]
    rfl
  | n + 1, hn => by
    have hN : n + 1 < 8 := hn
    rw [outs5_B m c ⟨n + 1, hn⟩ (by simp only; omega) p q, Nat.mul_succ, Cert.RowSum.below_add _ _ _ (by omega), half_add]
    simp only [Nat.add_sub_cancel]
    rw [outs5 c p q n]
    rfl

/-! ## The result arrays -/

abbrev dxAt (c : Dev nD) (i : Fin 4096) (j : Fin 1024) : EReal := dx (g m c) (rowOf (x m c) i) (rowOf (tg m c) i) j

theorem final3 (c : Dev nD) : (dats m 0 c).arrAt 3 cfg0.N
    = fun i : S4096x1024.Idx => dxAt m c (i 0) (i 1) := by
  apply Dat.arrAt_eq_of_cover
  · intro t hf
    funext y
    obtain ⟨r, l, rfl⟩ : ∃ (r : Fin 512) (l : Fin 1024), y = ix2 r l := ⟨y 0, y 1, eq_ix2 y⟩
    refine (if h0 : t.val % 8 = 0 then flushed3_A m c t h0 r l else flushed3_B m c t h0 r l).trans ?_
    show _ = dxAt m c ((win0_3.rect t).emb (ix2 r l) 0) ((win0_3.rect t).emb (ix2 r l) 1)
    rw [emb3]
    rfl
  · exact (by decide +kernel : (cfg0.win 3).Covers).cover _ (Memref.isWhole_whole _)

theorem final4 (c : Dev nD) : (dats m 0 c).arrAt 4 cfg0.N = fun i : S1x1024.Idx => dgain (x m c) (tg m c) (g m c) (i 1) := by
  apply Dat.arrAt_eq_of_cover
  · intro t hf
    have hl : t.val % 8 = 7 := (flush0_4 t).mp hf
    have hn : t.val < 8 := t.isLt
    funext y
    obtain ⟨l, rfl⟩ : ∃ l : Fin 1024, y = ix2 0 l :=
      ⟨y 1, by funext a; fin_cases a; exacts [Fin.ext (Nat.lt_one_iff.mp (y 0).isLt), rfl]⟩
    rw [Cert.KernelLossIdeal.Value.flushed4 m c t]
    refine (outs4 m c l t.val t.isLt).trans ?_
    have e : 512 * (t.val + 1) = 4096 := by omega
    rw [e, Cert.RowSum.below_all]
    show _ = dgain (x m c) (tg m c) (g m c) ((win0_4.rect t).emb (ix2 0 l) 1)
    rw [emb4]
    rfl
  · exact (by decide +kernel : (cfg0.win 4).Covers).cover _ (Memref.isWhole_whole _)

theorem final5 (c : Dev nD) : (dats m 0 c).arrAt 5 cfg0.N = fun _ : S8x128.Idx => loss (x m c) (tg m c) (g m c) := by
  apply Dat.arrAt_eq_of_cover
  · intro t hf
    have hl : t.val % 8 = 7 := (flush0_5 t).mp hf
    have hn : t.val < 8 := t.isLt
    funext y
    obtain ⟨p, q, rfl⟩ : ∃ (p : Fin 8) (q : Fin 128), y = ix2 p q := ⟨y 0, y 1, eq_ix2 y⟩
    rw [Cert.KernelLossIdeal.Value.flushed5 m c t]
    refine (outs5 m c p q t.val t.isLt).trans ?_
    have e : 512 * (t.val + 1) = 4096 := by omega
    rw [e, Cert.RowSum.below_all]
    rfl
  · exact (by decide +kernel : (cfg0.win 5).Covers).cover _ (Memref.isWhole_whole _)

end Cert.LossKernel

end
-- ==== Proof.LossRef.lean ====
/-
  The results of the reference of the loss and its gradient, read one element at a time.
-/
module

public import proofs.«01_k».proof.Proof.Gen.ReferenceLossIdeal.Read
public import proofs.«01_k».proof.Proof.LossSpec
public import proofs.«01_k».proof.Proof.LeadSum

@[expose] public section

noncomputable section

namespace Cert.LossRef

open Cert.ReferenceLossIdeal Cert.ReferenceLossIdeal.Gen Cert.ReferenceLossIdeal.Read Idealize.ShloMosaic
open Cert.Loss Cert.Norm

variable (x t : S2x2048x1024.Idx → EReal) (g : S1024.Idx → EReal)

theorem ref_meansq (b : Fin 2) (s : Fin 2048) (o : Fin 1) :
    val_main_v6 (F := Ideal) x (ix3 b s o) = meansq len (fun k => x (ix3 b s k)) := by
  pointwise [val_main_v6, val_main_v5, val_main_v4, val_main_v3, val_main_v2, val_main_v1, val_main_v0, val_main_cst,
    val_main_cst_0, val_main_cst_1]
  rfl

theorem ref_scale (b : Fin 2) (s : Fin 2048) (o : Fin 1) :
    val_main_v7 (F := Ideal) x (ix3 b s o) = scale len (fun k => x (ix3 b s k)) := by
  pointwise [val_main_v7]
  rw [ref_meansq]
  rfl

theorem ref_err (b : Fin 2) (s : Fin 2048) (k : Fin 1024) :
    val_main_v16 (F := Ideal) x g t (ix3 b s k) = err g (fun k => x (ix3 b s k)) (fun k => t (ix3 b s k)) k := by
  pointwise [val_main_v16, val_main_v15, val_main_v14, val_main_v13, val_main_v12, val_main_v11]
  simp only [ref_scale]
  rfl

theorem ref_dh (b : Fin 2) (s : Fin 2048) (k : Fin 1024) :
    val_main_v30 (F := Ideal) x g t (ix3 b s k) = dh g (fun k => x (ix3 b s k)) (fun k => t (ix3 b s k)) k := by
  pointwise [val_main_v30, val_main_v29, val_main_v28, val_main_v27, val_main_v26, val_main_v25, val_main_v19, val_main_v18,
    val_main_cst_3, val_main_cst_8, val_main_cst_9, val_main_cst_10]
  rw [ref_err]
  exact weight _

theorem ref_loss (p : Fin 8) (q : Fin 128) : val_main_v53 (F := Ideal) x g t (ix2 p q) = loss x t g := by
  pointwise [val_main_v53, val_main_v24, val_main_v23, val_main_v22, val_main_v21, val_main_v20, val_main_v17, val_main_cst_4,
    val_main_cst_5, val_main_cst_6, val_main_cst_7]
  simp only [ref_err]
  exact congrArg (half * ·) (sum_rows fun b s => mse g (fun k => x (ix3 b s k)) (fun k => t (ix3 b s k)))

theorem ref_dgain (j : Fin 1024) : val_main_v52 (F := Ideal) x g t (ix2 0 j) = dgain x t g j := by
  pointwise [val_main_v52, val_main_v36, val_main_v33, val_main_v32, val_main_v31, val_main_v12, val_main_v11, val_main_cst_11,
    val_main_cst_12]
  rw [Cert.LeadSum.sum_lead, zero_add, Fin.sum_univ_one, Fin.sum_univ_one]
  pointwise
  rw [Cert.LeadSum.sum_lead, zero_add]
  pointwise
  simp only [ref_dh, ref_scale, Finset.univ_unique, Finset.sum_singleton]
  simp only [mul_comm _ (dh _ _ _ _)]
  exact (sum_rows fun b s => gain g (fun k => x (ix3 b s k)) (fun k => t (ix3 b s k)) j)

/-- The rows' gradient, per sequence. -/
theorem ref_dx3 (b : Fin 2) (s : Fin 2048) (j : Fin 1024) :
    val_main_v50 (F := Ideal) x g t (ix3 b s j) = dx g (fun k => x (ix3 b s k)) (fun k => t (ix3 b s k)) j := by
  pointwise [val_main_v50, val_main_v49, val_main_v48, val_main_v47, val_main_v46, val_main_v45, val_main_v44, val_main_v43,
    val_main_v42, val_main_v41, val_main_v40, val_main_v39, val_main_v38, val_main_v37, val_main_v35, val_main_v34,
    val_main_v13, val_main_v10, val_main_v9, val_main_v8, val_main_cst_2, val_main_cst_13, val_main_cst_14, val_main_cst_15]
  simp only [ref_dh, ref_scale, ref_meansq, Finset.univ_unique, Finset.sum_singleton]
  rw [dx, show len = ((1024 : ℝ) : EReal) from Cert.Rms.len_eq, ← drow_eq (by norm_num : (0 : ℝ) < 1024), ← add_assoc]
  simp only [show Ideal.ofBits .f32 0x44800000#32 = ((1024 : ℝ) : EReal) from Cert.Rms.len_eq]

theorem ref_dx (i : Fin 4096) (j : Fin 1024) : val_main_v51 (F := Ideal) x g t (ix2 i j) = dx g (rowOf x i) (rowOf t i) j := by
  pointwise [val_main_v51]
  rw [ref_dx3]
  rfl

end Cert.LossRef

end
-- ==== Proof.LossClaim.lean ====
/-
  The kernel of the loss and its gradient and its reference leave the same three results.
-/
module

public import proofs.«01_k».proof.Defs
public import proofs.«01_k».proof.Proof.LossKernel
public import proofs.«01_k».proof.Proof.LossRef
public import proofs.«01_k».proof.Proof.Finite
public import Idealize.ShloMosaic.Lib.Quiescent

@[expose] public section

set_option maxRecDepth 16384

noncomputable section

namespace Cert.LossClaim

open Idealize.ShloMosaic Idealize.ShloMosaic.TcCoe Idealize.SL.Sem
open Cert.Loss Cert.LossKernel

theorem algebraic :
    Cert.algebraic_KernelLossIdeal_ReferenceLossIdeal := by
  intro m g0 m' g' _ hag
  refine ⟨fun c => fun i => dxAt m c (i 0) (i 1), fun c => fun i => dgain (x m c) (tg m c) (g m c) (i 1), fun c => fun _ => loss (x m c) (tg m c) (g m c), ?_, ?_⟩
  · refine (θ_run Cert.KernelLossIdeal.defs _ _).mono (fun r h c => ?_) (Cert.KernelLossIdeal.Value.run_blocks m g0)
    obtain ⟨r0, r1, r2, ha⟩ := h c
    exact ⟨r0.trans (final3 m c), r1.trans (final4 m c), r2.trans (final5 m c), ha⟩
  · refine (θ_run Cert.ReferenceLossIdeal.defs _ _).mono (fun r h c => ?_) (Cert.ReferenceLossIdeal.Value.run m' g')
    obtain ⟨r0, r1, r2, ha⟩ := h c
    obtain ⟨a0, a1, a2⟩ := hag c
    rw [Cert.ReferenceLossIdeal.Read.val_main_v51_eq, a0, a1, a2] at r0
    rw [Cert.ReferenceLossIdeal.Read.val_main_v52_eq, a0, a1, a2] at r1
    rw [Cert.ReferenceLossIdeal.Read.val_main_v53_eq, a0, a1, a2] at r2
    refine ⟨r0.trans (funext fun i => ?_), r1.trans (funext fun i => ?_), r2.trans (funext fun i => ?_), ha⟩
    · obtain ⟨p, q, rfl⟩ : ∃ (p : Fin 4096) (q : Fin 1024), i = ix2 p q := ⟨i 0, i 1, by funext a; fin_cases a <;> rfl⟩
      exact Cert.LossRef.ref_dx _ _ _ p q
    · obtain ⟨q, rfl⟩ : ∃ q : Fin 1024, i = ix2 0 q :=
        ⟨i 1, by funext a; fin_cases a; exacts [Fin.ext (Nat.lt_one_iff.mp (i 0).isLt), rfl]⟩
      exact Cert.LossRef.ref_dgain _ _ _ q
    · obtain ⟨p, q, rfl⟩ : ∃ (p : Fin 8) (q : Fin 128), i = ix2 p q := ⟨i 0, i 1, by funext a; fin_cases a <;> rfl⟩
      exact Cert.LossRef.ref_loss _ _ _ p q

/-- The reference runs, leaves its arguments unchanged and has no semaphore. -/
theorem reference_runs : Cert.quiescent_ReferenceLossIdeal := fun m g _ =>
  (θ_run Cert.ReferenceLossIdeal.defs _ _).mono
    (fun r h => ⟨fun c => (h c).2.2.2, sem_eq_zero_of_no_sems (by decide) r.2⟩) (Cert.ReferenceLossIdeal.Value.run m g)

end Cert.LossClaim

end
-- ==== Proof.RmsKernel.lean ====
/-
  What the kernel that normalises rows leaves in its result array.
-/
module

public import Idealize.ShloMosaic.Lib.Pipeline.ValueKit.Geometry
public import proofs.«01_k».proof.Proof.Gen.KernelRmsIdeal.Value
public import proofs.«01_k».proof.Proof.Pieces
public import proofs.«01_k».proof.Proof.Loads
public import proofs.«01_k».proof.Proof.RmsSpec

@[expose] public section

set_option maxRecDepth 16384

noncomputable section

namespace Cert.RmsKernel

open Cert.KernelRmsIdeal Cert.KernelRmsIdeal.Gen Idealize.ShloMosaic Idealize.ShloMosaic.TcCoe Idealize.SL.Sem
open Idealize.ShloMosaic.Pipeline (Dat)
open Cert.Rms Cert.Norm

variable (m : (ℓ : Loc nD τ sig) → Buf (Elt Ideal) ℓ)

/-! ## The arguments, and the blocks the grid points read of them -/

abbrev x (c : Dev nD) : S4096x1024.Idx → EReal := m ((c : Thread nD τ).loc main_arg0)
abbrev g (c : Dev nD) : S1024.Idx → EReal := m ((c : Thread nD τ).loc main_arg1)

theorem V_g (c : Dev nD) (j : Fin 1024) : V m c main_v0 (ix2 0 j) = g m c (ix1 j) := by
  unfold V hostOps0
  after_results_simp
  pointwise

/-- Row `r` of point `t`'s block of 512 rows. -/
def row (t : Fin cfg0.N) (r : Fin 512) : Fin 4096 := ⟨512 * t.val + r.val, by have : t.val < 8 := t.isLt; omega⟩

theorem emb2 (t : Fin cfg0.N) (r : Fin 512) (k : Fin 1024) : (win0_2.rect t).emb (ix2 r k) = ix2 (row t r) k :=
  emb_at (fun t => ![t.val, 0]) (by intro a; fin_cases a <;> simp [row] <;> omega)

theorem blk0 (c : Dev nD) (t : Fin cfg0.N) (r : Fin 512) (k : Fin 1024) :
    iblk m c 0 t (ix2 r k) = x m c (ix2 (row t r) k) :=
  (congrArg (V m c main_arg0) (emb_at (fun t => ![t.val, 0]) (by intro a; fin_cases a <;> simp [row] <;> omega))).trans (congrFun (V_main_arg0 m c) _)

theorem blk1 (c : Dev nD) (t : Fin cfg0.N) (k : Fin 1024) :
    iblk m c 1 t (ix2 0 k) = g m c (ix1 k) :=
  (congrArg (V m c main_v0) (emb_at (fun t => ![0, 0]))).trans (V_g m c k)

theorem flushed2 (c : Dev nD) (t : Fin cfg0.N) (r : Fin 512) (l : Fin 1024) :
    ((dats m 0 c).flushed 2 t (ix2 r l) : EReal) = normed (x m c) (g m c) (row t r) l := by
  rw [Cert.KernelRmsIdeal.Value.flushed2 m c t]
  unfold out0_2
  simp only [Cert.Loads.mat]
  refine (Cert.Pieces.canon_hit _ _ _ (ix2 r l) (ix2 r l)).trans ?_
  pointwise [k0_pay1]
  simp only [blk0, blk1]
  rfl

theorem final2 (c : Dev nD) : (dats m 0 c).arrAt 2 cfg0.N
    = fun i : S4096x1024.Idx => normed (x m c) (g m c) (i 0) (i 1) := by
  apply Dat.arrAt_eq_of_cover
  · intro t hf
    funext y
    obtain ⟨r, l, rfl⟩ : ∃ (r : Fin 512) (l : Fin 1024), y = ix2 r l := ⟨y 0, y 1, eq_ix2 y⟩
    refine (flushed2 m c t r l).trans ?_
    show _ = normed (x m c) (g m c) ((win0_2.rect t).emb (ix2 r l) 0) ((win0_2.rect t).emb (ix2 r l) 1)
    rw [emb2]
    rfl
  · exact (by decide +kernel : (cfg0.win 2).Covers).cover _ (Memref.isWhole_whole _)

end Cert.RmsKernel

end
-- ==== Proof.RmsRef.lean ====
/-
  The result of the reference of the normalised rows, read one element at a time.
-/
module

public import proofs.«01_k».proof.Proof.Gen.ReferenceRmsIdeal.Read
public import proofs.«01_k».proof.Proof.RmsSpec

@[expose] public section

noncomputable section

namespace Cert.RmsRef

open Cert.ReferenceRmsIdeal Cert.ReferenceRmsIdeal.Gen Cert.ReferenceRmsIdeal.Read Idealize.ShloMosaic
open Cert.Rms Cert.Norm

variable (x : S4096x1024.Idx → EReal) (g : S1024.Idx → EReal)

theorem ref_scale (i : Fin 4096) (o : Fin 1) : val_main_v7 (F := Ideal) x (ix2 i o) = scale len (rowOf x i) := by
  pointwise [val_main_v7, val_main_v6, val_main_v5, val_main_v4, val_main_v3, val_main_v2, val_main_v1, val_main_v0, val_main_cst, val_main_cst_0, val_main_cst_1]
  rfl

theorem ref_normed (i : Fin 4096) (j : Fin 1024) : val_main_v13 (F := Ideal) x g (ix2 i j) = normed x g i j := by
  pointwise [val_main_v13, val_main_v12, val_main_v11, val_main_v10, val_main_v9, val_main_v8]
  rw [ref_scale]
  rfl

end Cert.RmsRef

end
-- ==== Proof.RmsClaim.lean ====
/-
  The kernel that normalises rows and its reference leave the same result.
-/
module

public import proofs.«01_k».proof.Defs
public import proofs.«01_k».proof.Proof.RmsKernel
public import proofs.«01_k».proof.Proof.RmsRef
public import proofs.«01_k».proof.Proof.Finite
public import Idealize.ShloMosaic.Lib.Quiescent

@[expose] public section

set_option maxRecDepth 16384

noncomputable section

namespace Cert.RmsClaim

open Idealize.ShloMosaic Idealize.ShloMosaic.TcCoe Idealize.SL.Sem
open Cert.Rms Cert.RmsKernel

theorem algebraic :
    Cert.algebraic_KernelRmsIdeal_ReferenceRmsIdeal := by
  intro m g0 m' g' _ hag
  refine ⟨fun c => fun i => normed (x m c) (g m c) (i 0) (i 1), ?_, ?_⟩
  · refine (θ_run Cert.KernelRmsIdeal.defs _ _).mono (fun r h c => ?_) (Cert.KernelRmsIdeal.Value.run_blocks m g0)
    obtain ⟨r0, ha⟩ := h c
    exact ⟨r0.trans (final2 m c), ha⟩
  · refine (θ_run Cert.ReferenceRmsIdeal.defs _ _).mono (fun r h c => ?_) (Cert.ReferenceRmsIdeal.Value.run m' g')
    obtain ⟨r0, ha⟩ := h c
    obtain ⟨a0, a1⟩ := hag c
    rw [Cert.ReferenceRmsIdeal.Read.val_main_v13_eq, a0, a1] at r0
    refine ⟨r0.trans (funext fun i => ?_), ha⟩
    · obtain ⟨p, q, rfl⟩ : ∃ (p : Fin 4096) (q : Fin 1024), i = ix2 p q := ⟨i 0, i 1, by funext a; fin_cases a <;> rfl⟩
      exact Cert.RmsRef.ref_normed _ _ p q

/-- The reference runs, leaves its arguments unchanged and has no semaphore. -/
theorem reference_runs : Cert.quiescent_ReferenceRmsIdeal := fun m g _ =>
  (θ_run Cert.ReferenceRmsIdeal.defs _ _).mono
    (fun r h => ⟨fun c => (h c).2, sem_eq_zero_of_no_sems (by decide) r.2⟩) (Cert.ReferenceRmsIdeal.Value.run m g)

end Cert.RmsClaim

end
-- ==== Proof.UpActSpec.lean ====
/-
  The gated unit, as functions of the arrays: `h` the rows, `w` the up projection, whose columns are the gate's and then those
  it multiplies.
-/
module

public import Idealize.ShloMosaic.Lib.Pointwise
public import proofs.«01_k».proof.Proof.Sigmoid

@[expose] public section

noncomputable section

namespace Cert.UpAct

open Idealize.ShloMosaic Cert.Sigmoid

variable (h : (Shape.mk 2 ![4096, 1024]).Idx → EReal) (w : (Shape.mk 2 ![1024, 5632]).Idx → EReal)

/-- The gate's argument. -/
def gate (i : Fin 4096) (j : Fin 2816) : EReal := ∑ x : Fin 1024, h (ix2 i x) * w (ix2 x ⟨j.val, by omega⟩)

/-- What the gate multiplies. -/
def up (i : Fin 4096) (j : Fin 2816) : EReal := ∑ x : Fin 1024, h (ix2 i x) * w (ix2 x ⟨2816 + j.val, by omega⟩)

/-- The unit's value. -/
def act (i : Fin 4096) (j : Fin 2816) : EReal := gate h w i j * sig (gate h w i j) * up h w i j

end Cert.UpAct

end
-- ==== Proof.UpActKernel.lean ====
/-
  What the kernel of the gated unit leaves in its three result arrays.
-/
module

public import Idealize.ShloMosaic.Lib.Pipeline.ValueKit.Geometry
public import proofs.«01_k».proof.Proof.Gen.KernelUpActIdeal.Value
public import proofs.«01_k».proof.Proof.Pieces
public import proofs.«01_k».proof.Proof.Loads
public import proofs.«01_k».proof.Proof.UpActSpec

@[expose] public section

set_option maxRecDepth 16384

noncomputable section

namespace Cert.UpActKernel

open Cert.KernelUpActIdeal Cert.KernelUpActIdeal.Gen Idealize.ShloMosaic Idealize.ShloMosaic.TcCoe Idealize.SL.Sem
open Idealize.ShloMosaic.Pipeline (Dat)
open Cert.UpAct Cert.Sigmoid

variable (m : (ℓ : Loc nD τ sig) → Buf (Elt Ideal) ℓ)

/-! ## The arguments, and the blocks the grid points read of them -/

abbrev h (c : Dev nD) : S4096x1024.Idx → EReal := m ((c : Thread nD τ).loc main_arg0)
abbrev w (c : Dev nD) : S1024x5632.Idx → EReal := m ((c : Thread nD τ).loc main_arg1)

theorem V_h (c : Dev nD) (j : S4096x1024.Idx) : V m c main_v3 j = h m c j := by
  unfold V hostOps0
  after_results_simp
  rfl

theorem V_w (c : Dev nD) (q : Fin 4) (k : Fin 1024) (j : Fin 1408) : V m c main_v2 (ix3 q k j) = w m c (ix2 k ⟨1408 * q.val + j.val, by omega⟩) := by
  unfold V hostOps0
  after_results_simp
  pointwise
  exact congrArg (w m c) (congrArg (ix2 k) (Fin.ext (show q.val * 1408 + j.val = 1408 * q.val + j.val by omega)))

/-- Row `r` of point `t`'s block of 512 rows, and column `l` of its half of the columns. -/
def row (t : Fin cfg0.N) (r : Fin 512) : Fin 4096 := ⟨512 * (t.val % 8) + r.val, by omega⟩
def col (t : Fin cfg0.N) (l : Fin 1408) : Fin 2816 := ⟨1408 * (t.val / 8) + l.val, by have : t.val < 16 := t.isLt; omega⟩

theorem half_lt (t : Fin cfg0.N) : t.val / 8 < 2 := by have : t.val < 16 := t.isLt; omega

theorem emb1 (t : Fin cfg0.N) (k : Fin 1024) (j : Fin 1408) : (win0_1.rect t).emb (ix3 0 k j) = ix3 ⟨t.val / 8, by have := half_lt t; omega⟩ k j :=
  emb_at (fun t => ![t.val / 8, 0, 0])

theorem emb2 (t : Fin cfg0.N) (k : Fin 1024) (j : Fin 1408) : (win0_2.rect t).emb (ix3 0 k j) = ix3 ⟨2 + t.val / 8, by have := half_lt t; omega⟩ k j :=
  emb_at (fun t => ![2 + t.val / 8, 0, 0])

theorem emb3 (t : Fin cfg0.N) (r : Fin 512) (k : Fin 1408) : (win0_3.rect t).emb (ix2 r k) = ix2 (row t r) (col t k) :=
  emb_at (fun t => ![t.val % 8, t.val / 8]) (by intro a; fin_cases a <;> simp [row, col] <;> omega)

theorem emb4 (t : Fin cfg0.N) (r : Fin 512) (k : Fin 1408) : (win0_4.rect t).emb (ix2 r k) = ix2 (row t r) (col t k) :=
  emb_at (fun t => ![t.val % 8, t.val / 8]) (by intro a; fin_cases a <;> simp [row, col] <;> omega)

theorem emb5 (t : Fin cfg0.N) (r : Fin 512) (k : Fin 1408) : (win0_5.rect t).emb (ix2 r k) = ix2 (row t r) (col t k) :=
  emb_at (fun t => ![t.val % 8, t.val / 8]) (by intro a; fin_cases a <;> simp [row, col] <;> omega)

theorem blk0 (c : Dev nD) (t : Fin cfg0.N) (r : Fin 512) (k : Fin 1024) :
    iblk m c 0 t (ix2 r k) = h m c (ix2 (row t r) k) :=
  (congrArg (V m c main_v3) (emb_at (fun t => ![t.val % 8, 0]) (by intro a; fin_cases a <;> simp [row] <;> omega))).trans (V_h m c _)

theorem blk1 (c : Dev nD) (t : Fin cfg0.N) (k : Fin 1024) (j : Fin 1408) :
    iblk m c 1 t (ix3 0 k j) = w m c (ix2 k ⟨(col t j).val, by omega⟩) :=
  ((congrArg (V m c main_v2) (emb1 t k j)).trans (V_w m c _ k j)).trans
    (congrArg (fun n => w m c (ix2 k n)) (Fin.ext (by simp only [col])))

theorem blk2 (c : Dev nD) (t : Fin cfg0.N) (k : Fin 1024) (j : Fin 1408) :
    iblk m c 2 t (ix3 0 k j) = w m c (ix2 k ⟨2816 + (col t j).val, by omega⟩) :=
  ((congrArg (V m c main_v2) (emb2 t k j)).trans (V_w m c _ k j)).trans
    (congrArg (fun n => w m c (ix2 k n)) (Fin.ext (by simp only [col]; omega)))

attribute [local pointwise] k0_pay2 k0_pay18 k0_pay30 k0_pay31 k0_pay32 k0_pay33 k0_pay34 k0_pay1 k0_pay25 k0_pay26 k0_pay27 k0_pay28 k0_pay29 k0_pay20 k0_pay21 k0_pay22 k0_pay23 k0_pay24
  k0_pay14 k0_pay15 k0_pay16 k0_pay17 k0_pay19 k0_pay8 k0_pay9 k0_pay10 k0_pay11 k0_pay12 k0_pay13 k0_pay3 k0_pay4 k0_pay5 k0_pay6 k0_pay7

theorem flushed3 (c : Dev nD) (t : Fin cfg0.N) (r : Fin 512) (l : Fin 1408) :
    ((dats m 0 c).flushed 3 t (ix2 r l) : EReal) = gate (h m c) (w m c) (row t r) (col t l) := by
  rw [Cert.KernelUpActIdeal.Value.flushed3_A m c t]
  unfold out0_A_3 kernelRun0_A
  dsimp only
  sl_unfold_words
  simp only [View.readAt_eq_ld, Memref.IsWhole.read_unread]
  rw [View.read_writes_junk_eq_canon]
  refine Cert.Pieces.canon_cols (Val := Elt Ideal) (e := .bf16) _ _ _ r l (fun l => gate (h m c) (w m c) (row t r) (col t l)) (fun x _ => ?_) fun h0 =>
    Cert.Pieces.canon_cols (Val := Elt Ideal) (e := .bf16) _ _ _ r l (fun l => gate (h m c) (w m c) (row t r) (col t l)) (fun x _ => ?_) fun h1 =>
    Cert.Pieces.canon_cols (Val := Elt Ideal) (e := .bf16) _ _ _ r l (fun l => gate (h m c) (w m c) (row t r) (col t l)) (fun x _ => ?_) fun h2 =>
    Cert.Pieces.canon_cols (Val := Elt Ideal) (e := .bf16) _ _ _ r l (fun l => gate (h m c) (w m c) (row t r) (col t l)) (fun x _ => ?_) fun h3 =>
    Cert.Pieces.canon_cols (Val := Elt Ideal) (e := .bf16) _ _ _ r l (fun l => gate (h m c) (w m c) (row t r) (col t l)) (fun x _ => ?_) fun h4 =>
    Cert.Pieces.canon_cols (Val := Elt Ideal) (e := .bf16) _ _ _ r l (fun l => gate (h m c) (w m c) (row t r) (col t l)) (fun x _ => ?_) fun h5 => by omega
  all_goals
    pointwise
    simp only [blk0, blk1, blk2, Nat.zero_add]
    rfl

theorem flushed4 (c : Dev nD) (t : Fin cfg0.N) (r : Fin 512) (l : Fin 1408) :
    ((dats m 0 c).flushed 4 t (ix2 r l) : EReal) = up (h m c) (w m c) (row t r) (col t l) := by
  rw [Cert.KernelUpActIdeal.Value.flushed4_A m c t]
  unfold out0_A_4 kernelRun0_A
  dsimp only
  sl_unfold_words
  simp only [View.readAt_eq_ld, Memref.IsWhole.read_unread]
  rw [View.read_writes_junk_eq_canon]
  refine Cert.Pieces.canon_cols (Val := Elt Ideal) (e := .bf16) _ _ _ r l (fun l => up (h m c) (w m c) (row t r) (col t l)) (fun x _ => ?_) fun h0 =>
    Cert.Pieces.canon_cols (Val := Elt Ideal) (e := .bf16) _ _ _ r l (fun l => up (h m c) (w m c) (row t r) (col t l)) (fun x _ => ?_) fun h1 =>
    Cert.Pieces.canon_cols (Val := Elt Ideal) (e := .bf16) _ _ _ r l (fun l => up (h m c) (w m c) (row t r) (col t l)) (fun x _ => ?_) fun h2 =>
    Cert.Pieces.canon_cols (Val := Elt Ideal) (e := .bf16) _ _ _ r l (fun l => up (h m c) (w m c) (row t r) (col t l)) (fun x _ => ?_) fun h3 =>
    Cert.Pieces.canon_cols (Val := Elt Ideal) (e := .bf16) _ _ _ r l (fun l => up (h m c) (w m c) (row t r) (col t l)) (fun x _ => ?_) fun h4 =>
    Cert.Pieces.canon_cols (Val := Elt Ideal) (e := .bf16) _ _ _ r l (fun l => up (h m c) (w m c) (row t r) (col t l)) (fun x _ => ?_) fun h5 => by omega
  all_goals
    pointwise
    simp only [blk0, blk1, blk2, Nat.zero_add]
    rfl

theorem flushed5 (c : Dev nD) (t : Fin cfg0.N) (r : Fin 512) (l : Fin 1408) :
    ((dats m 0 c).flushed 5 t (ix2 r l) : EReal) = act (h m c) (w m c) (row t r) (col t l) := by
  rw [Cert.KernelUpActIdeal.Value.flushed5_A m c t]
  unfold out0_A_5 kernelRun0_A
  dsimp only
  sl_unfold_words
  simp only [View.readAt_eq_ld, Memref.IsWhole.read_unread]
  rw [View.read_writes_junk_eq_canon]
  refine Cert.Pieces.canon_cols (Val := Elt Ideal) (e := .bf16) _ _ _ r l (fun l => act (h m c) (w m c) (row t r) (col t l)) (fun x _ => ?_) fun h0 =>
    Cert.Pieces.canon_cols (Val := Elt Ideal) (e := .bf16) _ _ _ r l (fun l => act (h m c) (w m c) (row t r) (col t l)) (fun x _ => ?_) fun h1 =>
    Cert.Pieces.canon_cols (Val := Elt Ideal) (e := .bf16) _ _ _ r l (fun l => act (h m c) (w m c) (row t r) (col t l)) (fun x _ => ?_) fun h2 =>
    Cert.Pieces.canon_cols (Val := Elt Ideal) (e := .bf16) _ _ _ r l (fun l => act (h m c) (w m c) (row t r) (col t l)) (fun x _ => ?_) fun h3 =>
    Cert.Pieces.canon_cols (Val := Elt Ideal) (e := .bf16) _ _ _ r l (fun l => act (h m c) (w m c) (row t r) (col t l)) (fun x _ => ?_) fun h4 =>
    Cert.Pieces.canon_cols (Val := Elt Ideal) (e := .bf16) _ _ _ r l (fun l => act (h m c) (w m c) (row t r) (col t l)) (fun x _ => ?_) fun h5 => by omega
  all_goals
    pointwise
    simp only [blk0, blk1, blk2, Nat.zero_add]
    rfl

theorem final3 (c : Dev nD) : (dats m 0 c).arrAt 3 cfg0.N
    = fun i : S4096x2816.Idx => gate (h m c) (w m c) (i 0) (i 1) := by
  apply Dat.arrAt_eq_of_cover
  · intro t _
    funext y
    obtain ⟨r, l, rfl⟩ : ∃ (r : Fin 512) (l : Fin 1408), y = ix2 r l := ⟨y 0, y 1, eq_ix2 y⟩
    refine (flushed3 m c t r l).trans ?_
    show _ = gate (h m c) (w m c) ((win0_3.rect t).emb (ix2 r l) 0) ((win0_3.rect t).emb (ix2 r l) 1)
    rw [emb3]
    rfl
  · exact (by decide +kernel : (cfg0.win 3).Covers).cover _ (Memref.isWhole_whole _)

theorem final4 (c : Dev nD) : (dats m 0 c).arrAt 4 cfg0.N
    = fun i : S4096x2816.Idx => up (h m c) (w m c) (i 0) (i 1) := by
  apply Dat.arrAt_eq_of_cover
  · intro t _
    funext y
    obtain ⟨r, l, rfl⟩ : ∃ (r : Fin 512) (l : Fin 1408), y = ix2 r l := ⟨y 0, y 1, eq_ix2 y⟩
    refine (flushed4 m c t r l).trans ?_
    show _ = up (h m c) (w m c) ((win0_4.rect t).emb (ix2 r l) 0) ((win0_4.rect t).emb (ix2 r l) 1)
    rw [emb4]
    rfl
  · exact (by decide +kernel : (cfg0.win 4).Covers).cover _ (Memref.isWhole_whole _)

theorem final5 (c : Dev nD) : (dats m 0 c).arrAt 5 cfg0.N
    = fun i : S4096x2816.Idx => act (h m c) (w m c) (i 0) (i 1) := by
  apply Dat.arrAt_eq_of_cover
  · intro t _
    funext y
    obtain ⟨r, l, rfl⟩ : ∃ (r : Fin 512) (l : Fin 1408), y = ix2 r l := ⟨y 0, y 1, eq_ix2 y⟩
    refine (flushed5 m c t r l).trans ?_
    show _ = act (h m c) (w m c) ((win0_5.rect t).emb (ix2 r l) 0) ((win0_5.rect t).emb (ix2 r l) 1)
    rw [emb5]
    rfl
  · exact (by decide +kernel : (cfg0.win 5).Covers).cover _ (Memref.isWhole_whole _)

end Cert.UpActKernel

end
-- ==== Proof.UpActRef.lean ====
/-
  The results of the reference of the gated unit, read one element at a time.
-/
module

public import proofs.«01_k».proof.Proof.Gen.ReferenceUpActIdeal.Read
public import proofs.«01_k».proof.Proof.UpActSpec

@[expose] public section

noncomputable section

namespace Cert.UpActRef

open Cert.ReferenceUpActIdeal Cert.ReferenceUpActIdeal.Gen Cert.ReferenceUpActIdeal.Read Idealize.ShloMosaic
open Cert.UpAct Cert.Sigmoid

variable (h : S4096x1024.Idx → EReal) (w : S1024x5632.Idx → EReal)

theorem ref_pre (i : Fin 4096) (j : Fin 2816) : val_main_v1 (F := Ideal) h w (ix2 i j) = gate h w i j := by
  pointwise [val_main_v1, val_main_v0]
  rfl

theorem ref_gate (i : Fin 4096) (j : Fin 2816) : val_main_v5 (F := Ideal) h w (ix2 i j) = gate h w i j := by
  pointwise [val_main_v5]
  exact ref_pre h w i j

theorem ref_up (i : Fin 4096) (j : Fin 2816) : val_main_v6 (F := Ideal) h w (ix2 i j) = up h w i j := by
  pointwise [val_main_v6, val_main_v2, val_main_v0]
  rfl

theorem ref_act (i : Fin 4096) (j : Fin 2816) : val_main_v7 (F := Ideal) h w (ix2 i j) = act h w i j := by
  pointwise [val_main_v7, val_main_v4, val_main_v3, val_main_v2, val_main_v0, val_main_call0_v5, val_main_call0_v4, val_main_call0_v3, val_main_call0_v2, val_main_call0_v1, val_main_call0_v0, val_main_call0_cst, val_main_call0_cst_0]
  rw [ref_pre]
  exact congrArg (fun s => gate h w i j * s * up h w i j) (div_eq_sig _)

end Cert.UpActRef

end
-- ==== Proof.UpActClaim.lean ====
/-
  The kernel of the gated unit and its reference leave the same three results.
-/
module

public import proofs.«01_k».proof.Defs
public import proofs.«01_k».proof.Proof.UpActKernel
public import proofs.«01_k».proof.Proof.UpActRef
public import proofs.«01_k».proof.Proof.Finite
public import Idealize.ShloMosaic.Lib.Quiescent

@[expose] public section

set_option maxRecDepth 16384

noncomputable section

namespace Cert.UpActClaim

open Idealize.ShloMosaic Idealize.ShloMosaic.TcCoe Idealize.SL.Sem
open Cert.UpAct Cert.UpActKernel

theorem algebraic :
    Cert.algebraic_KernelUpActIdeal_ReferenceUpActIdeal := by
  intro m g0 m' g' _ hag
  refine ⟨fun c => fun i => gate (h m c) (w m c) (i 0) (i 1), fun c => fun i => up (h m c) (w m c) (i 0) (i 1), fun c => fun i => act (h m c) (w m c) (i 0) (i 1), ?_, ?_⟩
  · refine (θ_run Cert.KernelUpActIdeal.defs _ _).mono (fun r h c => ?_) (Cert.KernelUpActIdeal.Value.run_blocks m g0)
    obtain ⟨r0, r1, r2, ha⟩ := h c
    exact ⟨r0.trans (final3 m c), r1.trans (final4 m c), r2.trans (final5 m c), ha⟩
  · refine (θ_run Cert.ReferenceUpActIdeal.defs _ _).mono (fun r h c => ?_) (Cert.ReferenceUpActIdeal.Value.run m' g')
    obtain ⟨r0, r1, r2, ha⟩ := h c
    obtain ⟨a0, a1⟩ := hag c
    rw [Cert.ReferenceUpActIdeal.Read.val_main_v5_eq, a0, a1] at r0
    rw [Cert.ReferenceUpActIdeal.Read.val_main_v6_eq, a0, a1] at r1
    rw [Cert.ReferenceUpActIdeal.Read.val_main_v7_eq, a0, a1] at r2
    refine ⟨r0.trans (funext fun i => ?_), r1.trans (funext fun i => ?_), r2.trans (funext fun i => ?_), ha⟩
    · obtain ⟨p, q, rfl⟩ : ∃ (p : Fin 4096) (q : Fin 2816), i = ix2 p q := ⟨i 0, i 1, by funext a; fin_cases a <;> rfl⟩
      exact Cert.UpActRef.ref_gate _ _ p q
    · obtain ⟨p, q, rfl⟩ : ∃ (p : Fin 4096) (q : Fin 2816), i = ix2 p q := ⟨i 0, i 1, by funext a; fin_cases a <;> rfl⟩
      exact Cert.UpActRef.ref_up _ _ p q
    · obtain ⟨p, q, rfl⟩ : ∃ (p : Fin 4096) (q : Fin 2816), i = ix2 p q := ⟨i 0, i 1, by funext a; fin_cases a <;> rfl⟩
      exact Cert.UpActRef.ref_act _ _ p q

/-- The reference runs, leaves its arguments unchanged and has no semaphore. -/
theorem reference_runs : Cert.quiescent_ReferenceUpActIdeal := fun m g _ =>
  (θ_run Cert.ReferenceUpActIdeal.defs _ _).mono
    (fun r h => ⟨fun c => (h c).2.2.2, sem_eq_zero_of_no_sems (by decide) r.2⟩) (Cert.ReferenceUpActIdeal.Value.run m g)

end Cert.UpActClaim

end
-- ==== Proof.ProjGateKernel.lean ====
/-
  What the kernel of the attention's projection and the gated merge leaves in its two result arrays.
-/
module

public import Idealize.ShloMosaic.Lib.Pipeline.ValueKit.Geometry
public import proofs.«01_k».proof.Proof.Gen.KernelProjGateIdeal.Value
public import proofs.«01_k».proof.Proof.Pieces
public import proofs.«01_k».proof.Proof.Loads
public import proofs.«01_k».proof.Proof.GateSpec

@[expose] public section

set_option maxRecDepth 16384

noncomputable section

namespace Cert.ProjGateKernel

open Cert.KernelProjGateIdeal Cert.KernelProjGateIdeal.Gen Idealize.ShloMosaic Idealize.ShloMosaic.TcCoe Idealize.SL.Sem
open Idealize.ShloMosaic.Pipeline (Dat)
open Cert.Gate Cert.Sigmoid

variable (m : (ℓ : Loc nD τ sig) → Buf (Elt Ideal) ℓ)

/-! ## The arguments, and the blocks the grid points read of them -/

abbrev o (c : Dev nD) : S4096x1024.Idx → EReal := m ((c : Thread nD τ).loc main_arg0)
abbrev w (c : Dev nD) : S1024x1024.Idx → EReal := m ((c : Thread nD τ).loc main_arg1)
abbrev lg (c : Dev nD) : S4096x2048.Idx → EReal := m ((c : Thread nD τ).loc main_arg2)
abbrev b (c : Dev nD) : S2048.Idx → EReal := m ((c : Thread nD τ).loc main_arg3)
abbrev u (c : Dev nD) : S4096x1024.Idx → EReal := m ((c : Thread nD τ).loc main_arg4)

theorem V_o (c : Dev nD) (j : S4096x1024.Idx) : V m c main_v0 j = o m c j := by
  unfold V hostOps0
  after_results_simp
  rfl

theorem V_w (c : Dev nD) (j : S1024x1024.Idx) : V m c main_v1 j = w m c j := by
  unfold V hostOps0
  after_results_simp
  rfl

theorem V_lg (c : Dev nD) (j : S4096x2048.Idx) : V m c main_v2 j = lg m c j := by
  unfold V hostOps0
  after_results_simp
  rfl

theorem V_u (c : Dev nD) (j : S4096x1024.Idx) : V m c main_v3 j = u m c j := by
  unfold V hostOps0
  after_results_simp
  rfl

theorem V_b (c : Dev nD) (j : Fin 2048) : V m c main_v4 (ix2 0 j) = b m c (ix1 j) := by
  unfold V hostOps0
  after_results_simp
  pointwise

/-- Row `r` of point `t`'s block of 512 rows. -/
def row (t : Fin cfg0.N) (r : Fin 512) : Fin 4096 := ⟨512 * t.val + r.val, by have : t.val < 8 := t.isLt; omega⟩

theorem emb5 (t : Fin cfg0.N) (r : Fin 512) (k : Fin 1024) : (win0_5.rect t).emb (ix2 r k) = ix2 (row t r) k :=
  emb_at (fun t => ![t.val, 0]) (by intro a; fin_cases a <;> simp [row] <;> omega)

theorem emb6 (t : Fin cfg0.N) (r : Fin 512) (k : Fin 1024) : (win0_6.rect t).emb (ix2 r k) = ix2 (row t r) k :=
  emb_at (fun t => ![t.val, 0]) (by intro a; fin_cases a <;> simp [row] <;> omega)

theorem blk0 (c : Dev nD) (t : Fin cfg0.N) (r : Fin 512) (k : Fin 1024) :
    iblk m c 0 t (ix2 r k) = o m c (ix2 (row t r) k) :=
  (congrArg (V m c main_v0) (emb_at (fun t => ![t.val, 0]) (by intro a; fin_cases a <;> simp [row] <;> omega))).trans (V_o m c _)

theorem blk1 (c : Dev nD) (t : Fin cfg0.N) (r : Fin 1024) (k : Fin 1024) :
    iblk m c 1 t (ix2 r k) = w m c (ix2 r k) :=
  (congrArg (V m c main_v1) (emb_at (fun t => ![0, 0]))).trans (V_w m c _)

theorem blk2 (c : Dev nD) (t : Fin cfg0.N) (r : Fin 512) (k : Fin 2048) :
    iblk m c 2 t (ix2 r k) = lg m c (ix2 (row t r) k) :=
  (congrArg (V m c main_v2) (emb_at (fun t => ![t.val, 0]) (by intro a; fin_cases a <;> simp [row] <;> omega))).trans (V_lg m c _)

theorem blk3 (c : Dev nD) (t : Fin cfg0.N) (k : Fin 2048) :
    iblk m c 3 t (ix2 0 k) = b m c (ix1 k) :=
  (congrArg (V m c main_v4) (emb_at (fun t => ![0, 0]))).trans (V_b m c k)

theorem blk4 (c : Dev nD) (t : Fin cfg0.N) (r : Fin 512) (k : Fin 1024) :
    iblk m c 4 t (ix2 r k) = u m c (ix2 (row t r) k) :=
  (congrArg (V m c main_v3) (emb_at (fun t => ![t.val, 0]) (by intro a; fin_cases a <;> simp [row] <;> omega))).trans (V_u m c _)

theorem flushed5 (c : Dev nD) (t : Fin cfg0.N) (r : Fin 512) (l : Fin 1024) :
    ((dats m 0 c).flushed 5 t (ix2 r l) : EReal) = proj (w m c) (o m c) (row t r) l := by
  rw [Cert.KernelProjGateIdeal.Value.flushed5 m c t]
  unfold out0_5
  simp only [Cert.Loads.mat]
  refine (Cert.Pieces.canon_hit _ _ _ (ix2 r l) (ix2 r l)).trans ?_
  pointwise [k0_pay2, k0_pay3]
  simp only [blk0, blk1]
  rfl

theorem flushed6 (c : Dev nD) (t : Fin cfg0.N) (r : Fin 512) (l : Fin 1024) :
    ((dats m 0 c).flushed 6 t (ix2 r l) : EReal) = merged (w m c) (lg m c) (b m c) (u m c) (o m c) (row t r) l := by
  rw [Cert.KernelProjGateIdeal.Value.flushed6 m c t]
  unfold out0_6
  simp only [Cert.Loads.mat]
  refine (Cert.Pieces.canon_hit _ _ _ (ix2 r l) (ix2 r l)).trans ?_
  pointwise [k0_pay1, k0_pay2, k0_pay4, k0_pay5]
  simp only [blk0, blk1, blk2, blk3, blk4]
  rfl

theorem final5 (c : Dev nD) : (dats m 0 c).arrAt 5 cfg0.N
    = fun i : S4096x1024.Idx => proj (w m c) (o m c) (i 0) (i 1) := by
  apply Dat.arrAt_eq_of_cover
  · intro t hf
    funext y
    obtain ⟨r, l, rfl⟩ : ∃ (r : Fin 512) (l : Fin 1024), y = ix2 r l := ⟨y 0, y 1, eq_ix2 y⟩
    refine (flushed5 m c t r l).trans ?_
    show _ = proj (w m c) (o m c) ((win0_5.rect t).emb (ix2 r l) 0) ((win0_5.rect t).emb (ix2 r l) 1)
    rw [emb5]
    rfl
  · exact (by decide +kernel : (cfg0.win 5).Covers).cover _ (Memref.isWhole_whole _)

theorem final6 (c : Dev nD) : (dats m 0 c).arrAt 6 cfg0.N
    = fun i : S4096x1024.Idx => merged (w m c) (lg m c) (b m c) (u m c) (o m c) (i 0) (i 1) := by
  apply Dat.arrAt_eq_of_cover
  · intro t hf
    funext y
    obtain ⟨r, l, rfl⟩ : ∃ (r : Fin 512) (l : Fin 1024), y = ix2 r l := ⟨y 0, y 1, eq_ix2 y⟩
    refine (flushed6 m c t r l).trans ?_
    show _ = merged (w m c) (lg m c) (b m c) (u m c) (o m c) ((win0_6.rect t).emb (ix2 r l) 0) ((win0_6.rect t).emb (ix2 r l) 1)
    rw [emb6]
    rfl
  · exact (by decide +kernel : (cfg0.win 6).Covers).cover _ (Memref.isWhole_whole _)

end Cert.ProjGateKernel

end
-- ==== Proof.ProjGateRef.lean ====
/-
  The results of the reference of the attention's projection and the gated merge, read one element at a time.
-/
module

public import proofs.«01_k».proof.Proof.Gen.ReferenceProjGateIdeal.Read
public import proofs.«01_k».proof.Proof.GateSpec

@[expose] public section

noncomputable section

namespace Cert.ProjGateRef

open Cert.ReferenceProjGateIdeal Cert.ReferenceProjGateIdeal.Gen Cert.ReferenceProjGateIdeal.Read Idealize.ShloMosaic
open Cert.Gate Cert.Sigmoid

variable (o : S4096x1024.Idx → EReal) (w : S1024x1024.Idx → EReal) (lg : S4096x2048.Idx → EReal)
  (b : S2048.Idx → EReal) (u : S4096x1024.Idx → EReal)

theorem ref_gate (i : Fin 4096) (j : Fin 2048) : val_main_v9 (F := Ideal) lg b (ix2 i j) = gate lg b i j := by
  pointwise [val_main_v9, val_main_v8, val_main_v7, val_main_v6, val_main_v5, val_main_v4, val_main_v3, val_main_v2, val_main_v1, val_main_cst, val_main_cst_0]
  exact div_eq_sig _

theorem ref_proj (i : Fin 4096) (l : Fin 1024) : val_main_v18 (F := Ideal) o w (ix2 i l) = proj w o i l := by
  pointwise [val_main_v18, val_main_v0]
  rfl

theorem ref_merged (i : Fin 4096) (l : Fin 1024) :
    val_main_v19 (F := Ideal) o w lg b u (ix2 i l) = merged w lg b u o i l := by
  pointwise [val_main_v19, val_main_v17, val_main_v16, val_main_v15, val_main_v14, val_main_v13, val_main_v12, val_main_v11, val_main_v10, val_main_v0]
  simp only [ref_gate]
  rfl

end Cert.ProjGateRef

end
-- ==== Proof.ProjGateClaim.lean ====
/-
  The kernel of the attention's projection and the gated merge and its reference leave the same two results.
-/
module

public import proofs.«01_k».proof.Defs
public import proofs.«01_k».proof.Proof.ProjGateKernel
public import proofs.«01_k».proof.Proof.ProjGateRef
public import proofs.«01_k».proof.Proof.Finite
public import Idealize.ShloMosaic.Lib.Quiescent

@[expose] public section

set_option maxRecDepth 16384

noncomputable section

namespace Cert.ProjGateClaim

open Idealize.ShloMosaic Idealize.ShloMosaic.TcCoe Idealize.SL.Sem
open Cert.ProjGateKernel Cert.Gate

theorem algebraic :
    Cert.algebraic_KernelProjGateIdeal_ReferenceProjGateIdeal := by
  intro m g0 m' g' _ hag
  refine ⟨fun c => fun i => proj (w m c) (o m c) (i 0) (i 1), fun c => fun i => merged (w m c) (lg m c) (b m c) (u m c) (o m c) (i 0) (i 1), ?_, ?_⟩
  · refine (θ_run Cert.KernelProjGateIdeal.defs _ _).mono (fun r h c => ?_) (Cert.KernelProjGateIdeal.Value.run_blocks m g0)
    obtain ⟨r0, r1, ha⟩ := h c
    exact ⟨r0.trans (final5 m c), r1.trans (final6 m c), ha⟩
  · refine (θ_run Cert.ReferenceProjGateIdeal.defs _ _).mono (fun r h c => ?_) (Cert.ReferenceProjGateIdeal.Value.run m' g')
    obtain ⟨r0, r1, ha⟩ := h c
    obtain ⟨a0, a1, a2, a3, a4⟩ := hag c
    rw [Cert.ReferenceProjGateIdeal.Read.val_main_v18_eq, a0, a1] at r0
    rw [Cert.ReferenceProjGateIdeal.Read.val_main_v19_eq, a0, a1, a2, a3, a4] at r1
    refine ⟨r0.trans (funext fun i => ?_), r1.trans (funext fun i => ?_), ha⟩
    · obtain ⟨p, q, rfl⟩ : ∃ (p : Fin 4096) (q : Fin 1024), i = ix2 p q := ⟨i 0, i 1, by funext a; fin_cases a <;> rfl⟩
      exact Cert.ProjGateRef.ref_proj _ _ p q
    · obtain ⟨p, q, rfl⟩ : ∃ (p : Fin 4096) (q : Fin 1024), i = ix2 p q := ⟨i 0, i 1, by funext a; fin_cases a <;> rfl⟩
      exact Cert.ProjGateRef.ref_merged _ _ _ _ _ p q

/-- The reference runs, leaves its arguments unchanged and has no semaphore. -/
theorem reference_runs : Cert.quiescent_ReferenceProjGateIdeal := fun m g _ =>
  (θ_run Cert.ReferenceProjGateIdeal.defs _ _).mono
    (fun r h => ⟨fun c => (h c).2.2, sem_eq_zero_of_no_sems (by decide) r.2⟩) (Cert.ReferenceProjGateIdeal.Value.run m g)

end Cert.ProjGateClaim

end
-- ==== Proof.LatFwdKernel.lean ====
/-
  What the kernel of the latents' norms and rotation leaves in its three result arrays.
-/
module

public import Idealize.ShloMosaic.Lib.Pipeline.ValueKit.Geometry
public import proofs.«01_k».proof.Proof.Gen.KernelLatFwdIdeal.Value
public import proofs.«01_k».proof.Proof.Pieces
public import proofs.«01_k».proof.Proof.Loads
public import proofs.«01_k».proof.Proof.LatSpec

@[expose] public section

set_option maxRecDepth 16384

noncomputable section

namespace Cert.LatFwdKernel

open Cert.KernelLatFwdIdeal Cert.KernelLatFwdIdeal.Gen Idealize.ShloMosaic Idealize.ShloMosaic.TcCoe Idealize.SL.Sem
open Idealize.ShloMosaic.Pipeline (Dat)
open Cert.Lat Cert.Norm

variable (m : (ℓ : Loc nD τ sig) → Buf (Elt Ideal) ℓ)

/-! ## The arguments, and the blocks the grid points read of them -/

abbrev lat (c : Dev nD) : S4096x768.Idx → EReal := m ((c : Thread nD τ).loc main_arg0)
abbrev qg (c : Dev nD) : S384.Idx → EReal := m ((c : Thread nD τ).loc main_arg1)
abbrev kg (c : Dev nD) : S256.Idx → EReal := m ((c : Thread nD τ).loc main_arg2)
abbrev pos (c : Dev nD) : S2x2048.Idx → BitVec 32 := m ((c : Thread nD τ).loc main_arg3)

theorem V_qg (c : Dev nD) (j : Fin 384) : V m c main_v23 (ix2 0 j) = qg m c (ix1 j) := by
  unfold V hostOps0
  after_results_simp
  pointwise

theorem V_kg (c : Dev nD) (j : Fin 256) : V m c main_v24 (ix2 0 j) = kg m c (ix1 j) := by
  unfold V hostOps0
  after_results_simp
  pointwise

theorem V_cos (c : Dev nD) (i : Fin 4096) (k : Fin 128) : V m c main_v20 (ix2 i k) = cosT (pos m c) i k := by
  unfold V hostOps0
  after_results_simp
  pointwise
  after_results_simp
  pointwise
  rfl

theorem V_sin (c : Dev nD) (i : Fin 4096) (k : Fin 128) : V m c main_v22 (ix2 i k) = sinT (pos m c) i k := by
  unfold V hostOps0
  after_results_simp
  pointwise
  after_results_simp
  pointwise
  rfl

/-- Row `r` of point `t`'s block of 512 rows. -/
def row (t : Fin cfg0.N) (r : Fin 512) : Fin 4096 := ⟨512 * t.val + r.val, by have : t.val < 8 := t.isLt; omega⟩

theorem emb5 (t : Fin cfg0.N) (r : Fin 512) (k : Fin 384) : (win0_5.rect t).emb (ix2 r k) = ix2 (row t r) k :=
  emb_at (fun t => ![t.val, 0]) (by intro a; fin_cases a <;> simp [row] <;> omega)

theorem emb6 (t : Fin cfg0.N) (r : Fin 512) (k : Fin 256) : (win0_6.rect t).emb (ix2 r k) = ix2 (row t r) k :=
  emb_at (fun t => ![t.val, 0]) (by intro a; fin_cases a <;> simp [row] <;> omega)

theorem emb7 (t : Fin cfg0.N) (r : Fin 512) (k : Fin 128) : (win0_7.rect t).emb (ix2 r k) = ix2 (row t r) k :=
  emb_at (fun t => ![t.val, 0]) (by intro a; fin_cases a <;> simp [row] <;> omega)

theorem blk0 (c : Dev nD) (t : Fin cfg0.N) (r : Fin 512) (k : Fin 768) :
    iblk m c 0 t (ix2 r k) = lat m c (ix2 (row t r) k) :=
  (congrArg (V m c main_arg0) (emb_at (fun t => ![t.val, 0]) (by intro a; fin_cases a <;> simp [row] <;> omega))).trans (congrFun (V_main_arg0 m c) _)

theorem blk1 (c : Dev nD) (t : Fin cfg0.N) (k : Fin 384) :
    iblk m c 1 t (ix2 0 k) = qg m c (ix1 k) :=
  (congrArg (V m c main_v23) (emb_at (fun t => ![0, 0]))).trans (V_qg m c k)

theorem blk2 (c : Dev nD) (t : Fin cfg0.N) (k : Fin 256) :
    iblk m c 2 t (ix2 0 k) = kg m c (ix1 k) :=
  (congrArg (V m c main_v24) (emb_at (fun t => ![0, 0]))).trans (V_kg m c k)

theorem blk3 (c : Dev nD) (t : Fin cfg0.N) (r : Fin 512) (k : Fin 128) :
    iblk m c 3 t (ix2 r k) = cosT (pos m c) (row t r) k :=
  (congrArg (V m c main_v20) (emb_at (fun t => ![t.val, 0]) (by intro a; fin_cases a <;> simp [row] <;> omega))).trans (V_cos m c _ k)

theorem blk4 (c : Dev nD) (t : Fin cfg0.N) (r : Fin 512) (k : Fin 128) :
    iblk m c 4 t (ix2 r k) = sinT (pos m c) (row t r) k :=
  (congrArg (V m c main_v22) (emb_at (fun t => ![t.val, 0]) (by intro a; fin_cases a <;> simp [row] <;> omega))).trans (V_sin m c _ k)

theorem low : ∀ k : Fin 128, IntOp.cmpi .slt (BitVec.ofNat 32 k.val) 32#32 = if k.val < 32 then 1#1 else 0#1 := by
  decide +kernel

theorem flushed5 (c : Dev nD) (t : Fin cfg0.N) (r : Fin 512) (l : Fin 384) :
    ((dats m 0 c).flushed 5 t (ix2 r l) : EReal) = normQ (lat m c) (qg m c) (row t r) l := by
  rw [Cert.KernelLatFwdIdeal.Value.flushed5 m c t]
  unfold out0_5
  simp only [Cert.Loads.mat]
  refine (Cert.Pieces.canon_hit _ _ _ (ix2 r l) (ix2 r l)).trans ?_
  pointwise [k0_pay2]
  simp only [blk0, blk1]
  rfl

theorem flushed6 (c : Dev nD) (t : Fin cfg0.N) (r : Fin 512) (l : Fin 256) :
    ((dats m 0 c).flushed 6 t (ix2 r l) : EReal) = normK (lat m c) (kg m c) (row t r) l := by
  rw [Cert.KernelLatFwdIdeal.Value.flushed6 m c t]
  unfold out0_6
  simp only [Cert.Loads.mat]
  refine (Cert.Pieces.canon_hit _ _ _ (ix2 r l) (ix2 r l)).trans ?_
  pointwise [k0_pay3]
  simp only [blk0, blk2]
  rfl

theorem flushed7 (c : Dev nD) (t : Fin cfg0.N) (r : Fin 512) (l : Fin 128) :
    ((dats m 0 c).flushed 7 t (ix2 r l) : EReal) = rotated (lat m c) (pos m c) (row t r) l := by
  rw [Cert.KernelLatFwdIdeal.Value.flushed7 m c t]
  unfold out0_7
  simp only [Cert.Loads.mat]
  refine (Cert.Pieces.canon_hit _ _ _ (ix2 r l) (ix2 r l)).trans ?_
  pointwise [k0_pay1]
  simp only [blk0, blk3, blk4]
  unfold rotated
  by_cases hk : l.val < 32
  · have e : (l.val + 128 - 96) % 128 = l.val + 32 := by omega
    simp only [hk, e, low, ↓reduceDIte, ↓reduceIte]
    rfl
  · have e : (l.val + 128 - 32) % 128 = l.val - 32 := by omega
    simp only [hk, e, low, ↓reduceDIte, ↓reduceIte]
    rfl

theorem final5 (c : Dev nD) : (dats m 0 c).arrAt 5 cfg0.N
    = fun i : S4096x384.Idx => normQ (lat m c) (qg m c) (i 0) (i 1) := by
  apply Dat.arrAt_eq_of_cover
  · intro t hf
    funext y
    obtain ⟨r, l, rfl⟩ : ∃ (r : Fin 512) (l : Fin 384), y = ix2 r l := ⟨y 0, y 1, eq_ix2 y⟩
    refine (flushed5 m c t r l).trans ?_
    show _ = normQ (lat m c) (qg m c) ((win0_5.rect t).emb (ix2 r l) 0) ((win0_5.rect t).emb (ix2 r l) 1)
    rw [emb5]
    rfl
  · exact (by decide +kernel : (cfg0.win 5).Covers).cover _ (Memref.isWhole_whole _)

theorem final6 (c : Dev nD) : (dats m 0 c).arrAt 6 cfg0.N
    = fun i : S4096x256.Idx => normK (lat m c) (kg m c) (i 0) (i 1) := by
  apply Dat.arrAt_eq_of_cover
  · intro t hf
    funext y
    obtain ⟨r, l, rfl⟩ : ∃ (r : Fin 512) (l : Fin 256), y = ix2 r l := ⟨y 0, y 1, eq_ix2 y⟩
    refine (flushed6 m c t r l).trans ?_
    show _ = normK (lat m c) (kg m c) ((win0_6.rect t).emb (ix2 r l) 0) ((win0_6.rect t).emb (ix2 r l) 1)
    rw [emb6]
    rfl
  · exact (by decide +kernel : (cfg0.win 6).Covers).cover _ (Memref.isWhole_whole _)

theorem final7 (c : Dev nD) : (dats m 0 c).arrAt 7 cfg0.N
    = fun i : S4096x128.Idx => rotated (lat m c) (pos m c) (i 0) (i 1) := by
  apply Dat.arrAt_eq_of_cover
  · intro t hf
    funext y
    obtain ⟨r, l, rfl⟩ : ∃ (r : Fin 512) (l : Fin 128), y = ix2 r l := ⟨y 0, y 1, eq_ix2 y⟩
    refine (flushed7 m c t r l).trans ?_
    show _ = rotated (lat m c) (pos m c) ((win0_7.rect t).emb (ix2 r l) 0) ((win0_7.rect t).emb (ix2 r l) 1)
    rw [emb7]
    rfl
  · exact (by decide +kernel : (cfg0.win 7).Covers).cover _ (Memref.isWhole_whole _)

end Cert.LatFwdKernel

end
-- ==== Proof.LatFwdRef.lean ====
/-
  The results of the reference of the latents' norms and rotation, read one element at a time.
-/
module

public import proofs.«01_k».proof.Proof.Gen.ReferenceLatFwdIdeal.Read
public import proofs.«01_k».proof.Proof.LatSpec

@[expose] public section

noncomputable section

namespace Cert.LatFwdRef

open Cert.ReferenceLatFwdIdeal Cert.ReferenceLatFwdIdeal.Gen Cert.ReferenceLatFwdIdeal.Read Idealize.ShloMosaic
open Cert.Lat Cert.Norm

variable (lat : S4096x768.Idx → EReal) (qg : S384.Idx → EReal) (kg : S256.Idx → EReal) (pos : S2x2048.Idx → BitVec 32)

theorem ref_scaleQ (i : Fin 4096) (o : Fin 1) : val_main_v41 (F := Ideal) lat (ix2 i o) = scale lenQ (rowQ lat i) := by
  pointwise [val_main_v41, val_main_v40, val_main_v39, val_main_v38, val_main_v37, val_main_v36, val_main_v35, val_main_v34, val_main_v20, val_main_v19, val_main_cst_4, val_main_cst_5, val_main_cst_6]
  rfl

theorem ref_normQ (i : Fin 4096) (j : Fin 384) : val_main_v47 (F := Ideal) lat qg (ix2 i j) = normQ lat qg i j := by
  pointwise [val_main_v47, val_main_v46, val_main_v45, val_main_v44, val_main_v43, val_main_v42, val_main_v20, val_main_v19]
  rw [ref_scaleQ]
  rfl

theorem ref_scaleK (i : Fin 4096) (o : Fin 1) : val_main_v55 (F := Ideal) lat (ix2 i o) = scale lenK (rowK lat i) := by
  pointwise [val_main_v55, val_main_v54, val_main_v53, val_main_v52, val_main_v51, val_main_v50, val_main_v49, val_main_v48, val_main_v21, val_main_v19, val_main_cst_7, val_main_cst_8, val_main_cst_9]
  rfl

theorem ref_normK (i : Fin 4096) (j : Fin 256) : val_main_v61 (F := Ideal) lat kg (ix2 i j) = normK lat kg i j := by
  pointwise [val_main_v61, val_main_v60, val_main_v59, val_main_v58, val_main_v57, val_main_v56, val_main_v21, val_main_v19]
  rw [ref_scaleK]
  rfl

theorem ref_cos (i : Fin 4096) (k : Fin 32) : val_main_v17 (F := Ideal) pos (ix2 i k) = Ideal.cos (Cert.AttnSpec.angle (posOf pos i) k) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem ref_sin (i : Fin 4096) (k : Fin 32) : val_main_v18 (F := Ideal) pos (ix2 i k) = Ideal.sin (Cert.AttnSpec.angle (posOf pos i) k) := by
  pointwise [val_main_v18, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- The rotated columns, and the padding, where the sines and the cosines are zero. -/
theorem ref_rotated (i : Fin 4096) (k : Fin 128) :
    val_main_v62 (F := Ideal) lat pos (ix2 i k) = rotated lat pos i k := by
  pointwise [val_main_v62, val_main_v33, val_main_v32, val_main_v31, val_main_v30, val_main_v29, val_main_v28, val_main_v27, val_main_v26, val_main_v25, val_main_v24, val_main_v23, val_main_v22, val_main_v19, val_main_cst_3]
  simp only [ref_cos, ref_sin]
  by_cases h1 : k.val < 32
  · have h2 : k.val < 64 := by omega
    simp only [rotated, cosT, sinT, h1, h2, ↓reduceDIte, Nat.add_comm 32 k.val]
    rw [mul_neg, ← sub_eq_add_neg]
  · by_cases h2 : k.val < 64
    · have h3 : k.val - 32 < 32 := by omega
      have h4 : 32 + (k.val - 32) = k.val := by omega
      simp only [rotated, cosT, sinT, h1, h2, h3, h4, ↓reduceDIte]
    · have h3 : ¬k.val - 32 < 32 := by omega
      simp only [rotated, cosT, sinT, h1, h2, h3, ↓reduceDIte, mul_zero, add_zero]

end Cert.LatFwdRef

end
-- ==== Proof.LatFwdClaim.lean ====
/-
  The kernel of the latents' norms and rotation and its reference leave the same three results.
-/
module

public import proofs.«01_k».proof.Defs
public import proofs.«01_k».proof.Proof.LatFwdKernel
public import proofs.«01_k».proof.Proof.LatFwdRef
public import proofs.«01_k».proof.Proof.Finite
public import Idealize.ShloMosaic.Lib.Quiescent

@[expose] public section

set_option maxRecDepth 16384

noncomputable section

namespace Cert.LatFwdClaim

open Idealize.ShloMosaic Idealize.ShloMosaic.TcCoe Idealize.SL.Sem
open Cert.LatFwdKernel Cert.Lat

theorem algebraic :
    Cert.algebraic_KernelLatFwdIdeal_ReferenceLatFwdIdeal := by
  intro m g0 m' g' _ hag
  refine ⟨fun c => fun i => normQ (lat m c) (qg m c) (i 0) (i 1), fun c => fun i => normK (lat m c) (kg m c) (i 0) (i 1), fun c => fun i => rotated (lat m c) (pos m c) (i 0) (i 1), ?_, ?_⟩
  · refine (θ_run Cert.KernelLatFwdIdeal.defs _ _).mono (fun r h c => ?_) (Cert.KernelLatFwdIdeal.Value.run_blocks m g0)
    obtain ⟨r0, r1, r2, ha⟩ := h c
    exact ⟨r0.trans (final5 m c), r1.trans (final6 m c), r2.trans (final7 m c), ha⟩
  · refine (θ_run Cert.ReferenceLatFwdIdeal.defs _ _).mono (fun r h c => ?_) (Cert.ReferenceLatFwdIdeal.Value.run m' g')
    obtain ⟨r0, r1, r2, ha⟩ := h c
    obtain ⟨a0, a1, a2, a3⟩ := hag c
    rw [Cert.ReferenceLatFwdIdeal.Read.val_main_v47_eq, a0, a1] at r0
    rw [Cert.ReferenceLatFwdIdeal.Read.val_main_v61_eq, a0, a2] at r1
    rw [Cert.ReferenceLatFwdIdeal.Read.val_main_v62_eq, a0, a3] at r2
    refine ⟨r0.trans (funext fun i => ?_), r1.trans (funext fun i => ?_), r2.trans (funext fun i => ?_), ha⟩
    · obtain ⟨p, q, rfl⟩ : ∃ (p : Fin 4096) (q : Fin 384), i = ix2 p q := ⟨i 0, i 1, by funext a; fin_cases a <;> rfl⟩
      exact Cert.LatFwdRef.ref_normQ _ _ p q
    · obtain ⟨p, q, rfl⟩ : ∃ (p : Fin 4096) (q : Fin 256), i = ix2 p q := ⟨i 0, i 1, by funext a; fin_cases a <;> rfl⟩
      exact Cert.LatFwdRef.ref_normK _ _ p q
    · obtain ⟨p, q, rfl⟩ : ∃ (p : Fin 4096) (q : Fin 128), i = ix2 p q := ⟨i 0, i 1, by funext a; fin_cases a <;> rfl⟩
      exact Cert.LatFwdRef.ref_rotated _ _ p q

/-- The reference runs, leaves its arguments unchanged and has no semaphore. -/
theorem reference_runs : Cert.quiescent_ReferenceLatFwdIdeal := fun m g _ =>
  (θ_run Cert.ReferenceLatFwdIdeal.defs _ _).mono
    (fun r h => ⟨fun c => (h c).2.2.2, sem_eq_zero_of_no_sems (by decide) r.2⟩) (Cert.ReferenceLatFwdIdeal.Value.run m g)

end Cert.LatFwdClaim

end
-- ==== Proof.PoolFwdKernel.lean ====
/-
  What the kernel of the pooling leaves in its result array.
-/
module

public import Idealize.ShloMosaic.Lib.Pipeline.ValueKit.Geometry
public import proofs.«01_k».proof.Proof.Gen.KernelPoolFwdIdeal.Value
public import proofs.«01_k».proof.Proof.Pieces
public import proofs.«01_k».proof.Proof.Loads
public import proofs.«01_k».proof.Proof.PoolSteps
public import proofs.«01_k».proof.Proof.PoolSpec
public import proofs.«01_k».proof.Proof.PoolKernel

@[expose] public section

set_option maxRecDepth 16384

noncomputable section

namespace Cert.PoolFwdKernel

open Cert.KernelPoolFwdIdeal Cert.KernelPoolFwdIdeal.Gen Idealize.ShloMosaic Idealize.ShloMosaic.TcCoe Idealize.SL.Sem
open Idealize.ShloMosaic.Pipeline (Dat)
open Cert.Pool
open Cert.PoolSteps (pooled0 pooled1 pooled2 pooled3 pooled0_at pooled1_at pooled2_at pooled3_at)
open Cert.PoolKernel (idxMap idxScale idxRows)

/-! ## A group's columns, from the pooled ones -/

section
variable (X : Vec Ideal S2048x128 .f32) (S : Vec Ideal S1x128 .f32) (M : Vec Ideal S1x128x128 .bf16)

/-- The pooled columns through the map, scaled. -/
def through (P : FVec Ideal S2048x128 .bf16) : FVec Ideal S2048x128 .bf16 :=
  truncf .bf16 (mulf (matmul dot_S2048x128_S128x128_S2048x128_1_0_0_1_n_n none P
      (shapeCast S128x128 M shapeCasts_S1x128x128_S128x128 : FVec Ideal S128x128 .bf16) (constant S2048x128 .f32 0x00000000#32))
    (broadcastTo S2048x128 (shapeCast S1x128 S shapeCasts_S1x128_S1x128) broadcasts_S1x128_S2048x128)) bitsLt_bf16_f32

theorem group0 : k0_pay2 (F := Ideal) X M S = through S M (pooled0 X) := rfl
theorem group1 : k0_pay5 (F := Ideal) (k0_pay3 X) (k0_pay4 X) (iota .tc S2048x128 32 [0] iota_S2048x128_d0_w32) 2#32 M S
    = through S M (pooled1 X) := rfl
theorem group2 : k0_pay9 (F := Ideal) (k0_pay6 X) (k0_pay7 X) (k0_pay8 X) M S = through S M (pooled2 X) := rfl
theorem group3 : k0_pay1 (F := Ideal) (k0_pay10 X) (k0_pay11 X) k0_pay12 (k0_pay13 X) M S = through S M (pooled3 X) := rfl

theorem through_at (P : FVec Ideal S2048x128 .bf16) (p : Fin 2048 → Fin 128 → EReal) (u : Fin 128 → Fin 128 → EReal) (v : Fin 128 → EReal)
    (hS : ∀ l, (S (ix2 0 l) : EReal) = v l) (hM : ∀ a b, (M (ix3 0 a b) : EReal) = u a b)
    (hP : ∀ r l, (P (ix2 r l) : EReal) = p r l) (r : Fin 2048) (l : Fin 128) :
    (through S M P (ix2 r l) : EReal) = (∑ a : Fin 128, p r a * u a l) * v l := by
  pointwise [through]
  simp only [hS, hM, hP]

end

variable (m : (ℓ : Loc nD τ sig) → Buf (Elt Ideal) ℓ)

/-! ## The arguments, and the blocks the grid points read of them -/

abbrev x3 (c : Dev nD) : S2x2048x512.Idx → EReal := m ((c : Thread nD τ).loc main_arg0)
abbrev w3 (c : Dev nD) : S4x128x128.Idx → EReal := m ((c : Thread nD τ).loc main_arg1)
abbrev s1 (c : Dev nD) : S512.Idx → EReal := m ((c : Thread nD τ).loc main_arg2)

abbrev x (c : Dev nD) : Act := fun b r l => x3 m c (ix3 b r l)
abbrev w (c : Dev nD) : Maps := fun g a e => w3 m c (ix3 g a e)
abbrev s (c : Dev nD) : Scale := fun l => s1 m c (ix1 l)

/-- Row `r` of sequence `t`. -/
def row (t : Fin cfg0.N) (r : Fin 2048) : Fin 4096 := ⟨2048 * t.val + r.val, by have : t.val < 2 := t.isLt; omega⟩

def seq (t : Fin cfg0.N) : Fin 2 := ⟨t.val, t.isLt⟩

theorem V_x (c : Dev nD) (t : Fin cfg0.N) (r : Fin 2048) (l : Fin 512) : V m c main_v0 (ix2 (row t r) l) = x m c (seq t) r l := by
  unfold V hostOps0
  after_results_simp
  pointwise
  refine congrArg (x3 m c) ?_
  have h0 : (2048 * t.val + r.val) / 2048 = t.val := by omega
  have h1 : (2048 * t.val + r.val) % 2048 = r.val := by omega
  funext a
  fin_cases a
  · exact Fin.ext h0
  · exact Fin.ext h1
  · rfl

theorem V_w (c : Dev nD) (g : Fin 4) (a e : Fin 128) : V m c main_v1 (ix3 g a e) = w m c g a e := by
  unfold V hostOps0
  after_results_simp
  pointwise

theorem V_s (c : Dev nD) (l : Fin 512) : V m c main_v2 (ix2 0 l) = s m c l := by
  unfold V hostOps0
  after_results_simp
  pointwise

theorem emb0 (t : Fin cfg0.N) (r : Fin 2048) (k : Fin 512) : (win0_0.rect t).emb (ix2 r k) = ix2 (row t r) k :=
  emb_at (fun t => ![t.val, 0]) (by intro a; fin_cases a <;> simp [row] <;> omega)

theorem emb2 (t : Fin cfg0.N) (k : Fin 512) : (win0_2.rect t).emb (ix2 0 k) = ix2 0 k :=
  emb_at (fun t => ![0, 0])

theorem emb3 (t : Fin cfg0.N) (r : Fin 2048) (k : Fin 512) : (win0_3.rect t).emb (ix2 r k) = ix2 (row t r) k :=
  emb_at (fun t => ![t.val, 0]) (by intro a; fin_cases a <;> simp [row] <;> omega)

section
variable (c : Dev nD) (t : Fin cfg0.N) (g : Fin 4) (n : ℕ)

theorem ldX (hn : n = 128 * g.val) (inb) (r : Fin 2048) (e : Fin 128) :
    (View.ld (iblk m c 0 t) (Rect.unit (s := S2048x512) ![0, n] ![2048, 128] inb) (ix2 r e) : EReal) = x m c (seq t) r (col g e) :=
  (congrArg (iblk m c 0 t) (idxRows g n hn inb r e)).trans ((congrArg (V m c main_v0) (emb0 t r (col g e))).trans (V_x m c t r (col g e)))

theorem ldM (hn : n = g.val) (inb) (a e : Fin 128) :
    (View.ld (iblk m c 1 t) (Rect.unit (s := S4x128x128) ![n, 0, 0] ![1, 128, 128] inb) (ix3 0 a e) : EReal) = w m c g a e :=
  (congrArg (iblk m c 1 t) (idxMap g n hn inb a e)).trans ((congrArg (V m c main_v1) (emb_at (fun t => ![0, 0, 0]))).trans (V_w m c g a e))

theorem ldS (hn : n = 128 * g.val) (inb) (e : Fin 128) :
    (View.ld (iblk m c 2 t) (Rect.unit (s := S1x512) ![0, n] ![1, 128] inb) (ix2 0 e) : EReal) = s m c (col g e) :=
  (congrArg (iblk m c 2 t) (idxScale g n hn inb e)).trans ((congrArg (V m c main_v2) (emb2 t (col g e))).trans (V_s m c (col g e)))

end

/-! ## What a grid point leaves -/

abbrev outAt (c : Dev nD) (i : Fin 4096) (l : Fin 512) : EReal := outp (x m c) (w m c) (s m c) i l

theorem out_row (c : Dev nD) (t : Fin cfg0.N) (g : Fin 4) (r : Fin 2048) (e : Fin 128) :
    mixed (x m c) (w m c) (seq t) g r e * s m c (col g e) = outAt m c (row t r) (col g e) := by
  have e0 : (⟨(row t r).val / 2048, by omega⟩ : Fin 2) = seq t := Fin.ext (show (2048 * t.val + r.val) / 2048 = t.val by omega)
  have e1 : (⟨(row t r).val % 2048, Nat.mod_lt _ (by decide)⟩ : Fin 2048) = r := Fin.ext (show (2048 * t.val + r.val) % 2048 = r.val by omega)
  have e2 : (⟨(col g e).val / 128, by omega⟩ : Fin 4) = g := Fin.ext (show (128 * g.val + e.val) / 128 = g.val by omega)
  have e3 : (⟨(col g e).val % 128, Nat.mod_lt _ (by decide)⟩ : Fin 128) = e := Fin.ext (show (128 * g.val + e.val) % 128 = e.val by omega)
  unfold outAt outp
  rw [e0, e1, e2, e3]

theorem flushed (c : Dev nD) (t : Fin cfg0.N) (g : Fin 4) (r : Fin 2048) (l : Fin 128) :
    ((dats m 0 c).flushed 3 t (ix2 r (col g l)) : EReal) = mixed (x m c) (w m c) (seq t) g r l * s m c (col g l) := by
  rw [Cert.KernelPoolFwdIdeal.Value.flushed3 m c t]
  unfold out0_3
  fin_cases g
  · refine (Cert.Pieces.canon_miss _ _ _ (ix2 r (col 0 l)) 1 (Or.inl (show (col 0 _).val < 384 by simp [col] <;> omega))).trans ?_
    refine (Cert.Pieces.canon_miss _ _ _ (ix2 r (col 0 l)) 1 (Or.inl (show (col 0 _).val < 256 by simp [col] <;> omega))).trans ?_
    refine (Cert.Pieces.canon_miss _ _ _ (ix2 r (col 0 l)) 1 (Or.inl (show (col 0 _).val < 128 by simp [col] <;> omega))).trans ?_
    refine (Cert.Pieces.canon_hit _ _ _ (ix2 r (col 0 l)) (ix2 r l) (by intro a; fin_cases a <;> simp [col])).trans ?_
    refine (congrFun (group0 _ _ _) _).trans ?_
    exact through_at _ _ _ (fun r a => pooled (x m c) (seq t) 0 r a) (w m c 0) (fun l => s m c (col 0 l)) (ldS m c t 0 _ rfl _) (ldM m c t 0 _ rfl _)
      (pooled0_at _ (fun r l => x m c (seq t) r (col 0 l)) (ldX m c t 0 _ rfl _)) r l
  · refine (Cert.Pieces.canon_miss _ _ _ (ix2 r (col 1 l)) 1 (Or.inl (show (col 1 _).val < 384 by simp [col] <;> omega))).trans ?_
    refine (Cert.Pieces.canon_miss _ _ _ (ix2 r (col 1 l)) 1 (Or.inl (show (col 1 _).val < 256 by simp [col] <;> omega))).trans ?_
    refine (Cert.Pieces.canon_hit _ _ _ (ix2 r (col 1 l)) (ix2 r l) (by intro a; fin_cases a <;> simp [col])).trans ?_
    refine (congrFun (group1 _ _ _) _).trans ?_
    exact through_at _ _ _ (fun r a => pooled (x m c) (seq t) 1 r a) (w m c 1) (fun l => s m c (col 1 l)) (ldS m c t 1 _ rfl _) (ldM m c t 1 _ rfl _)
      (pooled1_at _ (fun r l => x m c (seq t) r (col 1 l)) (ldX m c t 1 _ rfl _)) r l
  · refine (Cert.Pieces.canon_miss _ _ _ (ix2 r (col 2 l)) 1 (Or.inl (show (col 2 _).val < 384 by simp [col] <;> omega))).trans ?_
    refine (Cert.Pieces.canon_hit _ _ _ (ix2 r (col 2 l)) (ix2 r l) (by intro a; fin_cases a <;> simp [col])).trans ?_
    refine (congrFun (group2 _ _ _) _).trans ?_
    exact through_at _ _ _ (fun r a => pooled (x m c) (seq t) 2 r a) (w m c 2) (fun l => s m c (col 2 l)) (ldS m c t 2 _ rfl _) (ldM m c t 2 _ rfl _)
      (pooled2_at _ (fun r l => x m c (seq t) r (col 2 l)) (ldX m c t 2 _ rfl _)) r l
  · refine (Cert.Pieces.canon_hit _ _ _ (ix2 r (col 3 l)) (ix2 r l) (by intro a; fin_cases a <;> simp [col])).trans ?_
    refine (congrFun (group3 _ _ _) _).trans ?_
    exact through_at _ _ _ (fun r a => pooled (x m c) (seq t) 3 r a) (w m c 3) (fun l => s m c (col 3 l)) (ldS m c t 3 _ rfl _) (ldM m c t 3 _ rfl _)
      (pooled3_at _ (fun r l => x m c (seq t) r (col 3 l)) (ldX m c t 3 _ rfl _)) r l

theorem final3 (c : Dev nD) : (dats m 0 c).arrAt 3 cfg0.N = fun i : S4096x512.Idx => outAt m c (i 0) (i 1) := by
  apply Dat.arrAt_eq_of_cover
  · intro t hf
    funext y
    obtain ⟨r, k, rfl⟩ : ∃ (r : Fin 2048) (l : Fin 512), y = ix2 r l := ⟨y 0, y 1, eq_ix2 y⟩
    obtain ⟨g, l, rfl⟩ : ∃ (g : Fin 4) (l : Fin 128), k = col g l :=
      ⟨⟨k.val / 128, by omega⟩, ⟨k.val % 128, Nat.mod_lt _ (by decide)⟩, Fin.ext (show k.val = 128 * (k.val / 128) + k.val % 128 by omega)⟩
    refine ((flushed m c t g r l).trans (out_row m c t g r l)).trans ?_
    show _ = outAt m c ((win0_3.rect t).emb (ix2 r (col g l)) 0) ((win0_3.rect t).emb (ix2 r (col g l)) 1)
    rw [emb3]
    rfl
  · exact (by decide +kernel : (cfg0.win 3).Covers).cover _ (Memref.isWhole_whole _)

end Cert.PoolFwdKernel

end
-- ==== Proof.PoolFwdRef.lean ====
/-
  The result of the pooling's reference, read one element at a time.
-/
module

public import proofs.«01_k».proof.Proof.Gen.ReferencePoolFwdIdeal.Read
public import proofs.«01_k».proof.Proof.PoolRef

@[expose] public section

set_option maxRecDepth 16384

noncomputable section

namespace Cert.PoolFwdRef

open Cert.ReferencePoolFwdIdeal Cert.ReferencePoolFwdIdeal.Gen Cert.ReferencePoolFwdIdeal.Read Idealize.ShloMosaic
open Cert.Pool
open Cert.PoolRef (act maps scale)

variable (x : S2x2048x512.Idx → EReal) (w : S4x128x128.Idx → EReal) (s : S512.Idx → EReal)

/-- The reference of the gradient pools its input in the same way. -/
theorem same_pooled : val_main_v46 (F := Ideal) x = Cert.ReferencePoolIdeal.Read.val_main_v47 (F := Ideal) x := rfl

theorem ref_out (hx : ∀ i, x i = ((x i).toReal : EReal)) (i : Fin 4096) (l : Fin 512) :
    (val_main_v54 (F := Ideal) x w s (ix2 i l) : EReal) = outp (act x) (maps w) (scale s) i l := by
  have e : ∀ b r g c, val_main_v46 (F := Ideal) x (ix4 b r g c) = pooled (act x) b g r c :=
    fun b r g c => (congrFun (same_pooled x) _).trans (Cert.PoolRef.ref_pooled x hx b r g c)
  pointwise [val_main_v54, val_main_v53, val_main_v52, val_main_v51, val_main_v50, val_main_v49, val_main_v48, val_main_v47]
  simp only [e]
  refine congrArg (fun z : EReal => z * s (ix1 l)) (Finset.sum_congr rfl fun k _ => mul_comm _ _)

end Cert.PoolFwdRef

end
-- ==== Proof.PoolFwdClaim.lean ====
/-
  The kernel of the causal pooling and its reference leave the same result, wherever the input is finite.
-/
module

public import proofs.«01_k».proof.Defs
public import proofs.«01_k».proof.Proof.PoolFwdKernel
public import proofs.«01_k».proof.Proof.PoolFwdRef
public import proofs.«01_k».proof.Proof.Finite
public import Idealize.ShloMosaic.Lib.Quiescent

@[expose] public section

set_option maxRecDepth 16384

noncomputable section

namespace Cert.PoolFwdClaim

open Idealize.ShloMosaic Idealize.ShloMosaic.TcCoe Idealize.SL.Sem
open Cert.Pool Cert.PoolFwdKernel

/-- What the precondition says of the arguments it tests. -/
theorem finite [Cert.Pre_finite_poolf.Facts] (x0 : Cert.Pre_finite_poolf.S2x2048x512.Idx → EReal) (x1 : Cert.Pre_finite_poolf.S4x128x128.Idx → EReal) (x2 : Cert.Pre_finite_poolf.S512.Idx → EReal)
    (j : Cert.Pre_finite_poolf.S_.Idx) (h : Cert.Pre_finite_poolf.fn (F := Ideal) x0 x1 x2 j = 1#1) :
    (∀ i, x0 i = ((x0 i).toReal : EReal)) := by
  have : Subsingleton Cert.Pre_finite_poolf.S_.Idx := ⟨fun a b => funext fun i => i.elim0⟩
  unfold Cert.Pre_finite_poolf.fn at h
  dsimp only at h
  refine Cert.Finite.real_of_all _ _ _ _ _ _ ?_ h
  exact fun _ => rfl

theorem algebraic [hF : Cert.Pre_finite_poolf.Facts] :
    Cert.algebraic_KernelPoolFwdIdeal_ReferencePoolFwdIdeal_pre_finite_poolf := by
  intro m g0 m' g' hp hag
  have hf := fun c => finite _ _ _ (fun i => i.elim0) (congrFun (hp c) _)
  refine ⟨fun c => fun i => outAt m c (i 0) (i 1), ?_, ?_⟩
  · refine (θ_run Cert.KernelPoolFwdIdeal.defs _ _).mono (fun r h c => ?_) (Cert.KernelPoolFwdIdeal.Value.run_blocks m g0)
    obtain ⟨r0, ha⟩ := h c
    exact ⟨r0.trans (final3 m c), ha⟩
  · refine (θ_run Cert.ReferencePoolFwdIdeal.defs _ _).mono (fun r h c => ?_) (Cert.ReferencePoolFwdIdeal.Value.run m' g')
    obtain ⟨r0, ha⟩ := h c
    obtain ⟨a0, a1, a2⟩ := hag c
    have f0 := hf c
    rw [Cert.ReferencePoolFwdIdeal.Read.val_main_v54_eq, a0, a1, a2] at r0
    refine ⟨r0.trans (funext fun i => ?_), ha⟩
    · obtain ⟨p, q, rfl⟩ : ∃ (p : Fin 4096) (q : Fin 512), i = ix2 p q := ⟨i 0, i 1, by funext a; fin_cases a <;> rfl⟩
      exact Cert.PoolFwdRef.ref_out _ _ _ f0 p q

/-- The reference runs, leaves its arguments unchanged and has no semaphore. -/
theorem reference_runs : Cert.quiescent_ReferencePoolFwdIdeal := fun m g _ =>
  (θ_run Cert.ReferencePoolFwdIdeal.defs _ _).mono
    (fun r h => ⟨fun c => (h c).2, sem_eq_zero_of_no_sems (by decide) r.2⟩) (Cert.ReferencePoolFwdIdeal.Value.run m g)

end Cert.PoolFwdClaim

end
-- ==== Proof.SwapLaunch.lean ====
/-
# How the exchange of gradient halves is started

The exchange has no blocked windows: the two devices copy between whole arrays, and each device writes into the
result arrays of the *other* one.  So before either device starts, the result arrays have to change hands.  The
theorem here starts both devices at once and lets the certificate regroup what all of them hold, semaphores and arrays
alike, before each device takes its share.
-/
module

public import proofs.«01_k».proof.Proof.Gen.KernelSwapIdeal.Launch
public import Idealize.ShloMosaic.Lib.Pipeline.Launch
public import Idealize.ShloMosaic.Lib.Pipeline.Kit
public import Idealize.ShloMosaic.Lib.Tactic

@[expose] public section

noncomputable section

namespace Cert.SwapLaunch

open Cert.KernelSwapIdeal Cert.KernelSwapIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-- The bookkeeping of the semaphores: one copy the library's loop asks for, one for the exchange. -/
abbrev UU : Type := UR sig nD τ × UR sig nD τ

local notation "𝕄" => MT nD τ sig Unit (Elt F) ℕ UU ℕ

/-- The loop's copy of the bookkeeping. -/
abbrev EP : Emb (UR sig nD τ) (MT nD τ sig Unit (Elt F) ℕ UU ℕ) := embL
/-- The exchange's copy of the bookkeeping. -/
abbrev ER : Emb (UR sig nD τ) (MT nD τ sig Unit (Elt F) ℕ UU ℕ) := embR

/-- The four semaphores of a device: the two that tell a copy has left, the two that tell one has arrived. -/
abbrev semOf : Fin 4 → SemLoc sig := fun k => .dma k

omit [FloatOps F] in
/-- A conjunction over no windows says nothing. -/
theorem over_none (Φ : Fin 0 → sProp 𝕄) : bigSep Finset.univ Φ = BI.emp := by
  rw [Finset.univ_eq_empty, BI.bigSep_empty]

omit [FloatOps F] in
/-- The semaphores a device holds at zero are those four. -/
theorem sems_zero (c : Dev nD) :
    (scopedSems0 (c.tc : Thread nD τ) : sProp 𝕄) = bigSep Finset.univ fun k : Fin 4 => semVal ((c.tc : Thread nD τ), semOf k) 0 := by
  rw [show (scopedSems0 (c.tc : Thread nD τ) : sProp 𝕄) = _ from scopedSems0_tc c,
    show (Finset.univ.filter fun sm : SemLoc sig => sm.isScoped .tc) = Finset.univ.map ⟨semOf, fun a b h => by injection h⟩ from by decide,
    bigSep_map]
  rfl

omit [FloatOps F] in
/-- A device has no storage that lasts only for the call. -/
theorem no_scoped (c : Dev nD) : (scopedBufs (c.tc : Thread nD τ) : sProp 𝕄) = BI.emp := by
  rw [Pipeline.scopedBufs_split cfgs 0 winFacts0.stage_scoped winFacts0.stage_inj stage_whole0 c, scopedRest0_eq]
  rw [show (Dat.staging (cfgs 0) c : sProp 𝕄) = BI.emp from over_none _]
  exact equiv_iff.mp BI.emp_sep

/-- What the call leaves a device once its body has run. -/
def left (Y : Dev nD → sProp 𝕄) (c : Dev nD) : sProp 𝕄 := iprop(Y c ∗ scopedSems0 (c.tc : Thread nD τ))

/-- After the last point the device holds what its body left, and its semaphores are at zero. -/
theorem call_ends (dats : (p : Fin 1) → (c : Dev nD) → Dat τ (Elt F) Unit ℕ UU ℕ cfg0 c)
    (Y : Dev nD → sProp 𝕄) (hout : ∀ c, (dats 0 c).Φ (Fin.last cfg0.N)
      ⊢ iprop(Y c ∗ bigSep Finset.univ fun k : Fin 4 => semVal ((c.tc : Thread nD τ), semOf k) 0)) (c : Dev nD) :
    iprop((dats 0 c).Φ (Fin.last cfg0.N) ∗ Pipeline.cellsSems0 cfgs 0 c ∗ Dat.staging cfg0 c ∗ emp)
    ⊢ iprop(Y c ∗ scopedSems0 (c.tc : Thread nD τ) ∗ scopedBufs (c.tc : Thread nD τ)) := by
  rw [sems_zero, no_scoped]
  iintro ⟨HΦ, -, -, -⟩
  ihave H := (hout c) $$ HΦ
  icases H with ⟨HY, Hs⟩
  isplitl [HY]; · iexact HY
  isplitl; · iexact Hs
  iempintro

/-- What a device needs to enter the call: only what it owes, there being no windows. -/
theorem call_begins (dats : (p : Fin 1) → (c : Dev nD) → Dat τ (Elt F) Unit ℕ UU ℕ cfg0 c)
    (O₀ : Dev nD → CellTallies nD τ sig Unit) (howed : ∀ c, (dats 0 c).owed 0 = O₀ c) (c : Dev nD) :
    (owes (c.tc : Thread nD τ) (O₀ c) ∅ : sProp 𝕄)
    ⊢ Pipeline.EntryPre cfgs dats () EP (fun _ => 0) 0 c := by
  unfold Pipeline.EntryPre Pipeline.PerCore.EntryPre Dat.owesAt Pipeline.owesWithin
  rw [howed c, show ((dats 0 c).arrays fun w => (dats 0 c).arrAt w 0) = BI.emp from over_none _,
    show Pipeline.PerCore.cellsWaits (fun _ => cfgs) dats () 0 c = BI.emp from over_none _,
    show Pipeline.PerCore.cellsInit (fun _ => cfgs) dats EP (fun _ => 0) 0 c = BI.emp from over_none _,
    show (Pipeline.PerCore.toksInit (fun _ => cfgs) EP 0 c : sProp 𝕄) = BI.emp from over_none _]
  iintro HO
  isplitr; · iempintro
  isplitl [HO]
  · iexists ∅; isplitr; · ipureintro; rw [Finset.coe_empty]; exact Set.empty_subset _
    iexact HO
  isplitr; · iempintro
  isplitr; · iempintro
  iempintro

/-- Leaving the call, a device owes nothing. -/
theorem call_owes (dats : (p : Fin 1) → (c : Dev nD) → Dat τ (Elt F) Unit ℕ UU ℕ cfg0 c)
    (hdone : ∀ c, (dats 0 c).owed (Fin.last _) = 0) (c : Dev nD) :
    Pipeline.EntryPost cfgs dats () 0 c
    ⊢ (iprop(∃ W, owes (c.tc : Thread nD τ) (0 : CellTallies nD τ sig Unit) W) : sProp 𝕄) := by
  unfold Pipeline.EntryPost Pipeline.PerCore.EntryPost Dat.owesAt Pipeline.owesWithin
  rw [hdone c]
  iintro ⟨-, ⟨%W, -, HW⟩⟩
  iexists W
  iexact HW

/-- A device's run of the whole program: the one call. -/
theorem call_runs (dats : (p : Fin 1) → (c : Dev nD) → Dat τ (Elt F) Unit ℕ UU ℕ cfg0 c)
    (hbody : ∀ c, Pipeline.BodyObligationLoose (dats 0 c) (defs₀ (F := F)) Variants.none () Set.univ)
    (O₀ : Dev nD → CellTallies nD τ sig Unit) (howed : ∀ c, (dats 0 c).owed 0 = O₀ c)
    (hdone : ∀ c, (dats 0 c).owed (Fin.last _) = 0)
    (X Y : Dev nD → sProp 𝕄) (hin : ∀ c, X c ⊢ (dats 0 c).Φ 0)
    (hout : ∀ c, (dats 0 c).Φ (Fin.last cfg0.N)
      ⊢ iprop(Y c ∗ bigSep Finset.univ fun k : Fin 4 => semVal ((c.tc : Thread nD τ), semOf k) 0)) (c : Dev nD) :
    iprop(owes (c.tc : Thread nD τ) (O₀ c) ∅ ∗ X c)
    ⊢ wp frame (wpE (Pipeline.defs pcfgs (defs₀ (F := F))) (Variants.lift Variants.none) (c.tc : Thread nD τ) none) Set.univ
        (.op (.customCall (Pipeline.entry (0 : Fin 1)) ()) fun _ => .ret PUnit.unit)
        (fun _ => post (liftTc (left Y) BI.emp) (c.tc : Thread nD τ)) := by
  have enter := Pipeline.wp_customCall_entry_frame (pcfgs (F := F)) (fun p => (cfgs p).toPCfg_adm) dats () EP (fun _ => 0) cellOf_inj (0 : Fin 1)
    defs₀ Variants.none (fun _ => fullShare) c Set.univ (fun w _ => Fin.elim0 w) (hbody c) (fun w => Fin.elim0 w) none (fun u h => nomatch h)
    (X := X c) (Y := Y c) (R := iprop(emp)) (I := iprop(emp))
    (by rw [no_scoped, show (Dat.staging (Pipeline.pin pcfgs (fun p => (cfgs p).toPCfg_adm) 0) c : sProp 𝕄) = BI.emp from over_none _]
        iintro -; isplitl <;> iempintro)
    (by iintro ⟨HX, -, -⟩; iapply (hin c); iexact HX) (call_ends dats Y hout c)
    (k := fun _ => .ret PUnit.unit) (Q := fun _ => post (liftTc (left Y) BI.emp) (c.tc : Thread nD τ))
  iintro ⟨HO, HX⟩
  iapply enter $$ [HO HX]
  · isplitl [HO]; · iapply (call_begins dats O₀ howed c); iexact HO
    isplitr
    · rw [show (Pipeline.prefHeld (pcfgs (F := F) 0).pre c (fun _ => fullShare) (((cfgs 0).toPCfg_adm : (pcfgs (F := F) 0).Adm)).1 : sProp 𝕄) = BI.emp from over_none _]; iempintro
    isplitl [HX]; · iexact HX
    isplitr; · iempintro
    rw [no_scoped]; iempintro
  iintro ⟨Hpost, HY, Hs, -⟩
  rw [wp_ret]; imodintro
  unfold post; simp only [liftTc_tc, left]
  isplitr [Hpost]
  · isplitl [HY] <;> iassumption
  · iapply (call_owes dats hdone c); iexact Hpost

set_option maxHeartbeats 800000 in
/-- Starting both devices.  `G` is the bookkeeping dealt to each device at first; `hdeal` regroups it, with the
semaphores, the arrays and what each device is owed, into what each device starts from (`X`); the body leads from `X`
to `Y` and the four semaphores at zero; `Y` read against a final memory gives the fact `QY`. -/
theorem run_dealt (m : (ℓ : Loc nD τ sig) → Buf (Elt F) ℓ) (ρ : Dev nD → PrngReg)
    (dats : (p : Fin 1) → (c : Dev nD) → Dat τ (Elt F) Unit ℕ UU ℕ cfg0 c)
    (hbody : ∀ c, Pipeline.BodyObligationLoose (dats 0 c) (defs₀ (F := F)) Variants.none () Set.univ)
    (O₀ : Dev nD → CellTallies nD τ sig Unit) (howed : ∀ c, (dats 0 c).owed 0 = O₀ c)
    (hdone : ∀ c, (dats 0 c).owed (Fin.last _) = 0)
    (G X Y : Dev nD → sProp 𝕄) (u₀ : UU) (hu₀ : (ownU u₀ : sProp 𝕄) ⊢ |={Set.univ}=> bigSep Finset.univ G)
    (hdeal : (bigSep Finset.univ fun c : Dev nD =>
        iprop((bigSep Finset.univ fun k : Fin 4 => semVal ((c.tc : Thread nD τ), semOf k) 0)
          ∗ unscopedBufs c (fun b => m ((c.tc : Thread nD τ).loc b)) ∗ Pipeline.launchCred O₀ c ∗ G c) : sProp 𝕄)
      ⊢ |={Set.univ}=> bigSep Finset.univ X)
    (hin : ∀ c, X c ⊢ (dats 0 c).Φ 0)
    (hout : ∀ c, (dats 0 c).Φ (Fin.last cfg0.N)
      ⊢ iprop(Y c ∗ bigSep Finset.univ fun k : Fin 4 => semVal ((c.tc : Thread nD τ), semOf k) 0))
    (QY : Dev nD → MemSt nD τ sig (Elt F) → Prop)
    (hY : ∀ c (s' : Phys nD τ sig (Elt F)), iprop(Y c ∗ SI s') ⊢ |={Set.univ}=> iprop(⌜QY c s'.mem⌝ ∗ SI s')) :
    θ_run (defs (F := F)) (onTc (τ := τ) (main (F := F))) ⟨m, fun _ => 0, ρ⟩
      (fun r => (∀ c, QY c r.2) ∧ r.2.sem = fun _ => 0) := by
  let pre : Dev nD → sProp 𝕄 := fun c => iprop(owes (c.tc : Thread nD τ) (O₀ c) ∅ ∗ X c)
  refine (θ_run defs _ _).mono (Q := fun r => (∀ c : Dev nD, QY c r.2
      ∧ ∀ sm : SemLoc sig, sm.isScoped .tc = true → r.2.sem ((c.tc : Thread nD τ), sm) = 0)
      ∧ ∀ g : GSem nD τ sig, g.1.2 ≠ .tc → r.2.sem g = 0)
    (fun r hr => ⟨fun c => (hr.1 c).1,
      sem_eq_zero_of_scoped (by decide) (sems_of_reads (fun c => (hr.1 c).2) hr.2)⟩)
    (adequate_tpu defs _ _ _
      (reflect_intro_fupd_tc_sems (X := Unit) (Variants.lift Variants.none) (Pipeline.owing O₀) 0 (noBookings fun _ => le_rfl)
        (Pipeline.owing_of_ne O₀) u₀ (fun _ => pre) (fun _ => left Y) (fun _ => iprop(emp)) Set.univ ?_ (fun _ c => ?_) fun _ => ?_))
  · have one (c : Dev nD) :
        coreInit (Ix := Unit) (Name := ℕ) (U := UU) (Lvl := ℕ) (Pipeline.owing O₀) 0 (⟨m, fun _ => 0, ρ⟩ : MemSt nD τ sig (Elt F)) (c.tc : Thread nD τ)
          ⊢ iprop(iprop((bigSep Finset.univ fun k : Fin 4 => semVal ((c.tc : Thread nD τ), semOf k) 0)
                ∗ unscopedBufs c (fun b => m ((c.tc : Thread nD τ).loc b)) ∗ Pipeline.launchCred O₀ c)
              ∗ owes (c.tc : Thread nD τ) (O₀ c) ∅) :=
      (Pipeline.coreInit_boundary_owing O₀ m ρ c).trans (by
        unfold boundary
        rw [sems_zero c]
        iintro ⟨⟨-, Hs, -⟩, Hub, -, HO, -, -, Hcr⟩
        isplitr [HO]
        · isplitl [Hs]; · iexact Hs
          isplitl [Hub] <;> iassumption
        · iexact HO)
    have all : (bigSep Finset.univ fun c : Dev nD =>
          coreInit (Ix := Unit) (Name := ℕ) (U := UU) (Lvl := ℕ) (Pipeline.owing O₀) 0 (⟨m, fun _ => 0, ρ⟩ : MemSt nD τ sig (Elt F)) (c.tc : Thread nD τ))
        ⊢ (iprop(((bigSep Finset.univ fun c : Dev nD => bigSep Finset.univ fun k : Fin 4 => semVal ((c.tc : Thread nD τ), semOf k) 0)
                ∗ (bigSep Finset.univ fun c : Dev nD => unscopedBufs c (fun b => m ((c.tc : Thread nD τ).loc b)))
                ∗ bigSep Finset.univ fun c : Dev nD => Pipeline.launchCred O₀ c)
            ∗ bigSep Finset.univ fun c : Dev nD => owes (c.tc : Thread nD τ) (O₀ c) ∅) : sProp 𝕄) :=
      (bigSep_mono fun c _ => one c).trans (by rw [bigSep_sep', bigSep_sep', bigSep_sep']; exact BI.Entails.refl _)
    iintro ⟨Hcores, Hu⟩
    ihave Hc := all $$ Hcores
    icases Hc with ⟨Hh, HO⟩
    imod hu₀ $$ Hu with HG
    imod hdeal $$ [Hh HG] with HX
    · rw [bigSep_sep', bigSep_sep', bigSep_sep']
      icases Hh with ⟨H1, H2, H3⟩
      isplitl [H1]; · iexact H1
      isplitl [H2]; · iexact H2
      isplitl [H3]; · iexact H3
      iexact HG
    imodintro
    iexists ()
    isplitr []
    · simp only [pre, bigSep_sep']
      isplitl [HO] <;> iassumption
    · iempintro
  · exact call_runs dats hbody O₀ howed hdone X Y hin hout c
  · have core (c : Dev nD) (s' : Phys nD τ sig (Elt F)) : iprop(left Y c ∗ SI s') ⊢ |={Set.univ}=>
        iprop(⌜QY c s'.mem ∧ ∀ sm : SemLoc sig, sm.isScoped .tc = true → s'.mem.sem ((c.tc : Thread nD τ), sm) = 0⌝ ∗ SI s') := by
      unfold left
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ core s') $$ [H HSI] with %h
    · isplitl [H] <;> iassumption
    imodintro
    ipureintro
    exact ⟨fun c => h c (Finset.mem_univ c), hsc⟩

end Cert.SwapLaunch

end
-- ==== Proof.SwapSchedule.lean ====
/-
# The exchange of gradient halves: what travels and what each semaphore stands for

Each of the two devices sends the half of each of its two gradient arrays that belongs to the other device straight
into the other device's result array.  Semaphore `0` of a device says that its first copy has left, `1` that its second
has; `2` says that the other device's first copy has arrived here, `3` that its second has.
-/
module

public import proofs.«01_k».proof.Proof.SwapLaunch
public import proofs.«01_k».proof.Proof.Gen.KernelSwapIdeal.Skeleton

@[expose] public section

noncomputable section

namespace Cert.SwapSchedule

open Cert.KernelSwapIdeal Cert.KernelSwapIdeal.Gen Cert.SwapLaunch
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The other device -/

/-- The other one of the two devices. -/
def other (c : Dev nD) : Dev nD := ⟨1 - c.val, by show 1 - c.val < 2; omega⟩

theorem other_other (c : Dev nD) : other (other c) = c := by revert c; decide

/-- The device the kernel computes as the target of its first copy is the other one, -/
theorem target_up (c : Dev nD) : (⟨k0_dev1 c, k0_dev1_lt c⟩ : Dev nD) = other c :=
  Fin.ext ((k0_dev1_eq c).trans (by revert c; decide))
/-- and so is the target of its second. -/
theorem target_down (c : Dev nD) : (⟨k0_dev2 c, k0_dev2_lt c⟩ : Dev nD) = other c :=
  Fin.ext ((k0_dev2_eq c).trans (by revert c; decide))

/-- The swap of the two devices. -/
noncomputable def across : Dev nD ≃ Dev nD := ⟨other, other, other_other, other_other⟩

/-! ## What is sent -/

/-- The half of the first gradient that device `c` sends. -/
noncomputable abbrev upHalf (c : Dev nD) : Memref sig .tc .hbm S4x512x1408 .bf16 :=
  (Memref.whole main_arg0 : Memref sig .tc .hbm S4x1024x1408 .bf16).slice
    (Rect.unit (s := S4x1024x1408) (k0_off1 c) S4x512x1408.size (k0_off1_inb c)) (fun _ => rfl)
/-- The half of the second gradient that device `c` sends. -/
noncomputable abbrev downHalf (c : Dev nD) : Memref sig .tc .hbm S4x352x1024 .bf16 :=
  (Memref.whole main_arg1 : Memref sig .tc .hbm S4x704x1024 .bf16).slice
    (Rect.unit (s := S4x704x1024) (k0_off2 c) S4x352x1024.size (k0_off2_inb c)) (fun _ => rfl)

/-- Where the first half lands. -/
noncomputable abbrev upIn : Memref sig .tc .hbm S4x512x1408 .bf16 := Memref.whole main_v1_0
/-- Where the second half lands. -/
noncomputable abbrev downIn : Memref sig .tc .hbm S4x352x1024 .bf16 := Memref.whole main_v1_1

/-- What device `c` finds in its first result: the half the other device sent. -/
noncomputable def upGot (c : Dev nD) : Buf (Elt F) ((c : Thread nD τ).loc main_v1_0) :=
  (upHalf (other c)).view.read (Elt F) (m ((other c : Thread nD τ).loc main_arg0))
/-- What device `c` finds in its second result. -/
noncomputable def downGot (c : Dev nD) : Buf (Elt F) ((c : Thread nD τ).loc main_v1_1) :=
  (downHalf (other c)).view.read (Elt F) (m ((other c : Thread nD τ).loc main_arg1))

/-! ## The schedule of the semaphores -/

/-- Semaphore `k` of device `c`. -/
abbrev cell (ck : Dev nD × Fin 4) : GSem nD τ sig := ((ck.1 : Thread nD τ), semOf ck.2)

/-- How far a copy raises semaphore `k`. -/
noncomputable def amt (k : Fin 4) : ℕ := if k = 0 ∨ k = 2 then upIn.view.dmaCredit else downIn.view.dmaCredit

theorem amt_pos (k : Fin 4) : 0 < amt k := by
  unfold amt
  split
  · exact View.dmaCredit_pos _ (by decide)
  · exact View.dmaCredit_pos _ (by decide)

/-- What semaphore `k` of device `c` hands over: the sent half back, or the result filled. -/
noncomputable def parcel (c : Dev nD) : Fin 4 → sProp 𝕄
  | 0 => (upHalf c).view.loc (c : Thread nD τ) ↦[(upHalf c).view.set]{fullShare} m ((c : Thread nD τ).loc main_arg0)
  | 1 => (downHalf c).view.loc (c : Thread nD τ) ↦[(downHalf c).view.set]{fullShare} m ((c : Thread nD τ).loc main_arg1)
  | 2 => (c : Thread nD τ).loc main_v1_0 ↦{fullShare} upGot m c
  | 3 => (c : Thread nD τ).loc main_v1_1 ↦{fullShare} downGot m c

instance parcel_storable (c : Dev nD) (k : Fin 4) : BI.Storable (upEmb : UEmb _ 𝕄) (parcel m c k) := by
  match k with
  | 0 => unfold parcel; infer_instance
  | 1 => unfold parcel; infer_instance
  | 2 => unfold parcel; infer_instance
  | 3 => unfold parcel; infer_instance

/-- Every semaphore is used for one copy. -/
noncomputable def sched : Rounds.Schedule (GSem nD τ sig) Unit 𝕄 where
  duties g r := if r = 0 ∧ g.1.2 = .tc then {()} else ∅
  unitless _ := False
  amount g _ _ := match g.2 with | .dma k => amt k | .reg _ => 1
  payload g _ _ := match g.2 with | .dma k => parcel m g.1.1 k | .reg _ => iprop(emp)
  amount_pos g _ _ _ := by
    rcases g with ⟨t, s | k⟩
    · exact Nat.one_pos
    · exact amt_pos k

instance sched_storable (g : GSem nD τ sig) (r : ℕ) (d : Unit) :
    BI.Storable (upEmb : UEmb _ 𝕄) ((sched m).payload g r d) := by
  rcases g with ⟨t, s | k⟩
  · show BI.Storable upEmb iprop(emp); infer_instance
  · exact parcel_storable m t.1 k

section At
variable (c : Dev nD) (k : Fin 4)

omit [FloatOps F] in
theorem duties_at : (sched m).duties (cell (c, k)) 0 = {()} := by dsimp only [sched]; exact if_pos ⟨rfl, rfl⟩
omit [FloatOps F] in
theorem duties_later (g : GSem nD τ sig) : ∀ r, 1 ≤ r → (sched m).duties g r = ∅ :=
  fun r hr => by dsimp only [sched]; exact if_neg fun h => by omega
omit [FloatOps F] in
theorem expect_at : (sched m).expect (cell (c, k)) 0 = amt k := by
  unfold Schedule.expect Schedule.amountOf; rw [duties_at, Finset.sum_singleton]; rfl
omit [FloatOps F] in
theorem rest_at : bigSep ((sched m).duties (cell (c, k)) 0 \ ∅) (fun u => (sched m).payload (cell (c, k)) 0 u) = parcel m c k := by
  rw [Finset.sdiff_empty, duties_at, bigSep_singleton]; rfl

end At

/-- What device `c` owes at the start: the arrival of both halves at the other device. -/
noncomputable def owed (c : Dev nD) : CellTallies nD τ sig Unit :=
  tallyAt (cell (other c, 3)) () (amt 3) + tallyAt (cell (other c, 2)) () (amt 2)

/-! ## One wait -/

/-- A device waiting on its semaphore `k` gets what that stands for, and the semaphore back at zero. -/
theorem wait_at (K : ℕ) (c : Dev nD) (k : Fin 4) {w : TpuEff nD τ sig (Elt F) Λ₀ .tc PUnit} {k' : ℕ}
    (hw : ∀ P : PUnit → sProp 𝕄, wpE (defs₀ (F := F)) Variants.none (c : Thread nD τ) none Set.univ w P
      = waitSpec (c : Thread nD τ) Set.univ (semOf k) k' P) (hk : k' = amt k)
    {α : Type} {Q : α → sProp 𝕄} {next : PUnit → Prog (TpuEff nD τ sig (Elt F) Λ₀ .tc) α} (W : Waits sig Unit) :
    iprop(cellInv ER (sched m) K (cell (c, k)) ∗ cred (tallyAt (cell (c, k)) () (amt k)) ∗ owes (c : Thread nD τ) 0 W
        ∗ atPos ER (cell (c, k)) 0 ∅ 0)
      ⊢ iprop((((∃ W, owes (c : Thread nD τ) 0 W) ∗ semVal (cell (c, k)) 0 ∗ parcel m c k)
          -∗ wp frame (wpE (defs₀ (F := F)) Variants.none (c : Thread nD τ) none) Set.univ (next ⟨⟩) Q)
        -∗ wp frame (wpE (defs₀ (F := F)) Variants.none (c : Thread nD τ) none) Set.univ (.op w next) Q) := by
  subst hk
  iintro ⟨#HI, Hc, HO, Hat⟩ Hk
  iapply (Rounds.wp_wait_rest_token Variants.none ER (sched m) (c : Thread nD τ) none (κ := K) hw (Set.mem_univ _) () (O := 0) (W := W)
      (R := 0) (m := 0) (T := ∅) (by rw [Nat.zero_add]; exact (expect_at m c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_at m c k)) $$ Hpay
  imod (Rounds.cell_close ER (sched m) (Set.mem_univ K) (fun h => h) (R := 0 + 1) (duties_later m (cell (c, k)))) $$ [Hat] with Hz
  · isplitr; · iexact HI
    iexact Hat
  iapply Hk
  isplitl [HO]; · iexists _; iexact HO
  isplitl [Hz] <;> iassumption

end Cert.SwapSchedule

end
-- ==== Proof.SwapBody.lean ====
/-
# The exchange of gradient halves: one device's run

Two copies are started, each from a half of one of the device's own arrays into the other device's result array; then
the device waits four times: for its first copy to have left, for the other device's first copy to have arrived, and
the same for the second.  After that its own arrays are as they were and its results hold what was sent to it.
-/
module

public import proofs.«01_k».proof.Proof.SwapSchedule

@[expose] public section

noncomputable section

namespace Cert.SwapBody

open Cert.KernelSwapIdeal Cert.KernelSwapIdeal.Gen Cert.SwapLaunch Cert.SwapSchedule
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-! ## The semaphores as the program names them -/

theorem sem_left_up : ((cc0_scratch0.slice (Rect.unit (s := S2) ![0] ![1] inb_S2_S1_0)).squeeze S_ squeezes_S1_S_).sem = (0 : Fin 4) := by decide
theorem sem_left_down : ((cc0_scratch0.slice (Rect.unit (s := S2) ![1] ![1] inb_S2_S1_1)).squeeze S_ squeezes_S1_S_).sem = (1 : Fin 4) := by decide
theorem sem_come_up : ((cc0_scratch1.slice (Rect.unit (s := S2) ![0] ![1] inb_S2_S1_0)).squeeze S_ squeezes_S1_S_).sem = (2 : Fin 4) := by decide
theorem sem_come_down : ((cc0_scratch1.slice (Rect.unit (s := S2) ![1] ![1] inb_S2_S1_1)).squeeze S_ squeezes_S1_S_).sem = (3 : Fin 4) := by decide

theorem credit_0 (c : Dev nD) : (upHalf c).view.dmaCredit = amt 0 := rfl
theorem credit_1 (c : Dev nD) : (downHalf c).view.dmaCredit = amt 1 := rfl
theorem credit_2 : (upIn : Memref sig .tc .hbm S4x512x1408 .bf16).view.dmaCredit = amt 2 := rfl
theorem credit_3 : (downIn : Memref sig .tc .hbm S4x352x1024 .bf16).view.dmaCredit = amt 3 := rfl

/-! ## The results as parcels -/

theorem parcel_up (c : Dev nD) : parcel m c 2 = ((c : Thread nD τ).loc main_v1_0 ↦{fullShare} upGot m c) := rfl
theorem parcel_down (c : Dev nD) : parcel m c 3 = ((c : Thread nD τ).loc main_v1_1 ↦{fullShare} downGot m c) := rfl

/-! ## The two copies -/

/-- Starting the first copy: the device's debt for it is paid. -/
theorem send_up (K K' : ℕ) (c n : Dev nD) (hn : n = other c)
    {hsc : (upIn : Memref sig (Dev.tc n : Thread nD τ).2.kind .hbm S4x512x1408 .bf16).view.ref.isScScratch = false}
    {hsrc : (upHalf c).view.WordExact} {hdst : (upIn : Memref sig .tc .hbm S4x512x1408 .bf16).view.WordExact}
    {hsem : DmaTarget.Typed .hbm (.dma (2 : Fin 4) : SemLoc sig)
      (.remote (Dev.tc n : Thread nD τ) (upIn : Memref sig .tc .hbm S4x512x1408 .bf16) (.dma (0 : Fin 4)) hsc)}
    {α : Type} {Q : α → sProp 𝕄} {next : PUnit → Prog (TpuEff nD τ sig (Elt F) Λ₀ .tc) α} (W : Waits sig Unit) :
    iprop(cellInv ER (sched m) K (cell (c, 0)) ∗ cellInv ER (sched m) K' (cell (other c, 2))
        ∗ parcel m c 0 ∗ ((other c : Thread nD τ).loc main_v1_0 ↦{fullShare} m ((other c : Thread nD τ).loc main_v1_0))
        ∗ owes (c : Thread nD τ) (owed c) W
        ∗ dutyTok ER (cell (c, 0)) 0 () ∗ reached ER (cell (c, 0)) 0
        ∗ dutyTok ER (cell (other c, 2)) 0 () ∗ reached ER (cell (other c, 2)) 0)
      ⊢ iprop(((cred (tallyAt (cell (c, 0)) () (amt 0)) ∗ owes (c : Thread nD τ) (tallyAt (cell (other c, 3)) () (amt 3)) W)
            -∗ wp frame (wpE (defs₀ (F := F)) Variants.none (c : Thread nD τ) none) Set.univ (next ⟨⟩) Q)
          -∗ wp frame (wpE (defs₀ (F := F)) Variants.none (c : Thread nD τ) none) Set.univ
              (.op (.enqueueDma (upHalf c) (.remote (Dev.tc n : Thread nD τ) upIn (.dma (0 : Fin 4)) hsc) (.dma (2 : Fin 4)) hsrc hdst hsem) next) Q) := by
  subst hn
  have send := Rounds.wp_send_pointsTo Variants.none ER (sched m) (c : Thread nD τ) none (Γ := .empty) (Es := Set.univ) (defs := defs₀ (F := F)) (c' := (other c : Thread nD τ))
    (src := upHalf c) (dst := (upIn : Memref sig .tc .hbm S4x512x1408 .bf16)) (sS := .dma (0 : Fin 4)) (sem := .dma (2 : Fin 4))
    (hsc := hsc) (hsrc := hsrc) (hdst := hdst) (hsem := hsem) (k := next) (Q := Q) (q := fullShare)
    (fs := m ((c : Thread nD τ).loc main_arg0)) (fd := m ((other c : Thread nD τ).loc main_v1_0))
    (κ₁ := K) (κ₂ := K') (r₁ := 0) (r₂ := 0) (d₁ := ()) (d₂ := ())
    (by rw [duties_at]; exact Finset.mem_singleton_self _) (by rw [duties_at]; exact Finset.mem_singleton_self _)
    () () (amt 0) rfl rfl rfl (O₀ := owed c) (tallyAt (cell (other c, 3)) () (amt 3)) rfl (W := W)
    (BI.Entails.refl _)
    (Entails.of_eq (by
      show _ = parcel m (other c) 2
      rw [View.set_whole]
      unfold parcel upGot
      rw [other_other]
      exact congrArg _ (View.write_whole_univ _ _ _)))
  rw [View.set_whole] at send
  exact send

/-- Starting the second copy: the device owes nothing any more. -/
theorem send_down (K K' : ℕ) (c n : Dev nD) (hn : n = other c)
    {hsc : (downIn : Memref sig (Dev.tc n : Thread nD τ).2.kind .hbm S4x352x1024 .bf16).view.ref.isScScratch = false}
    {hsrc : (downHalf c).view.WordExact} {hdst : (downIn : Memref sig .tc .hbm S4x352x1024 .bf16).view.WordExact}
    {hsem : DmaTarget.Typed .hbm (.dma (3 : Fin 4) : SemLoc sig)
      (.remote (Dev.tc n : Thread nD τ) (downIn : Memref sig .tc .hbm S4x352x1024 .bf16) (.dma (1 : Fin 4)) hsc)}
    {α : Type} {Q : α → sProp 𝕄} {next : PUnit → Prog (TpuEff nD τ sig (Elt F) Λ₀ .tc) α} (W : Waits sig Unit) :
    iprop(cellInv ER (sched m) K (cell (c, 1)) ∗ cellInv ER (sched m) K' (cell (other c, 3))
        ∗ parcel m c 1 ∗ ((other c : Thread nD τ).loc main_v1_1 ↦{fullShare} m ((other c : Thread nD τ).loc main_v1_1))
        ∗ owes (c : Thread nD τ) (tallyAt (cell (other c, 3)) () (amt 3)) W
        ∗ dutyTok ER (cell (c, 1)) 0 () ∗ reached ER (cell (c, 1)) 0
        ∗ dutyTok ER (cell (other c, 3)) 0 () ∗ reached ER (cell (other c, 3)) 0)
      ⊢ iprop(((cred (tallyAt (cell (c, 1)) () (amt 1)) ∗ owes (c : Thread nD τ) 0 W)
            -∗ wp frame (wpE (defs₀ (F := F)) Variants.none (c : Thread nD τ) none) Set.univ (next ⟨⟩) Q)
          -∗ wp frame (wpE (defs₀ (F := F)) Variants.none (c : Thread nD τ) none) Set.univ
              (.op (.enqueueDma (downHalf c) (.remote (Dev.tc n : Thread nD τ) downIn (.dma (1 : Fin 4)) hsc) (.dma (3 : Fin 4)) hsrc hdst hsem) next) Q) := by
  subst hn
  have send := Rounds.wp_send_pointsTo Variants.none ER (sched m) (c : Thread nD τ) none (Γ := .empty) (Es := Set.univ) (defs := defs₀ (F := F)) (c' := (other c : Thread nD τ))
    (src := downHalf c) (dst := (downIn : Memref sig .tc .hbm S4x352x1024 .bf16)) (sS := .dma (1 : Fin 4)) (sem := .dma (3 : Fin 4))
    (hsc := hsc) (hsrc := hsrc) (hdst := hdst) (hsem := hsem) (k := next) (Q := Q) (q := fullShare)
    (fs := m ((c : Thread nD τ).loc main_arg1)) (fd := m ((other c : Thread nD τ).loc main_v1_1))
    (κ₁ := K) (κ₂ := K') (r₁ := 0) (r₂ := 0) (d₁ := ()) (d₂ := ())
    (by rw [duties_at]; exact Finset.mem_singleton_self _) (by rw [duties_at]; exact Finset.mem_singleton_self _)
    () () (amt 1) rfl rfl rfl (O₀ := tallyAt (cell (other c, 3)) () (amt 3)) 0 (by rw [zero_add]; rfl) (W := W)
    (BI.Entails.refl _)
    (Entails.of_eq (by
      show _ = parcel m (other c) 3
      rw [View.set_whole]
      unfold parcel downGot
      rw [other_other]
      exact congrArg _ (View.write_whole_univ _ _ _)))
  rw [View.set_whole] at send
  exact send

/-! ## The whole body -/

/-- The records of the semaphores a device uses: its own four and the two arrivals at the other device. -/
def records (K : Dev nD × Fin 4 → ℕ) (c : Dev nD) : sProp 𝕄 :=
  iprop(cellInv ER (sched m) (K (c, 0)) (cell (c, 0)) ∗ cellInv ER (sched m) (K (c, 1)) (cell (c, 1))
    ∗ cellInv ER (sched m) (K (c, 2)) (cell (c, 2)) ∗ cellInv ER (sched m) (K (c, 3)) (cell (c, 3))
    ∗ cellInv ER (sched m) (K (other c, 2)) (cell (other c, 2)) ∗ cellInv ER (sched m) (K (other c, 3)) (cell (other c, 3))
    ∗ reached ER (cell (c, 0)) 0 ∗ reached ER (cell (c, 1)) 0
    ∗ reached ER (cell (other c, 2)) 0 ∗ reached ER (cell (other c, 3)) 0)

instance records_persistent (K : Dev nD × Fin 4 → ℕ) (c : Dev nD) : BI.Persistent (records m K c) := by unfold records; infer_instance

/-- The rights a device uses up: its place at each of its semaphores, and one right per copy end. -/
def rights (c : Dev nD) : sProp 𝕄 :=
  iprop((atPos ER (cell (c, 0)) 0 ∅ 0 ∗ atPos ER (cell (c, 1)) 0 ∅ 0 ∗ atPos ER (cell (c, 2)) 0 ∅ 0 ∗ atPos ER (cell (c, 3)) 0 ∅ 0)
    ∗ dutyTok ER (cell (c, 0)) 0 () ∗ dutyTok ER (cell (c, 1)) 0 ()
    ∗ dutyTok ER (cell (other c, 2)) 0 () ∗ dutyTok ER (cell (other c, 3)) 0 ())

/-- A device's own arrays, as they were at the start. -/
def mine (c : Dev nD) : sProp 𝕄 :=
  iprop(((c : Thread nD τ).loc main_arg0 ↦{fullShare} m ((c : Thread nD τ).loc main_arg0))
    ∗ ((c : Thread nD τ).loc main_arg1 ↦{fullShare} m ((c : Thread nD τ).loc main_arg1)))

/-- A device's result arrays, as they were at the start. -/
def results (c : Dev nD) : sProp 𝕄 :=
  iprop(((c : Thread nD τ).loc main_v1_0 ↦{fullShare} m ((c : Thread nD τ).loc main_v1_0))
    ∗ ((c : Thread nD τ).loc main_v1_1 ↦{fullShare} m ((c : Thread nD τ).loc main_v1_1)))

/-- The arrivals a device is owed. -/
def promised (c : Dev nD) : sProp 𝕄 :=
  iprop(cred (tallyAt (cell (c, 2)) () (amt 2)) ∗ cred (tallyAt (cell (c, 3)) () (amt 3)))

/-- What a device starts from: its own arrays and the *other* device's results. -/
def start (c : Dev nD) : sProp 𝕄 :=
  iprop((∃ K, records m K c) ∗ rights c ∗ promised c ∗ mine m c ∗ results m (other c))

/-- What a device ends with: its own arrays, and its own results filled. -/
def after (c : Dev nD) : sProp 𝕄 :=
  iprop(mine m c ∗ ((c : Thread nD τ).loc main_v1_0 ↦{fullShare} upGot m c) ∗ ((c : Thread nD τ).loc main_v1_1 ↦{fullShare} downGot m c))

/-- All of a device's semaphores back at zero. -/
def zeros (c : Dev nD) : sProp 𝕄 :=
  iprop(semVal (cell (c, 0)) 0 ∗ semVal (cell (c, 1)) 0 ∗ semVal (cell (c, 2)) 0 ∗ semVal (cell (c, 3)) 0)

set_option maxHeartbeats 1600000 in
/-- One device's run of the exchange. -/
theorem exchange (c : Dev nD) (W : Waits sig Unit) (P : PUnit → sProp 𝕄) :
    iprop(start m c ∗ owes (c : Thread nD τ) (owed c) W
        ∗ ((after m c ∗ zeros c ∗ ∃ W, owes (c : Thread nD τ) 0 W) -∗ P ⟨⟩))
      ⊢ wp frame (wpE (defs₀ (F := F)) Variants.none (c : Thread nD τ) none) Set.univ
          (cc0_rs_swap_0a (Memref.whole main_arg0) (Memref.isWhole_whole _) (Memref.whole main_arg1) (Memref.isWhole_whole _)
            (Memref.whole main_v1_0) (Memref.isWhole_whole _) (Memref.whole main_v1_1) (Memref.isWhole_whole _) cc0_scratch0 cc0_scratch1) P := by
  simp only [cc0_rs_swap_0a_eq_skeleton]; unfold cc0_rs_swap_0a_skel
  simp only [k0_part1_eq_skeleton, k0_part2_eq_skeleton]; unfold k0_part1_skel k0_part2_skel
  simp only [Prog.lift, Prog.bind_op, Prog.bind_ret, Prog.pure_eq_ret, wp_deviceId]
  simp only [sem_left_up, sem_left_down, sem_come_up, sem_come_down]
  unfold start records rights promised mine results
  have upCut : ((c : Thread nD τ).loc main_arg0 ↦{fullShare} m ((c : Thread nD τ).loc main_arg0) : sProp 𝕄)
      ⊣⊢ iprop(parcel m c 0 ∗ ((c : Thread nD τ).loc main_arg0 ↦[Finset.univ \ (upHalf c).view.set]{fullShare} m ((c : Thread nD τ).loc main_arg0))) :=
    pointsTo_split_subset (Finset.subset_univ _)
  have downCut : ((c : Thread nD τ).loc main_arg1 ↦{fullShare} m ((c : Thread nD τ).loc main_arg1) : sProp 𝕄)
      ⊣⊢ iprop(parcel m c 1 ∗ ((c : Thread nD τ).loc main_arg1 ↦[Finset.univ \ (downHalf c).view.set]{fullShare} m ((c : Thread nD τ).loc main_arg1))) :=
    pointsTo_split_subset (Finset.subset_univ _)
  iintro ⟨⟨⟨%K, #HI0, #HI1, #HI2, #HI3, #HJ2, #HJ3, #Hr0, #Hr1, #Hs2, #Hs3⟩, ⟨⟨Ha0, Ha1, Ha2, Ha3⟩, Ht0, Ht1, Ht2, Ht3⟩, ⟨Hc2, Hc3⟩, ⟨Hup, Hdown⟩, Ho0, Ho1⟩, HO, Hend⟩
  ihave Hup' := upCut.1 $$ Hup
  icases Hup' with ⟨Hup, Hupr⟩
  ihave Hdown' := downCut.1 $$ Hdown
  icases Hdown' with ⟨Hdown, Hdownr⟩
  iapply (send_up m (K (c, 0)) (K (other c, 2)) c _ (target_up c) W) $$ [Hup Ho0 HO Ht0 Ht2]
  · isplitr; · iexact HI0
    isplitr; · iexact HJ2
    isplitl [Hup]; · iexact Hup
    isplitl [Ho0]; · iexact Ho0
    isplitl [HO]; · iexact HO
    isplitl [Ht0]; · iexact Ht0
    isplitr; · iexact Hr0
    isplitl [Ht2]; · iexact Ht2
    iexact Hs2
  iintro ⟨Hc0, HO⟩
  iapply (send_down m (K (c, 1)) (K (other c, 3)) c _ (target_down c) W) $$ [Hdown Ho1 HO Ht1 Ht3]
  · isplitr; · iexact HI1
    isplitr; · iexact HJ3
    isplitl [Hdown]; · iexact Hdown
    isplitl [Ho1]; · iexact Ho1
    isplitl [HO]; · iexact HO
    isplitl [Ht1]; · iexact Ht1
    isplitr; · iexact Hr1
    isplitl [Ht3]; · iexact Ht3
    iexact Hs3
  iintro ⟨Hc1, HO⟩
  iapply (wait_at m (K (c, 0)) c 0 (wpE_waitDma2_eq Variants.none (c : Thread nD τ) none Set.univ (dst := upHalf c)) (credit_0 c) W) $$ [Hc0 HO Ha0]
  · isplitr; · iexact HI0
    isplitl [Hc0]; · iexact Hc0
    isplitl [HO] <;> iassumption
  iintro ⟨⟨%W1, HO⟩, Hz0, Hup⟩
  iapply (wait_at m (K (c, 2)) c 2 (wpE_waitDma2_eq Variants.none (c : Thread nD τ) none Set.univ (dst := upIn)) credit_2 W1) $$ [Hc2 HO Ha2]
  · isplitr; · iexact HI2
    isplitl [Hc2]; · iexact Hc2
    isplitl [HO] <;> iassumption
  iintro ⟨⟨%W2, HO⟩, Hz2, Hup2⟩
  iapply (wait_at m (K (c, 1)) c 1 (wpE_waitDma2_eq Variants.none (c : Thread nD τ) none Set.univ (dst := downHalf c)) (credit_1 c) W2) $$ [Hc1 HO Ha1]
  · isplitr; · iexact HI1
    isplitl [Hc1]; · iexact Hc1
    isplitl [HO] <;> iassumption
  iintro ⟨⟨%W3, HO⟩, Hz1, Hdown⟩
  iapply (wait_at m (K (c, 3)) c 3 (wpE_waitDma2_eq Variants.none (c : Thread nD τ) none Set.univ (dst := downIn)) credit_3 W3) $$ [Hc3 HO Ha3]
  · isplitr; · iexact HI3
    isplitl [Hc3]; · iexact Hc3
    isplitl [HO] <;> iassumption
  iintro ⟨⟨%W4, HO⟩, Hz3, Hdown2⟩
  rw [wp_ret]; imodintro
  iapply Hend
  unfold after zeros mine
  isplitl [Hup Hupr Hdown Hdownr Hup2 Hdown2]
  · isplitl [Hup Hupr Hdown Hdownr]
    · isplitl [Hup Hupr]
      · iapply upCut.2; isplitl [Hup] <;> iassumption
      · iapply downCut.2; isplitl [Hdown] <;> iassumption
    isplitl [Hup2]; · rw [← parcel_up]; iexact Hup2
    rw [← parcel_down]; iexact Hdown2
  isplitl [Hz0 Hz1 Hz2 Hz3]
  · isplitl [Hz0]; · iexact Hz0
    isplitl [Hz1]; · iexact Hz1
    isplitl [Hz2] <;> iassumption
  · iexists W4; iexact HO

end Cert.SwapBody

end
-- ==== Proof.SwapRun.lean ====
/-
# The exchange of gradient halves: the run of both devices

At the start the rights to copy into a device's results, and those results, are dealt to the *other* device; everything
else stays where it is.  Each device then runs the exchange, and what is left says what every array holds.
-/
module

public import proofs.«01_k».proof.Proof.SwapBody

@[expose] public section

noncomputable section

namespace Cert.SwapRun

open Cert.KernelSwapIdeal Cert.KernelSwapIdeal.Gen Cert.SwapLaunch Cert.SwapSchedule Cert.SwapBody
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

omit [FloatOps F] in
/-- The four semaphores one after another. -/
theorem over_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The body as the call wants it -/

/-- The call of one device: before the body what it starts from, after it what it ends with. -/
def dats (_ : Fin 1) (c : Dev nD) : Dat τ (Elt F) Unit ℕ UU ℕ cfg0 c where
  A w := w.elim0
  after w := w.elim0
  Φ t := if t = 0 then start m c else iprop(after m c ∗ zeros c)
  q w := w.elim0
  owed t := if t = 0 then owed c else 0

/-- The one grid point runs the exchange. -/
theorem body_runs (c : Dev nD) : Pipeline.BodyObligationLoose (dats m 0 c) (defs₀ (F := F)) Variants.none () Set.univ := by
  intro t
  rw [fin_N0 t]
  have none_there (Φ : Fin 0 → sProp 𝕄) : bigSep Finset.univ Φ = BI.emp := over_none Φ
  unfold Dat.owesAt Pipeline.owesWithin
  rw [show (dats m 0 c).Φ t0_0.castSucc = start m c from rfl, show (dats m 0 c).Φ t0_0.succ = iprop(after m c ∗ zeros c) from rfl,
    show (dats m 0 c).owed t0_0.castSucc = owed c from rfl, show (dats m 0 c).owed t0_0.succ = 0 from rfl]
  iintro ⟨HΦ, ⟨%W, -, HO⟩, -⟩
  iapply (exchange m c W _)
  isplitl [HΦ]; · iexact HΦ
  isplitl [HO]; · iexact HO
  iintro ⟨Ha, Hz, ⟨%W', HO⟩⟩
  isplitl [Ha Hz]
  · isplitl [Ha] <;> iassumption
  isplitl [HO]
  · iexists W'
    isplitr
    · ipureintro; exact fun _ _ => Or.inl trivial
    iexact HO
  iapply (Entails.of_eq (none_there _).symm)
  iempintro

/-! ## What each device is given -/

/-- All semaphores of both devices. -/
def cells : Finset (GSem nD τ sig) :=
  Finset.univ.map ⟨cell, fun a b h => Prod.ext (Fin.ext (congrArg (fun g : GSem nD τ sig => g.1.1.val) h))
    (by have := congrArg Prod.snd h; injection this)⟩
/-- One right per semaphore. -/
def copyRights : Finset (GSem nD τ sig × ℕ × Unit) := cells.map ⟨fun g => (g, 0, ()), fun _ _ h => congrArg Prod.fst h⟩

/-- What the schedule gives device `c` for each of its semaphores. -/
def share (c : Dev nD) : sProp 𝕄 :=
  iprop((bigSep Finset.univ fun k : Fin 4 => roundState ER (sched m) (cell (c, k)) 0)
    ∗ (bigSep Finset.univ fun k : Fin 4 => reached ER (cell (c, k)) 0)
    ∗ (bigSep Finset.univ fun k : Fin 4 => atPos ER (cell (c, k)) 0 ∅ 0)
    ∗ bigSep Finset.univ fun k : Fin 4 => dutyTok ER (cell (c, k)) 0 ())

/-- The schedule set up for all semaphores. -/
theorem shares_made : BI.own (ER (initOf cells copyRights)) ⊢ (|==> bigSep Finset.univ (share m) : sProp 𝕄) := by
  have each (Φ : GSem nD τ sig → sProp 𝕄) : bigSep cells Φ = bigSep Finset.univ fun c : Dev nD => bigSep Finset.univ fun k : Fin 4 => Φ (cell (c, k)) := by
    unfold cells; rw [bigSep_map, bigSep_univ_prod]; rfl
  have tok : bigSep copyRights (fun x => (dutyTok ER x.1 x.2.1 x.2.2 : sProp 𝕄)) = bigSep cells fun g => dutyTok ER g 0 () := by
    unfold copyRights; rw [bigSep_map]; rfl
  iintro HX
  imod (Rounds.fund ER (sched m) cells copyRights) $$ HX with ⟨Hst, Hr, Hat, Htok⟩
  imodintro
  unfold share
  simp only [bigSep_sep']
  rw [← each (fun g => roundState ER (sched m) g 0), ← each (fun g => reached ER g 0), ← each (fun g => atPos ER g 0 ∅ 0),
    ← each (fun g => dutyTok ER g 0 ()), ← tok]
  isplitl [Hst]; · iexact Hst
  isplitl [Hr]; · iexact Hr
  isplitl [Hat] <;> iassumption

/-- What stays with a device. -/
def kept (c : Dev nD) : sProp 𝕄 :=
  iprop((atPos ER (cell (c, 0)) 0 ∅ 0 ∗ atPos ER (cell (c, 1)) 0 ∅ 0 ∗ atPos ER (cell (c, 2)) 0 ∅ 0 ∗ atPos ER (cell (c, 3)) 0 ∅ 0)
    ∗ (dutyTok ER (cell (c, 0)) 0 () ∗ dutyTok ER (cell (c, 1)) 0 ()) ∗ promised c ∗ mine m c)

/-- What a device hands to the other one: the rights to copy into its results, and the results. -/
def given (c : Dev nD) : sProp 𝕄 :=
  iprop((dutyTok ER (cell (c, 2)) 0 () ∗ dutyTok ER (cell (c, 3)) 0 ()) ∗ results m c)

/-- What the other device owes at an arrival semaphore is what this one is promised. -/
theorem owed_at (d c : Dev nD) (k : Fin 4) (hk : k = 2 ∨ k = 3) : owed d (cell (c, k)) () = if d = other c then amt k else 0 := by
  have dev (a : Dev nD) (i j : Fin 4) : cell (c, j) = cell (a, i) ↔ c = a ∧ j = i :=
    ⟨fun h => ⟨Fin.ext (congrArg (fun g : GSem nD τ sig => g.1.1.val) h), by have := congrArg Prod.snd h; injection this⟩,
      fun h => by rw [h.1, h.2]⟩
  have turn : c = other d ↔ d = other c := ⟨fun h => by rw [h, other_other], fun h => by rw [h, other_other]⟩
  unfold SwapSchedule.owed
  rw [Pi.add_apply, Finsupp.add_apply, tallyAt_apply, tallyAt_apply]
  simp only [dev, turn, and_true]
  rcases hk with rfl | rfl <;> by_cases h : d = other c <;> simp [h]

theorem launch_at (c : Dev nD) (k : Fin 4) (hk : k = 2 ∨ k = 3) :
    tallyOn (cell (c, k)) (launchCredit (Pipeline.owing owed) 0 (cell (c, k))) = (tallyAt (cell (c, k)) () (amt k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (other c) fun _ => amt k, if_pos (Finset.mem_univ _)]

omit [FloatOps F] in
theorem promises (c : Dev nD) : (Pipeline.launchCred owed c : sProp 𝕄) ⊢ promised c := by
  unfold Pipeline.launchCred promised
  rw [bigSep_univ_at _ (semOf 2), launch_at c 2 (Or.inl rfl)]
  refine sep_mono_right ?_
  rw [← launch_at c 3 (Or.inr rfl)]
  exact bigSep_elim (i := semOf 3) (Finset.mem_erase.mpr ⟨by decide, Finset.mem_univ _⟩)

/-- A device's storage: its two arrays and its two results. -/
theorem storage (c : Dev nD) : (unscopedBufs c (fun b => m ((c.tc : Thread nD τ).loc b)) : sProp 𝕄) ⊢ iprop(mine m c ∗ results m c) := by
  rw [Pipeline.unscopedBufs_split cfgs 0 (fun w => Fin.elim0 w) (fun w => Fin.elim0 w) c, unscopedRest0_eq]
  unfold mine results
  iintro ⟨-, H0, H1, H2, H3⟩
  isplitl [H0 H1]
  · isplitl [H0] <;> iassumption
  · isplitl [H2] <;> iassumption

/-- Each device opens its semaphores for the exchange. -/
theorem opened (c : Dev nD) :
    iprop((bigSep Finset.univ fun k : Fin 4 => semVal ((c.tc : Thread nD τ), semOf k) 0)
        ∗ unscopedBufs c (fun b => m ((c.tc : Thread nD τ).loc b)) ∗ Pipeline.launchCred owed c ∗ share m c)
      ⊢ |={Set.univ}=> iprop((bigSep Finset.univ fun k : Fin 4 => iprop(∃ κ : ℕ, cellInv ER (sched m) κ (cell (c, k))))
          ∗ (bigSep Finset.univ fun k : Fin 4 => reached ER (cell (c, k)) 0) ∗ kept m c ∗ given m c) := by
  unfold share
  iintro ⟨Hv, Hb, Hc, Hst, Hr, Hat, Ht⟩
  imod (show iprop((bigSep Finset.univ fun k : Fin 4 => semVal (cell (c, k)) 0) ∗ bigSep Finset.univ fun k : Fin 4 => roundState ER (sched m) (cell (c, k)) 0)
      ⊢ (|={Set.univ}=> bigSep Finset.univ fun k : Fin 4 => iprop(∃ κ : ℕ, cellInv ER (sched m) κ (cell (c, k))) : sProp 𝕄) from by
        rw [← bigSep_sep']
        exact (bigSep_mono fun k _ => (Rounds.body_intro ER (sched m) (cell (c, k))).trans inv_alloc).trans (bigSep_fupd _ _)) $$ [Hv Hst] with Hinv
  · isplitl [Hv] <;> iassumption
  imodintro
  ihave Hb' := (storage m c) $$ Hb
  icases Hb' with ⟨Hm, Hres⟩
  ihave Hp := (promises (F := F) c) $$ Hc
  ihave Hat' := (Entails.of_eq (over_four fun k => (atPos ER (cell (c, k)) 0 ∅ 0 : sProp 𝕄))) $$ Hat
  ihave Ht' := (Entails.of_eq (over_four fun k => (dutyTok ER (cell (c, k)) 0 () : sProp 𝕄))) $$ Ht
  icases Ht' with ⟨Ht0, Ht1, Ht2, Ht3⟩
  unfold kept given
  isplitl [Hinv]; · iexact Hinv
  isplitl [Hr]; · iexact Hr
  isplitl [Hat' Ht0 Ht1 Hp Hm]
  · isplitl [Hat']; · iexact Hat'
    isplitl [Ht0 Ht1]
    · isplitl [Ht0] <;> iassumption
    isplitl [Hp] <;> iassumption
  · isplitl [Ht2 Ht3]
    · isplitl [Ht2] <;> iassumption
    iexact Hres

/-- The records of all semaphores of both devices. -/
def allRecords (K : Dev nD × Fin 4 → ℕ) : sProp 𝕄 :=
  iprop((bigSep Finset.univ fun ck : Dev nD × Fin 4 => cellInv ER (sched m) (K ck) (cell ck))
    ∗ bigSep Finset.univ fun ck : Dev nD × Fin 4 => reached ER (cell ck) 0)

instance allRecords_persistent (K : Dev nD × Fin 4 → ℕ) : BI.Persistent (allRecords m K) := by unfold allRecords; infer_instance

/-- With all records, its own things and what the other gave it, a device can start. -/
theorem started (K : Dev nD × Fin 4 → ℕ) (c : Dev nD) : iprop(allRecords m K ∗ kept m c ∗ given m (other c)) ⊢ start m c := by
  have inv (ck : Dev nD × Fin 4) : (bigSep Finset.univ fun ck : Dev nD × Fin 4 => (cellInv ER (sched m) (K ck) (cell ck) : sProp 𝕄))
      ⊢ cellInv ER (sched m) (K ck) (cell ck) := bigSep_elim (Finset.mem_univ ck)
  have got (ck : Dev nD × Fin 4) : (bigSep Finset.univ fun ck : Dev nD × Fin 4 => (reached ER (cell ck) 0 : sProp 𝕄))
      ⊢ reached ER (cell ck) 0 := bigSep_elim (Finset.mem_univ ck)
  unfold allRecords kept given start records rights
  iintro ⟨⟨#HI, #HR⟩, ⟨Hat, ⟨Ht0, Ht1⟩, Hp, Hm⟩, ⟨Ht2, Ht3⟩, Hres⟩
  isplitr [Hat Ht0 Ht1 Ht2 Ht3 Hp Hm Hres]
  · iexists K
    isplitr; · iapply (inv (c, 0)); iexact HI
    isplitr; · iapply (inv (c, 1)); iexact HI
    isplitr; · iapply (inv (c, 2)); iexact HI
    isplitr; · iapply (inv (c, 3)); iexact HI
    isplitr; · iapply (inv (other c, 2)); iexact HI
    isplitr; · iapply (inv (other c, 3)); iexact HI
    isplitr; · iapply (got (c, 0)); iexact HR
    isplitr; · iapply (got (c, 1)); iexact HR
    isplitr; · iapply (got (other c, 2)); iexact HR
    iapply (got (other c, 3)); iexact HR
  isplitl [Hat Ht0 Ht1 Ht2 Ht3]
  · isplitl [Hat]; · iexact Hat
    isplitl [Ht0]; · iexact Ht0
    isplitl [Ht1]; · iexact Ht1
    isplitl [Ht2] <;> iassumption
  isplitl [Hp]; · iexact Hp
  isplitl [Hm] <;> iassumption

/-- The records put together and the gifts handed across, both devices can start. -/
theorem regrouped : (bigSep Finset.univ fun c : Dev nD =>
      iprop((bigSep Finset.univ fun k : Fin 4 => iprop(∃ κ : ℕ, cellInv ER (sched m) κ (cell (c, k))))
        ∗ (bigSep Finset.univ fun k : Fin 4 => reached ER (cell (c, k)) 0) ∗ kept m c ∗ given m c) : sProp 𝕄)
    ⊢ bigSep Finset.univ (start m) := by
  rw [bigSep_sep', bigSep_sep', bigSep_sep', bigSep_univ_equiv across (given m),
    ← bigSep_univ_prod (fun ck : Dev nD × Fin 4 => iprop(∃ κ : ℕ, cellInv ER (sched m) κ (cell ck))),
    ← bigSep_univ_prod (fun ck : Dev nD × Fin 4 => (reached ER (cell ck) 0 : sProp 𝕄))]
  iintro ⟨HI, #HR, Hk, Hg⟩
  ihave HK := (BI.bigSep_exists_pi Finset.univ (fun (ck : Dev nD × Fin 4) (κ : ℕ) => (cellInv ER (sched m) κ (cell ck) : sProp 𝕄))) $$ HI
  icases HK with ⟨%K, #HI⟩
  iapply (show iprop(allRecords m K ∗ bigSep Finset.univ fun c : Dev nD => iprop(kept m c ∗ given m (other c))) ⊢ bigSep Finset.univ (start m) from
    (sep_mono_left (BI.bigSep_of_persistent Finset.univ (allRecords m K))).trans (by rw [← bigSep_sep']; exact bigSep_mono fun c _ => started m K c))
  isplitr
  · unfold allRecords; isplitl; · iexact HI
    iexact HR
  · rw [bigSep_sep']
    isplitl [Hk]; · iexact Hk
    iexact Hg

/-- Everything dealt out, both devices can start. -/
theorem dealt : (bigSep Finset.univ fun c : Dev nD =>
      iprop((bigSep Finset.univ fun k : Fin 4 => semVal ((c.tc : Thread nD τ), semOf k) 0)
        ∗ unscopedBufs c (fun b => m ((c.tc : Thread nD τ).loc b)) ∗ Pipeline.launchCred owed c ∗ share m c) : sProp 𝕄)
    ⊢ |={Set.univ}=> bigSep Finset.univ (start m) :=
  ((bigSep_mono fun c _ => opened m c).trans (bigSep_fupd _ _)).trans (BI.fupd_mono (regrouped m))

/-! ## The run -/

/-- What the run leaves in memory. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1_0) = upGot m c
    ∧ s.mem ((c : Thread nD τ).loc main_v1_1) = downGot m c

/-- What a device ends with, read against the memory. -/
theorem reads (c : Dev nD) (s' : Phys nD τ sig (Elt F)) : iprop(after m c ∗ SI s') ⊢ |={Set.univ}=> iprop(⌜Ends m c s'.mem⌝ ∗ SI s') := by
  unfold after mine Ends
  iintro ⟨⟨⟨H0, H1⟩, H2, H3⟩, HSI⟩
  ihave %h0 := (SI_pointsTo_agree) $$ [HSI H0]
  · isplitl [HSI] <;> iassumption
  ihave %h1 := (SI_pointsTo_agree) $$ [HSI H1]
  · isplitl [HSI] <;> iassumption
  ihave %h2 := (SI_pointsTo_agree) $$ [HSI H2]
  · isplitl [HSI] <;> iassumption
  ihave %h3 := (SI_pointsTo_agree) $$ [HSI H3]
  · isplitl [HSI] <;> iassumption
  imodintro
  isplitr
  · ipureintro
    exact ⟨funext fun i => h0 i (Finset.mem_univ i), funext fun i => h1 i (Finset.mem_univ i),
      funext fun i => h2 i (Finset.mem_univ i), funext fun i => h3 i (Finset.mem_univ i)⟩
  · iexact HSI

/-- Both devices run to the end; their arrays are unchanged, their results hold what the other sent, and every semaphore is
at zero. -/
theorem run_main (ρ : Dev nD → PrngReg) :
    θ_run (defs (F := F)) (onTc (τ := τ) (main (F := F))) ⟨m, fun _ => 0, ρ⟩ (fun r => (∀ c, Ends m c r.2) ∧ r.2.sem = fun _ => 0) :=
  run_dealt m ρ (dats m) (body_runs m) owed (fun _ => rfl) (fun _ => rfl) (share m) (start m) (after m)
    (initOf (Pipeline.cells cfgs cellOf_inj) (Pipeline.launchToks cfgs cellOf_inj), initOf cells copyRights)
    (by
      iintro Hu
      ihave H := (ownU_pair _ _) $$ Hu
      icases H with ⟨-, HX⟩
      imod (shares_made m) $$ HX with HG
      imodintro
      iexact HG)
    (dealt m) (fun _ => BI.Entails.refl _)
    (fun c => by
      rw [over_four]
      exact BI.Entails.refl _)
    (Ends m) (reads m)

end Cert.SwapRun

end
-- ==== Proof.SwapClaim.lean ====
/-
  The exchange of gradient halves and its reference: each device's results are its blocks of the two joined arrays.
-/
module

public import proofs.«01_k».proof.Defs
public import proofs.«01_k».proof.Proof.Gen.KernelSwap
public import proofs.«01_k».proof.Proof.SwapRun
public import proofs.«01_k».proof.Proof.Gen.ReferenceSwapIdeal.Run
public import Idealize.ShloMosaic.Lib.Quiescent
public import Idealize.ShloMosaic.Lib.Pipeline.Value

@[expose] public section

noncomputable section

namespace Cert.SwapClaim

open Idealize.ShloMosaic Idealize.ShloMosaic.TcCoe Idealize.SL.Sem
open Cert.SwapSchedule Cert.SwapRun

/-- The second half of the blocks with their first rows, followed by the first half with their last rows, read at block
`c`: the other block, at the rows of which the first is `r * c`. -/
theorem crossed {α : Type} {R r w : ℕ} (x : (⟨3, ![8, R, w]⟩ : Shape).Idx → α)
    (late : (⟨3, ![8, R, w]⟩ : Shape).Slices ![4, 0, 0] ⟨3, ![4, r, w]⟩) (low : (⟨3, ![8, R, w]⟩ : Shape).Slices ![0, r, 0] ⟨3, ![4, r, w]⟩)
    (join : Shape.Concatenates [(⟨3, ![4, r, w]⟩ : Shape), ⟨3, ![4, r, w]⟩] ⟨3, ![8, r, w]⟩ 0)
    (c : Fin 2) (i : (⟨3, ![4, r, w]⟩ : Shape).Idx) (j : (⟨3, ![8, r, w]⟩ : Shape).Idx) (k : (⟨3, ![8, R, w]⟩ : Shape).Idx)
    (j0 : (j 0).val = 4 * c.val + (i 0).val) (j1 : (j 1).val = (i 1).val) (j2 : (j 2).val = (i 2).val)
    (k0 : (k 0).val = 4 * (1 - c.val) + (i 0).val) (k1 : (k 1).val = r * c.val + (i 1).val) (k2 : (k 2).val = (i 2).val) :
    concatenate ⟨3, ![8, r, w]⟩ 0 [⟨⟨3, ![4, r, w]⟩, extractStridedSlice ⟨3, ![4, r, w]⟩ ![4, 0, 0] x late⟩,
      ⟨⟨3, ![4, r, w]⟩, extractStridedSlice ⟨3, ![4, r, w]⟩ ![0, r, 0] x low⟩] join j = x k := by
  have rest : ∀ b : Fin 3, b ≠ 0 → (i b).val = (j b).val := by
    intro b hb
    fin_cases b
    · exact absurd rfl hb
    · exact j1.symm
    · exact j2.symm
  let parts : List ((s : Shape) × (s.Idx → α)) := [⟨⟨3, ![4, r, w]⟩, extractStridedSlice ⟨3, ![4, r, w]⟩ ![4, 0, 0] x late⟩,
    ⟨⟨3, ![4, r, w]⟩, extractStridedSlice ⟨3, ![4, r, w]⟩ ![0, r, 0] x low⟩]
  obtain rfl | rfl : c = 0 ∨ c = 1 := by clear j0 k0 k1; revert c; decide
  · refine (concatenate_apply_piece (t := ⟨3, ![8, r, w]⟩) 0 parts join j 0 Nat.zero_lt_two ⟨3, ![4, r, w]⟩ _ rfl rfl 0 rfl i rest (j0.trans (by simp)).symm).trans ?_
    refine extractStridedSlice_apply ![4, 0, 0] x late i k fun a => ?_
    fin_cases a
    · exact k0.trans (by simp)
    · exact k1.trans (by simp)
    · exact k2.trans (by simp)
  · refine (concatenate_apply_piece (t := ⟨3, ![8, r, w]⟩) 0 parts join j 1 Nat.one_lt_two ⟨3, ![4, r, w]⟩ _ rfl rfl 4 rfl i rest (j0.trans (by simp)).symm).trans ?_
    refine extractStridedSlice_apply ![0, r, 0] x low i k fun a => ?_
    fin_cases a
    · exact k0.trans (by simp)
    · exact k1.trans (by simp)
    · exact k2.trans (by simp)

/-- The first rows another device sends. -/
theorem rows_up (c : Dev KernelSwapIdeal.nD) : KernelSwapIdeal.k0_off1 (other c) = ![0, 512 * c.val, 0] := by
  rw [KernelSwapIdeal.Gen.k0_off1_eq]; revert c; decide
theorem rows_down (c : Dev KernelSwapIdeal.nD) : KernelSwapIdeal.k0_off2 (other c) = ![0, 352 * c.val, 0] := by
  rw [KernelSwapIdeal.Gen.k0_off2_eq]; revert c; decide

/-- The block a device holds is that of its number, -/
theorem block_of (c : Fin 2) : Layout.meshLin [1, 1, 2] c.val [2] = c.val := by revert c; decide

/-- and the sent half is read where it lies in the sender's block. -/
theorem at_up (c : Dev KernelSwapIdeal.nD) (i : (⟨3, ![4, 512, 1408]⟩ : Shape).Idx) (a : Fin 3) :
    ((upHalf (other c)).view.emb i a).val = ![0, 512 * c.val, 0] a + (i a).val := by
  rw [← rows_up]
  show _ + 1 * (i a).val = _
  rw [Nat.one_mul]; rfl
theorem at_down (c : Dev KernelSwapIdeal.nD) (i : (⟨3, ![4, 352, 1024]⟩ : Shape).Idx) (a : Fin 3) :
    ((downHalf (other c)).view.emb i a).val = ![0, 352 * c.val, 0] a + (i a).val := by
  rw [← rows_down]
  show _ + 1 * (i a).val = _
  rw [Nat.one_mul]; rfl

theorem algebraic : Cert.algebraic_KernelSwapIdeal_ReferenceSwapIdeal := by
  intro m g m' g' _ hag
  refine ⟨_, _, ?_, (θ_run Cert.ReferenceSwapIdeal.defs _ _).mono (fun r h => h 0) (Cert.ReferenceSwapIdeal.Value.run m' g')⟩
  refine (θ_run Cert.KernelSwapIdeal.defs _ _).mono (fun r h c => ?_) (run_main m g)
  obtain ⟨a0, a1, r0, r1⟩ := h.1 c
  refine ⟨r0.trans (funext fun i => ?_), r1.trans (funext fun i => ?_), a0, a1⟩
  · unfold upGot
    rw [(hag (other c)).1]
    refine (crossed _ _ _ _ c i _ _ ?_ ?_ ?_ ?_ ?_ ?_).symm
    · show Layout.meshLin [1, 1, 2] c.val [2] * 4 + (i 0).val = _
      rw [block_of]; omega
    · show 0 * 512 + (i 1).val = _
      omega
    · show 0 * _ + (i 2).val = _
      omega
    · refine (congrArg (Layout.meshLin [1, 1, 2] (other c).val [2] * 4 + ·) (at_up c i 0)).trans ?_
      rw [block_of]
      show (1 - c.val) * 4 + (0 + (i 0).val) = _
      omega
    · refine (congrArg (0 * 1024 + ·) (at_up c i 1)).trans ?_
      show 0 * 1024 + (512 * c.val + (i 1).val) = _
      omega
    · refine (congrArg (0 * 1408 + ·) (at_up c i 2)).trans ?_
      show 0 * 1408 + (0 + (i 2).val) = _
      omega
  · unfold downGot
    rw [(hag (other c)).2]
    refine (crossed _ _ _ _ c i _ _ ?_ ?_ ?_ ?_ ?_ ?_).symm
    · show Layout.meshLin [1, 1, 2] c.val [2] * 4 + (i 0).val = _
      rw [block_of]; omega
    · show 0 * 352 + (i 1).val = _
      omega
    · show 0 * _ + (i 2).val = _
      omega
    · refine (congrArg (Layout.meshLin [1, 1, 2] (other c).val [2] * 4 + ·) (at_down c i 0)).trans ?_
      rw [block_of]
      show (1 - c.val) * 4 + (0 + (i 0).val) = _
      omega
    · refine (congrArg (0 * 704 + ·) (at_down c i 1)).trans ?_
      show 0 * 704 + (352 * c.val + (i 1).val) = _
      omega
    · refine (congrArg (0 * 1024 + ·) (at_down c i 2)).trans ?_
      show 0 * 1024 + (0 + (i 2).val) = _
      omega

/-- The exchange runs at bits: both arrays unchanged, every semaphore at zero. -/
theorem kernel_runs : Cert.quiescent_KernelSwap := fun m g _ =>
  (θ_run Cert.KernelSwapIdeal.defs _ _).mono (fun _ h => ⟨fun c => ⟨(h.1 c).1, (h.1 c).2.1⟩, h.2⟩) (run_main (F := Bits) m g)

/-- And so it does at idealized values. -/
theorem ideal_runs : Cert.quiescent_KernelSwapIdeal := fun m g _ =>
  (θ_run Cert.KernelSwapIdeal.defs _ _).mono (fun _ h => ⟨fun c => ⟨(h.1 c).1, (h.1 c).2.1⟩, h.2⟩) (run_main (F := Ideal) m g)

/-- The reference runs, leaves its arguments unchanged and has no semaphore. -/
theorem reference_runs : Cert.quiescent_ReferenceSwapIdeal := fun m g _ =>
  (θ_run Cert.ReferenceSwapIdeal.defs _ _).mono
    (fun r h => ⟨fun c => (h c).2.2, sem_eq_zero_of_no_sems (by decide) r.2⟩) (Cert.ReferenceSwapIdeal.Value.run m g)

end Cert.SwapClaim

end
-- ==== Proof.DownSpec.lean ====
/-
  The second product of the gated unit: half of it is added to the unit's input.
-/
module

public import Idealize.ShloMosaic.Lib.Pointwise

@[expose] public section

noncomputable section

namespace Cert.Down

open Idealize.ShloMosaic

variable (x : (Shape.mk 2 ![4096, 1024]).Idx → EReal) (a : (Shape.mk 2 ![4096, 2816]).Idx → EReal)
  (w : (Shape.mk 2 ![2816, 1024]).Idx → EReal)

/-- The factor one half, as both programs write it. -/
abbrev half : EReal := Scalar.ofBits (F := Ideal) .f32 0x3F000000#32

/-- The sum. -/
def out (i : Fin 4096) (j : Fin 1024) : EReal := x (ix2 i j) + half * ∑ k : Fin 2816, a (ix2 i k) * w (ix2 k j)

end Cert.Down

end
-- ==== Proof.DownKernel.lean ====
/-
  What the kernel of the gated unit's second product leaves in its result array.
-/
module

public import Idealize.ShloMosaic.Lib.Pipeline.ValueKit.Geometry
public import proofs.«01_k».proof.Proof.Gen.KernelDownIdeal.Value
public import proofs.«01_k».proof.Proof.Pieces
public import proofs.«01_k».proof.Proof.Loads
public import proofs.«01_k».proof.Proof.DownSpec

@[expose] public section

set_option maxRecDepth 16384

noncomputable section

namespace Cert.DownKernel

open Cert.KernelDownIdeal Cert.KernelDownIdeal.Gen Idealize.ShloMosaic Idealize.ShloMosaic.TcCoe Idealize.SL.Sem
open Idealize.ShloMosaic.Pipeline (Dat)
open Cert.Down

variable (m : (ℓ : Loc nD τ sig) → Buf (Elt Ideal) ℓ)

/-! ## The arguments, and the blocks the grid points read of them -/

abbrev x (c : Dev nD) : S4096x1024.Idx → EReal := m ((c : Thread nD τ).loc main_arg0)
abbrev a (c : Dev nD) : S4096x2816.Idx → EReal := m ((c : Thread nD τ).loc main_arg1)
abbrev w (c : Dev nD) : S2816x1024.Idx → EReal := m ((c : Thread nD τ).loc main_arg2)

theorem V_a (c : Dev nD) (j : S4096x2816.Idx) : V m c main_v0 j = a m c j := by
  unfold V hostOps0
  after_results_simp
  rfl

theorem V_w (c : Dev nD) (j : S2816x1024.Idx) : V m c main_v1 j = w m c j := by
  unfold V hostOps0
  after_results_simp
  rfl

/-- Row `r` of point `t`'s block of 512 rows. -/
def row (t : Fin cfg0.N) (r : Fin 512) : Fin 4096 := ⟨512 * t.val + r.val, by have : t.val < 8 := t.isLt; omega⟩

theorem emb3 (t : Fin cfg0.N) (r : Fin 512) (k : Fin 1024) : (win0_3.rect t).emb (ix2 r k) = ix2 (row t r) k :=
  emb_at (fun t => ![t.val, 0]) (by intro a; fin_cases a <;> simp [row] <;> omega)

theorem blk0 (c : Dev nD) (t : Fin cfg0.N) (r : Fin 512) (k : Fin 2816) :
    iblk m c 0 t (ix2 r k) = a m c (ix2 (row t r) k) :=
  (congrArg (V m c main_v0) (emb_at (fun t => ![t.val, 0]) (by intro a; fin_cases a <;> simp [row] <;> omega))).trans (V_a m c _)

theorem blk1 (c : Dev nD) (t : Fin cfg0.N) (r : Fin 2816) (k : Fin 1024) :
    iblk m c 1 t (ix2 r k) = w m c (ix2 r k) :=
  (congrArg (V m c main_v1) (emb_at (fun t => ![0, 0]))).trans (V_w m c _)

theorem blk2 (c : Dev nD) (t : Fin cfg0.N) (r : Fin 512) (k : Fin 1024) :
    iblk m c 2 t (ix2 r k) = x m c (ix2 (row t r) k) :=
  (congrArg (V m c main_arg0) (emb_at (fun t => ![t.val, 0]) (by intro a; fin_cases a <;> simp [row] <;> omega))).trans (congrFun (V_main_arg0 m c) _)

theorem flushed3 (c : Dev nD) (t : Fin cfg0.N) (r : Fin 512) (l : Fin 1024) :
    ((dats m 0 c).flushed 3 t (ix2 r l) : EReal) = out (x m c) (a m c) (w m c) (row t r) l := by
  rw [Cert.KernelDownIdeal.Value.flushed3 m c t]
  unfold out0_3
  simp only [Cert.Loads.mat]
  refine (Cert.Pieces.canon_hit _ _ _ (ix2 r l) (ix2 r l)).trans ?_
  pointwise [k0_pay1]
  simp only [blk0, blk1, blk2]
  exact congrArg (_ + ·) (mul_comm _ _)

theorem final3 (c : Dev nD) : (dats m 0 c).arrAt 3 cfg0.N
    = fun i : S4096x1024.Idx => out (x m c) (a m c) (w m c) (i 0) (i 1) := by
  apply Dat.arrAt_eq_of_cover
  · intro t hf
    funext y
    obtain ⟨r, l, rfl⟩ : ∃ (r : Fin 512) (l : Fin 1024), y = ix2 r l := ⟨y 0, y 1, eq_ix2 y⟩
    refine (flushed3 m c t r l).trans ?_
    show _ = out (x m c) (a m c) (w m c) ((win0_3.rect t).emb (ix2 r l) 0) ((win0_3.rect t).emb (ix2 r l) 1)
    rw [emb3]
    rfl
  · exact (by decide +kernel : (cfg0.win 3).Covers).cover _ (Memref.isWhole_whole _)

end Cert.DownKernel

end
-- ==== Proof.DownRef.lean ====
/-
  The result of the reference of the gated unit's second product, read one element at a time.
-/
module

public import proofs.«01_k».proof.Proof.Gen.ReferenceDownIdeal.Read
public import proofs.«01_k».proof.Proof.DownSpec

@[expose] public section

noncomputable section

namespace Cert.DownRef

open Cert.ReferenceDownIdeal Cert.ReferenceDownIdeal.Gen Cert.ReferenceDownIdeal.Read Idealize.ShloMosaic
open Cert.Down

variable (x : S4096x1024.Idx → EReal) (a : S4096x2816.Idx → EReal) (w : S2816x1024.Idx → EReal)

theorem ref_out (i : Fin 4096) (j : Fin 1024) : val_main_v3 (F := Ideal) x a w (ix2 i j) = out x a w i j := by
  pointwise [val_main_v3, val_main_v2, val_main_v1, val_main_v0, val_main_cst]
  rfl

end Cert.DownRef

end
-- ==== Proof.DownClaim.lean ====
/-
  The kernel of the gated unit's second product and its reference leave the same result.
-/
module

public import proofs.«01_k».proof.Defs
public import proofs.«01_k».proof.Proof.DownKernel
public import proofs.«01_k».proof.Proof.DownRef
public import Idealize.ShloMosaic.Lib.Quiescent

@[expose] public section

set_option maxRecDepth 16384

noncomputable section

namespace Cert.DownClaim

open Idealize.ShloMosaic Idealize.ShloMosaic.TcCoe Idealize.SL.Sem
open Cert.DownKernel Cert.Down

theorem algebraic :
    Cert.algebraic_KernelDownIdeal_ReferenceDownIdeal := by
  intro m g0 m' g' _ hag
  refine ⟨fun c => fun i => out (x m c) (a m c) (w m c) (i 0) (i 1), ?_, ?_⟩
  · refine (θ_run Cert.KernelDownIdeal.defs _ _).mono (fun r h c => ?_) (Cert.KernelDownIdeal.Value.run_blocks m g0)
    obtain ⟨r0, ha⟩ := h c
    exact ⟨r0.trans (final3 m c), ha⟩
  · refine (θ_run Cert.ReferenceDownIdeal.defs _ _).mono (fun r h c => ?_) (Cert.ReferenceDownIdeal.Value.run m' g')
    obtain ⟨r0, ha⟩ := h c
    obtain ⟨a0, a1, a2⟩ := hag c
    rw [Cert.ReferenceDownIdeal.Read.val_main_v3_eq, a0, a1, a2] at r0
    refine ⟨r0.trans (funext fun i => ?_), ha⟩
    obtain ⟨p, q, rfl⟩ : ∃ (p : Fin 4096) (q : Fin 1024), i = ix2 p q := ⟨i 0, i 1, by funext a; fin_cases a <;> rfl⟩
    exact Cert.DownRef.ref_out _ _ _ p q

/-- The reference runs, leaves its arguments unchanged and has no semaphore. -/
theorem reference_runs : Cert.quiescent_ReferenceDownIdeal := fun m g _ =>
  (θ_run Cert.ReferenceDownIdeal.defs _ _).mono
    (fun r h => ⟨fun c => (h c).2, sem_eq_zero_of_no_sems (by decide) r.2⟩) (Cert.ReferenceDownIdeal.Value.run m g)

end Cert.DownClaim

end
-- ==== Proof.MixInSpec.lean ====
/-
  The three products of the normed rows with the joined input weights' columns.
-/
module

public import Idealize.ShloMosaic.Lib.Pointwise

@[expose] public section

noncomputable section

namespace Cert.MixIn

open Idealize.ShloMosaic

variable (h : (Shape.mk 2 ![4096, 1024]).Idx → EReal) (w : (Shape.mk 2 ![1024, 3264]).Idx → EReal)

/-- The product with one column of the weights. -/
def col (i : Fin 4096) (j : Fin 3264) : EReal := ∑ k : Fin 1024, h (ix2 i k) * w (ix2 k j)

/-- The latents: 704 columns, and 64 of zeros. -/
def lat (i : Fin 4096) (j : Fin 768) : EReal := if hj : j.val < 704 then col h w i ⟨512 + j.val, by omega⟩ else 0

/-- The pooled branch's columns. -/
def pool (i : Fin 4096) (j : Fin 512) : EReal := col h w i ⟨j.val, by omega⟩

/-- The gates' columns. -/
def gates (i : Fin 4096) (j : Fin 2048) : EReal := col h w i ⟨1216 + j.val, by omega⟩

end Cert.MixIn

end
-- ==== Proof.MixInKernel.lean ====
/-
  What the kernel of the mixer's input products leaves in its three result arrays.
-/
module

public import Idealize.ShloMosaic.Lib.Pipeline.ValueKit.Geometry
public import proofs.«01_k».proof.Proof.Gen.KernelMixInIdeal.Value
public import proofs.«01_k».proof.Proof.Pieces
public import proofs.«01_k».proof.Proof.Loads
public import proofs.«01_k».proof.Proof.MixInSpec

@[expose] public section

set_option maxRecDepth 16384

noncomputable section

namespace Cert.MixInKernel

open Cert.KernelMixInIdeal Cert.KernelMixInIdeal.Gen Idealize.ShloMosaic Idealize.ShloMosaic.TcCoe Idealize.SL.Sem
open Idealize.ShloMosaic.Pipeline (Dat)
open Cert.MixIn

variable (m : (ℓ : Loc nD τ sig) → Buf (Elt Ideal) ℓ)

/-! ## The arguments, and the blocks the grid points read of them -/

abbrev h (c : Dev nD) : S4096x1024.Idx → EReal := m ((c : Thread nD τ).loc main_arg0)
abbrev w (c : Dev nD) : S1024x3264.Idx → EReal := m ((c : Thread nD τ).loc main_arg1)

theorem V_h (c : Dev nD) (j : S4096x1024.Idx) : V m c main_v6 j = h m c j := by
  unfold V hostOps0
  after_results_simp
  rfl

theorem V_pool (c : Dev nD) (k : Fin 1024) (j : Fin 512) : V m c main_v1 (ix2 k j) = w m c (ix2 k ⟨j.val, by omega⟩) := by
  unfold V hostOps0
  after_results_simp
  pointwise

theorem V_gates (c : Dev nD) (k : Fin 1024) (j : Fin 2048) : V m c main_v5 (ix2 k j) = w m c (ix2 k ⟨1216 + j.val, by omega⟩) := by
  unfold V hostOps0
  after_results_simp
  pointwise

theorem V_lat (c : Dev nD) (k : Fin 1024) (j : Fin 768) :
    V m c main_v4 (ix2 k j) = if h : j.val < 704 then w m c (ix2 k ⟨512 + j.val, by omega⟩) else 0 := by
  unfold V hostOps0
  after_results_simp
  pointwise

/-- Row `r` of point `t`'s block of 512 rows. -/
def row (t : Fin cfg0.N) (r : Fin 512) : Fin 4096 := ⟨512 * t.val + r.val, by have : t.val < 8 := t.isLt; omega⟩

theorem emb4 (t : Fin cfg0.N) (r : Fin 512) (k : Fin 768) : (win0_4.rect t).emb (ix2 r k) = ix2 (row t r) k :=
  emb_at (fun t => ![t.val, 0]) (by intro a; fin_cases a <;> simp [row] <;> omega)

theorem emb5 (t : Fin cfg0.N) (r : Fin 512) (k : Fin 512) : (win0_5.rect t).emb (ix2 r k) = ix2 (row t r) k :=
  emb_at (fun t => ![t.val, 0]) (by intro a; fin_cases a <;> simp [row] <;> omega)

theorem emb6 (t : Fin cfg0.N) (r : Fin 512) (k : Fin 2048) : (win0_6.rect t).emb (ix2 r k) = ix2 (row t r) k :=
  emb_at (fun t => ![t.val, 0]) (by intro a; fin_cases a <;> simp [row] <;> omega)

theorem blk0 (c : Dev nD) (t : Fin cfg0.N) (r : Fin 512) (k : Fin 1024) :
    iblk m c 0 t (ix2 r k) = h m c (ix2 (row t r) k) :=
  (congrArg (V m c main_v6) (emb_at (fun t => ![t.val, 0]) (by intro a; fin_cases a <;> simp [row] <;> omega))).trans (V_h m c _)

theorem blk1 (c : Dev nD) (t : Fin cfg0.N) (r : Fin 1024) (k : Fin 768) :
    iblk m c 1 t (ix2 r k) = if hk : k.val < 704 then w m c (ix2 r ⟨512 + k.val, by omega⟩) else 0 :=
  (congrArg (V m c main_v4) (emb_at (fun t => ![0, 0]))).trans (V_lat m c _ _)

theorem blk2 (c : Dev nD) (t : Fin cfg0.N) (r : Fin 1024) (k : Fin 512) :
    iblk m c 2 t (ix2 r k) = w m c (ix2 r ⟨k.val, by omega⟩) :=
  (congrArg (V m c main_v1) (emb_at (fun t => ![0, 0]))).trans (V_pool m c _ _)

theorem blk3 (c : Dev nD) (t : Fin cfg0.N) (r : Fin 1024) (k : Fin 2048) :
    iblk m c 3 t (ix2 r k) = w m c (ix2 r ⟨1216 + k.val, by omega⟩) :=
  (congrArg (V m c main_v5) (emb_at (fun t => ![0, 0]))).trans (V_gates m c _ _)

theorem flushed4 (c : Dev nD) (t : Fin cfg0.N) (r : Fin 512) (l : Fin 768) :
    ((dats m 0 c).flushed 4 t (ix2 r l) : EReal) = lat (h m c) (w m c) (row t r) l := by
  rw [Cert.KernelMixInIdeal.Value.flushed4 m c t]
  unfold out0_4
  simp only [Cert.Loads.mat]
  refine (Cert.Pieces.canon_hit _ _ _ (ix2 r l) (ix2 r l)).trans ?_
  pointwise [k0_pay2, k0_pay1]
  simp only [blk0, blk1]
  unfold lat col
  by_cases hl : l.val < 704
  · simp only [dif_pos hl]
  · simp only [dif_neg hl, mul_zero, Finset.sum_const_zero]

theorem flushed5 (c : Dev nD) (t : Fin cfg0.N) (r : Fin 512) (l : Fin 512) :
    ((dats m 0 c).flushed 5 t (ix2 r l) : EReal) = pool (h m c) (w m c) (row t r) l := by
  rw [Cert.KernelMixInIdeal.Value.flushed5 m c t]
  unfold out0_5
  simp only [Cert.Loads.mat]
  refine (Cert.Pieces.canon_hit _ _ _ (ix2 r l) (ix2 r l)).trans ?_
  pointwise [k0_pay3, k0_pay1]
  simp only [blk0, blk2]
  rfl

theorem flushed6 (c : Dev nD) (t : Fin cfg0.N) (r : Fin 512) (l : Fin 2048) :
    ((dats m 0 c).flushed 6 t (ix2 r l) : EReal) = gates (h m c) (w m c) (row t r) l := by
  rw [Cert.KernelMixInIdeal.Value.flushed6 m c t]
  unfold out0_6
  simp only [Cert.Loads.mat]
  refine (Cert.Pieces.canon_hit _ _ _ (ix2 r l) (ix2 r l)).trans ?_
  pointwise [k0_pay4, k0_pay1]
  simp only [blk0, blk3]
  rfl

theorem final4 (c : Dev nD) : (dats m 0 c).arrAt 4 cfg0.N
    = fun i : S4096x768.Idx => lat (h m c) (w m c) (i 0) (i 1) := by
  apply Dat.arrAt_eq_of_cover
  · intro t hf
    funext y
    obtain ⟨r, l, rfl⟩ : ∃ (r : Fin 512) (l : Fin 768), y = ix2 r l := ⟨y 0, y 1, eq_ix2 y⟩
    refine (flushed4 m c t r l).trans ?_
    show _ = lat (h m c) (w m c) ((win0_4.rect t).emb (ix2 r l) 0) ((win0_4.rect t).emb (ix2 r l) 1)
    rw [emb4]
    rfl
  · exact (by decide +kernel : (cfg0.win 4).Covers).cover _ (Memref.isWhole_whole _)

theorem final5 (c : Dev nD) : (dats m 0 c).arrAt 5 cfg0.N
    = fun i : S4096x512.Idx => pool (h m c) (w m c) (i 0) (i 1) := by
  apply Dat.arrAt_eq_of_cover
  · intro t hf
    funext y
    obtain ⟨r, l, rfl⟩ : ∃ (r : Fin 512) (l : Fin 512), y = ix2 r l := ⟨y 0, y 1, eq_ix2 y⟩
    refine (flushed5 m c t r l).trans ?_
    show _ = pool (h m c) (w m c) ((win0_5.rect t).emb (ix2 r l) 0) ((win0_5.rect t).emb (ix2 r l) 1)
    rw [emb5]
    rfl
  · exact (by decide +kernel : (cfg0.win 5).Covers).cover _ (Memref.isWhole_whole _)

theorem final6 (c : Dev nD) : (dats m 0 c).arrAt 6 cfg0.N
    = fun i : S4096x2048.Idx => gates (h m c) (w m c) (i 0) (i 1) := by
  apply Dat.arrAt_eq_of_cover
  · intro t hf
    funext y
    obtain ⟨r, l, rfl⟩ : ∃ (r : Fin 512) (l : Fin 2048), y = ix2 r l := ⟨y 0, y 1, eq_ix2 y⟩
    refine (flushed6 m c t r l).trans ?_
    show _ = gates (h m c) (w m c) ((win0_6.rect t).emb (ix2 r l) 0) ((win0_6.rect t).emb (ix2 r l) 1)
    rw [emb6]
    rfl
  · exact (by decide +kernel : (cfg0.win 6).Covers).cover _ (Memref.isWhole_whole _)

end Cert.MixInKernel

end
-- ==== Proof.MixInRef.lean ====
/-
  The results of the reference of the mixer's input products, read one element at a time.
-/
module

public import proofs.«01_k».proof.Proof.Gen.ReferenceMixInIdeal.Read
public import proofs.«01_k».proof.Proof.MixInSpec

@[expose] public section

noncomputable section

namespace Cert.MixInRef

open Cert.ReferenceMixInIdeal Cert.ReferenceMixInIdeal.Gen Cert.ReferenceMixInIdeal.Read Idealize.ShloMosaic
open Cert.MixIn

variable (h : S4096x1024.Idx → EReal) (w : S1024x3264.Idx → EReal)

/-- The padding's integer zero, converted. -/
theorem zeroI : FloatOps.sitofp (F := Ideal) FTy.f32 (0#32) = (0 : EReal) := by
  show (((0#32 : BitVec 32).toInt : ℝ) : EReal) = 0
  simp

theorem ref_lat (i : Fin 4096) (j : Fin 768) : val_main_v4 (F := Ideal) h w (ix2 i j) = lat h w i j := by
  pointwise [val_main_v4, val_main_v2, val_main_v0, val_main_call0_v0, val_main_c]
  unfold lat col
  refine dite_congr rfl (fun _ => rfl) fun _ => ?_
  exact zeroI

theorem ref_pool (i : Fin 4096) (j : Fin 512) : val_main_v1 (F := Ideal) h w (ix2 i j) = pool h w i j := by
  pointwise [val_main_v1, val_main_v0]
  rfl

theorem ref_gates (i : Fin 4096) (j : Fin 2048) : val_main_v5 (F := Ideal) h w (ix2 i j) = gates h w i j := by
  pointwise [val_main_v5, val_main_v3, val_main_v0]
  rfl

end Cert.MixInRef

end
-- ==== Proof.MixInClaim.lean ====
/-
  The kernel of the mixer's input products and its reference leave the same three results.
-/
module

public import proofs.«01_k».proof.Defs
public import proofs.«01_k».proof.Proof.MixInKernel
public import proofs.«01_k».proof.Proof.MixInRef
public import Idealize.ShloMosaic.Lib.Quiescent

@[expose] public section

set_option maxRecDepth 16384

noncomputable section

namespace Cert.MixInClaim

open Idealize.ShloMosaic Idealize.ShloMosaic.TcCoe Idealize.SL.Sem
open Cert.MixInKernel Cert.MixIn

theorem algebraic :
    Cert.algebraic_KernelMixInIdeal_ReferenceMixInIdeal := by
  intro m g0 m' g' _ hag
  refine ⟨fun c => fun i => lat (h m c) (w m c) (i 0) (i 1), fun c => fun i => pool (h m c) (w m c) (i 0) (i 1), fun c => fun i => gates (h m c) (w m c) (i 0) (i 1), ?_, ?_⟩
  · refine (θ_run Cert.KernelMixInIdeal.defs _ _).mono (fun r h c => ?_) (Cert.KernelMixInIdeal.Value.run_blocks m g0)
    obtain ⟨r0, r1, r2, ha⟩ := h c
    exact ⟨r0.trans (final4 m c), r1.trans (final5 m c), r2.trans (final6 m c), ha⟩
  · refine (θ_run Cert.ReferenceMixInIdeal.defs _ _).mono (fun r h c => ?_) (Cert.ReferenceMixInIdeal.Value.run m' g')
    obtain ⟨r0, r1, r2, ha⟩ := h c
    obtain ⟨a0, a1⟩ := hag c
    rw [Cert.ReferenceMixInIdeal.Read.val_main_v4_eq, a0, a1] at r0
    rw [Cert.ReferenceMixInIdeal.Read.val_main_v1_eq, a0, a1] at r1
    rw [Cert.ReferenceMixInIdeal.Read.val_main_v5_eq, a0, a1] at r2
    refine ⟨r0.trans (funext fun i => ?_), r1.trans (funext fun i => ?_), r2.trans (funext fun i => ?_), ha⟩
    · obtain ⟨p, q, rfl⟩ : ∃ (p : Fin 4096) (q : Fin 768), i = ix2 p q := ⟨i 0, i 1, by funext a; fin_cases a <;> rfl⟩
      exact Cert.MixInRef.ref_lat _ _ p q
    · obtain ⟨p, q, rfl⟩ : ∃ (p : Fin 4096) (q : Fin 512), i = ix2 p q := ⟨i 0, i 1, by funext a; fin_cases a <;> rfl⟩
      exact Cert.MixInRef.ref_pool _ _ p q
    · obtain ⟨p, q, rfl⟩ : ∃ (p : Fin 4096) (q : Fin 2048), i = ix2 p q := ⟨i 0, i 1, by funext a; fin_cases a <;> rfl⟩
      exact Cert.MixInRef.ref_gates _ _ p q

/-- The reference runs, leaves its arguments unchanged and has no semaphore. -/
theorem reference_runs : Cert.quiescent_ReferenceMixInIdeal := fun m g _ =>
  (θ_run Cert.ReferenceMixInIdeal.defs _ _).mono
    (fun r h => ⟨fun c => (h c).2.2.2, sem_eq_zero_of_no_sems (by decide) r.2⟩) (Cert.ReferenceMixInIdeal.Value.run m g)

end Cert.MixInClaim

end
-- ==== Proof.UpDwSpec.lean ====
/-
  The gradient of the gated unit's first weights: the products of the normed rows with the gradients of the gate's and the
  other argument's columns, in four pieces of 1408 columns.
-/
module

public import Idealize.ShloMosaic.Lib.Pointwise

@[expose] public section

noncomputable section

namespace Cert.UpDw

open Idealize.ShloMosaic

variable (h : (Shape.mk 2 ![4096, 1024]).Idx → EReal) (dg du : (Shape.mk 2 ![4096, 2816]).Idx → EReal)

/-- Column `j` of part `p`, at one row: the first two pieces are the gate's, the last two the other argument's. -/
def part (p : Fin 4) (i : Fin 4096) (j : Fin 1408) : EReal :=
  if hp : p.val < 2 then dg (ix2 i ⟨1408 * p.val + j.val, by omega⟩) else du (ix2 i ⟨1408 * (p.val - 2) + j.val, by omega⟩)

/-- One row's part in the gradient. -/
def term (p : Fin 4) (k : Fin 1024) (j : Fin 1408) (i : Fin 4096) : EReal := h (ix2 i k) * part dg du p i j

/-- The gradient. -/
def dw (p : Fin 4) (k : Fin 1024) (j : Fin 1408) : EReal := ∑ i : Fin 4096, term h dg du p k j i

end Cert.UpDw

end
-- ==== Proof.UpDwKernel.lean ====
/-
  What the kernel of the gradient of the gated unit's first weights leaves in its result array.
-/
module

public import Idealize.ShloMosaic.Lib.Pipeline.ValueKit.Geometry
public import proofs.«01_k».proof.Proof.Gen.KernelUpDwIdeal.Frame
public import Idealize.ShloMosaic.Lib.Pipeline.Value
public import proofs.«01_k».proof.Proof.Pieces
public import proofs.«01_k».proof.Proof.Loads
public import proofs.«01_k».proof.Proof.RowSum
public import proofs.«01_k».proof.Proof.UpDwSpec

@[expose] public section

set_option maxRecDepth 16384

noncomputable section

namespace Cert.UpDwKernel

open Cert.KernelUpDwIdeal Cert.KernelUpDwIdeal.Gen Idealize.ShloMosaic Idealize.ShloMosaic.TcCoe Idealize.SL.Sem
open Idealize.ShloMosaic.Pipeline (Dat)
open Cert.UpDw

variable (m : (ℓ : Loc nD τ sig) → Buf (Elt Ideal) ℓ)

/-! ## The arguments, and the blocks the grid points read of them -/

abbrev h (c : Dev nD) : S4096x1024.Idx → EReal := m ((c : Thread nD τ).loc main_arg0)
abbrev dg (c : Dev nD) : S4096x2816.Idx → EReal := m ((c : Thread nD τ).loc main_arg1)
abbrev du (c : Dev nD) : S4096x2816.Idx → EReal := m ((c : Thread nD τ).loc main_arg2)

theorem V_h (c : Dev nD) (j : S4096x1024.Idx) : V m c main_v0 j = h m c j := by
  unfold V hostOps0
  after_results_simp
  rfl

theorem V_dg (c : Dev nD) (j : S4096x2816.Idx) : V m c main_v1 j = dg m c j := by
  unfold V hostOps0
  after_results_simp
  rfl

theorem V_du (c : Dev nD) (j : S4096x2816.Idx) : V m c main_v2 j = du m c j := by
  unfold V hostOps0
  after_results_simp
  rfl

/-- The piece a point works on. -/
def pc (t : Fin cfg0.N) : Fin 4 := ⟨t.val / 4, by have : t.val < 16 := t.isLt; omega⟩

/-- Row `r` of point `t`'s block of 1024 rows. -/
def row (t : Fin cfg0.N) (r : Fin 1024) : Fin 4096 := ⟨1024 * (t.val % 4) + r.val, by omega⟩

theorem index1 : ∀ t : Fin grid0.N, t.val < 8 → win0_1.index t = ![t.val % 4, t.val / 4] := by decide +kernel
theorem index2 : ∀ t : Fin grid0.N, 8 ≤ t.val → win0_2.index t = ![t.val % 4, t.val / 4 - 2] := by decide +kernel

theorem emb1 (t : Fin cfg0.N) (ht : t.val < 8) (r : Fin 1024) (j : Fin 1408) :
    (win0_1.rect t).emb (ix2 r j) = ix2 (row t r) ⟨1408 * (pc t).val + j.val, by have : (pc t).val = t.val / 4 := rfl; omega⟩ := by
  funext a
  apply Fin.ext
  rw [Pipeline.Window.rect_emb_val win0_1 t, index1 t ht]
  fin_cases a <;> simp [row, pc] <;> omega

theorem emb2 (t : Fin cfg0.N) (ht : 8 ≤ t.val) (r : Fin 1024) (j : Fin 1408) :
    (win0_2.rect t).emb (ix2 r j) = ix2 (row t r) ⟨1408 * ((pc t).val - 2) + j.val, by omega⟩ := by
  funext a
  apply Fin.ext
  rw [Pipeline.Window.rect_emb_val win0_2 t, index2 t ht]
  fin_cases a <;> simp [row, pc] <;> omega

theorem emb3 (t : Fin cfg0.N) (k : Fin 1024) (j : Fin 1408) : (win0_3.rect t).emb (ix3 0 k j) = ix3 (pc t) k j :=
  emb_at (fun t => ![t.val / 4, 0, 0]) (by intro a; fin_cases a <;> simp [pc])

theorem blk0 (c : Dev nD) (t : Fin cfg0.N) (r k : Fin 1024) : iblk m c 0 t (ix2 r k) = h m c (ix2 (row t r) k) :=
  (congrArg (V m c main_v0) (emb_at (fun t => ![t.val % 4, 0]) (by intro a; fin_cases a <;> simp [row] <;> omega))).trans (V_h m c _)

theorem blk1 (c : Dev nD) (t : Fin cfg0.N) (ht : t.val < 8) (r : Fin 1024) (j : Fin 1408) :
    iblk m c 1 t (ix2 r j) = part (dg m c) (du m c) (pc t) (row t r) j := by
  refine (congrArg (V m c main_v1) (emb1 t ht r j)).trans ((V_dg m c _).trans ?_)
  rw [part, dif_pos (show (pc t).val < 2 from show t.val / 4 < 2 by omega)]

theorem blk2 (c : Dev nD) (t : Fin cfg0.N) (ht : 8 ≤ t.val) (r : Fin 1024) (j : Fin 1408) :
    iblk m c 2 t (ix2 r j) = part (dg m c) (du m c) (pc t) (row t r) j := by
  refine (congrArg (V m c main_v2) (emb2 t ht r j)).trans ((V_du m c _).trans ?_)
  rw [part, dif_neg (show ¬(pc t).val < 2 from show ¬t.val / 4 < 2 by omega)]

/-- What a point adds at one place. -/
abbrev more (c : Dev nD) (t : Fin cfg0.N) (k : Fin 1024) (j : Fin 1408) : EReal :=
  ∑ r : Fin 1024, term (h m c) (dg m c) (du m c) (pc t) k j (row t r)

/-! ## The running sum -/

theorem sum_A (c : Dev nD) (t : Fin cfg0.N) (h0 : t.val % 4 = 0) (h1 : t.val < 8) (k : Fin 1024) (j : Fin 1408) :
    ((outsAt0 m c t.val t.isLt).2 (ix2 k j) : EReal) = more m c t k j := by
  simp only [outsAt0_A m c t h0 h1 (by omega) (by omega)]
  unfold sout0_A_0 kernelRun0_A
  dsimp only
  sl_unfold_words
  simp only [View.readAt_eq_ld, Memref.IsWhole.read_unread, View.readCov_eq_canon', Cert.Loads.mat]
  rw [View.read_writes_junk_eq_canon]
  refine (Cert.Pieces.canon_hit _ _ _ (ix2 k j) (ix2 k j)).trans ?_
  generalize hacc : View.canon (Val := Elt Ideal) (s := S1024x1408) (e := .f32) _ = acc
  have hz : (acc (ix2 k j) : EReal) = 0 := by
    subst hacc
    refine (Cert.Pieces.canon_hit _ _ _ (ix2 k j) (ix2 k j)).trans ?_
    pointwise [k0_pay1]
  pointwise [k0_pay2]
  simp only [blk0, blk1 m c t h1]
  rw [hz, zero_add]
  rfl

theorem sum_D (c : Dev nD) (t : Fin cfg0.N) (h0 : t.val % 4 = 0) (h2 : 8 ≤ t.val) (k : Fin 1024) (j : Fin 1408) :
    ((outsAt0 m c t.val t.isLt).2 (ix2 k j) : EReal) = more m c t k j := by
  simp only [outsAt0_D m c t h0 (by omega) h2 (by omega)]
  unfold sout0_D_0 kernelRun0_D
  dsimp only
  sl_unfold_words
  simp only [View.readAt_eq_ld, Memref.IsWhole.read_unread, View.readCov_eq_canon', Cert.Loads.mat]
  rw [View.read_writes_junk_eq_canon]
  refine (Cert.Pieces.canon_hit _ _ _ (ix2 k j) (ix2 k j)).trans ?_
  generalize hacc : View.canon (Val := Elt Ideal) (s := S1024x1408) (e := .f32) _ = acc
  have hz : (acc (ix2 k j) : EReal) = 0 := by
    subst hacc
    refine (Cert.Pieces.canon_hit _ _ _ (ix2 k j) (ix2 k j)).trans ?_
    pointwise [k0_pay1]
  pointwise [k0_pay3]
  simp only [blk0, blk2 m c t h2]
  rw [hz, zero_add]
  rfl

theorem sum_B (c : Dev nD) (t : Fin cfg0.N) (h0 : ¬t.val % 4 = 0) (h1 : t.val < 8) (h3 : ¬t.val % 4 = 3) (k : Fin 1024) (j : Fin 1408) :
    ((outsAt0 m c t.val t.isLt).2 (ix2 k j) : EReal)
      = (outsAt0 m c (t.val - 1) (Nat.lt_of_le_of_lt (Nat.sub_le _ _) t.isLt)).2 (ix2 k j) + more m c t k j := by
  simp only [outsAt0_B m c t h0 h1 (by omega) h3]
  unfold sout0_B_0 kernelRun0_B
  dsimp only
  sl_unfold_words
  simp only [View.readAt_eq_ld, Memref.IsWhole.read_unread, View.readCov_eq_canon', Cert.Loads.mat]
  rw [View.read_writes_junk_eq_canon]
  refine (Cert.Pieces.canon_hit _ _ _ (ix2 k j) (ix2 k j)).trans ?_
  pointwise [k0_pay2]
  simp only [blk0, blk1 m c t h1]
  exact congrArg (fun x : EReal => x + more m c t k j) (congrFun (Memref.IsWhole.read_unread _ _) (ix2 k j))

theorem sum_C (c : Dev nD) (t : Fin cfg0.N) (h0 : ¬t.val % 4 = 0) (h1 : t.val < 8) (h3 : t.val % 4 = 3) (k : Fin 1024) (j : Fin 1408) :
    ((outsAt0 m c t.val t.isLt).2 (ix2 k j) : EReal)
      = (outsAt0 m c (t.val - 1) (Nat.lt_of_le_of_lt (Nat.sub_le _ _) t.isLt)).2 (ix2 k j) + more m c t k j := by
  simp only [outsAt0_C m c t h0 h1 (by omega) h3]
  unfold sout0_C_0 kernelRun0_C
  dsimp only
  sl_unfold_words
  simp only [View.readAt_eq_ld, Memref.IsWhole.read_unread, View.readCov_eq_canon', Cert.Loads.mat]
  rw [View.read_writes_junk_eq_canon]
  refine (Cert.Pieces.canon_hit _ _ _ (ix2 k j) (ix2 k j)).trans ?_
  pointwise [k0_pay2]
  simp only [blk0, blk1 m c t h1]
  exact congrArg (fun x : EReal => x + more m c t k j) (congrFun (Memref.IsWhole.read_unread _ _) (ix2 k j))

theorem sum_E (c : Dev nD) (t : Fin cfg0.N) (h0 : ¬t.val % 4 = 0) (h2 : 8 ≤ t.val) (h3 : ¬t.val % 4 = 3) (k : Fin 1024) (j : Fin 1408) :
    ((outsAt0 m c t.val t.isLt).2 (ix2 k j) : EReal)
      = (outsAt0 m c (t.val - 1) (Nat.lt_of_le_of_lt (Nat.sub_le _ _) t.isLt)).2 (ix2 k j) + more m c t k j := by
  simp only [outsAt0_E m c t h0 (by omega) h2 h3]
  unfold sout0_E_0 kernelRun0_E
  dsimp only
  sl_unfold_words
  simp only [View.readAt_eq_ld, Memref.IsWhole.read_unread, View.readCov_eq_canon', Cert.Loads.mat]
  rw [View.read_writes_junk_eq_canon]
  refine (Cert.Pieces.canon_hit _ _ _ (ix2 k j) (ix2 k j)).trans ?_
  pointwise [k0_pay3]
  simp only [blk0, blk2 m c t h2]
  exact congrArg (fun x : EReal => x + more m c t k j) (congrFun (Memref.IsWhole.read_unread _ _) (ix2 k j))

theorem sum_F (c : Dev nD) (t : Fin cfg0.N) (h0 : ¬t.val % 4 = 0) (h2 : 8 ≤ t.val) (h3 : t.val % 4 = 3) (k : Fin 1024) (j : Fin 1408) :
    ((outsAt0 m c t.val t.isLt).2 (ix2 k j) : EReal)
      = (outsAt0 m c (t.val - 1) (Nat.lt_of_le_of_lt (Nat.sub_le _ _) t.isLt)).2 (ix2 k j) + more m c t k j := by
  simp only [outsAt0_F m c t h0 (by omega) h2 h3]
  unfold sout0_F_0 kernelRun0_F
  dsimp only
  sl_unfold_words
  simp only [View.readAt_eq_ld, Memref.IsWhole.read_unread, View.readCov_eq_canon', Cert.Loads.mat]
  rw [View.read_writes_junk_eq_canon]
  refine (Cert.Pieces.canon_hit _ _ _ (ix2 k j) (ix2 k j)).trans ?_
  pointwise [k0_pay3]
  simp only [blk0, blk2 m c t h2]
  exact congrArg (fun x : EReal => x + more m c t k j) (congrFun (Memref.IsWhole.read_unread _ _) (ix2 k j))

/-- A point's rows come after those its piece has had before. -/
theorem sum_to (c : Dev nD) (t : Fin cfg0.N) (k : Fin 1024) (j : Fin 1408) :
    Cert.RowSum.below (term (h m c) (dg m c) (du m c) (pc t) k j) (1024 * (t.val % 4) + 1024)
      = Cert.RowSum.below (term (h m c) (dg m c) (du m c) (pc t) k j) (1024 * (t.val % 4)) + more m c t k j :=
  Cert.RowSum.below_add _ _ _ (by omega)

theorem sum_first (c : Dev nD) (t : Fin cfg0.N) (h0 : t.val % 4 = 0) (k : Fin 1024) (j : Fin 1408) :
    ((outsAt0 m c t.val t.isLt).2 (ix2 k j) : EReal)
      = Cert.RowSum.below (term (h m c) (dg m c) (du m c) (pc t) k j) (1024 * (t.val % 4) + 1024) := by
  rw [sum_to, h0, Nat.mul_zero, Cert.RowSum.below_zero, zero_add]
  by_cases h1 : t.val < 8
  · exact sum_A m c t h0 h1 k j
  · exact sum_D m c t h0 (Nat.le_of_not_lt h1) k j

theorem sum_next (c : Dev nD) (t : Fin cfg0.N) (h0 : ¬t.val % 4 = 0) (k : Fin 1024) (j : Fin 1408) :
    ((outsAt0 m c t.val t.isLt).2 (ix2 k j) : EReal)
      = (outsAt0 m c (t.val - 1) (Nat.lt_of_le_of_lt (Nat.sub_le _ _) t.isLt)).2 (ix2 k j) + more m c t k j := by
  by_cases h1 : t.val < 8 <;> by_cases h3 : t.val % 4 = 3
  · exact sum_C m c t h0 h1 h3 k j
  · exact sum_B m c t h0 h1 h3 k j
  · exact sum_F m c t h0 (Nat.le_of_not_lt h1) h3 k j
  · exact sum_E m c t h0 (Nat.le_of_not_lt h1) h3 k j

/-- After a point the scratch holds the sum over the piece's rows so far. -/
theorem sums (c : Dev nD) (k : Fin 1024) (j : Fin 1408) : ∀ (n : ℕ) (hn : n < cfg0.N),
    ((outsAt0 m c n hn).2 (ix2 k j) : EReal)
      = Cert.RowSum.below (term (h m c) (dg m c) (du m c) (pc ⟨n, hn⟩) k j) (1024 * (n % 4) + 1024) := by
  intro n
  induction n with
  | zero => exact fun hn => sum_first m c ⟨0, hn⟩ rfl k j
  | succ n ih =>
    intro hn
    by_cases h0 : (n + 1) % 4 = 0
    · exact sum_first m c ⟨n + 1, hn⟩ h0 k j
    · have hp : pc ⟨n, Nat.lt_of_succ_lt hn⟩ = pc ⟨n + 1, hn⟩ := Fin.ext (show n / 4 = (n + 1) / 4 by omega)
      refine (sum_next m c ⟨n + 1, hn⟩ h0 k j).trans (.trans ?_ (sum_to m c ⟨n + 1, hn⟩ k j).symm)
      refine congrArg (fun x : EReal => x + more m c ⟨n + 1, hn⟩ k j) ((ih (Nat.lt_of_succ_lt hn)).trans ?_)
      rw [hp, show 1024 * (n % 4) + 1024 = 1024 * ((n + 1) % 4) by omega]

/-! ## The result array -/

/-- A point writes back what its run leaves in the result's staging buffer. -/
theorem written (c : Dev nD) (t : Fin cfg0.N) :
    (dats m 0 c).flushed 3 t = (cfg0.win 3).cut (grid0.coords t) (outsAt0 m c t.val t.isLt).1 :=
  congrArg ((cfg0.win 3).cut (grid0.coords t)) (after0_3 m c t)

theorem out_C (c : Dev nD) (t : Fin cfg0.N) (h1 : t.val < 8) (h3 : t.val % 4 = 3) (k : Fin 1024) (j : Fin 1408) :
    ((dats m 0 c).flushed 3 t (ix3 0 k j) : EReal) = (outsAt0 m c t.val t.isLt).2 (ix2 k j) := by
  rw [sum_C m c t (by omega) h1 h3 k j, written]
  simp only [outsAt0_C m c t (show ¬t.val % 4 = 0 by omega) h1 (by omega) h3]
  unfold out0_C_3 kernelRun0_C
  dsimp only
  sl_unfold_words
  simp only [View.readAt_eq_ld, Memref.IsWhole.read_unread, View.readCov_eq_canon', Cert.Loads.mat]
  rw [View.read_writes_junk_eq_canon]
  refine (Cert.Pieces.canon_hit _ _ _ (ix3 0 k j) (ix3 0 k j)).trans ?_
  pointwise [k0_pay4]
  refine (Cert.Pieces.canon_hit _ _ _ (ix2 k j) (ix2 k j)).trans ?_
  pointwise [k0_pay2]
  simp only [blk0, blk1 m c t h1]
  exact congrArg (fun x : EReal => x + more m c t k j) (congrFun (Memref.IsWhole.read_unread _ _) (ix2 k j))

theorem out_F (c : Dev nD) (t : Fin cfg0.N) (h2 : 8 ≤ t.val) (h3 : t.val % 4 = 3) (k : Fin 1024) (j : Fin 1408) :
    ((dats m 0 c).flushed 3 t (ix3 0 k j) : EReal) = (outsAt0 m c t.val t.isLt).2 (ix2 k j) := by
  rw [sum_F m c t (by omega) h2 h3 k j, written]
  simp only [outsAt0_F m c t (show ¬t.val % 4 = 0 by omega) (by omega) h2 h3]
  unfold out0_F_3 kernelRun0_F
  dsimp only
  sl_unfold_words
  simp only [View.readAt_eq_ld, Memref.IsWhole.read_unread, View.readCov_eq_canon', Cert.Loads.mat]
  rw [View.read_writes_junk_eq_canon]
  refine (Cert.Pieces.canon_hit _ _ _ (ix3 0 k j) (ix3 0 k j)).trans ?_
  pointwise [k0_pay4]
  refine (Cert.Pieces.canon_hit _ _ _ (ix2 k j) (ix2 k j)).trans ?_
  pointwise [k0_pay3]
  simp only [blk0, blk2 m c t h2]
  exact congrArg (fun x : EReal => x + more m c t k j) (congrFun (Memref.IsWhole.read_unread _ _) (ix2 k j))

theorem final3 (c : Dev nD) : (dats m 0 c).arrAt 3 cfg0.N
    = fun i : S4x1024x1408.Idx => dw (h m c) (dg m c) (du m c) (i 0) (i 1) (i 2) := by
  apply Dat.arrAt_eq_of_cover
  · intro t hf
    have h3 : t.val % 4 = 3 := (flush0_3 t).mp hf
    funext y
    obtain ⟨k, j, rfl⟩ : ∃ (k : Fin 1024) (j : Fin 1408), y = ix3 0 k j :=
      ⟨y 1, y 2, by funext a; fin_cases a; exacts [Fin.ext (Nat.lt_one_iff.mp (y 0).isLt), rfl, rfl]⟩
    refine (if h1 : t.val < 8 then out_C m c t h1 h3 k j else out_F m c t (Nat.le_of_not_lt h1) h3 k j).trans ?_
    rw [sums m c k j t.val t.isLt, h3, show 1024 * 3 + 1024 = 4096 from rfl, Cert.RowSum.below_all]
    show _ = dw (h m c) (dg m c) (du m c) ((win0_3.rect t).emb (ix3 0 k j) 0) ((win0_3.rect t).emb (ix3 0 k j) 1)
      ((win0_3.rect t).emb (ix3 0 k j) 2)
    rw [emb3]
    rfl
  · exact (by decide +kernel : (cfg0.win 3).Covers).cover _ (Memref.isWhole_whole _)

/-- The kernel's run: the result array as the launch leaves it, and the arguments as they were. -/
theorem runs (ρ : Dev nD → PrngReg) :
    θ_run defs (onTc (τ := τ) (main (F := Ideal))) ⟨m, fun _ => 0, ρ⟩ fun r => ∀ c : Dev nD,
      r.2.mem ((c : Thread nD τ).loc main_v3) = (fun i : S4x1024x1408.Idx => dw (h m c) (dg m c) (du m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r hr c => ⟨((hr c).1 3).trans (final3 m c), ?_, ?_, ?_⟩) (run_main m ρ)
  · exact ((hr c).2 main_arg0 (Pipeline.mem_restRefs_of main_arg0 (by decide) (by decide))).trans (V_main_arg0 m c)
  · exact ((hr c).2 main_arg1 (Pipeline.mem_restRefs_of main_arg1 (by decide) (by decide))).trans (V_main_arg1 m c)
  · exact ((hr c).2 main_arg2 (Pipeline.mem_restRefs_of main_arg2 (by decide) (by decide))).trans (V_main_arg2 m c)

end Cert.UpDwKernel

end
-- ==== Proof.UpDwRef.lean ====
/-
  The result of the reference of the gradient of the gated unit's first weights, read one element at a time.
-/
module

public import proofs.«01_k».proof.Proof.Gen.ReferenceUpDwIdeal.Read
public import proofs.«01_k».proof.Proof.UpDwSpec

@[expose] public section

noncomputable section

namespace Cert.UpDwRef

open Cert.ReferenceUpDwIdeal Cert.ReferenceUpDwIdeal.Gen Cert.ReferenceUpDwIdeal.Read Idealize.ShloMosaic
open Cert.UpDw

variable (h : S4096x1024.Idx → EReal) (dg du : S4096x2816.Idx → EReal)

theorem ref_dw (p : Fin 4) (k : Fin 1024) (j : Fin 1408) : val_main_v9 (F := Ideal) h dg du (ix3 p k j) = dw h dg du p k j := by
  pointwise [val_main_v9, val_main_v8, val_main_v7, val_main_v6, val_main_v5, val_main_v4]
  refine Finset.sum_congr rfl fun i _ => (mul_comm _ _).trans (congrArg (fun x : EReal => h (ix2 i k) * x) ?_)
  by_cases hp : p.val < 2
  · rw [part, dif_pos hp, dif_pos (by omega)]
    exact congrArg (fun c : Fin 2816 => dg (ix2 i c)) (Fin.ext (by show p.val * 1408 + j.val = 1408 * p.val + j.val; omega))
  · rw [part, dif_neg hp, dif_neg (by omega)]
    exact congrArg (fun c : Fin 2816 => du (ix2 i c))
      (Fin.ext (by show p.val * 1408 + j.val - 2816 = 1408 * (p.val - 2) + j.val; omega))

end Cert.UpDwRef

end
-- ==== Proof.UpDwClaim.lean ====
/-
  The kernel of the gradient of the gated unit's first weights and its reference leave the same result.
-/
module

public import proofs.«01_k».proof.Defs
public import proofs.«01_k».proof.Proof.UpDwKernel
public import proofs.«01_k».proof.Proof.UpDwRef
public import Idealize.ShloMosaic.Lib.Quiescent

@[expose] public section

set_option maxRecDepth 16384

noncomputable section

namespace Cert.UpDwClaim

open Idealize.ShloMosaic Idealize.ShloMosaic.TcCoe Idealize.SL.Sem
open Cert.UpDwKernel Cert.UpDw

theorem algebraic :
    Cert.algebraic_KernelUpDwIdeal_ReferenceUpDwIdeal := by
  intro m g0 m' g' _ hag
  refine ⟨fun c => fun i => dw (h m c) (dg m c) (du m c) (i 0) (i 1) (i 2), runs m g0, ?_⟩
  refine (θ_run Cert.ReferenceUpDwIdeal.defs _ _).mono (fun r hr c => ?_) (Cert.ReferenceUpDwIdeal.Value.run m' g')
  obtain ⟨r0, ha⟩ := hr c
  obtain ⟨a0, a1, a2⟩ := hag c
  rw [Cert.ReferenceUpDwIdeal.Read.val_main_v9_eq, a0, a1, a2] at r0
  refine ⟨r0.trans (funext fun i => ?_), ha⟩
  obtain ⟨p, k, j, rfl⟩ : ∃ (p : Fin 4) (k : Fin 1024) (j : Fin 1408), i = ix3 p k j :=
    ⟨i 0, i 1, i 2, by funext a; fin_cases a <;> rfl⟩
  exact Cert.UpDwRef.ref_dw _ _ _ p k j

/-- The reference runs, leaves its arguments unchanged and has no semaphore. -/
theorem reference_runs : Cert.quiescent_ReferenceUpDwIdeal := fun m g _ =>
  (θ_run Cert.ReferenceUpDwIdeal.defs _ _).mono
    (fun r h => ⟨fun c => (h c).2, sem_eq_zero_of_no_sems (by decide) r.2⟩) (Cert.ReferenceUpDwIdeal.Value.run m g)

end Cert.UpDwClaim

end
-- ==== Proof.AdamwSpec.lean ====
/-
  One step of the optimiser on one weight.
-/
module

public import Idealize.ShloMosaic.Lib.Pointwise

@[expose] public section

noncomputable section

namespace Cert.Adamw

open Idealize.ShloMosaic

/-- A constant, as both programs write it. -/
abbrev num (b : BitVec 32) : EReal := Scalar.ofBits (F := Ideal) .f32 b

/-- The new mean of the gradient. -/
def mean (g m : EReal) : EReal := num 0x3F666666#32 * m + num 0x3DCCCCCD#32 * g

/-- The new mean of the gradient's square. -/
def square (g v : EReal) : EReal := num 0x3F7FBE77#32 * v + num 0x3A83126F#32 * (g * g)

/-- What is added to the weight. -/
def delta (w g m v : EReal) : EReal :=
  num 0xBA83126F#32 * (Scalar.divf (F := Ideal) (φ := .f32) (Scalar.divf (F := Ideal) (φ := .f32) (mean g m) (num 0x3F26BD02#32))
    (Scalar.sqrt (F := Ideal) (φ := .f32) (Scalar.divf (F := Ideal) (φ := .f32) (square g v) (num 0x3C231ACC#32)) + num 0x322BCC77#32)
    + num 0x3C23D70A#32 * w)

variable (w g m v : (Shape.mk 2 ![4096, 1408]).Idx → EReal) (i : Fin 4096) (j : Fin 1408)

/-! The four results at one place. -/

def gradAt : EReal := g (ix2 i j)
def deltaAt : EReal := delta (w (ix2 i j)) (g (ix2 i j)) (m (ix2 i j)) (v (ix2 i j))
def meanAt : EReal := mean (g (ix2 i j)) (m (ix2 i j))
def squareAt : EReal := square (g (ix2 i j)) (v (ix2 i j))

end Cert.Adamw

end
-- ==== Proof.AdamwKernel.lean ====
/-
  What the optimiser's kernel leaves in its four result arrays.
-/
module

public import Idealize.ShloMosaic.Lib.Pipeline.ValueKit.Geometry
public import proofs.«01_k».proof.Proof.Gen.KernelAdamwIdeal.Value
public import proofs.«01_k».proof.Proof.Pieces
public import proofs.«01_k».proof.Proof.Loads
public import proofs.«01_k».proof.Proof.AdamwSpec

@[expose] public section

set_option maxRecDepth 16384

noncomputable section

namespace Cert.AdamwKernel

open Cert.KernelAdamwIdeal Cert.KernelAdamwIdeal.Gen Idealize.ShloMosaic Idealize.ShloMosaic.TcCoe Idealize.SL.Sem
open Idealize.ShloMosaic.Pipeline (Dat)
open Cert.Adamw

variable (m : (ℓ : Loc nD τ sig) → Buf (Elt Ideal) ℓ)

/-! ## The arguments, and the blocks the grid points read of them -/

abbrev w (c : Dev nD) : S4096x1408.Idx → EReal := m ((c : Thread nD τ).loc main_arg0)
abbrev g (c : Dev nD) : S4096x1408.Idx → EReal := m ((c : Thread nD τ).loc main_arg1)
abbrev m1 (c : Dev nD) : S4096x1408.Idx → EReal := m ((c : Thread nD τ).loc main_arg2)
abbrev v (c : Dev nD) : S4096x1408.Idx → EReal := m ((c : Thread nD τ).loc main_arg3)

/-- Row `r` of point `t`'s block of 128 rows. -/
def row (t : Fin cfg0.N) (r : Fin 128) : Fin 4096 := ⟨128 * t.val + r.val, by have : t.val < 32 := t.isLt; omega⟩

theorem emb4 (t : Fin cfg0.N) (r : Fin 128) (k : Fin 1408) : (win0_4.rect t).emb (ix2 r k) = ix2 (row t r) k :=
  emb_at (fun t => ![t.val, 0]) (by intro a; fin_cases a <;> simp [row] <;> omega)

theorem emb5 (t : Fin cfg0.N) (r : Fin 128) (k : Fin 1408) : (win0_5.rect t).emb (ix2 r k) = ix2 (row t r) k :=
  emb_at (fun t => ![t.val, 0]) (by intro a; fin_cases a <;> simp [row] <;> omega)

theorem emb6 (t : Fin cfg0.N) (r : Fin 128) (k : Fin 1408) : (win0_6.rect t).emb (ix2 r k) = ix2 (row t r) k :=
  emb_at (fun t => ![t.val, 0]) (by intro a; fin_cases a <;> simp [row] <;> omega)

theorem emb7 (t : Fin cfg0.N) (r : Fin 128) (k : Fin 1408) : (win0_7.rect t).emb (ix2 r k) = ix2 (row t r) k :=
  emb_at (fun t => ![t.val, 0]) (by intro a; fin_cases a <;> simp [row] <;> omega)

theorem blk0 (c : Dev nD) (t : Fin cfg0.N) (r : Fin 128) (k : Fin 1408) :
    iblk m c 0 t (ix2 r k) = w m c (ix2 (row t r) k) :=
  (congrArg (V m c main_arg0) (emb_at (fun t => ![t.val, 0]) (by intro a; fin_cases a <;> simp [row] <;> omega))).trans (congrFun (V_main_arg0 m c) _)

theorem blk1 (c : Dev nD) (t : Fin cfg0.N) (r : Fin 128) (k : Fin 1408) :
    iblk m c 1 t (ix2 r k) = g m c (ix2 (row t r) k) :=
  (congrArg (V m c main_arg1) (emb_at (fun t => ![t.val, 0]) (by intro a; fin_cases a <;> simp [row] <;> omega))).trans (congrFun (V_main_arg1 m c) _)

theorem blk2 (c : Dev nD) (t : Fin cfg0.N) (r : Fin 128) (k : Fin 1408) :
    iblk m c 2 t (ix2 r k) = m1 m c (ix2 (row t r) k) :=
  (congrArg (V m c main_arg2) (emb_at (fun t => ![t.val, 0]) (by intro a; fin_cases a <;> simp [row] <;> omega))).trans (congrFun (V_main_arg2 m c) _)

theorem blk3 (c : Dev nD) (t : Fin cfg0.N) (r : Fin 128) (k : Fin 1408) :
    iblk m c 3 t (ix2 r k) = v m c (ix2 (row t r) k) :=
  (congrArg (V m c main_arg3) (emb_at (fun t => ![t.val, 0]) (by intro a; fin_cases a <;> simp [row] <;> omega))).trans (congrFun (V_main_arg3 m c) _)

theorem flushed4 (c : Dev nD) (t : Fin cfg0.N) (r : Fin 128) (l : Fin 1408) :
    ((dats m 0 c).flushed 4 t (ix2 r l) : EReal) = gradAt (g m c) (row t r) l := by
  rw [Cert.KernelAdamwIdeal.Value.flushed4 m c t]
  unfold out0_4
  simp only [Cert.Loads.mat]
  refine (Cert.Pieces.canon_hit _ _ _ (ix2 r l) (ix2 r l)).trans ?_
  exact (congrFun (Cert.Loads.mat _ _) _).trans (blk1 m c t r l)

theorem flushed5 (c : Dev nD) (t : Fin cfg0.N) (r : Fin 128) (l : Fin 1408) :
    ((dats m 0 c).flushed 5 t (ix2 r l) : EReal) = deltaAt (w m c) (g m c) (m1 m c) (v m c) (row t r) l := by
  rw [Cert.KernelAdamwIdeal.Value.flushed5 m c t]
  unfold out0_5
  simp only [Cert.Loads.mat]
  refine (Cert.Pieces.canon_hit _ _ _ (ix2 r l) (ix2 r l)).trans ?_
  pointwise [k0_pay3, k0_pay1, k0_pay2]
  simp only [blk0, blk1, blk2, blk3]
  rfl

theorem flushed6 (c : Dev nD) (t : Fin cfg0.N) (r : Fin 128) (l : Fin 1408) :
    ((dats m 0 c).flushed 6 t (ix2 r l) : EReal) = meanAt (g m c) (m1 m c) (row t r) l := by
  rw [Cert.KernelAdamwIdeal.Value.flushed6 m c t]
  unfold out0_6
  simp only [Cert.Loads.mat]
  refine (Cert.Pieces.canon_hit _ _ _ (ix2 r l) (ix2 r l)).trans ?_
  pointwise [k0_pay1]
  simp only [blk1, blk2]
  rfl

theorem flushed7 (c : Dev nD) (t : Fin cfg0.N) (r : Fin 128) (l : Fin 1408) :
    ((dats m 0 c).flushed 7 t (ix2 r l) : EReal) = squareAt (g m c) (v m c) (row t r) l := by
  rw [Cert.KernelAdamwIdeal.Value.flushed7 m c t]
  unfold out0_7
  simp only [Cert.Loads.mat]
  refine (Cert.Pieces.canon_hit _ _ _ (ix2 r l) (ix2 r l)).trans ?_
  pointwise [k0_pay2]
  simp only [blk1, blk3]
  rfl

theorem final4 (c : Dev nD) : (dats m 0 c).arrAt 4 cfg0.N
    = fun i : S4096x1408.Idx => gradAt (g m c) (i 0) (i 1) := by
  apply Dat.arrAt_eq_of_cover
  · intro t hf
    funext y
    obtain ⟨r, l, rfl⟩ : ∃ (r : Fin 128) (l : Fin 1408), y = ix2 r l := ⟨y 0, y 1, eq_ix2 y⟩
    refine (flushed4 m c t r l).trans ?_
    show _ = gradAt (g m c) ((win0_4.rect t).emb (ix2 r l) 0) ((win0_4.rect t).emb (ix2 r l) 1)
    rw [emb4]
    rfl
  · exact (by decide +kernel : (cfg0.win 4).Covers).cover _ (Memref.isWhole_whole _)

theorem final5 (c : Dev nD) : (dats m 0 c).arrAt 5 cfg0.N
    = fun i : S4096x1408.Idx => deltaAt (w m c) (g m c) (m1 m c) (v m c) (i 0) (i 1) := by
  apply Dat.arrAt_eq_of_cover
  · intro t hf
    funext y
    obtain ⟨r, l, rfl⟩ : ∃ (r : Fin 128) (l : Fin 1408), y = ix2 r l := ⟨y 0, y 1, eq_ix2 y⟩
    refine (flushed5 m c t r l).trans ?_
    show _ = deltaAt (w m c) (g m c) (m1 m c) (v m c) ((win0_5.rect t).emb (ix2 r l) 0) ((win0_5.rect t).emb (ix2 r l) 1)
    rw [emb5]
    rfl
  · exact (by decide +kernel : (cfg0.win 5).Covers).cover _ (Memref.isWhole_whole _)

theorem final6 (c : Dev nD) : (dats m 0 c).arrAt 6 cfg0.N
    = fun i : S4096x1408.Idx => meanAt (g m c) (m1 m c) (i 0) (i 1) := by
  apply Dat.arrAt_eq_of_cover
  · intro t hf
    funext y
    obtain ⟨r, l, rfl⟩ : ∃ (r : Fin 128) (l : Fin 1408), y = ix2 r l := ⟨y 0, y 1, eq_ix2 y⟩
    refine (flushed6 m c t r l).trans ?_
    show _ = meanAt (g m c) (m1 m c) ((win0_6.rect t).emb (ix2 r l) 0) ((win0_6.rect t).emb (ix2 r l) 1)
    rw [emb6]
    rfl
  · exact (by decide +kernel : (cfg0.win 6).Covers).cover _ (Memref.isWhole_whole _)

theorem final7 (c : Dev nD) : (dats m 0 c).arrAt 7 cfg0.N
    = fun i : S4096x1408.Idx => squareAt (g m c) (v m c) (i 0) (i 1) := by
  apply Dat.arrAt_eq_of_cover
  · intro t hf
    funext y
    obtain ⟨r, l, rfl⟩ : ∃ (r : Fin 128) (l : Fin 1408), y = ix2 r l := ⟨y 0, y 1, eq_ix2 y⟩
    refine (flushed7 m c t r l).trans ?_
    show _ = squareAt (g m c) (v m c) ((win0_7.rect t).emb (ix2 r l) 0) ((win0_7.rect t).emb (ix2 r l) 1)
    rw [emb7]
    rfl
  · exact (by decide +kernel : (cfg0.win 7).Covers).cover _ (Memref.isWhole_whole _)

end Cert.AdamwKernel

end
-- ==== Proof.AdamwRef.lean ====
/-
  The results of the optimiser's reference, read one element at a time.
-/
module

public import proofs.«01_k».proof.Proof.Gen.ReferenceAdamwIdeal.Read
public import proofs.«01_k».proof.Proof.AdamwSpec

@[expose] public section

noncomputable section

namespace Cert.AdamwRef

open Cert.ReferenceAdamwIdeal Cert.ReferenceAdamwIdeal.Gen Cert.ReferenceAdamwIdeal.Read Idealize.ShloMosaic
open Cert.Adamw

variable (w g m v : S4096x1408.Idx → EReal)

theorem ref_mean (i : Fin 4096) (j : Fin 1408) : val_main_v4 (F := Ideal) g m (ix2 i j) = meanAt g m i j := by
  pointwise [val_main_v4, val_main_v3, val_main_v2, val_main_v1, val_main_v0, val_main_cst, val_main_cst_0]
  rfl

theorem ref_square (i : Fin 4096) (j : Fin 1408) : val_main_v10 (F := Ideal) g v (ix2 i j) = squareAt g v i j := by
  pointwise [val_main_v10, val_main_v9, val_main_v8, val_main_v7, val_main_v6, val_main_v5, val_main_cst_1, val_main_cst_2]
  rfl

theorem ref_delta (i : Fin 4096) (j : Fin 1408) : val_main_v23 (F := Ideal) w g m v (ix2 i j) = deltaAt w g m v i j := by
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]
  simp only [ref_mean, ref_square]
  rfl

end Cert.AdamwRef

end
-- ==== Proof.AdamwClaim.lean ====
/-
  The optimiser's kernel and its reference leave the same four results.
-/
module

public import proofs.«01_k».proof.Defs
public import proofs.«01_k».proof.Proof.AdamwKernel
public import proofs.«01_k».proof.Proof.AdamwRef
public import Idealize.ShloMosaic.Lib.Quiescent

@[expose] public section

set_option maxRecDepth 16384

noncomputable section

namespace Cert.AdamwClaim

open Idealize.ShloMosaic Idealize.ShloMosaic.TcCoe Idealize.SL.Sem
open Cert.AdamwKernel Cert.Adamw

theorem algebraic :
    Cert.algebraic_KernelAdamwIdeal_ReferenceAdamwIdeal := by
  intro m g0 m' g' _ hag
  refine ⟨fun c => fun i => gradAt (g m c) (i 0) (i 1), fun c => fun i => deltaAt (w m c) (g m c) (m1 m c) (v m c) (i 0) (i 1), fun c => fun i => meanAt (g m c) (m1 m c) (i 0) (i 1), fun c => fun i => squareAt (g m c) (v m c) (i 0) (i 1), ?_, ?_⟩
  · refine (θ_run Cert.KernelAdamwIdeal.defs _ _).mono (fun r h c => ?_) (Cert.KernelAdamwIdeal.Value.run_blocks m g0)
    obtain ⟨r0, r1, r2, r3, ha⟩ := h c
    exact ⟨r0.trans (final4 m c), r1.trans (final5 m c), r2.trans (final6 m c), r3.trans (final7 m c), ha⟩
  · refine (θ_run Cert.ReferenceAdamwIdeal.defs _ _).mono (fun r h c => ?_) (Cert.ReferenceAdamwIdeal.Value.run m' g')
    obtain ⟨r0, r1, r2, r3, ha⟩ := h c
    obtain ⟨a0, a1, a2, a3⟩ := hag c
    rw [a1] at r0
    rw [Cert.ReferenceAdamwIdeal.Read.val_main_v23_eq, a0, a1, a2, a3] at r1
    rw [Cert.ReferenceAdamwIdeal.Read.val_main_v4_eq, a1, a2] at r2
    rw [Cert.ReferenceAdamwIdeal.Read.val_main_v10_eq, a1, a3] at r3
    refine ⟨r0.trans (funext fun i => ?_), r1.trans (funext fun i => ?_), r2.trans (funext fun i => ?_), r3.trans (funext fun i => ?_), ha⟩
    · obtain ⟨p, q, rfl⟩ : ∃ (p : Fin 4096) (q : Fin 1408), i = ix2 p q := ⟨i 0, i 1, by funext a; fin_cases a <;> rfl⟩
      exact rfl
    · obtain ⟨p, q, rfl⟩ : ∃ (p : Fin 4096) (q : Fin 1408), i = ix2 p q := ⟨i 0, i 1, by funext a; fin_cases a <;> rfl⟩
      exact Cert.AdamwRef.ref_delta _ _ _ _ p q
    · obtain ⟨p, q, rfl⟩ : ∃ (p : Fin 4096) (q : Fin 1408), i = ix2 p q := ⟨i 0, i 1, by funext a; fin_cases a <;> rfl⟩
      exact Cert.AdamwRef.ref_mean _ _ p q
    · obtain ⟨p, q, rfl⟩ : ∃ (p : Fin 4096) (q : Fin 1408), i = ix2 p q := ⟨i 0, i 1, by funext a; fin_cases a <;> rfl⟩
      exact Cert.AdamwRef.ref_square _ _ p q

/-- The reference runs, leaves its arguments unchanged and has no semaphore. -/
theorem reference_runs : Cert.quiescent_ReferenceAdamwIdeal := fun m g _ =>
  (θ_run Cert.ReferenceAdamwIdeal.defs _ _).mono
    (fun r h => ⟨fun c => (h c).2.2.2.2, sem_eq_zero_of_no_sems (by decide) r.2⟩) (Cert.ReferenceAdamwIdeal.Value.run m g)

end Cert.AdamwClaim

end
-- ==== Proof.ChipSumClaim.lean ====
/-
  The sum of a chip's two parts: the kernel and its reference leave the same array.
-/
module

public import proofs.«01_k».proof.Defs
public import proofs.«01_k».proof.Proof.Gen.KernelChipSumIdeal.Value
public import proofs.«01_k».proof.Proof.Gen.ReferenceChipSumIdeal.Read
public import Idealize.ShloMosaic.Lib.Pointwise
public import Idealize.ShloMosaic.Lib.Quiescent

@[expose] public section

noncomputable section

namespace Cert.ChipSumClaim

open Idealize.ShloMosaic Idealize.ShloMosaic.TcCoe Idealize.SL.Sem

/-- At each place: this device's half of the rows plus what arrived from its sibling. -/
def total (g : (Shape.mk 3 ![4, 1024, 1408]).Idx → EReal) (r : (Shape.mk 3 ![4, 512, 1408]).Idx → EReal) :
    (Shape.mk 3 ![4, 512, 1408]).Idx → EReal :=
  fun i => g (ix3 (i 0) ⟨(i 1 : ℕ), (i 1).isLt.trans (by decide)⟩ (i 2)) + r i

theorem kernel_total (g r) : Cert.KernelChipSumIdeal.Value.G2 (F := Ideal) g r = total g r := by
  funext i
  exact congrArg (fun j => g j + r i) (by funext a; fin_cases a <;> rfl)

theorem ref_total (g r) : Cert.ReferenceChipSumIdeal.Read.val_main_v4 (F := Ideal) g r = total g r := by
  funext i
  pointwise [Cert.ReferenceChipSumIdeal.Read.val_main_v4, Cert.ReferenceChipSumIdeal.Read.val_main_v3,
    Cert.ReferenceChipSumIdeal.Read.val_main_v2, Cert.ReferenceChipSumIdeal.Read.val_main_v1]
  rw [Cert.ReferenceChipSumIdeal.Read.val_main_v0_apply]
  exact congrArg (fun j => g j + r i) (by funext a; fin_cases a <;> rfl)

theorem algebraic : Cert.algebraic_KernelChipSumIdeal_ReferenceChipSumIdeal := by
  intro m g0 m' g' _ hag
  refine ⟨fun c => total (m (c.tc.loc Cert.KernelChipSumIdeal.main_arg0)) (m (c.tc.loc Cert.KernelChipSumIdeal.main_arg1)), ?_, ?_⟩
  · refine (θ_run Cert.KernelChipSumIdeal.defs _ _).mono (fun r h c => ?_) (Cert.KernelChipSumIdeal.Value.run m g0)
    exact ⟨(h c).1.trans (kernel_total _ _), (h c).2⟩
  · refine (θ_run Cert.ReferenceChipSumIdeal.defs _ _).mono (fun r h c => ?_) (Cert.ReferenceChipSumIdeal.Value.run m' g')
    obtain ⟨r0, ha⟩ := h c
    rw [Cert.ReferenceChipSumIdeal.Read.val_main_v4_eq, (hag c).1, (hag c).2] at r0
    exact ⟨r0.trans (ref_total _ _), ha⟩

/-- The reference runs, leaves its arguments unchanged and has no semaphore. -/
theorem reference_runs : Cert.quiescent_ReferenceChipSumIdeal := fun m g _ =>
  (θ_run Cert.ReferenceChipSumIdeal.defs _ _).mono
    (fun r h => ⟨fun c => (h c).2, sem_eq_zero_of_no_sems (by decide) r.2⟩) (Cert.ReferenceChipSumIdeal.Value.run m g)

end Cert.ChipSumClaim

end
-- ==== Proof.FinalSumKernel.lean ====
/-
  What the last sum's kernel leaves in the array of the summed gradients.
-/
module

public import Idealize.ShloMosaic.Lib.Pipeline.ValueKit.Geometry
public import proofs.«01_k».proof.Proof.Gen.KernelFinalSumIdeal.Value
public import proofs.«01_k».proof.Proof.Pieces
public import proofs.«01_k».proof.Proof.Loads

@[expose] public section

set_option maxRecDepth 16384

noncomputable section

namespace Cert.FinalSum

open Idealize.ShloMosaic

/-- The five parts of row `p`, column `q` added up: this device's own, its sibling's, and those of the three other chips. -/
def total (g : (Shape.mk 3 ![4, 1024, 1408]).Idx → EReal) (s : (Shape.mk 3 ![4, 512, 1408]).Idx → EReal)
    (o : (Shape.mk 3 ![3, 512, 1408]).Idx → EReal) (p : Fin 512) (q : Fin 1408) : EReal :=
  g (ix3 0 (p.castLE (by decide)) q) + s (ix3 0 p q) + o (ix3 0 p q) + o (ix3 1 p q) + o (ix3 2 p q)

/-- The sums stand in the first 512 rows of the first layer; the rest is what was there before. -/
def placed (a : (Shape.mk 3 ![4, 1024, 1408]).Idx → EReal) (f : Fin 512 → Fin 1408 → EReal) :
    (Shape.mk 3 ![4, 1024, 1408]).Idx → EReal :=
  fun i => if h : (i 0 : ℕ) = 0 ∧ (i 1 : ℕ) < 512 then f ⟨i 1, h.2⟩ (i 2) else a i

end Cert.FinalSum

namespace Cert.FinalSumKernel

open Cert.KernelFinalSumIdeal Cert.KernelFinalSumIdeal.Gen Idealize.ShloMosaic Idealize.ShloMosaic.TcCoe Idealize.SL.Sem
open Idealize.ShloMosaic.Pipeline (Dat)
open Cert.FinalSum

variable (m : (ℓ : Loc nD τ sig) → Buf (Elt Ideal) ℓ)

abbrev g (c : Dev nD) : S4x1024x1408.Idx → EReal := m ((c : Thread nD τ).loc main_arg0)
abbrev s (c : Dev nD) : S4x512x1408.Idx → EReal := m ((c : Thread nD τ).loc main_arg1)
abbrev o (c : Dev nD) : S3x512x1408.Idx → EReal := m ((c : Thread nD τ).loc main_arg2)
abbrev a (c : Dev nD) : S4x1024x1408.Idx → EReal := m ((c : Thread nD τ).loc main_arg3)

theorem V_a (c : Dev nD) : V m c main_v0 = a m c := by
  unfold V hostOps0
  after_results_simp
  rfl

/-- Row `r` of point `t`'s block of 256 rows. -/
def row (t : Fin cfg0.N) (r : Fin 256) : Fin 512 := ⟨256 * t.val + r.val, by have : t.val < 2 := t.isLt; omega⟩

theorem index5 : ∀ t : Fin grid0.N, win0_5.index t = ![0, t.val, 0] := by decide +kernel

theorem blk0 (c : Dev nD) (t : Fin cfg0.N) (r : Fin 256) (k : Fin 1408) :
    iblk m c 0 t (ix3 0 r k) = g m c (ix3 0 ((row t r).castLE (by decide)) k) :=
  (congrArg (V m c main_arg0) (emb_at (fun t => ![0, t.val, 0]) (by intro a; fin_cases a <;> simp [row] <;> omega))).trans (congrFun (V_main_arg0 m c) _)

theorem blk1 (c : Dev nD) (t : Fin cfg0.N) (r : Fin 256) (k : Fin 1408) : iblk m c 1 t (ix3 0 r k) = s m c (ix3 0 (row t r) k) :=
  (congrArg (V m c main_arg1) (emb_at (fun t => ![0, t.val, 0]) (by intro a; fin_cases a <;> simp [row] <;> omega))).trans (congrFun (V_main_arg1 m c) _)

theorem blk2 (c : Dev nD) (t : Fin cfg0.N) (r : Fin 256) (k : Fin 1408) : iblk m c 2 t (ix3 0 r k) = o m c (ix3 0 (row t r) k) :=
  (congrArg (V m c main_arg2) (emb_at (fun t => ![0, t.val, 0]) (by intro a; fin_cases a <;> simp [row] <;> omega))).trans (congrFun (V_main_arg2 m c) _)

theorem blk3 (c : Dev nD) (t : Fin cfg0.N) (r : Fin 256) (k : Fin 1408) : iblk m c 3 t (ix3 0 r k) = o m c (ix3 1 (row t r) k) :=
  (congrArg (V m c main_arg2) (emb_at (fun t => ![1, t.val, 0]) (by intro a; fin_cases a <;> simp [row] <;> omega))).trans (congrFun (V_main_arg2 m c) _)

theorem blk4 (c : Dev nD) (t : Fin cfg0.N) (r : Fin 256) (k : Fin 1408) : iblk m c 4 t (ix3 0 r k) = o m c (ix3 2 (row t r) k) :=
  (congrArg (V m c main_arg2) (emb_at (fun t => ![2, t.val, 0]) (by intro a; fin_cases a <;> simp [row] <;> omega))).trans (congrFun (V_main_arg2 m c) _)

theorem flushed (c : Dev nD) (t : Fin cfg0.N) (r : Fin 256) (k : Fin 1408) :
    ((dats m 0 c).flushed 5 t (ix3 0 r k) : EReal) = total (g m c) (s m c) (o m c) (row t r) k := by
  rw [Cert.KernelFinalSumIdeal.Value.flushed5_A m c t]
  unfold out0_A_5 kernelRun0_A
  dsimp only
  sl_unfold_words
  simp only [View.readAt_eq_ld, Memref.IsWhole.read_unread]
  rw [View.read_writes_junk_eq_canon]
  refine (Cert.Pieces.canon_hit _ _ _ (ix3 0 r k) (ix3 0 r k)).trans ?_
  simp only [Cert.Loads.cube]
  pointwise [k0_pay1]
  simp only [blk0, blk1, blk2, blk3, blk4]
  rfl

theorem row_surj (p : Fin 512) : ∃ (t : Fin cfg0.N) (r : Fin 256), row t r = p :=
  ⟨⟨(p : ℕ) / 256, show _ < 2 by omega⟩, ⟨(p : ℕ) % 256, by omega⟩, Fin.ext (Nat.div_add_mod _ _)⟩

theorem written (c : Dev nD) (t : Fin cfg0.N) (r : Fin 256) (k : Fin 1408) :
    ((dats m 0 c).arrAt 5 cfg0.N (ix3 0 ((row t r).castLE (by decide)) k) : EReal) = total (g m c) (s m c) (o m c) (row t r) k :=
  (congrArg ((dats m 0 c).arrAt 5 cfg0.N) (emb_eq (index5 t) (by intro a; fin_cases a <;> simp [row] <;> omega)).symm).trans
    ((congrFun (Cert.KernelFinalSumIdeal.Value.blocks5 m c t (flush0_5 t)) (ix3 0 r k)).trans (flushed m c t r k))

/-- A place in a point's block is in the first 512 rows of the first layer. -/
theorem inside (t : Fin cfg0.N) (i : S4x1024x1408.Idx) (h : i ∈ ((cfg0.win 5).blk t).view.set) : (i 0 : ℕ) = 0 ∧ (i 1 : ℕ) < 512 := by
  have h : i ∈ ((View.whole main_v0).slice (win0_5.rect t)).set := h
  rw [View.set_slice_whole, Rect.mem_set_unit] at h
  have h0 : win0_5.index t 0 * 1 ≤ (i 0 : ℕ) ∧ (i 0 : ℕ) < win0_5.index t 0 * 1 + 1 := h 0
  have h1 : win0_5.index t 1 * 256 ≤ (i 1 : ℕ) ∧ (i 1 : ℕ) < win0_5.index t 1 * 256 + 256 := h 1
  have e0 : win0_5.index t 0 = 0 := congrFun (index5 t) 0
  have e1 : win0_5.index t 1 = t.val := congrFun (index5 t) 1
  have : t.val < 2 := t.isLt
  omega

/-- The array after the run: written where a point's block lies, untouched elsewhere. -/
theorem final (c : Dev nD) : (dats m 0 c).arrAt 5 cfg0.N = placed (a m c) (total (g m c) (s m c) (o m c)) := by
  funext i
  unfold placed
  split_ifs with h
  · obtain ⟨t, r, e⟩ := row_surj ⟨i 1, h.2⟩
    refine (congrArg ((dats m 0 c).arrAt 5 cfg0.N) (?_ : i = ix3 0 ((row t r).castLE (by decide)) (i 2))).trans
      ((written m c t r (i 2)).trans (congrArg (fun p => total (g m c) (s m c) (o m c) p (i 2)) e))
    funext a
    fin_cases a
    · exact Fin.ext h.1
    · exact Fin.ext (congrArg Fin.val e).symm
    · rfl
  · exact (Cert.KernelFinalSumIdeal.Value.entry5 m c i fun t _ hi => h (inside t i hi)).trans (congrFun (V_a m c) i)

end Cert.FinalSumKernel

end
-- ==== Proof.FinalSumClaim.lean ====
/-
  The last sum of the exchanged parts: the kernel and its reference leave the same array.
-/
module

public import proofs.«01_k».proof.Defs
public import proofs.«01_k».proof.Proof.FinalSumKernel
public import proofs.«01_k».proof.Proof.Gen.ReferenceFinalSumIdeal.Read
public import Idealize.ShloMosaic.Lib.Quiescent

@[expose] public section

noncomputable section

namespace Cert.FinalSumClaim

open Idealize.ShloMosaic Idealize.ShloMosaic.TcCoe Idealize.SL.Sem
open Cert.FinalSum Cert.FinalSumKernel Cert.ReferenceFinalSumIdeal.Read

theorem ref_total (g s o p q) : val_main_v9 (F := Ideal) g s o (ix2 p q) = total g s o p q := by
  pointwise [val_main_v9, val_main_v8, val_main_v7, val_main_v6, val_main_v5, val_main_v4, val_main_v3, val_main_v2, val_main_v1,
    val_main_v0, val_main_cst]
  simp only [Fin.sum_univ_three]
  simp only [← add_assoc]
  rfl

theorem ref_placed (g s o a) : val_main_v11 (F := Ideal) g s o a = placed a (total g s o) := by
  funext i
  unfold val_main_v11
  rw [Host.dynamicUpdateSlice_eq_updateSlice _ _ _ _ ![0, 0, 0] (by decide) (by decide), updateSlice_apply]
  unfold placed
  by_cases h : (i 0 : ℕ) = 0 ∧ (i 1 : ℕ) < 512
  · rw [dif_pos h, dif_pos (by
      intro a
      fin_cases a
      exacts [⟨Nat.zero_le _, h.1.trans_lt Nat.one_pos⟩, ⟨Nat.zero_le _, h.2.trans_eq (Nat.zero_add _).symm⟩, ⟨Nat.zero_le _, (i 2).isLt.trans_eq (Nat.zero_add _).symm⟩])]
    rw [val_main_v10_apply]
    exact (congrArg (val_main_v9 (F := Ideal) g s o) (by funext a; fin_cases a <;> rfl)).trans (ref_total g s o ⟨i 1, h.2⟩ (i 2))
  · rw [dif_neg h, dif_neg]
    exact fun k => h ⟨Nat.lt_one_iff.mp (k 0).2, (k 1).2.trans_eq (Nat.zero_add _)⟩

theorem algebraic : Cert.algebraic_KernelFinalSumIdeal_ReferenceFinalSumIdeal := by
  intro m g0 m' g' _ hag
  refine ⟨fun c => placed (a m c) (total (g m c) (s m c) (o m c)), ?_, ?_⟩
  · refine (θ_run Cert.KernelFinalSumIdeal.defs _ _).mono (fun r h c => ?_) (Cert.KernelFinalSumIdeal.Value.run_blocks m g0)
    exact ⟨(h c).1.trans (final m c), (h c).2⟩
  · refine (θ_run Cert.ReferenceFinalSumIdeal.defs _ _).mono (fun r h c => ?_) (Cert.ReferenceFinalSumIdeal.Value.run m' g')
    obtain ⟨r0, ha⟩ := h c
    obtain ⟨a0, a1, a2, a3⟩ := hag c
    rw [a0, a1, a2, a3] at r0
    exact ⟨r0.trans ((val_main_v11_eq _ _ _ _).trans (ref_placed _ _ _ _)), ha⟩

/-- The reference runs, leaves its arguments unchanged and has no semaphore. -/
theorem reference_runs : Cert.quiescent_ReferenceFinalSumIdeal := fun m g _ =>
  (θ_run Cert.ReferenceFinalSumIdeal.defs _ _).mono
    (fun r h => ⟨fun c => (h c).2, sem_eq_zero_of_no_sems (by decide) r.2⟩) (Cert.ReferenceFinalSumIdeal.Value.run m g)

end Cert.FinalSumClaim

end
-- ==== Proof.PlaceOwnKernel.lean ====
/-
  What the kernel that lays a device's own shards into the gathered arrays leaves there.
-/
module

public import Idealize.ShloMosaic.Lib.Pipeline.ValueKit.Geometry
public import proofs.«01_k».proof.Proof.Gen.KernelPlaceOwnIdeal.Value
public import proofs.«01_k».proof.Proof.Pieces
public import proofs.«01_k».proof.Proof.Loads

@[expose] public section

set_option maxRecDepth 16384

noncomputable section

namespace Cert.PlaceOwn

open Idealize.ShloMosaic

/-- The shard stands first; the three others are what was there before. -/
def placed {R C : ℕ} (a : (Shape.mk 3 ![4, R, C]).Idx → EReal) (w : (Shape.mk 2 ![R, C]).Idx → EReal) :
    (Shape.mk 3 ![4, R, C]).Idx → EReal :=
  fun i => if (i 0 : ℕ) = 0 then w (ix2 (i 1) (i 2)) else a i

end Cert.PlaceOwn

namespace Cert.PlaceOwnKernel

open Cert.KernelPlaceOwnIdeal Cert.KernelPlaceOwnIdeal.Gen Idealize.ShloMosaic Idealize.ShloMosaic.TcCoe Idealize.SL.Sem
open Cert.PlaceOwn

variable (m : (ℓ : Loc nD τ sig) → Buf (Elt Ideal) ℓ)

abbrev upLand (c : Dev nD) : S4x1024x1408.Idx → EReal := m ((c : Thread nD τ).loc main_arg0)
abbrev downLand (c : Dev nD) : S4x704x1024.Idx → EReal := m ((c : Thread nD τ).loc main_arg1)
abbrev up (c : Dev nD) : S1024x1408.Idx → EReal := m ((c : Thread nD τ).loc main_arg2)
abbrev down (c : Dev nD) : S704x1024.Idx → EReal := m ((c : Thread nD τ).loc main_arg3)

theorem V_upLand (c : Dev nD) : V m c main_v0_0 = upLand m c := by
  unfold V hostOps0
  after_results_simp
  rfl

/-- Row `r` of point `t`'s block of 256 rows of the up shard. -/
def upRow (t : Fin cfg0.N) (r : Fin 256) : Fin 1024 := ⟨256 * t.val + r.val, by have : t.val < 4 := t.isLt; omega⟩

theorem index_up : ∀ t : Fin grid0.N, win0_2.index t = ![0, t.val, 0] := by decide +kernel

theorem up_written (c : Dev nD) (t : Fin cfg0.N) (r : Fin 256) (k : Fin 1408) :
    ((dats m 0 c).arrAt 2 cfg0.N (ix3 0 (upRow t r) k) : EReal) = up m c (ix2 (upRow t r) k) := by
  refine (congrArg ((dats m 0 c).arrAt 2 cfg0.N) (emb_eq (index_up t) (y := ix3 0 r k)
    (by intro a; fin_cases a <;> simp [upRow] <;> omega)).symm).trans
      ((congrFun (Cert.KernelPlaceOwnIdeal.Value.blocks2 m c t (flush0_2 t)) (ix3 0 r k)).trans ?_)
  rw [Cert.KernelPlaceOwnIdeal.Value.flushed2_A m c t]
  unfold out0_A_2 kernelRun0_A
  dsimp only
  sl_unfold_words
  simp only [View.readAt_eq_ld, Memref.IsWhole.read_unread]
  rw [View.read_writes_junk_eq_canon]
  refine (Cert.Pieces.canon_hit _ _ _ (ix3 0 r k) (ix3 0 r k)).trans ?_
  simp only [Cert.Loads.mat]
  pointwise [k0_pay1]
  exact (congrArg (V m c main_arg2) (emb_at (fun t => ![t.val, 0]) (by intro a; fin_cases a <;> simp [upRow] <;> omega))).trans (congrFun (V_main_arg2 m c) _)

theorem up_final (c : Dev nD) : (dats m 0 c).arrAt 2 cfg0.N = placed (upLand m c) (up m c) := by
  funext i
  unfold placed
  split_ifs with h
  · obtain ⟨t, r, e⟩ : ∃ (t : Fin cfg0.N) (r : Fin 256), upRow t r = i 1 :=
      ⟨⟨(i 1 : ℕ) / 256, show _ < 4 by have : (i 1 : ℕ) < 1024 := (i 1).isLt; omega⟩, ⟨(i 1 : ℕ) % 256, by omega⟩, Fin.ext (Nat.div_add_mod _ _)⟩
    refine (congrArg ((dats m 0 c).arrAt 2 cfg0.N) (?_ : i = ix3 0 (upRow t r) (i 2))).trans
      ((up_written m c t r (i 2)).trans (congrArg (fun p => up m c (ix2 p (i 2))) e))
    funext a
    fin_cases a
    exacts [Fin.ext h, e.symm, rfl]
  · refine (Cert.KernelPlaceOwnIdeal.Value.entry2 m c i fun t _ hi => h ?_).trans (congrFun (V_upLand m c) i)
    have hi : i ∈ ((View.whole main_v0_0).slice (win0_2.rect t)).set := hi
    rw [View.set_slice_whole, Rect.mem_set_unit] at hi
    have h0 : win0_2.index t 0 * 1 ≤ (i 0 : ℕ) ∧ (i 0 : ℕ) < win0_2.index t 0 * 1 + 1 := hi 0
    have e0 : win0_2.index t 0 = 0 := congrFun (index_up t) 0
    omega

theorem V_downLand (c : Dev nD) : V m c main_v0_1 = downLand m c := by
  unfold V hostOps0
  after_results_simp
  rfl

/-- Row `r` of point `t`'s block of 176 rows of the down shard. -/
def downRow (t : Fin cfg0.N) (r : Fin 176) : Fin 704 := ⟨176 * t.val + r.val, by have : t.val < 4 := t.isLt; omega⟩

theorem index_down : ∀ t : Fin grid0.N, win0_3.index t = ![0, t.val, 0] := by decide +kernel

theorem down_written (c : Dev nD) (t : Fin cfg0.N) (r : Fin 176) (k : Fin 1024) :
    ((dats m 0 c).arrAt 3 cfg0.N (ix3 0 (downRow t r) k) : EReal) = down m c (ix2 (downRow t r) k) := by
  refine (congrArg ((dats m 0 c).arrAt 3 cfg0.N) (emb_eq (index_down t) (y := ix3 0 r k)
    (by intro a; fin_cases a <;> simp [downRow] <;> omega)).symm).trans
      ((congrFun (Cert.KernelPlaceOwnIdeal.Value.blocks3 m c t (flush0_3 t)) (ix3 0 r k)).trans ?_)
  rw [Cert.KernelPlaceOwnIdeal.Value.flushed3_A m c t]
  unfold out0_A_3 kernelRun0_A
  dsimp only
  sl_unfold_words
  simp only [View.readAt_eq_ld, Memref.IsWhole.read_unread]
  rw [View.read_writes_junk_eq_canon]
  refine (Cert.Pieces.canon_hit _ _ _ (ix3 0 r k) (ix3 0 r k)).trans ?_
  simp only [Cert.Loads.mat]
  pointwise [k0_pay2]
  exact (congrArg (V m c main_arg3) (emb_at (fun t => ![t.val, 0]) (by intro a; fin_cases a <;> simp [downRow] <;> omega))).trans (congrFun (V_main_arg3 m c) _)

theorem down_final (c : Dev nD) : (dats m 0 c).arrAt 3 cfg0.N = placed (downLand m c) (down m c) := by
  funext i
  unfold placed
  split_ifs with h
  · obtain ⟨t, r, e⟩ : ∃ (t : Fin cfg0.N) (r : Fin 176), downRow t r = i 1 :=
      ⟨⟨(i 1 : ℕ) / 176, show _ < 4 by have : (i 1 : ℕ) < 704 := (i 1).isLt; omega⟩, ⟨(i 1 : ℕ) % 176, by omega⟩, Fin.ext (Nat.div_add_mod _ _)⟩
    refine (congrArg ((dats m 0 c).arrAt 3 cfg0.N) (?_ : i = ix3 0 (downRow t r) (i 2))).trans
      ((down_written m c t r (i 2)).trans (congrArg (fun p => down m c (ix2 p (i 2))) e))
    funext a
    fin_cases a
    exacts [Fin.ext h, e.symm, rfl]
  · refine (Cert.KernelPlaceOwnIdeal.Value.entry3 m c i fun t _ hi => h ?_).trans (congrFun (V_downLand m c) i)
    have hi : i ∈ ((View.whole main_v0_1).slice (win0_3.rect t)).set := hi
    rw [View.set_slice_whole, Rect.mem_set_unit] at hi
    have h0 : win0_3.index t 0 * 1 ≤ (i 0 : ℕ) ∧ (i 0 : ℕ) < win0_3.index t 0 * 1 + 1 := hi 0
    have e0 : win0_3.index t 0 = 0 := congrFun (index_down t) 0
    omega

end Cert.PlaceOwnKernel

end
-- ==== Proof.PlaceOwnClaim.lean ====
/-
  A device's own shards in the gathered arrays: the kernel and its reference leave the same two arrays.
-/
module

public import proofs.«01_k».proof.Defs
public import proofs.«01_k».proof.Proof.PlaceOwnKernel
public import proofs.«01_k».proof.Proof.Gen.ReferencePlaceOwnIdeal.Read
public import Idealize.ShloMosaic.Lib.Quiescent

@[expose] public section

noncomputable section

namespace Cert.PlaceOwnClaim

open Idealize.ShloMosaic Idealize.ShloMosaic.TcCoe Idealize.SL.Sem
open Cert.PlaceOwn Cert.PlaceOwnKernel Cert.ReferencePlaceOwnIdeal.Read

/-- An update of the first slice of an array puts the new slice there. -/
theorem update {R C : ℕ} (a : (Shape.mk 3 ![4, R, C]).Idx → EReal) (w : (Shape.mk 2 ![R, C]).Idx → EReal)
    (u : (Shape.mk 3 ![1, R, C]).Idx → EReal) (hu : ∀ p q, u (ix3 0 p q) = w (ix2 p q)) (hs) :
    updateSlice a u ![0, 0, 0] hs = placed a w := by
  funext i
  rw [updateSlice_apply]
  unfold placed
  by_cases h : (i 0 : ℕ) = 0
  · rw [if_pos h, dif_pos (by
      intro a
      fin_cases a
      exacts [⟨Nat.zero_le _, h.trans_lt Nat.one_pos⟩, ⟨Nat.zero_le _, (i 1).isLt.trans_eq (Nat.zero_add _).symm⟩,
        ⟨Nat.zero_le _, (i 2).isLt.trans_eq (Nat.zero_add _).symm⟩])]
    refine (congrArg u ?_).trans (hu (i 1) (i 2))
    funext a
    fin_cases a
    exacts [Fin.ext h, rfl, rfl]
  · rw [if_neg h, dif_neg]
    exact fun k => h (Nat.lt_one_iff.mp (k 0).2)

theorem ref_up (a w) : val_main_v1 (F := Ideal) a w = placed a w := by
  unfold val_main_v1
  rw [Host.dynamicUpdateSlice_eq_updateSlice _ _ _ _ ![0, 0, 0] (by decide) (by decide)]
  exact update a w _ (fun p q => by pointwise [val_main_v0]) _

theorem ref_down (a w) : val_main_v3 (F := Ideal) a w = placed a w := by
  unfold val_main_v3
  rw [Host.dynamicUpdateSlice_eq_updateSlice _ _ _ _ ![0, 0, 0] (by decide) (by decide)]
  exact update a w _ (fun p q => by pointwise [val_main_v2]) _

theorem algebraic : Cert.algebraic_KernelPlaceOwnIdeal_ReferencePlaceOwnIdeal := by
  intro m g0 m' g' _ hag
  refine ⟨fun c => placed (upLand m c) (up m c), fun c => placed (downLand m c) (down m c), ?_, ?_⟩
  · refine (θ_run Cert.KernelPlaceOwnIdeal.defs _ _).mono (fun r h c => ?_) (Cert.KernelPlaceOwnIdeal.Value.run_blocks m g0)
    exact ⟨(h c).1.trans (up_final m c), (h c).2.1.trans (down_final m c), (h c).2.2⟩
  · refine (θ_run Cert.ReferencePlaceOwnIdeal.defs _ _).mono (fun r h c => ?_) (Cert.ReferencePlaceOwnIdeal.Value.run m' g')
    obtain ⟨r0, r1, ha⟩ := h c
    obtain ⟨a0, a1, a2, a3⟩ := hag c
    rw [a0, a2] at r0
    rw [a1, a3] at r1
    exact ⟨r0.trans ((val_main_v1_eq _ _).trans (ref_up _ _)), r1.trans ((val_main_v3_eq _ _).trans (ref_down _ _)), ha⟩

/-- The reference runs, leaves its arguments unchanged and has no semaphore. -/
theorem reference_runs : Cert.quiescent_ReferencePlaceOwnIdeal := fun m g _ =>
  (θ_run Cert.ReferencePlaceOwnIdeal.defs _ _).mono
    (fun r h => ⟨fun c => (h c).2.2, sem_eq_zero_of_no_sems (by decide) r.2⟩) (Cert.ReferencePlaceOwnIdeal.Value.run m g)

end Cert.PlaceOwnClaim

end
-- ==== Proof.lean ====
/-
  The claims, put together from the modules that prove them.
-/
module

public import Idealize.ShloMosaic.Init
public import proofs.«01_k».proof.Defs
public import proofs.«01_k».proof.Proof.Gen.KernelGate.Frame
public import proofs.«01_k».proof.Proof.Gen.KernelGateIdeal.Frame
public import proofs.«01_k».proof.Proof.Gen.ReferenceGateIdeal.Run
public import proofs.«01_k».proof.Proof.Gen.KernelAttn.Frame
public import proofs.«01_k».proof.Proof.Gen.KernelAttnIdeal.Frame
public import proofs.«01_k».proof.Proof.Gen.ReferenceAttnIdeal.Run
public import proofs.«01_k».proof.Proof.Gen.KernelPool.Frame
public import proofs.«01_k».proof.Proof.Gen.KernelPoolIdeal.Frame
public import proofs.«01_k».proof.Proof.Gen.ReferencePoolIdeal.Run
public import proofs.«01_k».proof.Proof.Gen.KernelLat.Frame
public import proofs.«01_k».proof.Proof.Gen.KernelLatIdeal.Frame
public import proofs.«01_k».proof.Proof.Gen.ReferenceLatIdeal.Run
public import proofs.«01_k».proof.Proof.Gen.KernelAct.Frame
public import proofs.«01_k».proof.Proof.Gen.KernelActIdeal.Frame
public import proofs.«01_k».proof.Proof.Gen.ReferenceActIdeal.Run
public import proofs.«01_k».proof.Proof.Gen.KernelUpNorm.Frame
public import proofs.«01_k».proof.Proof.Gen.KernelUpNormIdeal.Frame
public import proofs.«01_k».proof.Proof.Gen.ReferenceUpNormIdeal.Run
public import proofs.«01_k».proof.Proof.Gen.KernelInNorm.Frame
public import proofs.«01_k».proof.Proof.Gen.KernelInNormIdeal.Frame
public import proofs.«01_k».proof.Proof.Gen.ReferenceInNormIdeal.Run
public import proofs.«01_k».proof.Proof.Gen.KernelLoss.Frame
public import proofs.«01_k».proof.Proof.Gen.KernelLossIdeal.Frame
public import proofs.«01_k».proof.Proof.Gen.ReferenceLossIdeal.Run
public import proofs.«01_k».proof.Proof.Gen.KernelRms.Frame
public import proofs.«01_k».proof.Proof.Gen.KernelRmsIdeal.Frame
public import proofs.«01_k».proof.Proof.Gen.ReferenceRmsIdeal.Run
public import proofs.«01_k».proof.Proof.Gen.KernelUpAct.Frame
public import proofs.«01_k».proof.Proof.Gen.KernelUpActIdeal.Frame
public import proofs.«01_k».proof.Proof.Gen.ReferenceUpActIdeal.Run
public import proofs.«01_k».proof.Proof.Gen.KernelProjGate.Frame
public import proofs.«01_k».proof.Proof.Gen.KernelProjGateIdeal.Frame
public import proofs.«01_k».proof.Proof.Gen.ReferenceProjGateIdeal.Run
public import proofs.«01_k».proof.Proof.Gen.KernelLatFwd.Frame
public import proofs.«01_k».proof.Proof.Gen.KernelLatFwdIdeal.Frame
public import proofs.«01_k».proof.Proof.Gen.ReferenceLatFwdIdeal.Run
public import proofs.«01_k».proof.Proof.Gen.KernelPoolFwd.Frame
public import proofs.«01_k».proof.Proof.Gen.KernelPoolFwdIdeal.Frame
public import proofs.«01_k».proof.Proof.Gen.ReferencePoolFwdIdeal.Run
public import proofs.«01_k».proof.Proof.Gen.KernelSwap
public import proofs.«01_k».proof.Proof.Gen.KernelSwapIdeal
public import proofs.«01_k».proof.Proof.Gen.ReferenceSwapIdeal.Run
public import proofs.«01_k».proof.Proof.Gen.KernelDown.Frame
public import proofs.«01_k».proof.Proof.Gen.KernelDownIdeal.Frame
public import proofs.«01_k».proof.Proof.Gen.ReferenceDownIdeal.Run
public import proofs.«01_k».proof.Proof.Gen.KernelMixIn.Frame
public import proofs.«01_k».proof.Proof.Gen.KernelMixInIdeal.Frame
public import proofs.«01_k».proof.Proof.Gen.ReferenceMixInIdeal.Run
public import proofs.«01_k».proof.Proof.Gen.KernelUpDw.Frame
public import proofs.«01_k».proof.Proof.Gen.KernelUpDwIdeal.Frame
public import proofs.«01_k».proof.Proof.Gen.ReferenceUpDwIdeal.Run
public import proofs.«01_k».proof.Proof.Gen.KernelAdamw.Frame
public import proofs.«01_k».proof.Proof.Gen.KernelAdamwIdeal.Frame
public import proofs.«01_k».proof.Proof.Gen.ReferenceAdamwIdeal.Run
public import proofs.«01_k».proof.Proof.Gen.KernelChipSum.Frame
public import proofs.«01_k».proof.Proof.Gen.KernelChipSumIdeal.Frame
public import proofs.«01_k».proof.Proof.Gen.ReferenceChipSumIdeal.Run
public import proofs.«01_k».proof.Proof.Gen.KernelFinalSum.Frame
public import proofs.«01_k».proof.Proof.Gen.KernelFinalSumIdeal.Frame
public import proofs.«01_k».proof.Proof.Gen.ReferenceFinalSumIdeal.Run
public import proofs.«01_k».proof.Proof.Gen.KernelPlaceOwn.Frame
public import proofs.«01_k».proof.Proof.Gen.KernelPlaceOwnIdeal.Frame
public import proofs.«01_k».proof.Proof.Gen.ReferencePlaceOwnIdeal.Run
public import proofs.«01_k».proof.Proof.GateClaim
public import proofs.«01_k».proof.Proof.AttnClaim
public import proofs.«01_k».proof.Proof.PoolClaim
public import proofs.«01_k».proof.Proof.LatClaim
public import proofs.«01_k».proof.Proof.ActClaim
public import proofs.«01_k».proof.Proof.UpNormClaim
public import proofs.«01_k».proof.Proof.InNormClaim
public import proofs.«01_k».proof.Proof.LossClaim
public import proofs.«01_k».proof.Proof.RmsClaim
public import proofs.«01_k».proof.Proof.UpActClaim
public import proofs.«01_k».proof.Proof.ProjGateClaim
public import proofs.«01_k».proof.Proof.LatFwdClaim
public import proofs.«01_k».proof.Proof.PoolFwdClaim
public import proofs.«01_k».proof.Proof.SwapClaim
public import proofs.«01_k».proof.Proof.DownClaim
public import proofs.«01_k».proof.Proof.MixInClaim
public import proofs.«01_k».proof.Proof.UpDwClaim
public import proofs.«01_k».proof.Proof.AdamwClaim
public import proofs.«01_k».proof.Proof.ChipSumClaim
public import proofs.«01_k».proof.Proof.FinalSumClaim
public import proofs.«01_k».proof.Proof.PlaceOwnClaim

@[expose] public section

noncomputable section

namespace Cert.Proof

open Idealize.ShloMosaic Idealize.SL.Sem

/-- The side conditions of the precondition `finite_attn`. -/
instance pre_finite_attn_facts : Cert.Pre_finite_attn.Facts where
  bcast_S_S2x2048x8x192 := by decide
  reducesTo_S2x2048x8x192_S_d0_1_2_3 := by decide
  h_S_ := by decide
  bcast_S_S2x2048x8x256 := by decide
  reducesTo_S2x2048x8x256_S_d0_1_2_3 := by decide
  bcast_S_S2x2048x64 := by decide
  reducesTo_S2x2048x64_S_d0_1_2 := by decide
  bcast_S_S2x2048x8x128 := by decide
  reducesTo_S2x2048x8x128_S_d0_1_2_3 := by decide

/-- The side conditions of the precondition `finite_pool`. -/
instance pre_finite_pool_facts : Cert.Pre_finite_pool.Facts where
  bcast_S_S2x2048x512 := by decide
  reducesTo_S2x2048x512_S_d0_1_2 := by decide
  h_S_ := by decide
  bcast_S_S4x128x128 := by decide
  reducesTo_S4x128x128_S_d0_1_2 := by decide
  bcast_S_S512 := by decide
  reducesTo_S512_S_d0 := by decide

/-- The side conditions of the precondition `finite_act`. -/
instance pre_finite_act_facts : Cert.Pre_finite_act.Facts where
  bcast_S_S4096x1024 := by decide
  reducesTo_S4096x1024_S_d0_1 := by decide
  h_S_ := by decide
  bcast_S_S2816x1024 := by decide
  reducesTo_S2816x1024_S_d0_1 := by decide
  bcast_S_S4096x2816 := by decide
  reducesTo_S4096x2816_S_d0_1 := by decide

/-- The side conditions of the precondition `finite_poolf`. -/
instance pre_finite_poolf_facts : Cert.Pre_finite_poolf.Facts where
  bcast_S_S2x2048x512 := by decide
  reducesTo_S2x2048x512_S_d0_1_2 := by decide
  h_S_ := by decide

/-- The side conditions of the mask `head_columns`. -/
instance on_head_columns_facts : Cert.On_head_columns.Facts where
  bcast_S_S4096x2048 := by decide
  bcast_S_S4096x128 := by decide
  bcast_S_S4096x1024 := by decide
  bcast_S_S8x4096x1 := by decide

/-- The side conditions of the mask `lat_columns`. -/
instance on_lat_columns_facts : Cert.On_lat_columns.Facts where
  bcast_S_S4096x768 := by decide
  bcast_S_S1x384 := by decide
  bcast_S_S1x256 := by decide

theorem claim : Cert.Claim :=
  ⟨Cert.KernelGate.Gen.facts,
    Cert.KernelGateIdeal.Gen.facts,
    Cert.ReferenceGateIdeal.Gen.facts,
    Cert.KernelAttn.Gen.facts,
    Cert.KernelAttnIdeal.Gen.facts,
    Cert.ReferenceAttnIdeal.Gen.facts,
    Cert.KernelPool.Gen.facts,
    Cert.KernelPoolIdeal.Gen.facts,
    Cert.ReferencePoolIdeal.Gen.facts,
    Cert.KernelLat.Gen.facts,
    Cert.KernelLatIdeal.Gen.facts,
    Cert.ReferenceLatIdeal.Gen.facts,
    Cert.KernelAct.Gen.facts,
    Cert.KernelActIdeal.Gen.facts,
    Cert.ReferenceActIdeal.Gen.facts,
    Cert.KernelUpNorm.Gen.facts,
    Cert.KernelUpNormIdeal.Gen.facts,
    Cert.ReferenceUpNormIdeal.Gen.facts,
    Cert.KernelInNorm.Gen.facts,
    Cert.KernelInNormIdeal.Gen.facts,
    Cert.ReferenceInNormIdeal.Gen.facts,
    Cert.KernelLoss.Gen.facts,
    Cert.KernelLossIdeal.Gen.facts,
    Cert.ReferenceLossIdeal.Gen.facts,
    Cert.KernelRms.Gen.facts,
    Cert.KernelRmsIdeal.Gen.facts,
    Cert.ReferenceRmsIdeal.Gen.facts,
    Cert.KernelUpAct.Gen.facts,
    Cert.KernelUpActIdeal.Gen.facts,
    Cert.ReferenceUpActIdeal.Gen.facts,
    Cert.KernelProjGate.Gen.facts,
    Cert.KernelProjGateIdeal.Gen.facts,
    Cert.ReferenceProjGateIdeal.Gen.facts,
    Cert.KernelLatFwd.Gen.facts,
    Cert.KernelLatFwdIdeal.Gen.facts,
    Cert.ReferenceLatFwdIdeal.Gen.facts,
    Cert.KernelPoolFwd.Gen.facts,
    Cert.KernelPoolFwdIdeal.Gen.facts,
    Cert.ReferencePoolFwdIdeal.Gen.facts,
    Cert.KernelSwap.Gen.facts,
    Cert.KernelSwapIdeal.Gen.facts,
    Cert.ReferenceSwapIdeal.Gen.facts,
    Cert.KernelDown.Gen.facts,
    Cert.KernelDownIdeal.Gen.facts,
    Cert.ReferenceDownIdeal.Gen.facts,
    Cert.KernelMixIn.Gen.facts,
    Cert.KernelMixInIdeal.Gen.facts,
    Cert.ReferenceMixInIdeal.Gen.facts,
    Cert.KernelUpDw.Gen.facts,
    Cert.KernelUpDwIdeal.Gen.facts,
    Cert.ReferenceUpDwIdeal.Gen.facts,
    Cert.KernelAdamw.Gen.facts,
    Cert.KernelAdamwIdeal.Gen.facts,
    Cert.ReferenceAdamwIdeal.Gen.facts,
    Cert.KernelChipSum.Gen.facts,
    Cert.KernelChipSumIdeal.Gen.facts,
    Cert.ReferenceChipSumIdeal.Gen.facts,
    Cert.KernelFinalSum.Gen.facts,
    Cert.KernelFinalSumIdeal.Gen.facts,
    Cert.ReferenceFinalSumIdeal.Gen.facts,
    Cert.KernelPlaceOwn.Gen.facts,
    Cert.KernelPlaceOwnIdeal.Gen.facts,
    Cert.ReferencePlaceOwnIdeal.Gen.facts,
    pre_finite_attn_facts,
    pre_finite_pool_facts,
    pre_finite_act_facts,
    pre_finite_poolf_facts,
    on_head_columns_facts,
    on_lat_columns_facts,
    fun m ρ _ => Cert.KernelGate.Gen.frame m ρ,
    fun m ρ _ => Cert.KernelGateIdeal.Gen.frame m ρ,
    Cert.GateClaim.reference_runs,
    fun m ρ _ => Cert.KernelAttn.Gen.frame m ρ,
    fun m ρ _ => Cert.KernelAttnIdeal.Gen.frame m ρ,
    fun m ρ _ => Cert.KernelAttnIdeal.Gen.frame m ρ,
    Cert.AttnClaim.reference_runs,
    fun m ρ _ => Cert.AttnClaim.reference_runs m ρ trivial,
    fun m ρ _ => Cert.KernelPool.Gen.frame m ρ,
    fun m ρ _ => Cert.KernelPoolIdeal.Gen.frame m ρ,
    fun m ρ _ => Cert.KernelPoolIdeal.Gen.frame m ρ,
    Cert.PoolClaim.reference_runs,
    fun m ρ _ => Cert.PoolClaim.reference_runs m ρ trivial,
    fun m ρ _ => Cert.KernelLat.Gen.frame m ρ,
    fun m ρ _ => Cert.KernelLatIdeal.Gen.frame m ρ,
    Cert.LatClaim.reference_runs,
    fun m ρ _ => Cert.KernelAct.Gen.frame m ρ,
    fun m ρ _ => Cert.KernelActIdeal.Gen.frame m ρ,
    fun m ρ _ => Cert.KernelActIdeal.Gen.frame m ρ,
    Cert.ActClaim.reference_runs,
    fun m ρ _ => Cert.ActClaim.reference_runs m ρ trivial,
    fun m ρ _ => Cert.KernelUpNorm.Gen.frame m ρ,
    fun m ρ _ => Cert.KernelUpNormIdeal.Gen.frame m ρ,
    Cert.UpNormClaim.reference_runs,
    fun m ρ _ => Cert.KernelInNorm.Gen.frame m ρ,
    fun m ρ _ => Cert.KernelInNormIdeal.Gen.frame m ρ,
    Cert.InNormClaim.reference_runs,
    fun m ρ _ => Cert.KernelLoss.Gen.frame m ρ,
    fun m ρ _ => Cert.KernelLossIdeal.Gen.frame m ρ,
    Cert.LossClaim.reference_runs,
    fun m ρ _ => Cert.KernelRms.Gen.frame m ρ,
    fun m ρ _ => Cert.KernelRmsIdeal.Gen.frame m ρ,
    Cert.RmsClaim.reference_runs,
    fun m ρ _ => Cert.KernelUpAct.Gen.frame m ρ,
    fun m ρ _ => Cert.KernelUpActIdeal.Gen.frame m ρ,
    Cert.UpActClaim.reference_runs,
    fun m ρ _ => Cert.KernelProjGate.Gen.frame m ρ,
    fun m ρ _ => Cert.KernelProjGateIdeal.Gen.frame m ρ,
    Cert.ProjGateClaim.reference_runs,
    fun m ρ _ => Cert.KernelLatFwd.Gen.frame m ρ,
    fun m ρ _ => Cert.KernelLatFwdIdeal.Gen.frame m ρ,
    Cert.LatFwdClaim.reference_runs,
    fun m ρ _ => Cert.KernelPoolFwd.Gen.frame m ρ,
    fun m ρ _ => Cert.KernelPoolFwdIdeal.Gen.frame m ρ,
    fun m ρ _ => Cert.KernelPoolFwdIdeal.Gen.frame m ρ,
    Cert.PoolFwdClaim.reference_runs,
    fun m ρ _ => Cert.PoolFwdClaim.reference_runs m ρ trivial,
    Cert.SwapClaim.kernel_runs,
    Cert.SwapClaim.ideal_runs,
    Cert.SwapClaim.reference_runs,
    fun m ρ _ => Cert.KernelDown.Gen.frame m ρ,
    fun m ρ _ => Cert.KernelDownIdeal.Gen.frame m ρ,
    Cert.DownClaim.reference_runs,
    fun m ρ _ => Cert.KernelMixIn.Gen.frame m ρ,
    fun m ρ _ => Cert.KernelMixInIdeal.Gen.frame m ρ,
    Cert.MixInClaim.reference_runs,
    fun m ρ _ => Cert.KernelUpDw.Gen.frame m ρ,
    fun m ρ _ => Cert.KernelUpDwIdeal.Gen.frame m ρ,
    Cert.UpDwClaim.reference_runs,
    fun m ρ _ => Cert.KernelAdamw.Gen.frame m ρ,
    fun m ρ _ => Cert.KernelAdamwIdeal.Gen.frame m ρ,
    Cert.AdamwClaim.reference_runs,
    fun m ρ _ => Cert.KernelChipSum.Gen.frame m ρ,
    fun m ρ _ => Cert.KernelChipSumIdeal.Gen.frame m ρ,
    Cert.ChipSumClaim.reference_runs,
    fun m ρ _ => Cert.KernelFinalSum.Gen.frame m ρ,
    fun m ρ _ => Cert.KernelFinalSumIdeal.Gen.frame m ρ,
    Cert.FinalSumClaim.reference_runs,
    fun m ρ _ => Cert.KernelPlaceOwn.Gen.frame m ρ,
    fun m ρ _ => Cert.KernelPlaceOwnIdeal.Gen.frame m ρ,
    Cert.PlaceOwnClaim.reference_runs,
    trivial,
    Cert.GateClaim.algebraic,
    IdealRules.named_const.statement _ _ _ _ _ rfl,
    Cert.AttnClaim.algebraic,
    trivial,
    Cert.PoolClaim.algebraic,
    trivial,
    Cert.LatClaim.algebraic,
    trivial,
    Cert.ActClaim.algebraic,
    trivial,
    Cert.UpNormClaim.algebraic,
    trivial,
    Cert.InNormClaim.algebraic,
    trivial,
    Cert.LossClaim.algebraic,
    trivial,
    Cert.RmsClaim.algebraic,
    trivial,
    Cert.UpActClaim.algebraic,
    trivial,
    Cert.ProjGateClaim.algebraic,
    trivial,
    Cert.LatFwdClaim.algebraic,
    trivial,
    Cert.PoolFwdClaim.algebraic,
    trivial,
    Cert.SwapClaim.algebraic,
    trivial,
    Cert.DownClaim.algebraic,
    trivial,
    Cert.MixInClaim.algebraic,
    trivial,
    Cert.UpDwClaim.algebraic,
    trivial,
    Cert.AdamwClaim.algebraic,
    trivial,
    Cert.ChipSumClaim.algebraic,
    trivial,
    Cert.FinalSumClaim.algebraic,
    trivial,
    Cert.PlaceOwnClaim.algebraic⟩

end Cert.Proof

end
